-- ==== Defs.lean ====
def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_in [hPre_finite_in : Cert.Pre_finite_in.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_in [hPre_finite_in : Cert.Pre_finite_in.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_inproj [hPre_finite_inproj : Cert.Pre_finite_inproj.Facts] (m : (ℓ : Loc Cert.InprojIdeal.nD Cert.InprojIdeal.τ Cert.InprojIdeal.sig) → Buf (Elt Ideal) ℓ) : Prop :=
  ∀ c : Dev Cert.InprojIdeal.nD,
    (Cert.Pre_finite_inproj.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_inproj [hPre_finite_inproj : Cert.Pre_finite_inproj.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))) = (fun _ => 1#1)

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutIdeal_finite_mixout [hPre_finite_mixout : Cert.Pre_finite_mixout.Facts] (m : (ℓ : Loc Cert.MixoutIdeal.nD Cert.MixoutIdeal.τ Cert.MixoutIdeal.sig) → Buf (Elt Ideal) ℓ) : Prop :=
  ∀ c : Dev Cert.MixoutIdeal.nD,
    (Cert.Pre_finite_mixout.fn (F := Ideal) (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2)) (m ((c.tc : Thread Cert.MixoutIdeal.nD Cert.MixoutIdeal.τ).loc Cert.MixoutIdeal.main_arg3)) (m ((c.tc : Thread Cert.MixoutIdeal.nD Cert.MixoutIdeal.τ).loc Cert.MixoutIdeal.main_arg4)) (m ((c.tc : Thread Cert.MixoutIdeal.nD Cert.MixoutIdeal.τ).loc Cert.MixoutIdeal.main_arg5))) = (fun _ => 1#1)

def Pre_MixoutRefIdeal (m : (ℓ : Loc Cert.MixoutRefIdeal.nD Cert.MixoutRefIdeal.τ Cert.MixoutRefIdeal.sig) → Buf (Elt Ideal) ℓ) : Prop :=
  True

def Pre_MixoutRefIdeal_finite_mixout [hPre_finite_mixout : Cert.Pre_finite_mixout.Facts] (m : (ℓ : Loc Cert.MixoutRefIdeal.nD Cert.MixoutRefIdeal.τ Cert.MixoutRefIdeal.sig) → Buf (Elt Ideal) ℓ) : Prop :=
  ∀ c : Dev Cert.MixoutRefIdeal.nD,
    (Cert.Pre_finite_mixout.fn (F := Ideal) (m ((c.tc : Thread Cert.MixoutRefIdeal.nD Cert.MixoutRefIdeal.τ).loc Cert.MixoutRefIdeal.main_arg0)) (m ((c.tc : Thread Cert.MixoutRefIdeal.nD Cert.MixoutRefIdeal.τ).loc Cert.MixoutRefIdeal.main_arg1)) (m ((c.tc : Thread Cert.MixoutRefIdeal.nD Cert.MixoutRefIdeal.τ).loc Cert.MixoutRefIdeal.main_arg2)) (m ((c.tc : Thread Cert.MixoutRefIdeal.nD Cert.MixoutRefIdeal.τ).loc Cert.MixoutRefIdeal.main_arg3)) (m ((c.tc : Thread Cert.MixoutRefIdeal.nD Cert.MixoutRefIdeal.τ).loc Cert.MixoutRefIdeal.main_arg4)) (m ((c.tc : Thread Cert.MixoutRefIdeal.nD Cert.MixoutRefIdeal.τ).loc Cert.MixoutRefIdeal.main_arg5))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_down [hPre_finite_down : Cert.Pre_finite_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9)) (m ((c.tc : Thread Cert.MlaIdeal.nD Cert.MlaIdeal.τ).loc Cert.MlaIdeal.main_arg10)) (m ((c.tc : Thread Cert.MlaIdeal.nD Cert.MlaIdeal.τ).loc Cert.MlaIdeal.main_arg11))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInIdeal_pre_finite_in [hFfnInIdeal : Cert.FfnInIdeal.Facts] [hPre_finite_in : Cert.Pre_finite_in.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_in m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_FfnInRefIdeal_pre_finite_in [hFfnInRefIdeal : Cert.FfnInRefIdeal.Facts] [hPre_finite_in : Cert.Pre_finite_in.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_in m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_finite_inproj [hInprojIdeal : Cert.InprojIdeal.Facts] [hPre_finite_inproj : Cert.Pre_finite_inproj.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_inproj m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_finite_inproj [hInprojRefIdeal : Cert.InprojRefIdeal.Facts] [hPre_finite_inproj : Cert.Pre_finite_inproj.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_inproj m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4)
      ∧ r.2.mem ((c.tc : Thread Cert.Mixout.nD Cert.Mixout.τ).loc Cert.Mixout.main_arg5) = m ((c.tc : Thread Cert.Mixout.nD Cert.Mixout.τ).loc Cert.Mixout.main_arg5))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5))
      ∧ r.2.sem = fun _ => 0)

def quiescent_MixoutIdeal_pre_finite_mixout [hMixoutIdeal : Cert.MixoutIdeal.Facts] [hPre_finite_mixout : Cert.Pre_finite_mixout.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal_finite_mixout m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5))
      ∧ r.2.sem = fun _ => 0)

def quiescent_MixoutRefIdeal_pre_finite_mixout [hMixoutRefIdeal : Cert.MixoutRefIdeal.Facts] [hPre_finite_mixout : Cert.Pre_finite_mixout.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal_finite_mixout m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_finite_down [hDownRefIdeal : Cert.DownRefIdeal.Facts] [hPre_finite_down : Cert.Pre_finite_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8)
      ∧ r.2.mem ((c.tc : Thread Cert.Mla.nD Cert.Mla.τ).loc Cert.Mla.main_arg9) = m ((c.tc : Thread Cert.Mla.nD Cert.Mla.τ).loc Cert.Mla.main_arg9)
      ∧ r.2.mem ((c.tc : Thread Cert.Mla.nD Cert.Mla.τ).loc Cert.Mla.main_arg10) = m ((c.tc : Thread Cert.Mla.nD Cert.Mla.τ).loc Cert.Mla.main_arg10)
      ∧ r.2.mem ((c.tc : Thread Cert.Mla.nD Cert.Mla.τ).loc Cert.Mla.main_arg11) = m ((c.tc : Thread Cert.Mla.nD Cert.Mla.τ).loc Cert.Mla.main_arg11))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
      ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10)
      ∧ r.2.mem ((c.tc : Thread Cert.MlaIdeal.nD Cert.MlaIdeal.τ).loc Cert.MlaIdeal.main_arg11) = m ((c.tc : Thread Cert.MlaIdeal.nD Cert.MlaIdeal.τ).loc Cert.MlaIdeal.main_arg11))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
      ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10)
      ∧ r.2.mem ((c.tc : Thread Cert.MlaIdeal.nD Cert.MlaIdeal.τ).loc Cert.MlaIdeal.main_arg11) = m ((c.tc : Thread Cert.MlaIdeal.nD Cert.MlaIdeal.τ).loc Cert.MlaIdeal.main_arg11))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10)
      ∧ r.2.mem ((c.tc : Thread Cert.MlaRefIdeal.nD Cert.MlaRefIdeal.τ).loc Cert.MlaRefIdeal.main_arg11) = m ((c.tc : Thread Cert.MlaRefIdeal.nD Cert.MlaRefIdeal.τ).loc Cert.MlaRefIdeal.main_arg11))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10)
      ∧ r.2.mem ((c.tc : Thread Cert.MlaRefIdeal.nD Cert.MlaRefIdeal.τ).loc Cert.MlaRefIdeal.main_arg11) = m ((c.tc : Thread Cert.MlaRefIdeal.nD Cert.MlaRefIdeal.τ).loc Cert.MlaRefIdeal.main_arg11))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2))
      ∧ r.2.sem = fun _ => 0)

def preserves_FfnIn_FfnInIdeal : Prop :=
  True

def algebraic_FfnInIdeal_FfnInRefIdeal_pre_finite_in [hFfnInIdeal : Cert.FfnInIdeal.Facts] [hFfnInRefIdeal : Cert.FfnInRefIdeal.Facts] [hPre_finite_in : Cert.Pre_finite_in.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_in m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v11_0)) (v1 : (c : Dev Cert.FfnInIdeal.nD) → Buf (Elt Ideal) ((c.tc : Thread Cert.FfnInIdeal.nD Cert.FfnInIdeal.τ).loc Cert.FfnInIdeal.main_v11_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v11_0) = v0 c
          ∧ r.2.mem ((c.tc : Thread Cert.FfnInIdeal.nD Cert.FfnInIdeal.τ).loc Cert.FfnInIdeal.main_v11_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v42) = v0 c
          ∧ r.2.mem ((c.tc : Thread Cert.FfnInRefIdeal.nD Cert.FfnInRefIdeal.τ).loc Cert.FfnInRefIdeal.main_v43) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_Attn_AttnIdeal : Prop :=
  IdealRules.named_const.Statement Cert.AttnIdeal.κ "mask" .f32 0xF149F2CA#32 ⊥
  ∧ IdealRules.named_const.Statement Cert.AttnIdeal.κ "ln2" .f32 0x3F317218#32 ((Real.log 2 : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v58_0)) (v1 : (c : Dev Cert.AttnIdeal.nD) → Buf (Elt Ideal) ((c.tc : Thread Cert.AttnIdeal.nD Cert.AttnIdeal.τ).loc Cert.AttnIdeal.main_v58_1)) (v2 : (c : Dev Cert.AttnIdeal.nD) → Buf (Elt Ideal) ((c.tc : Thread Cert.AttnIdeal.nD Cert.AttnIdeal.τ).loc Cert.AttnIdeal.main_v58_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v58_0) = v0 c
          ∧ r.2.mem ((c.tc : Thread Cert.AttnIdeal.nD Cert.AttnIdeal.τ).loc Cert.AttnIdeal.main_v58_1) = v1 c
          ∧ r.2.mem ((c.tc : Thread Cert.AttnIdeal.nD Cert.AttnIdeal.τ).loc Cert.AttnIdeal.main_v58_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v72) = v1 c
          ∧ r.2.mem ((c.tc : Thread Cert.AttnRefIdeal.nD Cert.AttnRefIdeal.τ).loc Cert.AttnRefIdeal.main_v75) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Inproj_InprojIdeal : Prop :=
  True

def algebraic_InprojIdeal_InprojRefIdeal_pre_finite_inproj [hInprojIdeal : Cert.InprojIdeal.Facts] [hInprojRefIdeal : Cert.InprojRefIdeal.Facts] [hPre_finite_inproj : Cert.Pre_finite_inproj.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_inproj m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v27_0)) (v1 : (c : Dev Cert.InprojIdeal.nD) → Buf (Elt Ideal) ((c.tc : Thread Cert.InprojIdeal.nD Cert.InprojIdeal.τ).loc Cert.InprojIdeal.main_v27_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v27_0) = v0 c
          ∧ r.2.mem ((c.tc : Thread Cert.InprojIdeal.nD Cert.InprojIdeal.τ).loc Cert.InprojIdeal.main_v27_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v42) = v0 c
          ∧ r.2.mem ((c.tc : Thread Cert.InprojRefIdeal.nD Cert.InprojRefIdeal.τ).loc Cert.InprojRefIdeal.main_v43) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Mixout_MixoutIdeal : Prop :=
  True

def algebraic_MixoutIdeal_MixoutRefIdeal_pre_finite_mixout [hMixoutIdeal : Cert.MixoutIdeal.Facts] [hMixoutRefIdeal : Cert.MixoutRefIdeal.Facts] [hPre_finite_mixout : Cert.Pre_finite_mixout.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal_finite_mixout m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)
      ∧ m' ((c.tc : Thread Cert.MixoutRefIdeal.nD Cert.MixoutRefIdeal.τ).loc Cert.MixoutRefIdeal.main_arg4) = m ((c.tc : Thread Cert.MixoutIdeal.nD Cert.MixoutIdeal.τ).loc Cert.MixoutIdeal.main_arg4)
      ∧ m' ((c.tc : Thread Cert.MixoutRefIdeal.nD Cert.MixoutRefIdeal.τ).loc Cert.MixoutRefIdeal.main_arg5) = m ((c.tc : Thread Cert.MixoutIdeal.nD Cert.MixoutIdeal.τ).loc Cert.MixoutIdeal.main_arg5)) →
    ∃ (v0 : (c : Dev Cert.MixoutIdeal.nD) → Buf (Elt Ideal) ((c.tc : Thread Cert.MixoutIdeal.nD Cert.MixoutIdeal.τ).loc Cert.MixoutIdeal.main_v24_0)) (v1 : (c : Dev Cert.MixoutIdeal.nD) → Buf (Elt Ideal) ((c.tc : Thread Cert.MixoutIdeal.nD Cert.MixoutIdeal.τ).loc Cert.MixoutIdeal.main_v24_1)) (v2 : (c : Dev Cert.MixoutIdeal.nD) → Buf (Elt Ideal) ((c.tc : Thread Cert.MixoutIdeal.nD Cert.MixoutIdeal.τ).loc Cert.MixoutIdeal.main_v24_2)) (v3 : (c : Dev Cert.MixoutIdeal.nD) → Buf (Elt Ideal) ((c.tc : Thread Cert.MixoutIdeal.nD Cert.MixoutIdeal.τ).loc Cert.MixoutIdeal.main_v24_3)) (v4 : (c : Dev Cert.MixoutIdeal.nD) → Buf (Elt Ideal) ((c.tc : Thread Cert.MixoutIdeal.nD Cert.MixoutIdeal.τ).loc Cert.MixoutIdeal.main_v24_4)) (v5 : (c : Dev Cert.MixoutIdeal.nD) → Buf (Elt Ideal) ((c.tc : Thread Cert.MixoutIdeal.nD Cert.MixoutIdeal.τ).loc Cert.MixoutIdeal.main_v24_5)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v24_0) = v0 c
          ∧ r.2.mem ((c.tc : Thread Cert.MixoutIdeal.nD Cert.MixoutIdeal.τ).loc Cert.MixoutIdeal.main_v24_1) = v1 c
          ∧ r.2.mem ((c.tc : Thread Cert.MixoutIdeal.nD Cert.MixoutIdeal.τ).loc Cert.MixoutIdeal.main_v24_2) = v2 c
          ∧ r.2.mem ((c.tc : Thread Cert.MixoutIdeal.nD Cert.MixoutIdeal.τ).loc Cert.MixoutIdeal.main_v24_3) = v3 c
          ∧ r.2.mem ((c.tc : Thread Cert.MixoutIdeal.nD Cert.MixoutIdeal.τ).loc Cert.MixoutIdeal.main_v24_4) = v4 c
          ∧ r.2.mem ((c.tc : Thread Cert.MixoutIdeal.nD Cert.MixoutIdeal.τ).loc Cert.MixoutIdeal.main_v24_5) = v5 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
          ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v85) = v0 c
          ∧ r.2.mem ((c.tc : Thread Cert.MixoutRefIdeal.nD Cert.MixoutRefIdeal.τ).loc Cert.MixoutRefIdeal.main_v86) = v1 c
          ∧ r.2.mem ((c.tc : Thread Cert.MixoutRefIdeal.nD Cert.MixoutRefIdeal.τ).loc Cert.MixoutRefIdeal.main_v87) = v2 c
          ∧ r.2.mem ((c.tc : Thread Cert.MixoutRefIdeal.nD Cert.MixoutRefIdeal.τ).loc Cert.MixoutRefIdeal.main_v88) = v3 c
          ∧ r.2.mem ((c.tc : Thread Cert.MixoutRefIdeal.nD Cert.MixoutRefIdeal.τ).loc Cert.MixoutRefIdeal.main_v89) = v4 c
          ∧ r.2.mem ((c.tc : Thread Cert.MixoutRefIdeal.nD Cert.MixoutRefIdeal.τ).loc Cert.MixoutRefIdeal.main_v91) = v5 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3)
          ∧ r.2.mem ((c.tc : Thread Cert.MixoutRefIdeal.nD Cert.MixoutRefIdeal.τ).loc Cert.MixoutRefIdeal.main_arg4) = m' ((c.tc : Thread Cert.MixoutRefIdeal.nD Cert.MixoutRefIdeal.τ).loc Cert.MixoutRefIdeal.main_arg4)
          ∧ r.2.mem ((c.tc : Thread Cert.MixoutRefIdeal.nD Cert.MixoutRefIdeal.τ).loc Cert.MixoutRefIdeal.main_arg5) = m' ((c.tc : Thread Cert.MixoutRefIdeal.nD Cert.MixoutRefIdeal.τ).loc Cert.MixoutRefIdeal.main_arg5))

def preserves_Down_DownIdeal : Prop :=
  True

def algebraic_DownIdeal_DownRefIdeal_pre_finite_down [hDownIdeal : Cert.DownIdeal.Facts] [hDownRefIdeal : Cert.DownRefIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v7_0)) (v1 : (c : Dev Cert.DownIdeal.nD) → Buf (Elt Ideal) ((c.tc : Thread Cert.DownIdeal.nD Cert.DownIdeal.τ).loc Cert.DownIdeal.main_v7_1)) (v2 : (c : Dev Cert.DownIdeal.nD) → Buf (Elt Ideal) ((c.tc : Thread Cert.DownIdeal.nD Cert.DownIdeal.τ).loc Cert.DownIdeal.main_v7_2)) (v3 : (c : Dev Cert.DownIdeal.nD) → Buf (Elt Ideal) ((c.tc : Thread Cert.DownIdeal.nD Cert.DownIdeal.τ).loc Cert.DownIdeal.main_v7_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7_0) = v0 c
          ∧ r.2.mem ((c.tc : Thread Cert.DownIdeal.nD Cert.DownIdeal.τ).loc Cert.DownIdeal.main_v7_1) = v1 c
          ∧ r.2.mem ((c.tc : Thread Cert.DownIdeal.nD Cert.DownIdeal.τ).loc Cert.DownIdeal.main_v7_2) = v2 c
          ∧ r.2.mem ((c.tc : Thread Cert.DownIdeal.nD Cert.DownIdeal.τ).loc Cert.DownIdeal.main_v7_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v57) = v0 c
          ∧ r.2.mem ((c.tc : Thread Cert.DownRefIdeal.nD Cert.DownRefIdeal.τ).loc Cert.DownRefIdeal.main_v59) = v1 c
          ∧ r.2.mem ((c.tc : Thread Cert.DownRefIdeal.nD Cert.DownRefIdeal.τ).loc Cert.DownRefIdeal.main_v60) = v2 c
          ∧ r.2.mem ((c.tc : Thread Cert.DownRefIdeal.nD Cert.DownRefIdeal.τ).loc Cert.DownRefIdeal.main_v61) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)
      ∧ m' ((c.tc : Thread Cert.MlaRefIdeal.nD Cert.MlaRefIdeal.τ).loc Cert.MlaRefIdeal.main_arg8) = m ((c.tc : Thread Cert.MlaIdeal.nD Cert.MlaIdeal.τ).loc Cert.MlaIdeal.main_arg8)
      ∧ m' ((c.tc : Thread Cert.MlaRefIdeal.nD Cert.MlaRefIdeal.τ).loc Cert.MlaRefIdeal.main_arg9) = m ((c.tc : Thread Cert.MlaIdeal.nD Cert.MlaIdeal.τ).loc Cert.MlaIdeal.main_arg9)
      ∧ m' ((c.tc : Thread Cert.MlaRefIdeal.nD Cert.MlaRefIdeal.τ).loc Cert.MlaRefIdeal.main_arg10) = m ((c.tc : Thread Cert.MlaIdeal.nD Cert.MlaIdeal.τ).loc Cert.MlaIdeal.main_arg10)
      ∧ m' ((c.tc : Thread Cert.MlaRefIdeal.nD Cert.MlaRefIdeal.τ).loc Cert.MlaRefIdeal.main_arg11) = m ((c.tc : Thread Cert.MlaIdeal.nD Cert.MlaIdeal.τ).loc Cert.MlaIdeal.main_arg11)) →
    ∃ (v0 : (c : Dev Cert.MlaIdeal.nD) → Buf (Elt Ideal) ((c.tc : Thread Cert.MlaIdeal.nD Cert.MlaIdeal.τ).loc Cert.MlaIdeal.main_v45_0)) (v1 : (c : Dev Cert.MlaIdeal.nD) → Buf (Elt Ideal) ((c.tc : Thread Cert.MlaIdeal.nD Cert.MlaIdeal.τ).loc Cert.MlaIdeal.main_v45_1)) (v2 : (c : Dev Cert.MlaIdeal.nD) → Buf (Elt Ideal) ((c.tc : Thread Cert.MlaIdeal.nD Cert.MlaIdeal.τ).loc Cert.MlaIdeal.main_v45_2)) (v3 : (c : Dev Cert.MlaIdeal.nD) → Buf (Elt Ideal) ((c.tc : Thread Cert.MlaIdeal.nD Cert.MlaIdeal.τ).loc Cert.MlaIdeal.main_v45_3)) (v4 : (c : Dev Cert.MlaIdeal.nD) → Buf (Elt Ideal) ((c.tc : Thread Cert.MlaIdeal.nD Cert.MlaIdeal.τ).loc Cert.MlaIdeal.main_v45_4)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v45_0) = v0 c
          ∧ r.2.mem ((c.tc : Thread Cert.MlaIdeal.nD Cert.MlaIdeal.τ).loc Cert.MlaIdeal.main_v45_1) = v1 c
          ∧ r.2.mem ((c.tc : Thread Cert.MlaIdeal.nD Cert.MlaIdeal.τ).loc Cert.MlaIdeal.main_v45_2) = v2 c
          ∧ r.2.mem ((c.tc : Thread Cert.MlaIdeal.nD Cert.MlaIdeal.τ).loc Cert.MlaIdeal.main_v45_3) = v3 c
          ∧ r.2.mem ((c.tc : Thread Cert.MlaIdeal.nD Cert.MlaIdeal.τ).loc Cert.MlaIdeal.main_v45_4) = v4 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
          ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
          ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10)
          ∧ r.2.mem ((c.tc : Thread Cert.MlaIdeal.nD Cert.MlaIdeal.τ).loc Cert.MlaIdeal.main_arg11) = m ((c.tc : Thread Cert.MlaIdeal.nD Cert.MlaIdeal.τ).loc Cert.MlaIdeal.main_arg11))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v164) = v0 c
          ∧ r.2.mem ((c.tc : Thread Cert.MlaRefIdeal.nD Cert.MlaRefIdeal.τ).loc Cert.MlaRefIdeal.main_v172) = v1 c
          ∧ r.2.mem ((c.tc : Thread Cert.MlaRefIdeal.nD Cert.MlaRefIdeal.τ).loc Cert.MlaRefIdeal.main_v174) = v2 c
          ∧ r.2.mem ((c.tc : Thread Cert.MlaRefIdeal.nD Cert.MlaRefIdeal.τ).loc Cert.MlaRefIdeal.main_v175) = v3 c
          ∧ r.2.mem ((c.tc : Thread Cert.MlaRefIdeal.nD Cert.MlaRefIdeal.τ).loc Cert.MlaRefIdeal.main_v176) = v4 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8)
          ∧ r.2.mem ((c.tc : Thread Cert.MlaRefIdeal.nD Cert.MlaRefIdeal.τ).loc Cert.MlaRefIdeal.main_arg9) = m' ((c.tc : Thread Cert.MlaRefIdeal.nD Cert.MlaRefIdeal.τ).loc Cert.MlaRefIdeal.main_arg9)
          ∧ r.2.mem ((c.tc : Thread Cert.MlaRefIdeal.nD Cert.MlaRefIdeal.τ).loc Cert.MlaRefIdeal.main_arg10) = m' ((c.tc : Thread Cert.MlaRefIdeal.nD Cert.MlaRefIdeal.τ).loc Cert.MlaRefIdeal.main_arg10)
          ∧ r.2.mem ((c.tc : Thread Cert.MlaRefIdeal.nD Cert.MlaRefIdeal.τ).loc Cert.MlaRefIdeal.main_arg11) = m' ((c.tc : Thread Cert.MlaRefIdeal.nD Cert.MlaRefIdeal.τ).loc Cert.MlaRefIdeal.main_arg11))

def preserves_Gate_GateIdeal : Prop :=
  True

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v9_0)) (v1 : (c : Dev Cert.InFwdIdeal.nD) → Buf (Elt Ideal) ((c.tc : Thread Cert.InFwdIdeal.nD Cert.InFwdIdeal.τ).loc Cert.InFwdIdeal.main_v9_1)) (v2 : (c : Dev Cert.InFwdIdeal.nD) → Buf (Elt Ideal) ((c.tc : Thread Cert.InFwdIdeal.nD Cert.InFwdIdeal.τ).loc Cert.InFwdIdeal.main_v9_2)) (v3 : (c : Dev Cert.InFwdIdeal.nD) → Buf (Elt Ideal) ((c.tc : Thread Cert.InFwdIdeal.nD Cert.InFwdIdeal.τ).loc Cert.InFwdIdeal.main_v9_3)) (v4 : (c : Dev Cert.InFwdIdeal.nD) → Buf (Elt Ideal) ((c.tc : Thread Cert.InFwdIdeal.nD Cert.InFwdIdeal.τ).loc Cert.InFwdIdeal.main_v9_4)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v9_0) = v0 c
          ∧ r.2.mem ((c.tc : Thread Cert.InFwdIdeal.nD Cert.InFwdIdeal.τ).loc Cert.InFwdIdeal.main_v9_1) = v1 c
          ∧ r.2.mem ((c.tc : Thread Cert.InFwdIdeal.nD Cert.InFwdIdeal.τ).loc Cert.InFwdIdeal.main_v9_2) = v2 c
          ∧ r.2.mem ((c.tc : Thread Cert.InFwdIdeal.nD Cert.InFwdIdeal.τ).loc Cert.InFwdIdeal.main_v9_3) = v3 c
          ∧ r.2.mem ((c.tc : Thread Cert.InFwdIdeal.nD Cert.InFwdIdeal.τ).loc Cert.InFwdIdeal.main_v9_4) = v4 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v22) = v0 c
          ∧ r.2.mem ((c.tc : Thread Cert.InFwdRefIdeal.nD Cert.InFwdRefIdeal.τ).loc Cert.InFwdRefIdeal.main_v24) = v1 c
          ∧ r.2.mem ((c.tc : Thread Cert.InFwdRefIdeal.nD Cert.InFwdRefIdeal.τ).loc Cert.InFwdRefIdeal.main_v27) = v2 c
          ∧ r.2.mem ((c.tc : Thread Cert.InFwdRefIdeal.nD Cert.InFwdRefIdeal.τ).loc Cert.InFwdRefIdeal.main_v30) = v3 c
          ∧ r.2.mem ((c.tc : Thread Cert.InFwdRefIdeal.nD Cert.InFwdRefIdeal.τ).loc Cert.InFwdRefIdeal.main_v32) = v4 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)) →
    ∃ (v0 : (c : Dev Cert.MixFwdIdeal.nD) → Buf (Elt Ideal) ((c.tc : Thread Cert.MixFwdIdeal.nD Cert.MixFwdIdeal.τ).loc Cert.MixFwdIdeal.main_v9_0)) (v1 : (c : Dev Cert.MixFwdIdeal.nD) → Buf (Elt Ideal) ((c.tc : Thread Cert.MixFwdIdeal.nD Cert.MixFwdIdeal.τ).loc Cert.MixFwdIdeal.main_v9_1)) (v2 : (c : Dev Cert.MixFwdIdeal.nD) → Buf (Elt Ideal) ((c.tc : Thread Cert.MixFwdIdeal.nD Cert.MixFwdIdeal.τ).loc Cert.MixFwdIdeal.main_v9_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v9_0) = v0 c
          ∧ r.2.mem ((c.tc : Thread Cert.MixFwdIdeal.nD Cert.MixFwdIdeal.τ).loc Cert.MixFwdIdeal.main_v9_1) = v1 c
          ∧ r.2.mem ((c.tc : Thread Cert.MixFwdIdeal.nD Cert.MixFwdIdeal.τ).loc Cert.MixFwdIdeal.main_v9_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v31) = v0 c
          ∧ r.2.mem ((c.tc : Thread Cert.MixFwdRefIdeal.nD Cert.MixFwdRefIdeal.τ).loc Cert.MixFwdRefIdeal.main_v33) = v1 c
          ∧ r.2.mem ((c.tc : Thread Cert.MixFwdRefIdeal.nD Cert.MixFwdRefIdeal.τ).loc Cert.MixFwdRefIdeal.main_v35) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v6_0)) (v1 : (c : Dev Cert.GateFwdIdeal.nD) → Buf (Elt Ideal) ((c.tc : Thread Cert.GateFwdIdeal.nD Cert.GateFwdIdeal.τ).loc Cert.GateFwdIdeal.main_v6_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v6_0) = v0 c
          ∧ r.2.mem ((c.tc : Thread Cert.GateFwdIdeal.nD Cert.GateFwdIdeal.τ).loc Cert.GateFwdIdeal.main_v6_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v30) = v0 c
          ∧ r.2.mem ((c.tc : Thread Cert.GateFwdRefIdeal.nD Cert.GateFwdRefIdeal.τ).loc Cert.GateFwdRefIdeal.main_v33) = v1 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2))

def Claim : Prop :=
  ∃ (hFfnIn : Cert.FfnIn.Facts) (hFfnInIdeal : Cert.FfnInIdeal.Facts) (hFfnInRefIdeal : Cert.FfnInRefIdeal.Facts) (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hMixout : Cert.Mixout.Facts) (hMixoutIdeal : Cert.MixoutIdeal.Facts) (hMixoutRefIdeal : Cert.MixoutRefIdeal.Facts) (hDown : Cert.Down.Facts) (hDownIdeal : Cert.DownIdeal.Facts) (hDownRefIdeal : Cert.DownRefIdeal.Facts) (hMla : Cert.Mla.Facts) (hMlaIdeal : Cert.MlaIdeal.Facts) (hMlaRefIdeal : Cert.MlaRefIdeal.Facts) (hGate : Cert.Gate.Facts) (hGateIdeal : Cert.GateIdeal.Facts) (hGateRefIdeal : Cert.GateRefIdeal.Facts) (hInFwd : Cert.InFwd.Facts) (hInFwdIdeal : Cert.InFwdIdeal.Facts) (hInFwdRefIdeal : Cert.InFwdRefIdeal.Facts) (hMixFwd : Cert.MixFwd.Facts) (hMixFwdIdeal : Cert.MixFwdIdeal.Facts) (hMixFwdRefIdeal : Cert.MixFwdRefIdeal.Facts) (hGateFwd : Cert.GateFwd.Facts) (hGateFwdIdeal : Cert.GateFwdIdeal.Facts) (hGateFwdRefIdeal : Cert.GateFwdRefIdeal.Facts) (hPre_finite_in : Cert.Pre_finite_in.Facts) (hPre_finite_attn : Cert.Pre_finite_attn.Facts) (hPre_finite_inproj : Cert.Pre_finite_inproj.Facts) (hPre_finite_mixout : Cert.Pre_finite_mixout.Facts) (hPre_finite_down : Cert.Pre_finite_down.Facts) (hPre_finite_mla : Cert.Pre_finite_mla.Facts),
    quiescent_FfnIn (hFfnIn := hFfnIn)
    ∧ quiescent_FfnInIdeal (hFfnInIdeal := hFfnInIdeal)
    ∧ quiescent_FfnInIdeal_pre_finite_in (hFfnInIdeal := hFfnInIdeal) (hPre_finite_in := hPre_finite_in)
    ∧ quiescent_FfnInRefIdeal (hFfnInRefIdeal := hFfnInRefIdeal)
    ∧ quiescent_FfnInRefIdeal_pre_finite_in (hFfnInRefIdeal := hFfnInRefIdeal) (hPre_finite_in := hPre_finite_in)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Inproj (hInproj := hInproj)
    ∧ quiescent_InprojIdeal (hInprojIdeal := hInprojIdeal)
    ∧ quiescent_InprojIdeal_pre_finite_inproj (hInprojIdeal := hInprojIdeal) (hPre_finite_inproj := hPre_finite_inproj)
    ∧ quiescent_InprojRefIdeal (hInprojRefIdeal := hInprojRefIdeal)
    ∧ quiescent_InprojRefIdeal_pre_finite_inproj (hInprojRefIdeal := hInprojRefIdeal) (hPre_finite_inproj := hPre_finite_inproj)
    ∧ quiescent_Mixout (hMixout := hMixout)
    ∧ quiescent_MixoutIdeal (hMixoutIdeal := hMixoutIdeal)
    ∧ quiescent_MixoutIdeal_pre_finite_mixout (hMixoutIdeal := hMixoutIdeal) (hPre_finite_mixout := hPre_finite_mixout)
    ∧ quiescent_MixoutRefIdeal (hMixoutRefIdeal := hMixoutRefIdeal)
    ∧ quiescent_MixoutRefIdeal_pre_finite_mixout (hMixoutRefIdeal := hMixoutRefIdeal) (hPre_finite_mixout := hPre_finite_mixout)
    ∧ quiescent_Down (hDown := hDown)
    ∧ quiescent_DownIdeal (hDownIdeal := hDownIdeal)
    ∧ quiescent_DownIdeal_pre_finite_down (hDownIdeal := hDownIdeal) (hPre_finite_down := hPre_finite_down)
    ∧ quiescent_DownRefIdeal (hDownRefIdeal := hDownRefIdeal)
    ∧ quiescent_DownRefIdeal_pre_finite_down (hDownRefIdeal := hDownRefIdeal) (hPre_finite_down := hPre_finite_down)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Gate (hGate := hGate)
    ∧ quiescent_GateIdeal (hGateIdeal := hGateIdeal)
    ∧ quiescent_GateRefIdeal (hGateRefIdeal := hGateRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ preserves_FfnIn_FfnInIdeal
    ∧ algebraic_FfnInIdeal_FfnInRefIdeal_pre_finite_in (hFfnInIdeal := hFfnInIdeal) (hFfnInRefIdeal := hFfnInRefIdeal) (hPre_finite_in := hPre_finite_in)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Inproj_InprojIdeal
    ∧ algebraic_InprojIdeal_InprojRefIdeal_pre_finite_inproj (hInprojIdeal := hInprojIdeal) (hInprojRefIdeal := hInprojRefIdeal) (hPre_finite_inproj := hPre_finite_inproj)
    ∧ preserves_Mixout_MixoutIdeal
    ∧ algebraic_MixoutIdeal_MixoutRefIdeal_pre_finite_mixout (hMixoutIdeal := hMixoutIdeal) (hMixoutRefIdeal := hMixoutRefIdeal) (hPre_finite_mixout := hPre_finite_mixout)
    ∧ preserves_Down_DownIdeal
    ∧ algebraic_DownIdeal_DownRefIdeal_pre_finite_down (hDownIdeal := hDownIdeal) (hDownRefIdeal := hDownRefIdeal) (hPre_finite_down := hPre_finite_down)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Gate_GateIdeal
    ∧ preserves_InFwd_InFwdIdeal
    ∧ algebraic_InFwdIdeal_InFwdRefIdeal (hInFwdIdeal := hInFwdIdeal) (hInFwdRefIdeal := hInFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_GateFwd_GateFwdIdeal
    ∧ algebraic_GateFwdIdeal_GateFwdRefIdeal (hGateFwdIdeal := hGateFwdIdeal) (hGateFwdRefIdeal := hGateFwdRefIdeal)
-- ==== Pre_finite_attn.lean ====
abbrev S8208x8x192 : Shape := ⟨3, ![8208, 8, 192]⟩
abbrev S8208x8x128 : Shape := ⟨3, ![8208, 8, 128]⟩
abbrev S8208x1024 : Shape := ⟨2, ![8208, 1024]⟩
abbrev S_ : Shape := ⟨0, ![]⟩

class Facts : Prop where
  bcast_S_S8208x8x192 : S_.BroadcastsInDim S8208x8x192 (![] : Fin 0 → Fin S8208x8x192.rank)
  reducesTo_S8208x8x192_S_d0_1_2 : S8208x8x192.ReducesTo [0, 1, 2] S_
  h_S_ : 0 < S_.numel
  bcast_S_S8208x8x128 : S_.BroadcastsInDim S8208x8x128 (![] : Fin 0 → Fin S8208x8x128.rank)
  reducesTo_S8208x8x128_S_d0_1_2 : S8208x8x128.ReducesTo [0, 1, 2] S_
  bcast_S_S8208x1024 : S_.BroadcastsInDim S8208x1024 (![] : Fin 0 → Fin S8208x1024.rank)
  reducesTo_S8208x1024_S_d0_1 : S8208x1024.ReducesTo [0, 1] S_

variable [Facts]

def fn_part1 {F : FTy → Type} [FloatOps F] (main_v13 : IVec S_ 1) (main_v16 : IVec S8208x1024 1) : IVec S_ 1 :=
  let main_c_5 : IVec S_ 1 := constantI S_ 1 1#1
  let main_v17 : IVec S_ 1 := (fun x v => Host.reduce IntOp.andi x v reducesTo_S8208x1024_S_d0_1 h_S_) main_v16 main_c_5
  let main_v18 : IVec S_ 1 := andi main_v13 main_v17
  main_v18

def fn {F : FTy → Type} [FloatOps F] (main_arg0 : FVec F S8208x8x192 .f32) (main_arg1 : FVec F S8208x8x192 .f32) (main_arg2 : FVec F S8208x8x128 .f32) (main_arg3 : FVec F S8208x1024 .f32) : IVec S_ 1 :=
  let main_v0 : FVec F S8208x8x192 .f32 := Host.absf main_arg0
  let main_cst : FVec F S_ .f32 := constant S_ .f32 0x7F800000#32
  let main_v1 : FVec F S8208x8x192 .f32 := broadcastInDim S8208x8x192 ![] bcast_S_S8208x8x192 main_cst
  let main_v2 : IVec S8208x8x192 1 := cmpf .olt main_v0 main_v1
  let main_c : IVec S_ 1 := constantI S_ 1 1#1
  let main_v3 : IVec S_ 1 := (fun x v => Host.reduce IntOp.andi x v reducesTo_S8208x8x192_S_d0_1_2 h_S_) main_v2 main_c
  let main_v4 : FVec F S8208x8x192 .f32 := Host.absf main_arg1
  let main_cst_0 : FVec F S_ .f32 := constant S_ .f32 0x7F800000#32
  let main_v5 : FVec F S8208x8x192 .f32 := broadcastInDim S8208x8x192 ![] bcast_S_S8208x8x192 main_cst_0
  let main_v6 : IVec S8208x8x192 1 := cmpf .olt main_v4 main_v5
  let main_c_1 : IVec S_ 1 := constantI S_ 1 1#1
  let main_v7 : IVec S_ 1 := (fun x v => Host.reduce IntOp.andi x v reducesTo_S8208x8x192_S_d0_1_2 h_S_) main_v6 main_c_1
  let main_v8 : IVec S_ 1 := andi main_v3 main_v7
  let main_v9 : FVec F S8208x8x128 .f32 := Host.absf main_arg2
  let main_cst_2 : FVec F S_ .f32 := constant S_ .f32 0x7F800000#32
  let main_v10 : FVec F S8208x8x128 .f32 := broadcastInDim S8208x8x128 ![] bcast_S_S8208x8x128 main_cst_2
  let main_v11 : IVec S8208x8x128 1 := cmpf .olt main_v9 main_v10
  let main_c_3 : IVec S_ 1 := constantI S_ 1 1#1
  let main_v12 : IVec S_ 1 := (fun x v => Host.reduce IntOp.andi x v reducesTo_S8208x8x128_S_d0_1_2 h_S_) main_v11 main_c_3
  let main_v13 : IVec S_ 1 := andi main_v8 main_v12
  let main_v14 : FVec F S8208x1024 .f32 := Host.absf main_arg3
  let main_cst_4 : FVec F S_ .f32 := constant S_ .f32 0x7F800000#32
  let main_v15 : FVec F S8208x1024 .f32 := broadcastInDim S8208x1024 ![] bcast_S_S8208x1024 main_cst_4
  let main_v16 : IVec S8208x1024 1 := cmpf .olt main_v14 main_v15
  fn_part1 (F := F) main_v13 main_v16
-- ==== Pre_finite_down.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S8192x1024 : Shape := ⟨2, ![8192, 1024]⟩
abbrev S_ : Shape := ⟨0, ![]⟩

class Facts : Prop where
  bcast_S_S8208x2816 : S_.BroadcastsInDim S8208x2816 (![] : Fin 0 → Fin S8208x2816.rank)
  reducesTo_S8208x2816_S_d0_1 : S8208x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8208x1024 : S_.BroadcastsInDim S8208x1024 (![] : Fin 0 → Fin S8208x1024.rank)
  reducesTo_S8208x1024_S_d0_1 : S8208x1024.ReducesTo [0, 1] S_
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8208x2816 .f32) (main_arg1 : FVec F S2816x1024 .f32) (main_arg2 : FVec F S8208x1024 .f32) (main_arg3 : FVec F S1024 .f32) (main_arg4 : FVec F S8192x1024 .f32) : IVec S_ 1 :=
  let main_v0 : FVec F S8208x2816 .f32 := Host.absf main_arg0
  let main_cst : FVec F S_ .f32 := constant S_ .f32 0x7F800000#32
  let main_v1 : FVec F S8208x2816 .f32 := broadcastInDim S8208x2816 ![] bcast_S_S8208x2816 main_cst
  let main_v2 : IVec S8208x2816 1 := cmpf .olt main_v0 main_v1
  let main_c : IVec S_ 1 := constantI S_ 1 1#1
  let main_v3 : IVec S_ 1 := (fun x v => Host.reduce IntOp.andi x v reducesTo_S8208x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8208x1024 .f32 := Host.absf main_arg2
  let main_cst_2 : FVec F S_ .f32 := constant S_ .f32 0x7F800000#32
  let main_v10 : FVec F S8208x1024 .f32 := broadcastInDim S8208x1024 ![] bcast_S_S8208x1024 main_cst_2
  let main_v11 : IVec S8208x1024 1 := cmpf .olt main_v9 main_v10
  let main_c_3 : IVec S_ 1 := constantI S_ 1 1#1
  let main_v12 : IVec S_ 1 := (fun x v => Host.reduce IntOp.andi x v reducesTo_S8208x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite_in.lean ====
abbrev S8208x1024 : Shape := ⟨2, ![8208, 1024]⟩
abbrev S1024 : Shape := ⟨1, ![1024]⟩
abbrev S1024x5632 : Shape := ⟨2, ![1024, 5632]⟩
abbrev S8208x5632 : Shape := ⟨2, ![8208, 5632]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S8208x5632 : S_.BroadcastsInDim S8208x5632 (![] : Fin 0 → Fin S8208x5632.rank)
  reducesTo_S8208x5632_S_d0_1 : S8208x5632.ReducesTo [0, 1] S_

variable [Facts]

def fn_part1 {F : FTy → Type} [FloatOps F] (main_v13 : IVec S_ 1) (main_v16 : IVec S8208x5632 1) : IVec S_ 1 :=
  let main_c_5 : IVec S_ 1 := constantI S_ 1 1#1
  let main_v17 : IVec S_ 1 := (fun x v => Host.reduce IntOp.andi x v reducesTo_S8208x5632_S_d0_1 h_S_) main_v16 main_c_5
  let main_v18 : IVec S_ 1 := andi main_v13 main_v17
  main_v18

def fn {F : FTy → Type} [FloatOps F] (main_arg0 : FVec F S8208x1024 .f32) (main_arg1 : FVec F S1024 .f32) (main_arg2 : FVec F S1024x5632 .f32) (main_arg3 : FVec F S8208x1024 .f32) (main_arg4 : FVec F S8208x5632 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S8208x5632 .f32 := Host.absf main_arg4
  let main_cst_4 : FVec F S_ .f32 := constant S_ .f32 0x7F800000#32
  let main_v15 : FVec F S8208x5632 .f32 := broadcastInDim S8208x5632 ![] bcast_S_S8208x5632 main_cst_4
  let main_v16 : IVec S8208x5632 1 := cmpf .olt main_v14 main_v15
  fn_part1 (F := F) main_v13 main_v16
-- ==== Pre_finite_inproj.lean ====
abbrev S8208x1024 : Shape := ⟨2, ![8208, 1024]⟩
abbrev S1024 : Shape := ⟨1, ![1024]⟩
abbrev S1024x3280 : Shape := ⟨2, ![1024, 3280]⟩
abbrev S8208x3280 : Shape := ⟨2, ![8208, 3280]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3280 : S_.BroadcastsInDim S1024x3280 (![] : Fin 0 → Fin S1024x3280.rank)
  reducesTo_S1024x3280_S_d0_1 : S1024x3280.ReducesTo [0, 1] S_
  bcast_S_S8208x3280 : S_.BroadcastsInDim S8208x3280 (![] : Fin 0 → Fin S8208x3280.rank)
  reducesTo_S8208x3280_S_d0_1 : S8208x3280.ReducesTo [0, 1] S_

variable [Facts]

def fn_part1 {F : FTy → Type} [FloatOps F] (main_v13 : IVec S_ 1) (main_v16 : IVec S8208x3280 1) : IVec S_ 1 :=
  let main_c_5 : IVec S_ 1 := constantI S_ 1 1#1
  let main_v17 : IVec S_ 1 := (fun x v => Host.reduce IntOp.andi x v reducesTo_S8208x3280_S_d0_1 h_S_) main_v16 main_c_5
  let main_v18 : IVec S_ 1 := andi main_v13 main_v17
  main_v18

def fn {F : FTy → Type} [FloatOps F] (main_arg0 : FVec F S8208x1024 .f32) (main_arg1 : FVec F S1024 .f32) (main_arg2 : FVec F S1024x3280 .f32) (main_arg3 : FVec F S8208x1024 .f32) (main_arg4 : FVec F S8208x3280 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3280 .f32 := Host.absf main_arg2
  let main_cst_2 : FVec F S_ .f32 := constant S_ .f32 0x7F800000#32
  let main_v10 : FVec F S1024x3280 .f32 := broadcastInDim S1024x3280 ![] bcast_S_S1024x3280 main_cst_2
  let main_v11 : IVec S1024x3280 1 := cmpf .olt main_v9 main_v10
  let main_c_3 : IVec S_ 1 := constantI S_ 1 1#1
  let main_v12 : IVec S_ 1 := (fun x v => Host.reduce IntOp.andi x v reducesTo_S1024x3280_S_d0_1 h_S_) main_v11 main_c_3
  let main_v13 : IVec S_ 1 := andi main_v8 main_v12
  let main_v14 : FVec F S8208x3280 .f32 := Host.absf main_arg4
  let main_cst_4 : FVec F S_ .f32 := constant S_ .f32 0x7F800000#32
  let main_v15 : FVec F S8208x3280 .f32 := broadcastInDim S8208x3280 ![] bcast_S_S8208x3280 main_cst_4
  let main_v16 : IVec S8208x3280 1 := cmpf .olt main_v14 main_v15
  fn_part1 (F := F) main_v13 main_v16
-- ==== Pre_finite_mixout.lean ====
abbrev S8208x1024 : Shape := ⟨2, ![8208, 1024]⟩
abbrev S1024 : Shape := ⟨1, ![1024]⟩
abbrev S2048x1024 : Shape := ⟨2, ![2048, 1024]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S1024 .f32) (main_arg5 : FVec F S8208x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8208x1024 .f32 := Host.absf main_arg5
  let main_cst_8 : FVec F S_ .f32 := constant S_ .f32 0x7F800000#32
  let main_v25 : FVec F S8208x1024 .f32 := broadcastInDim S8208x1024 ![] bcast_S_S8208x1024 main_cst_8
  let main_v26 : IVec S8208x1024 1 := cmpf .olt main_v24 main_v25
  let main_c_9 : IVec S_ 1 := constantI S_ 1 1#1
  let main_v27 : IVec S_ 1 := (fun x v => Host.reduce IntOp.andi x v reducesTo_S8208x1024_S_d0_1 h_S_) main_v26 main_c_9
  let main_v28 : IVec S_ 1 := andi main_v23 main_v27
  main_v28

def fn {F : FTy → Type} [FloatOps F] (main_arg0 : FVec F S8208x1024 .f32) (main_arg1 : FVec F S8208x1024 .f32) (main_arg2 : FVec F S1024 .f32) (main_arg3 : FVec F S2048x1024 .f32) (main_arg4 : FVec F S1024 .f32) (main_arg5 : FVec F S8208x1024 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S8208x1024 .f32 := Host.absf main_arg1
  let main_cst_0 : FVec F S_ .f32 := constant S_ .f32 0x7F800000#32
  let main_v5 : FVec F S8208x1024 .f32 := broadcastInDim S8208x1024 ![] bcast_S_S8208x1024 main_cst_0
  let main_v6 : IVec S8208x1024 1 := cmpf .olt main_v4 main_v5
  let main_c_1 : IVec S_ 1 := constantI S_ 1 1#1
  let main_v7 : IVec S_ 1 := (fun x v => Host.reduce IntOp.andi x v reducesTo_S8208x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Pre_finite_mla.lean ====
abbrev S8208x384 : Shape := ⟨2, ![8208, 384]⟩
abbrev S8208x256 : Shape := ⟨2, ![8208, 256]⟩
abbrev S8208x64 : Shape := ⟨2, ![8208, 64]⟩
abbrev S384 : Shape := ⟨1, ![384]⟩
abbrev S384x8x192 : Shape := ⟨3, ![384, 8, 192]⟩
abbrev S256 : Shape := ⟨1, ![256]⟩
abbrev S256x8x256 : Shape := ⟨3, ![256, 8, 256]⟩
abbrev S8208x32 : Shape := ⟨2, ![8208, 32]⟩
abbrev S8208x8x192 : Shape := ⟨3, ![8208, 8, 192]⟩
abbrev S8208x8x128 : Shape := ⟨3, ![8208, 8, 128]⟩
abbrev S_ : Shape := ⟨0, ![]⟩

class Facts : Prop where
  bcast_S_S8208x384 : S_.BroadcastsInDim S8208x384 (![] : Fin 0 → Fin S8208x384.rank)
  reducesTo_S8208x384_S_d0_1 : S8208x384.ReducesTo [0, 1] S_
  h_S_ : 0 < S_.numel
  bcast_S_S8208x256 : S_.BroadcastsInDim S8208x256 (![] : Fin 0 → Fin S8208x256.rank)
  reducesTo_S8208x256_S_d0_1 : S8208x256.ReducesTo [0, 1] S_
  bcast_S_S384 : S_.BroadcastsInDim S384 (![] : Fin 0 → Fin S384.rank)
  reducesTo_S384_S_d0 : S384.ReducesTo [0] S_
  bcast_S_S384x8x192 : S_.BroadcastsInDim S384x8x192 (![] : Fin 0 → Fin S384x8x192.rank)
  reducesTo_S384x8x192_S_d0_1_2 : S384x8x192.ReducesTo [0, 1, 2] S_
  bcast_S_S256 : S_.BroadcastsInDim S256 (![] : Fin 0 → Fin S256.rank)
  reducesTo_S256_S_d0 : S256.ReducesTo [0] S_
  bcast_S_S256x8x256 : S_.BroadcastsInDim S256x8x256 (![] : Fin 0 → Fin S256x8x256.rank)
  reducesTo_S256x8x256_S_d0_1_2 : S256x8x256.ReducesTo [0, 1, 2] S_
  bcast_S_S8208x32 : S_.BroadcastsInDim S8208x32 (![] : Fin 0 → Fin S8208x32.rank)
  reducesTo_S8208x32_S_d0_1 : S8208x32.ReducesTo [0, 1] S_
  bcast_S_S8208x8x192 : S_.BroadcastsInDim S8208x8x192 (![] : Fin 0 → Fin S8208x8x192.rank)
  reducesTo_S8208x8x192_S_d0_1_2 : S8208x8x192.ReducesTo [0, 1, 2] S_
  bcast_S_S8208x8x128 : S_.BroadcastsInDim S8208x8x128 (![] : Fin 0 → Fin S8208x8x128.rank)
  reducesTo_S8208x8x128_S_d0_1_2 : S8208x8x128.ReducesTo [0, 1, 2] S_

variable [Facts]

def fn_part3 {F : FTy → Type} [FloatOps F] (main_v48 : IVec S_ 1) (main_v49 : FVec F S8208x8x128 .f32) (main_v50 : FVec F S8208x8x128 .f32) : IVec S_ 1 :=
  let main_v51 : IVec S8208x8x128 1 := cmpf .olt main_v49 main_v50
  let main_c_19 : IVec S_ 1 := constantI S_ 1 1#1
  let main_v52 : IVec S_ 1 := (fun x v => Host.reduce IntOp.andi x v reducesTo_S8208x8x128_S_d0_1_2 h_S_) main_v51 main_c_19
  let main_v53 : IVec S_ 1 := andi main_v48 main_v52
  main_v53

def fn_part2 {F : FTy → Type} [FloatOps F] (main_arg8 : FVec F S8208x32 .f32) (main_arg9 : FVec F S8208x8x192 .f32) (main_arg10 : FVec F S8208x8x192 .f32) (main_arg11 : FVec F S8208x8x128 .f32) (main_v33 : IVec S_ 1) : IVec S_ 1 :=
  let main_v34 : FVec F S8208x32 .f32 := Host.absf main_arg8
  let main_cst_12 : FVec F S_ .f32 := constant S_ .f32 0x7F800000#32
  let main_v35 : FVec F S8208x32 .f32 := broadcastInDim S8208x32 ![] bcast_S_S8208x32 main_cst_12
  let main_v36 : IVec S8208x32 1 := cmpf .olt main_v34 main_v35
  let main_c_13 : IVec S_ 1 := constantI S_ 1 1#1
  let main_v37 : IVec S_ 1 := (fun x v => Host.reduce IntOp.andi x v reducesTo_S8208x32_S_d0_1 h_S_) main_v36 main_c_13
  let main_v38 : IVec S_ 1 := andi main_v33 main_v37
  let main_v39 : FVec F S8208x8x192 .f32 := Host.absf main_arg9
  let main_cst_14 : FVec F S_ .f32 := constant S_ .f32 0x7F800000#32
  let main_v40 : FVec F S8208x8x192 .f32 := broadcastInDim S8208x8x192 ![] bcast_S_S8208x8x192 main_cst_14
  let main_v41 : IVec S8208x8x192 1 := cmpf .olt main_v39 main_v40
  let main_c_15 : IVec S_ 1 := constantI S_ 1 1#1
  let main_v42 : IVec S_ 1 := (fun x v => Host.reduce IntOp.andi x v reducesTo_S8208x8x192_S_d0_1_2 h_S_) main_v41 main_c_15
  let main_v43 : IVec S_ 1 := andi main_v38 main_v42
  let main_v44 : FVec F S8208x8x192 .f32 := Host.absf main_arg10
  let main_cst_16 : FVec F S_ .f32 := constant S_ .f32 0x7F800000#32
  let main_v45 : FVec F S8208x8x192 .f32 := broadcastInDim S8208x8x192 ![] bcast_S_S8208x8x192 main_cst_16
  let main_v46 : IVec S8208x8x192 1 := cmpf .olt main_v44 main_v45
  let main_c_17 : IVec S_ 1 := constantI S_ 1 1#1
  let main_v47 : IVec S_ 1 := (fun x v => Host.reduce IntOp.andi x v reducesTo_S8208x8x192_S_d0_1_2 h_S_) main_v46 main_c_17
  let main_v48 : IVec S_ 1 := andi main_v43 main_v47
  let main_v49 : FVec F S8208x8x128 .f32 := Host.absf main_arg11
  let main_cst_18 : FVec F S_ .f32 := constant S_ .f32 0x7F800000#32
  let main_v50 : FVec F S8208x8x128 .f32 := broadcastInDim S8208x8x128 ![] bcast_S_S8208x8x128 main_cst_18
  fn_part3 (F := F) main_v48 main_v49 main_v50

def fn_part1 {F : FTy → Type} [FloatOps F] (main_arg5 : FVec F S256 .f32) (main_arg6 : FVec F S256x8x256 .f32) (main_arg7 : FVec F S8208x32 .f32) (main_arg8 : FVec F S8208x32 .f32) (main_arg9 : FVec F S8208x8x192 .f32) (main_arg10 : FVec F S8208x8x192 .f32) (main_arg11 : FVec F S8208x8x128 .f32) (main_v13 : IVec S_ 1) (main_v16 : IVec S384x8x192 1) : IVec S_ 1 :=
  let main_c_5 : IVec S_ 1 := constantI S_ 1 1#1
  let main_v17 : IVec S_ 1 := (fun x v => Host.reduce IntOp.andi x v reducesTo_S384x8x192_S_d0_1_2 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x8x256 .f32 := Host.absf main_arg6
  let main_cst_8 : FVec F S_ .f32 := constant S_ .f32 0x7F800000#32
  let main_v25 : FVec F S256x8x256 .f32 := broadcastInDim S256x8x256 ![] bcast_S_S256x8x256 main_cst_8
  let main_v26 : IVec S256x8x256 1 := cmpf .olt main_v24 main_v25
  let main_c_9 : IVec S_ 1 := constantI S_ 1 1#1
  let main_v27 : IVec S_ 1 := (fun x v => Host.reduce IntOp.andi x v reducesTo_S256x8x256_S_d0_1_2 h_S_) main_v26 main_c_9
  let main_v28 : IVec S_ 1 := andi main_v23 main_v27
  let main_v29 : FVec F S8208x32 .f32 := Host.absf main_arg7
  let main_cst_10 : FVec F S_ .f32 := constant S_ .f32 0x7F800000#32
  let main_v30 : FVec F S8208x32 .f32 := broadcastInDim S8208x32 ![] bcast_S_S8208x32 main_cst_10
  let main_v31 : IVec S8208x32 1 := cmpf .olt main_v29 main_v30
  let main_c_11 : IVec S_ 1 := constantI S_ 1 1#1
  let main_v32 : IVec S_ 1 := (fun x v => Host.reduce IntOp.andi x v reducesTo_S8208x32_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S8208x384 .f32) (main_arg1 : FVec F S8208x256 .f32) (main_arg2 : FVec F S8208x64 .f32) (main_arg3 : FVec F S384 .f32) (main_arg4 : FVec F S384x8x192 .f32) (main_arg5 : FVec F S256 .f32) (main_arg6 : FVec F S256x8x256 .f32) (main_arg7 : FVec F S8208x32 .f32) (main_arg8 : FVec F S8208x32 .f32) (main_arg9 : FVec F S8208x8x192 .f32) (main_arg10 : FVec F S8208x8x192 .f32) (main_arg11 : FVec F S8208x8x128 .f32) : IVec S_ 1 :=
  let main_v0 : FVec F S8208x384 .f32 := Host.absf main_arg0
  let main_cst : FVec F S_ .f32 := constant S_ .f32 0x7F800000#32
  let main_v1 : FVec F S8208x384 .f32 := broadcastInDim S8208x384 ![] bcast_S_S8208x384 main_cst
  let main_v2 : IVec S8208x384 1 := cmpf .olt main_v0 main_v1
  let main_c : IVec S_ 1 := constantI S_ 1 1#1
  let main_v3 : IVec S_ 1 := (fun x v => Host.reduce IntOp.andi x v reducesTo_S8208x384_S_d0_1 h_S_) main_v2 main_c
  let main_v4 : FVec F S8208x256 .f32 := Host.absf main_arg1
  let main_cst_0 : FVec F S_ .f32 := constant S_ .f32 0x7F800000#32
  let main_v5 : FVec F S8208x256 .f32 := broadcastInDim S8208x256 ![] bcast_S_S8208x256 main_cst_0
  let main_v6 : IVec S8208x256 1 := cmpf .olt main_v4 main_v5
  let main_c_1 : IVec S_ 1 := constantI S_ 1 1#1
  let main_v7 : IVec S_ 1 := (fun x v => Host.reduce IntOp.andi x v reducesTo_S8208x256_S_d0_1 h_S_) main_v6 main_c_1
  let main_v8 : IVec S_ 1 := andi main_v3 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x8x192 .f32 := Host.absf main_arg4
  let main_cst_4 : FVec F S_ .f32 := constant S_ .f32 0x7F800000#32
  let main_v15 : FVec F S384x8x192 .f32 := broadcastInDim S384x8x192 ![] bcast_S_S384x8x192 main_cst_4
  let main_v16 : IVec S384x8x192 1 := cmpf .olt main_v14 main_v15
  fn_part1 (F := F) main_arg5 main_arg6 main_arg7 main_arg8 main_arg9 main_arg10 main_arg11 main_v13 main_v16
-- ==== FfnIn.lean ====
abbrev S8208x1024 : Shape := ⟨2, ![8208, 1024]⟩
abbrev S1024 : Shape := ⟨1, ![1024]⟩
abbrev S1024x5632 : Shape := ⟨2, ![1024, 5632]⟩
abbrev S8208x5632 : Shape := ⟨2, ![8208, 5632]⟩
abbrev S1024x4x1408 : Shape := ⟨3, ![1024, 4, 1408]⟩
abbrev S4x1024x1408 : Shape := ⟨3, ![4, 1024, 1408]⟩
abbrev S_ : Shape := ⟨0, ![]⟩
abbrev S112x5632 : Shape := ⟨2, ![112, 5632]⟩
abbrev S8320x5632 : Shape := ⟨2, ![8320, 5632]⟩
abbrev S112x1024 : Shape := ⟨2, ![112, 1024]⟩
abbrev S8320x1024 : Shape := ⟨2, ![8320, 1024]⟩
abbrev S1x1024 : Shape := ⟨2, ![1, 1024]⟩
abbrev S320x5632 : Shape := ⟨2, ![320, 5632]⟩
abbrev S320x1024 : Shape := ⟨2, ![320, 1024]⟩
abbrev S320x1408 : Shape := ⟨2, ![320, 1408]⟩
abbrev S1x1024x1408 : Shape := ⟨3, ![1, 1024, 1408]⟩
abbrev S1024x1408 : Shape := ⟨2, ![1024, 1408]⟩
abbrev S320 : Shape := ⟨1, ![320]⟩
abbrev S320x1 : Shape := ⟨2, ![320, 1]⟩

abbrev nBuf : Space → Nat
  | .hbm => 21
  | .vmem => 11
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5632, .f32⟩
  | .hbm, ⟨3, _⟩ => ⟨S8208x1024, .f32⟩
  | .hbm, ⟨4, _⟩ => ⟨S8208x5632, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S8208x5632, .bf16⟩
  | .hbm, ⟨9, _⟩ => ⟨S_, .bf16⟩
  | .hbm, ⟨10, _⟩ => ⟨S112x5632, .bf16⟩
  | .hbm, ⟨11, _⟩ => ⟨S8320x5632, .bf16⟩
  | .hbm, ⟨12, _⟩ => ⟨S_, .f32⟩
  | .hbm, ⟨13, _⟩ => ⟨S112x1024, .f32⟩
  | .hbm, ⟨14, _⟩ => ⟨S8320x1024, .f32⟩
  | .hbm, ⟨15, _⟩ => ⟨S1x1024, .f32⟩
  | .hbm, ⟨16, _⟩ => ⟨S_, .f32⟩
  | .hbm, ⟨17, _⟩ => ⟨S112x1024, .f32⟩
  | .hbm, ⟨18, _⟩ => ⟨S8320x1024, .f32⟩
  | .hbm, ⟨19, _⟩ => ⟨S8320x1024, .f32⟩
  | .hbm, ⟨20, _⟩ => ⟨S1x1024, .f32⟩
  | .local _ .vmem, ⟨0, _⟩ => ⟨S320x5632, .bf16⟩
  | .local _ .vmem, ⟨1, _⟩ => ⟨S320x5632, .bf16⟩
  | .local _ .vmem, ⟨2, _⟩ => ⟨S4x1024x1408, .bf16⟩
  | .local _ .vmem, ⟨3, _⟩ => ⟨S320x1024, .f32⟩
  | .local _ .vmem, ⟨4, _⟩ => ⟨S320x1024, .f32⟩
  | .local _ .vmem, ⟨5, _⟩ => ⟨S1x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S320x1024, .f32⟩
  | .local _ .vmem, ⟨10, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_30 : BitVec 32 := 0#32
  let v58 : BitVec 1 := Scalar.cmpi .ne v57 c0_i32_30
  v58

def k0_cond2 (i : grid0.Coords) : BitVec 1 :=
  let arg0 : BitVec 32 := BitVec.ofNat 32 (i 0).val
  let c0_i32 : BitVec 32 := 0#32
  let v56 : BitVec 1 := Scalar.cmpi .eq arg0 c0_i32
  let v_true : BitVec 1 := 1#1
  let v59 : BitVec 1 := Scalar.xori v56 v_true
  let v60 : BitVec 32 := Scalar.extui v59
  let c0_i32_31 : BitVec 32 := 0#32
  let v61 : BitVec 1 := Scalar.cmpi .ne v60 c0_i32_31
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnInRefIdeal.lean ====
abbrev S8208x1024 : Shape := ⟨2, ![8208, 1024]⟩
abbrev S1024 : Shape := ⟨1, ![1024]⟩
abbrev S1024x5632 : Shape := ⟨2, ![1024, 5632]⟩
abbrev S8208x5632 : Shape := ⟨2, ![8208, 5632]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S5632x1024 : Shape := ⟨2, ![5632, 1024]⟩
abbrev S112x1024 : Shape := ⟨2, ![112, 1024]⟩
abbrev S8320x1024 : Shape := ⟨2, ![8320, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5632, .f32⟩
  | .hbm, ⟨3, _⟩ => ⟨S8208x1024, .f32⟩
  | .hbm, ⟨4, _⟩ => ⟨S8208x5632, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x5632, .f32⟩
  | .hbm, ⟨26, _⟩ => ⟨S5632x1024, .f32⟩
  | .hbm, ⟨27, _⟩ => ⟨S1024x5632, .f32⟩
  | .hbm, ⟨28, _⟩ => ⟨S8208x1024, .f32⟩
  | .hbm, ⟨29, _⟩ => ⟨S8208x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8208x1024, .f32⟩
  | .hbm, ⟨34, _⟩ => ⟨S8208x1024, .f32⟩
  | .hbm, ⟨35, _⟩ => ⟨S_, .f32⟩
  | .hbm, ⟨36, _⟩ => ⟨S1024, .f32⟩
  | .hbm, ⟨37, _⟩ => ⟨S8208x1024, .f32⟩
  | .hbm, ⟨38, _⟩ => ⟨S_, .f32⟩
  | .hbm, ⟨39, _⟩ => ⟨S8208, .f32⟩
  | .hbm, ⟨40, _⟩ => ⟨S8208x1, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S8208x1, .f32⟩
  | .hbm, ⟨45, _⟩ => ⟨S_, .f32⟩
  | .hbm, ⟨46, _⟩ => ⟨S8208x1, .f32⟩
  | .hbm, ⟨47, _⟩ => ⟨S8208x1, .f32⟩
  | .hbm, ⟨48, _⟩ => ⟨S_, .f32⟩
  | .hbm, ⟨49, _⟩ => ⟨S8208, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S8208x1024, .f32⟩
  | .hbm, ⟨54, _⟩ => ⟨S8208x1024, .f32⟩
  | .hbm, ⟨55, _⟩ => ⟨S_, .f32⟩
  | .hbm, ⟨56, _⟩ => ⟨S112x1024, .f32⟩
  | .hbm, ⟨57, _⟩ => ⟨S8320x1024, .f32⟩
  | .hbm, ⟨58, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Attn.lean ====
abbrev S8208x8x192 : Shape := ⟨3, ![8208, 8, 192]⟩
abbrev S8208x8x128 : Shape := ⟨3, ![8208, 8, 128]⟩
abbrev S8208x1024 : Shape := ⟨2, ![8208, 1024]⟩
abbrev S8x8208x8208 : Shape := ⟨3, ![8, 8208, 8208]⟩
abbrev S_ : Shape := ⟨0, ![]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S8x8208 : Shape := ⟨2, ![8, 8208]⟩
abbrev S8x8208x1 : Shape := ⟨3, ![8, 8208, 1]⟩
abbrev S8x8208x128 : Shape := ⟨3, ![8, 8208, 128]⟩
abbrev S8x112x128 : Shape := ⟨3, ![8, 112, 128]⟩
abbrev S8x8320x128 : Shape := ⟨3, ![8, 8320, 128]⟩
abbrev S8x8208x192 : Shape := ⟨3, ![8, 8208, 192]⟩
abbrev S8x8208x64 : Shape := ⟨3, ![8, 8208, 64]⟩
abbrev S8x8208x256 : Shape := ⟨3, ![8, 8208, 256]⟩
abbrev S8x112x256 : Shape := ⟨3, ![8, 112, 256]⟩
abbrev S8x8320x256 : Shape := ⟨3, ![8, 8320, 256]⟩
abbrev S112x1024 : Shape := ⟨2, ![112, 1024]⟩
abbrev S8320x1024 : Shape := ⟨2, ![8320, 1024]⟩
abbrev S8x112x1 : Shape := ⟨3, ![8, 112, 1]⟩
abbrev S8x8320x1 : Shape := ⟨3, ![8, 8320, 1]⟩
abbrev S8x13x1x640 : Shape := ⟨4, ![8, 13, 1, 640]⟩
abbrev S1x8320x256 : Shape := ⟨3, ![1, 8320, 256]⟩
abbrev S1x640x256 : Shape := ⟨3, ![1, 640, 256]⟩
abbrev S1x640x128 : Shape := ⟨3, ![1, 640, 128]⟩
abbrev S8320x128 : Shape := ⟨2, ![8320, 128]⟩
abbrev S1x13x1x640 : Shape := ⟨4, ![1, 13, 1, 640]⟩
abbrev S640x256 : Shape := ⟨2, ![640, 256]⟩
abbrev S640x128 : Shape := ⟨2, ![640, 128]⟩
abbrev S1x1x1x640 : Shape := ⟨4, ![1, 1, 1, 640]⟩
abbrev S1x640 : Shape := ⟨2, ![1, 640]⟩
abbrev S640x640 : Shape := ⟨2, ![640, 640]⟩
abbrev S1x1920x256 : Shape := ⟨3, ![1, 1920, 256]⟩
abbrev S1920x256 : Shape := ⟨2, ![1920, 256]⟩
abbrev S1920x128 : Shape := ⟨2, ![1920, 128]⟩
abbrev S1x1920 : Shape := ⟨2, ![1, 1920]⟩
abbrev S640x1920 : Shape := ⟨2, ![640, 1920]⟩
abbrev S1x1280x256 : Shape := ⟨3, ![1, 1280, 256]⟩
abbrev S1280x256 : Shape := ⟨2, ![1280, 256]⟩
abbrev S1280x128 : Shape := ⟨2, ![1280, 128]⟩
abbrev S1x1280 : Shape := ⟨2, ![1, 1280]⟩
abbrev S640x1280 : Shape := ⟨2, ![640, 1280]⟩

abbrev nBuf : Space → Nat
  | .hbm => 83
  | .vmem => 18
  | .smem => 0
  | _ => 0

abbrev bufTy : (tb : Table) → Fin (tcTables nBuf tb) → BufTy
  | .hbm, ⟨0, _⟩ => ⟨S8208x8x192, .f32⟩
  | .hbm, ⟨1, _⟩ => ⟨S8208x8x192, .f32⟩
  | .hbm, ⟨2, _⟩ => ⟨S8208x8x128, .f32⟩
  | .hbm, ⟨3, _⟩ => ⟨S8208x1024, .f32⟩
  | .hbm, ⟨4, _⟩ => ⟨S8x8208x8208, .f32⟩
  | .hbm, ⟨5, _⟩ => ⟨S_, .f32⟩
  | .hbm, ⟨6, _⟩ => ⟨S8x8208x8208, .f32⟩
  | .hbm, ⟨7, _⟩ => ⟨S8x8208x8208, .f32⟩
  | .hbm, ⟨8, _⟩ => ⟨S8208, .i32⟩
  | .hbm, ⟨9, _⟩ => ⟨S1x8208, .i32⟩
  | .hbm, ⟨10, _⟩ => ⟨S8208x1, .i32⟩
  | .hbm, ⟨11, _⟩ => ⟨S8208x8208, .i32⟩
  | .hbm, ⟨12, _⟩ => ⟨S8208x8208, .i32⟩
  | .hbm, ⟨13, _⟩ => ⟨S8208x8208, .i1⟩
  | .hbm, ⟨14, _⟩ => ⟨S_, .f32⟩
  | .hbm, ⟨15, _⟩ => ⟨S_, .f32⟩
  | .hbm, ⟨16, _⟩ => ⟨S8x8208x8208, .i1⟩
  | .hbm, ⟨17, _⟩ => ⟨S8x8208x8208, .f32⟩
  | .hbm, ⟨18, _⟩ => ⟨S8x8208x8208, .f32⟩
  | .hbm, ⟨19, _⟩ => ⟨S_, .f32⟩
  | .hbm, ⟨20, _⟩ => ⟨S8x8208, .f32⟩
  | .hbm, ⟨21, _⟩ => ⟨S8x8208x1, .f32⟩
  | .hbm, ⟨22, _⟩ => ⟨S8x8208x8208, .f32⟩
  | .hbm, ⟨23, _⟩ => ⟨S8x8208x8208, .f32⟩
  | .hbm, ⟨24, _⟩ => ⟨S8x8208x8208, .f32⟩
  | .hbm, ⟨25, _⟩ => ⟨S_, .f32⟩
  | .hbm, ⟨26, _⟩ => ⟨S8x8208, .f32⟩
  | .hbm, ⟨27, _⟩ => ⟨S8x8208x1, .f32⟩
  | .hbm, ⟨28, _⟩ => ⟨S8x8208x128, .f32⟩
  | .hbm, ⟨29, _⟩ => ⟨S8x8208x128, .f32⟩
  | .hbm, ⟨30, _⟩ => ⟨S8x8208x128, .f32⟩
  | .hbm, ⟨31, _⟩ => ⟨S_, .f32⟩
  | .hbm, ⟨32, _⟩ => ⟨S_, .f32⟩
  | .hbm, ⟨33, _⟩ => ⟨S8x8208x1, .f32⟩
  | .hbm, ⟨34, _⟩ => ⟨S8x8208x1, .f32⟩
  | .hbm, ⟨35, _⟩ => ⟨S8x8208x1, .f32⟩
  | .hbm, ⟨36, _⟩ => ⟨S8x8208x1, .f32⟩
  | .hbm, ⟨37, _⟩ => ⟨S8208x8x128, .f32⟩
  | .hbm, ⟨38, _⟩ => ⟨S8x8208x128, .f32⟩
  | .hbm, ⟨39, _⟩ => ⟨S8x8208x128, .f32⟩
  | .hbm, ⟨40, _⟩ => ⟨S_, .f32⟩
  | .hbm, ⟨41, _⟩ => ⟨S8x8208, .f32⟩
  | .hbm, ⟨42, _⟩ => ⟨S8x8208x1, .f32⟩
  | .hbm, ⟨43, _⟩ => ⟨S_, .bf16⟩
  | .hbm, ⟨44, _⟩ => ⟨S8x112x128, .bf16⟩
  | .hbm, ⟨45, _⟩ => ⟨S8208x8x128, .bf16⟩
  | .hbm, ⟨46, _⟩ => ⟨S8x8208x128, .bf16⟩
  | .hbm, ⟨47, _⟩ => ⟨S8x8320x128, .bf16⟩
  | .hbm, ⟨48, _⟩ => ⟨S_, .f32⟩
  | .hbm, ⟨49, _⟩ => ⟨S8208x8x192, .f32⟩
  | .hbm, ⟨50, _⟩ => ⟨S8208x8x192, .f32⟩
  | .hbm, ⟨51, _⟩ => ⟨S8208x8x192, .f32⟩
  | .hbm, ⟨52, _⟩ => ⟨S8208x8x192, .f32⟩
  | .hbm, ⟨53, _⟩ => ⟨S8208x8x192, .bf16⟩
  | .hbm, ⟨54, _⟩ => ⟨S8x8208x192, .bf16⟩
  | .hbm, ⟨55, _⟩ => ⟨S_, .bf16⟩
  | .hbm, ⟨56, _⟩ => ⟨S8x8208x64, .bf16⟩
  | .hbm, ⟨57, _⟩ => ⟨S8x8208x256, .bf16⟩
  | .hbm, ⟨58, _⟩ => ⟨S_, .bf16⟩
  | .hbm, ⟨59, _⟩ => ⟨S8x112x256, .bf16⟩
  | .hbm, ⟨60, _⟩ => ⟨S8x8320x256, .bf16⟩
  | .hbm, ⟨61, _⟩ => ⟨S8208x8x192, .bf16⟩
  | .hbm, ⟨62, _⟩ => ⟨S8x8208x192, .bf16⟩
  | .hbm, ⟨63, _⟩ => ⟨S_, .bf16⟩
  | .hbm, ⟨64, _⟩ => ⟨S8x8208x64, .bf16⟩
  | .hbm, ⟨65, _⟩ => ⟨S8x8208x256, .bf16⟩
  | .hbm, ⟨66, _⟩ => ⟨S_, .bf16⟩
  | .hbm, ⟨67, _⟩ => ⟨S8x112x256, .bf16⟩
  | .hbm, ⟨68, _⟩ => ⟨S8x8320x256, .bf16⟩
  | .hbm, ⟨69, _⟩ => ⟨S_, .f32⟩
  | .hbm, ⟨70, _⟩ => ⟨S112x1024, .f32⟩
  | .hbm, ⟨71, _⟩ => ⟨S8320x1024, .f32⟩
  | .hbm, ⟨72, _⟩ => ⟨S_, .f32⟩
  | .hbm, ⟨73, _⟩ => ⟨S8x112x1, .f32⟩
  | .hbm, ⟨74, _⟩ => ⟨S8x8320x1, .f32⟩
  | .hbm, ⟨75, _⟩ => ⟨S8x13x1x640, .f32⟩
  | .hbm, ⟨76, _⟩ => ⟨S_, .f32⟩
  | .hbm, ⟨77, _⟩ => ⟨S8x112x1, .f32⟩
  | .hbm, ⟨78, _⟩ => ⟨S8x8320x1, .f32⟩
  | .hbm, ⟨79, _⟩ => ⟨S8x13x1x640, .f32⟩
  | .hbm, ⟨80, _⟩ => ⟨S8x8320x256, .f32⟩
  | .hbm, ⟨81, _⟩ => ⟨S8x8320x256, .f32⟩
  | .hbm, ⟨82, _⟩ => ⟨S8x8320x128, .f32⟩
  | .local _ .vmem, ⟨0, _⟩ => ⟨S1x8320x256, .bf16⟩
  | .local _ .vmem, ⟨1, _⟩ => ⟨S1x8320x256, .bf16⟩
  | .local _ .vmem, ⟨2, _⟩ => ⟨S1x640x256, .bf16⟩
  | .local _ .vmem, ⟨3, _⟩ => ⟨S1x640x256, .bf16⟩
  | .local _ .vmem, ⟨4, _⟩ => ⟨S1x640x128, .bf16⟩
  | .local _ .vmem, ⟨5, _⟩ => ⟨S1x640x128, .bf16⟩
  | .local _ .vmem, ⟨6, _⟩ => ⟨S8320x128, .f32⟩
  | .local _ .vmem, ⟨7, _⟩ => ⟨S8320x128, .f32⟩
  | .local _ .vmem, ⟨8, _⟩ => ⟨S1x13x1x640, .f32⟩
  | .local _ .vmem, ⟨9, _⟩ => ⟨S1x13x1x640, .f32⟩
  | .local _ .vmem, ⟨10, _⟩ => ⟨S1x13x1x640, .f32⟩
  | .local _ .vmem, ⟨11, _⟩ => ⟨S1x13x1x640, .f32⟩
  | .local _ .vmem, ⟨12, _⟩ => ⟨S1x8320x256, .f32⟩
  | .local _ .vmem, ⟨13, _⟩ => ⟨S1x8320x256, .f32⟩
  | .local _ .vmem, ⟨14, _⟩ => ⟨S1x640x256, .f32⟩
  | .local _ .vmem, ⟨15, _⟩ => ⟨S1x640x256, .f32⟩
  | .local _ .vmem, ⟨16, _⟩ => ⟨S1x640x128, .f32⟩
  | .local _ .vmem, ⟨17, _⟩ => ⟨S1x640x128, .f32⟩
  | _, _ => ⟨S8208x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58_0 : Ref sig .tc := ⟨.hbm, 80, rfl⟩
abbrev main_v58_1 : Ref sig .tc := ⟨.hbm, 81, rfl⟩
abbrev main_v58_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 13], ![false, false]⟩

@[reducible] def k0_t1_loop (i : grid0.Coords) : Scf.Loop 32 :=
  let arg1 : BitVec 32 := BitVec.ofNat 32 (i 1).val
  let c1_i32 : BitVec 32 := 1#32
  let v7 : BitVec 32 := Scalar.addi arg1 c1_i32
  let v10 : BitVec 32 := Scalar.subi v7 arg1
  let c1_i32_7 : BitVec 32 := 1#32
  let v12 : BitVec 32 := Scalar.divsi v10 c1_i32_7
  let v13 : BitVec 32 := Scalar.muli v12 c1_i32_7
  let v14 : BitVec 32 := Scalar.addi arg1 v13
  let c1_i32_8 : BitVec 32 := 1#32
  ⟨arg1, v14, c1_i32_8⟩
def k0_mult1 (i : grid0.Coords) (k0_t1 : Fin (k0_t1_loop i).trips) : BitVec 32 :=
  let arg1 : BitVec 32 := BitVec.ofNat 32 (i 1).val
  let c1_i32_8 : BitVec 32 := 1#32
  let arg11 : BitVec 32 := Scf.iv arg1 c1_i32_8 k0_t1
  let c640_i32 : BitVec 32 := 640#32
  let v187 : BitVec 32 := Scalar.muli arg11 c640_i32
  v187
def k0_off1 (i : grid0.Coords) (k0_t1 : Fin (k0_t1_loop i).trips) : Fin 3 → Nat :=
  let c0_91 : Index := 0#32
  let arg1 : BitVec 32 := BitVec.ofNat 32 (i 1).val
  let c1_i32_8 : BitVec 32 := 1#32
  let arg11 : BitVec 32 := Scf.iv arg1 c1_i32_8 k0_t1
  let c640_i32 : BitVec 32 := 640#32
  let v187 : BitVec 32 := Scalar.muli arg11 c640_i32
  let v188 : BitVec 32 := v187
  let v189 : Index := Scalar.indexCast v188
  let c0_92 : Index := 0#32
  ![0, v189.toNat, 0]
def k0_off2 (i : grid0.Coords) (k0_t1 : Fin (k0_t1_loop i).trips) : Fin 2 → Nat :=
  let arg1 : BitVec 32 := BitVec.ofNat 32 (i 1).val
  let c1_i32_8 : BitVec 32 := 1#32
  let arg11 : BitVec 32 := Scf.iv arg1 c1_i32_8 k0_t1
  let c640_i32 : BitVec 32 := 640#32
  let v187 : BitVec 32 := Scalar.muli arg11 c640_i32
  let v188 : BitVec 32 := v187
  let v192 : Index := Scalar.indexCast v188
  let c0_93 : Index := 0#32
  ![v192.toNat, 0]
def k0_off3 (i : grid0.Coords) (k0_t1 : Fin (k0_t1_loop i).trips) : Fin 4 → Nat :=
  let c0_95 : Index := 0#32
  let arg1 : BitVec 32 := BitVec.ofNat 32 (i 1).val
  let c1_i32_8 : BitVec 32 := 1#32
  let arg11 : BitVec 32 := Scf.iv arg1 c1_i32_8 k0_t1
  let c0_i32_94 : BitVec 32 := 0#32
  let v196 : BitVec 32 := Scalar.addi arg11 c0_i32_94
  let v197 : Index := Scalar.indexCast v196
  let c0_96 : Index := 0#32
  let c0_97 : Index := 0#32
  ![0, v197.toNat, 0, 0]
@[reducible] def k0_t2_loop (i : grid0.Coords) : Scf.Loop 32 :=
  let arg1 : BitVec 32 := BitVec.ofNat 32 (i 1).val
  let c1_i32 : BitVec 32 := 1#32
  let v7 : BitVec 32 := Scalar.addi arg1 c1_i32
  let v10 : BitVec 32 := Scalar.subi v7 arg1
  let c1_i32_7 : BitVec 32 := 1#32
  let v12 : BitVec 32 := Scalar.divsi v10 c1_i32_7
  let v13 : BitVec 32 := Scalar.muli v12 c1_i32_7
  let v14 : BitVec 32 := Scalar.addi arg1 v13
  let v11 : BitVec 32 := Scalar.addi arg1 v10
  let c1_i32_9 : BitVec 32 := 1#32
  ⟨v14, v11, c1_i32_9⟩
def k0_mult2 (i : grid0.Coords) (k0_t2 : Fin (k0_t2_loop i).trips) : BitVec 32 :=
  let arg1 : BitVec 32 := BitVec.ofNat 32 (i 1).val
  let c1_i32 : BitVec 32 := 1#32
  let v7 : BitVec 32 := Scalar.addi arg1 c1_i32
  let v10 : BitVec 32 := Scalar.subi v7 arg1
  let c1_i32_7 : BitVec 32 := 1#32
  let v12 : BitVec 32 := Scalar.divsi v10 c1_i32_7
  let v13 : BitVec 32 := Scalar.muli v12 c1_i32_7
  let v14 : BitVec 32 := Scalar.addi arg1 v13
  let c1_i32_9 : BitVec 32 := 1#32
  let arg11 : BitVec 32 := Scf.iv v14 c1_i32_9 k0_t2
  let c640_i32 : BitVec 32 := 640#32
  let v187 : BitVec 32 := Scalar.muli arg11 c640_i32
  v187
def k0_off4 (i : grid0.Coords) (k0_t2 : Fin (k0_t2_loop i).trips) : Fin 3 → Nat :=
  let c0_91 : Index := 0#32
  let arg1 : BitVec 32 := BitVec.ofNat 32 (i 1).val
  let c1_i32 : BitVec 32 := 1#32
  let v7 : BitVec 32 := Scalar.addi arg1 c1_i32
  let v10 : BitVec 32 := Scalar.subi v7 arg1
  let c1_i32_7 : BitVec 32 := 1#32
  let v12 : BitVec 32 := Scalar.divsi v10 c1_i32_7
  let v13 : BitVec 32 := Scalar.muli v12 c1_i32_7
  let v14 : BitVec 32 := Scalar.addi arg1 v13
  let c1_i32_9 : BitVec 32 := 1#32
  let arg11 : BitVec 32 := Scf.iv v14 c1_i32_9 k0_t2
  let c640_i32 : BitVec 32 := 640#32
  let v187 : BitVec 32 := Scalar.muli arg11 c640_i32
  let v188 : BitVec 32 := v187
  let v189 : Index := Scalar.indexCast v188
  let c0_92 : Index := 0#32
  ![0, v189.toNat, 0]
def k0_off5 (i : grid0.Coords) (k0_t2 : Fin (k0_t2_loop i).trips) : Fin 2 → Nat :=
  let arg1 : BitVec 32 := BitVec.ofNat 32 (i 1).val
  let c1_i32 : BitVec 32 := 1#32
  let v7 : BitVec 32 := Scalar.addi arg1 c1_i32
  let v10 : BitVec 32 := Scalar.subi v7 arg1
  let c1_i32_7 : BitVec 32 := 1#32
  let v12 : BitVec 32 := Scalar.divsi v10 c1_i32_7
  let v13 : BitVec 32 := Scalar.muli v12 c1_i32_7
  let v14 : BitVec 32 := Scalar.addi arg1 v13
  let c1_i32_9 : BitVec 32 := 1#32
  let arg11 : BitVec 32 := Scf.iv v14 c1_i32_9 k0_t2
  let c640_i32 : BitVec 32 := 640#32
  let v187 : BitVec 32 := Scalar.muli arg11 c640_i32
  let v188 : BitVec 32 := v187
  let v192 : Index := Scalar.indexCast v188
  let c0_93 : Index := 0#32
  ![v192.toNat, 0]
def k0_off6 (i : grid0.Coords) (k0_t2 : Fin (k0_t2_loop i).trips) : Fin 4 → Nat :=
  let c0_95 : Index := 0#32
  let arg1 : BitVec 32 := BitVec.ofNat 32 (i 1).val
  let c1_i32 : BitVec 32 := 1#32
  let v7 : BitVec 32 := Scalar.addi arg1 c1_i32
  let v10 : BitVec 32 := Scalar.subi v7 arg1
  let c1_i32_7 : BitVec 32 := 1#32
  let v12 : BitVec 32 := Scalar.divsi v10 c1_i32_7
  let v13 : BitVec 32 := Scalar.muli v12 c1_i32_7
  let v14 : BitVec 32 := Scalar.addi arg1 v13
  let c1_i32_9 : BitVec 32 := 1#32
  let arg11 : BitVec 32 := Scf.iv v14 c1_i32_9 k0_t2
  let c0_i32_94 : BitVec 32 := 0#32
  let v196 : BitVec 32 := Scalar.addi arg11 c0_i32_94
  let v197 : Index := Scalar.indexCast v196
  let c0_96 : Index := 0#32
  let c0_97 : Index := 0#32
  ![0, v197.toNat, 0, 0]
@[reducible] def k0_t3_loop (i : grid0.Coords) : Scf.Loop 32 :=
  let c0_i32_19 : BitVec 32 := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c1_i32_12 : BitVec 32 := 1#32
  let v20 : BitVec 32 := Scalar.addi arg1 c1_i32_12
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_21 : BitVec 32 := 1#32
  ⟨c0_i32_19, v43, c1_i32_21⟩
def k0_mult3 (i : grid0.Coords) (k0_t3 : Fin (k0_t3_loop i).trips) : BitVec 32 :=
  let arg1 : BitVec 32 := BitVec.ofNat 32 (i 1).val
  let c1_i32_12 : BitVec 32 := 1#32
  let v20 : BitVec 32 := Scalar.addi arg1 c1_i32_12
  let c3_i32_91 : BitVec 32 := 3#32
  let c0_i32_19 : BitVec 32 := 0#32
  let c1_i32_21 : BitVec 32 := 1#32
  let arg11 : BitVec 32 := Scf.iv c0_i32_19 c1_i32_21 k0_t3
  let v187 : BitVec 32 := Scalar.muli c3_i32_91 arg11
  let v188 : BitVec 32 := Scalar.addi v20 v187
  let c640_i32 : BitVec 32 := 640#32
  let v189 : BitVec 32 := Scalar.muli v188 c640_i32
  v189
def k0_off7 (i : grid0.Coords) (k0_t3 : Fin (k0_t3_loop i).trips) : Fin 3 → Nat :=
  let c0_92 : Index := 0#32
  let arg1 : BitVec 32 := BitVec.ofNat 32 (i 1).val
  let c1_i32_12 : BitVec 32 := 1#32
  let v20 : BitVec 32 := Scalar.addi arg1 c1_i32_12
  let c3_i32_91 : BitVec 32 := 3#32
  let c0_i32_19 : BitVec 32 := 0#32
  let c1_i32_21 : BitVec 32 := 1#32
  let arg11 : BitVec 32 := Scf.iv c0_i32_19 c1_i32_21 k0_t3
  let v187 : BitVec 32 := Scalar.muli c3_i32_91 arg11
  let v188 : BitVec 32 := Scalar.addi v20 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off8 (i : grid0.Coords) (k0_t3 : Fin (k0_t3_loop i).trips) : Fin 2 → Nat :=
  let arg1 : BitVec 32 := BitVec.ofNat 32 (i 1).val
  let c1_i32_12 : BitVec 32 := 1#32
  let v20 : BitVec 32 := Scalar.addi arg1 c1_i32_12
  let c3_i32_91 : BitVec 32 := 3#32
  let c0_i32_19 : BitVec 32 := 0#32
  let c1_i32_21 : BitVec 32 := 1#32
  let arg11 : BitVec 32 := Scf.iv c0_i32_19 c1_i32_21 k0_t3
  let v187 : BitVec 32 := Scalar.muli c3_i32_91 arg11
  let v188 : BitVec 32 := Scalar.addi v20 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off9 (i : grid0.Coords) (k0_t3 : Fin (k0_t3_loop i).trips) (c0_i32_95 : BitVec 32) : Fin 4 → Nat :=
  let c0_96 : Index := 0#32
  let arg1 : BitVec 32 := BitVec.ofNat 32 (i 1).val
  let c1_i32_12 : BitVec 32 := 1#32
  let v20 : BitVec 32 := Scalar.addi arg1 c1_i32_12
  let c3_i32_91 : BitVec 32 := 3#32
  let c0_i32_19 : BitVec 32 := 0#32
  let c1_i32_21 : BitVec 32 := 1#32
  let arg11 : BitVec 32 := Scf.iv c0_i32_19 c1_i32_21 k0_t3
  let v187 : BitVec 32 := Scalar.muli c3_i32_91 arg11
  let v188 : BitVec 32 := Scalar.addi v20 v187
  let v198 : BitVec 32 := Scalar.addi v188 c0_i32_95
  let v199 : Index := Scalar.indexCast v198
  let c0_97 : Index := 0#32
  let c0_98 : Index := 0#32
  ![0, v199.toNat, 0, 0]
@[reducible] def k0_t4_loop (i : grid0.Coords) : Scf.Loop 32 :=
  let c0_i32_19 : BitVec 32 := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c1_i32_12 : BitVec 32 := 1#32
  let v20 : BitVec 32 := Scalar.addi arg1 c1_i32_12
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let v40 : BitVec 32 := Scalar.addi c0_i32_19 v39
  let c1_i32_22 : BitVec 32 := 1#32
  ⟨v43, v40, c1_i32_22⟩
def k0_mult4 (i : grid0.Coords) (k0_t4 : Fin (k0_t4_loop i).trips) : BitVec 32 :=
  let arg1 : BitVec 32 := BitVec.ofNat 32 (i 1).val
  let c1_i32_12 : BitVec 32 := 1#32
  let v20 : BitVec 32 := Scalar.addi arg1 c1_i32_12
  let c3_i32_91 : BitVec 32 := 3#32
  let c0_i32_19 : BitVec 32 := 0#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg11 : BitVec 32 := Scf.iv v43 c1_i32_22 k0_t4
  let v187 : BitVec 32 := Scalar.muli c3_i32_91 arg11
  let v188 : BitVec 32 := Scalar.addi v20 v187
  let c640_i32 : BitVec 32 := 640#32
  let v189 : BitVec 32 := Scalar.muli v188 c640_i32
  v189
def k0_off10 (i : grid0.Coords) (k0_t4 : Fin (k0_t4_loop i).trips) : Fin 3 → Nat :=
  let c0_92 : Index := 0#32
  let arg1 : BitVec 32 := BitVec.ofNat 32 (i 1).val
  let c1_i32_12 : BitVec 32 := 1#32
  let v20 : BitVec 32 := Scalar.addi arg1 c1_i32_12
  let c3_i32_91 : BitVec 32 := 3#32
  let c0_i32_19 : BitVec 32 := 0#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg11 : BitVec 32 := Scf.iv v43 c1_i32_22 k0_t4
  let v187 : BitVec 32 := Scalar.muli c3_i32_91 arg11
  let v188 : BitVec 32 := Scalar.addi v20 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off11 (i : grid0.Coords) (k0_t4 : Fin (k0_t4_loop i).trips) : Fin 2 → Nat :=
  let arg1 : BitVec 32 := BitVec.ofNat 32 (i 1).val
  let c1_i32_12 : BitVec 32 := 1#32
  let v20 : BitVec 32 := Scalar.addi arg1 c1_i32_12
  let c3_i32_91 : BitVec 32 := 3#32
  let c0_i32_19 : BitVec 32 := 0#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg11 : BitVec 32 := Scf.iv v43 c1_i32_22 k0_t4
  let v187 : BitVec 32 := Scalar.muli c3_i32_91 arg11
  let v188 : BitVec 32 := Scalar.addi v20 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off12 (i : grid0.Coords) (k0_t4 : Fin (k0_t4_loop i).trips) (c0_i32_95 : BitVec 32) : Fin 4 → Nat :=
  let c0_96 : Index := 0#32
  let arg1 : BitVec 32 := BitVec.ofNat 32 (i 1).val
  let c1_i32_12 : BitVec 32 := 1#32
  let v20 : BitVec 32 := Scalar.addi arg1 c1_i32_12
  let c3_i32_91 : BitVec 32 := 3#32
  let c0_i32_19 : BitVec 32 := 0#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg11 : BitVec 32 := Scf.iv v43 c1_i32_22 k0_t4
  let v187 : BitVec 32 := Scalar.muli c3_i32_91 arg11
  let v188 : BitVec 32 := Scalar.addi v20 v187
  let v198 : BitVec 32 := Scalar.addi v188 c0_i32_95
  let v199 : Index := Scalar.indexCast v198
  let c0_97 : Index := 0#32
  let c0_98 : Index := 0#32
  ![0, v199.toNat, 0, 0]
@[reducible] def k0_t5_loop (i : grid0.Coords) : Scf.Loop 32 :=
  let c0_i32_30 : BitVec 32 := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c1_i32_12 : BitVec 32 := 1#32
  let v20 : BitVec 32 := Scalar.addi arg1 c1_i32_12
  let c3_i32_23 : BitVec 32 := 3#32
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_30
  let c1_i32_31 : BitVec 32 := 1#32
  let v68 : BitVec 32 := Scalar.divsi v66 c1_i32_31
  let v69 : BitVec 32 := Scalar.muli v68 c1_i32_31
  let v70 : BitVec 32 := Scalar.addi c0_i32_30 v69
  let c1_i32_32 : BitVec 32 := 1#32
  ⟨c0_i32_30, v70, c1_i32_32⟩
def k0_mult5 (i : grid0.Coords) (k0_t5 : Fin (k0_t5_loop i).trips) : BitVec 32 :=
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_91 : BitVec 32 := 2#32
  let c0_i32_30 : BitVec 32 := 0#32
  let c1_i32_32 : BitVec 32 := 1#32
  let arg11 : BitVec 32 := Scf.iv c0_i32_30 c1_i32_32 k0_t5
  let v187 : BitVec 32 := Scalar.muli c2_i32_91 arg11
  let v188 : BitVec 32 := Scalar.addi v47 v187
  let c640_i32 : BitVec 32 := 640#32
  let v189 : BitVec 32 := Scalar.muli v188 c640_i32
  v189
def k0_off13 (i : grid0.Coords) (k0_t5 : Fin (k0_t5_loop i).trips) : Fin 3 → Nat :=
  let c0_92 : Index := 0#32
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_91 : BitVec 32 := 2#32
  let c0_i32_30 : BitVec 32 := 0#32
  let c1_i32_32 : BitVec 32 := 1#32
  let arg11 : BitVec 32 := Scf.iv c0_i32_30 c1_i32_32 k0_t5
  let v187 : BitVec 32 := Scalar.muli c2_i32_91 arg11
  let v188 : BitVec 32 := Scalar.addi v47 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off14 (i : grid0.Coords) (k0_t5 : Fin (k0_t5_loop i).trips) : Fin 2 → Nat :=
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_91 : BitVec 32 := 2#32
  let c0_i32_30 : BitVec 32 := 0#32
  let c1_i32_32 : BitVec 32 := 1#32
  let arg11 : BitVec 32 := Scf.iv c0_i32_30 c1_i32_32 k0_t5
  let v187 : BitVec 32 := Scalar.muli c2_i32_91 arg11
  let v188 : BitVec 32 := Scalar.addi v47 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off15 (i : grid0.Coords) (k0_t5 : Fin (k0_t5_loop i).trips) (c0_i32_95 : BitVec 32) : Fin 4 → Nat :=
  let c0_96 : Index := 0#32
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_91 : BitVec 32 := 2#32
  let c0_i32_30 : BitVec 32 := 0#32
  let c1_i32_32 : BitVec 32 := 1#32
  let arg11 : BitVec 32 := Scf.iv c0_i32_30 c1_i32_32 k0_t5
  let v187 : BitVec 32 := Scalar.muli c2_i32_91 arg11
  let v188 : BitVec 32 := Scalar.addi v47 v187
  let v198 : BitVec 32 := Scalar.addi v188 c0_i32_95
  let v199 : Index := Scalar.indexCast v198
  let c0_97 : Index := 0#32
  let c0_98 : Index := 0#32
  ![0, v199.toNat, 0, 0]
@[reducible] def k0_t6_loop (i : grid0.Coords) : Scf.Loop 32 :=
  let c0_i32_30 : BitVec 32 := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c1_i32_12 : BitVec 32 := 1#32
  let v20 : BitVec 32 := Scalar.addi arg1 c1_i32_12
  let c3_i32_23 : BitVec 32 := 3#32
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_30
  let c1_i32_31 : BitVec 32 := 1#32
  let v68 : BitVec 32 := Scalar.divsi v66 c1_i32_31
  let v69 : BitVec 32 := Scalar.muli v68 c1_i32_31
  let v70 : BitVec 32 := Scalar.addi c0_i32_30 v69
  let v67 : BitVec 32 := Scalar.addi c0_i32_30 v66
  let c1_i32_33 : BitVec 32 := 1#32
  ⟨v70, v67, c1_i32_33⟩
def k0_mult6 (i : grid0.Coords) (k0_t6 : Fin (k0_t6_loop i).trips) : BitVec 32 :=
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_91 : BitVec 32 := 2#32
  let c0_i32_30 : BitVec 32 := 0#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_30
  let c1_i32_31 : BitVec 32 := 1#32
  let v68 : BitVec 32 := Scalar.divsi v66 c1_i32_31
  let v69 : BitVec 32 := Scalar.muli v68 c1_i32_31
  let v70 : BitVec 32 := Scalar.addi c0_i32_30 v69
  let c1_i32_33 : BitVec 32 := 1#32
  let arg11 : BitVec 32 := Scf.iv v70 c1_i32_33 k0_t6
  let v187 : BitVec 32 := Scalar.muli c2_i32_91 arg11
  let v188 : BitVec 32 := Scalar.addi v47 v187
  let c640_i32 : BitVec 32 := 640#32
  let v189 : BitVec 32 := Scalar.muli v188 c640_i32
  v189
def k0_off16 (i : grid0.Coords) (k0_t6 : Fin (k0_t6_loop i).trips) : Fin 3 → Nat :=
  let c0_92 : Index := 0#32
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_91 : BitVec 32 := 2#32
  let c0_i32_30 : BitVec 32 := 0#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_30
  let c1_i32_31 : BitVec 32 := 1#32
  let v68 : BitVec 32 := Scalar.divsi v66 c1_i32_31
  let v69 : BitVec 32 := Scalar.muli v68 c1_i32_31
  let v70 : BitVec 32 := Scalar.addi c0_i32_30 v69
  let c1_i32_33 : BitVec 32 := 1#32
  let arg11 : BitVec 32 := Scf.iv v70 c1_i32_33 k0_t6
  let v187 : BitVec 32 := Scalar.muli c2_i32_91 arg11
  let v188 : BitVec 32 := Scalar.addi v47 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off17 (i : grid0.Coords) (k0_t6 : Fin (k0_t6_loop i).trips) : Fin 2 → Nat :=
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_91 : BitVec 32 := 2#32
  let c0_i32_30 : BitVec 32 := 0#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_30
  let c1_i32_31 : BitVec 32 := 1#32
  let v68 : BitVec 32 := Scalar.divsi v66 c1_i32_31
  let v69 : BitVec 32 := Scalar.muli v68 c1_i32_31
  let v70 : BitVec 32 := Scalar.addi c0_i32_30 v69
  let c1_i32_33 : BitVec 32 := 1#32
  let arg11 : BitVec 32 := Scf.iv v70 c1_i32_33 k0_t6
  let v187 : BitVec 32 := Scalar.muli c2_i32_91 arg11
  let v188 : BitVec 32 := Scalar.addi v47 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off18 (i : grid0.Coords) (k0_t6 : Fin (k0_t6_loop i).trips) (c0_i32_95 : BitVec 32) : Fin 4 → Nat :=
  let c0_96 : Index := 0#32
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_91 : BitVec 32 := 2#32
  let c0_i32_30 : BitVec 32 := 0#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_30
  let c1_i32_31 : BitVec 32 := 1#32
  let v68 : BitVec 32 := Scalar.divsi v66 c1_i32_31
  let v69 : BitVec 32 := Scalar.muli v68 c1_i32_31
  let v70 : BitVec 32 := Scalar.addi c0_i32_30 v69
  let c1_i32_33 : BitVec 32 := 1#32
  let arg11 : BitVec 32 := Scf.iv v70 c1_i32_33 k0_t6
  let v187 : BitVec 32 := Scalar.muli c2_i32_91 arg11
  let v188 : BitVec 32 := Scalar.addi v47 v187
  let v198 : BitVec 32 := Scalar.addi v188 c0_i32_95
  let v199 : Index := Scalar.indexCast v198
  let c0_97 : Index := 0#32
  let c0_98 : Index := 0#32
  ![0, v199.toNat, 0, 0]
@[reducible] def k0_t7_loop (i : grid0.Coords) : Scf.Loop 32 :=
  let c0_i32_42 : BitVec 32 := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c1_i32_12 : BitVec 32 := 1#32
  let v20 : BitVec 32 := Scalar.addi arg1 c1_i32_12
  let c3_i32_23 : BitVec 32 := 3#32
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_34 : BitVec 32 := 2#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v73 : BitVec 32 := Scalar.muli c2_i32_34 v65
  let v74 : BitVec 32 := Scalar.addi v47 v73
  let v75 : BitVec 32 := Scalar.subi v19 v74
  let c0_i32_36 : BitVec 32 := 0#32
  let v77 : BitVec 1 := Scalar.cmpi .sgt v75 c0_i32_36
  let v78 : BitVec 32 := Scalar.extui v77
  let c0_i32_37 : BitVec 32 := 0#32
  let v79 : BitVec 1 := Scalar.cmpi .slt v75 c0_i32_37
  let v80 : BitVec 32 := Scalar.extui v79
  let v81 : BitVec 32 := Scalar.subi v78 v80
  let c1_i32_35 : BitVec 32 := 1#32
  let c0_i32_38 : BitVec 32 := 0#32
  let v82 : BitVec 1 := Scalar.cmpi .sgt c1_i32_35 c0_i32_38
  let v83 : BitVec 32 := Scalar.extui v82
  let c0_i32_39 : BitVec 32 := 0#32
  let v84 : BitVec 1 := Scalar.cmpi .slt c1_i32_35 c0_i32_39
  let v85 : BitVec 32 := Scalar.extui v84
  let v86 : BitVec 32 := Scalar.subi v83 v85
  let v87 : BitVec 1 := Scalar.cmpi .ne v81 v86
  let v88 : BitVec 32 := Scalar.remsi v75 c1_i32_35
  let c0_i32_40 : BitVec 32 := 0#32
  let v89 : BitVec 1 := Scalar.cmpi .ne v88 c0_i32_40
  let v90 : BitVec 1 := Scalar.andi v87 v89
  let v76 : BitVec 32 := Scalar.divsi v75 c1_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_44 : BitVec 32 := 1#32
  ⟨c0_i32_42, v97, c1_i32_44⟩
def k0_mult7 (i : grid0.Coords) (k0_t7 : Fin (k0_t7_loop i).trips) : BitVec 32 :=
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_34 : BitVec 32 := 2#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v73 : BitVec 32 := Scalar.muli c2_i32_34 v65
  let v74 : BitVec 32 := Scalar.addi v47 v73
  let c1_i32_91 : BitVec 32 := 1#32
  let c0_i32_42 : BitVec 32 := 0#32
  let c1_i32_44 : BitVec 32 := 1#32
  let arg11 : BitVec 32 := Scf.iv c0_i32_42 c1_i32_44 k0_t7
  let v187 : BitVec 32 := Scalar.muli c1_i32_91 arg11
  let v188 : BitVec 32 := Scalar.addi v74 v187
  let c640_i32 : BitVec 32 := 640#32
  let v189 : BitVec 32 := Scalar.muli v188 c640_i32
  v189
def k0_off19 (i : grid0.Coords) (k0_t7 : Fin (k0_t7_loop i).trips) : Fin 3 → Nat :=
  let c0_92 : Index := 0#32
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_34 : BitVec 32 := 2#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v73 : BitVec 32 := Scalar.muli c2_i32_34 v65
  let v74 : BitVec 32 := Scalar.addi v47 v73
  let c1_i32_91 : BitVec 32 := 1#32
  let c0_i32_42 : BitVec 32 := 0#32
  let c1_i32_44 : BitVec 32 := 1#32
  let arg11 : BitVec 32 := Scf.iv c0_i32_42 c1_i32_44 k0_t7
  let v187 : BitVec 32 := Scalar.muli c1_i32_91 arg11
  let v188 : BitVec 32 := Scalar.addi v74 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off20 (i : grid0.Coords) (k0_t7 : Fin (k0_t7_loop i).trips) : Fin 2 → Nat :=
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_34 : BitVec 32 := 2#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v73 : BitVec 32 := Scalar.muli c2_i32_34 v65
  let v74 : BitVec 32 := Scalar.addi v47 v73
  let c1_i32_91 : BitVec 32 := 1#32
  let c0_i32_42 : BitVec 32 := 0#32
  let c1_i32_44 : BitVec 32 := 1#32
  let arg11 : BitVec 32 := Scf.iv c0_i32_42 c1_i32_44 k0_t7
  let v187 : BitVec 32 := Scalar.muli c1_i32_91 arg11
  let v188 : BitVec 32 := Scalar.addi v74 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off21 (i : grid0.Coords) (k0_t7 : Fin (k0_t7_loop i).trips) : Fin 4 → Nat :=
  let c0_96 : Index := 0#32
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_34 : BitVec 32 := 2#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v73 : BitVec 32 := Scalar.muli c2_i32_34 v65
  let v74 : BitVec 32 := Scalar.addi v47 v73
  let c1_i32_91 : BitVec 32 := 1#32
  let c0_i32_42 : BitVec 32 := 0#32
  let c1_i32_44 : BitVec 32 := 1#32
  let arg11 : BitVec 32 := Scf.iv c0_i32_42 c1_i32_44 k0_t7
  let v187 : BitVec 32 := Scalar.muli c1_i32_91 arg11
  let v188 : BitVec 32 := Scalar.addi v74 v187
  let c0_i32_95 : BitVec 32 := 0#32
  let v198 : BitVec 32 := Scalar.addi v188 c0_i32_95
  let v199 : Index := Scalar.indexCast v198
  let c0_97 : Index := 0#32
  let c0_98 : Index := 0#32
  ![0, v199.toNat, 0, 0]
@[reducible] def k0_t8_loop (i : grid0.Coords) : Scf.Loop 32 :=
  let c0_i32_42 : BitVec 32 := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c1_i32_12 : BitVec 32 := 1#32
  let v20 : BitVec 32 := Scalar.addi arg1 c1_i32_12
  let c3_i32_23 : BitVec 32 := 3#32
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_34 : BitVec 32 := 2#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v73 : BitVec 32 := Scalar.muli c2_i32_34 v65
  let v74 : BitVec 32 := Scalar.addi v47 v73
  let v75 : BitVec 32 := Scalar.subi v19 v74
  let c0_i32_36 : BitVec 32 := 0#32
  let v77 : BitVec 1 := Scalar.cmpi .sgt v75 c0_i32_36
  let v78 : BitVec 32 := Scalar.extui v77
  let c0_i32_37 : BitVec 32 := 0#32
  let v79 : BitVec 1 := Scalar.cmpi .slt v75 c0_i32_37
  let v80 : BitVec 32 := Scalar.extui v79
  let v81 : BitVec 32 := Scalar.subi v78 v80
  let c1_i32_35 : BitVec 32 := 1#32
  let c0_i32_38 : BitVec 32 := 0#32
  let v82 : BitVec 1 := Scalar.cmpi .sgt c1_i32_35 c0_i32_38
  let v83 : BitVec 32 := Scalar.extui v82
  let c0_i32_39 : BitVec 32 := 0#32
  let v84 : BitVec 1 := Scalar.cmpi .slt c1_i32_35 c0_i32_39
  let v85 : BitVec 32 := Scalar.extui v84
  let v86 : BitVec 32 := Scalar.subi v83 v85
  let v87 : BitVec 1 := Scalar.cmpi .ne v81 v86
  let v88 : BitVec 32 := Scalar.remsi v75 c1_i32_35
  let c0_i32_40 : BitVec 32 := 0#32
  let v89 : BitVec 1 := Scalar.cmpi .ne v88 c0_i32_40
  let v90 : BitVec 1 := Scalar.andi v87 v89
  let v76 : BitVec 32 := Scalar.divsi v75 c1_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let v94 : BitVec 32 := Scalar.addi c0_i32_42 v93
  let c1_i32_45 : BitVec 32 := 1#32
  ⟨v97, v94, c1_i32_45⟩
def k0_mult8 (i : grid0.Coords) (k0_t8 : Fin (k0_t8_loop i).trips) : BitVec 32 :=
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_34 : BitVec 32 := 2#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v73 : BitVec 32 := Scalar.muli c2_i32_34 v65
  let v74 : BitVec 32 := Scalar.addi v47 v73
  let c1_i32_91 : BitVec 32 := 1#32
  let c0_i32_42 : BitVec 32 := 0#32
  let v75 : BitVec 32 := Scalar.subi v19 v74
  let c0_i32_36 : BitVec 32 := 0#32
  let v77 : BitVec 1 := Scalar.cmpi .sgt v75 c0_i32_36
  let v78 : BitVec 32 := Scalar.extui v77
  let c0_i32_37 : BitVec 32 := 0#32
  let v79 : BitVec 1 := Scalar.cmpi .slt v75 c0_i32_37
  let v80 : BitVec 32 := Scalar.extui v79
  let v81 : BitVec 32 := Scalar.subi v78 v80
  let c1_i32_35 : BitVec 32 := 1#32
  let c0_i32_38 : BitVec 32 := 0#32
  let v82 : BitVec 1 := Scalar.cmpi .sgt c1_i32_35 c0_i32_38
  let v83 : BitVec 32 := Scalar.extui v82
  let c0_i32_39 : BitVec 32 := 0#32
  let v84 : BitVec 1 := Scalar.cmpi .slt c1_i32_35 c0_i32_39
  let v85 : BitVec 32 := Scalar.extui v84
  let v86 : BitVec 32 := Scalar.subi v83 v85
  let v87 : BitVec 1 := Scalar.cmpi .ne v81 v86
  let v88 : BitVec 32 := Scalar.remsi v75 c1_i32_35
  let c0_i32_40 : BitVec 32 := 0#32
  let v89 : BitVec 1 := Scalar.cmpi .ne v88 c0_i32_40
  let v90 : BitVec 1 := Scalar.andi v87 v89
  let v76 : BitVec 32 := Scalar.divsi v75 c1_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg11 : BitVec 32 := Scf.iv v97 c1_i32_45 k0_t8
  let v187 : BitVec 32 := Scalar.muli c1_i32_91 arg11
  let v188 : BitVec 32 := Scalar.addi v74 v187
  let c640_i32 : BitVec 32 := 640#32
  let v189 : BitVec 32 := Scalar.muli v188 c640_i32
  v189
def k0_off22 (i : grid0.Coords) (k0_t8 : Fin (k0_t8_loop i).trips) : Fin 3 → Nat :=
  let c0_92 : Index := 0#32
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_34 : BitVec 32 := 2#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v73 : BitVec 32 := Scalar.muli c2_i32_34 v65
  let v74 : BitVec 32 := Scalar.addi v47 v73
  let c1_i32_91 : BitVec 32 := 1#32
  let c0_i32_42 : BitVec 32 := 0#32
  let v75 : BitVec 32 := Scalar.subi v19 v74
  let c0_i32_36 : BitVec 32 := 0#32
  let v77 : BitVec 1 := Scalar.cmpi .sgt v75 c0_i32_36
  let v78 : BitVec 32 := Scalar.extui v77
  let c0_i32_37 : BitVec 32 := 0#32
  let v79 : BitVec 1 := Scalar.cmpi .slt v75 c0_i32_37
  let v80 : BitVec 32 := Scalar.extui v79
  let v81 : BitVec 32 := Scalar.subi v78 v80
  let c1_i32_35 : BitVec 32 := 1#32
  let c0_i32_38 : BitVec 32 := 0#32
  let v82 : BitVec 1 := Scalar.cmpi .sgt c1_i32_35 c0_i32_38
  let v83 : BitVec 32 := Scalar.extui v82
  let c0_i32_39 : BitVec 32 := 0#32
  let v84 : BitVec 1 := Scalar.cmpi .slt c1_i32_35 c0_i32_39
  let v85 : BitVec 32 := Scalar.extui v84
  let v86 : BitVec 32 := Scalar.subi v83 v85
  let v87 : BitVec 1 := Scalar.cmpi .ne v81 v86
  let v88 : BitVec 32 := Scalar.remsi v75 c1_i32_35
  let c0_i32_40 : BitVec 32 := 0#32
  let v89 : BitVec 1 := Scalar.cmpi .ne v88 c0_i32_40
  let v90 : BitVec 1 := Scalar.andi v87 v89
  let v76 : BitVec 32 := Scalar.divsi v75 c1_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg11 : BitVec 32 := Scf.iv v97 c1_i32_45 k0_t8
  let v187 : BitVec 32 := Scalar.muli c1_i32_91 arg11
  let v188 : BitVec 32 := Scalar.addi v74 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off23 (i : grid0.Coords) (k0_t8 : Fin (k0_t8_loop i).trips) : Fin 2 → Nat :=
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_34 : BitVec 32 := 2#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v73 : BitVec 32 := Scalar.muli c2_i32_34 v65
  let v74 : BitVec 32 := Scalar.addi v47 v73
  let c1_i32_91 : BitVec 32 := 1#32
  let c0_i32_42 : BitVec 32 := 0#32
  let v75 : BitVec 32 := Scalar.subi v19 v74
  let c0_i32_36 : BitVec 32 := 0#32
  let v77 : BitVec 1 := Scalar.cmpi .sgt v75 c0_i32_36
  let v78 : BitVec 32 := Scalar.extui v77
  let c0_i32_37 : BitVec 32 := 0#32
  let v79 : BitVec 1 := Scalar.cmpi .slt v75 c0_i32_37
  let v80 : BitVec 32 := Scalar.extui v79
  let v81 : BitVec 32 := Scalar.subi v78 v80
  let c1_i32_35 : BitVec 32 := 1#32
  let c0_i32_38 : BitVec 32 := 0#32
  let v82 : BitVec 1 := Scalar.cmpi .sgt c1_i32_35 c0_i32_38
  let v83 : BitVec 32 := Scalar.extui v82
  let c0_i32_39 : BitVec 32 := 0#32
  let v84 : BitVec 1 := Scalar.cmpi .slt c1_i32_35 c0_i32_39
  let v85 : BitVec 32 := Scalar.extui v84
  let v86 : BitVec 32 := Scalar.subi v83 v85
  let v87 : BitVec 1 := Scalar.cmpi .ne v81 v86
  let v88 : BitVec 32 := Scalar.remsi v75 c1_i32_35
  let c0_i32_40 : BitVec 32 := 0#32
  let v89 : BitVec 1 := Scalar.cmpi .ne v88 c0_i32_40
  let v90 : BitVec 1 := Scalar.andi v87 v89
  let v76 : BitVec 32 := Scalar.divsi v75 c1_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg11 : BitVec 32 := Scf.iv v97 c1_i32_45 k0_t8
  let v187 : BitVec 32 := Scalar.muli c1_i32_91 arg11
  let v188 : BitVec 32 := Scalar.addi v74 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off24 (i : grid0.Coords) (k0_t8 : Fin (k0_t8_loop i).trips) : Fin 4 → Nat :=
  let c0_96 : Index := 0#32
  let arg1 : BitVec 32 := BitVec.ofNat 32 (i 1).val
  let c1_i32_12 : BitVec 32 := 1#32
  let v20 : BitVec 32 := Scalar.addi arg1 c1_i32_12
  let c3_i32_23 : BitVec 32 := 3#32
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v21 : BitVec 32 := Scalar.subi v19 v20
  let c0_i32_13 : BitVec 32 := 0#32
  let v23 : BitVec 1 := Scalar.cmpi .sgt v21 c0_i32_13
  let v24 : BitVec 32 := Scalar.extui v23
  let c0_i32_14 : BitVec 32 := 0#32
  let v25 : BitVec 1 := Scalar.cmpi .slt v21 c0_i32_14
  let v26 : BitVec 32 := Scalar.extui v25
  let v27 : BitVec 32 := Scalar.subi v24 v26
  let c3_i32 : BitVec 32 := 3#32
  let c0_i32_15 : BitVec 32 := 0#32
  let v28 : BitVec 1 := Scalar.cmpi .sgt c3_i32 c0_i32_15
  let v29 : BitVec 32 := Scalar.extui v28
  let c0_i32_16 : BitVec 32 := 0#32
  let v30 : BitVec 1 := Scalar.cmpi .slt c3_i32 c0_i32_16
  let v31 : BitVec 32 := Scalar.extui v30
  let v32 : BitVec 32 := Scalar.subi v29 v31
  let v33 : BitVec 1 := Scalar.cmpi .ne v27 v32
  let v34 : BitVec 32 := Scalar.remsi v21 c3_i32
  let c0_i32_17 : BitVec 32 := 0#32
  let v35 : BitVec 1 := Scalar.cmpi .ne v34 c0_i32_17
  let v36 : BitVec 1 := Scalar.andi v33 v35
  let v22 : BitVec 32 := Scalar.divsi v21 c3_i32
  let c1_i32_18 : BitVec 32 := 1#32
  let v37 : BitVec 32 := Scalar.subi v22 c1_i32_18
  let v38 : BitVec 32 := Scalar.select v36 v37 v22
  let v46 : BitVec 32 := Scalar.muli c3_i32_23 v38
  let v47 : BitVec 32 := Scalar.addi v20 v46
  let c2_i32_34 : BitVec 32 := 2#32
  let v48 : BitVec 32 := Scalar.subi v19 v47
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v73 : BitVec 32 := Scalar.muli c2_i32_34 v65
  let v74 : BitVec 32 := Scalar.addi v47 v73
  let c1_i32_91 : BitVec 32 := 1#32
  let c0_i32_42 : BitVec 32 := 0#32
  let v75 : BitVec 32 := Scalar.subi v19 v74
  let c0_i32_36 : BitVec 32 := 0#32
  let v77 : BitVec 1 := Scalar.cmpi .sgt v75 c0_i32_36
  let v78 : BitVec 32 := Scalar.extui v77
  let c0_i32_37 : BitVec 32 := 0#32
  let v79 : BitVec 1 := Scalar.cmpi .slt v75 c0_i32_37
  let v80 : BitVec 32 := Scalar.extui v79
  let v81 : BitVec 32 := Scalar.subi v78 v80
  let c1_i32_35 : BitVec 32 := 1#32
  let c0_i32_38 : BitVec 32 := 0#32
  let v82 : BitVec 1 := Scalar.cmpi .sgt c1_i32_35 c0_i32_38
  let v83 : BitVec 32 := Scalar.extui v82
  let c0_i32_39 : BitVec 32 := 0#32
  let v84 : BitVec 1 := Scalar.cmpi .slt c1_i32_35 c0_i32_39
  let v85 : BitVec 32 := Scalar.extui v84
  let v86 : BitVec 32 := Scalar.subi v83 v85
  let v87 : BitVec 1 := Scalar.cmpi .ne v81 v86
  let v88 : BitVec 32 := Scalar.remsi v75 c1_i32_35
  let c0_i32_40 : BitVec 32 := 0#32
  let v89 : BitVec 1 := Scalar.cmpi .ne v88 c0_i32_40
  let v90 : BitVec 1 := Scalar.andi v87 v89
  let v76 : BitVec 32 := Scalar.divsi v75 c1_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg11 : BitVec 32 := Scf.iv v97 c1_i32_45 k0_t8
  let v187 : BitVec 32 := Scalar.muli c1_i32_91 arg11
  let v188 : BitVec 32 := Scalar.addi v74 v187
  let c0_i32_95 : BitVec 32 := 0#32
  let v198 : BitVec 32 := Scalar.addi v188 c0_i32_95
  let v199 : Index := Scalar.indexCast v198
  let c0_97 : Index := 0#32
  let c0_98 : Index := 0#32
  ![0, v199.toNat, 0, 0]
@[reducible] def k0_t9_loop (i : grid0.Coords) : Scf.Loop 32 :=
  let c0_i32_54 : BitVec 32 := 0#32
  let c13_i32_46 : BitVec 32 := 13#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v118 : BitVec 32 := Scalar.subi v117 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let c1_i32_56 : BitVec 32 := 1#32
  ⟨c0_i32_54, v122, c1_i32_56⟩
def k0_mult9 (i : grid0.Coords) (k0_t9 : Fin (k0_t9_loop i).trips) : BitVec 32 :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_91 : BitVec 32 := 3#32
  let c0_i32_54 : BitVec 32 := 0#32
  let c1_i32_56 : BitVec 32 := 1#32
  let arg11 : BitVec 32 := Scf.iv c0_i32_54 c1_i32_56 k0_t9
  let v187 : BitVec 32 := Scalar.muli c3_i32_91 arg11
  let v188 : BitVec 32 := Scalar.addi v19 v187
  let c640_i32 : BitVec 32 := 640#32
  let v189 : BitVec 32 := Scalar.muli v188 c640_i32
  v189
def k0_off25 (i : grid0.Coords) (k0_t9 : Fin (k0_t9_loop i).trips) : Fin 3 → Nat :=
  let c0_92 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_91 : BitVec 32 := 3#32
  let c0_i32_54 : BitVec 32 := 0#32
  let c1_i32_56 : BitVec 32 := 1#32
  let arg11 : BitVec 32 := Scf.iv c0_i32_54 c1_i32_56 k0_t9
  let v187 : BitVec 32 := Scalar.muli c3_i32_91 arg11
  let v188 : BitVec 32 := Scalar.addi v19 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off26 (i : grid0.Coords) (k0_t9 : Fin (k0_t9_loop i).trips) : Fin 2 → Nat :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_91 : BitVec 32 := 3#32
  let c0_i32_54 : BitVec 32 := 0#32
  let c1_i32_56 : BitVec 32 := 1#32
  let arg11 : BitVec 32 := Scf.iv c0_i32_54 c1_i32_56 k0_t9
  let v187 : BitVec 32 := Scalar.muli c3_i32_91 arg11
  let v188 : BitVec 32 := Scalar.addi v19 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off27 (i : grid0.Coords) (k0_t9 : Fin (k0_t9_loop i).trips) (c0_i32_95 : BitVec 32) : Fin 4 → Nat :=
  let c0_96 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_91 : BitVec 32 := 3#32
  let c0_i32_54 : BitVec 32 := 0#32
  let c1_i32_56 : BitVec 32 := 1#32
  let arg11 : BitVec 32 := Scf.iv c0_i32_54 c1_i32_56 k0_t9
  let v187 : BitVec 32 := Scalar.muli c3_i32_91 arg11
  let v188 : BitVec 32 := Scalar.addi v19 v187
  let v198 : BitVec 32 := Scalar.addi v188 c0_i32_95
  let v199 : Index := Scalar.indexCast v198
  let c0_97 : Index := 0#32
  let c0_98 : Index := 0#32
  ![0, v199.toNat, 0, 0]
@[reducible] def k0_t10_loop (i : grid0.Coords) : Scf.Loop 32 :=
  let c0_i32_54 : BitVec 32 := 0#32
  let c13_i32_46 : BitVec 32 := 13#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v118 : BitVec 32 := Scalar.subi v117 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let v119 : BitVec 32 := Scalar.addi c0_i32_54 v118
  let c1_i32_57 : BitVec 32 := 1#32
  ⟨v122, v119, c1_i32_57⟩
def k0_mult10 (i : grid0.Coords) (k0_t10 : Fin (k0_t10_loop i).trips) : BitVec 32 :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_91 : BitVec 32 := 3#32
  let c0_i32_54 : BitVec 32 := 0#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v118 : BitVec 32 := Scalar.subi v117 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let c1_i32_57 : BitVec 32 := 1#32
  let arg11 : BitVec 32 := Scf.iv v122 c1_i32_57 k0_t10
  let v187 : BitVec 32 := Scalar.muli c3_i32_91 arg11
  let v188 : BitVec 32 := Scalar.addi v19 v187
  let c640_i32 : BitVec 32 := 640#32
  let v189 : BitVec 32 := Scalar.muli v188 c640_i32
  v189
def k0_off28 (i : grid0.Coords) (k0_t10 : Fin (k0_t10_loop i).trips) : Fin 3 → Nat :=
  let c0_92 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_91 : BitVec 32 := 3#32
  let c0_i32_54 : BitVec 32 := 0#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v118 : BitVec 32 := Scalar.subi v117 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let c1_i32_57 : BitVec 32 := 1#32
  let arg11 : BitVec 32 := Scf.iv v122 c1_i32_57 k0_t10
  let v187 : BitVec 32 := Scalar.muli c3_i32_91 arg11
  let v188 : BitVec 32 := Scalar.addi v19 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off29 (i : grid0.Coords) (k0_t10 : Fin (k0_t10_loop i).trips) : Fin 2 → Nat :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_91 : BitVec 32 := 3#32
  let c0_i32_54 : BitVec 32 := 0#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v118 : BitVec 32 := Scalar.subi v117 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let c1_i32_57 : BitVec 32 := 1#32
  let arg11 : BitVec 32 := Scf.iv v122 c1_i32_57 k0_t10
  let v187 : BitVec 32 := Scalar.muli c3_i32_91 arg11
  let v188 : BitVec 32 := Scalar.addi v19 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off30 (i : grid0.Coords) (k0_t10 : Fin (k0_t10_loop i).trips) (c0_i32_95 : BitVec 32) : Fin 4 → Nat :=
  let c0_96 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_91 : BitVec 32 := 3#32
  let c0_i32_54 : BitVec 32 := 0#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v118 : BitVec 32 := Scalar.subi v117 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let c1_i32_57 : BitVec 32 := 1#32
  let arg11 : BitVec 32 := Scf.iv v122 c1_i32_57 k0_t10
  let v187 : BitVec 32 := Scalar.muli c3_i32_91 arg11
  let v188 : BitVec 32 := Scalar.addi v19 v187
  let v198 : BitVec 32 := Scalar.addi v188 c0_i32_95
  let v199 : Index := Scalar.indexCast v198
  let c0_97 : Index := 0#32
  let c0_98 : Index := 0#32
  ![0, v199.toNat, 0, 0]
@[reducible] def k0_t11_loop (i : grid0.Coords) : Scf.Loop 32 :=
  let c0_i32_67 : BitVec 32 := 0#32
  let c13_i32_59 : BitVec 32 := 13#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v145 : BitVec 32 := Scalar.subi v144 c0_i32_67
  let c1_i32_68 : BitVec 32 := 1#32
  let v147 : BitVec 32 := Scalar.divsi v145 c1_i32_68
  let v148 : BitVec 32 := Scalar.muli v147 c1_i32_68
  let v149 : BitVec 32 := Scalar.addi c0_i32_67 v148
  let c1_i32_69 : BitVec 32 := 1#32
  ⟨c0_i32_67, v149, c1_i32_69⟩
def k0_mult11 (i : grid0.Coords) (k0_t11 : Fin (k0_t11_loop i).trips) : BitVec 32 :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_91 : BitVec 32 := 2#32
  let c0_i32_67 : BitVec 32 := 0#32
  let c1_i32_69 : BitVec 32 := 1#32
  let arg11 : BitVec 32 := Scf.iv c0_i32_67 c1_i32_69 k0_t11
  let v187 : BitVec 32 := Scalar.muli c2_i32_91 arg11
  let v188 : BitVec 32 := Scalar.addi v126 v187
  let c640_i32 : BitVec 32 := 640#32
  let v189 : BitVec 32 := Scalar.muli v188 c640_i32
  v189
def k0_off31 (i : grid0.Coords) (k0_t11 : Fin (k0_t11_loop i).trips) : Fin 3 → Nat :=
  let c0_92 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_91 : BitVec 32 := 2#32
  let c0_i32_67 : BitVec 32 := 0#32
  let c1_i32_69 : BitVec 32 := 1#32
  let arg11 : BitVec 32 := Scf.iv c0_i32_67 c1_i32_69 k0_t11
  let v187 : BitVec 32 := Scalar.muli c2_i32_91 arg11
  let v188 : BitVec 32 := Scalar.addi v126 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off32 (i : grid0.Coords) (k0_t11 : Fin (k0_t11_loop i).trips) : Fin 2 → Nat :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_91 : BitVec 32 := 2#32
  let c0_i32_67 : BitVec 32 := 0#32
  let c1_i32_69 : BitVec 32 := 1#32
  let arg11 : BitVec 32 := Scf.iv c0_i32_67 c1_i32_69 k0_t11
  let v187 : BitVec 32 := Scalar.muli c2_i32_91 arg11
  let v188 : BitVec 32 := Scalar.addi v126 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off33 (i : grid0.Coords) (k0_t11 : Fin (k0_t11_loop i).trips) (c0_i32_95 : BitVec 32) : Fin 4 → Nat :=
  let c0_96 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_91 : BitVec 32 := 2#32
  let c0_i32_67 : BitVec 32 := 0#32
  let c1_i32_69 : BitVec 32 := 1#32
  let arg11 : BitVec 32 := Scf.iv c0_i32_67 c1_i32_69 k0_t11
  let v187 : BitVec 32 := Scalar.muli c2_i32_91 arg11
  let v188 : BitVec 32 := Scalar.addi v126 v187
  let v198 : BitVec 32 := Scalar.addi v188 c0_i32_95
  let v199 : Index := Scalar.indexCast v198
  let c0_97 : Index := 0#32
  let c0_98 : Index := 0#32
  ![0, v199.toNat, 0, 0]
@[reducible] def k0_t12_loop (i : grid0.Coords) : Scf.Loop 32 :=
  let c0_i32_67 : BitVec 32 := 0#32
  let c13_i32_59 : BitVec 32 := 13#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v145 : BitVec 32 := Scalar.subi v144 c0_i32_67
  let c1_i32_68 : BitVec 32 := 1#32
  let v147 : BitVec 32 := Scalar.divsi v145 c1_i32_68
  let v148 : BitVec 32 := Scalar.muli v147 c1_i32_68
  let v149 : BitVec 32 := Scalar.addi c0_i32_67 v148
  let v146 : BitVec 32 := Scalar.addi c0_i32_67 v145
  let c1_i32_70 : BitVec 32 := 1#32
  ⟨v149, v146, c1_i32_70⟩
def k0_mult12 (i : grid0.Coords) (k0_t12 : Fin (k0_t12_loop i).trips) : BitVec 32 :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_91 : BitVec 32 := 2#32
  let c0_i32_67 : BitVec 32 := 0#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v145 : BitVec 32 := Scalar.subi v144 c0_i32_67
  let c1_i32_68 : BitVec 32 := 1#32
  let v147 : BitVec 32 := Scalar.divsi v145 c1_i32_68
  let v148 : BitVec 32 := Scalar.muli v147 c1_i32_68
  let v149 : BitVec 32 := Scalar.addi c0_i32_67 v148
  let c1_i32_70 : BitVec 32 := 1#32
  let arg11 : BitVec 32 := Scf.iv v149 c1_i32_70 k0_t12
  let v187 : BitVec 32 := Scalar.muli c2_i32_91 arg11
  let v188 : BitVec 32 := Scalar.addi v126 v187
  let c640_i32 : BitVec 32 := 640#32
  let v189 : BitVec 32 := Scalar.muli v188 c640_i32
  v189
def k0_off34 (i : grid0.Coords) (k0_t12 : Fin (k0_t12_loop i).trips) : Fin 3 → Nat :=
  let c0_92 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_91 : BitVec 32 := 2#32
  let c0_i32_67 : BitVec 32 := 0#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v145 : BitVec 32 := Scalar.subi v144 c0_i32_67
  let c1_i32_68 : BitVec 32 := 1#32
  let v147 : BitVec 32 := Scalar.divsi v145 c1_i32_68
  let v148 : BitVec 32 := Scalar.muli v147 c1_i32_68
  let v149 : BitVec 32 := Scalar.addi c0_i32_67 v148
  let c1_i32_70 : BitVec 32 := 1#32
  let arg11 : BitVec 32 := Scf.iv v149 c1_i32_70 k0_t12
  let v187 : BitVec 32 := Scalar.muli c2_i32_91 arg11
  let v188 : BitVec 32 := Scalar.addi v126 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off35 (i : grid0.Coords) (k0_t12 : Fin (k0_t12_loop i).trips) : Fin 2 → Nat :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_91 : BitVec 32 := 2#32
  let c0_i32_67 : BitVec 32 := 0#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v145 : BitVec 32 := Scalar.subi v144 c0_i32_67
  let c1_i32_68 : BitVec 32 := 1#32
  let v147 : BitVec 32 := Scalar.divsi v145 c1_i32_68
  let v148 : BitVec 32 := Scalar.muli v147 c1_i32_68
  let v149 : BitVec 32 := Scalar.addi c0_i32_67 v148
  let c1_i32_70 : BitVec 32 := 1#32
  let arg11 : BitVec 32 := Scf.iv v149 c1_i32_70 k0_t12
  let v187 : BitVec 32 := Scalar.muli c2_i32_91 arg11
  let v188 : BitVec 32 := Scalar.addi v126 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off36 (i : grid0.Coords) (k0_t12 : Fin (k0_t12_loop i).trips) (c0_i32_95 : BitVec 32) : Fin 4 → Nat :=
  let c0_96 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_91 : BitVec 32 := 2#32
  let c0_i32_67 : BitVec 32 := 0#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v145 : BitVec 32 := Scalar.subi v144 c0_i32_67
  let c1_i32_68 : BitVec 32 := 1#32
  let v147 : BitVec 32 := Scalar.divsi v145 c1_i32_68
  let v148 : BitVec 32 := Scalar.muli v147 c1_i32_68
  let v149 : BitVec 32 := Scalar.addi c0_i32_67 v148
  let c1_i32_70 : BitVec 32 := 1#32
  let arg11 : BitVec 32 := Scf.iv v149 c1_i32_70 k0_t12
  let v187 : BitVec 32 := Scalar.muli c2_i32_91 arg11
  let v188 : BitVec 32 := Scalar.addi v126 v187
  let v198 : BitVec 32 := Scalar.addi v188 c0_i32_95
  let v199 : Index := Scalar.indexCast v198
  let c0_97 : Index := 0#32
  let c0_98 : Index := 0#32
  ![0, v199.toNat, 0, 0]
@[reducible] def k0_t13_loop (i : grid0.Coords) : Scf.Loop 32 :=
  let c0_i32_80 : BitVec 32 := 0#32
  let c13_i32_72 : BitVec 32 := 13#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_71 : BitVec 32 := 2#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v152 : BitVec 32 := Scalar.muli c2_i32_71 v144
  let v153 : BitVec 32 := Scalar.addi v126 v152
  let v154 : BitVec 32 := Scalar.subi c13_i32_72 v153
  let c0_i32_74 : BitVec 32 := 0#32
  let v156 : BitVec 1 := Scalar.cmpi .sgt v154 c0_i32_74
  let v157 : BitVec 32 := Scalar.extui v156
  let c0_i32_75 : BitVec 32 := 0#32
  let v158 : BitVec 1 := Scalar.cmpi .slt v154 c0_i32_75
  let v159 : BitVec 32 := Scalar.extui v158
  let v160 : BitVec 32 := Scalar.subi v157 v159
  let c1_i32_73 : BitVec 32 := 1#32
  let c0_i32_76 : BitVec 32 := 0#32
  let v161 : BitVec 1 := Scalar.cmpi .sgt c1_i32_73 c0_i32_76
  let v162 : BitVec 32 := Scalar.extui v161
  let c0_i32_77 : BitVec 32 := 0#32
  let v163 : BitVec 1 := Scalar.cmpi .slt c1_i32_73 c0_i32_77
  let v164 : BitVec 32 := Scalar.extui v163
  let v165 : BitVec 32 := Scalar.subi v162 v164
  let v166 : BitVec 1 := Scalar.cmpi .ne v160 v165
  let v167 : BitVec 32 := Scalar.remsi v154 c1_i32_73
  let c0_i32_78 : BitVec 32 := 0#32
  let v168 : BitVec 1 := Scalar.cmpi .ne v167 c0_i32_78
  let v169 : BitVec 1 := Scalar.andi v166 v168
  let v155 : BitVec 32 := Scalar.divsi v154 c1_i32_73
  let c1_i32_79 : BitVec 32 := 1#32
  let v170 : BitVec 32 := Scalar.subi v155 c1_i32_79
  let v171 : BitVec 32 := Scalar.select v169 v170 v155
  let v172 : BitVec 32 := Scalar.subi v171 c0_i32_80
  let c1_i32_81 : BitVec 32 := 1#32
  let v174 : BitVec 32 := Scalar.divsi v172 c1_i32_81
  let v175 : BitVec 32 := Scalar.muli v174 c1_i32_81
  let v176 : BitVec 32 := Scalar.addi c0_i32_80 v175
  let c1_i32_82 : BitVec 32 := 1#32
  ⟨c0_i32_80, v176, c1_i32_82⟩
def k0_mult13 (i : grid0.Coords) (k0_t13 : Fin (k0_t13_loop i).trips) : BitVec 32 :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_71 : BitVec 32 := 2#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v152 : BitVec 32 := Scalar.muli c2_i32_71 v144
  let v153 : BitVec 32 := Scalar.addi v126 v152
  let c1_i32_91 : BitVec 32 := 1#32
  let c0_i32_80 : BitVec 32 := 0#32
  let c1_i32_82 : BitVec 32 := 1#32
  let arg11 : BitVec 32 := Scf.iv c0_i32_80 c1_i32_82 k0_t13
  let v187 : BitVec 32 := Scalar.muli c1_i32_91 arg11
  let v188 : BitVec 32 := Scalar.addi v153 v187
  let c640_i32 : BitVec 32 := 640#32
  let v189 : BitVec 32 := Scalar.muli v188 c640_i32
  v189
def k0_off37 (i : grid0.Coords) (k0_t13 : Fin (k0_t13_loop i).trips) : Fin 3 → Nat :=
  let c0_92 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_71 : BitVec 32 := 2#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v152 : BitVec 32 := Scalar.muli c2_i32_71 v144
  let v153 : BitVec 32 := Scalar.addi v126 v152
  let c1_i32_91 : BitVec 32 := 1#32
  let c0_i32_80 : BitVec 32 := 0#32
  let c1_i32_82 : BitVec 32 := 1#32
  let arg11 : BitVec 32 := Scf.iv c0_i32_80 c1_i32_82 k0_t13
  let v187 : BitVec 32 := Scalar.muli c1_i32_91 arg11
  let v188 : BitVec 32 := Scalar.addi v153 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off38 (i : grid0.Coords) (k0_t13 : Fin (k0_t13_loop i).trips) : Fin 2 → Nat :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_71 : BitVec 32 := 2#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v152 : BitVec 32 := Scalar.muli c2_i32_71 v144
  let v153 : BitVec 32 := Scalar.addi v126 v152
  let c1_i32_91 : BitVec 32 := 1#32
  let c0_i32_80 : BitVec 32 := 0#32
  let c1_i32_82 : BitVec 32 := 1#32
  let arg11 : BitVec 32 := Scf.iv c0_i32_80 c1_i32_82 k0_t13
  let v187 : BitVec 32 := Scalar.muli c1_i32_91 arg11
  let v188 : BitVec 32 := Scalar.addi v153 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off39 (i : grid0.Coords) (k0_t13 : Fin (k0_t13_loop i).trips) : Fin 4 → Nat :=
  let c0_96 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_71 : BitVec 32 := 2#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v152 : BitVec 32 := Scalar.muli c2_i32_71 v144
  let v153 : BitVec 32 := Scalar.addi v126 v152
  let c1_i32_91 : BitVec 32 := 1#32
  let c0_i32_80 : BitVec 32 := 0#32
  let c1_i32_82 : BitVec 32 := 1#32
  let arg11 : BitVec 32 := Scf.iv c0_i32_80 c1_i32_82 k0_t13
  let v187 : BitVec 32 := Scalar.muli c1_i32_91 arg11
  let v188 : BitVec 32 := Scalar.addi v153 v187
  let c0_i32_95 : BitVec 32 := 0#32
  let v198 : BitVec 32 := Scalar.addi v188 c0_i32_95
  let v199 : Index := Scalar.indexCast v198
  let c0_97 : Index := 0#32
  let c0_98 : Index := 0#32
  ![0, v199.toNat, 0, 0]
@[reducible] def k0_t14_loop (i : grid0.Coords) : Scf.Loop 32 :=
  let c0_i32_80 : BitVec 32 := 0#32
  let c13_i32_72 : BitVec 32 := 13#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_71 : BitVec 32 := 2#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v152 : BitVec 32 := Scalar.muli c2_i32_71 v144
  let v153 : BitVec 32 := Scalar.addi v126 v152
  let v154 : BitVec 32 := Scalar.subi c13_i32_72 v153
  let c0_i32_74 : BitVec 32 := 0#32
  let v156 : BitVec 1 := Scalar.cmpi .sgt v154 c0_i32_74
  let v157 : BitVec 32 := Scalar.extui v156
  let c0_i32_75 : BitVec 32 := 0#32
  let v158 : BitVec 1 := Scalar.cmpi .slt v154 c0_i32_75
  let v159 : BitVec 32 := Scalar.extui v158
  let v160 : BitVec 32 := Scalar.subi v157 v159
  let c1_i32_73 : BitVec 32 := 1#32
  let c0_i32_76 : BitVec 32 := 0#32
  let v161 : BitVec 1 := Scalar.cmpi .sgt c1_i32_73 c0_i32_76
  let v162 : BitVec 32 := Scalar.extui v161
  let c0_i32_77 : BitVec 32 := 0#32
  let v163 : BitVec 1 := Scalar.cmpi .slt c1_i32_73 c0_i32_77
  let v164 : BitVec 32 := Scalar.extui v163
  let v165 : BitVec 32 := Scalar.subi v162 v164
  let v166 : BitVec 1 := Scalar.cmpi .ne v160 v165
  let v167 : BitVec 32 := Scalar.remsi v154 c1_i32_73
  let c0_i32_78 : BitVec 32 := 0#32
  let v168 : BitVec 1 := Scalar.cmpi .ne v167 c0_i32_78
  let v169 : BitVec 1 := Scalar.andi v166 v168
  let v155 : BitVec 32 := Scalar.divsi v154 c1_i32_73
  let c1_i32_79 : BitVec 32 := 1#32
  let v170 : BitVec 32 := Scalar.subi v155 c1_i32_79
  let v171 : BitVec 32 := Scalar.select v169 v170 v155
  let v172 : BitVec 32 := Scalar.subi v171 c0_i32_80
  let c1_i32_81 : BitVec 32 := 1#32
  let v174 : BitVec 32 := Scalar.divsi v172 c1_i32_81
  let v175 : BitVec 32 := Scalar.muli v174 c1_i32_81
  let v176 : BitVec 32 := Scalar.addi c0_i32_80 v175
  let v173 : BitVec 32 := Scalar.addi c0_i32_80 v172
  let c1_i32_83 : BitVec 32 := 1#32
  ⟨v176, v173, c1_i32_83⟩
def k0_mult14 (i : grid0.Coords) (k0_t14 : Fin (k0_t14_loop i).trips) : BitVec 32 :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_71 : BitVec 32 := 2#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v152 : BitVec 32 := Scalar.muli c2_i32_71 v144
  let v153 : BitVec 32 := Scalar.addi v126 v152
  let c1_i32_91 : BitVec 32 := 1#32
  let c0_i32_80 : BitVec 32 := 0#32
  let c13_i32_72 : BitVec 32 := 13#32
  let v154 : BitVec 32 := Scalar.subi c13_i32_72 v153
  let c0_i32_74 : BitVec 32 := 0#32
  let v156 : BitVec 1 := Scalar.cmpi .sgt v154 c0_i32_74
  let v157 : BitVec 32 := Scalar.extui v156
  let c0_i32_75 : BitVec 32 := 0#32
  let v158 : BitVec 1 := Scalar.cmpi .slt v154 c0_i32_75
  let v159 : BitVec 32 := Scalar.extui v158
  let v160 : BitVec 32 := Scalar.subi v157 v159
  let c1_i32_73 : BitVec 32 := 1#32
  let c0_i32_76 : BitVec 32 := 0#32
  let v161 : BitVec 1 := Scalar.cmpi .sgt c1_i32_73 c0_i32_76
  let v162 : BitVec 32 := Scalar.extui v161
  let c0_i32_77 : BitVec 32 := 0#32
  let v163 : BitVec 1 := Scalar.cmpi .slt c1_i32_73 c0_i32_77
  let v164 : BitVec 32 := Scalar.extui v163
  let v165 : BitVec 32 := Scalar.subi v162 v164
  let v166 : BitVec 1 := Scalar.cmpi .ne v160 v165
  let v167 : BitVec 32 := Scalar.remsi v154 c1_i32_73
  let c0_i32_78 : BitVec 32 := 0#32
  let v168 : BitVec 1 := Scalar.cmpi .ne v167 c0_i32_78
  let v169 : BitVec 1 := Scalar.andi v166 v168
  let v155 : BitVec 32 := Scalar.divsi v154 c1_i32_73
  let c1_i32_79 : BitVec 32 := 1#32
  let v170 : BitVec 32 := Scalar.subi v155 c1_i32_79
  let v171 : BitVec 32 := Scalar.select v169 v170 v155
  let v172 : BitVec 32 := Scalar.subi v171 c0_i32_80
  let c1_i32_81 : BitVec 32 := 1#32
  let v174 : BitVec 32 := Scalar.divsi v172 c1_i32_81
  let v175 : BitVec 32 := Scalar.muli v174 c1_i32_81
  let v176 : BitVec 32 := Scalar.addi c0_i32_80 v175
  let c1_i32_83 : BitVec 32 := 1#32
  let arg11 : BitVec 32 := Scf.iv v176 c1_i32_83 k0_t14
  let v187 : BitVec 32 := Scalar.muli c1_i32_91 arg11
  let v188 : BitVec 32 := Scalar.addi v153 v187
  let c640_i32 : BitVec 32 := 640#32
  let v189 : BitVec 32 := Scalar.muli v188 c640_i32
  v189
def k0_off40 (i : grid0.Coords) (k0_t14 : Fin (k0_t14_loop i).trips) : Fin 3 → Nat :=
  let c0_92 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_71 : BitVec 32 := 2#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v152 : BitVec 32 := Scalar.muli c2_i32_71 v144
  let v153 : BitVec 32 := Scalar.addi v126 v152
  let c1_i32_91 : BitVec 32 := 1#32
  let c0_i32_80 : BitVec 32 := 0#32
  let c13_i32_72 : BitVec 32 := 13#32
  let v154 : BitVec 32 := Scalar.subi c13_i32_72 v153
  let c0_i32_74 : BitVec 32 := 0#32
  let v156 : BitVec 1 := Scalar.cmpi .sgt v154 c0_i32_74
  let v157 : BitVec 32 := Scalar.extui v156
  let c0_i32_75 : BitVec 32 := 0#32
  let v158 : BitVec 1 := Scalar.cmpi .slt v154 c0_i32_75
  let v159 : BitVec 32 := Scalar.extui v158
  let v160 : BitVec 32 := Scalar.subi v157 v159
  let c1_i32_73 : BitVec 32 := 1#32
  let c0_i32_76 : BitVec 32 := 0#32
  let v161 : BitVec 1 := Scalar.cmpi .sgt c1_i32_73 c0_i32_76
  let v162 : BitVec 32 := Scalar.extui v161
  let c0_i32_77 : BitVec 32 := 0#32
  let v163 : BitVec 1 := Scalar.cmpi .slt c1_i32_73 c0_i32_77
  let v164 : BitVec 32 := Scalar.extui v163
  let v165 : BitVec 32 := Scalar.subi v162 v164
  let v166 : BitVec 1 := Scalar.cmpi .ne v160 v165
  let v167 : BitVec 32 := Scalar.remsi v154 c1_i32_73
  let c0_i32_78 : BitVec 32 := 0#32
  let v168 : BitVec 1 := Scalar.cmpi .ne v167 c0_i32_78
  let v169 : BitVec 1 := Scalar.andi v166 v168
  let v155 : BitVec 32 := Scalar.divsi v154 c1_i32_73
  let c1_i32_79 : BitVec 32 := 1#32
  let v170 : BitVec 32 := Scalar.subi v155 c1_i32_79
  let v171 : BitVec 32 := Scalar.select v169 v170 v155
  let v172 : BitVec 32 := Scalar.subi v171 c0_i32_80
  let c1_i32_81 : BitVec 32 := 1#32
  let v174 : BitVec 32 := Scalar.divsi v172 c1_i32_81
  let v175 : BitVec 32 := Scalar.muli v174 c1_i32_81
  let v176 : BitVec 32 := Scalar.addi c0_i32_80 v175
  let c1_i32_83 : BitVec 32 := 1#32
  let arg11 : BitVec 32 := Scf.iv v176 c1_i32_83 k0_t14
  let v187 : BitVec 32 := Scalar.muli c1_i32_91 arg11
  let v188 : BitVec 32 := Scalar.addi v153 v187
  let c640_i32 : BitVec 32 := 640#32
  let v189 : BitVec 32 := Scalar.muli v188 c640_i32
  let v190 : BitVec 32 := v189
  let v191 : Index := Scalar.indexCast v190
  let c0_93 : Index := 0#32
  ![0, v191.toNat, 0]
def k0_off41 (i : grid0.Coords) (k0_t14 : Fin (k0_t14_loop i).trips) : Fin 2 → Nat :=
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_71 : BitVec 32 := 2#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v152 : BitVec 32 := Scalar.muli c2_i32_71 v144
  let v153 : BitVec 32 := Scalar.addi v126 v152
  let c1_i32_91 : BitVec 32 := 1#32
  let c0_i32_80 : BitVec 32 := 0#32
  let c13_i32_72 : BitVec 32 := 13#32
  let v154 : BitVec 32 := Scalar.subi c13_i32_72 v153
  let c0_i32_74 : BitVec 32 := 0#32
  let v156 : BitVec 1 := Scalar.cmpi .sgt v154 c0_i32_74
  let v157 : BitVec 32 := Scalar.extui v156
  let c0_i32_75 : BitVec 32 := 0#32
  let v158 : BitVec 1 := Scalar.cmpi .slt v154 c0_i32_75
  let v159 : BitVec 32 := Scalar.extui v158
  let v160 : BitVec 32 := Scalar.subi v157 v159
  let c1_i32_73 : BitVec 32 := 1#32
  let c0_i32_76 : BitVec 32 := 0#32
  let v161 : BitVec 1 := Scalar.cmpi .sgt c1_i32_73 c0_i32_76
  let v162 : BitVec 32 := Scalar.extui v161
  let c0_i32_77 : BitVec 32 := 0#32
  let v163 : BitVec 1 := Scalar.cmpi .slt c1_i32_73 c0_i32_77
  let v164 : BitVec 32 := Scalar.extui v163
  let v165 : BitVec 32 := Scalar.subi v162 v164
  let v166 : BitVec 1 := Scalar.cmpi .ne v160 v165
  let v167 : BitVec 32 := Scalar.remsi v154 c1_i32_73
  let c0_i32_78 : BitVec 32 := 0#32
  let v168 : BitVec 1 := Scalar.cmpi .ne v167 c0_i32_78
  let v169 : BitVec 1 := Scalar.andi v166 v168
  let v155 : BitVec 32 := Scalar.divsi v154 c1_i32_73
  let c1_i32_79 : BitVec 32 := 1#32
  let v170 : BitVec 32 := Scalar.subi v155 c1_i32_79
  let v171 : BitVec 32 := Scalar.select v169 v170 v155
  let v172 : BitVec 32 := Scalar.subi v171 c0_i32_80
  let c1_i32_81 : BitVec 32 := 1#32
  let v174 : BitVec 32 := Scalar.divsi v172 c1_i32_81
  let v175 : BitVec 32 := Scalar.muli v174 c1_i32_81
  let v176 : BitVec 32 := Scalar.addi c0_i32_80 v175
  let c1_i32_83 : BitVec 32 := 1#32
  let arg11 : BitVec 32 := Scf.iv v176 c1_i32_83 k0_t14
  let v187 : BitVec 32 := Scalar.muli c1_i32_91 arg11
  let v188 : BitVec 32 := Scalar.addi v153 v187
  let c640_i32 : BitVec 32 := 640#32
  let v189 : BitVec 32 := Scalar.muli v188 c640_i32
  let v190 : BitVec 32 := v189
  let v194 : Index := Scalar.indexCast v190
  let c0_94 : Index := 0#32
  ![v194.toNat, 0]
def k0_off42 (i : grid0.Coords) (k0_t14 : Fin (k0_t14_loop i).trips) : Fin 4 → Nat :=
  let c0_96 : Index := 0#32
  let arg1 : BitVec 32 := BitVec.ofNat 32 (i 1).val
  let c0_i32_10 : BitVec 32 := 0#32
  let v17 : BitVec 1 := Scalar.cmpi .eq arg1 c0_i32_10
  let c13_i32 : BitVec 32 := 13#32
  let c1_i32_11 : BitVec 32 := 1#32
  let v18 : BitVec 32 := Scalar.addi arg1 c1_i32_11
  let v19 : BitVec 32 := Scalar.select v17 c13_i32 v18
  let c3_i32_58 : BitVec 32 := 3#32
  let c13_i32_46 : BitVec 32 := 13#32
  let v100 : BitVec 32 := Scalar.subi c13_i32_46 v19
  let c0_i32_48 : BitVec 32 := 0#32
  let v102 : BitVec 1 := Scalar.cmpi .sgt v100 c0_i32_48
  let v103 : BitVec 32 := Scalar.extui v102
  let c0_i32_49 : BitVec 32 := 0#32
  let v104 : BitVec 1 := Scalar.cmpi .slt v100 c0_i32_49
  let v105 : BitVec 32 := Scalar.extui v104
  let v106 : BitVec 32 := Scalar.subi v103 v105
  let c3_i32_47 : BitVec 32 := 3#32
  let c0_i32_50 : BitVec 32 := 0#32
  let v107 : BitVec 1 := Scalar.cmpi .sgt c3_i32_47 c0_i32_50
  let v108 : BitVec 32 := Scalar.extui v107
  let c0_i32_51 : BitVec 32 := 0#32
  let v109 : BitVec 1 := Scalar.cmpi .slt c3_i32_47 c0_i32_51
  let v110 : BitVec 32 := Scalar.extui v109
  let v111 : BitVec 32 := Scalar.subi v108 v110
  let v112 : BitVec 1 := Scalar.cmpi .ne v106 v111
  let v113 : BitVec 32 := Scalar.remsi v100 c3_i32_47
  let c0_i32_52 : BitVec 32 := 0#32
  let v114 : BitVec 1 := Scalar.cmpi .ne v113 c0_i32_52
  let v115 : BitVec 1 := Scalar.andi v112 v114
  let v101 : BitVec 32 := Scalar.divsi v100 c3_i32_47
  let c1_i32_53 : BitVec 32 := 1#32
  let v116 : BitVec 32 := Scalar.subi v101 c1_i32_53
  let v117 : BitVec 32 := Scalar.select v115 v116 v101
  let v125 : BitVec 32 := Scalar.muli c3_i32_58 v117
  let v126 : BitVec 32 := Scalar.addi v19 v125
  let c2_i32_71 : BitVec 32 := 2#32
  let c13_i32_59 : BitVec 32 := 13#32
  let v127 : BitVec 32 := Scalar.subi c13_i32_59 v126
  let c0_i32_61 : BitVec 32 := 0#32
  let v129 : BitVec 1 := Scalar.cmpi .sgt v127 c0_i32_61
  let v130 : BitVec 32 := Scalar.extui v129
  let c0_i32_62 : BitVec 32 := 0#32
  let v131 : BitVec 1 := Scalar.cmpi .slt v127 c0_i32_62
  let v132 : BitVec 32 := Scalar.extui v131
  let v133 : BitVec 32 := Scalar.subi v130 v132
  let c2_i32_60 : BitVec 32 := 2#32
  let c0_i32_63 : BitVec 32 := 0#32
  let v134 : BitVec 1 := Scalar.cmpi .sgt c2_i32_60 c0_i32_63
  let v135 : BitVec 32 := Scalar.extui v134
  let c0_i32_64 : BitVec 32 := 0#32
  let v136 : BitVec 1 := Scalar.cmpi .slt c2_i32_60 c0_i32_64
  let v137 : BitVec 32 := Scalar.extui v136
  let v138 : BitVec 32 := Scalar.subi v135 v137
  let v139 : BitVec 1 := Scalar.cmpi .ne v133 v138
  let v140 : BitVec 32 := Scalar.remsi v127 c2_i32_60
  let c0_i32_65 : BitVec 32 := 0#32
  let v141 : BitVec 1 := Scalar.cmpi .ne v140 c0_i32_65
  let v142 : BitVec 1 := Scalar.andi v139 v141
  let v128 : BitVec 32 := Scalar.divsi v127 c2_i32_60
  let c1_i32_66 : BitVec 32 := 1#32
  let v143 : BitVec 32 := Scalar.subi v128 c1_i32_66
  let v144 : BitVec 32 := Scalar.select v142 v143 v128
  let v152 : BitVec 32 := Scalar.muli c2_i32_71 v144
  let v153 : BitVec 32 := Scalar.addi v126 v152
  let c1_i32_91 : BitVec 32 := 1#32
  let c0_i32_80 : BitVec 32 := 0#32
  let c13_i32_72 : BitVec 32 := 13#32
  let v154 : BitVec 32 := Scalar.subi c13_i32_72 v153
  let c0_i32_74 : BitVec 32 := 0#32
  let v156 : BitVec 1 := Scalar.cmpi .sgt v154 c0_i32_74
  let v157 : BitVec 32 := Scalar.extui v156
  let c0_i32_75 : BitVec 32 := 0#32
  let v158 : BitVec 1 := Scalar.cmpi .slt v154 c0_i32_75
  let v159 : BitVec 32 := Scalar.extui v158
  let v160 : BitVec 32 := Scalar.subi v157 v159
  let c1_i32_73 : BitVec 32 := 1#32
  let c0_i32_76 : BitVec 32 := 0#32
  let v161 : BitVec 1 := Scalar.cmpi .sgt c1_i32_73 c0_i32_76
  let v162 : BitVec 32 := Scalar.extui v161
  let c0_i32_77 : BitVec 32 := 0#32
  let v163 : BitVec 1 := Scalar.cmpi .slt c1_i32_73 c0_i32_77
  let v164 : BitVec 32 := Scalar.extui v163
  let v165 : BitVec 32 := Scalar.subi v162 v164
  let v166 : BitVec 1 := Scalar.cmpi .ne v160 v165
  let v167 : BitVec 32 := Scalar.remsi v154 c1_i32_73
  let c0_i32_78 : BitVec 32 := 0#32
  let v168 : BitVec 1 := Scalar.cmpi .ne v167 c0_i32_78
  let v169 : BitVec 1 := Scalar.andi v166 v168
  let v155 : BitVec 32 := Scalar.divsi v154 c1_i32_73
  let c1_i32_79 : BitVec 32 := 1#32
  let v170 : BitVec 32 := Scalar.subi v155 c1_i32_79
  let v171 : BitVec 32 := Scalar.select v169 v170 v155
  let v172 : BitVec 32 := Scalar.subi v171 c0_i32_80
  let c1_i32_81 : BitVec 32 := 1#32
  let v174 : BitVec 32 := Scalar.divsi v172 c1_i32_81
  let v175 : BitVec 32 := Scalar.muli v174 c1_i32_81
  let v176 : BitVec 32 := Scalar.addi c0_i32_80 v175
  let c1_i32_83 : BitVec 32 := 1#32
  let arg11 : BitVec 32 := Scf.iv v176 c1_i32_83 k0_t14
  let v187 : BitVec 32 := Scalar.muli c1_i32_91 arg11
  let v188 : BitVec 32 := Scalar.addi v153 v187
  let c0_i32_95 : BitVec 32 := 0#32
  let v198 : BitVec 32 := Scalar.addi v188 c0_i32_95
  let v199 : Index := Scalar.indexCast v198
  let c0_97 : Index := 0#32
  let c0_98 : Index := 0#32
  ![0, v199.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8320x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8320x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x13x1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x13x1x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8320x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x640x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "ln2" => some ((Real.log 2 : ℝ) : EReal)
  | "mask" => some ⊥
  | _ => none
-- ==== AttnRefIdeal.lean ====
abbrev S8208x8x192 : Shape := ⟨3, ![8208, 8, 192]⟩
abbrev S8208x8x128 : Shape := ⟨3, ![8208, 8, 128]⟩
abbrev S8208x1024 : Shape := ⟨2, ![8208, 1024]⟩
abbrev S_ : Shape := ⟨0, ![]⟩
abbrev S8x8208x8208 : Shape := ⟨3, ![8, 8208, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S8x8208 : Shape := ⟨2, ![8, 8208]⟩
abbrev S8x8208x1 : Shape := ⟨3, ![8, 8208, 1]⟩
abbrev S8x128x8208 : Shape := ⟨3, ![8, 128, 8208]⟩
abbrev S8x8208x192 : Shape := ⟨3, ![8, 8208, 192]⟩
abbrev S8208x8x64 : Shape := ⟨3, ![8208, 8, 64]⟩
abbrev S8208x8x256 : Shape := ⟨3, ![8208, 8, 256]⟩
abbrev S112x8x256 : Shape := ⟨3, ![112, 8, 256]⟩
abbrev S8320x8x256 : Shape := ⟨3, ![8320, 8, 256]⟩
abbrev S8x8320x256 : Shape := ⟨3, ![8, 8320, 256]⟩
abbrev S112x8x128 : Shape := ⟨3, ![112, 8, 128]⟩
abbrev S8320x8x128 : Shape := ⟨3, ![8320, 8, 128]⟩
abbrev S8x8320x128 : Shape := ⟨3, ![8, 8320, 128]⟩

abbrev nBuf : Space → Nat
  | .hbm => 106
  | .vmem => 0
  | .smem => 0
  | _ => 0

abbrev bufTy : (tb : Table) → Fin (tcTables nBuf tb) → BufTy
  | .hbm, ⟨0, _⟩ => ⟨S8208x8x192, .f32⟩
  | .hbm, ⟨1, _⟩ => ⟨S8208x8x192, .f32⟩
  | .hbm, ⟨2, _⟩ => ⟨S8208x8x128, .f32⟩
  | .hbm, ⟨3, _⟩ => ⟨S8208x1024, .f32⟩
  | .hbm, ⟨4, _⟩ => ⟨S_, .f32⟩
  | .hbm, ⟨5, _⟩ => ⟨S8208x8x192, .f32⟩
  | .hbm, ⟨6, _⟩ => ⟨S8208x8x192, .f32⟩
  | .hbm, ⟨7, _⟩ => ⟨S8x8208x8208, .f32⟩
  | .hbm, ⟨8, _⟩ => ⟨S8208, .i32⟩
  | .hbm, ⟨9, _⟩ => ⟨S1x8208, .i32⟩
  | .hbm, ⟨10, _⟩ => ⟨S8208x1, .i32⟩
  | .hbm, ⟨11, _⟩ => ⟨S8208x8208, .i32⟩
  | .hbm, ⟨12, _⟩ => ⟨S8208x8208, .i32⟩
  | .hbm, ⟨13, _⟩ => ⟨S8208x8208, .i1⟩
  | .hbm, ⟨14, _⟩ => ⟨S_, .f32⟩
  | .hbm, ⟨15, _⟩ => ⟨S_, .f32⟩
  | .hbm, ⟨16, _⟩ => ⟨S8x8208x8208, .i1⟩
  | .hbm, ⟨17, _⟩ => ⟨S8x8208x8208, .f32⟩
  | .hbm, ⟨18, _⟩ => ⟨S8x8208x8208, .f32⟩
  | .hbm, ⟨19, _⟩ => ⟨S_, .f32⟩
  | .hbm, ⟨20, _⟩ => ⟨S8x8208x8208, .f32⟩
  | .hbm, ⟨21, _⟩ => ⟨S_, .f32⟩
  | .hbm, ⟨22, _⟩ => ⟨S8x8208, .f32⟩
  | .hbm, ⟨23, _⟩ => ⟨S8x8208x1, .f32⟩
  | .hbm, ⟨24, _⟩ => ⟨S8x8208x8208, .f32⟩
  | .hbm, ⟨25, _⟩ => ⟨S8x8208x8208, .i1⟩
  | .hbm, ⟨26, _⟩ => ⟨S8x8208x8208, .f32⟩
  | .hbm, ⟨27, _⟩ => ⟨S_, .f32⟩
  | .hbm, ⟨28, _⟩ => ⟨S8x8208, .f32⟩
  | .hbm, ⟨29, _⟩ => ⟨S_, .f32⟩
  | .hbm, ⟨30, _⟩ => ⟨S8x8208, .f32⟩
  | .hbm, ⟨31, _⟩ => ⟨S8x8208, .f32⟩
  | .hbm, ⟨32, _⟩ => ⟨S_, .f32⟩
  | .hbm, ⟨33, _⟩ => ⟨S8x8208, .f32⟩
  | .hbm, ⟨34, _⟩ => ⟨S8x8208, .i1⟩
  | .hbm, ⟨35, _⟩ => ⟨S_, .f32⟩
  | .hbm, ⟨36, _⟩ => ⟨S8x8208, .f32⟩
  | .hbm, ⟨37, _⟩ => ⟨S8x8208, .i1⟩
  | .hbm, ⟨38, _⟩ => ⟨S_, .f32⟩
  | .hbm, ⟨39, _⟩ => ⟨S8x8208, .f32⟩
  | .hbm, ⟨40, _⟩ => ⟨S_, .f32⟩
  | .hbm, ⟨41, _⟩ => ⟨S8x8208, .f32⟩
  | .hbm, ⟨42, _⟩ => ⟨S_, .f32⟩
  | .hbm, ⟨43, _⟩ => ⟨S8x8208, .f32⟩
  | .hbm, ⟨44, _⟩ => ⟨S8x8208, .f32⟩
  | .hbm, ⟨45, _⟩ => ⟨S8x8208, .f32⟩
  | .hbm, ⟨46, _⟩ => ⟨S8x8208x1, .f32⟩
  | .hbm, ⟨47, _⟩ => ⟨S8x8208x8208, .f32⟩
  | .hbm, ⟨48, _⟩ => ⟨S8x8208x8208, .f32⟩
  | .hbm, ⟨49, _⟩ => ⟨S8x8208x8208, .f32⟩
  | .hbm, ⟨50, _⟩ => ⟨S_, .f32⟩
  | .hbm, ⟨51, _⟩ => ⟨S8x8208, .f32⟩
  | .hbm, ⟨52, _⟩ => ⟨S8x8208x1, .f32⟩
  | .hbm, ⟨53, _⟩ => ⟨S8x8208x8208, .f32⟩
  | .hbm, ⟨54, _⟩ => ⟨S8x8208x8208, .f32⟩
  | .hbm, ⟨55, _⟩ => ⟨S8x8208x1, .f32⟩
  | .hbm, ⟨56, _⟩ => ⟨S_, .f32⟩
  | .hbm, ⟨57, _⟩ => ⟨S8x8208x1, .f32⟩
  | .hbm, ⟨58, _⟩ => ⟨S8x8208x1, .f32⟩
  | .hbm, ⟨59, _⟩ => ⟨S8x128x8208, .f32⟩
  | .hbm, ⟨60, _⟩ => ⟨S8208x8x128, .f32⟩
  | .hbm, ⟨61, _⟩ => ⟨S8208x1024, .f32⟩
  | .hbm, ⟨62, _⟩ => ⟨S8208x8x128, .f32⟩
  | .hbm, ⟨63, _⟩ => ⟨S8x128x8208, .f32⟩
  | .hbm, ⟨64, _⟩ => ⟨S8x8208x8208, .f32⟩
  | .hbm, ⟨65, _⟩ => ⟨S8x128x8208, .f32⟩
  | .hbm, ⟨66, _⟩ => ⟨S8208x8x128, .f32⟩
  | .hbm, ⟨67, _⟩ => ⟨S8x8208x8208, .f32⟩
  | .hbm, ⟨68, _⟩ => ⟨S8x8208x8208, .f32⟩
  | .hbm, ⟨69, _⟩ => ⟨S8x8208x8208, .f32⟩
  | .hbm, ⟨70, _⟩ => ⟨S_, .f32⟩
  | .hbm, ⟨71, _⟩ => ⟨S8x8208, .f32⟩
  | .hbm, ⟨72, _⟩ => ⟨S8x8208x1, .f32⟩
  | .hbm, ⟨73, _⟩ => ⟨S8x8208x1, .f32⟩
  | .hbm, ⟨74, _⟩ => ⟨S8x8208x8208, .f32⟩
  | .hbm, ⟨75, _⟩ => ⟨S8x8208x8208, .f32⟩
  | .hbm, ⟨76, _⟩ => ⟨S_, .f32⟩
  | .hbm, ⟨77, _⟩ => ⟨S8x8208, .f32⟩
  | .hbm, ⟨78, _⟩ => ⟨S8x8208x8208, .f32⟩
  | .hbm, ⟨79, _⟩ => ⟨S8x8208x8208, .f32⟩
  | .hbm, ⟨80, _⟩ => ⟨S8x8208x8208, .f32⟩
  | .hbm, ⟨81, _⟩ => ⟨S_, .f32⟩
  | .hbm, ⟨82, _⟩ => ⟨S8x8208x8208, .f32⟩
  | .hbm, ⟨83, _⟩ => ⟨S8x8208x8208, .f32⟩
  | .hbm, ⟨84, _⟩ => ⟨S8x8208x192, .f32⟩
  | .hbm, ⟨85, _⟩ => ⟨S8208x8x192, .f32⟩
  | .hbm, ⟨86, _⟩ => ⟨S8x8208x192, .f32⟩
  | .hbm, ⟨87, _⟩ => ⟨S8208x8x192, .f32⟩
  | .hbm, ⟨88, _⟩ => ⟨S_, .f32⟩
  | .hbm, ⟨89, _⟩ => ⟨S8208x8x64, .f32⟩
  | .hbm, ⟨90, _⟩ => ⟨S8208x8x256, .f32⟩
  | .hbm, ⟨91, _⟩ => ⟨S_, .f32⟩
  | .hbm, ⟨92, _⟩ => ⟨S112x8x256, .f32⟩
  | .hbm, ⟨93, _⟩ => ⟨S8320x8x256, .f32⟩
  | .hbm, ⟨94, _⟩ => ⟨S8x8320x256, .f32⟩
  | .hbm, ⟨95, _⟩ => ⟨S_, .f32⟩
  | .hbm, ⟨96, _⟩ => ⟨S8208x8x64, .f32⟩
  | .hbm, ⟨97, _⟩ => ⟨S8208x8x256, .f32⟩
  | .hbm, ⟨98, _⟩ => ⟨S_, .f32⟩
  | .hbm, ⟨99, _⟩ => ⟨S112x8x256, .f32⟩
  | .hbm, ⟨100, _⟩ => ⟨S8320x8x256, .f32⟩
  | .hbm, ⟨101, _⟩ => ⟨S8x8320x256, .f32⟩
  | .hbm, ⟨102, _⟩ => ⟨S_, .f32⟩
  | .hbm, ⟨103, _⟩ => ⟨S112x8x128, .f32⟩
  | .hbm, ⟨104, _⟩ => ⟨S8320x8x128, .f32⟩
  | .hbm, ⟨105, _⟩ => ⟨S8x8320x128, .f32⟩
  | _, _ => ⟨S8208x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_17 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Inproj.lean ====
abbrev S8208x1024 : Shape := ⟨2, ![8208, 1024]⟩
abbrev S1024 : Shape := ⟨1, ![1024]⟩
abbrev S1024x3280 : Shape := ⟨2, ![1024, 3280]⟩
abbrev S8208x3280 : Shape := ⟨2, ![8208, 3280]⟩
abbrev S1024x704 : Shape := ⟨2, ![1024, 704]⟩
abbrev S_ : Shape := ⟨0, ![]⟩
abbrev S1024x64 : Shape := ⟨2, ![1024, 64]⟩
abbrev S1024x2576 : Shape := ⟨2, ![1024, 2576]⟩
abbrev S1024x112 : Shape := ⟨2, ![1024, 112]⟩
abbrev S1024x3456 : Shape := ⟨2, ![1024, 3456]⟩
abbrev S8208x704 : Shape := ⟨2, ![8208, 704]⟩
abbrev S8208x64 : Shape := ⟨2, ![8208, 64]⟩
abbrev S8208x768 : Shape := ⟨2, ![8208, 768]⟩
abbrev S8208x1536 : Shape := ⟨2, ![8208, 1536]⟩
abbrev S8208x16 : Shape := ⟨2, ![8208, 16]⟩
abbrev S8208x112 : Shape := ⟨2, ![8208, 112]⟩
abbrev S8208x128 : Shape := ⟨2, ![8208, 128]⟩
abbrev S112x768 : Shape := ⟨2, ![112, 768]⟩
abbrev S8320x768 : Shape := ⟨2, ![8320, 768]⟩
abbrev S112x1024 : Shape := ⟨2, ![112, 1024]⟩
abbrev S8320x1024 : Shape := ⟨2, ![8320, 1024]⟩
abbrev S112x1536 : Shape := ⟨2, ![112, 1536]⟩
abbrev S8320x1536 : Shape := ⟨2, ![8320, 1536]⟩
abbrev S112x128 : Shape := ⟨2, ![112, 128]⟩
abbrev S8320x128 : Shape := ⟨2, ![8320, 128]⟩
abbrev S1x1024 : Shape := ⟨2, ![1, 1024]⟩
abbrev S320x768 : Shape := ⟨2, ![320, 768]⟩
abbrev S320x1024 : Shape := ⟨2, ![320, 1024]⟩
abbrev S320x1536 : Shape := ⟨2, ![320, 1536]⟩
abbrev S320x128 : Shape := ⟨2, ![320, 128]⟩
abbrev S1024x768 : Shape := ⟨2, ![1024, 768]⟩
abbrev S1024x1024 : Shape := ⟨2, ![1024, 1024]⟩
abbrev S1024x1536 : Shape := ⟨2, ![1024, 1536]⟩
abbrev S1024x128 : Shape := ⟨2, ![1024, 128]⟩
abbrev S320 : Shape := ⟨1, ![320]⟩
abbrev S320x1 : Shape := ⟨2, ![320, 1]⟩

abbrev nBuf : Space → Nat
  | .hbm => 44
  | .vmem => 17
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x3280, .f32⟩
  | .hbm, ⟨3, _⟩ => ⟨S8208x1024, .f32⟩
  | .hbm, ⟨4, _⟩ => ⟨S8208x3280, .f32⟩
  | .hbm, ⟨5, _⟩ => ⟨S1024x704, .f32⟩
  | .hbm, ⟨6, _⟩ => ⟨S_, .f32⟩
  | .hbm, ⟨7, _⟩ => ⟨S1024x64, .f32⟩
  | .hbm, ⟨8, _⟩ => ⟨S1024x2576, .f32⟩
  | .hbm, ⟨9, _⟩ => ⟨S_, .f32⟩
  | .hbm, ⟨10, _⟩ => ⟨S1024x112, .f32⟩
  | .hbm, ⟨11, _⟩ => ⟨S1024x3456, .f32⟩
  | .hbm, ⟨12, _⟩ => ⟨S1024x3456, .bf16⟩
  | .hbm, ⟨13, _⟩ => ⟨S8208x704, .f32⟩
  | .hbm, ⟨14, _⟩ => ⟨S_, .f32⟩
  | .hbm, ⟨15, _⟩ => ⟨S8208x64, .f32⟩
  | .hbm, ⟨16, _⟩ => ⟨S8208x768, .f32⟩
  | .hbm, ⟨17, _⟩ => ⟨S8208x1024, .f32⟩
  | .hbm, ⟨18, _⟩ => ⟨S8208x1536, .f32⟩
  | .hbm, ⟨19, _⟩ => ⟨S8208x16, .f32⟩
  | .hbm, ⟨20, _⟩ => ⟨S_, .f32⟩
  | .hbm, ⟨21, _⟩ => ⟨S8208x112, .f32⟩
  | .hbm, ⟨22, _⟩ => ⟨S8208x128, .f32⟩
  | .hbm, ⟨23, _⟩ => ⟨S_, .f32⟩
  | .hbm, ⟨24, _⟩ => ⟨S112x768, .f32⟩
  | .hbm, ⟨25, _⟩ => ⟨S8320x768, .f32⟩
  | .hbm, ⟨26, _⟩ => ⟨S_, .f32⟩
  | .hbm, ⟨27, _⟩ => ⟨S112x1024, .f32⟩
  | .hbm, ⟨28, _⟩ => ⟨S8320x1024, .f32⟩
  | .hbm, ⟨29, _⟩ => ⟨S_, .f32⟩
  | .hbm, ⟨30, _⟩ => ⟨S112x1536, .f32⟩
  | .hbm, ⟨31, _⟩ => ⟨S8320x1536, .f32⟩
  | .hbm, ⟨32, _⟩ => ⟨S_, .f32⟩
  | .hbm, ⟨33, _⟩ => ⟨S112x128, .f32⟩
  | .hbm, ⟨34, _⟩ => ⟨S8320x128, .f32⟩
  | .hbm, ⟨35, _⟩ => ⟨S_, .f32⟩
  | .hbm, ⟨36, _⟩ => ⟨S112x1024, .f32⟩
  | .hbm, ⟨37, _⟩ => ⟨S8320x1024, .f32⟩
  | .hbm, ⟨38, _⟩ => ⟨S1x1024, .f32⟩
  | .hbm, ⟨39, _⟩ => ⟨S_, .f32⟩
  | .hbm, ⟨40, _⟩ => ⟨S112x1024, .f32⟩
  | .hbm, ⟨41, _⟩ => ⟨S8320x1024, .f32⟩
  | .hbm, ⟨42, _⟩ => ⟨S8320x1024, .f32⟩
  | .hbm, ⟨43, _⟩ => ⟨S1x1024, .f32⟩
  | .local _ .vmem, ⟨0, _⟩ => ⟨S320x768, .f32⟩
  | .local _ .vmem, ⟨1, _⟩ => ⟨S320x768, .f32⟩
  | .local _ .vmem, ⟨2, _⟩ => ⟨S320x1024, .f32⟩
  | .local _ .vmem, ⟨3, _⟩ => ⟨S320x1024, .f32⟩
  | .local _ .vmem, ⟨4, _⟩ => ⟨S320x1536, .f32⟩
  | .local _ .vmem, ⟨5, _⟩ => ⟨S320x1536, .f32⟩
  | .local _ .vmem, ⟨6, _⟩ => ⟨S320x128, .f32⟩
  | .local _ .vmem, ⟨7, _⟩ => ⟨S320x128, .f32⟩
  | .local _ .vmem, ⟨8, _⟩ => ⟨S1024x3456, .bf16⟩
  | .local _ .vmem, ⟨9, _⟩ => ⟨S320x1024, .f32⟩
  | .local _ .vmem, ⟨10, _⟩ => ⟨S320x1024, .f32⟩
  | .local _ .vmem, ⟨11, _⟩ => ⟨S1x1024, .f32⟩
  | .local _ .vmem, ⟨12, _⟩ => ⟨S320x1024, .f32⟩
  | .local _ .vmem, ⟨13, _⟩ => ⟨S320x1024, .f32⟩
  | .local _ .vmem, ⟨14, _⟩ => ⟨S320x1024, .f32⟩
  | .local _ .vmem, ⟨15, _⟩ => ⟨S320x1024, .f32⟩
  | .local _ .vmem, ⟨16, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_30 : BitVec 32 := 0#32
  let v64 : BitVec 1 := Scalar.cmpi .ne v63 c0_i32_30
  v64

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v65 : BitVec 1 := Scalar.xori v62 v_true
  let v66 : BitVec 32 := Scalar.extui v65
  let c0_i32_31 : BitVec 32 := 0#32
  let v67 : BitVec 1 := Scalar.cmpi .ne v66 c0_i32_31
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InprojRefIdeal.lean ====
abbrev S8208x1024 : Shape := ⟨2, ![8208, 1024]⟩
abbrev S1024 : Shape := ⟨1, ![1024]⟩
abbrev S1024x3280 : Shape := ⟨2, ![1024, 3280]⟩
abbrev S8208x3280 : Shape := ⟨2, ![8208, 3280]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S3280x1024 : Shape := ⟨2, ![3280, 1024]⟩
abbrev S112x1024 : Shape := ⟨2, ![112, 1024]⟩
abbrev S8320x1024 : Shape := ⟨2, ![8320, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x3280, .f32⟩
  | .hbm, ⟨3, _⟩ => ⟨S8208x1024, .f32⟩
  | .hbm, ⟨4, _⟩ => ⟨S8208x3280, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x3280, .f32⟩
  | .hbm, ⟨26, _⟩ => ⟨S3280x1024, .f32⟩
  | .hbm, ⟨27, _⟩ => ⟨S1024x3280, .f32⟩
  | .hbm, ⟨28, _⟩ => ⟨S8208x1024, .f32⟩
  | .hbm, ⟨29, _⟩ => ⟨S8208x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8208x1024, .f32⟩
  | .hbm, ⟨34, _⟩ => ⟨S8208x1024, .f32⟩
  | .hbm, ⟨35, _⟩ => ⟨S_, .f32⟩
  | .hbm, ⟨36, _⟩ => ⟨S1024, .f32⟩
  | .hbm, ⟨37, _⟩ => ⟨S8208x1024, .f32⟩
  | .hbm, ⟨38, _⟩ => ⟨S_, .f32⟩
  | .hbm, ⟨39, _⟩ => ⟨S8208, .f32⟩
  | .hbm, ⟨40, _⟩ => ⟨S8208x1, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S8208x1, .f32⟩
  | .hbm, ⟨45, _⟩ => ⟨S_, .f32⟩
  | .hbm, ⟨46, _⟩ => ⟨S8208x1, .f32⟩
  | .hbm, ⟨47, _⟩ => ⟨S8208x1, .f32⟩
  | .hbm, ⟨48, _⟩ => ⟨S_, .f32⟩
  | .hbm, ⟨49, _⟩ => ⟨S8208, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S8208x1024, .f32⟩
  | .hbm, ⟨54, _⟩ => ⟨S8208x1024, .f32⟩
  | .hbm, ⟨55, _⟩ => ⟨S_, .f32⟩
  | .hbm, ⟨56, _⟩ => ⟨S112x1024, .f32⟩
  | .hbm, ⟨57, _⟩ => ⟨S8320x1024, .f32⟩
  | .hbm, ⟨58, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Mixout.lean ====
abbrev S8208x1024 : Shape := ⟨2, ![8208, 1024]⟩
abbrev S1024 : Shape := ⟨1, ![1024]⟩
abbrev S2048x1024 : Shape := ⟨2, ![2048, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x2048 : Shape := ⟨2, ![8208, 2048]⟩
abbrev S112x1024 : Shape := ⟨2, ![112, 1024]⟩
abbrev S8320x1024 : Shape := ⟨2, ![8320, 1024]⟩
abbrev S8x8320 : Shape := ⟨2, ![8, 8320]⟩
abbrev S640x1024 : Shape := ⟨2, ![640, 1024]⟩
abbrev S8x640 : Shape := ⟨2, ![8, 640]⟩
abbrev S640 : Shape := ⟨1, ![640]⟩
abbrev S640x1 : Shape := ⟨2, ![640, 1]⟩
abbrev S1024x1024 : Shape := ⟨2, ![1024, 1024]⟩
abbrev S1x128 : Shape := ⟨2, ![1, 128]⟩
abbrev S640x128 : Shape := ⟨2, ![640, 128]⟩
abbrev S128x640 : Shape := ⟨2, ![128, 640]⟩

abbrev nBuf : Space → Nat
  | .hbm => 42
  | .vmem => 19
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S8208x1024, .f32⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1024, .f32⟩
  | .hbm, ⟨18, _⟩ => ⟨S8208x1024, .f32⟩
  | .hbm, ⟨19, _⟩ => ⟨S1x1024, .f32⟩
  | .hbm, ⟨20, _⟩ => ⟨S8208x1024, .f32⟩
  | .hbm, ⟨21, _⟩ => ⟨S8208x1024, .f32⟩
  | .hbm, ⟨22, _⟩ => ⟨S8208x2048, .f32⟩
  | .hbm, ⟨23, _⟩ => ⟨S8208x1024, .f32⟩
  | .hbm, ⟨24, _⟩ => ⟨S_, .f32⟩
  | .hbm, ⟨25, _⟩ => ⟨S112x1024, .f32⟩
  | .hbm, ⟨26, _⟩ => ⟨S8320x1024, .f32⟩
  | .hbm, ⟨27, _⟩ => ⟨S1x1024, .f32⟩
  | .hbm, ⟨28, _⟩ => ⟨S_, .f32⟩
  | .hbm, ⟨29, _⟩ => ⟨S112x1024, .f32⟩
  | .hbm, ⟨30, _⟩ => ⟨S8320x1024, .f32⟩
  | .hbm, ⟨31, _⟩ => ⟨S_, .f32⟩
  | .hbm, ⟨32, _⟩ => ⟨S112x1024, .f32⟩
  | .hbm, ⟨33, _⟩ => ⟨S8320x1024, .f32⟩
  | .hbm, ⟨34, _⟩ => ⟨S1x1024, .f32⟩
  | .hbm, ⟨35, _⟩ => ⟨S2048x1024, .bf16⟩
  | .hbm, ⟨36, _⟩ => ⟨S8320x1024, .bf16⟩
  | .hbm, ⟨37, _⟩ => ⟨S8320x1024, .f32⟩
  | .hbm, ⟨38, _⟩ => ⟨S8320x1024, .f32⟩
  | .hbm, ⟨39, _⟩ => ⟨S1x1024, .f32⟩
  | .hbm, ⟨40, _⟩ => ⟨S1x1024, .f32⟩
  | .hbm, ⟨41, _⟩ => ⟨S8x8320, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S1x1024, .f32⟩
  | .local _ .vmem, ⟨8, _⟩ => ⟨S2048x1024, .bf16⟩
  | .local _ .vmem, ⟨9, _⟩ => ⟨S640x1024, .bf16⟩
  | .local _ .vmem, ⟨10, _⟩ => ⟨S640x1024, .bf16⟩
  | .local _ .vmem, ⟨11, _⟩ => ⟨S640x1024, .f32⟩
  | .local _ .vmem, ⟨12, _⟩ => ⟨S640x1024, .f32⟩
  | .local _ .vmem, ⟨13, _⟩ => ⟨S640x1024, .f32⟩
  | .local _ .vmem, ⟨14, _⟩ => ⟨S640x1024, .f32⟩
  | .local _ .vmem, ⟨15, _⟩ => ⟨S1x1024, .f32⟩
  | .local _ .vmem, ⟨16, _⟩ => ⟨S1x1024, .f32⟩
  | .local _ .vmem, ⟨17, _⟩ => ⟨S8x640, .f32⟩
  | .local _ .vmem, ⟨18, _⟩ => ⟨S8x640, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v24_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_13 : BitVec 32 := 0#32
  let v43 : BitVec 1 := Scalar.cmpi .ne v42 c0_i32_13
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_14 : BitVec 32 := 0#32
  let v46 : BitVec 1 := Scalar.cmpi .ne v45 c0_i32_14
  v46

def k0_cond3 (i : grid0.Coords) : BitVec 1 :=
  let arg0 : BitVec 32 := BitVec.ofNat 32 (i 0).val
  let c0_i32_34 : BitVec 32 := 0#32
  let v84 : BitVec 1 := Scalar.cmpi .eq arg0 c0_i32_34
  let v85 : BitVec 32 := Scalar.extui v84
  let c0_i32_35 : BitVec 32 := 0#32
  let v86 : BitVec 1 := Scalar.cmpi .ne v85 c0_i32_35
  v86

def k0_cond4 (i : grid0.Coords) : BitVec 1 :=
  let arg0 : BitVec 32 := BitVec.ofNat 32 (i 0).val
  let c0_i32_34 : BitVec 32 := 0#32
  let v84 : BitVec 1 := Scalar.cmpi .eq arg0 c0_i32_34
  let true_36 : BitVec 1 := 1#1
  let v87 : BitVec 1 := Scalar.xori v84 true_36
  let v88 : BitVec 32 := Scalar.extui v87
  let c0_i32_37 : BitVec 32 := 0#32
  let v89 : BitVec 1 := Scalar.cmpi .ne v88 c0_i32_37
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixoutRefIdeal.lean ====
abbrev S8208x1024 : Shape := ⟨2, ![8208, 1024]⟩
abbrev S1024 : Shape := ⟨1, ![1024]⟩
abbrev S2048x1024 : Shape := ⟨2, ![2048, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x2048 : Shape := ⟨2, ![8208, 2048]⟩
abbrev S1024x2048 : Shape := ⟨2, ![1024, 2048]⟩
abbrev S8208x8x128 : Shape := ⟨3, ![8208, 8, 128]⟩
abbrev S8208x8 : Shape := ⟨2, ![8208, 8]⟩
abbrev S8x8208 : Shape := ⟨2, ![8, 8208]⟩
abbrev S112x1024 : Shape := ⟨2, ![112, 1024]⟩
abbrev S8320x1024 : Shape := ⟨2, ![8320, 1024]⟩
abbrev S8x112 : Shape := ⟨2, ![8, 112]⟩
abbrev S8x8320 : Shape := ⟨2, ![8, 8320]⟩

abbrev nBuf : Space → Nat
  | .hbm => 119
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S8208x1024, .f32⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1, .f32⟩
  | .hbm, ⟨18, _⟩ => ⟨S_, .f32⟩
  | .hbm, ⟨19, _⟩ => ⟨S8208x1, .f32⟩
  | .hbm, ⟨20, _⟩ => ⟨S8208x1, .f32⟩
  | .hbm, ⟨21, _⟩ => ⟨S8208x1024, .f32⟩
  | .hbm, ⟨22, _⟩ => ⟨S8208x1024, .f32⟩
  | .hbm, ⟨23, _⟩ => ⟨S1x1024, .f32⟩
  | .hbm, ⟨24, _⟩ => ⟨S8208x1024, .f32⟩
  | .hbm, ⟨25, _⟩ => ⟨S8208x1024, .f32⟩
  | .hbm, ⟨26, _⟩ => ⟨S8208x2048, .f32⟩
  | .hbm, ⟨27, _⟩ => ⟨S8208x1024, .f32⟩
  | .hbm, ⟨28, _⟩ => ⟨S8208x1024, .f32⟩
  | .hbm, ⟨29, _⟩ => ⟨S_, .f32⟩
  | .hbm, ⟨30, _⟩ => ⟨S8208, .f32⟩
  | .hbm, ⟨31, _⟩ => ⟨S8208x1, .f32⟩
  | .hbm, ⟨32, _⟩ => ⟨S_, .f32⟩
  | .hbm, ⟨33, _⟩ => ⟨S8208x1, .f32⟩
  | .hbm, ⟨34, _⟩ => ⟨S8208x1, .f32⟩
  | .hbm, ⟨35, _⟩ => ⟨S_, .f32⟩
  | .hbm, ⟨36, _⟩ => ⟨S8208x1, .f32⟩
  | .hbm, ⟨37, _⟩ => ⟨S8208x1, .f32⟩
  | .hbm, ⟨38, _⟩ => ⟨S8208x1, .f32⟩
  | .hbm, ⟨39, _⟩ => ⟨S8208x1, .f32⟩
  | .hbm, ⟨40, _⟩ => ⟨S_, .f32⟩
  | .hbm, ⟨41, _⟩ => ⟨S8208x1, .f32⟩
  | .hbm, ⟨42, _⟩ => ⟨S8208x1, .f32⟩
  | .hbm, ⟨43, _⟩ => ⟨S8208x1024, .f32⟩
  | .hbm, ⟨44, _⟩ => ⟨S8208x1024, .f32⟩
  | .hbm, ⟨45, _⟩ => ⟨S1x1024, .f32⟩
  | .hbm, ⟨46, _⟩ => ⟨S8208x1024, .f32⟩
  | .hbm, ⟨47, _⟩ => ⟨S8208x1024, .f32⟩
  | .hbm, ⟨48, _⟩ => ⟨S8208x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8208x1024, .f32⟩
  | .hbm, ⟨53, _⟩ => ⟨S8208x1024, .f32⟩
  | .hbm, ⟨54, _⟩ => ⟨S_, .f32⟩
  | .hbm, ⟨55, _⟩ => ⟨S1024, .f32⟩
  | .hbm, ⟨56, _⟩ => ⟨S8208x1024, .f32⟩
  | .hbm, ⟨57, _⟩ => ⟨S_, .f32⟩
  | .hbm, ⟨58, _⟩ => ⟨S8208, .f32⟩
  | .hbm, ⟨59, _⟩ => ⟨S8208x1, .f32⟩
  | .hbm, ⟨60, _⟩ => ⟨S8208x1024, .f32⟩
  | .hbm, ⟨61, _⟩ => ⟨S8208x1024, .f32⟩
  | .hbm, ⟨62, _⟩ => ⟨S8208x1, .f32⟩
  | .hbm, ⟨63, _⟩ => ⟨S_, .f32⟩
  | .hbm, ⟨64, _⟩ => ⟨S8208x1, .f32⟩
  | .hbm, ⟨65, _⟩ => ⟨S8208x1, .f32⟩
  | .hbm, ⟨66, _⟩ => ⟨S_, .f32⟩
  | .hbm, ⟨67, _⟩ => ⟨S8208, .f32⟩
  | .hbm, ⟨68, _⟩ => ⟨S8208x1024, .f32⟩
  | .hbm, ⟨69, _⟩ => ⟨S8208x1024, .f32⟩
  | .hbm, ⟨70, _⟩ => ⟨S8208x1024, .f32⟩
  | .hbm, ⟨71, _⟩ => ⟨S8208x1024, .f32⟩
  | .hbm, ⟨72, _⟩ => ⟨S8208x1024, .f32⟩
  | .hbm, ⟨73, _⟩ => ⟨S1024x2048, .f32⟩
  | .hbm, ⟨74, _⟩ => ⟨S2048x1024, .f32⟩
  | .hbm, ⟨75, _⟩ => ⟨S8208x2048, .f32⟩
  | .hbm, ⟨76, _⟩ => ⟨S8208x1024, .f32⟩
  | .hbm, ⟨77, _⟩ => ⟨S8208x1024, .f32⟩
  | .hbm, ⟨78, _⟩ => ⟨S8208x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8208x1024, .f32⟩
  | .hbm, ⟨83, _⟩ => ⟨S8208x1024, .f32⟩
  | .hbm, ⟨84, _⟩ => ⟨S_, .f32⟩
  | .hbm, ⟨85, _⟩ => ⟨S1024, .f32⟩
  | .hbm, ⟨86, _⟩ => ⟨S8208x1024, .f32⟩
  | .hbm, ⟨87, _⟩ => ⟨S_, .f32⟩
  | .hbm, ⟨88, _⟩ => ⟨S8208, .f32⟩
  | .hbm, ⟨89, _⟩ => ⟨S8208x1, .f32⟩
  | .hbm, ⟨90, _⟩ => ⟨S8208x1024, .f32⟩
  | .hbm, ⟨91, _⟩ => ⟨S8208x1024, .f32⟩
  | .hbm, ⟨92, _⟩ => ⟨S8208x1, .f32⟩
  | .hbm, ⟨93, _⟩ => ⟨S_, .f32⟩
  | .hbm, ⟨94, _⟩ => ⟨S8208x1, .f32⟩
  | .hbm, ⟨95, _⟩ => ⟨S8208x1, .f32⟩
  | .hbm, ⟨96, _⟩ => ⟨S_, .f32⟩
  | .hbm, ⟨97, _⟩ => ⟨S8208, .f32⟩
  | .hbm, ⟨98, _⟩ => ⟨S8208x1024, .f32⟩
  | .hbm, ⟨99, _⟩ => ⟨S8208x1024, .f32⟩
  | .hbm, ⟨100, _⟩ => ⟨S8208x1024, .f32⟩
  | .hbm, ⟨101, _⟩ => ⟨S8208x1024, .f32⟩
  | .hbm, ⟨102, _⟩ => ⟨S8208x1024, .f32⟩
  | .hbm, ⟨103, _⟩ => ⟨S8208x1024, .f32⟩
  | .hbm, ⟨104, _⟩ => ⟨S8208x8x128, .f32⟩
  | .hbm, ⟨105, _⟩ => ⟨S_, .f32⟩
  | .hbm, ⟨106, _⟩ => ⟨S8208x8, .f32⟩
  | .hbm, ⟨107, _⟩ => ⟨S8x8208, .f32⟩
  | .hbm, ⟨108, _⟩ => ⟨S_, .f32⟩
  | .hbm, ⟨109, _⟩ => ⟨S112x1024, .f32⟩
  | .hbm, ⟨110, _⟩ => ⟨S8320x1024, .f32⟩
  | .hbm, ⟨111, _⟩ => ⟨S8320x1024, .bf16⟩
  | .hbm, ⟨112, _⟩ => ⟨S8320x1024, .f32⟩
  | .hbm, ⟨113, _⟩ => ⟨S8320x1024, .f32⟩
  | .hbm, ⟨114, _⟩ => ⟨S1x1024, .f32⟩
  | .hbm, ⟨115, _⟩ => ⟨S1x1024, .f32⟩
  | .hbm, ⟨116, _⟩ => ⟨S_, .f32⟩
  | .hbm, ⟨117, _⟩ => ⟨S8x112, .f32⟩
  | .hbm, ⟨118, _⟩ => ⟨S8x8320, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_17 : Ref sig .tc := ⟨.hbm, 105, rfl⟩
abbrev main_v81 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_19 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Down.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S8192x1024 : Shape := ⟨2, ![8192, 1024]⟩
abbrev S_ : Shape := ⟨0, ![]⟩
abbrev S112x2816 : Shape := ⟨2, ![112, 2816]⟩
abbrev S8320x2816 : Shape := ⟨2, ![8320, 2816]⟩
abbrev S112x1024 : Shape := ⟨2, ![112, 1024]⟩
abbrev S8320x1024 : Shape := ⟨2, ![8320, 1024]⟩
abbrev S1x1024 : Shape := ⟨2, ![1, 1024]⟩
abbrev S8x128 : Shape := ⟨2, ![8, 128]⟩
abbrev S640x2816 : Shape := ⟨2, ![640, 2816]⟩
abbrev S640x1024 : Shape := ⟨2, ![640, 1024]⟩
abbrev S128x1024 : Shape := ⟨2, ![128, 1024]⟩
abbrev S640 : Shape := ⟨1, ![640]⟩
abbrev S640x1 : Shape := ⟨2, ![640, 1]⟩
abbrev S1 : Shape := ⟨1, ![1]⟩
abbrev S1x1 : Shape := ⟨2, ![1, 1]⟩

abbrev nBuf : Space → Nat
  | .hbm => 18
  | .vmem => 22
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1024, .f32⟩
  | .hbm, ⟨4, _⟩ => ⟨S8192x1024, .f32⟩
  | .hbm, ⟨5, _⟩ => ⟨S8208x2816, .bf16⟩
  | .hbm, ⟨6, _⟩ => ⟨S_, .bf16⟩
  | .hbm, ⟨7, _⟩ => ⟨S112x2816, .bf16⟩
  | .hbm, ⟨8, _⟩ => ⟨S8320x2816, .bf16⟩
  | .hbm, ⟨9, _⟩ => ⟨S2816x1024, .bf16⟩
  | .hbm, ⟨10, _⟩ => ⟨S_, .f32⟩
  | .hbm, ⟨11, _⟩ => ⟨S112x1024, .f32⟩
  | .hbm, ⟨12, _⟩ => ⟨S8320x1024, .f32⟩
  | .hbm, ⟨13, _⟩ => ⟨S1x1024, .f32⟩
  | .hbm, ⟨14, _⟩ => ⟨S8320x1024, .f32⟩
  | .hbm, ⟨15, _⟩ => ⟨S8320x1024, .bf16⟩
  | .hbm, ⟨16, _⟩ => ⟨S1x1024, .f32⟩
  | .hbm, ⟨17, _⟩ => ⟨S8x128, .f32⟩
  | .local _ .vmem, ⟨0, _⟩ => ⟨S640x2816, .bf16⟩
  | .local _ .vmem, ⟨1, _⟩ => ⟨S640x2816, .bf16⟩
  | .local _ .vmem, ⟨2, _⟩ => ⟨S2816x1024, .bf16⟩
  | .local _ .vmem, ⟨3, _⟩ => ⟨S640x1024, .f32⟩
  | .local _ .vmem, ⟨4, _⟩ => ⟨S640x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S1x1024, .f32⟩
  | .local _ .vmem, ⟨16, _⟩ => ⟨S640x1024, .f32⟩
  | .local _ .vmem, ⟨17, _⟩ => ⟨S640x1024, .f32⟩
  | .local _ .vmem, ⟨18, _⟩ => ⟨S640x1024, .bf16⟩
  | .local _ .vmem, ⟨19, _⟩ => ⟨S640x1024, .bf16⟩
  | .local _ .vmem, ⟨20, _⟩ => ⟨S1x1024, .f32⟩
  | .local _ .vmem, ⟨21, _⟩ => ⟨S8x128, .f32⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_32 : BitVec 32 := 0#32
  let v69 : BitVec 1 := Scalar.cmpi .ne v68 c0_i32_32
  v69

def k0_cond2 (i : grid0.Coords) : BitVec 1 :=
  let arg0 : BitVec 32 := BitVec.ofNat 32 (i 0).val
  let c0_i32 : BitVec 32 := 0#32
  let v67 : BitVec 1 := Scalar.cmpi .eq arg0 c0_i32
  let v_true : BitVec 1 := 1#1
  let v70 : BitVec 1 := Scalar.xori v67 v_true
  let v71 : BitVec 32 := Scalar.extui v70
  let c0_i32_33 : BitVec 32 := 0#32
  let v72 : BitVec 1 := Scalar.cmpi .ne v71 c0_i32_33
  v72

def k0_cond3 (i : grid0.Coords) : BitVec 1 :=
  let arg0 : BitVec 32 := BitVec.ofNat 32 (i 0).val
  let c0_i32_38 : BitVec 32 := 0#32
  let v84 : BitVec 1 := Scalar.cmpi .eq arg0 c0_i32_38
  let v85 : BitVec 32 := Scalar.extui v84
  let c0_i32_39 : BitVec 32 := 0#32
  let v86 : BitVec 1 := Scalar.cmpi .ne v85 c0_i32_39
  v86

def k0_cond4 (i : grid0.Coords) : BitVec 1 :=
  let arg0 : BitVec 32 := BitVec.ofNat 32 (i 0).val
  let c0_i32_38 : BitVec 32 := 0#32
  let v84 : BitVec 1 := Scalar.cmpi .eq arg0 c0_i32_38
  let true_40 : BitVec 1 := 1#1
  let v87 : BitVec 1 := Scalar.xori v84 true_40
  let v88 : BitVec 32 := Scalar.extui v87
  let c0_i32_41 : BitVec 32 := 0#32
  let v89 : BitVec 1 := Scalar.cmpi .ne v88 c0_i32_41
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c3_i32 : BitVec 32 := 3#32
  let v2 : BitVec 32 := Scalar.addi v1 c3_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c4_i32 : BitVec 32 := 4#32
  let v2 : BitVec 32 := Scalar.addi v1 c4_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== DownRefIdeal.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S8192x1024 : Shape := ⟨2, ![8192, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8192 : Shape := ⟨1, ![8192]⟩
abbrev S112x1024 : Shape := ⟨2, ![112, 1024]⟩
abbrev S8320x1024 : Shape := ⟨2, ![8320, 1024]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1024, .f32⟩
  | .hbm, ⟨4, _⟩ => ⟨S8192x1024, .f32⟩
  | .hbm, ⟨5, _⟩ => ⟨S8208x1024, .f32⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1, .f32⟩
  | .hbm, ⟨18, _⟩ => ⟨S_, .f32⟩
  | .hbm, ⟨19, _⟩ => ⟨S8208x1, .f32⟩
  | .hbm, ⟨20, _⟩ => ⟨S8208x1, .f32⟩
  | .hbm, ⟨21, _⟩ => ⟨S8208x1024, .f32⟩
  | .hbm, ⟨22, _⟩ => ⟨S8208x1024, .f32⟩
  | .hbm, ⟨23, _⟩ => ⟨S1x1024, .f32⟩
  | .hbm, ⟨24, _⟩ => ⟨S8208x1024, .f32⟩
  | .hbm, ⟨25, _⟩ => ⟨S8208x1024, .f32⟩
  | .hbm, ⟨26, _⟩ => ⟨S8208x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8208x1024, .f32⟩
  | .hbm, ⟨54, _⟩ => ⟨S8208x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8208x1024, .f32⟩
  | .hbm, ⟨59, _⟩ => ⟨S8208x1024, .f32⟩
  | .hbm, ⟨60, _⟩ => ⟨S_, .f32⟩
  | .hbm, ⟨61, _⟩ => ⟨S1024, .f32⟩
  | .hbm, ⟨62, _⟩ => ⟨S8208x1024, .f32⟩
  | .hbm, ⟨63, _⟩ => ⟨S_, .f32⟩
  | .hbm, ⟨64, _⟩ => ⟨S8208, .f32⟩
  | .hbm, ⟨65, _⟩ => ⟨S8208x1, .f32⟩
  | .hbm, ⟨66, _⟩ => ⟨S8208x1024, .f32⟩
  | .hbm, ⟨67, _⟩ => ⟨S8208x1024, .f32⟩
  | .hbm, ⟨68, _⟩ => ⟨S8208x1, .f32⟩
  | .hbm, ⟨69, _⟩ => ⟨S_, .f32⟩
  | .hbm, ⟨70, _⟩ => ⟨S8208x1, .f32⟩
  | .hbm, ⟨71, _⟩ => ⟨S8208x1, .f32⟩
  | .hbm, ⟨72, _⟩ => ⟨S_, .f32⟩
  | .hbm, ⟨73, _⟩ => ⟨S8208, .f32⟩
  | .hbm, ⟨74, _⟩ => ⟨S8208x1024, .f32⟩
  | .hbm, ⟨75, _⟩ => ⟨S8208x1024, .f32⟩
  | .hbm, ⟨76, _⟩ => ⟨S8208x1024, .f32⟩
  | .hbm, ⟨77, _⟩ => ⟨S8208x1024, .f32⟩
  | .hbm, ⟨78, _⟩ => ⟨S8208x1024, .f32⟩
  | .hbm, ⟨79, _⟩ => ⟨S_, .f32⟩
  | .hbm, ⟨80, _⟩ => ⟨S112x1024, .f32⟩
  | .hbm, ⟨81, _⟩ => ⟨S8320x1024, .f32⟩
  | .hbm, ⟨82, _⟩ => ⟨S8320x1024, .f32⟩
  | .hbm, ⟨83, _⟩ => ⟨S8320x1024, .bf16⟩
  | .hbm, ⟨84, _⟩ => ⟨S1x1024, .f32⟩
  | .hbm, ⟨85, _⟩ => ⟨S8x128, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Mla.lean ====
abbrev S8208x384 : Shape := ⟨2, ![8208, 384]⟩
abbrev S8208x256 : Shape := ⟨2, ![8208, 256]⟩
abbrev S8208x64 : Shape := ⟨2, ![8208, 64]⟩
abbrev S384 : Shape := ⟨1, ![384]⟩
abbrev S384x8x192 : Shape := ⟨3, ![384, 8, 192]⟩
abbrev S256 : Shape := ⟨1, ![256]⟩
abbrev S256x8x256 : Shape := ⟨3, ![256, 8, 256]⟩
abbrev S8208x32 : Shape := ⟨2, ![8208, 32]⟩
abbrev S8208x8x192 : Shape := ⟨3, ![8208, 8, 192]⟩
abbrev S8208x8x128 : Shape := ⟨3, ![8208, 8, 128]⟩
abbrev S384x8x64 : Shape := ⟨3, ![384, 8, 64]⟩
abbrev S_ : Shape := ⟨0, ![]⟩
abbrev S384x8x128 : Shape := ⟨3, ![384, 8, 128]⟩
abbrev S384x1024 : Shape := ⟨2, ![384, 1024]⟩
abbrev S384x2048 : Shape := ⟨2, ![384, 2048]⟩
abbrev S256x8x128 : Shape := ⟨3, ![256, 8, 128]⟩
abbrev S256x1024 : Shape := ⟨2, ![256, 1024]⟩
abbrev S256x2048 : Shape := ⟨2, ![256, 2048]⟩
abbrev S8208x768 : Shape := ⟨2, ![8208, 768]⟩
abbrev S8208x128 : Shape := ⟨2, ![8208, 128]⟩
abbrev S8x8208x192 : Shape := ⟨3, ![8, 8208, 192]⟩
abbrev S8x8208x64 : Shape := ⟨3, ![8, 8208, 64]⟩
abbrev S8x8208x256 : Shape := ⟨3, ![8, 8208, 256]⟩
abbrev S8x112x256 : Shape := ⟨3, ![8, 112, 256]⟩
abbrev S8x8320x256 : Shape := ⟨3, ![8, 8320, 256]⟩
abbrev S8x8208x128 : Shape := ⟨3, ![8, 8208, 128]⟩
abbrev S8x112x128 : Shape := ⟨3, ![8, 112, 128]⟩
abbrev S8x8320x128 : Shape := ⟨3, ![8, 8320, 128]⟩
abbrev S112x768 : Shape := ⟨2, ![112, 768]⟩
abbrev S8320x768 : Shape := ⟨2, ![8320, 768]⟩
abbrev S1x384 : Shape := ⟨2, ![1, 384]⟩
abbrev S1x256 : Shape := ⟨2, ![1, 256]⟩
abbrev S112x128 : Shape := ⟨2, ![112, 128]⟩
abbrev S8320x128 : Shape := ⟨2, ![8320, 128]⟩
abbrev S8320x2048 : Shape := ⟨2, ![8320, 2048]⟩
abbrev S8x320x256 : Shape := ⟨3, ![8, 320, 256]⟩
abbrev S8x320x128 : Shape := ⟨3, ![8, 320, 128]⟩
abbrev S320x768 : Shape := ⟨2, ![320, 768]⟩
abbrev S320x128 : Shape := ⟨2, ![320, 128]⟩
abbrev S320x2048 : Shape := ⟨2, ![320, 2048]⟩
abbrev S1x320x256 : Shape := ⟨3, ![1, 320, 256]⟩
abbrev S320x256 : Shape := ⟨2, ![320, 256]⟩
abbrev S1x320x128 : Shape := ⟨3, ![1, 320, 128]⟩
abbrev S320x384 : Shape := ⟨2, ![320, 384]⟩
abbrev S320 : Shape := ⟨1, ![320]⟩
abbrev S320x1 : Shape := ⟨2, ![320, 1]⟩

abbrev nBuf : Space → Nat
  | .hbm => 74
  | .vmem => 26
  | .smem => 0
  | _ => 0

abbrev bufTy : (tb : Table) → Fin (tcTables nBuf tb) → BufTy
  | .hbm, ⟨0, _⟩ => ⟨S8208x384, .f32⟩
  | .hbm, ⟨1, _⟩ => ⟨S8208x256, .f32⟩
  | .hbm, ⟨2, _⟩ => ⟨S8208x64, .f32⟩
  | .hbm, ⟨3, _⟩ => ⟨S384, .f32⟩
  | .hbm, ⟨4, _⟩ => ⟨S384x8x192, .f32⟩
  | .hbm, ⟨5, _⟩ => ⟨S256, .f32⟩
  | .hbm, ⟨6, _⟩ => ⟨S256x8x256, .f32⟩
  | .hbm, ⟨7, _⟩ => ⟨S8208x32, .f32⟩
  | .hbm, ⟨8, _⟩ => ⟨S8208x32, .f32⟩
  | .hbm, ⟨9, _⟩ => ⟨S8208x8x192, .f32⟩
  | .hbm, ⟨10, _⟩ => ⟨S8208x8x192, .f32⟩
  | .hbm, ⟨11, _⟩ => ⟨S8208x8x128, .f32⟩
  | .hbm, ⟨12, _⟩ => ⟨S384x8x64, .f32⟩
  | .hbm, ⟨13, _⟩ => ⟨S_, .f32⟩
  | .hbm, ⟨14, _⟩ => ⟨S384x8x64, .f32⟩
  | .hbm, ⟨15, _⟩ => ⟨S384x8x128, .f32⟩
  | .hbm, ⟨16, _⟩ => ⟨S384x8x128, .f32⟩
  | .hbm, ⟨17, _⟩ => ⟨S384x1024, .f32⟩
  | .hbm, ⟨18, _⟩ => ⟨S384x1024, .f32⟩
  | .hbm, ⟨19, _⟩ => ⟨S384x2048, .f32⟩
  | .hbm, ⟨20, _⟩ => ⟨S384x2048, .bf16⟩
  | .hbm, ⟨21, _⟩ => ⟨S256x8x128, .f32⟩
  | .hbm, ⟨22, _⟩ => ⟨S256x1024, .f32⟩
  | .hbm, ⟨23, _⟩ => ⟨S256x8x128, .f32⟩
  | .hbm, ⟨24, _⟩ => ⟨S256x1024, .f32⟩
  | .hbm, ⟨25, _⟩ => ⟨S256x2048, .f32⟩
  | .hbm, ⟨26, _⟩ => ⟨S256x2048, .bf16⟩
  | .hbm, ⟨27, _⟩ => ⟨S_, .f32⟩
  | .hbm, ⟨28, _⟩ => ⟨S8208x64, .f32⟩
  | .hbm, ⟨29, _⟩ => ⟨S8208x768, .f32⟩
  | .hbm, ⟨30, _⟩ => ⟨S_, .f32⟩
  | .hbm, ⟨31, _⟩ => ⟨S8208x32, .f32⟩
  | .hbm, ⟨32, _⟩ => ⟨S8208x128, .f32⟩
  | .hbm, ⟨33, _⟩ => ⟨S8208x32, .f32⟩
  | .hbm, ⟨34, _⟩ => ⟨S8208x32, .f32⟩
  | .hbm, ⟨35, _⟩ => ⟨S8208x128, .f32⟩
  | .hbm, ⟨36, _⟩ => ⟨S8208x128, .f32⟩
  | .hbm, ⟨37, _⟩ => ⟨S8x8208x192, .f32⟩
  | .hbm, ⟨38, _⟩ => ⟨S_, .f32⟩
  | .hbm, ⟨39, _⟩ => ⟨S8x8208x64, .f32⟩
  | .hbm, ⟨40, _⟩ => ⟨S8x8208x256, .f32⟩
  | .hbm, ⟨41, _⟩ => ⟨S_, .f32⟩
  | .hbm, ⟨42, _⟩ => ⟨S8x112x256, .f32⟩
  | .hbm, ⟨43, _⟩ => ⟨S8x8320x256, .f32⟩
  | .hbm, ⟨44, _⟩ => ⟨S8x8208x192, .f32⟩
  | .hbm, ⟨45, _⟩ => ⟨S_, .f32⟩
  | .hbm, ⟨46, _⟩ => ⟨S8x8208x64, .f32⟩
  | .hbm, ⟨47, _⟩ => ⟨S8x8208x256, .f32⟩
  | .hbm, ⟨48, _⟩ => ⟨S_, .f32⟩
  | .hbm, ⟨49, _⟩ => ⟨S8x112x256, .f32⟩
  | .hbm, ⟨50, _⟩ => ⟨S8x8320x256, .f32⟩
  | .hbm, ⟨51, _⟩ => ⟨S8x8208x128, .f32⟩
  | .hbm, ⟨52, _⟩ => ⟨S_, .f32⟩
  | .hbm, ⟨53, _⟩ => ⟨S8x112x128, .f32⟩
  | .hbm, ⟨54, _⟩ => ⟨S8x8320x128, .f32⟩
  | .hbm, ⟨55, _⟩ => ⟨S_, .f32⟩
  | .hbm, ⟨56, _⟩ => ⟨S112x768, .f32⟩
  | .hbm, ⟨57, _⟩ => ⟨S8320x768, .f32⟩
  | .hbm, ⟨58, _⟩ => ⟨S1x384, .f32⟩
  | .hbm, ⟨59, _⟩ => ⟨S1x256, .f32⟩
  | .hbm, ⟨60, _⟩ => ⟨S_, .f32⟩
  | .hbm, ⟨61, _⟩ => ⟨S112x128, .f32⟩
  | .hbm, ⟨62, _⟩ => ⟨S8320x128, .f32⟩
  | .hbm, ⟨63, _⟩ => ⟨S_, .f32⟩
  | .hbm, ⟨64, _⟩ => ⟨S112x128, .f32⟩
  | .hbm, ⟨65, _⟩ => ⟨S8320x128, .f32⟩
  | .hbm, ⟨66, _⟩ => ⟨S_, .f32⟩
  | .hbm, ⟨67, _⟩ => ⟨S112x128, .f32⟩
  | .hbm, ⟨68, _⟩ => ⟨S8320x128, .f32⟩
  | .hbm, ⟨69, _⟩ => ⟨S8320x2048, .bf16⟩
  | .hbm, ⟨70, _⟩ => ⟨S8320x2048, .bf16⟩
  | .hbm, ⟨71, _⟩ => ⟨S8320x768, .f32⟩
  | .hbm, ⟨72, _⟩ => ⟨S1x384, .f32⟩
  | .hbm, ⟨73, _⟩ => ⟨S1x256, .f32⟩
  | .local _ .vmem, ⟨0, _⟩ => ⟨S8x320x256, .f32⟩
  | .local _ .vmem, ⟨1, _⟩ => ⟨S8x320x256, .f32⟩
  | .local _ .vmem, ⟨2, _⟩ => ⟨S8x320x256, .f32⟩
  | .local _ .vmem, ⟨3, _⟩ => ⟨S8x320x256, .f32⟩
  | .local _ .vmem, ⟨4, _⟩ => ⟨S8x320x128, .f32⟩
  | .local _ .vmem, ⟨5, _⟩ => ⟨S8x320x128, .f32⟩
  | .local _ .vmem, ⟨6, _⟩ => ⟨S320x768, .f32⟩
  | .local _ .vmem, ⟨7, _⟩ => ⟨S320x768, .f32⟩
  | .local _ .vmem, ⟨8, _⟩ => ⟨S1x384, .f32⟩
  | .local _ .vmem, ⟨9, _⟩ => ⟨S1x256, .f32⟩
  | .local _ .vmem, ⟨10, _⟩ => ⟨S384x2048, .bf16⟩
  | .local _ .vmem, ⟨11, _⟩ => ⟨S256x2048, .bf16⟩
  | .local _ .vmem, ⟨12, _⟩ => ⟨S320x128, .f32⟩
  | .local _ .vmem, ⟨13, _⟩ => ⟨S320x128, .f32⟩
  | .local _ .vmem, ⟨14, _⟩ => ⟨S320x128, .f32⟩
  | .local _ .vmem, ⟨15, _⟩ => ⟨S320x128, .f32⟩
  | .local _ .vmem, ⟨16, _⟩ => ⟨S320x128, .f32⟩
  | .local _ .vmem, ⟨17, _⟩ => ⟨S320x128, .f32⟩
  | .local _ .vmem, ⟨18, _⟩ => ⟨S320x2048, .bf16⟩
  | .local _ .vmem, ⟨19, _⟩ => ⟨S320x2048, .bf16⟩
  | .local _ .vmem, ⟨20, _⟩ => ⟨S320x2048, .bf16⟩
  | .local _ .vmem, ⟨21, _⟩ => ⟨S320x2048, .bf16⟩
  | .local _ .vmem, ⟨22, _⟩ => ⟨S320x768, .f32⟩
  | .local _ .vmem, ⟨23, _⟩ => ⟨S320x768, .f32⟩
  | .local _ .vmem, ⟨24, _⟩ => ⟨S1x384, .f32⟩
  | .local _ .vmem, ⟨25, _⟩ => ⟨S1x256, .f32⟩
  | _, _ => ⟨S8208x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45_0 : Ref sig .tc := ⟨.hbm, 69, rfl⟩
abbrev main_v45_1 : Ref sig .tc := ⟨.hbm, 70, rfl⟩
abbrev main_v45_2 : Ref sig .tc := ⟨.hbm, 71, rfl⟩
abbrev main_v45_3 : Ref sig .tc := ⟨.hbm, 72, rfl⟩
abbrev main_v45_4 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v309 : BitVec 1 := Scalar.cmpi .eq arg0 c0_i32
  let v310 : BitVec 32 := Scalar.extui v309
  let c0_i32_177 : BitVec 32 := 0#32
  let v311 : BitVec 1 := Scalar.cmpi .ne v310 c0_i32_177
  v311

def k0_cond2 (i : grid0.Coords) : BitVec 1 :=
  let arg0 : BitVec 32 := BitVec.ofNat 32 (i 0).val
  let c0_i32 : BitVec 32 := 0#32
  let v309 : BitVec 1 := Scalar.cmpi .eq arg0 c0_i32
  let v_true : BitVec 1 := 1#1
  let v312 : BitVec 1 := Scalar.xori v309 v_true
  let v313 : BitVec 32 := Scalar.extui v312
  let c0_i32_178 : BitVec 32 := 0#32
  let v314 : BitVec 1 := Scalar.cmpi .ne v313 c0_i32_178
  v314

def k0_cond3 (i : grid0.Coords) : BitVec 1 :=
  let arg0 : BitVec 32 := BitVec.ofNat 32 (i 0).val
  let c0_i32_179 : BitVec 32 := 0#32
  let v315 : BitVec 1 := Scalar.cmpi .eq arg0 c0_i32_179
  let v316 : BitVec 32 := Scalar.extui v315
  let c0_i32_180 : BitVec 32 := 0#32
  let v317 : BitVec 1 := Scalar.cmpi .ne v316 c0_i32_180
  v317

def k0_cond4 (i : grid0.Coords) : BitVec 1 :=
  let arg0 : BitVec 32 := BitVec.ofNat 32 (i 0).val
  let c0_i32_179 : BitVec 32 := 0#32
  let v315 : BitVec 1 := Scalar.cmpi .eq arg0 c0_i32_179
  let true_181 : BitVec 1 := 1#1
  let v318 : BitVec 1 := Scalar.xori v315 true_181
  let v319 : BitVec 32 := Scalar.extui v318
  let c0_i32_182 : BitVec 32 := 0#32
  let v320 : BitVec 1 := Scalar.cmpi .ne v319 c0_i32_182
  v320

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x320x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x320x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S320x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MlaRefIdeal.lean ====
abbrev S8208x384 : Shape := ⟨2, ![8208, 384]⟩
abbrev S8208x256 : Shape := ⟨2, ![8208, 256]⟩
abbrev S8208x64 : Shape := ⟨2, ![8208, 64]⟩
abbrev S384 : Shape := ⟨1, ![384]⟩
abbrev S384x8x192 : Shape := ⟨3, ![384, 8, 192]⟩
abbrev S256 : Shape := ⟨1, ![256]⟩
abbrev S256x8x256 : Shape := ⟨3, ![256, 8, 256]⟩
abbrev S8208x32 : Shape := ⟨2, ![8208, 32]⟩
abbrev S8208x8x192 : Shape := ⟨3, ![8208, 8, 192]⟩
abbrev S8208x8x128 : Shape := ⟨3, ![8208, 8, 128]⟩
abbrev S_ : Shape := ⟨0, ![]⟩
abbrev S8208 : Shape := ⟨1, ![8208]⟩
abbrev S8208x1 : Shape := ⟨2, ![8208, 1]⟩
abbrev S1x384 : Shape := ⟨2, ![1, 384]⟩
abbrev S1x256 : Shape := ⟨2, ![1, 256]⟩
abbrev S8208x8x256 : Shape := ⟨3, ![8208, 8, 256]⟩
abbrev S8208x8x64 : Shape := ⟨3, ![8208, 8, 64]⟩
abbrev S8208x1x32 : Shape := ⟨3, ![8208, 1, 32]⟩
abbrev S8208x8x32 : Shape := ⟨3, ![8208, 8, 32]⟩
abbrev S8208x1x64 : Shape := ⟨3, ![8208, 1, 64]⟩
abbrev S8x256x256 : Shape := ⟨3, ![8, 256, 256]⟩
abbrev S8x192x384 : Shape := ⟨3, ![8, 192, 384]⟩
abbrev S8208x768 : Shape := ⟨2, ![8208, 768]⟩
abbrev S8208x1024 : Shape := ⟨2, ![8208, 1024]⟩
abbrev S8208x2048 : Shape := ⟨2, ![8208, 2048]⟩
abbrev S112x2048 : Shape := ⟨2, ![112, 2048]⟩
abbrev S8320x2048 : Shape := ⟨2, ![8320, 2048]⟩
abbrev S112x768 : Shape := ⟨2, ![112, 768]⟩
abbrev S8320x768 : Shape := ⟨2, ![8320, 768]⟩

abbrev nBuf : Space → Nat
  | .hbm => 220
  | .vmem => 0
  | .smem => 0
  | _ => 0

abbrev hbmTy0_0 (i : Nat) : BufTy := match i % 128 with
  | 0 => ⟨S8208x384, .f32⟩
  | 1 => ⟨S8208x256, .f32⟩
  | 2 => ⟨S8208x64, .f32⟩
  | 3 => ⟨S384, .f32⟩
  | 4 => ⟨S384x8x192, .f32⟩
  | 5 => ⟨S256, .f32⟩
  | 6 => ⟨S256x8x256, .f32⟩
  | 7 => ⟨S8208x32, .f32⟩
  | 8 => ⟨S8208x32, .f32⟩
  | 9 => ⟨S8208x8x192, .f32⟩
  | 10 => ⟨S8208x8x192, .f32⟩
  | 11 => ⟨S8208x8x128, .f32⟩
  | 12 => ⟨S8208x384, .f32⟩
  | 13 => ⟨S_, .f32⟩
  | 14 => ⟨S8208, .f32⟩
  | 15 => ⟨S8208x1, .f32⟩
  | 16 => ⟨S_, .f32⟩
  | 17 => ⟨S8208x1, .f32⟩
  | 18 => ⟨S8208x1, .f32⟩
  | 19 => ⟨S_, .f32⟩
  | 20 => ⟨S8208x1, .f32⟩
  | 21 => ⟨S8208x1, .f32⟩
  | 22 => ⟨S8208x1, .f32⟩
  | 23 => ⟨S8208x1, .f32⟩
  | 24 => ⟨S_, .f32⟩
  | 25 => ⟨S8208x1, .f32⟩
  | 26 => ⟨S8208x1, .f32⟩
  | 27 => ⟨S8208x384, .f32⟩
  | 28 => ⟨S8208x384, .f32⟩
  | 29 => ⟨S1x384, .f32⟩
  | 30 => ⟨S8208x384, .f32⟩
  | 31 => ⟨S8208x384, .f32⟩
  | 32 => ⟨S8208x8x192, .f32⟩
  | 33 => ⟨S8208x256, .f32⟩
  | 34 => ⟨S_, .f32⟩
  | 35 => ⟨S8208, .f32⟩
  | 36 => ⟨S8208x1, .f32⟩
  | 37 => ⟨S_, .f32⟩
  | 38 => ⟨S8208x1, .f32⟩
  | 39 => ⟨S8208x1, .f32⟩
  | 40 => ⟨S_, .f32⟩
  | 41 => ⟨S8208x1, .f32⟩
  | 42 => ⟨S8208x1, .f32⟩
  | 43 => ⟨S8208x1, .f32⟩
  | 44 => ⟨S8208x1, .f32⟩
  | 45 => ⟨S_, .f32⟩
  | 46 => ⟨S8208x1, .f32⟩
  | 47 => ⟨S8208x1, .f32⟩
  | 48 => ⟨S8208x256, .f32⟩
  | 49 => ⟨S8208x256, .f32⟩
  | 50 => ⟨S1x256, .f32⟩
  | 51 => ⟨S8208x256, .f32⟩
  | 52 => ⟨S8208x256, .f32⟩
  | 53 => ⟨S8208x8x256, .f32⟩
  | 54 => ⟨S8208x8x64, .f32⟩
  | 55 => ⟨S8208x1x32, .f32⟩
  | 56 => ⟨S8208x1x32, .f32⟩
  | 57 => ⟨S8208x8x32, .f32⟩
  | 58 => ⟨S8208x8x32, .f32⟩
  | 59 => ⟨S8208x8x32, .f32⟩
  | 60 => ⟨S8208x8x32, .f32⟩
  | 61 => ⟨S8208x8x32, .f32⟩
  | 62 => ⟨S8208x8x32, .f32⟩
  | 63 => ⟨S8208x8x32, .f32⟩
  | 64 => ⟨S8208x8x32, .f32⟩
  | 65 => ⟨S8208x8x32, .f32⟩
  | 66 => ⟨S8208x8x32, .f32⟩
  | 67 => ⟨S8208x8x32, .f32⟩
  | 68 => ⟨S8208x8x32, .f32⟩
  | 69 => ⟨S8208x8x64, .f32⟩
  | 70 => ⟨S8208x32, .f32⟩
  | 71 => ⟨S8208x32, .f32⟩
  | 72 => ⟨S8208x32, .f32⟩
  | 73 => ⟨S8208x32, .f32⟩
  | 74 => ⟨S8208x32, .f32⟩
  | 75 => ⟨S8208x32, .f32⟩
  | 76 => ⟨S8208x32, .f32⟩
  | 77 => ⟨S8208x32, .f32⟩
  | 78 => ⟨S8208x64, .f32⟩
  | 79 => ⟨S8208x1x64, .f32⟩
  | 80 => ⟨S8208x8x64, .f32⟩
  | 81 => ⟨S8208x8x128, .f32⟩
  | 82 => ⟨S8208x8x192, .f32⟩
  | 83 => ⟨S_, .f32⟩
  | 84 => ⟨S8208x8x192, .f32⟩
  | 85 => ⟨S8208x8x192, .f32⟩
  | 86 => ⟨S8208x8x128, .f32⟩
  | 87 => ⟨S8208x8x192, .f32⟩
  | 88 => ⟨S8208x8x128, .f32⟩
  | 89 => ⟨S_, .f32⟩
  | 90 => ⟨S8208x8x256, .f32⟩
  | 91 => ⟨S8208x8x128, .f32⟩
  | 92 => ⟨S8208x8x64, .f32⟩
  | 93 => ⟨S_, .f32⟩
  | 94 => ⟨S8208x8x256, .f32⟩
  | 95 => ⟨S8208x8x256, .f32⟩
  | 96 => ⟨S_, .f32⟩
  | 97 => ⟨S8208x8x192, .f32⟩
  | 98 => ⟨S8208x8x192, .f32⟩
  | 99 => ⟨S8208x8x128, .f32⟩
  | 100 => ⟨S8208x8x64, .f32⟩
  | 101 => ⟨S_, .f32⟩
  | 102 => ⟨S8208x8x192, .f32⟩
  | 103 => ⟨S_, .f32⟩
  | 104 => ⟨S8208x64, .f32⟩
  | 105 => ⟨S8208x1x64, .f32⟩
  | 106 => ⟨S_, .f32⟩
  | 107 => ⟨S8208x64, .f32⟩
  | 108 => ⟨S8208x32, .f32⟩
  | 109 => ⟨S8208x32, .f32⟩
  | 110 => ⟨S8208x32, .f32⟩
  | 111 => ⟨S8208x32, .f32⟩
  | 112 => ⟨S8208x32, .f32⟩
  | 113 => ⟨S8208x32, .f32⟩
  | 114 => ⟨S8208x32, .f32⟩
  | 115 => ⟨S8208x32, .f32⟩
  | 116 => ⟨S8208x32, .f32⟩
  | 117 => ⟨S8208x64, .f32⟩
  | 118 => ⟨S8208x8x32, .f32⟩
  | 119 => ⟨S8208x8x32, .f32⟩
  | 120 => ⟨S8208x8x32, .f32⟩
  | 121 => ⟨S8208x8x32, .f32⟩
  | 122 => ⟨S8208x8x32, .f32⟩
  | 123 => ⟨S8208x8x32, .f32⟩
  | 124 => ⟨S8208x8x32, .f32⟩
  | 125 => ⟨S8208x8x32, .f32⟩
  | 126 => ⟨S8208x8x32, .f32⟩
  | 127 => ⟨S8208x8x32, .f32⟩
  | _ => ⟨S8208x384, .f32⟩

abbrev hbmTy0_1 (i : Nat) : BufTy := match i % 128 with
  | 0 => ⟨S8208x8x32, .f32⟩
  | 1 => ⟨S8208x8x32, .f32⟩
  | 2 => ⟨S8208x8x32, .f32⟩
  | 3 => ⟨S8208x8x64, .f32⟩
  | 4 => ⟨S_, .f32⟩
  | 5 => ⟨S8208x8x192, .f32⟩
  | 6 => ⟨S8208x8x192, .f32⟩
  | 7 => ⟨S8x256x256, .f32⟩
  | 8 => ⟨S256x8x256, .f32⟩
  | 9 => ⟨S8208x256, .f32⟩
  | 10 => ⟨S8208x256, .f32⟩
  | 11 => ⟨S_, .f32⟩
  | 12 => ⟨S256, .f32⟩
  | 13 => ⟨S1x256, .f32⟩
  | 14 => ⟨S8208x256, .f32⟩
  | 15 => ⟨S8208x256, .f32⟩
  | 16 => ⟨S_, .f32⟩
  | 17 => ⟨S256, .f32⟩
  | 18 => ⟨S8208x256, .f32⟩
  | 19 => ⟨S_, .f32⟩
  | 20 => ⟨S8208, .f32⟩
  | 21 => ⟨S8208x1, .f32⟩
  | 22 => ⟨S8208x256, .f32⟩
  | 23 => ⟨S8208x256, .f32⟩
  | 24 => ⟨S8208x1, .f32⟩
  | 25 => ⟨S_, .f32⟩
  | 26 => ⟨S8208x1, .f32⟩
  | 27 => ⟨S8208x1, .f32⟩
  | 28 => ⟨S_, .f32⟩
  | 29 => ⟨S8208, .f32⟩
  | 30 => ⟨S8208x256, .f32⟩
  | 31 => ⟨S8208x256, .f32⟩
  | 32 => ⟨S8208x256, .f32⟩
  | 33 => ⟨S8208x256, .f32⟩
  | 34 => ⟨S8208x256, .f32⟩
  | 35 => ⟨S8x192x384, .f32⟩
  | 36 => ⟨S384x8x192, .f32⟩
  | 37 => ⟨S8208x384, .f32⟩
  | 38 => ⟨S8208x384, .f32⟩
  | 39 => ⟨S_, .f32⟩
  | 40 => ⟨S384, .f32⟩
  | 41 => ⟨S1x384, .f32⟩
  | 42 => ⟨S8208x384, .f32⟩
  | 43 => ⟨S8208x384, .f32⟩
  | 44 => ⟨S_, .f32⟩
  | 45 => ⟨S384, .f32⟩
  | 46 => ⟨S8208x384, .f32⟩
  | 47 => ⟨S_, .f32⟩
  | 48 => ⟨S8208, .f32⟩
  | 49 => ⟨S8208x1, .f32⟩
  | 50 => ⟨S8208x384, .f32⟩
  | 51 => ⟨S8208x384, .f32⟩
  | 52 => ⟨S8208x1, .f32⟩
  | 53 => ⟨S_, .f32⟩
  | 54 => ⟨S8208x1, .f32⟩
  | 55 => ⟨S8208x1, .f32⟩
  | 56 => ⟨S_, .f32⟩
  | 57 => ⟨S8208, .f32⟩
  | 58 => ⟨S8208x384, .f32⟩
  | 59 => ⟨S8208x384, .f32⟩
  | 60 => ⟨S8208x384, .f32⟩
  | 61 => ⟨S8208x384, .f32⟩
  | 62 => ⟨S8208x384, .f32⟩
  | 63 => ⟨S_, .f32⟩
  | 64 => ⟨S8208x64, .f32⟩
  | 65 => ⟨S8208x768, .f32⟩
  | 66 => ⟨S8208x8x64, .f32⟩
  | 67 => ⟨S_, .f32⟩
  | 68 => ⟨S8208x8x64, .f32⟩
  | 69 => ⟨S8208x8x128, .f32⟩
  | 70 => ⟨S8208x8x128, .f32⟩
  | 71 => ⟨S8208x1024, .f32⟩
  | 72 => ⟨S8208x1024, .f32⟩
  | 73 => ⟨S8208x2048, .f32⟩
  | 74 => ⟨S_, .f32⟩
  | 75 => ⟨S112x2048, .f32⟩
  | 76 => ⟨S8320x2048, .f32⟩
  | 77 => ⟨S8320x2048, .bf16⟩
  | 78 => ⟨S8208x8x128, .f32⟩
  | 79 => ⟨S8208x8x128, .f32⟩
  | 80 => ⟨S8208x1024, .f32⟩
  | 81 => ⟨S8208x1024, .f32⟩
  | 82 => ⟨S8208x2048, .f32⟩
  | 83 => ⟨S_, .f32⟩
  | 84 => ⟨S112x2048, .f32⟩
  | 85 => ⟨S8320x2048, .f32⟩
  | 86 => ⟨S8320x2048, .bf16⟩
  | 87 => ⟨S_, .f32⟩
  | 88 => ⟨S112x768, .f32⟩
  | 89 => ⟨S8320x768, .f32⟩
  | 90 => ⟨S1x384, .f32⟩
  | 91 => ⟨S1x256, .f32⟩
  | _ => ⟨S8208x384, .f32⟩

abbrev hbmTy (i : Nat) : BufTy := match i / 128 with
  | 0 => hbmTy0_0 i
  | 1 => hbmTy0_1 i
  | _ => ⟨S8208x384, .f32⟩

abbrev bufTy : (tb : Table) → Fin (tcTables nBuf tb) → BufTy
  | .hbm, ⟨i, _⟩ => hbmTy i
  | _, _ => ⟨S8208x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_8 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_11 : Ref sig .tc := ⟨.hbm, 101, rfl⟩
abbrev main_v77 : Ref sig .tc := ⟨.hbm, 102, rfl⟩
abbrev main_cst_12 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_14 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_15 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_16 : Ref sig .tc := ⟨.hbm, 144, rfl⟩
abbrev main_v115 : Ref sig .tc := ⟨.hbm, 145, rfl⟩
abbrev main_v116 : Ref sig .tc := ⟨.hbm, 146, rfl⟩
abbrev main_cst_17 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_18 : Ref sig .tc := ⟨.hbm, 153, rfl⟩
abbrev main_v122 : Ref sig .tc := ⟨.hbm, 154, rfl⟩
abbrev main_v123 : Ref sig .tc := ⟨.hbm, 155, rfl⟩
abbrev main_cst_19 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_20 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_21 : Ref sig .tc := ⟨.hbm, 172, rfl⟩
abbrev main_v138 : Ref sig .tc := ⟨.hbm, 173, rfl⟩
abbrev main_v139 : Ref sig .tc := ⟨.hbm, 174, rfl⟩
abbrev main_cst_22 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_23 : Ref sig .tc := ⟨.hbm, 181, rfl⟩
abbrev main_v145 : Ref sig .tc := ⟨.hbm, 182, rfl⟩
abbrev main_v146 : Ref sig .tc := ⟨.hbm, 183, rfl⟩
abbrev main_cst_24 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_25 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_26 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_27 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_28 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_cst_29 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩

abbrev nD : Nat := 1
abbrev τ : Topo := Topo.v7x

variable {F : FTy → Type} [FloatOps F]
-- ==== Gate.lean ====
abbrev S8208x5632 : Shape := ⟨2, ![8208, 5632]⟩
abbrev S3x5632 : Shape := ⟨2, ![3, 5632]⟩
abbrev S5632 : Shape := ⟨1, ![5632]⟩
abbrev S2816x1024 : Shape := ⟨2, ![2816, 1024]⟩
abbrev S8208x1024 : Shape := ⟨2, ![8208, 1024]⟩
abbrev S1x5632 : Shape := ⟨2, ![1, 5632]⟩
abbrev S_ : Shape := ⟨0, ![]⟩
abbrev S8207x5632 : Shape := ⟨2, ![8207, 5632]⟩
abbrev S2x5632 : Shape := ⟨2, ![2, 5632]⟩
abbrev S8206x5632 : Shape := ⟨2, ![8206, 5632]⟩
abbrev S112x5632 : Shape := ⟨2, ![112, 5632]⟩
abbrev S8320x5632 : Shape := ⟨2, ![8320, 5632]⟩
abbrev S112x1024 : Shape := ⟨2, ![112, 1024]⟩
abbrev S8320x1024 : Shape := ⟨2, ![8320, 1024]⟩
abbrev S5x5632 : Shape := ⟨2, ![5, 5632]⟩
abbrev S8x5632 : Shape := ⟨2, ![8, 5632]⟩
abbrev S320x5632 : Shape := ⟨2, ![320, 5632]⟩
abbrev S320x1024 : Shape := ⟨2, ![320, 1024]⟩
abbrev S320x256 : Shape := ⟨2, ![320, 256]⟩
abbrev S256x1024 : Shape := ⟨2, ![256, 1024]⟩
abbrev S8x256 : Shape := ⟨2, ![8, 256]⟩
abbrev S312x256 : Shape := ⟨2, ![312, 256]⟩
abbrev S256 : Shape := ⟨1, ![256]⟩
abbrev S1x256 : Shape := ⟨2, ![1, 256]⟩
abbrev S5x256 : Shape := ⟨2, ![5, 256]⟩

abbrev nBuf : Space → Nat
  | .hbm => 52
  | .vmem => 13
  | .smem => 0
  | _ => 0

abbrev bufTy : (tb : Table) → Fin (tcTables nBuf tb) → BufTy
  | .hbm, ⟨0, _⟩ => ⟨S8208x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S8208x1024, .f32⟩
  | .hbm, ⟨5, _⟩ => ⟨S1x5632, .f32⟩
  | .hbm, ⟨6, _⟩ => ⟨S5632, .f32⟩
  | .hbm, ⟨7, _⟩ => ⟨S1x5632, .f32⟩
  | .hbm, ⟨8, _⟩ => ⟨S8208x5632, .f32⟩
  | .hbm, ⟨9, _⟩ => ⟨S8208x5632, .f32⟩
  | .hbm, ⟨10, _⟩ => ⟨S1x5632, .f32⟩
  | .hbm, ⟨11, _⟩ => ⟨S5632, .f32⟩
  | .hbm, ⟨12, _⟩ => ⟨S_, .f32⟩
  | .hbm, ⟨13, _⟩ => ⟨S1x5632, .f32⟩
  | .hbm, ⟨14, _⟩ => ⟨S8207x5632, .f32⟩
  | .hbm, ⟨15, _⟩ => ⟨S8208x5632, .f32⟩
  | .hbm, ⟨16, _⟩ => ⟨S1x5632, .f32⟩
  | .hbm, ⟨17, _⟩ => ⟨S8208x5632, .f32⟩
  | .hbm, ⟨18, _⟩ => ⟨S8208x5632, .f32⟩
  | .hbm, ⟨19, _⟩ => ⟨S8208x5632, .f32⟩
  | .hbm, ⟨20, _⟩ => ⟨S1x5632, .f32⟩
  | .hbm, ⟨21, _⟩ => ⟨S5632, .f32⟩
  | .hbm, ⟨22, _⟩ => ⟨S_, .f32⟩
  | .hbm, ⟨23, _⟩ => ⟨S2x5632, .f32⟩
  | .hbm, ⟨24, _⟩ => ⟨S8206x5632, .f32⟩
  | .hbm, ⟨25, _⟩ => ⟨S8208x5632, .f32⟩
  | .hbm, ⟨26, _⟩ => ⟨S1x5632, .f32⟩
  | .hbm, ⟨27, _⟩ => ⟨S8208x5632, .f32⟩
  | .hbm, ⟨28, _⟩ => ⟨S8208x5632, .f32⟩
  | .hbm, ⟨29, _⟩ => ⟨S8208x5632, .f32⟩
  | .hbm, ⟨30, _⟩ => ⟨S1x5632, .f32⟩
  | .hbm, ⟨31, _⟩ => ⟨S8208x5632, .f32⟩
  | .hbm, ⟨32, _⟩ => ⟨S8208x5632, .f32⟩
  | .hbm, ⟨33, _⟩ => ⟨S8208x5632, .bf16⟩
  | .hbm, ⟨34, _⟩ => ⟨S_, .bf16⟩
  | .hbm, ⟨35, _⟩ => ⟨S112x5632, .bf16⟩
  | .hbm, ⟨36, _⟩ => ⟨S8320x5632, .bf16⟩
  | .hbm, ⟨37, _⟩ => ⟨S8208x5632, .bf16⟩
  | .hbm, ⟨38, _⟩ => ⟨S_, .bf16⟩
  | .hbm, ⟨39, _⟩ => ⟨S112x5632, .bf16⟩
  | .hbm, ⟨40, _⟩ => ⟨S8320x5632, .bf16⟩
  | .hbm, ⟨41, _⟩ => ⟨S8208x1024, .bf16⟩
  | .hbm, ⟨42, _⟩ => ⟨S_, .bf16⟩
  | .hbm, ⟨43, _⟩ => ⟨S112x1024, .bf16⟩
  | .hbm, ⟨44, _⟩ => ⟨S8320x1024, .bf16⟩
  | .hbm, ⟨45, _⟩ => ⟨S2816x1024, .bf16⟩
  | .hbm, ⟨46, _⟩ => ⟨S_, .f32⟩
  | .hbm, ⟨47, _⟩ => ⟨S5x5632, .f32⟩
  | .hbm, ⟨48, _⟩ => ⟨S8x5632, .f32⟩
  | .hbm, ⟨49, _⟩ => ⟨S8320x5632, .bf16⟩
  | .hbm, ⟨50, _⟩ => ⟨S8x5632, .f32⟩
  | .hbm, ⟨51, _⟩ => ⟨S1x5632, .f32⟩
  | .local _ .vmem, ⟨0, _⟩ => ⟨S320x5632, .bf16⟩
  | .local _ .vmem, ⟨1, _⟩ => ⟨S320x5632, .bf16⟩
  | .local _ .vmem, ⟨2, _⟩ => ⟨S320x5632, .bf16⟩
  | .local _ .vmem, ⟨3, _⟩ => ⟨S320x5632, .bf16⟩
  | .local _ .vmem, ⟨4, _⟩ => ⟨S320x1024, .bf16⟩
  | .local _ .vmem, ⟨5, _⟩ => ⟨S320x1024, .bf16⟩
  | .local _ .vmem, ⟨6, _⟩ => ⟨S2816x1024, .bf16⟩
  | .local _ .vmem, ⟨7, _⟩ => ⟨S8x5632, .f32⟩
  | .local _ .vmem, ⟨8, _⟩ => ⟨S320x5632, .bf16⟩
  | .local _ .vmem, ⟨9, _⟩ => ⟨S320x5632, .bf16⟩
  | .local _ .vmem, ⟨10, _⟩ => ⟨S8x5632, .f32⟩
  | .local _ .vmem, ⟨11, _⟩ => ⟨S1x5632, .f32⟩
  | .local _ .vmem, ⟨12, _⟩ => ⟨S8x5632, .f32⟩
  | _, _ => ⟨S8208x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![26], ![false]⟩

def k0_cond2 (i : grid0.Coords) : BitVec 1 :=
  let arg0 : BitVec 32 := BitVec.ofNat 32 (i 0).val
  let c0_i32 : BitVec 32 := 0#32
  let v1 : BitVec 1 := Scalar.cmpi .eq arg0 c0_i32
  let v82 : BitVec 32 := Scalar.extui v1
  let c0_i32_25 : BitVec 32 := 0#32
  let v83 : BitVec 1 := Scalar.cmpi .ne v82 c0_i32_25
  v83

def k0_cond3 (i : grid0.Coords) : BitVec 1 :=
  let arg0 : BitVec 32 := BitVec.ofNat 32 (i 0).val
  let c0_i32 : BitVec 32 := 0#32
  let v1 : BitVec 1 := Scalar.cmpi .eq arg0 c0_i32
  let v_true : BitVec 1 := 1#1
  let v84 : BitVec 1 := Scalar.xori v1 v_true
  let v85 : BitVec 32 := Scalar.extui v84
  let c0_i32_26 : BitVec 32 := 0#32
  let v86 : BitVec 1 := Scalar.cmpi .ne v85 c0_i32_26
  v86

def k0_cond4 (i : grid0.Coords) : BitVec 1 :=
  let arg0 : BitVec 32 := BitVec.ofNat 32 (i 0).val
  let c0_i32 : BitVec 32 := 0#32
  let v1 : BitVec 1 := Scalar.cmpi .eq arg0 c0_i32
  let v150 : BitVec 32 := Scalar.extui v1
  let c0_i32_53 : BitVec 32 := 0#32
  let v151 : BitVec 1 := Scalar.cmpi .ne v150 c0_i32_53
  v151

def k0_cond5 (i : grid0.Coords) : BitVec 1 :=
  let arg0 : BitVec 32 := BitVec.ofNat 32 (i 0).val
  let c0_i32 : BitVec 32 := 0#32
  let v1 : BitVec 1 := Scalar.cmpi .eq arg0 c0_i32
  let true_54 : BitVec 1 := 1#1
  let v152 : BitVec 1 := Scalar.xori v1 true_54
  let v153 : BitVec 32 := Scalar.extui v152
  let c0_i32_55 : BitVec 32 := 0#32
  let v154 : BitVec 1 := Scalar.cmpi .ne v153 c0_i32_55
  v154

def k0_cond6 (i : grid0.Coords) : BitVec 1 :=
  let arg0 : BitVec 32 := BitVec.ofNat 32 (i 0).val
  let c0_i32 : BitVec 32 := 0#32
  let v1 : BitVec 1 := Scalar.cmpi .eq arg0 c0_i32
  let v251 : BitVec 32 := Scalar.extui v1
  let c0_i32_98 : BitVec 32 := 0#32
  let v252 : BitVec 1 := Scalar.cmpi .ne v251 c0_i32_98
  v252

def k0_cond7 (i : grid0.Coords) : BitVec 1 :=
  let arg0 : BitVec 32 := BitVec.ofNat 32 (i 0).val
  let c0_i32 : BitVec 32 := 0#32
  let v1 : BitVec 1 := Scalar.cmpi .eq arg0 c0_i32
  let true_99 : BitVec 1 := 1#1
  let v253 : BitVec 1 := Scalar.xori v1 true_99
  let v254 : BitVec 32 := Scalar.extui v253
  let c0_i32_100 : BitVec 32 := 0#32
  let v255 : BitVec 1 := Scalar.cmpi .ne v254 c0_i32_100
  v255

def k0_cond8 (i : grid0.Coords) : BitVec 1 :=
  let arg0 : BitVec 32 := BitVec.ofNat 32 (i 0).val
  let c0_i32 : BitVec 32 := 0#32
  let v1 : BitVec 1 := Scalar.cmpi .eq arg0 c0_i32
  let v319 : BitVec 32 := Scalar.extui v1
  let c0_i32_130 : BitVec 32 := 0#32
  let v320 : BitVec 1 := Scalar.cmpi .ne v319 c0_i32_130
  v320

def k0_cond9 (i : grid0.Coords) : BitVec 1 :=
  let arg0 : BitVec 32 := BitVec.ofNat 32 (i 0).val
  let c0_i32 : BitVec 32 := 0#32
  let v1 : BitVec 1 := Scalar.cmpi .eq arg0 c0_i32
  let true_131 : BitVec 1 := 1#1
  let v321 : BitVec 1 := Scalar.xori v1 true_131
  let v322 : BitVec 32 := Scalar.extui v321
  let c0_i32_132 : BitVec 32 := 0#32
  let v323 : BitVec 1 := Scalar.cmpi .ne v322 c0_i32_132
  v323

def k0_cond10 (i : grid0.Coords) : BitVec 1 :=
  let arg0 : BitVec 32 := BitVec.ofNat 32 (i 0).val
  let c0_i32 : BitVec 32 := 0#32
  let v1 : BitVec 1 := Scalar.cmpi .eq arg0 c0_i32
  let v420 : BitVec 32 := Scalar.extui v1
  let c0_i32_175 : BitVec 32 := 0#32
  let v421 : BitVec 1 := Scalar.cmpi .ne v420 c0_i32_175
  v421

def k0_cond11 (i : grid0.Coords) : BitVec 1 :=
  let arg0 : BitVec 32 := BitVec.ofNat 32 (i 0).val
  let c0_i32 : BitVec 32 := 0#32
  let v1 : BitVec 1 := Scalar.cmpi .eq arg0 c0_i32
  let true_176 : BitVec 1 := 1#1
  let v422 : BitVec 1 := Scalar.xori v1 true_176
  let v423 : BitVec 32 := Scalar.extui v422
  let c0_i32_177 : BitVec 32 := 0#32
  let v424 : BitVec 1 := Scalar.cmpi .ne v423 c0_i32_177
  v424

def k0_cond12 (i : grid0.Coords) : BitVec 1 :=
  let arg0 : BitVec 32 := BitVec.ofNat 32 (i 0).val
  let c0_i32 : BitVec 32 := 0#32
  let v1 : BitVec 1 := Scalar.cmpi .eq arg0 c0_i32
  let v488 : BitVec 32 := Scalar.extui v1
  let c0_i32_207 : BitVec 32 := 0#32
  let v489 : BitVec 1 := Scalar.cmpi .ne v488 c0_i32_207
  v489

def k0_cond13 (i : grid0.Coords) : BitVec 1 :=
  let arg0 : BitVec 32 := BitVec.ofNat 32 (i 0).val
  let c0_i32 : BitVec 32 := 0#32
  let v1 : BitVec 1 := Scalar.cmpi .eq arg0 c0_i32
  let true_208 : BitVec 1 := 1#1
  let v490 : BitVec 1 := Scalar.xori v1 true_208
  let v491 : BitVec 32 := Scalar.extui v490
  let c0_i32_209 : BitVec 32 := 0#32
  let v492 : BitVec 1 := Scalar.cmpi .ne v491 c0_i32_209
  v492

def k0_cond14 (i : grid0.Coords) : BitVec 1 :=
  let arg0 : BitVec 32 := BitVec.ofNat 32 (i 0).val
  let c0_i32 : BitVec 32 := 0#32
  let v1 : BitVec 1 := Scalar.cmpi .eq arg0 c0_i32
  let v589 : BitVec 32 := Scalar.extui v1
  let c0_i32_252 : BitVec 32 := 0#32
  let v590 : BitVec 1 := Scalar.cmpi .ne v589 c0_i32_252
  v590

def k0_cond15 (i : grid0.Coords) : BitVec 1 :=
  let arg0 : BitVec 32 := BitVec.ofNat 32 (i 0).val
  let c0_i32 : BitVec 32 := 0#32
  let v1 : BitVec 1 := Scalar.cmpi .eq arg0 c0_i32
  let true_253 : BitVec 1 := 1#1
  let v591 : BitVec 1 := Scalar.xori v1 true_253
  let v592 : BitVec 32 := Scalar.extui v591
  let c0_i32_254 : BitVec 32 := 0#32
  let v593 : BitVec 1 := Scalar.cmpi .ne v592 c0_i32_254
  v593

def k0_cond16 (i : grid0.Coords) : BitVec 1 :=
  let arg0 : BitVec 32 := BitVec.ofNat 32 (i 0).val
  let c0_i32 : BitVec 32 := 0#32
  let v1 : BitVec 1 := Scalar.cmpi .eq arg0 c0_i32
  let v657 : BitVec 32 := Scalar.extui v1
  let c0_i32_284 : BitVec 32 := 0#32
  let v658 : BitVec 1 := Scalar.cmpi .ne v657 c0_i32_284
  v658

def k0_cond17 (i : grid0.Coords) : BitVec 1 :=
  let arg0 : BitVec 32 := BitVec.ofNat 32 (i 0).val
  let c0_i32 : BitVec 32 := 0#32
  let v1 : BitVec 1 := Scalar.cmpi .eq arg0 c0_i32
  let true_285 : BitVec 1 := 1#1
  let v659 : BitVec 1 := Scalar.xori v1 true_285
  let v660 : BitVec 32 := Scalar.extui v659
  let c0_i32_286 : BitVec 32 := 0#32
  let v661 : BitVec 1 := Scalar.cmpi .ne v660 c0_i32_286
  v661

def k0_cond18 (i : grid0.Coords) : BitVec 1 :=
  let arg0 : BitVec 32 := BitVec.ofNat 32 (i 0).val
  let c0_i32 : BitVec 32 := 0#32
  let v1 : BitVec 1 := Scalar.cmpi .eq arg0 c0_i32
  let v758 : BitVec 32 := Scalar.extui v1
  let c0_i32_329 : BitVec 32 := 0#32
  let v759 : BitVec 1 := Scalar.cmpi .ne v758 c0_i32_329
  v759

def k0_cond19 (i : grid0.Coords) : BitVec 1 :=
  let arg0 : BitVec 32 := BitVec.ofNat 32 (i 0).val
  let c0_i32 : BitVec 32 := 0#32
  let v1 : BitVec 1 := Scalar.cmpi .eq arg0 c0_i32
  let true_330 : BitVec 1 := 1#1
  let v760 : BitVec 1 := Scalar.xori v1 true_330
  let v761 : BitVec 32 := Scalar.extui v760
  let c0_i32_331 : BitVec 32 := 0#32
  let v762 : BitVec 1 := Scalar.cmpi .ne v761 c0_i32_331
  v762

def k0_cond20 (i : grid0.Coords) : BitVec 1 :=
  let arg0 : BitVec 32 := BitVec.ofNat 32 (i 0).val
  let c0_i32 : BitVec 32 := 0#32
  let v1 : BitVec 1 := Scalar.cmpi .eq arg0 c0_i32
  let v826 : BitVec 32 := Scalar.extui v1
  let c0_i32_361 : BitVec 32 := 0#32
  let v827 : BitVec 1 := Scalar.cmpi .ne v826 c0_i32_361
  v827

def k0_cond21 (i : grid0.Coords) : BitVec 1 :=
  let arg0 : BitVec 32 := BitVec.ofNat 32 (i 0).val
  let c0_i32 : BitVec 32 := 0#32
  let v1 : BitVec 1 := Scalar.cmpi .eq arg0 c0_i32
  let true_362 : BitVec 1 := 1#1
  let v828 : BitVec 1 := Scalar.xori v1 true_362
  let v829 : BitVec 32 := Scalar.extui v828
  let c0_i32_363 : BitVec 32 := 0#32
  let v830 : BitVec 1 := Scalar.cmpi .ne v829 c0_i32_363
  v830

def k0_cond22 (i : grid0.Coords) : BitVec 1 :=
  let arg0 : BitVec 32 := BitVec.ofNat 32 (i 0).val
  let c0_i32 : BitVec 32 := 0#32
  let v1 : BitVec 1 := Scalar.cmpi .eq arg0 c0_i32
  let v927 : BitVec 32 := Scalar.extui v1
  let c0_i32_406 : BitVec 32 := 0#32
  let v928 : BitVec 1 := Scalar.cmpi .ne v927 c0_i32_406
  v928

def k0_cond23 (i : grid0.Coords) : BitVec 1 :=
  let arg0 : BitVec 32 := BitVec.ofNat 32 (i 0).val
  let c0_i32 : BitVec 32 := 0#32
  let v1 : BitVec 1 := Scalar.cmpi .eq arg0 c0_i32
  let true_407 : BitVec 1 := 1#1
  let v929 : BitVec 1 := Scalar.xori v1 true_407
  let v930 : BitVec 32 := Scalar.extui v929
  let c0_i32_408 : BitVec 32 := 0#32
  let v931 : BitVec 1 := Scalar.cmpi .ne v930 c0_i32_408
  v931

def k0_cond24 (i : grid0.Coords) : BitVec 1 :=
  let arg0 : BitVec 32 := BitVec.ofNat 32 (i 0).val
  let c0_i32 : BitVec 32 := 0#32
  let v1 : BitVec 1 := Scalar.cmpi .eq arg0 c0_i32
  let v995 : BitVec 32 := Scalar.extui v1
  let c0_i32_438 : BitVec 32 := 0#32
  let v996 : BitVec 1 := Scalar.cmpi .ne v995 c0_i32_438
  v996

def k0_cond25 (i : grid0.Coords) : BitVec 1 :=
  let arg0 : BitVec 32 := BitVec.ofNat 32 (i 0).val
  let c0_i32 : BitVec 32 := 0#32
  let v1 : BitVec 1 := Scalar.cmpi .eq arg0 c0_i32
  let true_439 : BitVec 1 := 1#1
  let v997 : BitVec 1 := Scalar.xori v1 true_439
  let v998 : BitVec 32 := Scalar.extui v997
  let c0_i32_440 : BitVec 32 := 0#32
  let v999 : BitVec 1 := Scalar.cmpi .ne v998 c0_i32_440
  v999

def k0_cond26 (i : grid0.Coords) : BitVec 1 :=
  let arg0 : BitVec 32 := BitVec.ofNat 32 (i 0).val
  let c0_i32 : BitVec 32 := 0#32
  let v1 : BitVec 1 := Scalar.cmpi .eq arg0 c0_i32
  let v1096 : BitVec 32 := Scalar.extui v1
  let c0_i32_483 : BitVec 32 := 0#32
  let v1097 : BitVec 1 := Scalar.cmpi .ne v1096 c0_i32_483
  v1097

def k0_cond27 (i : grid0.Coords) : BitVec 1 :=
  let arg0 : BitVec 32 := BitVec.ofNat 32 (i 0).val
  let c0_i32 : BitVec 32 := 0#32
  let v1 : BitVec 1 := Scalar.cmpi .eq arg0 c0_i32
  let true_484 : BitVec 1 := 1#1
  let v1098 : BitVec 1 := Scalar.xori v1 true_484
  let v1099 : BitVec 32 := Scalar.extui v1098
  let c0_i32_485 : BitVec 32 := 0#32
  let v1100 : BitVec 1 := Scalar.cmpi .ne v1099 c0_i32_485
  v1100

def k0_cond28 (i : grid0.Coords) : BitVec 1 :=
  let arg0 : BitVec 32 := BitVec.ofNat 32 (i 0).val
  let c0_i32 : BitVec 32 := 0#32
  let v1 : BitVec 1 := Scalar.cmpi .eq arg0 c0_i32
  let v1164 : BitVec 32 := Scalar.extui v1
  let c0_i32_515 : BitVec 32 := 0#32
  let v1165 : BitVec 1 := Scalar.cmpi .ne v1164 c0_i32_515
  v1165

def k0_cond29 (i : grid0.Coords) : BitVec 1 :=
  let arg0 : BitVec 32 := BitVec.ofNat 32 (i 0).val
  let c0_i32 : BitVec 32 := 0#32
  let v1 : BitVec 1 := Scalar.cmpi .eq arg0 c0_i32
  let true_516 : BitVec 1 := 1#1
  let v1166 : BitVec 1 := Scalar.xori v1 true_516
  let v1167 : BitVec 32 := Scalar.extui v1166
  let c0_i32_517 : BitVec 32 := 0#32
  let v1168 : BitVec 1 := Scalar.cmpi .ne v1167 c0_i32_517
  v1168

def k0_cond30 (i : grid0.Coords) : BitVec 1 :=
  let arg0 : BitVec 32 := BitVec.ofNat 32 (i 0).val
  let c0_i32 : BitVec 32 := 0#32
  let v1 : BitVec 1 := Scalar.cmpi .eq arg0 c0_i32
  let v1265 : BitVec 32 := Scalar.extui v1
  let c0_i32_560 : BitVec 32 := 0#32
  let v1266 : BitVec 1 := Scalar.cmpi .ne v1265 c0_i32_560
  v1266

def k0_cond31 (i : grid0.Coords) : BitVec 1 :=
  let arg0 : BitVec 32 := BitVec.ofNat 32 (i 0).val
  let c0_i32 : BitVec 32 := 0#32
  let v1 : BitVec 1 := Scalar.cmpi .eq arg0 c0_i32
  let true_561 : BitVec 1 := 1#1
  let v1267 : BitVec 1 := Scalar.xori v1 true_561
  let v1268 : BitVec 32 := Scalar.extui v1267
  let c0_i32_562 : BitVec 32 := 0#32
  let v1269 : BitVec 1 := Scalar.cmpi .ne v1268 c0_i32_562
  v1269

def k0_cond32 (i : grid0.Coords) : BitVec 1 :=
  let arg0 : BitVec 32 := BitVec.ofNat 32 (i 0).val
  let c0_i32 : BitVec 32 := 0#32
  let v1 : BitVec 1 := Scalar.cmpi .eq arg0 c0_i32
  let v1333 : BitVec 32 := Scalar.extui v1
  let c0_i32_592 : BitVec 32 := 0#32
  let v1334 : BitVec 1 := Scalar.cmpi .ne v1333 c0_i32_592
  v1334

def k0_cond33 (i : grid0.Coords) : BitVec 1 :=
  let arg0 : BitVec 32 := BitVec.ofNat 32 (i 0).val
  let c0_i32 : BitVec 32 := 0#32
  let v1 : BitVec 1 := Scalar.cmpi .eq arg0 c0_i32
  let true_593 : BitVec 1 := 1#1
  let v1335 : BitVec 1 := Scalar.xori v1 true_593
  let v1336 : BitVec 32 := Scalar.extui v1335
  let c0_i32_594 : BitVec 32 := 0#32
  let v1337 : BitVec 1 := Scalar.cmpi .ne v1336 c0_i32_594
  v1337

def k0_cond34 (i : grid0.Coords) : BitVec 1 :=
  let arg0 : BitVec 32 := BitVec.ofNat 32 (i 0).val
  let c0_i32 : BitVec 32 := 0#32
  let v1 : BitVec 1 := Scalar.cmpi .eq arg0 c0_i32
  let v1434 : BitVec 32 := Scalar.extui v1
  let c0_i32_637 : BitVec 32 := 0#32
  let v1435 : BitVec 1 := Scalar.cmpi .ne v1434 c0_i32_637
  v1435

def k0_cond35 (i : grid0.Coords) : BitVec 1 :=
  let arg0 : BitVec 32 := BitVec.ofNat 32 (i 0).val
  let c0_i32 : BitVec 32 := 0#32
  let v1 : BitVec 1 := Scalar.cmpi .eq arg0 c0_i32
  let true_638 : BitVec 1 := 1#1
  let v1436 : BitVec 1 := Scalar.xori v1 true_638
  let v1437 : BitVec 32 := Scalar.extui v1436
  let c0_i32_639 : BitVec 32 := 0#32
  let v1438 : BitVec 1 := Scalar.cmpi .ne v1437 c0_i32_639
  v1438

def k0_cond36 (i : grid0.Coords) : BitVec 1 :=
  let arg0 : BitVec 32 := BitVec.ofNat 32 (i 0).val
  let c0_i32 : BitVec 32 := 0#32
  let v1 : BitVec 1 := Scalar.cmpi .eq arg0 c0_i32
  let v1502 : BitVec 32 := Scalar.extui v1
  let c0_i32_669 : BitVec 32 := 0#32
  let v1503 : BitVec 1 := Scalar.cmpi .ne v1502 c0_i32_669
  v1503

def k0_cond37 (i : grid0.Coords) : BitVec 1 :=
  let arg0 : BitVec 32 := BitVec.ofNat 32 (i 0).val
  let c0_i32 : BitVec 32 := 0#32
  let v1 : BitVec 1 := Scalar.cmpi .eq arg0 c0_i32
  let true_670 : BitVec 1 := 1#1
  let v1504 : BitVec 1 := Scalar.xori v1 true_670
  let v1505 : BitVec 32 := Scalar.extui v1504
  let c0_i32_671 : BitVec 32 := 0#32
  let v1506 : BitVec 1 := Scalar.cmpi .ne v1505 c0_i32_671
  v1506

def k0_cond38 (i : grid0.Coords) : BitVec 1 :=
  let arg0 : BitVec 32 := BitVec.ofNat 32 (i 0).val
  let c0_i32 : BitVec 32 := 0#32
  let v1 : BitVec 1 := Scalar.cmpi .eq arg0 c0_i32
  let v1603 : BitVec 32 := Scalar.extui v1
  let c0_i32_714 : BitVec 32 := 0#32
  let v1604 : BitVec 1 := Scalar.cmpi .ne v1603 c0_i32_714
  v1604

def k0_cond39 (i : grid0.Coords) : BitVec 1 :=
  let arg0 : BitVec 32 := BitVec.ofNat 32 (i 0).val
  let c0_i32 : BitVec 32 := 0#32
  let v1 : BitVec 1 := Scalar.cmpi .eq arg0 c0_i32
  let true_715 : BitVec 1 := 1#1
  let v1605 : BitVec 1 := Scalar.xori v1 true_715
  let v1606 : BitVec 32 := Scalar.extui v1605
  let c0_i32_716 : BitVec 32 := 0#32
  let v1607 : BitVec 1 := Scalar.cmpi .ne v1606 c0_i32_716
  v1607

def k0_cond40 (i : grid0.Coords) : BitVec 1 :=
  let arg0 : BitVec 32 := BitVec.ofNat 32 (i 0).val
  let c0_i32 : BitVec 32 := 0#32
  let v1 : BitVec 1 := Scalar.cmpi .eq arg0 c0_i32
  let v1671 : BitVec 32 := Scalar.extui v1
  let c0_i32_746 : BitVec 32 := 0#32
  let v1672 : BitVec 1 := Scalar.cmpi .ne v1671 c0_i32_746
  v1672

def k0_cond41 (i : grid0.Coords) : BitVec 1 :=
  let arg0 : BitVec 32 := BitVec.ofNat 32 (i 0).val
  let c0_i32 : BitVec 32 := 0#32
  let v1 : BitVec 1 := Scalar.cmpi .eq arg0 c0_i32
  let true_747 : BitVec 1 := 1#1
  let v1673 : BitVec 1 := Scalar.xori v1 true_747
  let v1674 : BitVec 32 := Scalar.extui v1673
  let c0_i32_748 : BitVec 32 := 0#32
  let v1675 : BitVec 1 := Scalar.cmpi .ne v1674 c0_i32_748
  v1675

def k0_cond42 (i : grid0.Coords) : BitVec 1 :=
  let arg0 : BitVec 32 := BitVec.ofNat 32 (i 0).val
  let c0_i32 : BitVec 32 := 0#32
  let v1 : BitVec 1 := Scalar.cmpi .eq arg0 c0_i32
  let v1772 : BitVec 32 := Scalar.extui v1
  let c0_i32_791 : BitVec 32 := 0#32
  let v1773 : BitVec 1 := Scalar.cmpi .ne v1772 c0_i32_791
  v1773

def k0_cond43 (i : grid0.Coords) : BitVec 1 :=
  let arg0 : BitVec 32 := BitVec.ofNat 32 (i 0).val
  let c0_i32 : BitVec 32 := 0#32
  let v1 : BitVec 1 := Scalar.cmpi .eq arg0 c0_i32
  let true_792 : BitVec 1 := 1#1
  let v1774 : BitVec 1 := Scalar.xori v1 true_792
  let v1775 : BitVec 32 := Scalar.extui v1774
  let c0_i32_793 : BitVec 32 := 0#32
  let v1776 : BitVec 1 := Scalar.cmpi .ne v1775 c0_i32_793
  v1776

def k0_cond44 (i : grid0.Coords) : BitVec 1 :=
  let arg0 : BitVec 32 := BitVec.ofNat 32 (i 0).val
  let c0_i32 : BitVec 32 := 0#32
  let v1 : BitVec 1 := Scalar.cmpi .eq arg0 c0_i32
  let v1840 : BitVec 32 := Scalar.extui v1
  let c0_i32_823 : BitVec 32 := 0#32
  let v1841 : BitVec 1 := Scalar.cmpi .ne v1840 c0_i32_823
  v1841

def k0_cond45 (i : grid0.Coords) : BitVec 1 :=
  let arg0 : BitVec 32 := BitVec.ofNat 32 (i 0).val
  let c0_i32 : BitVec 32 := 0#32
  let v1 : BitVec 1 := Scalar.cmpi .eq arg0 c0_i32
  let true_824 : BitVec 1 := 1#1
  let v1842 : BitVec 1 := Scalar.xori v1 true_824
  let v1843 : BitVec 32 := Scalar.extui v1842
  let c0_i32_825 : BitVec 32 := 0#32
  let v1844 : BitVec 1 := Scalar.cmpi .ne v1843 c0_i32_825
  v1844

def cc0_transform_0 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateRefIdeal.lean ====
abbrev S8208x5632 : Shape := ⟨2, ![8208, 5632]⟩
abbrev S3x5632 : Shape := ⟨2, ![3, 5632]⟩
abbrev S5632 : Shape := ⟨1, ![5632]⟩
abbrev S2816x1024 : Shape := ⟨2, ![2816, 1024]⟩
abbrev S8208x1024 : Shape := ⟨2, ![8208, 1024]⟩
abbrev S1x5632 : Shape := ⟨2, ![1, 5632]⟩
abbrev S_ : Shape := ⟨0, ![]⟩
abbrev S8207x5632 : Shape := ⟨2, ![8207, 5632]⟩
abbrev S2x5632 : Shape := ⟨2, ![2, 5632]⟩
abbrev S8206x5632 : Shape := ⟨2, ![8206, 5632]⟩
abbrev S8208x2816 : Shape := ⟨2, ![8208, 2816]⟩
abbrev S1024x2816 : Shape := ⟨2, ![1024, 2816]⟩
abbrev S112x5632 : Shape := ⟨2, ![112, 5632]⟩
abbrev S8320x5632 : Shape := ⟨2, ![8320, 5632]⟩
abbrev S5x5632 : Shape := ⟨2, ![5, 5632]⟩
abbrev S8x5632 : Shape := ⟨2, ![8, 5632]⟩

abbrev nBuf : Space → Nat
  | .hbm => 122
  | .vmem => 0
  | .smem => 0
  | _ => 0

abbrev bufTy : (tb : Table) → Fin (tcTables nBuf tb) → BufTy
  | .hbm, ⟨0, _⟩ => ⟨S8208x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S8208x1024, .f32⟩
  | .hbm, ⟨5, _⟩ => ⟨S1x5632, .f32⟩
  | .hbm, ⟨6, _⟩ => ⟨S5632, .f32⟩
  | .hbm, ⟨7, _⟩ => ⟨S1x5632, .f32⟩
  | .hbm, ⟨8, _⟩ => ⟨S8208x5632, .f32⟩
  | .hbm, ⟨9, _⟩ => ⟨S8208x5632, .f32⟩
  | .hbm, ⟨10, _⟩ => ⟨S1x5632, .f32⟩
  | .hbm, ⟨11, _⟩ => ⟨S5632, .f32⟩
  | .hbm, ⟨12, _⟩ => ⟨S_, .f32⟩
  | .hbm, ⟨13, _⟩ => ⟨S1x5632, .f32⟩
  | .hbm, ⟨14, _⟩ => ⟨S8207x5632, .f32⟩
  | .hbm, ⟨15, _⟩ => ⟨S8208x5632, .f32⟩
  | .hbm, ⟨16, _⟩ => ⟨S_, .f32⟩
  | .hbm, ⟨17, _⟩ => ⟨S1x5632, .f32⟩
  | .hbm, ⟨18, _⟩ => ⟨S1x5632, .f32⟩
  | .hbm, ⟨19, _⟩ => ⟨S8208x5632, .f32⟩
  | .hbm, ⟨20, _⟩ => ⟨S8208x5632, .f32⟩
  | .hbm, ⟨21, _⟩ => ⟨S8208x5632, .f32⟩
  | .hbm, ⟨22, _⟩ => ⟨S1x5632, .f32⟩
  | .hbm, ⟨23, _⟩ => ⟨S5632, .f32⟩
  | .hbm, ⟨24, _⟩ => ⟨S_, .f32⟩
  | .hbm, ⟨25, _⟩ => ⟨S2x5632, .f32⟩
  | .hbm, ⟨26, _⟩ => ⟨S8206x5632, .f32⟩
  | .hbm, ⟨27, _⟩ => ⟨S8208x5632, .f32⟩
  | .hbm, ⟨28, _⟩ => ⟨S_, .f32⟩
  | .hbm, ⟨29, _⟩ => ⟨S2x5632, .f32⟩
  | .hbm, ⟨30, _⟩ => ⟨S1x5632, .f32⟩
  | .hbm, ⟨31, _⟩ => ⟨S8208x5632, .f32⟩
  | .hbm, ⟨32, _⟩ => ⟨S8208x5632, .f32⟩
  | .hbm, ⟨33, _⟩ => ⟨S8208x5632, .f32⟩
  | .hbm, ⟨34, _⟩ => ⟨S1x5632, .f32⟩
  | .hbm, ⟨35, _⟩ => ⟨S8208x5632, .f32⟩
  | .hbm, ⟨36, _⟩ => ⟨S8208x5632, .f32⟩
  | .hbm, ⟨37, _⟩ => ⟨S8208x2816, .f32⟩
  | .hbm, ⟨38, _⟩ => ⟨S8208x2816, .f32⟩
  | .hbm, ⟨39, _⟩ => ⟨S8208x2816, .f32⟩
  | .hbm, ⟨40, _⟩ => ⟨S8208x2816, .f32⟩
  | .hbm, ⟨41, _⟩ => ⟨S_, .f32⟩
  | .hbm, ⟨42, _⟩ => ⟨S8208x2816, .f32⟩
  | .hbm, ⟨43, _⟩ => ⟨S8208x2816, .f32⟩
  | .hbm, ⟨44, _⟩ => ⟨S_, .f32⟩
  | .hbm, ⟨45, _⟩ => ⟨S8208x2816, .f32⟩
  | .hbm, ⟨46, _⟩ => ⟨S8208x2816, .f32⟩
  | .hbm, ⟨47, _⟩ => ⟨S_, .f32⟩
  | .hbm, ⟨48, _⟩ => ⟨S8208x2816, .f32⟩
  | .hbm, ⟨49, _⟩ => ⟨S8208x2816, .f32⟩
  | .hbm, ⟨50, _⟩ => ⟨S8208x2816, .f32⟩
  | .hbm, ⟨51, _⟩ => ⟨S8208x2816, .f32⟩
  | .hbm, ⟨52, _⟩ => ⟨S8208x2816, .f32⟩
  | .hbm, ⟨53, _⟩ => ⟨S8208x1024, .f32⟩
  | .hbm, ⟨54, _⟩ => ⟨S1024x2816, .f32⟩
  | .hbm, ⟨55, _⟩ => ⟨S2816x1024, .f32⟩
  | .hbm, ⟨56, _⟩ => ⟨S8208x2816, .f32⟩
  | .hbm, ⟨57, _⟩ => ⟨S8208x2816, .f32⟩
  | .hbm, ⟨58, _⟩ => ⟨S8208x2816, .f32⟩
  | .hbm, ⟨59, _⟩ => ⟨S8208x2816, .f32⟩
  | .hbm, ⟨60, _⟩ => ⟨S8208x2816, .f32⟩
  | .hbm, ⟨61, _⟩ => ⟨S8208x2816, .f32⟩
  | .hbm, ⟨62, _⟩ => ⟨S8208x2816, .f32⟩
  | .hbm, ⟨63, _⟩ => ⟨S8208x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S_, .f32⟩
  | .hbm, ⟨68, _⟩ => ⟨S5632, .f32⟩
  | .hbm, ⟨69, _⟩ => ⟨S8208x5632, .f32⟩
  | .hbm, ⟨70, _⟩ => ⟨S8208x5632, .f32⟩
  | .hbm, ⟨71, _⟩ => ⟨S8208x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S_, .f32⟩
  | .hbm, ⟨76, _⟩ => ⟨S5632, .f32⟩
  | .hbm, ⟨77, _⟩ => ⟨S2x5632, .f32⟩
  | .hbm, ⟨78, _⟩ => ⟨S8206x5632, .f32⟩
  | .hbm, ⟨79, _⟩ => ⟨S_, .f32⟩
  | .hbm, ⟨80, _⟩ => ⟨S8208x5632, .f32⟩
  | .hbm, ⟨81, _⟩ => ⟨S1x5632, .f32⟩
  | .hbm, ⟨82, _⟩ => ⟨S_, .f32⟩
  | .hbm, ⟨83, _⟩ => ⟨S3x5632, .f32⟩
  | .hbm, ⟨84, _⟩ => ⟨S8208x5632, .f32⟩
  | .hbm, ⟨85, _⟩ => ⟨S8208x5632, .f32⟩
  | .hbm, ⟨86, _⟩ => ⟨S8208x5632, .f32⟩
  | .hbm, ⟨87, _⟩ => ⟨S_, .f32⟩
  | .hbm, ⟨88, _⟩ => ⟨S5632, .f32⟩
  | .hbm, ⟨89, _⟩ => ⟨S1x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S8207x5632, .f32⟩
  | .hbm, ⟨94, _⟩ => ⟨S_, .f32⟩
  | .hbm, ⟨95, _⟩ => ⟨S8208x5632, .f32⟩
  | .hbm, ⟨96, _⟩ => ⟨S8208x5632, .f32⟩
  | .hbm, ⟨97, _⟩ => ⟨S1x5632, .f32⟩
  | .hbm, ⟨98, _⟩ => ⟨S_, .f32⟩
  | .hbm, ⟨99, _⟩ => ⟨S3x5632, .f32⟩
  | .hbm, ⟨100, _⟩ => ⟨S3x5632, .f32⟩
  | .hbm, ⟨101, _⟩ => ⟨S8208x5632, .f32⟩
  | .hbm, ⟨102, _⟩ => ⟨S8208x5632, .f32⟩
  | .hbm, ⟨103, _⟩ => ⟨S8208x5632, .f32⟩
  | .hbm, ⟨104, _⟩ => ⟨S8208x5632, .f32⟩
  | .hbm, ⟨105, _⟩ => ⟨S_, .f32⟩
  | .hbm, ⟨106, _⟩ => ⟨S5632, .f32⟩
  | .hbm, ⟨107, _⟩ => ⟨S1x5632, .f32⟩
  | .hbm, ⟨108, _⟩ => ⟨S_, .f32⟩
  | .hbm, ⟨109, _⟩ => ⟨S5632, .f32⟩
  | .hbm, ⟨110, _⟩ => ⟨S1x5632, .f32⟩
  | .hbm, ⟨111, _⟩ => ⟨S_, .f32⟩
  | .hbm, ⟨112, _⟩ => ⟨S3x5632, .f32⟩
  | .hbm, ⟨113, _⟩ => ⟨S3x5632, .f32⟩
  | .hbm, ⟨114, _⟩ => ⟨S_, .f32⟩
  | .hbm, ⟨115, _⟩ => ⟨S112x5632, .f32⟩
  | .hbm, ⟨116, _⟩ => ⟨S8320x5632, .f32⟩
  | .hbm, ⟨117, _⟩ => ⟨S8320x5632, .bf16⟩
  | .hbm, ⟨118, _⟩ => ⟨S_, .f32⟩
  | .hbm, ⟨119, _⟩ => ⟨S5x5632, .f32⟩
  | .hbm, ⟨120, _⟩ => ⟨S8x5632, .f32⟩
  | .hbm, ⟨121, _⟩ => ⟨S1x5632, .f32⟩
  | _, _ => ⟨S8208x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v30_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v30_1 : Ref sig .tc := ⟨.hbm, 50, rfl⟩
abbrev main_v30_0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_17 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩

abbrev nD : Nat := 1
abbrev τ : Topo := Topo.v7x

variable {F : FTy → Type} [FloatOps F]
-- ==== InFwd.lean ====
abbrev S8208x1024 : Shape := ⟨2, ![8208, 1024]⟩
abbrev S1024 : Shape := ⟨1, ![1024]⟩
abbrev S1024x3280 : Shape := ⟨2, ![1024, 3280]⟩
abbrev S1024x704 : Shape := ⟨2, ![1024, 704]⟩
abbrev S_ : Shape := ⟨0, ![]⟩
abbrev S1024x64 : Shape := ⟨2, ![1024, 64]⟩
abbrev S1024x2576 : Shape := ⟨2, ![1024, 2576]⟩
abbrev S1024x112 : Shape := ⟨2, ![1024, 112]⟩
abbrev S1024x3456 : Shape := ⟨2, ![1024, 3456]⟩
abbrev S112x1024 : Shape := ⟨2, ![112, 1024]⟩
abbrev S8320x1024 : Shape := ⟨2, ![8320, 1024]⟩
abbrev S1x1024 : Shape := ⟨2, ![1, 1024]⟩
abbrev S8320x768 : Shape := ⟨2, ![8320, 768]⟩
abbrev S8320x1536 : Shape := ⟨2, ![8320, 1536]⟩
abbrev S8320x128 : Shape := ⟨2, ![8320, 128]⟩
abbrev S640x1024 : Shape := ⟨2, ![640, 1024]⟩
abbrev S640x768 : Shape := ⟨2, ![640, 768]⟩
abbrev S640x1536 : Shape := ⟨2, ![640, 1536]⟩
abbrev S640x128 : Shape := ⟨2, ![640, 128]⟩
abbrev S640 : Shape := ⟨1, ![640]⟩
abbrev S640x1 : Shape := ⟨2, ![640, 1]⟩
abbrev S1024x768 : Shape := ⟨2, ![1024, 768]⟩
abbrev S1024x1024 : Shape := ⟨2, ![1024, 1024]⟩
abbrev S1024x1536 : Shape := ⟨2, ![1024, 1536]⟩
abbrev S1024x128 : Shape := ⟨2, ![1024, 128]⟩

abbrev nBuf : Space → Nat
  | .hbm => 20
  | .vmem => 14
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x3280, .f32⟩
  | .hbm, ⟨3, _⟩ => ⟨S1024x704, .f32⟩
  | .hbm, ⟨4, _⟩ => ⟨S_, .f32⟩
  | .hbm, ⟨5, _⟩ => ⟨S1024x64, .f32⟩
  | .hbm, ⟨6, _⟩ => ⟨S1024x2576, .f32⟩
  | .hbm, ⟨7, _⟩ => ⟨S_, .f32⟩
  | .hbm, ⟨8, _⟩ => ⟨S1024x112, .f32⟩
  | .hbm, ⟨9, _⟩ => ⟨S1024x3456, .f32⟩
  | .hbm, ⟨10, _⟩ => ⟨S1024x3456, .bf16⟩
  | .hbm, ⟨11, _⟩ => ⟨S_, .f32⟩
  | .hbm, ⟨12, _⟩ => ⟨S112x1024, .f32⟩
  | .hbm, ⟨13, _⟩ => ⟨S8320x1024, .f32⟩
  | .hbm, ⟨14, _⟩ => ⟨S1x1024, .f32⟩
  | .hbm, ⟨15, _⟩ => ⟨S8320x1024, .bf16⟩
  | .hbm, ⟨16, _⟩ => ⟨S8320x768, .f32⟩
  | .hbm, ⟨17, _⟩ => ⟨S8320x1024, .f32⟩
  | .hbm, ⟨18, _⟩ => ⟨S8320x1536, .f32⟩
  | .hbm, ⟨19, _⟩ => ⟨S8320x128, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x3456, .bf16⟩
  | .local _ .vmem, ⟨4, _⟩ => ⟨S640x1024, .bf16⟩
  | .local _ .vmem, ⟨5, _⟩ => ⟨S640x1024, .bf16⟩
  | .local _ .vmem, ⟨6, _⟩ => ⟨S640x768, .f32⟩
  | .local _ .vmem, ⟨7, _⟩ => ⟨S640x768, .f32⟩
  | .local _ .vmem, ⟨8, _⟩ => ⟨S640x1024, .f32⟩
  | .local _ .vmem, ⟨9, _⟩ => ⟨S640x1024, .f32⟩
  | .local _ .vmem, ⟨10, _⟩ => ⟨S640x1536, .f32⟩
  | .local _ .vmem, ⟨11, _⟩ => ⟨S640x1536, .f32⟩
  | .local _ .vmem, ⟨12, _⟩ => ⟨S640x128, .f32⟩
  | .local _ .vmem, ⟨13, _⟩ => ⟨S640x128, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InFwdRefIdeal.lean ====
abbrev S8208x1024 : Shape := ⟨2, ![8208, 1024]⟩
abbrev S1024 : Shape := ⟨1, ![1024]⟩
abbrev S1024x3280 : Shape := ⟨2, ![1024, 3280]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x3280 : Shape := ⟨2, ![8208, 3280]⟩
abbrev S8208x704 : Shape := ⟨2, ![8208, 704]⟩
abbrev S8208x64 : Shape := ⟨2, ![8208, 64]⟩
abbrev S8208x768 : Shape := ⟨2, ![8208, 768]⟩
abbrev S8208x16 : Shape := ⟨2, ![8208, 16]⟩
abbrev S8208x112 : Shape := ⟨2, ![8208, 112]⟩
abbrev S8208x128 : Shape := ⟨2, ![8208, 128]⟩
abbrev S112x1024 : Shape := ⟨2, ![112, 1024]⟩
abbrev S8320x1024 : Shape := ⟨2, ![8320, 1024]⟩
abbrev S112x768 : Shape := ⟨2, ![112, 768]⟩
abbrev S8320x768 : Shape := ⟨2, ![8320, 768]⟩
abbrev S112x1536 : Shape := ⟨2, ![112, 1536]⟩
abbrev S8208x1536 : Shape := ⟨2, ![8208, 1536]⟩
abbrev S8320x1536 : Shape := ⟨2, ![8320, 1536]⟩
abbrev S112x128 : Shape := ⟨2, ![112, 128]⟩
abbrev S8320x128 : Shape := ⟨2, ![8320, 128]⟩

abbrev nBuf : Space → Nat
  | .hbm => 46
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x3280, .f32⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1024, .f32⟩
  | .hbm, ⟨15, _⟩ => ⟨S8208x1024, .f32⟩
  | .hbm, ⟨16, _⟩ => ⟨S1x1024, .f32⟩
  | .hbm, ⟨17, _⟩ => ⟨S8208x1024, .f32⟩
  | .hbm, ⟨18, _⟩ => ⟨S8208x1024, .f32⟩
  | .hbm, ⟨19, _⟩ => ⟨S8208x3280, .f32⟩
  | .hbm, ⟨20, _⟩ => ⟨S8208x704, .f32⟩
  | .hbm, ⟨21, _⟩ => ⟨S_, .f32⟩
  | .hbm, ⟨22, _⟩ => ⟨S8208x64, .f32⟩
  | .hbm, ⟨23, _⟩ => ⟨S8208x768, .f32⟩
  | .hbm, ⟨24, _⟩ => ⟨S8208x16, .f32⟩
  | .hbm, ⟨25, _⟩ => ⟨S_, .f32⟩
  | .hbm, ⟨26, _⟩ => ⟨S8208x112, .f32⟩
  | .hbm, ⟨27, _⟩ => ⟨S8208x128, .f32⟩
  | .hbm, ⟨28, _⟩ => ⟨S_, .f32⟩
  | .hbm, ⟨29, _⟩ => ⟨S112x1024, .f32⟩
  | .hbm, ⟨30, _⟩ => ⟨S8320x1024, .f32⟩
  | .hbm, ⟨31, _⟩ => ⟨S8320x1024, .bf16⟩
  | .hbm, ⟨32, _⟩ => ⟨S_, .f32⟩
  | .hbm, ⟨33, _⟩ => ⟨S112x768, .f32⟩
  | .hbm, ⟨34, _⟩ => ⟨S8320x768, .f32⟩
  | .hbm, ⟨35, _⟩ => ⟨S_, .f32⟩
  | .hbm, ⟨36, _⟩ => ⟨S112x1024, .f32⟩
  | .hbm, ⟨37, _⟩ => ⟨S8208x1024, .f32⟩
  | .hbm, ⟨38, _⟩ => ⟨S8320x1024, .f32⟩
  | .hbm, ⟨39, _⟩ => ⟨S_, .f32⟩
  | .hbm, ⟨40, _⟩ => ⟨S112x1536, .f32⟩
  | .hbm, ⟨41, _⟩ => ⟨S8208x1536, .f32⟩
  | .hbm, ⟨42, _⟩ => ⟨S8320x1536, .f32⟩
  | .hbm, ⟨43, _⟩ => ⟨S_, .f32⟩
  | .hbm, ⟨44, _⟩ => ⟨S112x128, .f32⟩
  | .hbm, ⟨45, _⟩ => ⟨S8320x128, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== MixFwd.lean ====
abbrev S8208x1024 : Shape := ⟨2, ![8208, 1024]⟩
abbrev S1024 : Shape := ⟨1, ![1024]⟩
abbrev S2048x1024 : Shape := ⟨2, ![2048, 1024]⟩
abbrev S_ : Shape := ⟨0, ![]⟩
abbrev S112x1024 : Shape := ⟨2, ![112, 1024]⟩
abbrev S8320x1024 : Shape := ⟨2, ![8320, 1024]⟩
abbrev S1x1024 : Shape := ⟨2, ![1, 1024]⟩
abbrev S8320x2048 : Shape := ⟨2, ![8320, 2048]⟩
abbrev S640x1024 : Shape := ⟨2, ![640, 1024]⟩
abbrev S640x2048 : Shape := ⟨2, ![640, 2048]⟩
abbrev S640 : Shape := ⟨1, ![640]⟩
abbrev S640x1 : Shape := ⟨2, ![640, 1]⟩

abbrev nBuf : Space → Nat
  | .hbm => 21
  | .vmem => 15
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S112x1024, .f32⟩
  | .hbm, ⟨8, _⟩ => ⟨S8320x1024, .f32⟩
  | .hbm, ⟨9, _⟩ => ⟨S_, .f32⟩
  | .hbm, ⟨10, _⟩ => ⟨S112x1024, .f32⟩
  | .hbm, ⟨11, _⟩ => ⟨S8320x1024, .f32⟩
  | .hbm, ⟨12, _⟩ => ⟨S_, .f32⟩
  | .hbm, ⟨13, _⟩ => ⟨S112x1024, .f32⟩
  | .hbm, ⟨14, _⟩ => ⟨S8320x1024, .f32⟩
  | .hbm, ⟨15, _⟩ => ⟨S1x1024, .f32⟩
  | .hbm, ⟨16, _⟩ => ⟨S1x1024, .f32⟩
  | .hbm, ⟨17, _⟩ => ⟨S2048x1024, .bf16⟩
  | .hbm, ⟨18, _⟩ => ⟨S8320x2048, .bf16⟩
  | .hbm, ⟨19, _⟩ => ⟨S8320x1024, .f32⟩
  | .hbm, ⟨20, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .bf16⟩
  | .local _ .vmem, ⟨9, _⟩ => ⟨S640x2048, .bf16⟩
  | .local _ .vmem, ⟨10, _⟩ => ⟨S640x2048, .bf16⟩
  | .local _ .vmem, ⟨11, _⟩ => ⟨S640x1024, .f32⟩
  | .local _ .vmem, ⟨12, _⟩ => ⟨S640x1024, .f32⟩
  | .local _ .vmem, ⟨13, _⟩ => ⟨S640x1024, .f32⟩
  | .local _ .vmem, ⟨14, _⟩ => ⟨S640x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixFwdRefIdeal.lean ====
abbrev S8208x1024 : Shape := ⟨2, ![8208, 1024]⟩
abbrev S1024 : Shape := ⟨1, ![1024]⟩
abbrev S2048x1024 : Shape := ⟨2, ![2048, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x2048 : Shape := ⟨2, ![8208, 2048]⟩
abbrev S112x2048 : Shape := ⟨2, ![112, 2048]⟩
abbrev S8320x2048 : Shape := ⟨2, ![8320, 2048]⟩
abbrev S112x1024 : Shape := ⟨2, ![112, 1024]⟩
abbrev S8320x1024 : Shape := ⟨2, ![8320, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1024, .f32⟩
  | .hbm, ⟨18, _⟩ => ⟨S8208x1024, .f32⟩
  | .hbm, ⟨19, _⟩ => ⟨S1x1024, .f32⟩
  | .hbm, ⟨20, _⟩ => ⟨S8208x1024, .f32⟩
  | .hbm, ⟨21, _⟩ => ⟨S8208x1024, .f32⟩
  | .hbm, ⟨22, _⟩ => ⟨S8208x2048, .f32⟩
  | .hbm, ⟨23, _⟩ => ⟨S8208x1024, .f32⟩
  | .hbm, ⟨24, _⟩ => ⟨S8208x1024, .f32⟩
  | .hbm, ⟨25, _⟩ => ⟨S_, .f32⟩
  | .hbm, ⟨26, _⟩ => ⟨S8208, .f32⟩
  | .hbm, ⟨27, _⟩ => ⟨S8208x1, .f32⟩
  | .hbm, ⟨28, _⟩ => ⟨S_, .f32⟩
  | .hbm, ⟨29, _⟩ => ⟨S8208x1, .f32⟩
  | .hbm, ⟨30, _⟩ => ⟨S8208x1, .f32⟩
  | .hbm, ⟨31, _⟩ => ⟨S_, .f32⟩
  | .hbm, ⟨32, _⟩ => ⟨S8208x1, .f32⟩
  | .hbm, ⟨33, _⟩ => ⟨S8208x1, .f32⟩
  | .hbm, ⟨34, _⟩ => ⟨S8208x1, .f32⟩
  | .hbm, ⟨35, _⟩ => ⟨S8208x1024, .f32⟩
  | .hbm, ⟨36, _⟩ => ⟨S8208x1024, .f32⟩
  | .hbm, ⟨37, _⟩ => ⟨S1x1024, .f32⟩
  | .hbm, ⟨38, _⟩ => ⟨S8208x1024, .f32⟩
  | .hbm, ⟨39, _⟩ => ⟨S8208x1024, .f32⟩
  | .hbm, ⟨40, _⟩ => ⟨S8208x1024, .f32⟩
  | .hbm, ⟨41, _⟩ => ⟨S_, .f32⟩
  | .hbm, ⟨42, _⟩ => ⟨S112x2048, .f32⟩
  | .hbm, ⟨43, _⟩ => ⟨S8320x2048, .f32⟩
  | .hbm, ⟨44, _⟩ => ⟨S8320x2048, .bf16⟩
  | .hbm, ⟨45, _⟩ => ⟨S_, .f32⟩
  | .hbm, ⟨46, _⟩ => ⟨S112x1024, .f32⟩
  | .hbm, ⟨47, _⟩ => ⟨S8320x1024, .f32⟩
  | .hbm, ⟨48, _⟩ => ⟨S_, .f32⟩
  | .hbm, ⟨49, _⟩ => ⟨S112x1024, .f32⟩
  | .hbm, ⟨50, _⟩ => ⟨S8320x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== GateFwd.lean ====
abbrev S8208x5632 : Shape := ⟨2, ![8208, 5632]⟩
abbrev S3x5632 : Shape := ⟨2, ![3, 5632]⟩
abbrev S5632 : Shape := ⟨1, ![5632]⟩
abbrev S_ : Shape := ⟨0, ![]⟩
abbrev S112x5632 : Shape := ⟨2, ![112, 5632]⟩
abbrev S8320x5632 : Shape := ⟨2, ![8320, 5632]⟩
abbrev S5x5632 : Shape := ⟨2, ![5, 5632]⟩
abbrev S8x5632 : Shape := ⟨2, ![8, 5632]⟩
abbrev S1x5632 : Shape := ⟨2, ![1, 5632]⟩
abbrev S8320x2816 : Shape := ⟨2, ![8320, 2816]⟩
abbrev S320x5632 : Shape := ⟨2, ![320, 5632]⟩
abbrev S16x5632 : Shape := ⟨2, ![16, 5632]⟩
abbrev S320x2816 : Shape := ⟨2, ![320, 2816]⟩
abbrev S320x256 : Shape := ⟨2, ![320, 256]⟩
abbrev S8x256 : Shape := ⟨2, ![8, 256]⟩
abbrev S1x256 : Shape := ⟨2, ![1, 256]⟩
abbrev S312x256 : Shape := ⟨2, ![312, 256]⟩

abbrev nBuf : Space → Nat
  | .hbm => 13
  | .vmem => 10
  | .smem => 0
  | _ => 0

abbrev bufTy : (tb : Table) → Fin (tcTables nBuf tb) → BufTy
  | .hbm, ⟨0, _⟩ => ⟨S8208x5632, .f32⟩
  | .hbm, ⟨1, _⟩ => ⟨S3x5632, .f32⟩
  | .hbm, ⟨2, _⟩ => ⟨S5632, .f32⟩
  | .hbm, ⟨3, _⟩ => ⟨S8208x5632, .bf16⟩
  | .hbm, ⟨4, _⟩ => ⟨S_, .bf16⟩
  | .hbm, ⟨5, _⟩ => ⟨S112x5632, .bf16⟩
  | .hbm, ⟨6, _⟩ => ⟨S8320x5632, .bf16⟩
  | .hbm, ⟨7, _⟩ => ⟨S_, .f32⟩
  | .hbm, ⟨8, _⟩ => ⟨S5x5632, .f32⟩
  | .hbm, ⟨9, _⟩ => ⟨S8x5632, .f32⟩
  | .hbm, ⟨10, _⟩ => ⟨S1x5632, .f32⟩
  | .hbm, ⟨11, _⟩ => ⟨S8320x5632, .bf16⟩
  | .hbm, ⟨12, _⟩ => ⟨S8320x2816, .bf16⟩
  | .local _ .vmem, ⟨0, _⟩ => ⟨S320x5632, .bf16⟩
  | .local _ .vmem, ⟨1, _⟩ => ⟨S320x5632, .bf16⟩
  | .local _ .vmem, ⟨2, _⟩ => ⟨S16x5632, .bf16⟩
  | .local _ .vmem, ⟨3, _⟩ => ⟨S16x5632, .bf16⟩
  | .local _ .vmem, ⟨4, _⟩ => ⟨S8x5632, .f32⟩
  | .local _ .vmem, ⟨5, _⟩ => ⟨S1x5632, .f32⟩
  | .local _ .vmem, ⟨6, _⟩ => ⟨S320x5632, .bf16⟩
  | .local _ .vmem, ⟨7, _⟩ => ⟨S320x5632, .bf16⟩
  | .local _ .vmem, ⟨8, _⟩ => ⟨S320x2816, .bf16⟩
  | .local _ .vmem, ⟨9, _⟩ => ⟨S320x2816, .bf16⟩
  | _, _ => ⟨S8208x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c20_i32 : BitVec 32 := 20#32
  let v0 : BitVec 32 := Scalar.muli arg0 c20_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdRefIdeal.lean ====
abbrev S8208x5632 : Shape := ⟨2, ![8208, 5632]⟩
abbrev S3x5632 : Shape := ⟨2, ![3, 5632]⟩
abbrev S5632 : Shape := ⟨1, ![5632]⟩
abbrev S_ : Shape := ⟨0, ![]⟩
abbrev S112x5632 : Shape := ⟨2, ![112, 5632]⟩
abbrev S8320x5632 : Shape := ⟨2, ![8320, 5632]⟩
abbrev S1x5632 : Shape := ⟨2, ![1, 5632]⟩
abbrev S8319x5632 : Shape := ⟨2, ![8319, 5632]⟩
abbrev S2x5632 : Shape := ⟨2, ![2, 5632]⟩
abbrev S8318x5632 : Shape := ⟨2, ![8318, 5632]⟩
abbrev S8320x2816 : Shape := ⟨2, ![8320, 2816]⟩

abbrev nBuf : Space → Nat
  | .hbm => 48
  | .vmem => 0
  | .smem => 0
  | _ => 0

abbrev bufTy : (tb : Table) → Fin (tcTables nBuf tb) → BufTy
  | .hbm, ⟨0, _⟩ => ⟨S8208x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S112x5632, .f32⟩
  | .hbm, ⟨5, _⟩ => ⟨S8320x5632, .f32⟩
  | .hbm, ⟨6, _⟩ => ⟨S1x5632, .f32⟩
  | .hbm, ⟨7, _⟩ => ⟨S5632, .f32⟩
  | .hbm, ⟨8, _⟩ => ⟨S1x5632, .f32⟩
  | .hbm, ⟨9, _⟩ => ⟨S8320x5632, .f32⟩
  | .hbm, ⟨10, _⟩ => ⟨S8320x5632, .f32⟩
  | .hbm, ⟨11, _⟩ => ⟨S1x5632, .f32⟩
  | .hbm, ⟨12, _⟩ => ⟨S5632, .f32⟩
  | .hbm, ⟨13, _⟩ => ⟨S_, .f32⟩
  | .hbm, ⟨14, _⟩ => ⟨S1x5632, .f32⟩
  | .hbm, ⟨15, _⟩ => ⟨S8319x5632, .f32⟩
  | .hbm, ⟨16, _⟩ => ⟨S8320x5632, .f32⟩
  | .hbm, ⟨17, _⟩ => ⟨S1x5632, .f32⟩
  | .hbm, ⟨18, _⟩ => ⟨S8320x5632, .f32⟩
  | .hbm, ⟨19, _⟩ => ⟨S8320x5632, .f32⟩
  | .hbm, ⟨20, _⟩ => ⟨S8320x5632, .f32⟩
  | .hbm, ⟨21, _⟩ => ⟨S1x5632, .f32⟩
  | .hbm, ⟨22, _⟩ => ⟨S5632, .f32⟩
  | .hbm, ⟨23, _⟩ => ⟨S_, .f32⟩
  | .hbm, ⟨24, _⟩ => ⟨S2x5632, .f32⟩
  | .hbm, ⟨25, _⟩ => ⟨S8318x5632, .f32⟩
  | .hbm, ⟨26, _⟩ => ⟨S8320x5632, .f32⟩
  | .hbm, ⟨27, _⟩ => ⟨S1x5632, .f32⟩
  | .hbm, ⟨28, _⟩ => ⟨S8320x5632, .f32⟩
  | .hbm, ⟨29, _⟩ => ⟨S8320x5632, .f32⟩
  | .hbm, ⟨30, _⟩ => ⟨S8320x5632, .f32⟩
  | .hbm, ⟨31, _⟩ => ⟨S1x5632, .f32⟩
  | .hbm, ⟨32, _⟩ => ⟨S8320x5632, .f32⟩
  | .hbm, ⟨33, _⟩ => ⟨S8320x5632, .f32⟩
  | .hbm, ⟨34, _⟩ => ⟨S8320x2816, .f32⟩
  | .hbm, ⟨35, _⟩ => ⟨S8320x2816, .f32⟩
  | .hbm, ⟨36, _⟩ => ⟨S8320x5632, .bf16⟩
  | .hbm, ⟨37, _⟩ => ⟨S8320x2816, .f32⟩
  | .hbm, ⟨38, _⟩ => ⟨S8320x2816, .f32⟩
  | .hbm, ⟨39, _⟩ => ⟨S_, .f32⟩
  | .hbm, ⟨40, _⟩ => ⟨S8320x2816, .f32⟩
  | .hbm, ⟨41, _⟩ => ⟨S8320x2816, .f32⟩
  | .hbm, ⟨42, _⟩ => ⟨S_, .f32⟩
  | .hbm, ⟨43, _⟩ => ⟨S8320x2816, .f32⟩
  | .hbm, ⟨44, _⟩ => ⟨S8320x2816, .f32⟩
  | .hbm, ⟨45, _⟩ => ⟨S8320x2816, .f32⟩
  | .hbm, ⟨46, _⟩ => ⟨S8320x2816, .f32⟩
  | .hbm, ⟨47, _⟩ => ⟨S8320x2816, .bf16⟩
  | _, _ => ⟨S8208x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.Reals.lean ====
/- Finite extended reals. A claim whose precondition says that the arguments are finite is proved over the real numbers;
   this module turns the precondition into real-valued arrays and carries sums, products and constants across. -/
module

public import Idealize.ShloMosaic.PureOps.Ideal
public import Idealize.ShloMosaic.PureOps.Ideal.Laws
public import Idealize.ShloMosaic.Lib.ReduceAll
public import Idealize.ShloMosaic.Lib.Pointwise
public import Idealize.ShloMosaic.Lib.Pipeline.Value

@[expose] public section

noncomputable section

namespace Cert.Reals

open Idealize.ShloMosaic
open scoped BigOperators

/-! ## From the precondition to real arrays -/

/-- An extended real whose absolute value is below infinity is a real number. -/
theorem exists_coe_of_abs_lt {x : EReal} (h : max x (-x) < ⊤) : ∃ r : ℝ, x = (r : EReal) := by
  induction x with
  | bot => simp at h
  | top => simp at h
  | coe r => exact ⟨r, rfl⟩

/-- The pattern of positive infinity denotes it. -/
theorem ofBits_inf : Ideal.ofBits .f32 0x7F800000#32 = (⊤ : EReal) := by
  simp [Ideal.ofBits, Ideal.ieee]

/-- Two conditions hold together when each holds. -/
theorem andi_one {a b : BitVec 1} : IntOp.andi a b = 1#1 ↔ a = 1#1 ∧ b = 1#1 := by
  revert a b; decide

/-- An array of which "every absolute value is below infinity" was found true is an array of real numbers. -/
theorem exists_real {S t u : Shape} {axes : List (Fin S.rank)} [Subsingleton t.Idx] {x : FVec Ideal S .f32} {c : FVec Ideal S .f32}
    {init : u.Idx → BitVec 1} {h : S.ReducesTo axes t} {h0 : 0 < u.numel} {j : t.Idx}
    (hc : ∀ i, c i = ⊤) (e : Host.reduce IntOp.andi (cmpf .olt (Host.absf x) c) init h h0 j = 1#1) :
    ∃ X : S.Idx → ℝ, x = fun i => ((X i : ℝ) : EReal) := by
  have key : ∀ i, ∃ r : ℝ, x i = (r : EReal) := fun i => by
    have hi := Host.reduce_andi_all _ _ _ _ j e i
    refine exists_coe_of_abs_lt ?_
    have h1 : Ideal.cmp .olt (max (x i) (-(x i))) (c i) = 1#1 := hi
    rw [hc i] at h1
    by_contra hn
    simp [Ideal.cmp, hn] at h1
  choose X hX using key
  exact ⟨X, funext hX⟩

/-! ## Sums and constants -/

/-- A finite sum of real numbers, read in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- `1024` as the programs spell it. -/
theorem ofBits_1024 : Ideal.ofBits .f32 0x44800000#32 = ((1024 : ℝ) : EReal) := by
  simp [Ideal.ofBits, Ideal.ieee]
  norm_num [← EReal.coe_mul]

/-- The small constant under the root of a norm, as the programs round it. -/
def eps : ℝ := 8796093 * (2 : ℝ) ^ (-43 : ℤ)

theorem eps_pos : 0 < eps := by unfold eps; positivity

theorem ofBits_eps : Ideal.ofBits .f32 0x358637BD#32 = ((eps : ℝ) : EReal) := by
  simp [Ideal.ofBits, Ideal.ieee, eps]

/-- The inverse root of an attention head's 192 lanes, as the programs round it. -/
def scale : ℝ := 9686330 * (2 : ℝ) ^ (-27 : ℤ)

theorem ofBits_scale : Ideal.ofBits .f32 0x3D93CD3A#32 = ((scale : ℝ) : EReal) := by
  simp [Ideal.ofBits, Ideal.ieee, scale]

theorem ofBits_neg_inf : Ideal.ofBits .f32 0xFF800000#32 = (⊥ : EReal) := by
  simp [Ideal.ofBits, Ideal.ieee]

theorem ofBits_two : Ideal.ofBits .f32 0x40000000#32 = ((2 : ℝ) : EReal) := by
  simp [Ideal.ofBits, Ideal.ieee]
  norm_num [← EReal.coe_mul]

theorem ofBits_neg_half : Ideal.ofBits .f32 0xBF000000#32 = ((-(1 / 2) : ℝ) : EReal) := by
  simp [Ideal.ofBits, Ideal.ieee]
  norm_num [← EReal.coe_mul]

/-- The reciprocal root of a positive real. -/
theorem rsqrt_pos {v : ℝ} (h : 0 < v) : Ideal.rsqrt (v : EReal) = (((Real.sqrt v)⁻¹ : ℝ) : EReal) := by
  rw [Ideal.rsqrt_coe, if_neg (not_lt.2 h.le), if_neg h.ne']

/-- The quotient by a nonzero real. -/
theorem div_real {x y : ℝ} (h : y ≠ 0) : Ideal.div (x : EReal) (y : EReal) = ((x / y : ℝ) : EReal) := by
  rw [Ideal.div_coe h, ← EReal.coe_mul]; congr 1; ring

/-! ## Choosing by a bit -/

theorem select_one {α : Type} (x y : α) : Scalar.select 1#1 x y = x := rfl

theorem select_zero {α : Type} (x y : α) : Scalar.select 0#1 x y = y := rfl

/-! ## Rows of zeros in front -/

/-- The rows of `x` behind `p` rows of zeros. -/
def padded {n0 n1 N : ℕ} (p : ℕ) (x : Shape.Idx ⟨2, ![n0, n1]⟩ → ℝ) (r : Fin N) (k : Fin n1) : ℝ :=
  if h : p ≤ r.val ∧ r.val - p < n0 then x (ix2 ⟨r.val - p, h.2⟩ k) else 0

/-- The same of an extended-real array, as a program's concatenation reads. -/
theorem padded_eq {n0 n1 N : ℕ} (p : ℕ) (hN : N ≤ p + n0) (x : Shape.Idx ⟨2, ![n0, n1]⟩ → ℝ) (r : Fin N) (k : Fin n1)
    (hr : ¬r.val < p → r.val - p < n0) :
    (if h : r.val < p then (0 : EReal) else ((x (ix2 ⟨r.val - p, hr h⟩ k) : ℝ) : EReal)) = ((padded p x r k : ℝ) : EReal) := by
  have := r.isLt
  unfold padded
  split_ifs with h h' h'
  · omega
  · rfl
  · rfl
  · omega

theorem padded_front {n0 n1 N p : ℕ} (x : Shape.Idx ⟨2, ![n0, n1]⟩ → ℝ) (r : Fin N) (k : Fin n1) (h : r.val < p) : padded p x r k = 0 := by
  unfold padded; rw [dif_neg (by omega)]

theorem padded_behind {n0 n1 N : ℕ} (p : ℕ) (x : Shape.Idx ⟨2, ![n0, n1]⟩ → ℝ) (r : Fin n0) (h : p + r.val < N) :
    padded p x (⟨p + r.val, h⟩ : Fin N) = fun k => x (ix2 r k) := by
  funext k
  unfold padded
  rw [dif_pos (by dsimp only; omega)]
  congr 2
  exact Fin.ext (by dsimp only; omega)

/-- A row that is no row of zeros is one behind them. -/
theorem exists_behind {n0 N : ℕ} (p : ℕ) (hN : N = p + n0) (i : Fin N) (h : p ≤ i.val) :
    ∃ (r : Fin n0) (hr : p + r.val < N), i = ⟨p + r.val, hr⟩ :=
  ⟨⟨i.val - p, by omega⟩, by dsimp only; omega, Fin.ext (by dsimp only; omega)⟩

/-- A sum over all rows whose terms are zero in the rows of zeros is the sum over the rows behind them. -/
theorem sum_behind {n0 N : ℕ} (p : ℕ) (hN : N = p + n0) (f : Fin N → ℝ) (h0 : ∀ r : Fin N, r.val < p → f r = 0) :
    ∑ r, f r = ∑ r : Fin n0, f ⟨p + r.val, by omega⟩ := by
  subst hN
  rw [Fin.sum_univ_add, Finset.sum_eq_zero fun r _ => h0 _ (by simp), zero_add]
  rfl

end Cert.Reals

end
-- ==== Proof.Rms.lean ====
/- The root-mean-square norm over one row of real numbers, and its gradient in the two forms the programs use: the one written
   by hand in the kernels and the one that differentiating the forward line gives. -/
module

public import proofs.«01_k».proof.Proof.Reals
public import Mathlib.Tactic.Ring
public import Mathlib.Tactic.FieldSimp
public import Mathlib.Tactic.Positivity

@[expose] public section

noncomputable section

namespace Cert.Rms

open Idealize.ShloMosaic Cert.Reals
open scoped BigOperators

variable {n : ℕ}

/-- The mean of the squares of a row of `N` numbers, with the norm's small constant added. -/
def meanSq (N : ℝ) (x : Fin n → ℝ) : ℝ := (∑ k, x k * x k) / N + eps

/-- What a norm multiplies its row by: one over the root of the mean square. -/
def inv (N : ℝ) (x : Fin n → ℝ) : ℝ := (Real.sqrt (meanSq N x))⁻¹

/-- The gradient of the norm with gain `g` at the row `x`, given the gradient `dy` of its result, as the kernels write it. -/
def back (N : ℝ) (x g dy : Fin n → ℝ) (j : Fin n) : ℝ :=
  inv N x * (dy j * g j - x j * inv N x * ((∑ k, dy k * g k * (x k * inv N x)) / N))

theorem meanSq_pos {N : ℝ} (hN : 0 < N) (x : Fin n → ℝ) : 0 < meanSq N x :=
  add_pos_of_nonneg_of_pos (div_nonneg (Finset.sum_nonneg fun k _ => mul_self_nonneg _) hN.le) eps_pos

/-- The programs' reciprocal root of a row's mean square, at a row of real numbers. -/
theorem rsqrt_meanSq {N : ℝ} (hN : 0 < N) (x : Fin n → ℝ) :
    Ideal.rsqrt (Ideal.div ((∑ k, x k * x k : ℝ) : EReal) (N : EReal) + (eps : EReal)) = ((inv N x : ℝ) : EReal) := by
  rw [div_real hN.ne', ← EReal.coe_add]
  exact rsqrt_pos (meanSq_pos hN x)

/-- The same, where the addition has been carried out in the reals. -/
theorem rsqrt_meanSq_coe {N : ℝ} (hN : 0 < N) (x : Fin n → ℝ) :
    Ideal.rsqrt (((∑ k, x k * x k) / N + eps : ℝ) : EReal) = ((inv N x : ℝ) : EReal) := rsqrt_pos (meanSq_pos hN x)

/-- A row of zeros with a zero gradient has a zero gradient. -/
theorem back_zero (N : ℝ) (x g dy : Fin n → ℝ) (h : ∀ k, dy k = 0) (j : Fin n) : back N x g dy j = 0 := by
  simp [back, h]

/-- Differentiating `x ↦ x · rsqrt (mean x² + eps) · g` gives three terms: through the factor `x`, and twice through the
    square under the root. Together they are the kernels' form. -/
theorem back_eq_vjp {N : ℝ} (hN : 0 < N) (x g dy : Fin n → ℝ) (j : Fin n) :
    dy j * g j * inv N x
      + (x j * ((∑ k, x k * (dy k * g k)) * (-(1 / 2) * (inv N x / meanSq N x)) / N)
        + (∑ k, x k * (dy k * g k)) * (-(1 / 2) * (inv N x / meanSq N x)) / N * x j)
      = back N x g dy j := by
  have hv := meanSq_pos hN x
  have hr : inv N x / meanSq N x = inv N x ^ 3 := by
    have h2 : inv N x ^ 2 = (meanSq N x)⁻¹ := by
      rw [inv, inv_pow, Real.sq_sqrt hv.le]
    rw [div_eq_mul_inv, ← h2]; ring
  have hs : ∑ k, dy k * g k * (x k * inv N x) = (∑ k, x k * (dy k * g k)) * inv N x := by
    rw [Finset.sum_mul]; exact Finset.sum_congr rfl fun k _ => by ring
  rw [hr, back, hs]
  field_simp
  ring

end Cert.Rms

end
-- ==== Proof.FfnInKernel.lean ====
/- What the kernel of the feed-forward up product's gradient leaves in its two result arrays, over real arguments. -/
module

public import proofs.«01_k».proof.Proof.Gen.FfnInIdeal.Value
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnInIdeal.Value

open Cert.FfnInIdeal Cert.FfnInIdeal.Gen Cert.Reals Cert.Rms

variable (m : (ℓ : Loc nD τ sig) → Buf (Elt Ideal) ℓ)

/-- The block index of every window at a grid point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The row of the whole array that row `a` of point `t`'s block is. -/
def row (t : Fin cfg0.N) (a : Fin 320) : Fin 8320 := ⟨t.val * 320 + a.val, by have := lt_of_lt_of_eq t.isLt N_0; omega⟩

/-- The argument arrays are arrays of real numbers (the residual's gradient may be infinite: it is only added). -/
structure RealArgs (c : Dev nD) (X : S8208x1024.Idx → ℝ) (G : S1024.Idx → ℝ) (W : S1024x5632.Idx → ℝ) (DU : S8208x5632.Idx → ℝ) : Prop where
  x : m ((c : Thread nD τ).loc main_arg0) = fun i => ((X i : ℝ) : EReal)
  g : m ((c : Thread nD τ).loc main_arg1) = fun i => ((G i : ℝ) : EReal)
  w : m ((c : Thread nD τ).loc main_arg2) = fun i => ((W i : ℝ) : EReal)
  du : m ((c : Thread nD τ).loc main_arg4) = fun i => ((DU i : ℝ) : EReal)

variable {m} {c : Dev nD} {X : S8208x1024.Idx → ℝ} {G : S1024.Idx → ℝ} {W : S1024x5632.Idx → ℝ} {DU : S8208x5632.Idx → ℝ}

/-! ## The arrays when the grid starts -/

theorem entry_du (h : RealArgs m c X G W DU) (r : Fin 8320) (k : Fin 5632) :
    V m c main_v5 (ix2 r k) = ((padded 112 DU r k : ℝ) : EReal) := by
  entry_read
  pointwise [h.du]
  exact padded_eq 112 (by decide) _ r k _

theorem entry_x (h : RealArgs m c X G W DU) (r : Fin 8320) (k : Fin 1024) :
    V m c main_v7 (ix2 r k) = ((padded 112 X r k : ℝ) : EReal) := by
  entry_read
  pointwise [h.x]
  exact padded_eq 112 (by decide) _ r k _

theorem entry_dh (r : Fin 8320) (k : Fin 1024) :
    V m c main_v10 (ix2 r k) = if h : r.val < 112 then (0 : EReal) else m ((c : Thread nD τ).loc main_arg3) (ix2 ⟨r.val - 112, by omega⟩ k) := by
  entry_read
  pointwise []

theorem entry_g (h : RealArgs m c X G W DU) (k : Fin 1024) :
    V m c main_v8 (ix2 0 k) = ((G (ix1 k) : ℝ) : EReal) := by
  entry_read
  pointwise [h.g]

theorem entry_w (h : RealArgs m c X G W DU) (q : Fin 4) (j : Fin 1024) (k : Fin 1408) :
    V m c main_v2 (ix3 q j k) = ((W (ix2 j ⟨q.val * 1408 + k.val, by omega⟩) : ℝ) : EReal) := by
  entry_read
  pointwise [h.w]

/-! ## The blocks at a grid point -/

theorem block_du (h : RealArgs m c X G W DU) (t : Fin cfg0.N) (a : Fin 320) (k : Fin 5632) :
    iblk m c 0 t (ix2 a k) = ((padded 112 DU (row t a) k : ℝ) : EReal) :=
  (show iblk m c 0 t (ix2 a k) = V m c main_v5 (ix2 (row t a) k) by blk_ext [iblk, idx t, row]).trans (entry_du h _ _)

theorem block_w (h : RealArgs m c X G W DU) (t : Fin cfg0.N) (q : Fin 4) (j : Fin 1024) (k : Fin 1408) :
    iblk m c 1 t (ix3 q j k) = ((W (ix2 j ⟨q.val * 1408 + k.val, by omega⟩) : ℝ) : EReal) :=
  (show iblk m c 1 t (ix3 q j k) = V m c main_v2 (ix3 q j k) by blk_ext [iblk, idx t]).trans (entry_w h _ _ _)

theorem block_x (h : RealArgs m c X G W DU) (t : Fin cfg0.N) (a : Fin 320) (k : Fin 1024) :
    iblk m c 2 t (ix2 a k) = ((padded 112 X (row t a) k : ℝ) : EReal) :=
  (show iblk m c 2 t (ix2 a k) = V m c main_v7 (ix2 (row t a) k) by blk_ext [iblk, idx t, row]).trans (entry_x h _ _)

theorem block_g (h : RealArgs m c X G W DU) (t : Fin cfg0.N) (k : Fin 1024) :
    iblk m c 3 t (ix2 0 k) = ((G (ix1 k) : ℝ) : EReal) :=
  (show iblk m c 3 t (ix2 0 k) = V m c main_v8 (ix2 0 k) by blk_ext [iblk, idx t]).trans (entry_g h _)

theorem block_dh (t : Fin cfg0.N) (a : Fin 320) (k : Fin 1024) :
    iblk m c 4 t (ix2 a k) = V m c main_v10 (ix2 (row t a) k) := by blk_ext [iblk, idx t, row]

/-! ## The two results -/

/-- The gradient of the norm's result at row `r` of the padded array: the product of `du` with the transposed weight. -/
def dy (W : S1024x5632.Idx → ℝ) (DU : S8208x5632.Idx → ℝ) (r : Fin 8320) (j : Fin 1024) : ℝ :=
  ∑ k : Fin 5632, padded 112 DU r k * W (ix2 j k)

/-- A sum over the 5632 hidden columns, taken in four chunks. -/
theorem four_chunks (f : Fin 5632 → ℝ) :
    (∑ k : Fin 1408, f ⟨k.val, by omega⟩) + (∑ k : Fin 1408, f ⟨1408 + k.val, by omega⟩)
      + (∑ k : Fin 1408, f ⟨2816 + k.val, by omega⟩) + (∑ k : Fin 1408, f ⟨4224 + k.val, by omega⟩) = ∑ k, f k := by
  rw [Fin.sum_univ_tiles 4 1408 rfl f, Fin.sum_univ_four]
  simp

/-- The gradient of the gain is this, summed over the rows. -/
def gainTerm (X : S8208x1024.Idx → ℝ) (W : S1024x5632.Idx → ℝ) (DU : S8208x5632.Idx → ℝ) (r : Fin 8320) (j : Fin 1024) : ℝ :=
  dy W DU r j * (padded 112 X r j * inv 1024 (padded 112 X r))

/-- The four partial products of a row, read in the extended reals, are the whole product. -/
theorem dy_chunks (r : Fin 8320) (j : Fin 1024) :
    (∑ k : Fin 1408, padded 112 DU r ⟨k.val, by omega⟩ * W (ix2 j ⟨k.val, by omega⟩))
      + (∑ k : Fin 1408, padded 112 DU r ⟨1408 + k.val, by omega⟩ * W (ix2 j ⟨1408 + k.val, by omega⟩))
      + (∑ k : Fin 1408, padded 112 DU r ⟨2816 + k.val, by omega⟩ * W (ix2 j ⟨2816 + k.val, by omega⟩))
      + (∑ k : Fin 1408, padded 112 DU r ⟨4224 + k.val, by omega⟩ * W (ix2 j ⟨4224 + k.val, by omega⟩)) = dy W DU r j :=
  four_chunks fun k => padded 112 DU r k * W (ix2 j k)

/-- The gradient of the norm's argument plus the residual's gradient `dh`, over the padded rows. -/
def rowGrad (X : S8208x1024.Idx → ℝ) (G : S1024.Idx → ℝ) (W : S1024x5632.Idx → ℝ) (DU : S8208x5632.Idx → ℝ)
    (dh : S8320x1024.Idx → EReal) (i : S8320x1024.Idx) : EReal :=
  ((back 1024 (padded 112 X (i 0)) (fun k => G (ix1 k)) (dy W DU (i 0)) (i 1) : ℝ) : EReal) + dh i

/-- Where element `(a, k)` of point `t`'s block of the first result lies in the array. -/
theorem place (t : Fin cfg0.N) (a : Fin 320) (k : Fin 1024) :
    ((View.whole main_v11_0).slice (win0_5.rect t)).emb (ix2 a k) = ix2 (row t a) k := by blk_ext [idx t, row]

theorem final5 (h : RealArgs m c X G W DU) : (dats m 0 c).arrAt 5 cfg0.N = rowGrad X G W DU (V m c main_v10) := by
  refine (dats m 0 c).arrAt_eq_of_covers 5 _ (by decide +kernel) fun t hf y => ?_
  blk_simp
  rw [after0_5]
  by_cases h0 : t.val % 26 = 0
  · have h1 : ¬ 1 ≤ t.val := by have := lt_of_lt_of_eq t.isLt N_0; omega
    rw [outsAt0_A m c t h0 h1]
    frame_out
    idx_vars y
    pointwise [k0_pay1, k0_pay2, k0_pay4, k0_pay6, k0_pay7, k0_pay8, k0_pay9, block_du h t, block_w h t, block_x h t, block_g h t, block_dh t, ofBits_1024, ofBits_eps]
    simp only [← EReal.coe_mul, coe_sum, ← EReal.coe_add, rsqrt_meanSq_coe (show (0 : ℝ) < 1024 by norm_num), dy_chunks,
      div_real (show (1024 : ℝ) ≠ 0 by norm_num), ← EReal.coe_sub]
    exact (congrArg (rowGrad X G W DU (V m c main_v10)) (place t y0 y1)).symm
  · have h1 : 1 ≤ t.val := by omega
    rw [outsAt0_B m c t h0 h1]
    frame_out
    idx_vars y
    pointwise [k0_pay1, k0_pay2, k0_pay4, k0_pay6, k0_pay7, k0_pay8, k0_pay9, block_du h t, block_w h t, block_x h t, block_g h t, block_dh t, ofBits_1024, ofBits_eps]
    simp only [← EReal.coe_mul, coe_sum, ← EReal.coe_add, rsqrt_meanSq_coe (show (0 : ℝ) < 1024 by norm_num), dy_chunks,
      div_real (show (1024 : ℝ) ≠ 0 by norm_num), ← EReal.coe_sub]
    exact (congrArg (rowGrad X G W DU (V m c main_v10)) (place t y0 y1)).symm

theorem final6 (h : RealArgs m c X G W DU) : (dats m 0 c).arrAt 6 cfg0.N = fun i : S1x1024.Idx =>
    ((∑ r : Fin 8320, gainTerm X W DU r (i 1) : ℝ) : EReal) := by
  refine (dats m 0 c).arrAt_eq_of_covers 6 _ (by decide +kernel) fun t hf y => ?_
  blk_simp
  rw [after0_6, Pipeline.eq_sum_fin_of_reset_step_apply_of_flush (fun n h => (outsAt0 m c n h).2) 26 (fun _ => (0 : EReal))
    (fun p j => ((∑ a : Fin 320, gainTerm X W DU (row p a) (j 1) : ℝ) : EReal))
    (fun t h0 j => ?_) (fun t h0 j => ?_) t ((flush0_6 t).mp hf) y]
  · idx_vars y
    have hy : ((View.whole main_v11_1).slice (win0_6.rect t)).emb (ix2 y0 y1) = ix2 y0 y1 := by blk_ext [idx t]
    refine Eq.trans ?_ (congrArg (fun i : S1x1024.Idx => ((∑ r : Fin 8320, gainTerm X W DU r (i 1) : ℝ) : EReal)) hy).symm
    rw [zero_add]
    show (_ : EReal) = _
    rw [coe_sum, Fin.sum_univ_tiles 26 320 rfl]
    have ht := lt_of_lt_of_eq t.isLt N_0
    refine congrArg _ (Finset.sum_congr rfl fun s _ => Finset.sum_congr rfl fun a _ => ?_)
    refine congrArg (gainTerm X W DU · y1) (Fin.ext ?_)
    simp only [row]
    omega
  · have h1 : ¬ 1 ≤ t.val := by have := lt_of_lt_of_eq t.isLt N_0; omega
    rw [outsAt0_A m c t h0 h1]
    frame_out
    idx_vars j
    pointwise [k0_pay1, k0_pay2, k0_pay3, k0_pay6, k0_pay7, k0_pay8, k0_pay9, block_du h t, block_w h t, block_x h t, block_g h t, block_dh t, ofBits_1024, ofBits_eps]
    simp only [← EReal.coe_mul, coe_sum, ← EReal.coe_add, rsqrt_meanSq (show (0 : ℝ) < 1024 by norm_num), dy_chunks, zero_add]
    rfl
  · have h1 : 1 ≤ t.val := by omega
    rw [outsAt0_B m c t h0 h1]
    frame_out
    idx_vars j
    pointwise [k0_pay1, k0_pay2, k0_pay3, k0_pay5, k0_pay6, k0_pay7, k0_pay8, k0_pay9, block_du h t, block_w h t, block_x h t, block_g h t, block_dh t, ofBits_1024, ofBits_eps]
    simp only [← EReal.coe_mul, coe_sum, ← EReal.coe_add, rsqrt_meanSq (show (0 : ℝ) < 1024 by norm_num), dy_chunks]
    rfl

end Cert.FfnInIdeal.Value

end
-- ==== Proof.FfnInReference.lean ====
/- What differentiating the feed-forward up product's forward lines gives, over real arguments. -/
module

public import proofs.«01_k».proof.Proof.Gen.FfnInRefIdeal.Run
public import proofs.«01_k».proof.Proof.Gen.FfnInRefIdeal.Read
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnInRefIdeal.Read

open Cert.FfnInRefIdeal Cert.FfnInRefIdeal.Gen Cert.Reals Cert.Rms

variable (X : S8208x1024.Idx → ℝ) (G : S1024.Idx → ℝ) (W : S1024x5632.Idx → ℝ) (DU : S8208x5632.Idx → ℝ)

/-- The gradient of the norm's result at row `r`. -/
def dy (r : Fin 8208) (j : Fin 1024) : ℝ := ∑ k : Fin 5632, DU (ix2 r k) * W (ix2 j k)

theorem scale (r : Fin 8208) (o : Fin 1) :
    val_main_v7 (F := Ideal) (fun i => ((X i : ℝ) : EReal)) (ix2 r o) = ((inv 1024 (fun k => X (ix2 r k)) : ℝ) : EReal) := by
  pointwise [val_main_v7, val_main_v6, val_main_v5, val_main_v4, val_main_v3, val_main_v2, val_main_v1, val_main_v0, val_main_cst, val_main_cst_0, val_main_cst_1, ofBits_1024, ofBits_eps]
  simp only [← EReal.coe_mul, coe_sum]
  exact rsqrt_meanSq (by norm_num) _

/-- The mean square with the norm's small constant. -/
theorem mean (r : Fin 8208) (o : Fin 1) :
    val_main_v6 (F := Ideal) (fun i => ((X i : ℝ) : EReal)) (ix2 r o) = ((meanSq 1024 (fun k => X (ix2 r k)) : ℝ) : EReal) := by
  pointwise [val_main_v6, val_main_v5, val_main_v4, val_main_v3, val_main_v2, val_main_v1, val_main_v0, val_main_cst, val_main_cst_0, val_main_cst_1, ofBits_1024, ofBits_eps]
  simp only [← EReal.coe_mul, coe_sum, div_real (show (1024 : ℝ) ≠ 0 by norm_num), ← EReal.coe_add]
  rfl

/-- The gradient of the norm's result. -/
theorem product (r : Fin 8208) (j : Fin 1024) :
    val_main_v19 (F := Ideal) (fun i => ((W i : ℝ) : EReal)) (fun i => ((DU i : ℝ) : EReal)) (ix2 r j) = ((dy W DU r j : ℝ) : EReal) := by
  pointwise [val_main_v19]
  simp only [← EReal.coe_mul, coe_sum]
  rfl

/-- The gradient of the gain. -/
theorem gain (i : S1x1024.Idx) :
    val_main_v43 (F := Ideal) (fun i => ((X i : ℝ) : EReal)) (fun i => ((W i : ℝ) : EReal)) (fun i => ((DU i : ℝ) : EReal)) i
      = ((∑ r : Fin 8208, dy W DU r (i 1) * (X (ix2 r (i 1)) * inv 1024 (fun k => X (ix2 r k))) : ℝ) : EReal) := by
  idx_vars i
  pointwise [val_main_v43, val_main_v25, val_main_v22, val_main_v21, val_main_cst_3, val_main_cst_4, val_main_v20, val_main_v12, val_main_v11, scale X, product W DU]
  simp only [Finset.univ_unique, Finset.sum_singleton, ← EReal.coe_mul, coe_sum]
  simp only [mul_comm (dy W DU _ _)]

/-- The gradient of the norm's argument, with the residual's. -/
theorem rows (DH : S8208x1024.Idx → EReal) (r : Fin 8208) (j : Fin 1024) :
    val_main_v40 (F := Ideal) (fun i => ((X i : ℝ) : EReal)) (fun i => ((G i : ℝ) : EReal)) (fun i => ((W i : ℝ) : EReal)) DH (fun i => ((DU i : ℝ) : EReal)) (ix2 r j)
      = ((back 1024 (fun k => X (ix2 r k)) (fun k => G (ix1 k)) (dy W DU r) j : ℝ) : EReal) + DH (ix2 r j) := by
  pointwise [val_main_v40, val_main_v39, val_main_v38, val_main_v37, val_main_v36, val_main_v35, val_main_v34, val_main_v33, val_main_v32, val_main_v31,
    val_main_v30, val_main_v29, val_main_v28, val_main_v27, val_main_v26, val_main_v24, val_main_v23, val_main_v22, val_main_v14, val_main_v13,
    val_main_v10, val_main_v9, val_main_v8, val_main_cst_2, val_main_cst_3, val_main_cst_4, val_main_cst_5, val_main_cst_6, val_main_cst_7, ofBits_1024, ofBits_neg_half, scale X, mean X, product W DU]
  simp only [← EReal.coe_mul, coe_sum, div_real (show (1024 : ℝ) ≠ 0 by norm_num), div_real (meanSq_pos (show (0 : ℝ) < 1024 by norm_num) _).ne', Finset.univ_unique, Finset.sum_singleton]
  rw [← back_eq_vjp (show (0 : ℝ) < 1024 by norm_num)]
  rw [add_assoc, add_assoc, add_comm (DH _)]
  simp only [← EReal.coe_add, add_assoc]

end Cert.FfnInRefIdeal.Read

end
-- ==== Proof.FfnIn.lean ====
/- The gradient of the feed-forward up product and of the norm before it: the kernel and the differentiated forward lines agree. -/
module

public import proofs.«01_k».proof.Defs
public import proofs.«01_k».proof.Proof.FfnInKernel
public import proofs.«01_k».proof.Proof.FfnInReference
public import proofs.«01_k».proof.Proof.Gen.Pre_finite_in

@[expose] public section

set_option maxRecDepth 16384

noncomputable section

open Idealize.ShloMosaic Idealize.ShloMosaic.TcCoe Idealize.SL.Sem

namespace Cert.FfnInClaim

open Cert.Reals Cert.Rms

/-- The precondition in the form the proofs use: four of the arguments are arrays of real numbers. -/
theorem real_args (m : (ℓ : Loc FfnInIdeal.nD FfnInIdeal.τ FfnInIdeal.sig) → Buf (Elt Ideal) ℓ) (h : Pre_FfnInIdeal_finite_in m) (c : Dev FfnInIdeal.nD) :
    ∃ X G W DU, FfnInIdeal.Value.RealArgs m c X G W DU := by
  have hc := congrFun (h c) (fun a => a.elim0)
  simp only [Pre_finite_in.fn, Pre_finite_in.fn_part1, andi_apply, andi_one] at hc
  obtain ⟨⟨⟨h0, h1⟩, h2⟩, h4⟩ := hc
  obtain ⟨X, hX⟩ := exists_real (fun _ => ofBits_inf) h0
  obtain ⟨G, hG⟩ := exists_real (fun _ => ofBits_inf) h1
  obtain ⟨W, hW⟩ := exists_real (fun _ => ofBits_inf) h2
  obtain ⟨DU, hDU⟩ := exists_real (fun _ => ofBits_inf) h4
  exact ⟨X, G, W, DU, hX, hG, hW, hDU⟩

/-- The row gradient over the padded rows, from the one over the real rows. -/
theorem rows_agree (m : (ℓ : Loc FfnInIdeal.nD FfnInIdeal.τ FfnInIdeal.sig) → Buf (Elt Ideal) ℓ) (c : Dev FfnInIdeal.nD)
    (X G W DU) (h : FfnInIdeal.Value.RealArgs m c X G W DU) :
    FfnInIdeal.Value.rowGrad X G W DU (FfnInIdeal.Gen.V m c FfnInIdeal.main_v10)
      = FfnInRefIdeal.Read.val_main_v42 (F := Ideal) (fun i => ((X i : ℝ) : EReal)) (fun i => ((G i : ℝ) : EReal)) (fun i => ((W i : ℝ) : EReal))
          (m ((c : Thread FfnInIdeal.nD FfnInIdeal.τ).loc FfnInIdeal.main_arg3)) (fun i => ((DU i : ℝ) : EReal)) := by
  funext i
  idx_vars i
  pointwise [FfnInIdeal.Value.rowGrad, FfnInRefIdeal.Read.val_main_v42, FfnInRefIdeal.Read.rows, FfnInRefIdeal.Read.val_main_v41, FfnInRefIdeal.Read.val_main_cst_8]
  rcases Nat.lt_or_ge i0.val 112 with hi | hi
  · rw [dif_pos hi, FfnInIdeal.Value.entry_dh, dif_pos hi, add_zero, back_zero _ _ _ _ fun k => ?_]
    · rfl
    · simp [FfnInIdeal.Value.dy, padded_front _ i0 _ hi]
  · rw [dif_neg (by omega), FfnInIdeal.Value.entry_dh, dif_neg (by omega)]
    obtain ⟨r, hr, rfl⟩ := exists_behind (n0 := 8208) 112 rfl i0 hi
    have e : (⟨112 + r.val - 112, by omega⟩ : Fin 8208) = r := Fin.ext (by dsimp only; omega)
    have hd : FfnInIdeal.Value.dy W DU ⟨112 + r.val, by omega⟩ = FfnInRefIdeal.Read.dy W DU r := by
      funext k; simp only [FfnInIdeal.Value.dy, FfnInRefIdeal.Read.dy, padded_behind]
    simp only [e, padded_behind, hd]

theorem gains_agree (X : FfnInIdeal.S8208x1024.Idx → ℝ) (W : FfnInIdeal.S1024x5632.Idx → ℝ) (DU : FfnInIdeal.S8208x5632.Idx → ℝ) (j : Fin 1024) :
    ∑ r : Fin 8320, FfnInIdeal.Value.gainTerm X W DU r j
      = ∑ r : Fin 8208, FfnInRefIdeal.Read.dy W DU r j * (X (ix2 r j) * inv 1024 (fun k => X (ix2 r k))) := by
  rw [sum_behind (n0 := 8208) 112 rfl]
  · refine Finset.sum_congr rfl fun r _ => ?_
    simp only [FfnInIdeal.Value.gainTerm, FfnInIdeal.Value.dy, FfnInRefIdeal.Read.dy, padded_behind]
  · intro r hr
    simp [FfnInIdeal.Value.gainTerm, FfnInIdeal.Value.dy, padded_front _ r _ hr]

theorem value : algebraic_FfnInIdeal_FfnInRefIdeal_pre_finite_in := by
  pair_intro
  · run_from FfnInIdeal.Value.run_blocks m g
  · run_from FfnInRefIdeal.Value.run m' g'
    · obtain ⟨X, G, W, DU, h⟩ := real_args m hpre c
      rw [FfnInRefIdeal.Read.val_main_v42_eq, (hagree c).1, (hagree c).2.1, (hagree c).2.2.1, (hagree c).2.2.2.1, (hagree c).2.2.2.2, h.x, h.g, h.w, h.du,
        FfnInIdeal.Value.final5 h]
      exact (rows_agree m c X G W DU h).symm
    · obtain ⟨X, G, W, DU, h⟩ := real_args m hpre c
      refine (FfnInRefIdeal.Read.val_main_v43_eq _ _ _).trans ?_
      rw [h.x, h.w, h.du, FfnInIdeal.Value.final6 h]
      funext i
      rw [FfnInRefIdeal.Read.gain X W DU i]
      exact congrArg _ (gains_agree X W DU (i 1)).symm

/-- The differentiated forward lines run, and leave their arguments as they were. -/
theorem reference_frame : quiescent_FfnInRefIdeal := fun m g _ =>
  (θ_run FfnInRefIdeal.defs _ _).mono (fun r h => ⟨fun c => (h c).2.2, sem_eq_zero_of_no_sems rfl _⟩) (FfnInRefIdeal.Value.run m g)

end Cert.FfnInClaim

end
-- ==== Proof.AttnMath.lean ====
/- Causal softmax attention over the real numbers: the weights of a row, whichever shift the exponentials are taken at,
   and the gradients of the scores, the queries, the keys and the values. -/
module

public import proofs.«01_k».proof.Proof.Reals
public import Mathlib.Analysis.SpecialFunctions.Pow.Real

@[expose] public section

noncomputable section

namespace Cert.AttnMath

open Idealize.ShloMosaic Cert.Reals
open scoped BigOperators

variable {n : ℕ}

/-! ## One row of scores -/

/-- The exponentials of row `i`'s scores up to the diagonal, shifted by `M`; zero behind it. -/
def expRow (s : Fin n → ℝ) (i : Fin n) (M : ℝ) (j : Fin n) : ℝ := if j ≤ i then Real.exp (s j - M) else 0

/-- The weight row `i` gives to position `j`. -/
def weight (s : Fin n → ℝ) (i j : Fin n) : ℝ := expRow s i 0 j / ∑ k, expRow s i 0 k

theorem expRow_nonneg (s : Fin n → ℝ) (i : Fin n) (M : ℝ) (j : Fin n) : 0 ≤ expRow s i M j := by
  unfold expRow; split_ifs <;> positivity

theorem sum_pos (s : Fin n → ℝ) (i : Fin n) (M : ℝ) : 0 < ∑ k, expRow s i M k :=
  Finset.sum_pos' (fun k _ => expRow_nonneg s i M k) ⟨i, Finset.mem_univ _, by unfold expRow; rw [if_pos le_rfl]; positivity⟩

theorem expRow_shift (s : Fin n → ℝ) (i : Fin n) (M : ℝ) (j : Fin n) : expRow s i M j = expRow s i 0 j * Real.exp (-M) := by
  unfold expRow; split_ifs
  · rw [← Real.exp_add]; congr 1; ring
  · simp

/-- The weights are the same at every shift. -/
theorem weight_eq (s : Fin n → ℝ) (i : Fin n) (M : ℝ) (j : Fin n) : expRow s i M j / ∑ k, expRow s i M k = weight s i j := by
  unfold weight
  simp only [expRow_shift s i M, ← Finset.sum_mul]
  exact mul_div_mul_right _ _ (Real.exp_ne_zero _)

theorem weight_of_lt (s : Fin n → ℝ) {i j : Fin n} (h : i < j) : weight s i j = 0 := by
  unfold weight expRow; rw [if_neg (not_le.2 h), zero_div]

/-- A weight from the log-sum the forward pass saves, in the base-two form. -/
theorem weight_eq_rpow (s : Fin n → ℝ) (i : Fin n) (M : ℝ) {j : Fin n} (h : j ≤ i) :
    Real.rpow 2 (s j / Real.log 2 - (M + Real.log (∑ k, expRow s i M k)) / Real.log 2) = weight s i j := by
  rw [← weight_eq s i M, ← sub_div, show ∀ x : ℝ, Real.rpow 2 x = (2 : ℝ) ^ x from fun _ => rfl, Real.rpow_def_of_pos (by norm_num),
    mul_div_cancel₀ _ (Real.log_pos (by norm_num)).ne', ← sub_sub, Real.exp_sub, Real.exp_log (sum_pos s i M)]
  unfold expRow
  rw [if_pos h]

/-! ## The row in the extended reals -/

/-- The scores with the positions behind the diagonal at negative infinity. -/
def masked (s : Fin n → ℝ) (i : Fin n) (j : Fin n) : EReal := if j ≤ i then ((s j : ℝ) : EReal) else ⊥

/-- The largest masked score is a real number. -/
theorem exists_max (s : Fin n → ℝ) (i : Fin n) : ∃ M : ℝ, Finset.univ.fold max (⊥ : EReal) (masked s i) = (M : EReal) := by
  have h1 : Finset.univ.fold max (⊥ : EReal) (masked s i) < ⊤ := by
    rw [Finset.fold_max_lt]
    refine ⟨by simp, fun j _ => ?_⟩
    unfold masked; split_ifs <;> simp [EReal.coe_lt_top]
  have h2 : ((s i : ℝ) : EReal) ≤ Finset.univ.fold max (⊥ : EReal) (masked s i) := by
    rw [Finset.le_fold_max]
    exact Or.inr ⟨i, Finset.mem_univ _, by unfold masked; rw [if_pos le_rfl]⟩
  generalize Finset.univ.fold max (⊥ : EReal) (masked s i) = x at h1 h2
  induction x with
  | bot => simp at h2
  | top => simp at h1
  | coe r => exact ⟨r, rfl⟩

theorem exp_masked (s : Fin n → ℝ) (i : Fin n) (M : ℝ) (j : Fin n) :
    Ideal.exp (masked s i j - (M : EReal)) = ((expRow s i M j : ℝ) : EReal) := by
  unfold masked expRow; split_ifs
  · rw [← EReal.coe_sub, Ideal.exp_coe]
  · rw [EReal.bot_sub, Ideal.exp_bot]; rfl

/-- Comparing two small positions as 32-bit words compares the positions. -/
theorem sle_ofNat {a b : ℕ} (ha : a < 2 ^ 31) (hb : b < 2 ^ 31) :
    IntOp.cmpi .sle (BitVec.ofNat 32 a) (BitVec.ofNat 32 b) = if a ≤ b then 1#1 else 0#1 := by
  have e : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp [Nat.mod_eq_of_lt (show a < 4294967296 by omega), Nat.mod_eq_of_lt (show b < 4294967296 by omega)]
  simp only [IntOp.cmpi, e]
  split_ifs with h <;> simp [h]

/-! ## The gradients of one head

    `q`, `k`, `v` are the head's queries (already scaled), keys and values, `d` the cotangent of its output. -/

variable {c e : ℕ} (q k : Fin n → Fin c → ℝ) (v d : Fin n → Fin e → ℝ)

/-- Row `i`'s scores. -/
def score (i : Fin n) (j : Fin n) : ℝ := ∑ a, q i a * k j a

/-- The weight of key `j` for query `i`. -/
def prob (i j : Fin n) : ℝ := weight (score q k i) i j

/-- The cotangent of the weight. -/
def dprob (i j : Fin n) : ℝ := ∑ a, d i a * v j a

/-- The cotangent of the score. -/
def dscore (i j : Fin n) : ℝ := prob q k i j * (dprob v d i j - ∑ l, prob q k i l * dprob v d i l)

/-- The weighted mean of the values, times the cotangent, summed over the lanes, is the weighted mean of the cotangents. -/
theorem rowdot_eq (i : Fin n) :
    ∑ a, d i a * (∑ j, prob q k i j * v j a) = ∑ l, prob q k i l * dprob v d i l := by
  simp only [dprob, Finset.mul_sum]
  rw [Finset.sum_comm]
  refine Finset.sum_congr rfl fun l _ => Finset.sum_congr rfl fun a _ => by ring

end Cert.AttnMath

end
-- ==== Proof.AttnReference.lean ====
/- What differentiating causal softmax attention's forward lines gives, over real arguments. -/
module

public import proofs.«01_k».proof.Proof.Gen.AttnRefIdeal.Run
public import proofs.«01_k».proof.Proof.Gen.AttnRefIdeal.Read
public import proofs.«01_k».proof.Proof.AttnMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AttnRefIdeal.Read

open Cert.AttnRefIdeal Cert.AttnRefIdeal.Gen Cert.Reals Cert.AttnMath

variable (Q K : S8208x8x192.Idx → ℝ) (W : S8208x8x128.Idx → ℝ) (D : S8208x1024.Idx → ℝ)

/-- One head's scaled queries, keys, values and output cotangents. -/
def hq (h : Fin 8) (i : Fin 8208) (a : Fin 192) : ℝ := Q (ix3 i h a) * scale
def hk (h : Fin 8) (i : Fin 8208) (a : Fin 192) : ℝ := K (ix3 i h a)
def hv (h : Fin 8) (i : Fin 8208) (a : Fin 128) : ℝ := W (ix3 i h a)
def hd (h : Fin 8) (i : Fin 8208) (a : Fin 128) : ℝ := D (ix2 i ⟨h.val * 128 + a.val, by omega⟩)

theorem scores (h : Fin 8) (i j : Fin 8208) :
    val_main_v2 (F := Ideal) (fun i => ((Q i : ℝ) : EReal)) (fun i => ((K i : ℝ) : EReal)) (ix3 h i j)
      = ((score (hq Q h) (hk K h) i j : ℝ) : EReal) := by
  pointwise [val_main_v2, val_main_v1, val_main_v0, val_main_cst, ofBits_scale]
  simp only [← EReal.coe_mul, coe_sum]
  rfl

theorem mask (h : Fin 8) (i j : Fin 8208) : val_main_v9_1 (F := Ideal) (ix3 h i j) = if j ≤ i then 1#1 else 0#1 := by
  pointwise [val_main_v9_1, val_main_v8, val_main_v7, val_main_v6, val_main_v5, val_main_v4, val_main_v3]
  exact sle_ofNat (by omega) (by omega)

theorem masked_scores (h : Fin 8) (i j : Fin 8208) :
    val_main_v9_0 (F := Ideal) (fun i => ((Q i : ℝ) : EReal)) (fun i => ((K i : ℝ) : EReal)) (ix3 h i j)
      = masked (score (hq Q h) (hk K h) i) i j := by
  pointwise [val_main_v9_0, val_main_call0_v2, val_main_cst_0, val_main_call0_v0, scores Q K, mask]
  unfold masked
  split_ifs
  · rfl
  · exact ofBits_neg_inf

/-! ## The row's shift, exponentials and weights -/

theorem reduces : S8x8208x8208.Reduces [2] S8x8208 := by decide

theorem lift_eq (h : Fin 8) (i j : Fin 8208) : reduces.lift (ix2 h i) j = ix3 h i j := by
  funext a
  refine Fin.ext ?_
  fin_cases a <;> rfl

theorem row_max (M : ℝ) (h : Fin 8) (i : Fin 8208) (hM : Finset.univ.fold max (⊥ : EReal) (masked (score (hq Q h) (hk K h) i) i) = (M : EReal)) :
    val_main_v10 (F := Ideal) (fun i => ((Q i : ℝ) : EReal)) (fun i => ((K i : ℝ) : EReal)) (ix2 h i) = (M : EReal) := by
  unfold val_main_v10
  generalize hy : val_main_v9_0 (F := Ideal) (fun i => ((Q i : ℝ) : EReal)) (fun i => ((K i : ℝ) : EReal)) = y
  refine (Host.reduce_eq_fold_single (FloatOps.maximumf (F := Ideal) (φ := .f32)) y _ _ reduces _ _).trans (Eq.trans ?_ hM)
  have e1 : val_main_cst_1 (F := Ideal) (Shape.Idx.first h_S_) = (⊥ : EReal) := ofBits_neg_inf
  rw [e1]
  refine congrArg (fun f => Finset.univ.fold max (⊥ : EReal) f) (funext fun j : Fin 8208 => ?_)
  refine (congrArg y (lift_eq h i j)).trans ?_
  rw [← hy]
  exact masked_scores Q K h i j

theorem shift_of (M : ℝ) (h : Fin 8) (i : Fin 8208)
    (e : val_main_v10 (F := Ideal) (fun i => ((Q i : ℝ) : EReal)) (fun i => ((K i : ℝ) : EReal)) (ix2 h i) = (M : EReal)) :
    val_main_v17 (F := Ideal) (fun i => ((Q i : ℝ) : EReal)) (fun i => ((K i : ℝ) : EReal)) (ix2 h i) = (M : EReal) := by
  rw [val_main_v17_apply, e]
  exact (congrArg (fun x : EReal => max x (M : EReal)) ofBits_neg_inf).trans (max_eq_right bot_le)

/-- The largest score of a row. -/
def shift (h : Fin 8) (i : Fin 8208) : ℝ := Classical.choose (exists_max (score (hq Q h) (hk K h) i) i)

theorem shift_eq (h : Fin 8) (i : Fin 8208) :
    val_main_v17 (F := Ideal) (fun i => ((Q i : ℝ) : EReal)) (fun i => ((K i : ℝ) : EReal)) (ix2 h i) = ((shift Q K h i : ℝ) : EReal) :=
  shift_of Q K _ h i (row_max Q K _ h i (Classical.choose_spec (exists_max (score (hq Q h) (hk K h) i) i)))

/-- The sum of a row's exponentials. -/
def total (h : Fin 8) (i : Fin 8208) : ℝ := ∑ j, expRow (score (hq Q h) (hk K h) i) i (shift Q K h i) j

theorem total_pos (h : Fin 8) (i : Fin 8208) : 0 < total Q K h i := sum_pos _ _ _

theorem exponentials (h : Fin 8) (i j : Fin 8208) :
    val_main_v30 (F := Ideal) (fun i => ((Q i : ℝ) : EReal)) (fun i => ((K i : ℝ) : EReal)) (ix3 h i j)
      = ((expRow (score (hq Q h) (hk K h) i) i (shift Q K h i) j : ℝ) : EReal) := by
  pointwise [val_main_v30, val_main_v29, val_main_v28, val_main_v27, masked_scores Q K, shift_eq Q K]
  exact exp_masked _ _ _ _

theorem totals (h : Fin 8) (i : Fin 8208) (o : Fin 1) :
    val_main_v32 (F := Ideal) (fun i => ((Q i : ℝ) : EReal)) (fun i => ((K i : ℝ) : EReal)) (ix3 h i o) = ((total Q K h i : ℝ) : EReal) := by
  pointwise [val_main_v32, val_main_v31, val_main_cst_9, exponentials Q K]
  simp only [coe_sum]
  rfl

theorem weights (h : Fin 8) (i j : Fin 8208) :
    val_main_v34 (F := Ideal) (fun i => ((Q i : ℝ) : EReal)) (fun i => ((K i : ℝ) : EReal)) (ix3 h i j) = ((prob (hq Q h) (hk K h) i j : ℝ) : EReal) := by
  pointwise [val_main_v34, val_main_v33, exponentials Q K, totals Q K]
  rw [div_real (total_pos Q K h i).ne']
  exact congrArg _ (weight_eq _ _ _ _)

theorem prob_eq (h : Fin 8) (i j : Fin 8208) :
    prob (hq Q h) (hk K h) i j = expRow (score (hq Q h) (hk K h) i) i (shift Q K h i) j / total Q K h i :=
  (weight_eq _ _ _ _).symm

/-! ## The gradient of the scores -/

theorem dprobs (h : Fin 8) (i j : Fin 8208) :
    val_main_v43 (F := Ideal) (fun i => ((W i : ℝ) : EReal)) (fun i => ((D i : ℝ) : EReal)) (ix3 h i j) = ((dprob (hv W h) (hd D h) i j : ℝ) : EReal) := by
  pointwise [val_main_v43, val_main_v42, val_main_v41]
  simp only [← EReal.coe_mul, coe_sum]
  rfl

theorem rowdots (h : Fin 8) (i : Fin 8208) (o : Fin 1) :
    val_main_v51 (F := Ideal) (fun i => ((Q i : ℝ) : EReal)) (fun i => ((K i : ℝ) : EReal)) (fun i => ((W i : ℝ) : EReal)) (fun i => ((D i : ℝ) : EReal)) (ix3 h i o)
      = ((-(∑ l, prob (hq Q h) (hk K h) i l * dprob (hv W h) (hd D h) i l) / total Q K h i : ℝ) : EReal) := by
  pointwise [val_main_v51, val_main_v50, val_main_v49, val_main_cst_11, val_main_v48, val_main_v47, val_main_v46, val_main_v37, val_main_v36, val_main_cst_10, val_main_v35,
    dprobs W D, totals Q K, exponentials Q K]
  have hl := total_pos Q K h i
  have e1 : (1 : EReal) = ((1 : ℝ) : EReal) := rfl
  simp only [← EReal.coe_mul, e1, div_real (mul_pos hl hl).ne', coe_sum, ← EReal.coe_neg, prob_eq]
  refine congrArg _ ?_
  rw [neg_div, neg_inj, Finset.sum_div]
  refine Finset.sum_congr rfl fun l _ => ?_
  field_simp

theorem dscores (h : Fin 8) (i j : Fin 8208) :
    val_main_v58 (F := Ideal) (fun i => ((Q i : ℝ) : EReal)) (fun i => ((K i : ℝ) : EReal)) (fun i => ((W i : ℝ) : EReal)) (fun i => ((D i : ℝ) : EReal)) (ix3 h i j)
      = ((dscore (hq Q h) (hk K h) (hv W h) (hd D h) i j : ℝ) : EReal) := by
  pointwise [val_main_v58, val_main_call1_v0, val_main_call1_cst, mask, val_main_v57, val_main_v56, val_main_v55, val_main_v54, val_main_cst_12, val_main_v53, val_main_v52, rowdots Q K W D,
    dprobs W D, totals Q K, exponentials Q K]
  have hl := total_pos Q K h i
  simp only [Finset.univ_unique, Finset.sum_singleton, div_real hl.ne', ← EReal.coe_add, ← EReal.coe_mul]
  unfold dscore
  split_ifs with hj
  · rw [select_one]
    refine congrArg _ ?_
    rw [prob_eq Q K h i j]
    field_simp
    ring
  · rw [select_zero, prob, weight_of_lt _ (not_le.1 hj), zero_mul]
    rfl

/-! ## The three results -/

theorem result_dv (h : Fin 8) (i : Fin 8208) (a : Fin 128) :
    val_main_v45 (F := Ideal) (fun i => ((Q i : ℝ) : EReal)) (fun i => ((K i : ℝ) : EReal)) (fun i => ((D i : ℝ) : EReal)) (ix3 i h a)
      = ((∑ l, prob (hq Q h) (hk K h) l i * hd D h l a : ℝ) : EReal) := by
  pointwise [val_main_v45, val_main_v44, val_main_v42, val_main_v41, weights Q K]
  simp only [← EReal.coe_mul, coe_sum]
  refine congrArg _ (Finset.sum_congr rfl fun l _ => mul_comm _ _)

theorem result_dk (h : Fin 8) (i : Fin 8208) (a : Fin 192) :
    val_main_v60 (F := Ideal) (fun i => ((Q i : ℝ) : EReal)) (fun i => ((K i : ℝ) : EReal)) (fun i => ((W i : ℝ) : EReal)) (fun i => ((D i : ℝ) : EReal)) (ix3 i h a)
      = ((∑ l, dscore (hq Q h) (hk K h) (hv W h) (hd D h) l i * hq Q h l a : ℝ) : EReal) := by
  pointwise [val_main_v60, val_main_v59, val_main_v1, val_main_v0, val_main_cst, ofBits_scale, dscores Q K W D]
  simp only [← EReal.coe_mul, coe_sum]
  rfl

theorem result_dq (h : Fin 8) (i : Fin 8208) (a : Fin 192) :
    val_main_v62 (F := Ideal) (fun i => ((Q i : ℝ) : EReal)) (fun i => ((K i : ℝ) : EReal)) (fun i => ((W i : ℝ) : EReal)) (fun i => ((D i : ℝ) : EReal)) (ix3 i h a)
      = ((∑ l, dscore (hq Q h) (hk K h) (hv W h) (hd D h) i l * hk K h l a : ℝ) : EReal) := by
  pointwise [val_main_v62, val_main_v61, dscores Q K W D]
  simp only [← EReal.coe_mul, coe_sum]
  rfl

end Cert.AttnRefIdeal.Read

end
-- ==== Proof.AttnTile.lean ====
/- One head of the attention gradients over the real numbers, cut into the kernel's tiles: what the running sums hold
   after some of the blocks of query rows, and how one more tile continues them. -/
module

public import proofs.«01_k».proof.Proof.Gen.AttnIdeal.Value
public import proofs.«01_k».proof.Proof.AttnMath
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)
open scoped BigOperators

namespace Cert.AttnIdeal.Tile

open Cert.AttnIdeal Cert.AttnIdeal.Gen Cert.Reals

/-- One head's rows: queries and keys (256 lanes), values and the cotangent of the output (128 lanes), the logarithm of
    each query row's sum of exponentials in base two, and each query row's product of cotangent and output. -/
structure Head where
  Q : ℕ → Fin 256 → ℝ
  K : ℕ → Fin 256 → ℝ
  V : ℕ → Fin 128 → ℝ
  D : ℕ → Fin 128 → ℝ
  lse : ℕ → ℝ
  dl : ℕ → ℝ

namespace Head

variable (H : Head)

/-- The weight query row `i` gives to key row `r`: zero for the 112 rows in front and for later keys. -/
def P (r i : ℕ) : ℝ := if r ≤ i ∧ 112 ≤ r then Real.rpow 2 (∑ c, H.K r c * H.Q i c - H.lse i) else 0

/-- The gradient of the score of key row `r` and query row `i`. -/
def dS (r i : ℕ) : ℝ := H.P r i * (∑ d, H.V r d * H.D i d - H.dl i)

end Head

namespace Head

variable (H : Head)

theorem iota_row {A : BitVec 32} {n a : ℕ} (h : A = BitVec.ofNat 32 n) :
    IntOp.addi (Scalar.muli A 640#32) (BitVec.ofNat 32 a) = BitVec.ofNat 32 (640 * n + a) := by
  subst h
  show BitVec.ofNat 32 n * BitVec.ofNat 32 640 + BitVec.ofNat 32 a = _
  rw [← BitVec.ofNat_mul, ← BitVec.ofNat_add, Nat.mul_comm]

theorem mask_named : (Named.named (F := Ideal) κ "mask" (φ := .f32) 4048155338#32) = (⊥ : EReal) :=
  IdealRules.named_const.ideal_named_scalar _ _ _ _ rfl

theorem ln2_named : (Named.named (F := Ideal) κ "ln2" (φ := .f32) 0x3F317218#32) = ((Real.log 2 : ℝ) : EReal) :=
  IdealRules.named_const.ideal_named_scalar _ _ _ _ rfl

theorem sge_ofNat {a b : ℕ} (ha : a < 2 ^ 31) (hb : b < 2 ^ 31) :
    IntOp.cmpi .sge (BitVec.ofNat 32 a) (BitVec.ofNat 32 b) = if b ≤ a then 1#1 else 0#1 :=
  AttnMath.sle_ofNat hb ha

theorem sum_mul_coe {n : ℕ} (f g : Fin n → ℝ) : (∑ c, ((f c : ℝ) : EReal) * ((g c : ℝ) : EReal)) = ((∑ c, f c * g c : ℝ) : EReal) := by
  simp only [← EReal.coe_mul, coe_sum]

/-- The kernel's weight of a masked tile. -/
theorem weight_masked {A B : BitVec 32} {n b w : ℕ} (hA : A = BitVec.ofNat 32 n) (hB : B = BitVec.ofNat 32 b)
    (hn : n < 13) (hb : b < 13) (hw : w ≤ 1920) (a : Fin 640) (x : Fin w) :
    FloatOps.exp2 (F := Ideal) (φ := .f32) ((Scalar.select (IntOp.andi
      (IntOp.cmpi .sle (IntOp.addi (Scalar.muli A 640#32) (BitVec.ofNat 32 a.val)) (IntOp.addi (Scalar.muli B 640#32) (BitVec.ofNat 32 x.val)))
      (IntOp.cmpi .sge (IntOp.addi (Scalar.muli A 640#32) (BitVec.ofNat 32 a.val)) 112#32))
      ((∑ c, H.K (640 * n + a.val) c * H.Q (640 * b + x.val) c : ℝ) : EReal)
      (Named.named (F := Ideal) κ "mask" (φ := .f32) 4048155338#32) : EReal) - ((H.lse (640 * b + x.val) : ℝ) : EReal))
      = ((H.P (640 * n + a.val) (640 * b + x.val) : ℝ) : EReal) := by
  have ha := a.isLt
  have hx := x.isLt
  rw [iota_row hA, iota_row hB, AttnMath.sle_ofNat (by omega) (by omega), sge_ofNat (b := 112) (by omega) (by omega), mask_named]
  unfold P
  by_cases h1 : 640 * n + a.val ≤ 640 * b + x.val <;> by_cases h2 : 112 ≤ 640 * n + a.val
  · rw [if_pos h1, if_pos h2, if_pos ⟨h1, h2⟩]
    exact (congrArg Ideal.exp2 (congrArg (· - ((H.lse (640 * b + x.val) : ℝ) : EReal)) (select_one _ _))).trans (congrArg Ideal.exp2 (EReal.coe_sub _ _).symm)
  all_goals
    rw [if_neg (fun h => by omega : ¬(640 * n + a.val ≤ 640 * b + x.val ∧ 112 ≤ 640 * n + a.val))]
    simp only [h1, h2, if_true, if_false]
    exact (congrArg Ideal.exp2 ((congrArg (· - ((H.lse (640 * b + x.val) : ℝ) : EReal)) (select_zero _ _)).trans (EReal.bot_sub _)))

/-- The kernel's weight of a tile whose query rows are all later than its key rows. -/
theorem weight_plain {n b w : ℕ} (hn : 0 < n) (hb : n < b) (a : Fin 640) (x : Fin w) :
    FloatOps.exp2 (F := Ideal) (φ := .f32)
      (((∑ c, H.K (640 * n + a.val) c * H.Q (640 * b + x.val) c : ℝ) : EReal) - ((H.lse (640 * b + x.val) : ℝ) : EReal))
      = ((H.P (640 * n + a.val) (640 * b + x.val) : ℝ) : EReal) := by
  have ha := a.isLt
  unfold P
  rw [if_pos ⟨by omega, by omega⟩]
  exact congrArg Ideal.exp2 (EReal.coe_sub _ _).symm

/-- The kernel's gradient of a score. -/
theorem slope (r i : ℕ) :
    ((H.P r i : ℝ) : EReal) * (((∑ d, H.V r d * H.D i d : ℝ) : EReal) - ((H.dl i : ℝ) : EReal)) = ((H.dS r i : ℝ) : EReal) := by
  rw [← EReal.coe_sub, ← EReal.coe_mul, dS]

end Head

/-- Three blocks' statistics side by side. -/
theorem side3 (g : ℕ → ℝ) (b x : ℕ) :
    (if h : x < 640 then ((g (640 * b + x) : ℝ) : EReal)
      else if h : x - 640 < 640 then ((g (640 * (b + 1) + (x - 640)) : ℝ) : EReal)
      else ((g (640 * (b + 2) + (x - 640 - 640)) : ℝ) : EReal)) = ((g (640 * b + x) : ℝ) : EReal) := by
  split_ifs
  · rfl
  · rw [show 640 * (b + 1) + (x - 640) = 640 * b + x by omega]
  · rw [show 640 * (b + 2) + (x - 640 - 640) = 640 * b + x by omega]

/-- Two blocks' statistics side by side. -/
theorem side2 (g : ℕ → ℝ) (b x : ℕ) :
    (if h : x < 640 then ((g (640 * b + x) : ℝ) : EReal) else ((g (640 * (b + 1) + (x - 640)) : ℝ) : EReal)) = ((g (640 * b + x) : ℝ) : EReal) := by
  split_ifs
  · rfl
  · rw [show 640 * (b + 1) + (x - 640) = 640 * b + x by omega]

theorem second (b x : ℕ) : 640 * b + (640 + x) = 640 * (b + 1) + x := by omega

/-- A sum over two blocks of rows, block by block. -/
theorem sum_two (f : ℕ → ℝ) (b : ℕ) :
    ((∑ j : Fin 640, f (640 * b + j.val) : ℝ) : EReal) + ((∑ j : Fin 640, f (640 * (b + 1) + j.val) : ℝ) : EReal)
      = ((∑ j : Fin 1280, f (640 * b + j.val) : ℝ) : EReal) := by
  rw [← EReal.coe_add, show (∑ j : Fin 1280, f (640 * b + j.val)) = ∑ j : Fin (640 + 640), f (640 * b + j.val) from rfl, Fin.sum_univ_add]
  simp only [Fin.val_castAdd, Fin.val_natAdd, second]

/-- What the running sums of grid point `n` of a head hold once the blocks of query rows from `n` up to `m` are done: the
    gradients of its block of keys and values summed over those rows, and every query row's gradient summed over the keys met. -/
structure Inv (H : Head) (n m : ℕ) (acc : FVec Ideal S640x256 .f32 × FVec Ideal S640x128 .f32) (y : S1x8320x256.Idx → EReal) : Prop where
  dk : ∀ (a : Fin 640) (l : Fin 256), acc.1 (ix2 a l) = ((∑ i ∈ Finset.Ico (640 * n) (640 * m), H.dS (640 * n + a.val) i * H.Q i l : ℝ) : EReal)
  dv : ∀ (a : Fin 640) (e : Fin 128), acc.2 (ix2 a e) = ((∑ i ∈ Finset.Ico (640 * n) (640 * m), H.P (640 * n + a.val) i * H.D i e : ℝ) : EReal)
  dq : ∀ (o : Fin 1) (i : Fin 8320) (l : Fin 256), y (ix3 o i l)
    = ((∑ r ∈ Finset.range (if 640 * n ≤ i.val ∧ i.val < 640 * m then 640 * n + 640 else 640 * n), H.dS r i.val * H.K r l : ℝ) : EReal)

/-- A sum over a stretch of rows continued by `w` more. -/
theorem sum_continue (f : ℕ → ℝ) {lo b b' w : ℕ} (h : lo ≤ b) (hw : b' = b + w) :
    (((∑ i ∈ Finset.Ico lo b, f i : ℝ)) : EReal) + ((∑ j : Fin w, f (b + j.val) : ℝ) : EReal) = ((∑ i ∈ Finset.Ico lo b', f i : ℝ) : EReal) := by
  subst hw
  rw [← EReal.coe_add, ← Finset.sum_Ico_consecutive f h (Nat.le_add_right b w), Finset.sum_Ico_eq_sum_range f b (b + w), Nat.add_sub_cancel_left,
    ← Fin.sum_univ_eq_sum_range (fun j => f (b + j)) w]

/-- One more tile of `w` blocks of query rows. -/
theorem Inv.step {H : Head} {n b w W : ℕ} {acc acc' : FVec Ideal S640x256 .f32 × FVec Ideal S640x128 .f32} {y y' : S1x8320x256.Idx → EReal}
    (h : Inv H n b acc y) (hW : W = 640 * w) (hnb : n ≤ b)
    (h1 : ∀ (a : Fin 640) (l : Fin 256), acc'.1 (ix2 a l) = acc.1 (ix2 a l) + ((∑ j : Fin W, H.dS (640 * n + a.val) (640 * b + j.val) * H.Q (640 * b + j.val) l : ℝ) : EReal))
    (h2 : ∀ (a : Fin 640) (e : Fin 128), acc'.2 (ix2 a e) = acc.2 (ix2 a e) + ((∑ j : Fin W, H.P (640 * n + a.val) (640 * b + j.val) * H.D (640 * b + j.val) e : ℝ) : EReal))
    (h3 : ∀ (o : Fin 1) (i : Fin 8320) (l : Fin 256) (j : Fin W), i.val = 640 * b + j.val →
      y' (ix3 o i l) = y (ix3 o i l) + ((∑ a : Fin 640, H.dS (640 * n + a.val) (640 * b + j.val) * H.K (640 * n + a.val) l : ℝ) : EReal))
    (h4 : ∀ (o : Fin 1) (i : Fin 8320) (l : Fin 256), (i.val < 640 * b ∨ 640 * b + W ≤ i.val) → y' (ix3 o i l) = y (ix3 o i l)) :
    Inv H n (b + w) acc' y' where
  dk a l := by
    rw [h1, h.dk]
    exact sum_continue (fun i => H.dS (640 * n + a.val) i * H.Q i l) (Nat.mul_le_mul_left 640 hnb) (by omega)
  dv a e := by
    rw [h2, h.dv]
    exact sum_continue (fun i => H.P (640 * n + a.val) i * H.D i e) (Nat.mul_le_mul_left 640 hnb) (by omega)
  dq o i l := by
    by_cases hi : i.val < 640 * b ∨ 640 * b + W ≤ i.val
    · have e : (if 640 * n ≤ i.val ∧ i.val < 640 * (b + w) then 640 * n + 640 else 640 * n) = if 640 * n ≤ i.val ∧ i.val < 640 * b then 640 * n + 640 else 640 * n :=
        if_congr (by omega) rfl rfl
      rw [h4 o i l hi, h.dq, e]
    · have hj : i.val - 640 * b < W := by omega
      have ei : 640 * b + (i.val - 640 * b) = i.val := by omega
      have e0 : ¬(640 * n ≤ i.val ∧ i.val < 640 * b) := by omega
      have e1 : 640 * n ≤ i.val ∧ i.val < 640 * (b + w) := by omega
      rw [h3 o i l ⟨i.val - 640 * b, hj⟩ ei.symm, h.dq, if_neg e0, if_pos e1]
      dsimp only
      rw [ei, Finset.range_eq_Ico, Finset.range_eq_Ico]
      exact sum_continue (fun r => H.dS r i.val * H.K r l) (Nat.zero_le _) rfl

/-- The staged blocks of one head hold its rows. -/
structure Reads (H : Head) {arg2 : Memref sig .tc .vmem S1x8320x256 .bf16} {arg5 : Memref sig .tc .vmem S8320x128 .f32}
    {arg6 arg7 : Memref sig .tc .vmem S1x13x1x640 .f32} (X2 : BufTy.Contents (Elt Ideal) arg2.view.ty)
    (X5 : BufTy.Contents (Elt Ideal) arg5.view.ty) (X6 : BufTy.Contents (Elt Ideal) arg6.view.ty)
    (X7 : BufTy.Contents (Elt Ideal) arg7.view.ty) : Prop where
  q : ∀ (o : Fin 1) (r : Fin 8320) (c : Fin 256), arg2.view.read (Elt Ideal) X2 (ix3 o r c) = ((H.Q r.val c : ℝ) : EReal)
  d : ∀ (r : Fin 8320) (e : Fin 128), arg5.view.read (Elt Ideal) X5 (ix2 r e) = ((H.D r.val e : ℝ) : EReal)
  l : ∀ (o : Fin 1) (b : Fin 13) (o' : Fin 1) (j : Fin 640), arg6.view.read (Elt Ideal) X6 (ix4 o b o' j) = ((H.lse (640 * b.val + j.val) : ℝ) : EReal)
  s : ∀ (o : Fin 1) (b : Fin 13) (o' : Fin 1) (j : Fin 640), arg7.view.read (Elt Ideal) X7 (ix4 o b o' j) = ((H.dl (640 * b.val + j.val) : ℝ) : EReal)

section Loads

variable {F : FTy → Type} [FloatOps F] {H : Head}
variable {κ : Kind} {sp : Space} {e : EltTy}

/-- A load of some rows of a block, at one of them. -/
theorem load_rows {n c w : ℕ} (v : View sig κ sp ⟨3, ![1, n, c]⟩ e) (f : v.ty.Contents (Elt F)) (off : Fin 3 → ℕ) (b : ℕ) (inb)
    (h : off = ![0, b, 0]) (o : Fin 1) (j : Fin w) (l : Fin c) (hb : b + w ≤ n) :
    v.readAt (Elt F) (Rect.unit (s := ⟨3, ![1, n, c]⟩) off ![1, w, c] inb).toLoadRect f (ix3 o j l)
      = v.read (Elt F) f (ix3 o ⟨b + j.val, by omega⟩ l) := by
  subst h
  exact congrArg (v.read (Elt F) f) (funext fun a => Fin.ext (by
    match a with
    | ⟨0, _⟩ => show 0 + 1 * o.val = o.val; omega
    | ⟨1, _⟩ => show b + 1 * j.val = b + j.val; omega
    | ⟨2, _⟩ => show 0 + 1 * l.val = l.val; omega))

theorem load_rows2 {n c w : ℕ} (v : View sig κ sp ⟨2, ![n, c]⟩ e) (f : v.ty.Contents (Elt F)) (off : Fin 2 → ℕ) (b : ℕ) (inb)
    (h : off = ![b, 0]) (j : Fin w) (l : Fin c) (hb : b + w ≤ n) :
    v.readAt (Elt F) (Rect.unit (s := ⟨2, ![n, c]⟩) off ![w, c] inb).toLoadRect f (ix2 j l)
      = v.read (Elt F) f (ix2 ⟨b + j.val, by omega⟩ l) := by
  subst h
  exact congrArg (v.read (Elt F) f) (funext fun a => Fin.ext (by
    match a with
    | ⟨0, _⟩ => show b + 1 * j.val = b + j.val; omega
    | ⟨1, _⟩ => show 0 + 1 * l.val = l.val; omega))

theorem load_stat {n c : ℕ} (v : View sig κ sp ⟨4, ![1, n, 1, c]⟩ e) (f : v.ty.Contents (Elt F)) (off : Fin 4 → ℕ) (b : ℕ) (inb)
    (h : off = ![0, b, 0, 0]) (o o' o'' : Fin 1) (l : Fin c) (hb : b < n) :
    v.readAt (Elt F) (Rect.unit (s := ⟨4, ![1, n, 1, c]⟩) off ![1, 1, 1, c] inb).toLoadRect f (ix4 o o' o'' l)
      = v.read (Elt F) f (ix4 o ⟨b, hb⟩ o'' l) := by
  subst h
  exact congrArg (v.read (Elt F) f) (funext fun a => Fin.ext (by
    match a with
    | ⟨0, _⟩ => show 0 + 1 * o.val = o.val; omega
    | ⟨1, _⟩ => show b + 1 * o'.val = b; omega
    | ⟨2, _⟩ => show 0 + 1 * o''.val = o''.val; omega
    | ⟨3, _⟩ => show 0 + 1 * l.val = l.val; omega))

end Loads

end Cert.AttnIdeal.Tile
end
-- ==== Proof.AttnTrip1.lean ====
/- One trip of the loop over blocks of query rows that is taken on the diagonal: one block of query rows continue the running sums. -/
module

public import proofs.«01_k».proof.Proof.AttnTile

@[expose] public section

set_option maxRecDepth 16384

noncomputable section

open Idealize.ShloMosaic Idealize.ShloMosaic.TcCoe Idealize.SL.Sem
open Idealize.ShloMosaic.Pipeline (Dat)
open scoped BigOperators

namespace Cert.AttnIdeal.Tile

open Cert.AttnIdeal Cert.AttnIdeal.Gen Cert.Reals

set_option maxHeartbeats 800000 in
/-- One trip of the loop continues the running sums by its tile. -/
theorem trip1 (t : Fin grid0.N) {H : Head} {n b : ℕ} (𝒱 : Variants) (c : Dev nD) (bd : Option 𝒱.V) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (arg1 : BitVec 32) (v0 : Vec Ideal S1x640x256 .bf16) (v2 : Vec Ideal S1x640x128 .bf16) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (k : Fin (k0_t1_loop (grid0.coords t)).trips) (acc : FVec Ideal S640x256 .f32 × FVec Ideal S640x128 .f32) (G : BufTy.Contents (Elt Ideal) arg8.view.ty) (L : List (View.Piece (Elt Ideal) S1x8320x256 .f32))
    (hR : Reads H X_arg2 X_arg5 X_arg6 X_arg7)
    (hk : ∀ (o : Fin 1) (a : Fin 640) (l : Fin 256), v0 (ix3 o a l) = ((H.K (640 * n + a.val) l : ℝ) : EReal))
    (hv : ∀ (o : Fin 1) (a : Fin 640) (e : Fin 128), v2 (ix3 o a e) = ((H.V (640 * n + a.val) e : ℝ) : EReal))
    (e1 : k0_off1 (grid0.coords t) k = ![0, 640 * b, 0]) (e2 : k0_off2 (grid0.coords t) k = ![640 * b, 0])
    (f0 : k0_off3 (grid0.coords t) k = ![0, b, 0, 0])
    (hb : b + 1 ≤ 13)
    (hn : n < 13) (hnb : n ≤ b) (hA : arg1 = BitVec.ofNat 32 n) (hB : Scf.iv arg1 1#32 k.val = BitVec.ofNat 32 b)
    (h : Inv H n b acc (arg8.view.read (Elt Ideal) (arg8.view.writes (Elt Ideal) G L))) :
    Inv H n (b + 1) (tripR_k0_t1 𝒱 c bd (grid0.coords t) arg2 harg2 arg3 harg3 arg4 harg4 arg5 harg5 arg6 harg6 arg7 harg7 arg8 harg8 arg9 harg9 arg10 harg10 arg1 v0 v2 X_arg2 X_arg5 X_arg6 X_arg7 k acc (arg8.view.writes (Elt Ideal) G L))
      (arg8.view.read (Elt Ideal) (arg8.view.writes (Elt Ideal) G (tripL_k0_t1 𝒱 c bd (grid0.coords t) arg2 harg2 arg3 harg3 arg4 harg4 arg5 harg5 arg6 harg6 arg7 harg7 arg8 harg8 arg9 harg9 arg10 harg10 arg1 v0 v2 X_arg2 X_arg5 X_arg6 X_arg7 k acc (arg8.view.writes (Elt Ideal) G L) ++ L))) := by
  have hq : ∀ (inb) (o : Fin 1) (j : Fin 640) (l : Fin 256), View.readAt (Elt Ideal) arg2.view (Rect.unit (s := S1x8320x256) (k0_off1 (grid0.coords t) k) ![1, 640, 256] inb).toLoadRect X_arg2 (ix3 o j l)
      = ((H.Q (640 * b + j.val) l : ℝ) : EReal) := fun _ o j l => (load_rows _ _ _ _ _ e1 o j l (by omega)).trans (hR.q _ _ _)
  have hd : ∀ (inb) (j : Fin 640) (l : Fin 128), View.readAt (Elt Ideal) arg5.view (Rect.unit (s := S8320x128) (k0_off2 (grid0.coords t) k) ![640, 128] inb).toLoadRect X_arg5 (ix2 j l)
      = ((H.D (640 * b + j.val) l : ℝ) : EReal) := fun _ j l => (load_rows2 _ _ _ _ _ e2 j l (by omega)).trans (hR.d _ _)
  have hx : ∀ (inb) (o : Fin 1) (j : Fin 640) (l : Fin 256), View.readAt (Elt Ideal) arg8.view (Rect.unit (s := S1x8320x256) (k0_off1 (grid0.coords t) k) ![1, 640, 256] inb).toLoadRect (arg8.view.writes (Elt Ideal) G L) (ix3 o j l)
      = arg8.view.read (Elt Ideal) (arg8.view.writes (Elt Ideal) G L) (ix3 o ⟨640 * b + j.val, by omega⟩ l) := fun _ o j l => load_rows _ _ _ _ _ e1 o j l (by omega)
  have hl0 : ∀ (inb) (o o' o'' : Fin 1) (l : Fin 640), View.readAt (Elt Ideal) arg6.view (Rect.unit (s := S1x13x1x640) (k0_off3 (grid0.coords t) k) ![1, 1, 1, 640] inb).toLoadRect X_arg6 (ix4 o o' o'' l)
      = ((H.lse (640 * b + l.val) : ℝ) : EReal) := fun _ o o' o'' l => (load_stat _ _ _ _ _ f0 o o' o'' l (by omega)).trans (hR.l _ _ _ _)
  have hs0 : ∀ (inb) (o o' o'' : Fin 1) (l : Fin 640), View.readAt (Elt Ideal) arg7.view (Rect.unit (s := S1x13x1x640) (k0_off3 (grid0.coords t) k) ![1, 1, 1, 640] inb).toLoadRect X_arg7 (ix4 o o' o'' l)
      = ((H.dl (640 * b + l.val) : ℝ) : EReal) := fun _ o o' o'' l => (load_stat _ _ _ _ _ f0 o o' o'' l (by omega)).trans (hR.s _ _ _ _)
  unfold tripR_k0_t1 tripL_k0_t1 trip_k0_t1
  dsimp only
  sl_unfold_run_names
  refine Inv.step (W := 640) h rfl hnb (fun a l => ?_) (fun a e => ?_) (fun o i l j hj => ?_) (fun o i l hi => ?_)
  · unfold_payloads
    pointwise [hk, hv, hq, hd, hx, hl0, hs0]
    simp only [H.weight_masked hA hB hn (by omega) (w := 640) (by decide), H.slope, Head.sum_mul_coe]
  · unfold_payloads
    pointwise [hk, hv, hq, hd, hx, hl0, hs0]
    simp only [H.weight_masked hA hB hn (by omega) (w := 640) (by decide), H.slope, Head.sum_mul_coe]
  · obtain rfl : o = 0 := Subsingleton.elim _ _
    rw [List.cons_append, List.nil_append]
    refine (View.read_writes_cons_unit_of_mem _ _ _ _ _ (ix3 (0 : Fin 1) i l) (ix3 (0 : Fin 1) j l) e1 fun a => ?_).trans ?_
    · match a with
      | ⟨0, _⟩ => rfl
      | ⟨1, _⟩ => exact hj
      | ⟨2, _⟩ => show l.val = 0 + l.val; omega
    rw [show i = ⟨640 * b + j.val, by omega⟩ from Fin.ext hj]
    unfold_payloads
    pointwise [hk, hv, hq, hd, hx, hl0, hs0]
    simp only [H.weight_masked hA hB hn (by omega) (w := 640) (by decide), H.slope, Head.sum_mul_coe]
  · rw [List.cons_append, List.nil_append]
    exact View.read_writes_cons_unit_of_not_mem _ _ _ _ _ (ix3 o i l) e1 (1 : Fin 3) hi

end Cert.AttnIdeal.Tile

end
-- ==== Proof.AttnTrip3.lean ====
/- One trip of the loop over blocks of query rows that is taken under the mask: three blocks of query rows continue the running sums. -/
module

public import proofs.«01_k».proof.Proof.AttnTile

@[expose] public section

set_option maxRecDepth 16384

noncomputable section

open Idealize.ShloMosaic Idealize.ShloMosaic.TcCoe Idealize.SL.Sem
open Idealize.ShloMosaic.Pipeline (Dat)
open scoped BigOperators

namespace Cert.AttnIdeal.Tile

open Cert.AttnIdeal Cert.AttnIdeal.Gen Cert.Reals

set_option maxHeartbeats 800000 in
/-- One trip of the loop continues the running sums by its tile. -/
theorem trip3 (t : Fin grid0.N) {H : Head} {n b : ℕ} (𝒱 : Variants) (c : Dev nD) (bd : Option 𝒱.V) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (arg1 : BitVec 32) (v1 : FVec Ideal S640x256 .bf16) (v3 : FVec Ideal S640x128 .bf16) (v16_0 : FVec Ideal S640x256 .f32) (v16_1 : FVec Ideal S640x128 .f32) (v19 : BitVec 32) (v20 : BitVec 32) (v21 : BitVec 32) (c3_i32 : BitVec 32) (v22 : BitVec 32) (v33 : BitVec 1) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (k : Fin (k0_t3_loop (grid0.coords t)).trips) (acc : FVec Ideal S640x256 .f32 × FVec Ideal S640x128 .f32) (G : BufTy.Contents (Elt Ideal) arg8.view.ty) (L : List (View.Piece (Elt Ideal) S1x8320x256 .f32))
    (hR : Reads H X_arg2 X_arg5 X_arg6 X_arg7)
    (hk : ∀ (a : Fin 640) (l : Fin 256), v1 (ix2 a l) = ((H.K (640 * n + a.val) l : ℝ) : EReal))
    (hv : ∀ (a : Fin 640) (e : Fin 128), v3 (ix2 a e) = ((H.V (640 * n + a.val) e : ℝ) : EReal))
    (e1 : k0_off7 (grid0.coords t) k = ![0, 640 * b, 0]) (e2 : k0_off8 (grid0.coords t) k = ![640 * b, 0])
    (f0 : k0_off9 (grid0.coords t) k 0#32 = ![0, b, 0, 0])
    (f1 : k0_off9 (grid0.coords t) k 1#32 = ![0, b + 1, 0, 0])
    (f2 : k0_off9 (grid0.coords t) k 2#32 = ![0, b + 2, 0, 0])
    (hb : b + 3 ≤ 13)
    (hn : n < 13) (hnb : n ≤ b) (hA : arg1 = BitVec.ofNat 32 n) (hB : Scalar.addi v20 (Scalar.muli 3#32 (Scf.iv 0#32 1#32 k.val)) = BitVec.ofNat 32 b)
    (h : Inv H n b acc (arg8.view.read (Elt Ideal) (arg8.view.writes (Elt Ideal) G L))) :
    Inv H n (b + 3) (tripR_k0_t3 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 X_arg2 X_arg5 X_arg6 X_arg7 k acc (arg8.view.writes (Elt Ideal) G L))
      (arg8.view.read (Elt Ideal) (arg8.view.writes (Elt Ideal) G (tripL_k0_t3 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 X_arg2 X_arg5 X_arg6 X_arg7 k acc (arg8.view.writes (Elt Ideal) G L) ++ L))) := by
  have hq : ∀ (inb) (o : Fin 1) (j : Fin 1920) (l : Fin 256), View.readAt (Elt Ideal) arg2.view (Rect.unit (s := S1x8320x256) (k0_off7 (grid0.coords t) k) ![1, 1920, 256] inb).toLoadRect X_arg2 (ix3 o j l)
      = ((H.Q (640 * b + j.val) l : ℝ) : EReal) := fun _ o j l => (load_rows _ _ _ _ _ e1 o j l (by omega)).trans (hR.q _ _ _)
  have hd : ∀ (inb) (j : Fin 1920) (l : Fin 128), View.readAt (Elt Ideal) arg5.view (Rect.unit (s := S8320x128) (k0_off8 (grid0.coords t) k) ![1920, 128] inb).toLoadRect X_arg5 (ix2 j l)
      = ((H.D (640 * b + j.val) l : ℝ) : EReal) := fun _ j l => (load_rows2 _ _ _ _ _ e2 j l (by omega)).trans (hR.d _ _)
  have hx : ∀ (inb) (o : Fin 1) (j : Fin 1920) (l : Fin 256), View.readAt (Elt Ideal) arg8.view (Rect.unit (s := S1x8320x256) (k0_off7 (grid0.coords t) k) ![1, 1920, 256] inb).toLoadRect (arg8.view.writes (Elt Ideal) G L) (ix3 o j l)
      = arg8.view.read (Elt Ideal) (arg8.view.writes (Elt Ideal) G L) (ix3 o ⟨640 * b + j.val, by omega⟩ l) := fun _ o j l => load_rows _ _ _ _ _ e1 o j l (by omega)
  have hl0 : ∀ (inb) (o o' o'' : Fin 1) (l : Fin 640), View.readAt (Elt Ideal) arg6.view (Rect.unit (s := S1x13x1x640) (k0_off9 (grid0.coords t) k 0#32) ![1, 1, 1, 640] inb).toLoadRect X_arg6 (ix4 o o' o'' l)
      = ((H.lse (640 * b + l.val) : ℝ) : EReal) := fun _ o o' o'' l => (load_stat _ _ _ _ _ f0 o o' o'' l (by omega)).trans (hR.l _ _ _ _)
  have hs0 : ∀ (inb) (o o' o'' : Fin 1) (l : Fin 640), View.readAt (Elt Ideal) arg7.view (Rect.unit (s := S1x13x1x640) (k0_off9 (grid0.coords t) k 0#32) ![1, 1, 1, 640] inb).toLoadRect X_arg7 (ix4 o o' o'' l)
      = ((H.dl (640 * b + l.val) : ℝ) : EReal) := fun _ o o' o'' l => (load_stat _ _ _ _ _ f0 o o' o'' l (by omega)).trans (hR.s _ _ _ _)
  have hl1 : ∀ (inb) (o o' o'' : Fin 1) (l : Fin 640), View.readAt (Elt Ideal) arg6.view (Rect.unit (s := S1x13x1x640) (k0_off9 (grid0.coords t) k 1#32) ![1, 1, 1, 640] inb).toLoadRect X_arg6 (ix4 o o' o'' l)
      = ((H.lse (640 * (b + 1) + l.val) : ℝ) : EReal) := fun _ o o' o'' l => (load_stat _ _ _ _ _ f1 o o' o'' l (by omega)).trans (hR.l _ _ _ _)
  have hs1 : ∀ (inb) (o o' o'' : Fin 1) (l : Fin 640), View.readAt (Elt Ideal) arg7.view (Rect.unit (s := S1x13x1x640) (k0_off9 (grid0.coords t) k 1#32) ![1, 1, 1, 640] inb).toLoadRect X_arg7 (ix4 o o' o'' l)
      = ((H.dl (640 * (b + 1) + l.val) : ℝ) : EReal) := fun _ o o' o'' l => (load_stat _ _ _ _ _ f1 o o' o'' l (by omega)).trans (hR.s _ _ _ _)
  have hl2 : ∀ (inb) (o o' o'' : Fin 1) (l : Fin 640), View.readAt (Elt Ideal) arg6.view (Rect.unit (s := S1x13x1x640) (k0_off9 (grid0.coords t) k 2#32) ![1, 1, 1, 640] inb).toLoadRect X_arg6 (ix4 o o' o'' l)
      = ((H.lse (640 * (b + 2) + l.val) : ℝ) : EReal) := fun _ o o' o'' l => (load_stat _ _ _ _ _ f2 o o' o'' l (by omega)).trans (hR.l _ _ _ _)
  have hs2 : ∀ (inb) (o o' o'' : Fin 1) (l : Fin 640), View.readAt (Elt Ideal) arg7.view (Rect.unit (s := S1x13x1x640) (k0_off9 (grid0.coords t) k 2#32) ![1, 1, 1, 640] inb).toLoadRect X_arg7 (ix4 o o' o'' l)
      = ((H.dl (640 * (b + 2) + l.val) : ℝ) : EReal) := fun _ o o' o'' l => (load_stat _ _ _ _ _ f2 o o' o'' l (by omega)).trans (hR.s _ _ _ _)
  unfold tripR_k0_t3 tripL_k0_t3 trip_k0_t3
  dsimp only
  sl_unfold_run_names
  refine Inv.step (W := 1920) h rfl hnb (fun a l => ?_) (fun a e => ?_) (fun o i l j hj => ?_) (fun o i l hi => ?_)
  · unfold_payloads
    pointwise [hk, hv, hq, hd, hx, hl0, hl1, hl2, hs0, hs1, hs2]
    simp only [side3 H.lse, side3 H.dl, H.weight_masked hA hB hn (by omega) (w := 1920) (by decide), H.slope, Head.sum_mul_coe]
  · unfold_payloads
    pointwise [hk, hv, hq, hd, hx, hl0, hl1, hl2, hs0, hs1, hs2]
    simp only [side3 H.lse, side3 H.dl, H.weight_masked hA hB hn (by omega) (w := 1920) (by decide), H.slope, Head.sum_mul_coe]
  · obtain rfl : o = 0 := Subsingleton.elim _ _
    rw [List.cons_append, List.nil_append]
    refine (View.read_writes_cons_unit_of_mem _ _ _ _ _ (ix3 (0 : Fin 1) i l) (ix3 (0 : Fin 1) j l) e1 fun a => ?_).trans ?_
    · match a with
      | ⟨0, _⟩ => rfl
      | ⟨1, _⟩ => exact hj
      | ⟨2, _⟩ => show l.val = 0 + l.val; omega
    rw [show i = ⟨640 * b + j.val, by omega⟩ from Fin.ext hj]
    unfold_payloads
    pointwise [hk, hv, hq, hd, hx, hl0, hl1, hl2, hs0, hs1, hs2]
    simp only [side3 H.lse, side3 H.dl, H.weight_masked hA hB hn (by omega) (w := 1920) (by decide), H.slope, Head.sum_mul_coe]
  · rw [List.cons_append, List.nil_append]
    exact View.read_writes_cons_unit_of_not_mem _ _ _ _ _ (ix3 o i l) e1 (1 : Fin 3) hi

end Cert.AttnIdeal.Tile

end
-- ==== Proof.AttnTrip9.lean ====
/- One trip of the loop over blocks of query rows that is taken below the diagonal, three blocks at a time: three blocks of query rows continue the running sums. -/
module

public import proofs.«01_k».proof.Proof.AttnTile

@[expose] public section

set_option maxRecDepth 16384

noncomputable section

open Idealize.ShloMosaic Idealize.ShloMosaic.TcCoe Idealize.SL.Sem
open Idealize.ShloMosaic.Pipeline (Dat)
open scoped BigOperators

namespace Cert.AttnIdeal.Tile

open Cert.AttnIdeal Cert.AttnIdeal.Gen Cert.Reals

set_option maxHeartbeats 800000 in
/-- One trip of the loop continues the running sums by its tile. -/
theorem trip9 (t : Fin grid0.N) {H : Head} {n b : ℕ} (𝒱 : Variants) (c : Dev nD) (bd : Option 𝒱.V) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (v1 : FVec Ideal S640x256 .bf16) (v3 : FVec Ideal S640x128 .bf16) (v19 : BitVec 32) (v99_0 : FVec Ideal S640x256 .f32) (v99_1 : FVec Ideal S640x128 .f32) (v101 : BitVec 32) (v115 : BitVec 1) (c1_i32_53 : BitVec 32) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (k : Fin (k0_t9_loop (grid0.coords t)).trips) (acc : FVec Ideal S640x256 .f32 × FVec Ideal S640x128 .f32) (G : BufTy.Contents (Elt Ideal) arg8.view.ty) (L : List (View.Piece (Elt Ideal) S1x8320x256 .f32))
    (hR : Reads H X_arg2 X_arg5 X_arg6 X_arg7)
    (hk : ∀ (a : Fin 640) (l : Fin 256), v1 (ix2 a l) = ((H.K (640 * n + a.val) l : ℝ) : EReal))
    (hv : ∀ (a : Fin 640) (e : Fin 128), v3 (ix2 a e) = ((H.V (640 * n + a.val) e : ℝ) : EReal))
    (e1 : k0_off25 (grid0.coords t) k = ![0, 640 * b, 0]) (e2 : k0_off26 (grid0.coords t) k = ![640 * b, 0])
    (f0 : k0_off27 (grid0.coords t) k 0#32 = ![0, b, 0, 0])
    (f1 : k0_off27 (grid0.coords t) k 1#32 = ![0, b + 1, 0, 0])
    (f2 : k0_off27 (grid0.coords t) k 2#32 = ![0, b + 2, 0, 0])
    (hb : b + 3 ≤ 13)
    (hn : 0 < n) (hnb : n < b)
    (h : Inv H n b acc (arg8.view.read (Elt Ideal) (arg8.view.writes (Elt Ideal) G L))) :
    Inv H n (b + 3) (tripR_k0_t9 𝒱 c bd (grid0.coords t) arg2 harg2 arg3 harg3 arg4 harg4 arg5 harg5 arg6 harg6 arg7 harg7 arg8 harg8 arg9 harg9 arg10 harg10 v1 v3 v19 v99_0 v99_1 v101 v115 c1_i32_53 X_arg2 X_arg5 X_arg6 X_arg7 k acc (arg8.view.writes (Elt Ideal) G L))
      (arg8.view.read (Elt Ideal) (arg8.view.writes (Elt Ideal) G (tripL_k0_t9 𝒱 c bd (grid0.coords t) arg2 harg2 arg3 harg3 arg4 harg4 arg5 harg5 arg6 harg6 arg7 harg7 arg8 harg8 arg9 harg9 arg10 harg10 v1 v3 v19 v99_0 v99_1 v101 v115 c1_i32_53 X_arg2 X_arg5 X_arg6 X_arg7 k acc (arg8.view.writes (Elt Ideal) G L) ++ L))) := by
  have hq : ∀ (inb) (o : Fin 1) (j : Fin 1920) (l : Fin 256), View.readAt (Elt Ideal) arg2.view (Rect.unit (s := S1x8320x256) (k0_off25 (grid0.coords t) k) ![1, 1920, 256] inb).toLoadRect X_arg2 (ix3 o j l)
      = ((H.Q (640 * b + j.val) l : ℝ) : EReal) := fun _ o j l => (load_rows _ _ _ _ _ e1 o j l (by omega)).trans (hR.q _ _ _)
  have hd : ∀ (inb) (j : Fin 1920) (l : Fin 128), View.readAt (Elt Ideal) arg5.view (Rect.unit (s := S8320x128) (k0_off26 (grid0.coords t) k) ![1920, 128] inb).toLoadRect X_arg5 (ix2 j l)
      = ((H.D (640 * b + j.val) l : ℝ) : EReal) := fun _ j l => (load_rows2 _ _ _ _ _ e2 j l (by omega)).trans (hR.d _ _)
  have hx : ∀ (inb) (o : Fin 1) (j : Fin 1920) (l : Fin 256), View.readAt (Elt Ideal) arg8.view (Rect.unit (s := S1x8320x256) (k0_off25 (grid0.coords t) k) ![1, 1920, 256] inb).toLoadRect (arg8.view.writes (Elt Ideal) G L) (ix3 o j l)
      = arg8.view.read (Elt Ideal) (arg8.view.writes (Elt Ideal) G L) (ix3 o ⟨640 * b + j.val, by omega⟩ l) := fun _ o j l => load_rows _ _ _ _ _ e1 o j l (by omega)
  have hl0 : ∀ (inb) (o o' o'' : Fin 1) (l : Fin 640), View.readAt (Elt Ideal) arg6.view (Rect.unit (s := S1x13x1x640) (k0_off27 (grid0.coords t) k 0#32) ![1, 1, 1, 640] inb).toLoadRect X_arg6 (ix4 o o' o'' l)
      = ((H.lse (640 * b + l.val) : ℝ) : EReal) := fun _ o o' o'' l => (load_stat _ _ _ _ _ f0 o o' o'' l (by omega)).trans (hR.l _ _ _ _)
  have hs0 : ∀ (inb) (o o' o'' : Fin 1) (l : Fin 640), View.readAt (Elt Ideal) arg7.view (Rect.unit (s := S1x13x1x640) (k0_off27 (grid0.coords t) k 0#32) ![1, 1, 1, 640] inb).toLoadRect X_arg7 (ix4 o o' o'' l)
      = ((H.dl (640 * b + l.val) : ℝ) : EReal) := fun _ o o' o'' l => (load_stat _ _ _ _ _ f0 o o' o'' l (by omega)).trans (hR.s _ _ _ _)
  have hl1 : ∀ (inb) (o o' o'' : Fin 1) (l : Fin 640), View.readAt (Elt Ideal) arg6.view (Rect.unit (s := S1x13x1x640) (k0_off27 (grid0.coords t) k 1#32) ![1, 1, 1, 640] inb).toLoadRect X_arg6 (ix4 o o' o'' l)
      = ((H.lse (640 * (b + 1) + l.val) : ℝ) : EReal) := fun _ o o' o'' l => (load_stat _ _ _ _ _ f1 o o' o'' l (by omega)).trans (hR.l _ _ _ _)
  have hs1 : ∀ (inb) (o o' o'' : Fin 1) (l : Fin 640), View.readAt (Elt Ideal) arg7.view (Rect.unit (s := S1x13x1x640) (k0_off27 (grid0.coords t) k 1#32) ![1, 1, 1, 640] inb).toLoadRect X_arg7 (ix4 o o' o'' l)
      = ((H.dl (640 * (b + 1) + l.val) : ℝ) : EReal) := fun _ o o' o'' l => (load_stat _ _ _ _ _ f1 o o' o'' l (by omega)).trans (hR.s _ _ _ _)
  have hl2 : ∀ (inb) (o o' o'' : Fin 1) (l : Fin 640), View.readAt (Elt Ideal) arg6.view (Rect.unit (s := S1x13x1x640) (k0_off27 (grid0.coords t) k 2#32) ![1, 1, 1, 640] inb).toLoadRect X_arg6 (ix4 o o' o'' l)
      = ((H.lse (640 * (b + 2) + l.val) : ℝ) : EReal) := fun _ o o' o'' l => (load_stat _ _ _ _ _ f2 o o' o'' l (by omega)).trans (hR.l _ _ _ _)
  have hs2 : ∀ (inb) (o o' o'' : Fin 1) (l : Fin 640), View.readAt (Elt Ideal) arg7.view (Rect.unit (s := S1x13x1x640) (k0_off27 (grid0.coords t) k 2#32) ![1, 1, 1, 640] inb).toLoadRect X_arg7 (ix4 o o' o'' l)
      = ((H.dl (640 * (b + 2) + l.val) : ℝ) : EReal) := fun _ o o' o'' l => (load_stat _ _ _ _ _ f2 o o' o'' l (by omega)).trans (hR.s _ _ _ _)
  unfold tripR_k0_t9 tripL_k0_t9 trip_k0_t9
  dsimp only
  sl_unfold_run_names
  refine Inv.step (W := 1920) h rfl (le_of_lt hnb) (fun a l => ?_) (fun a e => ?_) (fun o i l j hj => ?_) (fun o i l hi => ?_)
  · unfold_payloads
    pointwise [hk, hv, hq, hd, hx, hl0, hl1, hl2, hs0, hs1, hs2]
    simp only [side3 H.lse, side3 H.dl, H.weight_plain hn hnb, H.slope, Head.sum_mul_coe]
  · unfold_payloads
    pointwise [hk, hv, hq, hd, hx, hl0, hl1, hl2, hs0, hs1, hs2]
    simp only [side3 H.lse, side3 H.dl, H.weight_plain hn hnb, H.slope, Head.sum_mul_coe]
  · obtain rfl : o = 0 := Subsingleton.elim _ _
    rw [List.cons_append, List.nil_append]
    refine (View.read_writes_cons_unit_of_mem _ _ _ _ _ (ix3 (0 : Fin 1) i l) (ix3 (0 : Fin 1) j l) e1 fun a => ?_).trans ?_
    · match a with
      | ⟨0, _⟩ => rfl
      | ⟨1, _⟩ => exact hj
      | ⟨2, _⟩ => show l.val = 0 + l.val; omega
    rw [show i = ⟨640 * b + j.val, by omega⟩ from Fin.ext hj]
    unfold_payloads
    pointwise [hk, hv, hq, hd, hx, hl0, hl1, hl2, hs0, hs1, hs2]
    simp only [side3 H.lse, side3 H.dl, H.weight_plain hn hnb, H.slope, Head.sum_mul_coe]
  · rw [List.cons_append, List.nil_append]
    exact View.read_writes_cons_unit_of_not_mem _ _ _ _ _ (ix3 o i l) e1 (1 : Fin 3) hi

end Cert.AttnIdeal.Tile

end
-- ==== Proof.AttnTrip11.lean ====
/- One trip of the loop over blocks of query rows that is taken below the diagonal, two blocks at a time: two blocks of query rows continue the running sums. -/
module

public import proofs.«01_k».proof.Proof.AttnTile

@[expose] public section

set_option maxRecDepth 16384

noncomputable section

open Idealize.ShloMosaic Idealize.ShloMosaic.TcCoe Idealize.SL.Sem
open Idealize.ShloMosaic.Pipeline (Dat)
open scoped BigOperators

namespace Cert.AttnIdeal.Tile

open Cert.AttnIdeal Cert.AttnIdeal.Gen Cert.Reals

set_option maxHeartbeats 800000 in
/-- One trip of the loop continues the running sums by its tile. -/
theorem trip11 (t : Fin grid0.N) {H : Head} {n b : ℕ} (𝒱 : Variants) (c : Dev nD) (bd : Option 𝒱.V) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (v1 : FVec Ideal S640x256 .bf16) (v3 : FVec Ideal S640x128 .bf16) (v19 : BitVec 32) (v99_0 : FVec Ideal S640x256 .f32) (v99_1 : FVec Ideal S640x128 .f32) (v101 : BitVec 32) (v115 : BitVec 1) (c1_i32_53 : BitVec 32) (v126 : BitVec 32) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (k : Fin (k0_t11_loop (grid0.coords t)).trips) (acc : FVec Ideal S640x256 .f32 × FVec Ideal S640x128 .f32) (G : BufTy.Contents (Elt Ideal) arg8.view.ty) (L : List (View.Piece (Elt Ideal) S1x8320x256 .f32))
    (hR : Reads H X_arg2 X_arg5 X_arg6 X_arg7)
    (hk : ∀ (a : Fin 640) (l : Fin 256), v1 (ix2 a l) = ((H.K (640 * n + a.val) l : ℝ) : EReal))
    (hv : ∀ (a : Fin 640) (e : Fin 128), v3 (ix2 a e) = ((H.V (640 * n + a.val) e : ℝ) : EReal))
    (e1 : k0_off31 (grid0.coords t) k = ![0, 640 * b, 0]) (e2 : k0_off32 (grid0.coords t) k = ![640 * b, 0])
    (f0 : k0_off33 (grid0.coords t) k 0#32 = ![0, b, 0, 0])
    (f1 : k0_off33 (grid0.coords t) k 1#32 = ![0, b + 1, 0, 0])
    (hb : b + 2 ≤ 13)
    (hn : 0 < n) (hnb : n < b)
    (h : Inv H n b acc (arg8.view.read (Elt Ideal) (arg8.view.writes (Elt Ideal) G L))) :
    Inv H n (b + 2) (tripR_k0_t11 𝒱 c bd (grid0.coords t) arg2 harg2 arg3 harg3 arg4 harg4 arg5 harg5 arg6 harg6 arg7 harg7 arg8 harg8 arg9 harg9 arg10 harg10 v1 v3 v19 v99_0 v99_1 v101 v115 c1_i32_53 v126 X_arg2 X_arg5 X_arg6 X_arg7 k acc (arg8.view.writes (Elt Ideal) G L))
      (arg8.view.read (Elt Ideal) (arg8.view.writes (Elt Ideal) G (tripL_k0_t11 𝒱 c bd (grid0.coords t) arg2 harg2 arg3 harg3 arg4 harg4 arg5 harg5 arg6 harg6 arg7 harg7 arg8 harg8 arg9 harg9 arg10 harg10 v1 v3 v19 v99_0 v99_1 v101 v115 c1_i32_53 v126 X_arg2 X_arg5 X_arg6 X_arg7 k acc (arg8.view.writes (Elt Ideal) G L) ++ L))) := by
  have hq : ∀ (inb) (o : Fin 1) (j : Fin 1280) (l : Fin 256), View.readAt (Elt Ideal) arg2.view (Rect.unit (s := S1x8320x256) (k0_off31 (grid0.coords t) k) ![1, 1280, 256] inb).toLoadRect X_arg2 (ix3 o j l)
      = ((H.Q (640 * b + j.val) l : ℝ) : EReal) := fun _ o j l => (load_rows _ _ _ _ _ e1 o j l (by omega)).trans (hR.q _ _ _)
  have hd : ∀ (inb) (j : Fin 1280) (l : Fin 128), View.readAt (Elt Ideal) arg5.view (Rect.unit (s := S8320x128) (k0_off32 (grid0.coords t) k) ![1280, 128] inb).toLoadRect X_arg5 (ix2 j l)
      = ((H.D (640 * b + j.val) l : ℝ) : EReal) := fun _ j l => (load_rows2 _ _ _ _ _ e2 j l (by omega)).trans (hR.d _ _)
  have hx : ∀ (inb) (o : Fin 1) (j : Fin 1280) (l : Fin 256), View.readAt (Elt Ideal) arg8.view (Rect.unit (s := S1x8320x256) (k0_off31 (grid0.coords t) k) ![1, 1280, 256] inb).toLoadRect (arg8.view.writes (Elt Ideal) G L) (ix3 o j l)
      = arg8.view.read (Elt Ideal) (arg8.view.writes (Elt Ideal) G L) (ix3 o ⟨640 * b + j.val, by omega⟩ l) := fun _ o j l => load_rows _ _ _ _ _ e1 o j l (by omega)
  have hl0 : ∀ (inb) (o o' o'' : Fin 1) (l : Fin 640), View.readAt (Elt Ideal) arg6.view (Rect.unit (s := S1x13x1x640) (k0_off33 (grid0.coords t) k 0#32) ![1, 1, 1, 640] inb).toLoadRect X_arg6 (ix4 o o' o'' l)
      = ((H.lse (640 * b + l.val) : ℝ) : EReal) := fun _ o o' o'' l => (load_stat _ _ _ _ _ f0 o o' o'' l (by omega)).trans (hR.l _ _ _ _)
  have hs0 : ∀ (inb) (o o' o'' : Fin 1) (l : Fin 640), View.readAt (Elt Ideal) arg7.view (Rect.unit (s := S1x13x1x640) (k0_off33 (grid0.coords t) k 0#32) ![1, 1, 1, 640] inb).toLoadRect X_arg7 (ix4 o o' o'' l)
      = ((H.dl (640 * b + l.val) : ℝ) : EReal) := fun _ o o' o'' l => (load_stat _ _ _ _ _ f0 o o' o'' l (by omega)).trans (hR.s _ _ _ _)
  have hl1 : ∀ (inb) (o o' o'' : Fin 1) (l : Fin 640), View.readAt (Elt Ideal) arg6.view (Rect.unit (s := S1x13x1x640) (k0_off33 (grid0.coords t) k 1#32) ![1, 1, 1, 640] inb).toLoadRect X_arg6 (ix4 o o' o'' l)
      = ((H.lse (640 * (b + 1) + l.val) : ℝ) : EReal) := fun _ o o' o'' l => (load_stat _ _ _ _ _ f1 o o' o'' l (by omega)).trans (hR.l _ _ _ _)
  have hs1 : ∀ (inb) (o o' o'' : Fin 1) (l : Fin 640), View.readAt (Elt Ideal) arg7.view (Rect.unit (s := S1x13x1x640) (k0_off33 (grid0.coords t) k 1#32) ![1, 1, 1, 640] inb).toLoadRect X_arg7 (ix4 o o' o'' l)
      = ((H.dl (640 * (b + 1) + l.val) : ℝ) : EReal) := fun _ o o' o'' l => (load_stat _ _ _ _ _ f1 o o' o'' l (by omega)).trans (hR.s _ _ _ _)
  unfold tripR_k0_t11 tripL_k0_t11 trip_k0_t11
  dsimp only
  sl_unfold_run_names
  refine Inv.step (W := 1280) h rfl (le_of_lt hnb) (fun a l => ?_) (fun a e => ?_) (fun o i l j hj => ?_) (fun o i l hi => ?_)
  · unfold_payloads
    pointwise [hk, hv, hq, hd, hx, hl0, hl1, hs0, hs1]
    simp only [second, H.weight_plain hn hnb, H.weight_plain hn (by omega : n < b + 1), H.slope, Head.sum_mul_coe]
    exact congrArg (_ + ·) (sum_two (fun i => H.dS (640 * n + a.val) i * H.Q i l) b)
  · unfold_payloads
    pointwise [hk, hv, hq, hd, hx, hl0, hl1, hs0, hs1]
    simp only [second, H.weight_plain hn hnb, H.weight_plain hn (by omega : n < b + 1), H.slope, Head.sum_mul_coe]
    exact congrArg (_ + ·) (sum_two (fun i => H.P (640 * n + a.val) i * H.D i e) b)
  · obtain rfl : o = 0 := Subsingleton.elim _ _
    rw [List.cons_append, List.nil_append]
    refine (View.read_writes_cons_unit_of_mem _ _ _ _ _ (ix3 (0 : Fin 1) i l) (ix3 (0 : Fin 1) j l) e1 fun a => ?_).trans ?_
    · match a with
      | ⟨0, _⟩ => rfl
      | ⟨1, _⟩ => exact hj
      | ⟨2, _⟩ => show l.val = 0 + l.val; omega
    rw [show i = ⟨640 * b + j.val, by omega⟩ from Fin.ext hj]
    unfold_payloads
    pointwise [hk, hv, hq, hd, hx, hl0, hl1, hs0, hs1]
    simp only [side2 H.lse, side2 H.dl, H.weight_plain hn hnb, H.slope, Head.sum_mul_coe]
  · rw [List.cons_append, List.nil_append]
    exact View.read_writes_cons_unit_of_not_mem _ _ _ _ _ (ix3 o i l) e1 (1 : Fin 3) hi

end Cert.AttnIdeal.Tile

end
-- ==== Proof.AttnTrip13.lean ====
/- One trip of the loop over blocks of query rows that is taken below the diagonal, one block at a time: one block of query rows continue the running sums. -/
module

public import proofs.«01_k».proof.Proof.AttnTile

@[expose] public section

set_option maxRecDepth 16384

noncomputable section

open Idealize.ShloMosaic Idealize.ShloMosaic.TcCoe Idealize.SL.Sem
open Idealize.ShloMosaic.Pipeline (Dat)
open scoped BigOperators

namespace Cert.AttnIdeal.Tile

open Cert.AttnIdeal Cert.AttnIdeal.Gen Cert.Reals

set_option maxHeartbeats 800000 in
/-- One trip of the loop continues the running sums by its tile. -/
theorem trip13 (t : Fin grid0.N) {H : Head} {n b : ℕ} (𝒱 : Variants) (c : Dev nD) (bd : Option 𝒱.V) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (v1 : FVec Ideal S640x256 .bf16) (v3 : FVec Ideal S640x128 .bf16) (v153 : BitVec 32) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (k : Fin (k0_t13_loop (grid0.coords t)).trips) (acc : FVec Ideal S640x256 .f32 × FVec Ideal S640x128 .f32) (G : BufTy.Contents (Elt Ideal) arg8.view.ty) (L : List (View.Piece (Elt Ideal) S1x8320x256 .f32))
    (hR : Reads H X_arg2 X_arg5 X_arg6 X_arg7)
    (hk : ∀ (a : Fin 640) (l : Fin 256), v1 (ix2 a l) = ((H.K (640 * n + a.val) l : ℝ) : EReal))
    (hv : ∀ (a : Fin 640) (e : Fin 128), v3 (ix2 a e) = ((H.V (640 * n + a.val) e : ℝ) : EReal))
    (e1 : k0_off37 (grid0.coords t) k = ![0, 640 * b, 0]) (e2 : k0_off38 (grid0.coords t) k = ![640 * b, 0])
    (f0 : k0_off39 (grid0.coords t) k = ![0, b, 0, 0])
    (hb : b + 1 ≤ 13)
    (hn : 0 < n) (hnb : n < b)
    (h : Inv H n b acc (arg8.view.read (Elt Ideal) (arg8.view.writes (Elt Ideal) G L))) :
    Inv H n (b + 1) (tripR_k0_t13 𝒱 c bd (grid0.coords t) arg2 harg2 arg3 harg3 arg4 harg4 arg5 harg5 arg6 harg6 arg7 harg7 arg8 harg8 arg9 harg9 arg10 harg10 v1 v3 v153 X_arg2 X_arg5 X_arg6 X_arg7 k acc (arg8.view.writes (Elt Ideal) G L))
      (arg8.view.read (Elt Ideal) (arg8.view.writes (Elt Ideal) G (tripL_k0_t13 𝒱 c bd (grid0.coords t) arg2 harg2 arg3 harg3 arg4 harg4 arg5 harg5 arg6 harg6 arg7 harg7 arg8 harg8 arg9 harg9 arg10 harg10 v1 v3 v153 X_arg2 X_arg5 X_arg6 X_arg7 k acc (arg8.view.writes (Elt Ideal) G L) ++ L))) := by
  have hq : ∀ (inb) (o : Fin 1) (j : Fin 640) (l : Fin 256), View.readAt (Elt Ideal) arg2.view (Rect.unit (s := S1x8320x256) (k0_off37 (grid0.coords t) k) ![1, 640, 256] inb).toLoadRect X_arg2 (ix3 o j l)
      = ((H.Q (640 * b + j.val) l : ℝ) : EReal) := fun _ o j l => (load_rows _ _ _ _ _ e1 o j l (by omega)).trans (hR.q _ _ _)
  have hd : ∀ (inb) (j : Fin 640) (l : Fin 128), View.readAt (Elt Ideal) arg5.view (Rect.unit (s := S8320x128) (k0_off38 (grid0.coords t) k) ![640, 128] inb).toLoadRect X_arg5 (ix2 j l)
      = ((H.D (640 * b + j.val) l : ℝ) : EReal) := fun _ j l => (load_rows2 _ _ _ _ _ e2 j l (by omega)).trans (hR.d _ _)
  have hx : ∀ (inb) (o : Fin 1) (j : Fin 640) (l : Fin 256), View.readAt (Elt Ideal) arg8.view (Rect.unit (s := S1x8320x256) (k0_off37 (grid0.coords t) k) ![1, 640, 256] inb).toLoadRect (arg8.view.writes (Elt Ideal) G L) (ix3 o j l)
      = arg8.view.read (Elt Ideal) (arg8.view.writes (Elt Ideal) G L) (ix3 o ⟨640 * b + j.val, by omega⟩ l) := fun _ o j l => load_rows _ _ _ _ _ e1 o j l (by omega)
  have hl0 : ∀ (inb) (o o' o'' : Fin 1) (l : Fin 640), View.readAt (Elt Ideal) arg6.view (Rect.unit (s := S1x13x1x640) (k0_off39 (grid0.coords t) k) ![1, 1, 1, 640] inb).toLoadRect X_arg6 (ix4 o o' o'' l)
      = ((H.lse (640 * b + l.val) : ℝ) : EReal) := fun _ o o' o'' l => (load_stat _ _ _ _ _ f0 o o' o'' l (by omega)).trans (hR.l _ _ _ _)
  have hs0 : ∀ (inb) (o o' o'' : Fin 1) (l : Fin 640), View.readAt (Elt Ideal) arg7.view (Rect.unit (s := S1x13x1x640) (k0_off39 (grid0.coords t) k) ![1, 1, 1, 640] inb).toLoadRect X_arg7 (ix4 o o' o'' l)
      = ((H.dl (640 * b + l.val) : ℝ) : EReal) := fun _ o o' o'' l => (load_stat _ _ _ _ _ f0 o o' o'' l (by omega)).trans (hR.s _ _ _ _)
  unfold tripR_k0_t13 tripL_k0_t13 trip_k0_t13
  dsimp only
  sl_unfold_run_names
  refine Inv.step (W := 640) h rfl (le_of_lt hnb) (fun a l => ?_) (fun a e => ?_) (fun o i l j hj => ?_) (fun o i l hi => ?_)
  · unfold_payloads
    pointwise [hk, hv, hq, hd, hx, hl0, hs0]
    simp only [H.weight_plain hn hnb, H.slope, Head.sum_mul_coe]
  · unfold_payloads
    pointwise [hk, hv, hq, hd, hx, hl0, hs0]
    simp only [H.weight_plain hn hnb, H.slope, Head.sum_mul_coe]
  · obtain rfl : o = 0 := Subsingleton.elim _ _
    rw [List.cons_append, List.nil_append]
    refine (View.read_writes_cons_unit_of_mem _ _ _ _ _ (ix3 (0 : Fin 1) i l) (ix3 (0 : Fin 1) j l) e1 fun a => ?_).trans ?_
    · match a with
      | ⟨0, _⟩ => rfl
      | ⟨1, _⟩ => exact hj
      | ⟨2, _⟩ => show l.val = 0 + l.val; omega
    rw [show i = ⟨640 * b + j.val, by omega⟩ from Fin.ext hj]
    unfold_payloads
    pointwise [hk, hv, hq, hd, hx, hl0, hs0]
    simp only [H.weight_plain hn hnb, H.slope, Head.sum_mul_coe]
  · rw [List.cons_append, List.nil_append]
    exact View.read_writes_cons_unit_of_not_mem _ _ _ _ _ (ix3 o i l) e1 (1 : Fin 3) hi

end Cert.AttnIdeal.Tile

end
-- ==== Proof.AttnLoops.lean ====
/- The loops over blocks of query rows: how far each goes, and that each continues the running sums. -/
module

public import proofs.«01_k».proof.Proof.AttnTrip1
public import proofs.«01_k».proof.Proof.AttnTrip3
public import proofs.«01_k».proof.Proof.AttnTrip9
public import proofs.«01_k».proof.Proof.AttnTrip11
public import proofs.«01_k».proof.Proof.AttnTrip13

@[expose] public section

set_option maxRecDepth 16384

noncomputable section

open Idealize.ShloMosaic Idealize.ShloMosaic.TcCoe Idealize.SL.Sem
open Idealize.ShloMosaic.Pipeline (Dat)

namespace Cert.AttnIdeal.Tile

open Cert.AttnIdeal Cert.AttnIdeal.Gen Cert.Reals

/-- The number of trips of the loops that are taken. -/
abbrev trips3 (t : Fin grid0.N) : ℕ := (k0_t3_loop (grid0.coords t)).trips
abbrev trips9 (t : Fin grid0.N) : ℕ := (k0_t9_loop (grid0.coords t)).trips
abbrev trips11 (t : Fin grid0.N) : ℕ := (k0_t11_loop (grid0.coords t)).trips
abbrev trips13 (t : Fin grid0.N) : ℕ := (k0_t13_loop (grid0.coords t)).trips

/-- The block of keys of a grid point, and the block of queries at which each loop starts. -/
abbrev kj (t : Fin grid0.N) : ℕ := (grid0.coords t 1).val
abbrev start3 (t : Fin grid0.N) : ℕ := kj t + 1
abbrev start9 (t : Fin grid0.N) : ℕ := start3 t + 3 * trips3 t
abbrev start11 (t : Fin grid0.N) : ℕ := start9 t + 3 * trips9 t
abbrev start13 (t : Fin grid0.N) : ℕ := start11 t + 2 * trips11 t

theorem kj_lt (t : Fin grid0.N) : kj t < 13 := (grid0.coords t 1).isLt

theorem trips1_eq : ∀ t : Fin grid0.N, (k0_t1_loop (grid0.coords t)).trips = 1 := by decide +kernel

/-- Together the loops reach the last block of queries. -/
theorem loops_end : ∀ t : Fin grid0.N, start13 t + trips13 t = 13 := by decide +kernel

theorem trips2_eq : ∀ t : Fin grid0.N, (k0_t2_loop (grid0.coords t)).trips = 0 := by decide +kernel
theorem trips4_eq : ∀ t : Fin grid0.N, (k0_t4_loop (grid0.coords t)).trips = 0 := by decide +kernel
theorem trips5_eq : ∀ t : Fin grid0.N, (k0_t5_loop (grid0.coords t)).trips = 0 := by decide +kernel
theorem trips6_eq : ∀ t : Fin grid0.N, (k0_t6_loop (grid0.coords t)).trips = 0 := by decide +kernel
theorem trips7_eq : ∀ t : Fin grid0.N, (k0_t7_loop (grid0.coords t)).trips = 0 := by decide +kernel
theorem trips8_eq : ∀ t : Fin grid0.N, (k0_t8_loop (grid0.coords t)).trips = 0 := by decide +kernel
theorem trips10_eq : ∀ t : Fin grid0.N, (k0_t10_loop (grid0.coords t)).trips = 0 := by decide +kernel
theorem trips12_eq : ∀ t : Fin grid0.N, (k0_t12_loop (grid0.coords t)).trips = 0 := by decide +kernel
theorem trips14_eq : ∀ t : Fin grid0.N, (k0_t14_loop (grid0.coords t)).trips = 0 := by decide +kernel

/-- Where a trip of loop 1 reads and writes. -/
theorem offs1 : ∀ t : Fin grid0.N, ∀ k : Fin (k0_t1_loop (grid0.coords t)).trips,
    k0_off1 (grid0.coords t) k = ![0, 640 * (kj t + k.val), 0] ∧
    k0_off2 (grid0.coords t) k = ![640 * (kj t + k.val), 0] ∧
    k0_off3 (grid0.coords t) k = ![0, (kj t + k.val), 0, 0] ∧
    (kj t + k.val) + 1 ≤ 13 ∧
    Scf.iv (BitVec.ofNat 32 (kj t)) 1#32 k.val = BitVec.ofNat 32 (kj t + k.val) := by decide +kernel

set_option maxHeartbeats 800000 in
/-- Loop 1 continues the running sums, trip by trip. -/
theorem loop1 (t : Fin grid0.N) {H : Head} (𝒱 : Variants) (c : Dev nD) (bd : Option 𝒱.V) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (arg1 : BitVec 32) (v0 : Vec Ideal S1x640x256 .bf16) (v2 : Vec Ideal S1x640x128 .bf16) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (G : BufTy.Contents (Elt Ideal) arg8.view.ty) (init : FVec Ideal S640x256 .f32 × FVec Ideal S640x128 .f32)
    (hR : Reads H X_arg2 X_arg5 X_arg6 X_arg7)
    (hk : ∀ (o : Fin 1) (a : Fin 640) (l : Fin 256), v0 (ix3 o a l) = ((H.K (640 * kj t + a.val) l : ℝ) : EReal))
    (hv : ∀ (o : Fin 1) (a : Fin 640) (e : Fin 128), v2 (ix3 o a e) = ((H.V (640 * kj t + a.val) e : ℝ) : EReal))
    (hA : arg1 = BitVec.ofNat 32 (kj t))
    (h : Inv H (kj t) (kj t) init (arg8.view.read (Elt Ideal) G)) :
    ∀ m : ℕ, m ≤ (k0_t1_loop (grid0.coords t)).trips →
      Inv H (kj t) (kj t + m) (st_k0_t1 𝒱 c bd (grid0.coords t) arg2 harg2 arg3 harg3 arg4 harg4 arg5 harg5 arg6 harg6 arg7 harg7 arg8 harg8 arg9 harg9 arg10 harg10 arg1 v0 v2 X_arg2 X_arg5 X_arg6 X_arg7 G init m).1
        (arg8.view.read (Elt Ideal) (arg8.view.writes (Elt Ideal) G (st_k0_t1 𝒱 c bd (grid0.coords t) arg2 harg2 arg3 harg3 arg4 harg4 arg5 harg5 arg6 harg6 arg7 harg7 arg8 harg8 arg9 harg9 arg10 harg10 arg1 v0 v2 X_arg2 X_arg5 X_arg6 X_arg7 G init m).2))
  | 0, _ => h
  | m + 1, hm => by
    have ih := loop1 t 𝒱 c bd arg2 harg2 arg3 harg3 arg4 harg4 arg5 harg5 arg6 harg6 arg7 harg7 arg8 harg8 arg9 harg9 arg10 harg10 arg1 v0 v2 X_arg2 X_arg5 X_arg6 X_arg7 G init hR hk hv hA h m (by omega)
    obtain ⟨e1, e2, f0, hb, hB'⟩ := offs1 t ⟨m, by omega⟩
    have step := trip1 t 𝒱 c bd arg2 harg2 arg3 harg3 arg4 harg4 arg5 harg5 arg6 harg6 arg7 harg7 arg8 harg8 arg9 harg9 arg10 harg10 arg1 v0 v2 X_arg2 X_arg5 X_arg6 X_arg7 ⟨m, by omega⟩ _ G _ hR hk hv e1 e2 f0 hb (kj_lt t) (by omega) hA (by rw [hA]; exact hB') ih
    rw [show kj t + (m + 1) = kj t + m + 1 by omega]
    rw [st_k0_t1_succ 𝒱 c bd (grid0.coords t) arg2 harg2 arg3 harg3 arg4 harg4 arg5 harg5 arg6 harg6 arg7 harg7 arg8 harg8 arg9 harg9 arg10 harg10 arg1 v0 v2 X_arg2 X_arg5 X_arg6 X_arg7 G init ⟨m, by omega⟩]
    exact step

/-- Where a trip of loop 3 reads and writes. -/
theorem offs3 : ∀ t : Fin grid0.N, ∀ k : Fin (k0_t3_loop (grid0.coords t)).trips,
    k0_off7 (grid0.coords t) k = ![0, 640 * (start3 t + 3 * k.val), 0] ∧
    k0_off8 (grid0.coords t) k = ![640 * (start3 t + 3 * k.val), 0] ∧
    k0_off9 (grid0.coords t) k 0#32 = ![0, (start3 t + 3 * k.val), 0, 0] ∧
    k0_off9 (grid0.coords t) k 1#32 = ![0, (start3 t + 3 * k.val) + 1, 0, 0] ∧
    k0_off9 (grid0.coords t) k 2#32 = ![0, (start3 t + 3 * k.val) + 2, 0, 0] ∧
    (start3 t + 3 * k.val) + 3 ≤ 13 ∧
    Scalar.addi (BitVec.ofNat 32 (start3 t)) (Scalar.muli 3#32 (Scf.iv 0#32 1#32 k.val)) = BitVec.ofNat 32 (start3 t + 3 * k.val) := by decide +kernel

set_option maxHeartbeats 800000 in
/-- Loop 3 continues the running sums, trip by trip. -/
theorem loop3 (t : Fin grid0.N) {H : Head} (𝒱 : Variants) (c : Dev nD) (bd : Option 𝒱.V) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (arg1 : BitVec 32) (v1 : FVec Ideal S640x256 .bf16) (v3 : FVec Ideal S640x128 .bf16) (v16_0 : FVec Ideal S640x256 .f32) (v16_1 : FVec Ideal S640x128 .f32) (v19 : BitVec 32) (v20 : BitVec 32) (v21 : BitVec 32) (c3_i32 : BitVec 32) (v22 : BitVec 32) (v33 : BitVec 1) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (G : BufTy.Contents (Elt Ideal) arg8.view.ty) (init : FVec Ideal S640x256 .f32 × FVec Ideal S640x128 .f32)
    (hR : Reads H X_arg2 X_arg5 X_arg6 X_arg7)
    (hk : ∀ (a : Fin 640) (l : Fin 256), v1 (ix2 a l) = ((H.K (640 * kj t + a.val) l : ℝ) : EReal))
    (hv : ∀ (a : Fin 640) (e : Fin 128), v3 (ix2 a e) = ((H.V (640 * kj t + a.val) e : ℝ) : EReal))
    (hA : arg1 = BitVec.ofNat 32 (kj t))
    (hB : v20 = BitVec.ofNat 32 (start3 t))
    (h : Inv H (kj t) (start3 t) init (arg8.view.read (Elt Ideal) G)) :
    ∀ m : ℕ, m ≤ (k0_t3_loop (grid0.coords t)).trips →
      Inv H (kj t) (start3 t + 3 * m) (st_k0_t3 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 X_arg2 X_arg5 X_arg6 X_arg7 G init m).1
        (arg8.view.read (Elt Ideal) (arg8.view.writes (Elt Ideal) G (st_k0_t3 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 X_arg2 X_arg5 X_arg6 X_arg7 G init m).2))
  | 0, _ => h
  | m + 1, hm => by
    have ih := loop3 t 𝒱 c bd arg2 harg2 arg3 harg3 arg4 harg4 arg5 harg5 arg6 harg6 arg7 harg7 arg8 harg8 arg9 harg9 arg10 harg10 arg1 v1 v3 v16_0 v16_1 v19 v20 v21 c3_i32 v22 v33 X_arg2 X_arg5 X_arg6 X_arg7 G init hR hk hv hA hB h m (by omega)
    obtain ⟨e1, e2, f0, f1, f2, hb, hB'⟩ := offs3 t ⟨m, by omega⟩
    have step := trip3 t 𝒱 c bd arg2 harg2 arg3 harg3 arg4 harg4 arg5 harg5 arg6 harg6 arg7 harg7 arg8 harg8 arg9 harg9 arg10 harg10 arg1 v1 v3 v16_0 v16_1 v19 v20 v21 c3_i32 v22 v33 X_arg2 X_arg5 X_arg6 X_arg7 ⟨m, by omega⟩ _ G _ hR hk hv e1 e2 f0 f1 f2 hb (kj_lt t) (by show kj t ≤ kj t + 1 + 3 * m; omega) hA (by rw [hB]; exact hB') ih
    rw [show start3 t + 3 * (m + 1) = start3 t + 3 * m + 3 by omega]
    rw [st_k0_t3_succ 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 X_arg2 X_arg5 X_arg6 X_arg7 G init ⟨m, by omega⟩]
    exact step

/-- Where a trip of loop 9 reads and writes. -/
theorem offs9 : ∀ t : Fin grid0.N, ∀ k : Fin (k0_t9_loop (grid0.coords t)).trips,
    k0_off25 (grid0.coords t) k = ![0, 640 * (start9 t + 3 * k.val), 0] ∧
    k0_off26 (grid0.coords t) k = ![640 * (start9 t + 3 * k.val), 0] ∧
    k0_off27 (grid0.coords t) k 0#32 = ![0, (start9 t + 3 * k.val), 0, 0] ∧
    k0_off27 (grid0.coords t) k 1#32 = ![0, (start9 t + 3 * k.val) + 1, 0, 0] ∧
    k0_off27 (grid0.coords t) k 2#32 = ![0, (start9 t + 3 * k.val) + 2, 0, 0] ∧
    (start9 t + 3 * k.val) + 3 ≤ 13 ∧
    0 < kj t ∧
    kj t < (start9 t + 3 * k.val) := by decide +kernel

set_option maxHeartbeats 800000 in
/-- Loop 9 continues the running sums, trip by trip. -/
theorem loop9 (t : Fin grid0.N) {H : Head} (𝒱 : Variants) (c : Dev nD) (bd : Option 𝒱.V) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (v1 : FVec Ideal S640x256 .bf16) (v3 : FVec Ideal S640x128 .bf16) (v19 : BitVec 32) (v99_0 : FVec Ideal S640x256 .f32) (v99_1 : FVec Ideal S640x128 .f32) (v101 : BitVec 32) (v115 : BitVec 1) (c1_i32_53 : BitVec 32) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (G : BufTy.Contents (Elt Ideal) arg8.view.ty) (init : FVec Ideal S640x256 .f32 × FVec Ideal S640x128 .f32)
    (hR : Reads H X_arg2 X_arg5 X_arg6 X_arg7)
    (hk : ∀ (a : Fin 640) (l : Fin 256), v1 (ix2 a l) = ((H.K (640 * kj t + a.val) l : ℝ) : EReal))
    (hv : ∀ (a : Fin 640) (e : Fin 128), v3 (ix2 a e) = ((H.V (640 * kj t + a.val) e : ℝ) : EReal))
    (h : Inv H (kj t) (start9 t) init (arg8.view.read (Elt Ideal) G)) :
    ∀ m : ℕ, m ≤ (k0_t9_loop (grid0.coords t)).trips →
      Inv H (kj t) (start9 t + 3 * m) (st_k0_t9 𝒱 c bd (grid0.coords t) arg2 harg2 arg3 harg3 arg4 harg4 arg5 harg5 arg6 harg6 arg7 harg7 arg8 harg8 arg9 harg9 arg10 harg10 v1 v3 v19 v99_0 v99_1 v101 v115 c1_i32_53 X_arg2 X_arg5 X_arg6 X_arg7 G init m).1
        (arg8.view.read (Elt Ideal) (arg8.view.writes (Elt Ideal) G (st_k0_t9 𝒱 c bd (grid0.coords t) arg2 harg2 arg3 harg3 arg4 harg4 arg5 harg5 arg6 harg6 arg7 harg7 arg8 harg8 arg9 harg9 arg10 harg10 v1 v3 v19 v99_0 v99_1 v101 v115 c1_i32_53 X_arg2 X_arg5 X_arg6 X_arg7 G init m).2))
  | 0, _ => h
  | m + 1, hm => by
    have ih := loop9 t 𝒱 c bd arg2 harg2 arg3 harg3 arg4 harg4 arg5 harg5 arg6 harg6 arg7 harg7 arg8 harg8 arg9 harg9 arg10 harg10 v1 v3 v19 v99_0 v99_1 v101 v115 c1_i32_53 X_arg2 X_arg5 X_arg6 X_arg7 G init hR hk hv h m (by omega)
    obtain ⟨e1, e2, f0, f1, f2, hb, hn, hnb⟩ := offs9 t ⟨m, by omega⟩
    have step := trip9 t 𝒱 c bd arg2 harg2 arg3 harg3 arg4 harg4 arg5 harg5 arg6 harg6 arg7 harg7 arg8 harg8 arg9 harg9 arg10 harg10 v1 v3 v19 v99_0 v99_1 v101 v115 c1_i32_53 X_arg2 X_arg5 X_arg6 X_arg7 ⟨m, by omega⟩ _ G _ hR hk hv e1 e2 f0 f1 f2 hb hn hnb ih
    rw [show start9 t + 3 * (m + 1) = start9 t + 3 * m + 3 by omega]
    rw [st_k0_t9_succ 𝒱 c bd (grid0.coords t) arg2 harg2 arg3 harg3 arg4 harg4 arg5 harg5 arg6 harg6 arg7 harg7 arg8 harg8 arg9 harg9 arg10 harg10 v1 v3 v19 v99_0 v99_1 v101 v115 c1_i32_53 X_arg2 X_arg5 X_arg6 X_arg7 G init ⟨m, by omega⟩]
    exact step

/-- Where a trip of loop 11 reads and writes. -/
theorem offs11 : ∀ t : Fin grid0.N, ∀ k : Fin (k0_t11_loop (grid0.coords t)).trips,
    k0_off31 (grid0.coords t) k = ![0, 640 * (start11 t + 2 * k.val), 0] ∧
    k0_off32 (grid0.coords t) k = ![640 * (start11 t + 2 * k.val), 0] ∧
    k0_off33 (grid0.coords t) k 0#32 = ![0, (start11 t + 2 * k.val), 0, 0] ∧
    k0_off33 (grid0.coords t) k 1#32 = ![0, (start11 t + 2 * k.val) + 1, 0, 0] ∧
    (start11 t + 2 * k.val) + 2 ≤ 13 ∧
    0 < kj t ∧
    kj t < (start11 t + 2 * k.val) := by decide +kernel

set_option maxHeartbeats 800000 in
/-- Loop 11 continues the running sums, trip by trip. -/
theorem loop11 (t : Fin grid0.N) {H : Head} (𝒱 : Variants) (c : Dev nD) (bd : Option 𝒱.V) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (v1 : FVec Ideal S640x256 .bf16) (v3 : FVec Ideal S640x128 .bf16) (v19 : BitVec 32) (v99_0 : FVec Ideal S640x256 .f32) (v99_1 : FVec Ideal S640x128 .f32) (v101 : BitVec 32) (v115 : BitVec 1) (c1_i32_53 : BitVec 32) (v126 : BitVec 32) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (G : BufTy.Contents (Elt Ideal) arg8.view.ty) (init : FVec Ideal S640x256 .f32 × FVec Ideal S640x128 .f32)
    (hR : Reads H X_arg2 X_arg5 X_arg6 X_arg7)
    (hk : ∀ (a : Fin 640) (l : Fin 256), v1 (ix2 a l) = ((H.K (640 * kj t + a.val) l : ℝ) : EReal))
    (hv : ∀ (a : Fin 640) (e : Fin 128), v3 (ix2 a e) = ((H.V (640 * kj t + a.val) e : ℝ) : EReal))
    (h : Inv H (kj t) (start11 t) init (arg8.view.read (Elt Ideal) G)) :
    ∀ m : ℕ, m ≤ (k0_t11_loop (grid0.coords t)).trips →
      Inv H (kj t) (start11 t + 2 * m) (st_k0_t11 𝒱 c bd (grid0.coords t) arg2 harg2 arg3 harg3 arg4 harg4 arg5 harg5 arg6 harg6 arg7 harg7 arg8 harg8 arg9 harg9 arg10 harg10 v1 v3 v19 v99_0 v99_1 v101 v115 c1_i32_53 v126 X_arg2 X_arg5 X_arg6 X_arg7 G init m).1
        (arg8.view.read (Elt Ideal) (arg8.view.writes (Elt Ideal) G (st_k0_t11 𝒱 c bd (grid0.coords t) arg2 harg2 arg3 harg3 arg4 harg4 arg5 harg5 arg6 harg6 arg7 harg7 arg8 harg8 arg9 harg9 arg10 harg10 v1 v3 v19 v99_0 v99_1 v101 v115 c1_i32_53 v126 X_arg2 X_arg5 X_arg6 X_arg7 G init m).2))
  | 0, _ => h
  | m + 1, hm => by
    have ih := loop11 t 𝒱 c bd arg2 harg2 arg3 harg3 arg4 harg4 arg5 harg5 arg6 harg6 arg7 harg7 arg8 harg8 arg9 harg9 arg10 harg10 v1 v3 v19 v99_0 v99_1 v101 v115 c1_i32_53 v126 X_arg2 X_arg5 X_arg6 X_arg7 G init hR hk hv h m (by omega)
    obtain ⟨e1, e2, f0, f1, hb, hn, hnb⟩ := offs11 t ⟨m, by omega⟩
    have step := trip11 t 𝒱 c bd arg2 harg2 arg3 harg3 arg4 harg4 arg5 harg5 arg6 harg6 arg7 harg7 arg8 harg8 arg9 harg9 arg10 harg10 v1 v3 v19 v99_0 v99_1 v101 v115 c1_i32_53 v126 X_arg2 X_arg5 X_arg6 X_arg7 ⟨m, by omega⟩ _ G _ hR hk hv e1 e2 f0 f1 hb hn hnb ih
    rw [show start11 t + 2 * (m + 1) = start11 t + 2 * m + 2 by omega]
    rw [st_k0_t11_succ 𝒱 c bd (grid0.coords t) arg2 harg2 arg3 harg3 arg4 harg4 arg5 harg5 arg6 harg6 arg7 harg7 arg8 harg8 arg9 harg9 arg10 harg10 v1 v3 v19 v99_0 v99_1 v101 v115 c1_i32_53 v126 X_arg2 X_arg5 X_arg6 X_arg7 G init ⟨m, by omega⟩]
    exact step

/-- Where a trip of loop 13 reads and writes. -/
theorem offs13 : ∀ t : Fin grid0.N, ∀ k : Fin (k0_t13_loop (grid0.coords t)).trips,
    k0_off37 (grid0.coords t) k = ![0, 640 * (start13 t + k.val), 0] ∧
    k0_off38 (grid0.coords t) k = ![640 * (start13 t + k.val), 0] ∧
    k0_off39 (grid0.coords t) k = ![0, (start13 t + k.val), 0, 0] ∧
    (start13 t + k.val) + 1 ≤ 13 ∧
    0 < kj t ∧
    kj t < (start13 t + k.val) := by decide +kernel

set_option maxHeartbeats 800000 in
/-- Loop 13 continues the running sums, trip by trip. -/
theorem loop13 (t : Fin grid0.N) {H : Head} (𝒱 : Variants) (c : Dev nD) (bd : Option 𝒱.V) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (v1 : FVec Ideal S640x256 .bf16) (v3 : FVec Ideal S640x128 .bf16) (v153 : BitVec 32) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty) (G : BufTy.Contents (Elt Ideal) arg8.view.ty) (init : FVec Ideal S640x256 .f32 × FVec Ideal S640x128 .f32)
    (hR : Reads H X_arg2 X_arg5 X_arg6 X_arg7)
    (hk : ∀ (a : Fin 640) (l : Fin 256), v1 (ix2 a l) = ((H.K (640 * kj t + a.val) l : ℝ) : EReal))
    (hv : ∀ (a : Fin 640) (e : Fin 128), v3 (ix2 a e) = ((H.V (640 * kj t + a.val) e : ℝ) : EReal))
    (h : Inv H (kj t) (start13 t) init (arg8.view.read (Elt Ideal) G)) :
    ∀ m : ℕ, m ≤ (k0_t13_loop (grid0.coords t)).trips →
      Inv H (kj t) (start13 t + m) (st_k0_t13 𝒱 c bd (grid0.coords t) arg2 harg2 arg3 harg3 arg4 harg4 arg5 harg5 arg6 harg6 arg7 harg7 arg8 harg8 arg9 harg9 arg10 harg10 v1 v3 v153 X_arg2 X_arg5 X_arg6 X_arg7 G init m).1
        (arg8.view.read (Elt Ideal) (arg8.view.writes (Elt Ideal) G (st_k0_t13 𝒱 c bd (grid0.coords t) arg2 harg2 arg3 harg3 arg4 harg4 arg5 harg5 arg6 harg6 arg7 harg7 arg8 harg8 arg9 harg9 arg10 harg10 v1 v3 v153 X_arg2 X_arg5 X_arg6 X_arg7 G init m).2))
  | 0, _ => h
  | m + 1, hm => by
    have ih := loop13 t 𝒱 c bd arg2 harg2 arg3 harg3 arg4 harg4 arg5 harg5 arg6 harg6 arg7 harg7 arg8 harg8 arg9 harg9 arg10 harg10 v1 v3 v153 X_arg2 X_arg5 X_arg6 X_arg7 G init hR hk hv h m (by omega)
    obtain ⟨e1, e2, f0, hb, hn, hnb⟩ := offs13 t ⟨m, by omega⟩
    have step := trip13 t 𝒱 c bd arg2 harg2 arg3 harg3 arg4 harg4 arg5 harg5 arg6 harg6 arg7 harg7 arg8 harg8 arg9 harg9 arg10 harg10 v1 v3 v153 X_arg2 X_arg5 X_arg6 X_arg7 ⟨m, by omega⟩ _ G _ hR hk hv e1 e2 f0 hb hn hnb ih
    rw [show start13 t + (m + 1) = start13 t + m + 1 by omega]
    rw [st_k0_t13_succ 𝒱 c bd (grid0.coords t) arg2 harg2 arg3 harg3 arg4 harg4 arg5 harg5 arg6 harg6 arg7 harg7 arg8 harg8 arg9 harg9 arg10 harg10 v1 v3 v153 X_arg2 X_arg5 X_arg6 X_arg7 G init ⟨m, by omega⟩]
    exact step

end Cert.AttnIdeal.Tile

end
-- ==== Proof.AttnNext.lean ====
/- Each loop as one step of the run of the body at a grid point. -/
module

public import proofs.«01_k».proof.Proof.AttnLoops

@[expose] public section

set_option maxRecDepth 16384

noncomputable section

open Idealize.ShloMosaic Idealize.ShloMosaic.TcCoe Idealize.SL.Sem
open Idealize.ShloMosaic.Pipeline (Dat)

namespace Cert.AttnIdeal.Tile

open Cert.AttnIdeal Cert.AttnIdeal.Gen Cert.Reals

/-- Loop 1. -/
theorem next1 (t : Fin grid0.N) {H : Head} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {arg1 : BitVec 32} {v0 : Vec Ideal S1x640x256 .bf16} {v2 : Vec Ideal S1x640x128 .bf16} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (hR : Reads H X_arg2 X_arg5 X_arg6 X_arg7)
    (hk : ∀ (o : Fin 1) (a : Fin 640) (l : Fin 256), v0 (ix3 o a l) = ((H.K (640 * kj t + a.val) l : ℝ) : EReal))
    (hv : ∀ (o : Fin 1) (a : Fin 640) (e : Fin 128), v2 (ix3 o a e) = ((H.V (640 * kj t + a.val) e : ℝ) : EReal))
    (hA : arg1 = BitVec.ofNat 32 (kj t))
    (h : Inv H (kj t) (kj t) init (arg8.view.read (Elt Ideal) (arg8.view.writes (Elt Ideal) G L))) :
    Inv H (kj t) (start3 t) (st_k0_t1 𝒱 c bd (grid0.coords t) arg2 harg2 arg3 harg3 arg4 harg4 arg5 harg5 arg6 harg6 arg7 harg7 arg8 harg8 arg9 harg9 arg10 harg10 arg1 v0 v2 X_arg2 X_arg5 X_arg6 X_arg7 (arg8.view.writes (Elt Ideal) G L) init (k0_t1_loop (grid0.coords t)).trips).1
        (arg8.view.read (Elt Ideal) (arg8.view.writes (Elt Ideal) G ((st_k0_t1 𝒱 c bd (grid0.coords t) arg2 harg2 arg3 harg3 arg4 harg4 arg5 harg5 arg6 harg6 arg7 harg7 arg8 harg8 arg9 harg9 arg10 harg10 arg1 v0 v2 X_arg2 X_arg5 X_arg6 X_arg7 (arg8.view.writes (Elt Ideal) G L) init (k0_t1_loop (grid0.coords t)).trips).2 ++ L))) := by
  have e := loop1 t 𝒱 c bd arg2 harg2 arg3 harg3 arg4 harg4 arg5 harg5 arg6 harg6 arg7 harg7 arg8 harg8 arg9 harg9 arg10 harg10 arg1 v0 v2 X_arg2 X_arg5 X_arg6 X_arg7 (arg8.view.writes (Elt Ideal) G L) init hR hk hv hA h _ le_rfl
  rw [View.writes_append]
  have ht : kj t + (k0_t1_loop (grid0.coords t)).trips = start3 t := congrArg (kj t + ·) (trips1_eq t)
  rw [ht] at e
  exact e

/-- Loop 2 is never taken. -/
theorem next2 (t : Fin grid0.N) {H : Head} {n b : ℕ} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {arg1 : BitVec 32} {v0 : Vec Ideal S1x640x256 .bf16} {v2 : Vec Ideal S1x640x128 .bf16} {v14 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (h : Inv H n b init (arg8.view.read (Elt Ideal) (arg8.view.writes (Elt Ideal) G L))) :
    Inv H (n) (b) (st_k0_t2 𝒱 c bd (grid0.coords t) arg2 harg2 arg3 harg3 arg4 harg4 arg5 harg5 arg6 harg6 arg7 harg7 arg8 harg8 arg9 harg9 arg10 harg10 arg1 v0 v2 v14 X_arg2 X_arg5 X_arg6 X_arg7 (arg8.view.writes (Elt Ideal) G L) init (k0_t2_loop (grid0.coords t)).trips).1
        (arg8.view.read (Elt Ideal) (arg8.view.writes (Elt Ideal) G ((st_k0_t2 𝒱 c bd (grid0.coords t) arg2 harg2 arg3 harg3 arg4 harg4 arg5 harg5 arg6 harg6 arg7 harg7 arg8 harg8 arg9 harg9 arg10 harg10 arg1 v0 v2 v14 X_arg2 X_arg5 X_arg6 X_arg7 (arg8.view.writes (Elt Ideal) G L) init (k0_t2_loop (grid0.coords t)).trips).2 ++ L))) := by
  rw [View.writes_append, trips2_eq t]
  exact h

/-- Loop 3. -/
theorem next3 (t : Fin grid0.N) {H : Head} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {arg1 : BitVec 32} {v1 : FVec Ideal S640x256 .bf16} {v3 : FVec Ideal S640x128 .bf16} {v16_0 : FVec Ideal S640x256 .f32} {v16_1 : FVec Ideal S640x128 .f32} {v19 : BitVec 32} {v20 : BitVec 32} {v21 : BitVec 32} {c3_i32 : BitVec 32} {v22 : BitVec 32} {v33 : BitVec 1} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (hR : Reads H X_arg2 X_arg5 X_arg6 X_arg7)
    (hk : ∀ (a : Fin 640) (l : Fin 256), v1 (ix2 a l) = ((H.K (640 * kj t + a.val) l : ℝ) : EReal))
    (hv : ∀ (a : Fin 640) (e : Fin 128), v3 (ix2 a e) = ((H.V (640 * kj t + a.val) e : ℝ) : EReal))
    (hA : arg1 = BitVec.ofNat 32 (kj t))
    (hB : v20 = BitVec.ofNat 32 (start3 t))
    (h : Inv H (kj t) (start3 t) init (arg8.view.read (Elt Ideal) (arg8.view.writes (Elt Ideal) G L))) :
    Inv H (kj t) (start9 t) (st_k0_t3 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 X_arg2 X_arg5 X_arg6 X_arg7 (arg8.view.writes (Elt Ideal) G L) init (k0_t3_loop (grid0.coords t)).trips).1
        (arg8.view.read (Elt Ideal) (arg8.view.writes (Elt Ideal) G ((st_k0_t3 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 X_arg2 X_arg5 X_arg6 X_arg7 (arg8.view.writes (Elt Ideal) G L) init (k0_t3_loop (grid0.coords t)).trips).2 ++ L))) := by
  have e := loop3 t 𝒱 c bd arg2 harg2 arg3 harg3 arg4 harg4 arg5 harg5 arg6 harg6 arg7 harg7 arg8 harg8 arg9 harg9 arg10 harg10 arg1 v1 v3 v16_0 v16_1 v19 v20 v21 c3_i32 v22 v33 X_arg2 X_arg5 X_arg6 X_arg7 (arg8.view.writes (Elt Ideal) G L) init hR hk hv hA hB h _ le_rfl
  rw [View.writes_append]
  exact e

/-- Loop 4 is never taken. -/
theorem next4 (t : Fin grid0.N) {H : Head} {n b : ℕ} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {arg1 : BitVec 32} {v1 : FVec Ideal S640x256 .bf16} {v3 : FVec Ideal S640x128 .bf16} {v16_0 : FVec Ideal S640x256 .f32} {v16_1 : FVec Ideal S640x128 .f32} {v19 : BitVec 32} {v20 : BitVec 32} {v21 : BitVec 32} {c3_i32 : BitVec 32} {v22 : BitVec 32} {v33 : BitVec 1} {v43 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (h : Inv H n b init (arg8.view.read (Elt Ideal) (arg8.view.writes (Elt Ideal) G L))) :
    Inv H (n) (b) (st_k0_t4 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 v43 X_arg2 X_arg5 X_arg6 X_arg7 (arg8.view.writes (Elt Ideal) G L) init (k0_t4_loop (grid0.coords t)).trips).1
        (arg8.view.read (Elt Ideal) (arg8.view.writes (Elt Ideal) G ((st_k0_t4 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 v43 X_arg2 X_arg5 X_arg6 X_arg7 (arg8.view.writes (Elt Ideal) G L) init (k0_t4_loop (grid0.coords t)).trips).2 ++ L))) := by
  rw [View.writes_append, trips4_eq t]
  exact h

/-- Loop 5 is never taken. -/
theorem next5 (t : Fin grid0.N) {H : Head} {n b : ℕ} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {arg1 : BitVec 32} {v1 : FVec Ideal S640x256 .bf16} {v3 : FVec Ideal S640x128 .bf16} {v16_0 : FVec Ideal S640x256 .f32} {v16_1 : FVec Ideal S640x128 .f32} {v19 : BitVec 32} {v20 : BitVec 32} {v21 : BitVec 32} {c3_i32 : BitVec 32} {v22 : BitVec 32} {v33 : BitVec 1} {v47 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (h : Inv H n b init (arg8.view.read (Elt Ideal) (arg8.view.writes (Elt Ideal) G L))) :
    Inv H (n) (b) (st_k0_t5 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 v47 X_arg2 X_arg5 X_arg6 X_arg7 (arg8.view.writes (Elt Ideal) G L) init (k0_t5_loop (grid0.coords t)).trips).1
        (arg8.view.read (Elt Ideal) (arg8.view.writes (Elt Ideal) G ((st_k0_t5 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 v47 X_arg2 X_arg5 X_arg6 X_arg7 (arg8.view.writes (Elt Ideal) G L) init (k0_t5_loop (grid0.coords t)).trips).2 ++ L))) := by
  rw [View.writes_append, trips5_eq t]
  exact h

/-- Loop 6 is never taken. -/
theorem next6 (t : Fin grid0.N) {H : Head} {n b : ℕ} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {arg1 : BitVec 32} {v1 : FVec Ideal S640x256 .bf16} {v3 : FVec Ideal S640x128 .bf16} {v16_0 : FVec Ideal S640x256 .f32} {v16_1 : FVec Ideal S640x128 .f32} {v19 : BitVec 32} {v20 : BitVec 32} {v21 : BitVec 32} {c3_i32 : BitVec 32} {v22 : BitVec 32} {v33 : BitVec 1} {v47 : BitVec 32} {v70 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (h : Inv H n b init (arg8.view.read (Elt Ideal) (arg8.view.writes (Elt Ideal) G L))) :
    Inv H (n) (b) (st_k0_t6 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 v47 v70 X_arg2 X_arg5 X_arg6 X_arg7 (arg8.view.writes (Elt Ideal) G L) init (k0_t6_loop (grid0.coords t)).trips).1
        (arg8.view.read (Elt Ideal) (arg8.view.writes (Elt Ideal) G ((st_k0_t6 𝒱 c bd (grid0.coords t) arg2 harg2 arg3 harg3 arg4 harg4 arg5 harg5 arg6 harg6 arg7 harg7 arg8 harg8 arg9 harg9 arg10 harg10 arg1 v1 v3 v16_0 v16_1 v19 v20 v21 c3_i32 v22 v33 v47 v70 X_arg2 X_arg5 X_arg6 X_arg7 (arg8.view.writes (Elt Ideal) G L) init (k0_t6_loop (grid0.coords t)).trips).2 ++ L))) := by
  rw [View.writes_append, trips6_eq t]
  exact h

/-- Loop 7 is never taken. -/
theorem next7 (t : Fin grid0.N) {H : Head} {n b : ℕ} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {arg1 : BitVec 32} {v1 : FVec Ideal S640x256 .bf16} {v3 : FVec Ideal S640x128 .bf16} {v19 : BitVec 32} {v72_0 : FVec Ideal S640x256 .f32} {v72_1 : FVec Ideal S640x128 .f32} {v74 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (h : Inv H n b init (arg8.view.read (Elt Ideal) (arg8.view.writes (Elt Ideal) G L))) :
    Inv H (n) (b) (st_k0_t7 𝒱 c bd (grid0.coords t) arg2 harg2 arg3 harg3 arg4 harg4 arg5 harg5 arg6 harg6 arg7 harg7 arg8 harg8 arg9 harg9 arg10 harg10 arg1 v1 v3 v19 v72_0 v72_1 v74 X_arg2 X_arg5 X_arg6 X_arg7 (arg8.view.writes (Elt Ideal) G L) init (k0_t7_loop (grid0.coords t)).trips).1
        (arg8.view.read (Elt Ideal) (arg8.view.writes (Elt Ideal) G ((st_k0_t7 𝒱 c bd (grid0.coords t) arg2 harg2 arg3 harg3 arg4 harg4 arg5 harg5 arg6 harg6 arg7 harg7 arg8 harg8 arg9 harg9 arg10 harg10 arg1 v1 v3 v19 v72_0 v72_1 v74 X_arg2 X_arg5 X_arg6 X_arg7 (arg8.view.writes (Elt Ideal) G L) init (k0_t7_loop (grid0.coords t)).trips).2 ++ L))) := by
  rw [View.writes_append, trips7_eq t]
  exact h

/-- Loop 8 is never taken. -/
theorem next8 (t : Fin grid0.N) {H : Head} {n b : ℕ} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {arg1 : BitVec 32} {v1 : FVec Ideal S640x256 .bf16} {v3 : FVec Ideal S640x128 .bf16} {v19 : BitVec 32} {v72_0 : FVec Ideal S640x256 .f32} {v72_1 : FVec Ideal S640x128 .f32} {v74 : BitVec 32} {v97 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (h : Inv H n b init (arg8.view.read (Elt Ideal) (arg8.view.writes (Elt Ideal) G L))) :
    Inv H (n) (b) (st_k0_t8 𝒱 c bd (grid0.coords t) arg2 harg2 arg3 harg3 arg4 harg4 arg5 harg5 arg6 harg6 arg7 harg7 arg8 harg8 arg9 harg9 arg10 harg10 arg1 v1 v3 v19 v72_0 v72_1 v74 v97 X_arg2 X_arg5 X_arg6 X_arg7 (arg8.view.writes (Elt Ideal) G L) init (k0_t8_loop (grid0.coords t)).trips).1
        (arg8.view.read (Elt Ideal) (arg8.view.writes (Elt Ideal) G ((st_k0_t8 𝒱 c bd (grid0.coords t) arg2 harg2 arg3 harg3 arg4 harg4 arg5 harg5 arg6 harg6 arg7 harg7 arg8 harg8 arg9 harg9 arg10 harg10 arg1 v1 v3 v19 v72_0 v72_1 v74 v97 X_arg2 X_arg5 X_arg6 X_arg7 (arg8.view.writes (Elt Ideal) G L) init (k0_t8_loop (grid0.coords t)).trips).2 ++ L))) := by
  rw [View.writes_append, trips8_eq t]
  exact h

/-- Loop 9. -/
theorem next9 (t : Fin grid0.N) {H : Head} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {v1 : FVec Ideal S640x256 .bf16} {v3 : FVec Ideal S640x128 .bf16} {v19 : BitVec 32} {v99_0 : FVec Ideal S640x256 .f32} {v99_1 : FVec Ideal S640x128 .f32} {v101 : BitVec 32} {v115 : BitVec 1} {c1_i32_53 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (hR : Reads H X_arg2 X_arg5 X_arg6 X_arg7)
    (hk : ∀ (a : Fin 640) (l : Fin 256), v1 (ix2 a l) = ((H.K (640 * kj t + a.val) l : ℝ) : EReal))
    (hv : ∀ (a : Fin 640) (e : Fin 128), v3 (ix2 a e) = ((H.V (640 * kj t + a.val) e : ℝ) : EReal))
    (h : Inv H (kj t) (start9 t) init (arg8.view.read (Elt Ideal) (arg8.view.writes (Elt Ideal) G L))) :
    Inv H (kj t) (start11 t) (st_k0_t9 𝒱 c bd (grid0.coords t) arg2 harg2 arg3 harg3 arg4 harg4 arg5 harg5 arg6 harg6 arg7 harg7 arg8 harg8 arg9 harg9 arg10 harg10 v1 v3 v19 v99_0 v99_1 v101 v115 c1_i32_53 X_arg2 X_arg5 X_arg6 X_arg7 (arg8.view.writes (Elt Ideal) G L) init (k0_t9_loop (grid0.coords t)).trips).1
        (arg8.view.read (Elt Ideal) (arg8.view.writes (Elt Ideal) G ((st_k0_t9 𝒱 c bd (grid0.coords t) arg2 harg2 arg3 harg3 arg4 harg4 arg5 harg5 arg6 harg6 arg7 harg7 arg8 harg8 arg9 harg9 arg10 harg10 v1 v3 v19 v99_0 v99_1 v101 v115 c1_i32_53 X_arg2 X_arg5 X_arg6 X_arg7 (arg8.view.writes (Elt Ideal) G L) init (k0_t9_loop (grid0.coords t)).trips).2 ++ L))) := by
  have e := loop9 t 𝒱 c bd arg2 harg2 arg3 harg3 arg4 harg4 arg5 harg5 arg6 harg6 arg7 harg7 arg8 harg8 arg9 harg9 arg10 harg10 v1 v3 v19 v99_0 v99_1 v101 v115 c1_i32_53 X_arg2 X_arg5 X_arg6 X_arg7 (arg8.view.writes (Elt Ideal) G L) init hR hk hv h _ le_rfl
  rw [View.writes_append]
  exact e

/-- Loop 10 is never taken. -/
theorem next10 (t : Fin grid0.N) {H : Head} {n b : ℕ} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {v1 : FVec Ideal S640x256 .bf16} {v3 : FVec Ideal S640x128 .bf16} {v19 : BitVec 32} {v99_0 : FVec Ideal S640x256 .f32} {v99_1 : FVec Ideal S640x128 .f32} {v101 : BitVec 32} {v115 : BitVec 1} {c1_i32_53 : BitVec 32} {v122 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (h : Inv H n b init (arg8.view.read (Elt Ideal) (arg8.view.writes (Elt Ideal) G L))) :
    Inv H (n) (b) (st_k0_t10 𝒱 c bd (grid0.coords t) arg2 harg2 arg3 harg3 arg4 harg4 arg5 harg5 arg6 harg6 arg7 harg7 arg8 harg8 arg9 harg9 arg10 harg10 v1 v3 v19 v99_0 v99_1 v101 v115 c1_i32_53 v122 X_arg2 X_arg5 X_arg6 X_arg7 (arg8.view.writes (Elt Ideal) G L) init (k0_t10_loop (grid0.coords t)).trips).1
        (arg8.view.read (Elt Ideal) (arg8.view.writes (Elt Ideal) G ((st_k0_t10 𝒱 c bd (grid0.coords t) arg2 harg2 arg3 harg3 arg4 harg4 arg5 harg5 arg6 harg6 arg7 harg7 arg8 harg8 arg9 harg9 arg10 harg10 v1 v3 v19 v99_0 v99_1 v101 v115 c1_i32_53 v122 X_arg2 X_arg5 X_arg6 X_arg7 (arg8.view.writes (Elt Ideal) G L) init (k0_t10_loop (grid0.coords t)).trips).2 ++ L))) := by
  rw [View.writes_append, trips10_eq t]
  exact h

/-- Loop 11. -/
theorem next11 (t : Fin grid0.N) {H : Head} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {v1 : FVec Ideal S640x256 .bf16} {v3 : FVec Ideal S640x128 .bf16} {v19 : BitVec 32} {v99_0 : FVec Ideal S640x256 .f32} {v99_1 : FVec Ideal S640x128 .f32} {v101 : BitVec 32} {v115 : BitVec 1} {c1_i32_53 : BitVec 32} {v126 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (hR : Reads H X_arg2 X_arg5 X_arg6 X_arg7)
    (hk : ∀ (a : Fin 640) (l : Fin 256), v1 (ix2 a l) = ((H.K (640 * kj t + a.val) l : ℝ) : EReal))
    (hv : ∀ (a : Fin 640) (e : Fin 128), v3 (ix2 a e) = ((H.V (640 * kj t + a.val) e : ℝ) : EReal))
    (h : Inv H (kj t) (start11 t) init (arg8.view.read (Elt Ideal) (arg8.view.writes (Elt Ideal) G L))) :
    Inv H (kj t) (start13 t) (st_k0_t11 𝒱 c bd (grid0.coords t) arg2 harg2 arg3 harg3 arg4 harg4 arg5 harg5 arg6 harg6 arg7 harg7 arg8 harg8 arg9 harg9 arg10 harg10 v1 v3 v19 v99_0 v99_1 v101 v115 c1_i32_53 v126 X_arg2 X_arg5 X_arg6 X_arg7 (arg8.view.writes (Elt Ideal) G L) init (k0_t11_loop (grid0.coords t)).trips).1
        (arg8.view.read (Elt Ideal) (arg8.view.writes (Elt Ideal) G ((st_k0_t11 𝒱 c bd (grid0.coords t) arg2 harg2 arg3 harg3 arg4 harg4 arg5 harg5 arg6 harg6 arg7 harg7 arg8 harg8 arg9 harg9 arg10 harg10 v1 v3 v19 v99_0 v99_1 v101 v115 c1_i32_53 v126 X_arg2 X_arg5 X_arg6 X_arg7 (arg8.view.writes (Elt Ideal) G L) init (k0_t11_loop (grid0.coords t)).trips).2 ++ L))) := by
  have e := loop11 t 𝒱 c bd arg2 harg2 arg3 harg3 arg4 harg4 arg5 harg5 arg6 harg6 arg7 harg7 arg8 harg8 arg9 harg9 arg10 harg10 v1 v3 v19 v99_0 v99_1 v101 v115 c1_i32_53 v126 X_arg2 X_arg5 X_arg6 X_arg7 (arg8.view.writes (Elt Ideal) G L) init hR hk hv h _ le_rfl
  rw [View.writes_append]
  exact e

/-- Loop 12 is never taken. -/
theorem next12 (t : Fin grid0.N) {H : Head} {n b : ℕ} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {v1 : FVec Ideal S640x256 .bf16} {v3 : FVec Ideal S640x128 .bf16} {v19 : BitVec 32} {v99_0 : FVec Ideal S640x256 .f32} {v99_1 : FVec Ideal S640x128 .f32} {v101 : BitVec 32} {v115 : BitVec 1} {c1_i32_53 : BitVec 32} {v126 : BitVec 32} {v149 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (h : Inv H n b init (arg8.view.read (Elt Ideal) (arg8.view.writes (Elt Ideal) G L))) :
    Inv H (n) (b) (st_k0_t12 𝒱 c bd (grid0.coords t) arg2 harg2 arg3 harg3 arg4 harg4 arg5 harg5 arg6 harg6 arg7 harg7 arg8 harg8 arg9 harg9 arg10 harg10 v1 v3 v19 v99_0 v99_1 v101 v115 c1_i32_53 v126 v149 X_arg2 X_arg5 X_arg6 X_arg7 (arg8.view.writes (Elt Ideal) G L) init (k0_t12_loop (grid0.coords t)).trips).1
        (arg8.view.read (Elt Ideal) (arg8.view.writes (Elt Ideal) G ((st_k0_t12 𝒱 c bd (grid0.coords t) arg2 harg2 arg3 harg3 arg4 harg4 arg5 harg5 arg6 harg6 arg7 harg7 arg8 harg8 arg9 harg9 arg10 harg10 v1 v3 v19 v99_0 v99_1 v101 v115 c1_i32_53 v126 v149 X_arg2 X_arg5 X_arg6 X_arg7 (arg8.view.writes (Elt Ideal) G L) init (k0_t12_loop (grid0.coords t)).trips).2 ++ L))) := by
  rw [View.writes_append, trips12_eq t]
  exact h

/-- Loop 13. -/
theorem next13 (t : Fin grid0.N) {H : Head} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {v1 : FVec Ideal S640x256 .bf16} {v3 : FVec Ideal S640x128 .bf16} {v153 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (hR : Reads H X_arg2 X_arg5 X_arg6 X_arg7)
    (hk : ∀ (a : Fin 640) (l : Fin 256), v1 (ix2 a l) = ((H.K (640 * kj t + a.val) l : ℝ) : EReal))
    (hv : ∀ (a : Fin 640) (e : Fin 128), v3 (ix2 a e) = ((H.V (640 * kj t + a.val) e : ℝ) : EReal))
    (h : Inv H (kj t) (start13 t) init (arg8.view.read (Elt Ideal) (arg8.view.writes (Elt Ideal) G L))) :
    Inv H (kj t) (13) (st_k0_t13 𝒱 c bd (grid0.coords t) arg2 harg2 arg3 harg3 arg4 harg4 arg5 harg5 arg6 harg6 arg7 harg7 arg8 harg8 arg9 harg9 arg10 harg10 v1 v3 v153 X_arg2 X_arg5 X_arg6 X_arg7 (arg8.view.writes (Elt Ideal) G L) init (k0_t13_loop (grid0.coords t)).trips).1
        (arg8.view.read (Elt Ideal) (arg8.view.writes (Elt Ideal) G ((st_k0_t13 𝒱 c bd (grid0.coords t) arg2 harg2 arg3 harg3 arg4 harg4 arg5 harg5 arg6 harg6 arg7 harg7 arg8 harg8 arg9 harg9 arg10 harg10 v1 v3 v153 X_arg2 X_arg5 X_arg6 X_arg7 (arg8.view.writes (Elt Ideal) G L) init (k0_t13_loop (grid0.coords t)).trips).2 ++ L))) := by
  have e := loop13 t 𝒱 c bd arg2 harg2 arg3 harg3 arg4 harg4 arg5 harg5 arg6 harg6 arg7 harg7 arg8 harg8 arg9 harg9 arg10 harg10 v1 v3 v153 X_arg2 X_arg5 X_arg6 X_arg7 (arg8.view.writes (Elt Ideal) G L) init hR hk hv h _ le_rfl
  rw [View.writes_append]
  have ht : start13 t + (k0_t13_loop (grid0.coords t)).trips = 13 := loops_end t
  rw [ht] at e
  exact e

/-- Loop 14 is never taken. -/
theorem next14 (t : Fin grid0.N) {H : Head} {n b : ℕ} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {v1 : FVec Ideal S640x256 .bf16} {v3 : FVec Ideal S640x128 .bf16} {v153 : BitVec 32} {v176 : BitVec 32} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {L : List (View.Piece (Elt Ideal) S1x8320x256 .f32)} {init : FVec Ideal S640x256 .f32 × FVec Ideal S640x128 .f32}
    (h : Inv H n b init (arg8.view.read (Elt Ideal) (arg8.view.writes (Elt Ideal) G L))) :
    Inv H (n) (b) (st_k0_t14 𝒱 c bd (grid0.coords t) arg2 harg2 arg3 harg3 arg4 harg4 arg5 harg5 arg6 harg6 arg7 harg7 arg8 harg8 arg9 harg9 arg10 harg10 v1 v3 v153 v176 X_arg2 X_arg5 X_arg6 X_arg7 (arg8.view.writes (Elt Ideal) G L) init (k0_t14_loop (grid0.coords t)).trips).1
        (arg8.view.read (Elt Ideal) (arg8.view.writes (Elt Ideal) G ((st_k0_t14 𝒱 c bd (grid0.coords t) arg2 harg2 arg3 harg3 arg4 harg4 arg5 harg5 arg6 harg6 arg7 harg7 arg8 harg8 arg9 harg9 arg10 harg10 v1 v3 v153 v176 X_arg2 X_arg5 X_arg6 X_arg7 (arg8.view.writes (Elt Ideal) G L) init (k0_t14_loop (grid0.coords t)).trips).2 ++ L))) := by
  rw [View.writes_append, trips14_eq t]
  exact h

/-- Loop 1 at a point that starts from what the point before it left. -/
theorem first1 (t : Fin grid0.N) {H : Head} {𝒱 : Variants} {c : Dev nD} {bd : Option 𝒱.V} {arg2 : Memref sig .tc .vmem S1x8320x256 .bf16} {harg2 : arg2.IsWhole} {arg3 : Memref sig .tc .vmem S1x640x256 .bf16} {harg3 : arg3.IsWhole} {arg4 : Memref sig .tc .vmem S1x640x128 .bf16} {harg4 : arg4.IsWhole} {arg5 : Memref sig .tc .vmem S8320x128 .f32} {harg5 : arg5.IsWhole} {arg6 : Memref sig .tc .vmem S1x13x1x640 .f32} {harg6 : arg6.IsWhole} {arg7 : Memref sig .tc .vmem S1x13x1x640 .f32} {harg7 : arg7.IsWhole} {arg8 : Memref sig .tc .vmem S1x8320x256 .f32} {harg8 : arg8.IsWhole} {arg9 : Memref sig .tc .vmem S1x640x256 .f32} {harg9 : arg9.IsWhole} {arg10 : Memref sig .tc .vmem S1x640x128 .f32} {harg10 : arg10.IsWhole} {arg1 : BitVec 32} {v0 : Vec Ideal S1x640x256 .bf16} {v2 : Vec Ideal S1x640x128 .bf16} {X_arg2 : BufTy.Contents (Elt Ideal) arg2.view.ty} {X_arg5 : BufTy.Contents (Elt Ideal) arg5.view.ty} {X_arg6 : BufTy.Contents (Elt Ideal) arg6.view.ty} {X_arg7 : BufTy.Contents (Elt Ideal) arg7.view.ty} {G : BufTy.Contents (Elt Ideal) arg8.view.ty} {init : FVec Ideal S640x256 .f32 × FVec Ideal S640x128 .f32}
    (hR : Reads H X_arg2 X_arg5 X_arg6 X_arg7)
    (hk : ∀ (o : Fin 1) (a : Fin 640) (l : Fin 256), v0 (ix3 o a l) = ((H.K (640 * kj t + a.val) l : ℝ) : EReal))
    (hv : ∀ (o : Fin 1) (a : Fin 640) (e : Fin 128), v2 (ix3 o a e) = ((H.V (640 * kj t + a.val) e : ℝ) : EReal))
    (hA : arg1 = BitVec.ofNat 32 (kj t))
    (h : Inv H (kj t) (kj t) init (arg8.view.read (Elt Ideal) G)) :
    Inv H (kj t) (start3 t) (st_k0_t1 𝒱 c bd (grid0.coords t) arg2 harg2 arg3 harg3 arg4 harg4 arg5 harg5 arg6 harg6 arg7 harg7 arg8 harg8 arg9 harg9 arg10 harg10 arg1 v0 v2 X_arg2 X_arg5 X_arg6 X_arg7 G init (k0_t1_loop (grid0.coords t)).trips).1 (arg8.view.read (Elt Ideal) (arg8.view.writes (Elt Ideal) G (st_k0_t1 𝒱 c bd (grid0.coords t) arg2 harg2 arg3 harg3 arg4 harg4 arg5 harg5 arg6 harg6 arg7 harg7 arg8 harg8 arg9 harg9 arg10 harg10 arg1 v0 v2 X_arg2 X_arg5 X_arg6 X_arg7 G init (k0_t1_loop (grid0.coords t)).trips).2)) := by
  have e := loop1 t 𝒱 c bd arg2 harg2 arg3 harg3 arg4 harg4 arg5 harg5 arg6 harg6 arg7 harg7 arg8 harg8 arg9 harg9 arg10 harg10 arg1 v0 v2 X_arg2 X_arg5 X_arg6 X_arg7 G init hR hk hv hA h _ le_rfl
  have ht : kj t + (k0_t1_loop (grid0.coords t)).trips = start3 t := congrArg (kj t + ·) (trips1_eq t)
  rw [ht] at e
  exact e

end Cert.AttnIdeal.Tile

end
-- ==== Proof.AttnRunA.lean ====
/- One grid point: the loops in order, from zero sums to the sums over all blocks of queries from the diagonal on. -/
module

public import proofs.«01_k».proof.Proof.AttnNext
public import proofs.«01_k».proof.Proof.Gen.AttnIdeal.Value

@[expose] public section

set_option maxRecDepth 16384

noncomputable section

open Idealize.ShloMosaic Idealize.ShloMosaic.TcCoe Idealize.SL.Sem
open Idealize.ShloMosaic.Pipeline (Dat)

namespace Cert.AttnIdeal.Tile

open Cert.AttnIdeal Cert.AttnIdeal.Gen Cert.Reals

/-- What the six input blocks of a grid point hold of a head. -/
structure Blocks (H : Head) (n : ℕ) (x0 : Vec Ideal S1x8320x256 .bf16) (x1 : Vec Ideal S1x640x256 .bf16) (x2 : Vec Ideal S1x640x128 .bf16)
    (x3 : Vec Ideal S8320x128 .f32) (x4 : Vec Ideal S1x13x1x640 .f32) (x5 : Vec Ideal S1x13x1x640 .f32) : Prop where
  q : ∀ (o : Fin 1) (r : Fin 8320) (c : Fin 256), x0 (ix3 o r c) = ((H.Q r.val c : ℝ) : EReal)
  k : ∀ (o : Fin 1) (a : Fin 640) (c : Fin 256), x1 (ix3 o a c) = ((H.K (640 * n + a.val) c : ℝ) : EReal)
  v : ∀ (o : Fin 1) (a : Fin 640) (e : Fin 128), x2 (ix3 o a e) = ((H.V (640 * n + a.val) e : ℝ) : EReal)
  d : ∀ (r : Fin 8320) (e : Fin 128), x3 (ix2 r e) = ((H.D r.val e : ℝ) : EReal)
  l : ∀ (o : Fin 1) (b : Fin 13) (o' : Fin 1) (j : Fin 640), x4 (ix4 o b o' j) = ((H.lse (640 * b.val + j.val) : ℝ) : EReal)
  s : ∀ (o : Fin 1) (b : Fin 13) (o' : Fin 1) (j : Fin 640), x5 (ix4 o b o' j) = ((H.dl (640 * b.val + j.val) : ℝ) : EReal)

theorem Blocks.reads {H : Head} {n : ℕ} {x0 : Vec Ideal S1x8320x256 .bf16} {x1 : Vec Ideal S1x640x256 .bf16} {x2 : Vec Ideal S1x640x128 .bf16}
    {x3 : Vec Ideal S8320x128 .f32} {x4 : Vec Ideal S1x13x1x640 .f32} {x5 : Vec Ideal S1x13x1x640 .f32} (hb : Blocks H n x0 x1 x2 x3 x4 x5)
    {arg2 : Memref sig .tc .vmem S1x8320x256 .bf16} (harg2 : arg2.IsWhole) {arg5 : Memref sig .tc .vmem S8320x128 .f32} (harg5 : arg5.IsWhole)
    {arg6 : Memref sig .tc .vmem S1x13x1x640 .f32} (harg6 : arg6.IsWhole) {arg7 : Memref sig .tc .vmem S1x13x1x640 .f32} (harg7 : arg7.IsWhole) :
    Reads H (harg2.unread x0) (harg5.unread x3) (harg6.unread x4) (harg7.unread x5) where
  q := by rw [harg2.read_unread]; exact hb.q
  d := by rw [harg5.read_unread]; exact hb.d
  l := by rw [harg6.read_unread]; exact hb.l
  s := by rw [harg7.read_unread]; exact hb.s

theorem start3_word : ∀ t : Fin grid0.N, Scalar.addi (BitVec.ofNat 32 (grid0.coords t 1).val) 1#32 = BitVec.ofNat 32 (start3 t) := by decide +kernel

theorem zero3 : (![0, 0, 0] : Fin 3 → ℕ) = fun _ => 0 := by decide

/-- The first kind of grid point is the first block of keys of a head. -/
theorem start_A : ∀ t : Fin grid0.N, cond0_0 (grid0.coords t) → kj t = 0 := by decide +kernel

attribute [local irreducible] st_k0_t1 st_k0_t2 st_k0_t3 st_k0_t4 st_k0_t5 st_k0_t6 st_k0_t7 st_k0_t8 st_k0_t9 st_k0_t10 st_k0_t11 st_k0_t12 st_k0_t13 st_k0_t14

set_option maxHeartbeats 1000000 in
theorem runA (t : Fin grid0.N) {H : Head} (c : Dev nD) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (hc0 : cond0_0 (grid0.coords t)) (x0 : Vec Ideal S1x8320x256 .bf16) (x1 : Vec Ideal S1x640x256 .bf16) (x2 : Vec Ideal S1x640x128 .bf16) (x3 : Vec Ideal S8320x128 .f32) (x4 : Vec Ideal S1x13x1x640 .f32) (x5 : Vec Ideal S1x13x1x640 .f32) (hb : Blocks H (kj t) x0 x1 x2 x3 x4 x5) :
    ∃ acc : FVec Ideal S640x256 .f32 × FVec Ideal S640x128 .f32, Inv H (kj t) 13 acc (out0_A_6 c (grid0.coords t) arg2 harg2 arg3 harg3 arg4 harg4 arg5 harg5 arg6 harg6 arg7 harg7 arg8 harg8 arg9 harg9 arg10 harg10 hc0 x0 x1 x2 x3 x4 x5)
      ∧ out0_A_7 c (grid0.coords t) arg2 harg2 arg3 harg3 arg4 harg4 arg5 harg5 arg6 harg6 arg7 harg7 arg8 harg8 arg9 harg9 arg10 harg10 hc0 x0 x1 x2 x3 x4 x5 = k0_pay3 acc.1
      ∧ out0_A_8 c (grid0.coords t) arg2 harg2 arg3 harg3 arg4 harg4 arg5 harg5 arg6 harg6 arg7 harg7 arg8 harg8 arg9 harg9 arg10 harg10 hc0 x0 x1 x2 x3 x4 x5 = k0_pay4 acc.2 := by
  have e6 : out0_A_6 c (grid0.coords t) arg2 harg2 arg3 harg3 arg4 harg4 arg5 harg5 arg6 harg6 arg7 harg7 arg8 harg8 arg9 harg9 arg10 harg10 hc0 x0 x1 x2 x3 x4 x5 = arg8.view.read (Elt Ideal) (arg8.view.writes (Elt Ideal) arg8.view.junk
      (kernelRun0_A c (grid0.coords t) arg2 harg2 arg3 harg3 arg4 harg4 arg5 harg5 arg6 harg6 arg7 harg7 arg8 harg8 arg9 harg9 arg10 harg10 hc0 x0 x1 x2 x3 x4 x5).1) := by
    unfold out0_A_6
    rw [View.read_writes_eq_canon _ _ _ (cover0_A_6 c (grid0.coords t) arg2 harg2 arg3 harg3 arg4 harg4 arg5 harg5 arg6 harg6 arg7 harg7 arg8 harg8 arg9 harg9 arg10 harg10 hc0 x0 x1 x2 x3 x4 x5), View.read_writes_eq_canon _ _ _ (cover0_A_6 c (grid0.coords t) arg2 harg2 arg3 harg3 arg4 harg4 arg5 harg5 arg6 harg6 arg7 harg7 arg8 harg8 arg9 harg9 arg10 harg10 hc0 x0 x1 x2 x3 x4 x5)]
  rw [e6]
  unfold out0_A_7 out0_A_8
  rw [View.read_writes_eq_canon _ _ _ (cover0_A_7 c (grid0.coords t) arg2 harg2 arg3 harg3 arg4 harg4 arg5 harg5 arg6 harg6 arg7 harg7 arg8 harg8 arg9 harg9 arg10 harg10 hc0 x0 x1 x2 x3 x4 x5), View.read_writes_eq_canon _ _ _ (cover0_A_8 c (grid0.coords t) arg2 harg2 arg3 harg3 arg4 harg4 arg5 harg5 arg6 harg6 arg7 harg7 arg8 harg8 arg9 harg9 arg10 harg10 hc0 x0 x1 x2 x3 x4 x5)]
  unfold kernelRun0_A
  dsimp only
  have hk : ∀ (inb) (o : Fin 1) (a : Fin 640) (l : Fin 256), View.ld x1 (Rect.unit (s := S1x640x256) ![0, 0, 0] ![1, 640, 256] inb) (ix3 o a l) = ((H.K (640 * kj t + a.val) l : ℝ) : EReal) :=
    fun inb o a l => (congrFun (View.ld_unit_zero (S := S1x640x256) zero3 inb x1) _).trans (hb.k o a l)
  have hv : ∀ (inb) (o : Fin 1) (a : Fin 640) (l : Fin 128), View.ld x2 (Rect.unit (s := S1x640x128) ![0, 0, 0] ![1, 640, 128] inb) (ix3 o a l) = ((H.V (640 * kj t + a.val) l : ℝ) : EReal) :=
    fun inb o a l => (congrFun (View.ld_unit_zero (S := S1x640x128) zero3 inb x2) _).trans (hb.v o a l)
  have hR := hb.reads harg2 harg5 harg6 harg7
  refine ⟨_, ?_, View.canon_unit_zero (S := S1x640x256) (by decide) _ _, View.canon_unit_zero (S := S1x640x128) (by decide) _ _⟩
  refine next14 t ?_
  refine next13 t hR ?_ ?_ ?_
  rotate_left 2
  refine next12 t ?_
  refine next11 t hR ?_ ?_ ?_
  rotate_left 2
  refine next10 t ?_
  refine next9 t hR ?_ ?_ ?_
  rotate_left 2
  refine next8 t ?_
  refine next7 t ?_
  refine next6 t ?_
  refine next5 t ?_
  refine next4 t ?_
  refine next3 t hR ?_ ?_ ?_ ?_ ?_
  rotate_left 4
  refine next2 t ?_
  refine next1 t hR ?_ ?_ ?_ ?_
  rotate_left 3
  · refine ⟨fun a l => ?_, fun a e => ?_, fun o i l => ?_⟩
    · unfold_payloads
      pointwise []
      simp
    · unfold_payloads
      pointwise []
      simp
    · have h0 : kj t = 0 := start_A t hc0
      rw [View.read_writes_eq_canon _ _ _ (fun y => View.cover_of_wholeMem _ (by sl_whole_mem) y)]
      sl_unfold_run_names
      rw [View.canon_unit_zero (S := S1x8320x256) zero3]
      unfold_payloads
      pointwise []
      simp [h0]
  · intro a l
    sl_unfold_run_names
    simp only [View.readAt_eq_ld, harg3.read_unread]
    unfold_payloads
    pointwise [hb.k]
  · intro a l
    sl_unfold_run_names
    simp only [View.readAt_eq_ld, harg4.read_unread]
    unfold_payloads
    pointwise [hb.v]
  · intro a l
    sl_unfold_run_names
    simp only [View.readAt_eq_ld, harg3.read_unread]
    unfold_payloads
    pointwise [hb.k]
  · intro a l
    sl_unfold_run_names
    simp only [View.readAt_eq_ld, harg4.read_unread]
    unfold_payloads
    pointwise [hb.v]
  · intro a l
    sl_unfold_run_names
    simp only [View.readAt_eq_ld, harg3.read_unread]
    unfold_payloads
    pointwise [hb.k]
  · intro a l
    sl_unfold_run_names
    simp only [View.readAt_eq_ld, harg4.read_unread]
    unfold_payloads
    pointwise [hb.v]
  · intro a l
    sl_unfold_run_names
    simp only [View.readAt_eq_ld, harg3.read_unread]
    unfold_payloads
    pointwise [hb.k]
  · intro a l
    sl_unfold_run_names
    simp only [View.readAt_eq_ld, harg4.read_unread]
    unfold_payloads
    pointwise [hb.v]
  · rfl
  · exact start3_word t
  · intro o a l
    simp only [View.readAt_eq_ld, harg3.read_unread]
    exact hk _ o a l
  · intro o a l
    simp only [View.readAt_eq_ld, harg4.read_unread]
    exact hv _ o a l
  · rfl

end Cert.AttnIdeal.Tile

end
-- ==== Proof.AttnRunB.lean ====
/- A later grid point of a head: the loops in order, from zero sums to the sums over all blocks of queries from the diagonal on. -/
module

public import proofs.«01_k».proof.Proof.AttnRunA
public import proofs.«01_k».proof.Proof.Gen.AttnIdeal.Value

@[expose] public section

set_option maxRecDepth 16384

noncomputable section

open Idealize.ShloMosaic Idealize.ShloMosaic.TcCoe Idealize.SL.Sem
open Idealize.ShloMosaic.Pipeline (Dat)

namespace Cert.AttnIdeal.Tile

open Cert.AttnIdeal Cert.AttnIdeal.Gen Cert.Reals

attribute [local irreducible] st_k0_t1 st_k0_t2 st_k0_t3 st_k0_t4 st_k0_t5 st_k0_t6 st_k0_t7 st_k0_t8 st_k0_t9 st_k0_t10 st_k0_t11 st_k0_t12 st_k0_t13 st_k0_t14

set_option maxHeartbeats 1000000 in
theorem runB (t : Fin grid0.N) {H : Head} (c : Dev nD) (arg2 : Memref sig .tc .vmem S1x8320x256 .bf16) (harg2 : arg2.IsWhole) (arg3 : Memref sig .tc .vmem S1x640x256 .bf16) (harg3 : arg3.IsWhole) (arg4 : Memref sig .tc .vmem S1x640x128 .bf16) (harg4 : arg4.IsWhole) (arg5 : Memref sig .tc .vmem S8320x128 .f32) (harg5 : arg5.IsWhole) (arg6 : Memref sig .tc .vmem S1x13x1x640 .f32) (harg6 : arg6.IsWhole) (arg7 : Memref sig .tc .vmem S1x13x1x640 .f32) (harg7 : arg7.IsWhole) (arg8 : Memref sig .tc .vmem S1x8320x256 .f32) (harg8 : arg8.IsWhole) (arg9 : Memref sig .tc .vmem S1x640x256 .f32) (harg9 : arg9.IsWhole) (arg10 : Memref sig .tc .vmem S1x640x128 .f32) (harg10 : arg10.IsWhole) (hc0 : ¬cond0_0 (grid0.coords t)) (x0 : Vec Ideal S1x8320x256 .bf16) (x1 : Vec Ideal S1x640x256 .bf16) (x2 : Vec Ideal S1x640x128 .bf16) (x3 : Vec Ideal S8320x128 .f32) (x4 : Vec Ideal S1x13x1x640 .f32) (x5 : Vec Ideal S1x13x1x640 .f32) (xo6 : Vec Ideal S1x8320x256 .f32) (hb : Blocks H (kj t) x0 x1 x2 x3 x4 x5)
    (hx : ∀ (o : Fin 1) (i : Fin 8320) (l : Fin 256), xo6 (ix3 o i l) = ((∑ r ∈ Finset.range (640 * kj t), H.dS r i.val * H.K r l : ℝ) : EReal)) :
    ∃ acc : FVec Ideal S640x256 .f32 × FVec Ideal S640x128 .f32, Inv H (kj t) 13 acc (out0_B_6 c (grid0.coords t) arg2 harg2 arg3 harg3 arg4 harg4 arg5 harg5 arg6 harg6 arg7 harg7 arg8 harg8 arg9 harg9 arg10 harg10 hc0 x0 x1 x2 x3 x4 x5 xo6)
      ∧ out0_B_7 c (grid0.coords t) arg2 harg2 arg3 harg3 arg4 harg4 arg5 harg5 arg6 harg6 arg7 harg7 arg8 harg8 arg9 harg9 arg10 harg10 hc0 x0 x1 x2 x3 x4 x5 xo6 = k0_pay3 acc.1
      ∧ out0_B_8 c (grid0.coords t) arg2 harg2 arg3 harg3 arg4 harg4 arg5 harg5 arg6 harg6 arg7 harg7 arg8 harg8 arg9 harg9 arg10 harg10 hc0 x0 x1 x2 x3 x4 x5 xo6 = k0_pay4 acc.2 := by
  have e6 : out0_B_6 c (grid0.coords t) arg2 harg2 arg3 harg3 arg4 harg4 arg5 harg5 arg6 harg6 arg7 harg7 arg8 harg8 arg9 harg9 arg10 harg10 hc0 x0 x1 x2 x3 x4 x5 xo6 = arg8.view.read (Elt Ideal) (arg8.view.writes (Elt Ideal) (harg8.unread xo6)
      (kernelRun0_B c (grid0.coords t) arg2 harg2 arg3 harg3 arg4 harg4 arg5 harg5 arg6 harg6 arg7 harg7 arg8 harg8 arg9 harg9 arg10 harg10 hc0 x0 x1 x2 x3 x4 x5 xo6).1) := rfl
  rw [e6]
  unfold out0_B_7 out0_B_8
  rw [View.read_writes_eq_canon _ _ _ (cover0_B_7 c (grid0.coords t) arg2 harg2 arg3 harg3 arg4 harg4 arg5 harg5 arg6 harg6 arg7 harg7 arg8 harg8 arg9 harg9 arg10 harg10 hc0 x0 x1 x2 x3 x4 x5 xo6), View.read_writes_eq_canon _ _ _ (cover0_B_8 c (grid0.coords t) arg2 harg2 arg3 harg3 arg4 harg4 arg5 harg5 arg6 harg6 arg7 harg7 arg8 harg8 arg9 harg9 arg10 harg10 hc0 x0 x1 x2 x3 x4 x5 xo6)]
  unfold kernelRun0_B
  dsimp only
  have hk : ∀ (inb) (o : Fin 1) (a : Fin 640) (l : Fin 256), View.ld x1 (Rect.unit (s := S1x640x256) ![0, 0, 0] ![1, 640, 256] inb) (ix3 o a l) = ((H.K (640 * kj t + a.val) l : ℝ) : EReal) :=
    fun inb o a l => (congrFun (View.ld_unit_zero (S := S1x640x256) zero3 inb x1) _).trans (hb.k o a l)
  have hv : ∀ (inb) (o : Fin 1) (a : Fin 640) (l : Fin 128), View.ld x2 (Rect.unit (s := S1x640x128) ![0, 0, 0] ![1, 640, 128] inb) (ix3 o a l) = ((H.V (640 * kj t + a.val) l : ℝ) : EReal) :=
    fun inb o a l => (congrFun (View.ld_unit_zero (S := S1x640x128) zero3 inb x2) _).trans (hb.v o a l)
  have hR := hb.reads harg2 harg5 harg6 harg7
  refine ⟨_, ?_, View.canon_unit_zero (S := S1x640x256) (by decide) _ _, View.canon_unit_zero (S := S1x640x128) (by decide) _ _⟩
  refine next14 t ?_
  refine next13 t hR ?_ ?_ ?_
  rotate_left 2
  refine next12 t ?_
  refine next11 t hR ?_ ?_ ?_
  rotate_left 2
  refine next10 t ?_
  refine next9 t hR ?_ ?_ ?_
  rotate_left 2
  refine next8 t ?_
  refine next7 t ?_
  refine next6 t ?_
  refine next5 t ?_
  refine next4 t ?_
  refine next3 t hR ?_ ?_ ?_ ?_ ?_
  rotate_left 4
  refine next2 t ?_
  refine first1 t hR ?_ ?_ ?_ ?_
  rotate_left 3
  · refine ⟨fun a l => ?_, fun a e => ?_, fun o i l => ?_⟩
    · unfold_payloads
      pointwise []
      simp
    · unfold_payloads
      pointwise []
      simp
    · sl_unfold_run_names
      rw [harg8.read_unread]
      have h0 : ¬(640 * kj t ≤ i.val ∧ i.val < 640 * kj t) := by omega
      rw [if_neg h0]
      exact hx o i l
  · intro a l
    sl_unfold_run_names
    simp only [View.readAt_eq_ld, harg3.read_unread]
    unfold_payloads
    pointwise [hb.k]
  · intro a l
    sl_unfold_run_names
    simp only [View.readAt_eq_ld, harg4.read_unread]
    unfold_payloads
    pointwise [hb.v]
  · intro a l
    sl_unfold_run_names
    simp only [View.readAt_eq_ld, harg3.read_unread]
    unfold_payloads
    pointwise [hb.k]
  · intro a l
    sl_unfold_run_names
    simp only [View.readAt_eq_ld, harg4.read_unread]
    unfold_payloads
    pointwise [hb.v]
  · intro a l
    sl_unfold_run_names
    simp only [View.readAt_eq_ld, harg3.read_unread]
    unfold_payloads
    pointwise [hb.k]
  · intro a l
    sl_unfold_run_names
    simp only [View.readAt_eq_ld, harg4.read_unread]
    unfold_payloads
    pointwise [hb.v]
  · intro a l
    sl_unfold_run_names
    simp only [View.readAt_eq_ld, harg3.read_unread]
    unfold_payloads
    pointwise [hb.k]
  · intro a l
    sl_unfold_run_names
    simp only [View.readAt_eq_ld, harg4.read_unread]
    unfold_payloads
    pointwise [hb.v]
  · rfl
  · exact start3_word t
  · intro o a l
    simp only [View.readAt_eq_ld, harg3.read_unread]
    exact hk _ o a l
  · intro o a l
    simp only [View.readAt_eq_ld, harg4.read_unread]
    exact hv _ o a l
  · rfl

end Cert.AttnIdeal.Tile

end
-- ==== Proof.AttnEntry.lean ====
/- What the attention gradient's kernel is given: one head's rows, and the saved statistics of its forward pass. -/
module

public import proofs.«01_k».proof.Proof.AttnReference
public import proofs.«01_k».proof.Proof.AttnRunB

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.Reals Cert.AttnMath Cert.AttnIdeal.Tile
open Cert.AttnRefIdeal.Read (hq hk hv hd shift total total_pos prob_eq lift_eq reduces)

/-- A row of the padded array: 112 rows of zeros in front. -/
def front (f : Fin 8208 → ℝ) (r : ℕ) : ℝ := if g : 112 ≤ r ∧ r - 112 < 8208 then f ⟨r - 112, g.2⟩ else 0

/-- A row of 192 lanes, with zeros to 256. -/
def lanes (f : Fin 192 → ℝ) (a : Fin 256) : ℝ := if g : a.val < 192 then f ⟨a.val, g⟩ else 0

theorem front_eq (f : Fin 8208 → ℝ) (r : Fin 8320) (hr : ¬r.val < 112 → r.val - 112 < 8208) :
    (if h : r.val < 112 then (0 : EReal) else ((f ⟨r.val - 112, hr h⟩ : ℝ) : EReal)) = ((front f r.val : ℝ) : EReal) := by
  unfold front
  by_cases h : r.val < 112
  · rw [dif_pos h, dif_neg (by omega)]; rfl
  · rw [dif_neg h, dif_pos ⟨by omega, hr h⟩]

theorem front_lanes_eq (f : Fin 8208 → Fin 192 → ℝ) (r : Fin 8320) (a : Fin 256) (hr : ¬r.val < 112 → r.val - 112 < 8208) :
    (if h : r.val < 112 then (0 : EReal) else if g : a.val < 192 then ((f ⟨r.val - 112, hr h⟩ ⟨a.val, g⟩ : ℝ) : EReal) else 0)
      = ((front (fun i => lanes (f i) a) r.val : ℝ) : EReal) := by
  unfold front lanes
  by_cases h : r.val < 112
  · rw [dif_pos h, dif_neg (by omega)]; rfl
  · have e : 112 ≤ r.val ∧ r.val - 112 < 8208 := ⟨by omega, hr h⟩
    rw [dif_neg h, dif_pos e]
    split_ifs <;> rfl

/-- The argument arrays are arrays of real numbers. -/
structure RealArgs (m : (ℓ : Loc nD τ sig) → Buf (Elt Ideal) ℓ) (c : Dev nD) (Q K : S8208x8x192.Idx → ℝ) (W : S8208x8x128.Idx → ℝ) (D : S8208x1024.Idx → ℝ) : Prop where
  q : m ((c : Thread nD τ).loc main_arg0) = fun i => ((Q i : ℝ) : EReal)
  k : m ((c : Thread nD τ).loc main_arg1) = fun i => ((K i : ℝ) : EReal)
  v : m ((c : Thread nD τ).loc main_arg2) = fun i => ((W i : ℝ) : EReal)
  d : m ((c : Thread nD τ).loc main_arg3) = fun i => ((D i : ℝ) : EReal)

variable {m : (ℓ : Loc nD τ sig) → Buf (Elt Ideal) ℓ} {c : Dev nD} {Q K : S8208x8x192.Idx → ℝ} {W : S8208x8x128.Idx → ℝ} {D : S8208x1024.Idx → ℝ}

/-- One head's rows and statistics. -/
def head (Q K : S8208x8x192.Idx → ℝ) (W : S8208x8x128.Idx → ℝ) (D : S8208x1024.Idx → ℝ) (h : Fin 8) : Head where
  Q r a := front (fun i => lanes (fun a => hq Q h i a / Real.log 2) a) r
  K r a := front (fun i => lanes (hk K h i) a) r
  V r e := front (fun i => hv W h i e) r
  D r e := front (fun i => hd D h i e) r
  lse r := front (fun i => (shift Q K h i + Real.log (total Q K h i)) / Real.log 2) r
  dl r := front (fun i => ∑ l, prob (hq Q h) (hk K h) i l * dprob (hv W h) (hd D h) i l) r

theorem log_two : Ideal.log ((2 : ℝ) : EReal) = ((Real.log 2 : ℝ) : EReal) := by simp

theorem log_two_ne : Real.log 2 ≠ 0 := (Real.log_pos (by norm_num)).ne'

/-! ## Queries, keys, values and cotangents -/

theorem step_qlanes : V m c main_v41 = (concatenate S8x8208x256 2 [⟨S8x8208x192, transpose S8x8208x192 [1, 0, 2]
      (truncf .bf16 (Host.divf (mulf (m ((c : Thread nD τ).loc main_arg0) : FVec Ideal S8208x8x192 .f32) (broadcastInDim S8208x8x192 ![] bcast_S_S8208x8x192 (constant (F := Ideal) S_ .f32 0x3D93CD3A#32)))
        (broadcastInDim S8208x8x192 ![] bcast_S_S8208x8x192 (Host.log (constant (F := Ideal) S_ .f32 0x40000000#32 : FVec Ideal S_ .f32)))) bitsLt_bf16_f32) transposes_S8208x8x192_S8x8208x192_1_0_2⟩,
    ⟨S8x8208x64, broadcastInDim S8x8208x64 ![] bcast_S_S8x8208x64 (constant (F := Ideal) S_ .bf16 0x0000#16)⟩] concatenates_S8x8208x192_S8x8208x64_S8x8208x256_d2 : FVec Ideal S8x8208x256 .bf16) := by
  simp only [V, hostOps0, hostOps0_1, hostOps0_2, List.flatten_cons, List.flatten_nil, List.cons_append, List.nil_append, List.append_nil]
  entry_read
  rfl

theorem step_q : V m c main_v43 = (concatenate S8x8320x256 1 [⟨S8x112x256, broadcastInDim S8x112x256 ![] bcast_S_S8x112x256 (constant (F := Ideal) S_ .bf16 0x0000#16)⟩,
    ⟨S8x8208x256, (V m c main_v41 : FVec Ideal S8x8208x256 .bf16)⟩] concatenates_S8x112x256_S8x8208x256_S8x8320x256_d1 : FVec Ideal S8x8320x256 .bf16) := by
  simp only [V, hostOps0, hostOps0_1, hostOps0_2, List.flatten_cons, List.flatten_nil, List.cons_append, List.nil_append, List.append_nil]
  entry_read
  rfl

theorem step_klanes : V m c main_v47 = (concatenate S8x8208x256 2 [⟨S8x8208x192, transpose S8x8208x192 [1, 0, 2]
      (truncf .bf16 (m ((c : Thread nD τ).loc main_arg1) : FVec Ideal S8208x8x192 .f32) bitsLt_bf16_f32) transposes_S8208x8x192_S8x8208x192_1_0_2⟩,
    ⟨S8x8208x64, broadcastInDim S8x8208x64 ![] bcast_S_S8x8208x64 (constant (F := Ideal) S_ .bf16 0x0000#16)⟩] concatenates_S8x8208x192_S8x8208x64_S8x8208x256_d2 : FVec Ideal S8x8208x256 .bf16) := by
  simp only [V, hostOps0, hostOps0_1, hostOps0_2, List.flatten_cons, List.flatten_nil, List.cons_append, List.nil_append, List.append_nil]
  entry_read
  rfl

theorem step_k : V m c main_v49 = (concatenate S8x8320x256 1 [⟨S8x112x256, broadcastInDim S8x112x256 ![] bcast_S_S8x112x256 (constant (F := Ideal) S_ .bf16 0x0000#16)⟩,
    ⟨S8x8208x256, (V m c main_v47 : FVec Ideal S8x8208x256 .bf16)⟩] concatenates_S8x112x256_S8x8208x256_S8x8320x256_d1 : FVec Ideal S8x8320x256 .bf16) := by
  simp only [V, hostOps0, hostOps0_1, hostOps0_2, List.flatten_cons, List.flatten_nil, List.cons_append, List.nil_append, List.append_nil]
  entry_read
  rfl

theorem entry_q (h : RealArgs m c Q K W D) (g : Fin 8) (r : Fin 8320) (a : Fin 256) :
    V m c main_v43 (ix3 g r a) = (((head Q K W D g).Q r.val a : ℝ) : EReal) := by
  rw [step_q, step_qlanes]
  pointwise [h.q, ofBits_scale, ofBits_two, log_two]
  simp only [← EReal.coe_mul, div_real log_two_ne]
  exact front_lanes_eq (fun i a => hq Q g i a / Real.log 2) r a (by omega)

theorem entry_k (h : RealArgs m c Q K W D) (g : Fin 8) (r : Fin 8320) (a : Fin 256) :
    V m c main_v49 (ix3 g r a) = (((head Q K W D g).K r.val a : ℝ) : EReal) := by
  rw [step_k, step_klanes]
  pointwise [h.k]
  exact front_lanes_eq (hk K g) r a (by omega)

theorem entry_v (h : RealArgs m c Q K W D) (g : Fin 8) (r : Fin 8320) (e : Fin 128) :
    V m c main_v33 (ix3 g r e) = (((head Q K W D g).V r.val e : ℝ) : EReal) := by
  show StableHlo.after [hostOps0, hostOps0_1, hostOps0_2].flatten (fun b => m (c, b)) _ _ = _
  simp only [hostOps0, hostOps0_1, hostOps0_2, List.flatten_cons, List.flatten_nil, List.cons_append, List.nil_append, List.append_nil]
  entry_read
  pointwise [h.v]
  exact front_eq (fun i => hv W g i e) r (by omega)

theorem entry_d (h : RealArgs m c Q K W D) (g : Fin 8) (r : Fin 8320) (e : Fin 128) :
    V m c main_v51 (ix2 r ⟨g.val * 128 + e.val, by omega⟩) = (((head Q K W D g).D r.val e : ℝ) : EReal) := by
  show StableHlo.after [hostOps0, hostOps0_1, hostOps0_2].flatten (fun b => m (c, b)) _ _ = _
  simp only [hostOps0, hostOps0_1, hostOps0_2, List.flatten_cons, List.flatten_nil, List.cons_append, List.nil_append, List.append_nil]
  entry_read
  pointwise [h.d]
  exact front_eq (fun i => hd D g i e) r (by omega)

end Cert.AttnIdeal.Value

end
-- ==== Proof.AttnSteps.lean ====
/- The forward lines of the attention, each array written with those before it. -/
module

public import proofs.«01_k».proof.Proof.AttnEntry

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.Reals Cert.AttnMath Cert.AttnIdeal.Tile
open Cert.AttnRefIdeal.Read (hq hk hv hd shift total total_pos prob_eq lift_eq reduces)

variable {m : (ℓ : Loc nD τ sig) → Buf (Elt Ideal) ℓ} {c : Dev nD} {Q K : S8208x8x192.Idx → ℝ} {W : S8208x8x128.Idx → ℝ} {D : S8208x1024.Idx → ℝ}

/-! ## The forward lines, one array from those before it -/

theorem step_scores : V m c main_v9 = (select (broadcastInDim S8x8208x8208 ![1, 2] bcast_S8208x8208_S8x8208x8208_1_2
      (cmpi CmpIPredicate.sle
        (broadcastInDim S8208x8208 ![0, 1] bcast_S1x8208_S8208x8208_0_1 (broadcastInDim S1x8208 ![1] bcast_S8208_S1x8208_1 (iotaInDim S8208 32 0)))
        (broadcastInDim S8208x8208 ![0, 1] bcast_S8208x1_S8208x8208_0_1 (broadcastInDim S8208x1 ![0] bcast_S8208_S8208x1_0 (iotaInDim S8208 32 0)))))
    (mulf (Host.dotGeneral (φ₁ := .f32) (φ₂ := .f32) dot_S8208x8x192_S8208x8x192_S8x8208x8208_2_2_0_0_1_1 none (m ((c : Thread nD τ).loc main_arg0) : FVec Ideal S8208x8x192 .f32)
        (m ((c : Thread nD τ).loc main_arg1) : FVec Ideal S8208x8x192 .f32))
      (broadcastInDim S8x8208x8208 ![] bcast_S_S8x8208x8208 (constant (F := Ideal) S_ .f32 0x3D93CD3A#32)))
    (broadcastInDim S8x8208x8208 ![] bcast_S_S8x8208x8208 (constant (F := Ideal) S_ .f32 0xFF800000#32)) : FVec Ideal S8x8208x8208 .f32) := by
  simp only [V, hostOps0, hostOps0_1, hostOps0_2, List.flatten_cons, List.flatten_nil, List.cons_append, List.nil_append, List.append_nil]
  entry_read
  rfl

theorem step_max : V m c main_v10 = (Host.reduce FloatOps.maximumf (V m c main_v9 : FVec Ideal S8x8208x8208 .f32)
    (constant (F := Ideal) S_ .f32 0xFF800000#32) reducesTo_S8x8208x8208_S8x8208_d2 h_S_ : FVec Ideal S8x8208 .f32) := by
  simp only [V, hostOps0, hostOps0_1, hostOps0_2, List.flatten_cons, List.flatten_nil, List.cons_append, List.nil_append, List.append_nil]
  entry_read
  rfl

theorem step_exp : V m c main_v14 = (Host.exp (subf (V m c main_v9 : FVec Ideal S8x8208x8208 .f32)
    (broadcastInDim S8x8208x8208 ![0, 1, 2] bcast_S8x8208x1_S8x8208x8208_0_1_2 (broadcastInDim S8x8208x1 ![0, 1] bcast_S8x8208_S8x8208x1_0_1 (V m c main_v10 : FVec Ideal S8x8208 .f32)))) : FVec Ideal S8x8208x8208 .f32) := by
  simp only [V, hostOps0, hostOps0_1, hostOps0_2, List.flatten_cons, List.flatten_nil, List.cons_append, List.nil_append, List.append_nil]
  entry_read
  rfl

theorem step_total : V m c main_v15 = (Host.reduceAdd (V m c main_v14 : FVec Ideal S8x8208x8208 .f32)
    (constant (F := Ideal) S_ .f32 0x00000000#32) reducesTo_S8x8208x8208_S8x8208_d2 h_S_ : FVec Ideal S8x8208 .f32) := by
  simp only [V, hostOps0, hostOps0_1, hostOps0_2, List.flatten_cons, List.flatten_nil, List.cons_append, List.nil_append, List.append_nil]
  entry_read
  rfl

theorem step_out : V m c main_v19 = (Host.divf
    (Host.dotGeneral (φ₁ := .f32) (φ₂ := .f32) dot_S8x8208x8208_S8208x8x128_S8x8208x128_2_0_1_2_0_1 none (V m c main_v14 : FVec Ideal S8x8208x8208 .f32) (m ((c : Thread nD τ).loc main_arg2) : FVec Ideal S8208x8x128 .f32))
    (broadcastInDim S8x8208x128 ![0, 1, 2] bcast_S8x8208x1_S8x8208x128_0_1_2 (broadcastInDim S8x8208x1 ![0, 1] bcast_S8x8208_S8x8208x1_0_1 (V m c main_v15 : FVec Ideal S8x8208 .f32))) : FVec Ideal S8x8208x128 .f32) := by
  simp only [V, hostOps0, hostOps0_1, hostOps0_2, List.flatten_cons, List.flatten_nil, List.cons_append, List.nil_append, List.append_nil]
  entry_read
  rfl

theorem step_stat : V m c main_v24 = (Host.divf
      (addf (broadcastInDim S8x8208x1 ![0, 1] bcast_S8x8208_S8x8208x1_0_1 (V m c main_v10 : FVec Ideal S8x8208 .f32))
        (Host.log (broadcastInDim S8x8208x1 ![0, 1] bcast_S8x8208_S8x8208x1_0_1 (V m c main_v15 : FVec Ideal S8x8208 .f32))))
      (broadcastInDim S8x8208x1 ![] bcast_S_S8x8208x1 (Host.log (constant (F := Ideal) S_ .f32 0x40000000#32 : FVec Ideal S_ .f32))) : FVec Ideal S8x8208x1 .f32) := by
  simp only [V, hostOps0, hostOps0_1, hostOps0_2, List.flatten_cons, List.flatten_nil, List.cons_append, List.nil_append, List.append_nil]
  entry_read
  rfl

theorem step_lse : V m c main_v54 = (shapeCast S8x13x1x640
    (concatenate S8x8320x1 1 [⟨S8x112x1, broadcastInDim S8x112x1 ![] bcast_S_S8x112x1 (constant (F := Ideal) S_ .f32 0x00000000#32)⟩, ⟨S8x8208x1, (V m c main_v24 : FVec Ideal S8x8208x1 .f32)⟩]
      concatenates_S8x112x1_S8x8208x1_S8x8320x1_d1) shapeCasts_S8x8320x1_S8x13x1x640 : FVec Ideal S8x13x1x640 .f32) := by
  simp only [V, hostOps0, hostOps0_1, hostOps0_2, List.flatten_cons, List.flatten_nil, List.cons_append, List.nil_append, List.append_nil]
  entry_read
  rfl

theorem step_rowdot : V m c main_v29 = (broadcastInDim S8x8208x1 ![0, 1] bcast_S8x8208_S8x8208x1_0_1 (Host.reduceAdd (mulf
        (transpose S8x8208x128 [1, 0, 2] (shapeCast S8208x8x128 (m ((c : Thread nD τ).loc main_arg3) : FVec Ideal S8208x1024 .f32) shapeCasts_S8208x1024_S8208x8x128) transposes_S8208x8x128_S8x8208x128_1_0_2)
        (V m c main_v19 : FVec Ideal S8x8208x128 .f32)) (constant (F := Ideal) S_ .f32 0x00000000#32) reducesTo_S8x8208x128_S8x8208_d2 h_S_) : FVec Ideal S8x8208x1 .f32) := by
  simp only [V, hostOps0, hostOps0_1, hostOps0_2, List.flatten_cons, List.flatten_nil, List.cons_append, List.nil_append, List.append_nil]
  entry_read
  rfl

theorem step_delta : V m c main_v57 = (shapeCast S8x13x1x640
    (concatenate S8x8320x1 1 [⟨S8x112x1, broadcastInDim S8x112x1 ![] bcast_S_S8x112x1 (constant (F := Ideal) S_ .f32 0x00000000#32)⟩, ⟨S8x8208x1, (V m c main_v29 : FVec Ideal S8x8208x1 .f32)⟩]
      concatenates_S8x112x1_S8x8208x1_S8x8320x1_d1) shapeCasts_S8x8320x1_S8x13x1x640 : FVec Ideal S8x13x1x640 .f32) := by
  simp only [V, hostOps0, hostOps0_1, hostOps0_2, List.flatten_cons, List.flatten_nil, List.cons_append, List.nil_append, List.append_nil]
  entry_read
  rfl

end Cert.AttnIdeal.Value

end
-- ==== Proof.AttnStats.lean ====
/- The saved statistics of the attention's forward pass: the logarithm of each row's sum of exponentials, and the product of output and cotangent. -/
module

public import proofs.«01_k».proof.Proof.AttnSteps

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.Reals Cert.AttnMath Cert.AttnIdeal.Tile
open Cert.AttnRefIdeal.Read (hq hk hv hd shift total total_pos prob_eq lift_eq reduces)

variable {m : (ℓ : Loc nD τ sig) → Buf (Elt Ideal) ℓ} {c : Dev nD} {Q K : S8208x8x192.Idx → ℝ} {W : S8208x8x128.Idx → ℝ} {D : S8208x1024.Idx → ℝ}

/-! ## What they hold over real arguments -/

theorem entry_scores (h : RealArgs m c Q K W D) (g : Fin 8) (i j : Fin 8208) :
    V m c main_v9 (ix3 g i j) = masked (score (hq Q g) (hk K g) i) i j := by
  rw [step_scores]
  pointwise [h.q, h.k, ofBits_scale, ofBits_neg_inf]
  simp only [← EReal.coe_mul, coe_sum]
  have e : (∑ a, Q (ix3 i g a) * K (ix3 j g a)) * scale = score (hq Q g) (hk K g) i j := by
    unfold score hq hk
    rw [Finset.sum_mul]
    exact Finset.sum_congr rfl fun a _ => by ring
  rw [e, sle_ofNat (by omega) (by omega)]
  unfold masked
  by_cases hji : j ≤ i
  · rw [if_pos hji, if_pos (show j.val ≤ i.val from hji)]
    exact select_one _ _
  · rw [if_neg hji, if_neg (show ¬j.val ≤ i.val from hji)]
    exact select_zero _ _

theorem entry_max (h : RealArgs m c Q K W D) (g : Fin 8) (i : Fin 8208) :
    V m c main_v10 (ix2 g i) = ((shift Q K g i : ℝ) : EReal) := by
  rw [step_max]
  generalize hy : V m c main_v9 = y
  refine (Host.reduce_eq_fold_single (FloatOps.maximumf (F := Ideal) (φ := .f32)) y _ _ reduces _ _).trans (Eq.trans ?_ (Classical.choose_spec (exists_max (score (hq Q g) (hk K g) i) i)))
  have e1 : (constant (F := Ideal) S_ .f32 0xFF800000#32 : FVec Ideal S_ .f32) (Shape.Idx.first h_S_) = (⊥ : EReal) := ofBits_neg_inf
  rw [e1]
  refine congrArg (fun f => Finset.univ.fold max (⊥ : EReal) f) (funext fun j : Fin 8208 => ?_)
  refine (congrArg y (lift_eq g i j)).trans ?_
  rw [← hy]
  exact entry_scores h g i j

theorem entry_exp (h : RealArgs m c Q K W D) (g : Fin 8) (i j : Fin 8208) :
    V m c main_v14 (ix3 g i j) = ((expRow (score (hq Q g) (hk K g) i) i (shift Q K g i) j : ℝ) : EReal) := by
  rw [step_exp]
  pointwise [entry_scores h, entry_max h]
  exact exp_masked _ _ _ _

theorem entry_total (h : RealArgs m c Q K W D) (g : Fin 8) (i : Fin 8208) :
    V m c main_v15 (ix2 g i) = ((total Q K g i : ℝ) : EReal) := by
  rw [step_total]
  pointwise [entry_exp h]
  simp only [coe_sum]
  rfl

theorem entry_out (h : RealArgs m c Q K W D) (g : Fin 8) (i : Fin 8208) (e : Fin 128) :
    V m c main_v19 (ix3 g i e) = ((∑ l, prob (hq Q g) (hk K g) i l * hv W g l e : ℝ) : EReal) := by
  rw [step_out]
  pointwise [entry_exp h, entry_total h, h.v]
  simp only [← EReal.coe_mul, coe_sum, div_real (total_pos Q K g i).ne', prob_eq]
  refine congrArg _ ?_
  rw [Finset.sum_div]
  exact Finset.sum_congr rfl fun l _ => by rw [div_mul_eq_mul_div]; rfl

theorem log_real {x : ℝ} (h : 0 < x) : Ideal.log (x : EReal) = ((Real.log x : ℝ) : EReal) := by
  rw [Ideal.log_coe, if_neg (not_le.2 h)]

/-- The saved statistic of a row, in units of the logarithm of two. -/
theorem stat_of (x y : FVec Ideal S8x8208 .f32) (M T : ℝ) (g : Fin 8) (i : Fin 8208) (o : Fin 1) (hx : x (ix2 g i) = (M : EReal)) (hy : y (ix2 g i) = (T : EReal)) (hT : 0 < T) :
    (Host.divf
      (addf (broadcastInDim S8x8208x1 ![0, 1] bcast_S8x8208_S8x8208x1_0_1 x)
        (Host.log (broadcastInDim S8x8208x1 ![0, 1] bcast_S8x8208_S8x8208x1_0_1 y)))
      (broadcastInDim S8x8208x1 ![] bcast_S_S8x8208x1 (Host.log (constant (F := Ideal) S_ .f32 0x40000000#32 : FVec Ideal S_ .f32))) : FVec Ideal S8x8208x1 .f32) (ix3 g i o)
      = (((M + Real.log T) / Real.log 2 : ℝ) : EReal) := by
  pointwise [hx, hy, ofBits_two, log_two]
  rw [log_real hT, ← EReal.coe_add, div_real log_two_ne]

theorem entry_stat (h : RealArgs m c Q K W D) (g : Fin 8) (i : Fin 8208) (o : Fin 1) :
    V m c main_v24 (ix3 g i o) = (((shift Q K g i + Real.log (total Q K g i)) / Real.log 2 : ℝ) : EReal) := by
  rw [step_stat]
  exact stat_of _ _ _ _ g i o (entry_max h g i) (entry_total h g i) (total_pos Q K g i)

theorem entry_lse (h : RealArgs m c Q K W D) (g : Fin 8) (b : Fin 13) (o : Fin 1) (j : Fin 640) :
    V m c main_v54 (ix4 g b o j) = (((head Q K W D g).lse (b.val * 640 + j.val) : ℝ) : EReal) := by
  rw [step_lse]
  pointwise [entry_stat h]
  exact front_eq (fun i => (shift Q K g i + Real.log (total Q K g i)) / Real.log 2) ⟨b.val * 640 + j.val, by omega⟩ (by dsimp only; omega)

theorem entry_rowdot (h : RealArgs m c Q K W D) (g : Fin 8) (i : Fin 8208) (o : Fin 1) :
    V m c main_v29 (ix3 g i o) = ((∑ l, prob (hq Q g) (hk K g) i l * dprob (hv W g) (hd D g) i l : ℝ) : EReal) := by
  rw [step_rowdot]
  pointwise [entry_out h, h.d]
  simp only [← EReal.coe_mul, coe_sum, ← rowdot_eq]
  rfl

theorem entry_delta (h : RealArgs m c Q K W D) (g : Fin 8) (b : Fin 13) (o : Fin 1) (j : Fin 640) :
    V m c main_v57 (ix4 g b o j) = (((head Q K W D g).dl (b.val * 640 + j.val) : ℝ) : EReal) := by
  rw [step_delta]
  pointwise [entry_rowdot h]
  exact front_eq (fun i => ∑ l, prob (hq Q g) (hk K g) i l * dprob (hv W g) (hd D g) i l) ⟨b.val * 640 + j.val, by omega⟩ (by dsimp only; omega)

end Cert.AttnIdeal.Value

end
-- ==== Proof.AttnPoints.lean ====
/- What one point of the attention gradient's grid leaves behind, by induction on the points. -/
module

public import proofs.«01_k».proof.Proof.AttnStats
public import proofs.«01_k».proof.Proof.Gen.AttnIdeal.Value

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.Reals Cert.AttnMath Cert.AttnIdeal.Tile

variable {m : (ℓ : Loc nD τ sig) → Buf (Elt Ideal) ℓ} {c : Dev nD} {Q K : S8208x8x192.Idx → ℝ} {W : S8208x8x128.Idx → ℝ} {D : S8208x1024.Idx → ℝ}

/-- The head and the block of keys of a grid point, and the block of each array it works on. -/
theorem idx : ∀ t : Fin cfg0.N, win0_0.index t = ![t.val / 13, 0, 0] ∧ win0_1.index t = ![t.val / 13, t.val % 13, 0] ∧ win0_2.index t = ![t.val / 13, t.val % 13, 0]
    ∧ win0_3.index t = ![0, t.val / 13] ∧ win0_4.index t = ![t.val / 13, 0, 0, 0] ∧ win0_5.index t = ![t.val / 13, 0, 0, 0]
    ∧ win0_6.index t = ![t.val / 13, 0, 0] ∧ win0_7.index t = ![t.val / 13, t.val % 13, 0] ∧ win0_8.index t = ![t.val / 13, t.val % 13, 0] :=
  (by decide +kernel : ∀ t : Fin grid0.N, _)

theorem kj_eq : ∀ t : Fin cfg0.N, kj t = t.val % 13 := (by decide +kernel : ∀ t : Fin grid0.N, _)

/-- The head of a grid point. -/
def hd0 (t : Fin cfg0.N) : Fin 8 := ⟨t.val / 13, by have := lt_of_lt_of_eq t.isLt N_0; omega⟩

/-- The row of the padded array that row `a` of point `t`'s block is. -/
def row (t : Fin cfg0.N) (a : Fin 640) : Fin 8320 := ⟨t.val % 13 * 640 + a.val, by omega⟩

theorem row_val (t : Fin cfg0.N) (a : Fin 640) : (row t a).val = 640 * kj t + a.val := by
  rw [kj_eq]
  dsimp only [row]
  omega

theorem block_q (h : RealArgs m c Q K W D) (t : Fin cfg0.N) (o : Fin 1) (r : Fin 8320) (a : Fin 256) :
    iblk m c 0 t (ix3 o r a) = (((head Q K W D (hd0 t)).Q r.val a : ℝ) : EReal) := by
  exact (show iblk m c 0 t (ix3 o r a) = V m c main_v43 (ix3 (hd0 t) r a) by blk_ext [iblk, idx t, hd0, row]).trans (entry_q h _ _ _)

theorem block_k (h : RealArgs m c Q K W D) (t : Fin cfg0.N) (o : Fin 1) (a : Fin 640) (l : Fin 256) :
    iblk m c 1 t (ix3 o a l) = (((head Q K W D (hd0 t)).K (640 * kj t + a.val) l : ℝ) : EReal) := by
  rw [← row_val]
  exact (show iblk m c 1 t (ix3 o a l) = V m c main_v49 (ix3 (hd0 t) (row t a) l) by blk_ext [iblk, idx t, hd0, row]).trans (entry_k h _ _ _)

theorem block_v (h : RealArgs m c Q K W D) (t : Fin cfg0.N) (o : Fin 1) (a : Fin 640) (l : Fin 128) :
    iblk m c 2 t (ix3 o a l) = (((head Q K W D (hd0 t)).V (640 * kj t + a.val) l : ℝ) : EReal) := by
  rw [← row_val]
  exact (show iblk m c 2 t (ix3 o a l) = V m c main_v33 (ix3 (hd0 t) (row t a) l) by blk_ext [iblk, idx t, hd0, row]).trans (entry_v h _ _ _)

theorem block_d (h : RealArgs m c Q K W D) (t : Fin cfg0.N) (r : Fin 8320) (e : Fin 128) :
    iblk m c 3 t (ix2 r e) = (((head Q K W D (hd0 t)).D r.val e : ℝ) : EReal) := by
  exact (show iblk m c 3 t (ix2 r e) = V m c main_v51 (ix2 r ⟨(hd0 t).val * 128 + e.val, by have := (hd0 t).isLt; omega⟩) by blk_ext [iblk, idx t, hd0, row]).trans (entry_d h _ _ _)

theorem block_l (h : RealArgs m c Q K W D) (t : Fin cfg0.N) (o : Fin 1) (b : Fin 13) (o' : Fin 1) (j : Fin 640) :
    iblk m c 4 t (ix4 o b o' j) = (((head Q K W D (hd0 t)).lse (640 * b.val + j.val) : ℝ) : EReal) := by
  rw [Nat.mul_comm 640]
  exact (show iblk m c 4 t (ix4 o b o' j) = V m c main_v54 (ix4 (hd0 t) b o' j) by blk_ext [iblk, idx t, hd0, row]).trans (entry_lse h _ _ _ _)

theorem block_s (h : RealArgs m c Q K W D) (t : Fin cfg0.N) (o : Fin 1) (b : Fin 13) (o' : Fin 1) (j : Fin 640) :
    iblk m c 5 t (ix4 o b o' j) = (((head Q K W D (hd0 t)).dl (640 * b.val + j.val) : ℝ) : EReal) := by
  rw [Nat.mul_comm 640]
  exact (show iblk m c 5 t (ix4 o b o' j) = V m c main_v57 (ix4 (hd0 t) b o' j) by blk_ext [iblk, idx t, hd0, row]).trans (entry_delta h _ _ _ _)

theorem blocks (h : RealArgs m c Q K W D) (t : Fin cfg0.N) :
    Blocks (head Q K W D (hd0 t)) (kj t) (iblk m c 0 t) (iblk m c 1 t) (iblk m c 2 t) (iblk m c 3 t) (iblk m c 4 t) (iblk m c 5 t) :=
  ⟨block_q h t, block_k h t, block_v h t, block_d h t, block_l h t, block_s h t⟩

theorem dS_of_lt (H : Head) {r i : ℕ} (h : i < r) : H.dS r i = 0 := by
  unfold Head.dS Head.P
  rw [if_neg (by omega), zero_mul]

/-- Rows of keys behind the query's own add nothing. -/
theorem sum_rows (H : Head) (f : ℕ → ℝ) (n i : ℕ) (hi : i < 640 * 13) :
    ∑ r ∈ Finset.range (if 640 * n ≤ i ∧ i < 640 * 13 then 640 * n + 640 else 640 * n), H.dS r i * f r = ∑ r ∈ Finset.range (640 * (n + 1)), H.dS r i * f r := by
  split_ifs with h
  · rfl
  · refine Finset.sum_subset (Finset.range_subset_range.2 (by omega)) fun r _ hr => ?_
    rw [dS_of_lt H (by rw [Finset.mem_range] at hr; omega), zero_mul]

/-- What a point leaves in its three blocks. -/
def Left (m : (ℓ : Loc nD τ sig) → Buf (Elt Ideal) ℓ) (c : Dev nD) (H : Head) (t : Fin cfg0.N) : Prop :=
  ∃ acc : FVec Ideal S640x256 .f32 × FVec Ideal S640x128 .f32, Inv H (kj t) 13 acc (outsAt0 m c t.val t.isLt).1
    ∧ (outsAt0 m c t.val t.isLt).2.1 = k0_pay3 acc.1 ∧ (outsAt0 m c t.val t.isLt).2.2 = k0_pay4 acc.2

attribute [local irreducible] out0_A_6 out0_A_7 out0_A_8 out0_B_6 out0_B_7 out0_B_8 k0_pay3 k0_pay4 outsAt0

theorem left_A (h : RealArgs m c Q K W D) (t : Fin cfg0.N) (h0 : t.val % 13 = 0) : Left m c (head Q K W D (hd0 t)) t := by
  unfold Left
  rw [outsAt0_A m c t h0]
  exact runA t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (blocks h t)

theorem left_B (h : RealArgs m c Q K W D) (t : Fin cfg0.N) (h0 : ¬t.val % 13 = 0)
    (hx : ∀ (o : Fin 1) (i : Fin 8320) (l : Fin 256), (outsAt0 m c (t.val - 1) (by have := t.isLt; omega)).1 (ix3 o i l)
      = ((∑ r ∈ Finset.range (640 * kj t), (head Q K W D (hd0 t)).dS r i.val * (head Q K W D (hd0 t)).K r l : ℝ) : EReal)) :
    Left m c (head Q K W D (hd0 t)) t := by
  unfold Left
  rw [outsAt0_B m c t h0]
  exact runB t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (outsAt0 m c (t.val - 1) (by have := t.isLt; omega)).1 (blocks h t) hx

theorem point (h : RealArgs m c Q K W D) (n : ℕ) (hn : n < cfg0.N) : Left m c (head Q K W D (hd0 ⟨n, hn⟩)) ⟨n, hn⟩ := by
  induction n with
  | zero => exact left_A h _ rfl
  | succ n ih =>
    by_cases h0 : (n + 1) % 13 = 0
    · exact left_A h _ h0
    · refine left_B h ⟨n + 1, hn⟩ h0 fun o i l => ?_
      obtain ⟨acc, hi, -, -⟩ := ih (Nat.lt_of_succ_lt hn)
      have e1 : hd0 ⟨n + 1, hn⟩ = hd0 ⟨n, Nat.lt_of_succ_lt hn⟩ := Fin.ext (show (n + 1) / 13 = n / 13 by clear ih; omega)
      have e2 : kj ⟨n + 1, hn⟩ = kj ⟨n, Nat.lt_of_succ_lt hn⟩ + 1 := by rw [kj_eq, kj_eq]; show (n + 1) % 13 = n % 13 + 1; omega
      rw [e1, e2]
      exact (hi.dq o i l).trans (congrArg _ (sum_rows _ _ _ _ i.isLt))

end Cert.AttnIdeal.Value

end
-- ==== Proof.AttnBridge.lean ====
/- The kernel's weights and score gradients over the padded rows are the softmax's own, and its sums over blocks of rows are the sums over all tokens. -/
module

public import proofs.«01_k».proof.Proof.AttnEntry

@[expose] public section

set_option maxRecDepth 16384

noncomputable section

open Idealize.ShloMosaic

namespace Cert.AttnIdeal.Value

open Cert.AttnIdeal Cert.Reals Cert.AttnMath Cert.AttnIdeal.Tile
open Cert.AttnRefIdeal.Read (hq hk hv hd shift total)

theorem front_at (f : Fin 8208 → ℝ) (i : Fin 8208) : front f (112 + i.val) = f i := by
  unfold front
  rw [dif_pos (by omega)]
  exact congrArg f (Fin.ext (by simp))

theorem front_low (f : Fin 8208 → ℝ) {r : ℕ} (h : r < 112) : front f r = 0 := by
  unfold front
  rw [dif_neg (by omega)]

theorem lanes_zero (f : Fin 192 → ℝ) {l : Fin 256} (h : ¬l.val < 192) : lanes f l = 0 := dif_neg h

theorem lanes_dot (f g : Fin 192 → ℝ) : ∑ c, lanes f c * lanes g c = ∑ a, f a * g a := by
  refine (Fin.sum_univ_add (a := 192) (b := 64) fun c : Fin 256 => lanes f c * lanes g c).trans ?_
  rw [Finset.sum_eq_zero (s := (Finset.univ : Finset (Fin 64))) fun x _ => by rw [lanes_zero f (by simp), zero_mul], add_zero]
  exact Finset.sum_congr rfl fun a _ => by
    have e : (Fin.castAdd 64 a).val < 192 := a.isLt
    unfold lanes
    rw [dif_pos e, dif_pos e]
    rfl

/-- Lanes of a sum of multiples. -/
theorem lanes_sum (x : Fin 8208 → ℝ) (f : Fin 8208 → Fin 192 → ℝ) (l : Fin 256) : ∑ i, x i * lanes (f i) l = lanes (fun a => ∑ i, x i * f i a) l := by
  unfold lanes
  split_ifs
  · rfl
  · simp

variable (Q K : S8208x8x192.Idx → ℝ) (W : S8208x8x128.Idx → ℝ) (D : S8208x1024.Idx → ℝ) (h : Fin 8)

theorem P_at (i j : Fin 8208) : (head Q K W D h).P (112 + j.val) (112 + i.val) = prob (hq Q h) (hk K h) i j := by
  unfold Head.P
  have e1 : ∑ c, (head Q K W D h).K (112 + j.val) c * (head Q K W D h).Q (112 + i.val) c = score (hq Q h) (hk K h) i j / Real.log 2 := by
    simp only [head, front_at, lanes_dot]
    unfold score
    rw [Finset.sum_div]
    exact Finset.sum_congr rfl fun a _ => by ring
  have e2 : (head Q K W D h).lse (112 + i.val) = (shift Q K h i + Real.log (total Q K h i)) / Real.log 2 :=
    front_at (fun i => (shift Q K h i + Real.log (total Q K h i)) / Real.log 2) i
  by_cases g : j ≤ i
  · rw [if_pos ⟨by have : j.val ≤ i.val := g; omega, by omega⟩, e1, e2]
    exact weight_eq_rpow _ _ _ g
  · rw [if_neg (by have : ¬j.val ≤ i.val := g; omega)]
    exact (weight_of_lt _ (not_le.1 g)).symm

theorem P_low {r i : ℕ} (g : r < 112) : (head Q K W D h).P r i = 0 := if_neg (by omega)

theorem P_of_lt {r i : ℕ} (g : i < r) : (head Q K W D h).P r i = 0 := if_neg (by omega)

theorem dS_at (i j : Fin 8208) : (head Q K W D h).dS (112 + j.val) (112 + i.val) = dscore (hq Q h) (hk K h) (hv W h) (hd D h) i j := by
  unfold Head.dS dscore
  rw [P_at]
  have e1 : ∑ d, (head Q K W D h).V (112 + j.val) d * (head Q K W D h).D (112 + i.val) d = dprob (hv W h) (hd D h) i j := by
    simp only [head, front_at]
    exact Finset.sum_congr rfl fun a _ => mul_comm _ _
  have e2 : (head Q K W D h).dl (112 + i.val) = ∑ l, prob (hq Q h) (hk K h) i l * dprob (hv W h) (hd D h) i l :=
    front_at (fun i => ∑ l, prob (hq Q h) (hk K h) i l * dprob (hv W h) (hd D h) i l) i
  rw [e1, e2]

theorem dS_zero {r i : ℕ} (g : (head Q K W D h).P r i = 0) : (head Q K W D h).dS r i = 0 := by
  unfold Head.dS
  rw [g, zero_mul]

/-- A sum over rows whose first 112 terms vanish is the sum over the tokens. -/
theorem sum_tokens (F : ℕ → ℝ) (hF : ∀ r, r < 112 → F r = 0) : ∑ r ∈ Finset.range 8320, F r = ∑ i : Fin 8208, F (112 + i.val) := by
  rw [show 8320 = 112 + 8208 from rfl, Finset.sum_range_add, Finset.sum_eq_zero fun x hx => hF x (Finset.mem_range.1 hx), zero_add, Finset.sum_range]

theorem sum_block (F : ℕ → ℝ) (n r : ℕ) (hr : 640 * n ≤ r) (h112 : 112 ≤ r) (hF : ∀ i, i < r → F i = 0) :
    ∑ i ∈ Finset.Ico (640 * n) (640 * 13), F i = ∑ i : Fin 8208, F (112 + i.val) := by
  refine Eq.trans (Finset.sum_subset (s₂ := Finset.range 8320) (fun x hx => ?_) fun x hx hn => hF x ?_) (sum_tokens F fun i hi => hF i (by omega))
  · rw [Finset.mem_Ico] at hx
    rw [Finset.mem_range]
    omega
  · rw [Finset.mem_range] at hx
    rw [Finset.mem_Ico] at hn
    omega

theorem dq_at (i : Fin 8320) (l : Fin 256) :
    ∑ r ∈ Finset.range (640 * 13), (head Q K W D h).dS r i.val * (head Q K W D h).K r l
      = front (fun i => lanes (fun a => ∑ j, dscore (hq Q h) (hk K h) (hv W h) (hd D h) i j * hk K h j a) l) i.val := by
  rw [show 640 * 13 = 8320 from rfl, sum_tokens _ fun r hr => by rw [dS_zero Q K W D h (P_low Q K W D h hr), zero_mul]]
  by_cases g : i.val < 112
  · rw [front_low _ g]
    exact Finset.sum_eq_zero fun j _ => by rw [dS_zero Q K W D h (P_of_lt Q K W D h (by omega)), zero_mul]
  · obtain ⟨k, hk'⟩ : ∃ k : Fin 8208, i.val = 112 + k.val := ⟨⟨i.val - 112, by omega⟩, by dsimp only; omega⟩
    rw [hk', front_at, ← lanes_sum]
    exact Finset.sum_congr rfl fun j _ => by rw [dS_at]; exact congrArg _ (front_at (fun i => lanes (hk K h i) l) j)

theorem dk_at (n : ℕ) (r : ℕ) (hr : 640 * n ≤ r) (hr' : r < 8320) (l : Fin 256) :
    (∑ i ∈ Finset.Ico (640 * n) (640 * 13), (head Q K W D h).dS r i * (head Q K W D h).Q i l) * Real.log 2
      = front (fun j => lanes (fun a => ∑ i, dscore (hq Q h) (hk K h) (hv W h) (hd D h) i j * hq Q h i a) l) r := by
  by_cases g : r < 112
  · rw [front_low _ g, Finset.sum_eq_zero fun i _ => by rw [dS_zero Q K W D h (P_low Q K W D h g), zero_mul], zero_mul]
  · rw [sum_block _ n r hr (by omega) fun i hi => by rw [dS_zero Q K W D h (P_of_lt Q K W D h hi), zero_mul]]
    obtain ⟨j, rfl⟩ : ∃ j : Fin 8208, r = 112 + j.val := ⟨⟨r - 112, by omega⟩, by dsimp only; omega⟩
    rw [front_at, ← lanes_sum, Finset.sum_mul]
    refine Finset.sum_congr rfl fun i _ => ?_
    rw [dS_at]
    have e : (head Q K W D h).Q (112 + i.val) l * Real.log 2 = lanes (hq Q h i) l := by
      refine (congrArg (· * Real.log 2) (front_at (fun i => lanes (fun a => hq Q h i a / Real.log 2) l) i)).trans ?_
      unfold lanes
      split_ifs
      · exact div_mul_cancel₀ _ log_two_ne
      · exact zero_mul _
    rw [mul_assoc, e]

theorem dv_at (n : ℕ) (r : ℕ) (hr : 640 * n ≤ r) (hr' : r < 8320) (e : Fin 128) :
    ∑ i ∈ Finset.Ico (640 * n) (640 * 13), (head Q K W D h).P r i * (head Q K W D h).D i e
      = front (fun j => ∑ i, prob (hq Q h) (hk K h) i j * hd D h i e) r := by
  by_cases g : r < 112
  · rw [front_low _ g, Finset.sum_eq_zero fun i _ => by rw [P_low Q K W D h g, zero_mul]]
  · rw [sum_block _ n r hr (by omega) fun i hi => by rw [P_of_lt Q K W D h hi, zero_mul]]
    obtain ⟨j, rfl⟩ : ∃ j : Fin 8208, r = 112 + j.val := ⟨⟨r - 112, by omega⟩, by dsimp only; omega⟩
    rw [front_at]
    exact Finset.sum_congr rfl fun i _ => by rw [P_at]; exact congrArg _ (front_at (fun i => hd D h i e) i)

end Cert.AttnIdeal.Value

end
-- ==== Proof.AttnFinal.lean ====
/- The three arrays the attention gradient's kernel leaves: the gradients with respect to the scaled queries, the keys and the values, head by head over the padded rows. -/
module

public import proofs.«01_k».proof.Proof.AttnPoints
public import proofs.«01_k».proof.Proof.AttnBridge

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.Reals Cert.AttnMath Cert.AttnIdeal.Tile
open Cert.AttnRefIdeal.Read (hq hk hv hd)

/-- The gradient with respect to the scaled queries. -/
def dqT (Q K : S8208x8x192.Idx → ℝ) (W : S8208x8x128.Idx → ℝ) (D : S8208x1024.Idx → ℝ) (i : S8x8320x256.Idx) : EReal :=
  ((front (fun r => lanes (fun a => ∑ j, dscore (hq Q (i 0)) (hk K (i 0)) (hv W (i 0)) (hd D (i 0)) r j * hk K (i 0) j a) (i 2)) (i 1).val : ℝ) : EReal)

/-- The gradient with respect to the keys. -/
def dkT (Q K : S8208x8x192.Idx → ℝ) (W : S8208x8x128.Idx → ℝ) (D : S8208x1024.Idx → ℝ) (i : S8x8320x256.Idx) : EReal :=
  ((front (fun r => lanes (fun a => ∑ j, dscore (hq Q (i 0)) (hk K (i 0)) (hv W (i 0)) (hd D (i 0)) j r * hq Q (i 0) j a) (i 2)) (i 1).val : ℝ) : EReal)

/-- The gradient with respect to the values. -/
def dvT (Q K : S8208x8x192.Idx → ℝ) (D : S8208x1024.Idx → ℝ) (i : S8x8320x128.Idx) : EReal :=
  ((front (fun r => ∑ j, prob (hq Q (i 0)) (hk K (i 0)) j r * hd D (i 0) j (i 2)) (i 1).val : ℝ) : EReal)

variable {m : (ℓ : Loc nD τ sig) → Buf (Elt Ideal) ℓ} {c : Dev nD} {Q K : S8208x8x192.Idx → ℝ} {W : S8208x8x128.Idx → ℝ} {D : S8208x1024.Idx → ℝ}

theorem place6 (t : Fin cfg0.N) (o : Fin 1) (r : Fin 8320) (l : Fin 256) :
    ((View.whole main_v58_0).slice (win0_6.rect t)).emb (ix3 o r l) = ix3 (hd0 t) r l := by blk_ext [idx t, hd0]

theorem place7 (t : Fin cfg0.N) (o : Fin 1) (a : Fin 640) (l : Fin 256) :
    ((View.whole main_v58_1).slice (win0_7.rect t)).emb (ix3 o a l) = ix3 (hd0 t) (row t a) l := by blk_ext [idx t, hd0, row]

theorem place8 (t : Fin cfg0.N) (o : Fin 1) (a : Fin 640) (l : Fin 128) :
    ((View.whole main_v58_2).slice (win0_8.rect t)).emb (ix3 o a l) = ix3 (hd0 t) (row t a) l := by blk_ext [idx t, hd0, row]

theorem left_dq (h : RealArgs m c Q K W D) (t : Fin cfg0.N) (ht : t.val % 13 = 12) (o : Fin 1) (r : Fin 8320) (l : Fin 256) :
    (outsAt0 m c t.val t.isLt).1 (ix3 o r l) = dqT Q K W D (ix3 (hd0 t) r l) := by
  have hl : Left m c (head Q K W D (hd0 t)) t := point h t.val t.isLt
  obtain ⟨acc, hi, -, -⟩ := hl
  refine (hi.dq o r l).trans (congrArg _ ((sum_rows _ _ _ _ r.isLt).trans ?_))
  rw [kj_eq, ht]
  exact dq_at Q K W D (hd0 t) r l

theorem left_dk (h : RealArgs m c Q K W D) (t : Fin cfg0.N) (o : Fin 1) (a : Fin 640) (l : Fin 256) :
    (outsAt0 m c t.val t.isLt).2.1 (ix3 o a l) = dkT Q K W D (ix3 (hd0 t) (row t a) l) := by
  have hl : Left m c (head Q K W D (hd0 t)) t := point h t.val t.isLt
  obtain ⟨acc, hi, e7, -⟩ := hl
  refine (congrFun e7 _).trans ?_
  pointwise [k0_pay3, hi.dk, Head.ln2_named]
  rw [← EReal.coe_mul]
  refine congrArg _ ((dk_at Q K W D (hd0 t) (kj t) (640 * kj t + a.val) (by omega) (by have := kj_lt t; omega) l).trans ?_)
  rw [← row_val]
  rfl

theorem left_dv (h : RealArgs m c Q K W D) (t : Fin cfg0.N) (o : Fin 1) (a : Fin 640) (e : Fin 128) :
    (outsAt0 m c t.val t.isLt).2.2 (ix3 o a e) = dvT Q K D (ix3 (hd0 t) (row t a) e) := by
  have hl : Left m c (head Q K W D (hd0 t)) t := point h t.val t.isLt
  obtain ⟨acc, hi, -, e8⟩ := hl
  refine (congrFun e8 _).trans ?_
  pointwise [k0_pay4, hi.dv]
  refine congrArg _ ((dv_at Q K W D (hd0 t) (kj t) (640 * kj t + a.val) (by omega) (by have := kj_lt t; omega) e).trans ?_)
  rw [← row_val]
  rfl

theorem final6 (h : RealArgs m c Q K W D) : (dats m 0 c).arrAt 6 cfg0.N = dqT Q K W D := by
  refine (dats m 0 c).arrAt_eq_of_covers 6 _ (by decide +kernel) fun t hf y => ?_
  have ht := (flush0_6 t).mp hf
  blk_simp
  rw [after0_6]
  idx_vars y
  exact (left_dq h t ht y0 y1 y2).trans (congrArg (dqT Q K W D) (place6 t y0 y1 y2)).symm

theorem final7 (h : RealArgs m c Q K W D) : (dats m 0 c).arrAt 7 cfg0.N = dkT Q K W D := by
  refine (dats m 0 c).arrAt_eq_of_covers 7 _ (by decide +kernel) fun t hf y => ?_
  blk_simp
  rw [after0_7]
  idx_vars y
  exact (left_dk h t y0 y1 y2).trans (congrArg (dkT Q K W D) (place7 t y0 y1 y2)).symm

theorem final8 (h : RealArgs m c Q K W D) : (dats m 0 c).arrAt 8 cfg0.N = dvT Q K D := by
  refine (dats m 0 c).arrAt_eq_of_covers 8 _ (by decide +kernel) fun t hf y => ?_
  blk_simp
  rw [after0_8]
  idx_vars y
  exact (left_dv h t y0 y1 y2).trans (congrArg (dvT Q K D) (place8 t y0 y1 y2)).symm

end Cert.AttnIdeal.Value

end
-- ==== Proof.Attn.lean ====
/- The gradient of the causal attention: the kernel and the differentiated forward lines agree. -/
module

public import proofs.«01_k».proof.Defs
public import proofs.«01_k».proof.Proof.AttnFinal
public import proofs.«01_k».proof.Proof.Gen.Pre_finite_attn

@[expose] public section

set_option maxRecDepth 16384

noncomputable section

open Idealize.ShloMosaic Idealize.ShloMosaic.TcCoe Idealize.SL.Sem

namespace Cert.AttnRefIdeal.Read

open Cert.Reals Cert.AttnIdeal.Value

variable (Q K : S8208x8x192.Idx → ℝ) (W : S8208x8x128.Idx → ℝ) (D : S8208x1024.Idx → ℝ)

theorem padded_dq : val_main_v67 (F := Ideal) (fun i => ((Q i : ℝ) : EReal)) (fun i => ((K i : ℝ) : EReal)) (fun i => ((W i : ℝ) : EReal)) (fun i => ((D i : ℝ) : EReal)) = dqT Q K W D := by
  funext i
  idx_vars i
  pointwise [val_main_v67, val_main_v66, val_main_v65, val_main_cst_14, val_main_v64, val_main_v63, val_main_cst_13, result_dq Q K W D]
  exact front_lanes_eq (fun r a => ∑ l, AttnMath.dscore (hq Q i0) (hk K i0) (hv W i0) (hd D i0) r l * hk K i0 l a) i1 i2 (by omega)

theorem padded_dk : val_main_v72 (F := Ideal) (fun i => ((Q i : ℝ) : EReal)) (fun i => ((K i : ℝ) : EReal)) (fun i => ((W i : ℝ) : EReal)) (fun i => ((D i : ℝ) : EReal)) = dkT Q K W D := by
  funext i
  idx_vars i
  pointwise [val_main_v72, val_main_v71, val_main_v70, val_main_cst_16, val_main_v69, val_main_v68, val_main_cst_15, result_dk Q K W D]
  exact front_lanes_eq (fun r a => ∑ l, AttnMath.dscore (hq Q i0) (hk K i0) (hv W i0) (hd D i0) l r * hq Q i0 l a) i1 i2 (by omega)

theorem padded_dv : val_main_v75 (F := Ideal) (fun i => ((Q i : ℝ) : EReal)) (fun i => ((K i : ℝ) : EReal)) (fun i => ((D i : ℝ) : EReal)) = dvT Q K D := by
  funext i
  idx_vars i
  pointwise [val_main_v75, val_main_v74, val_main_v73, val_main_cst_17, result_dv Q K D]
  exact front_eq (fun r => ∑ l, AttnMath.prob (hq Q i0) (hk K i0) l r * hd D i0 l i2) i1 (by omega)

end Cert.AttnRefIdeal.Read

namespace Cert.AttnClaim

open Cert.Reals

/-- The precondition in the form the proofs use: the arguments are arrays of real numbers. -/
theorem real_args (m : (ℓ : Loc AttnIdeal.nD AttnIdeal.τ AttnIdeal.sig) → Buf (Elt Ideal) ℓ) (h : Pre_AttnIdeal_finite_attn m) (c : Dev AttnIdeal.nD) :
    ∃ Q K W D, AttnIdeal.Value.RealArgs m c Q K W D := by
  have hc := congrFun (h c) (fun a => a.elim0)
  simp only [Pre_finite_attn.fn, Pre_finite_attn.fn_part1, andi_apply, andi_one] at hc
  obtain ⟨⟨⟨h0, h1⟩, h2⟩, h3⟩ := hc
  obtain ⟨Q, hQ⟩ := exists_real (fun _ => ofBits_inf) h0
  obtain ⟨K, hK⟩ := exists_real (fun _ => ofBits_inf) h1
  obtain ⟨W, hW⟩ := exists_real (fun _ => ofBits_inf) h2
  obtain ⟨D, hD⟩ := exists_real (fun _ => ofBits_inf) h3
  exact ⟨Q, K, W, D, hQ, hK, hW, hD⟩

theorem value : algebraic_AttnIdeal_AttnRefIdeal_pre_finite_attn := by
  pair_intro
  · run_from AttnIdeal.Value.run_blocks m g
  · run_from AttnRefIdeal.Value.run m' g'
    · obtain ⟨Q, K, W, D, h⟩ := real_args m hpre c
      rw [AttnRefIdeal.Read.val_main_v67_eq, (hagree c).1, (hagree c).2.1, (hagree c).2.2.1, (hagree c).2.2.2, h.q, h.k, h.v, h.d, AttnIdeal.Value.final6 h]
      exact AttnRefIdeal.Read.padded_dq Q K W D
    · obtain ⟨Q, K, W, D, h⟩ := real_args m hpre c
      refine (AttnRefIdeal.Read.val_main_v72_eq _ _).trans ?_
      refine Eq.trans ?_ (AttnIdeal.Value.final7 h).symm
      rw [(hagree c).1, (hagree c).2.1, (hagree c).2.2.1, (hagree c).2.2.2, h.q, h.k, h.v, h.d]
      exact AttnRefIdeal.Read.padded_dk Q K W D
    · obtain ⟨Q, K, W, D, h⟩ := real_args m hpre c
      refine (AttnRefIdeal.Read.val_main_v75_eq _ _).trans ?_
      refine Eq.trans ?_ (AttnIdeal.Value.final8 h).symm
      rw [(hagree c).1, (hagree c).2.1, (hagree c).2.2.2, h.q, h.k, h.d]
      exact AttnRefIdeal.Read.padded_dv Q K D

/-- The differentiated forward lines run, and leave their arguments as they were. -/
theorem reference_frame : quiescent_AttnRefIdeal := fun m g _ =>
  (θ_run AttnRefIdeal.defs _ _).mono (fun r h => ⟨fun c => (h c).2.2.2, sem_eq_zero_of_no_sems rfl _⟩) (AttnRefIdeal.Value.run m g)

/-- The two constants that are named: the mask's value, and the logarithm of two. -/
theorem names : preserves_Attn_AttnIdeal :=
  ⟨IdealRules.named_const.statement Cert.AttnIdeal.κ "mask" .f32 0xF149F2CA#32 ⊥ rfl, IdealRules.named_const.statement Cert.AttnIdeal.κ "ln2" .f32 0x3F317218#32 ((Real.log 2 : ℝ) : EReal) rfl⟩

end Cert.AttnClaim

end
-- ==== Proof.InprojKernel.lean ====
/- What the kernel of the input projection's gradient leaves in its two result arrays, over real arguments. -/
module

public import proofs.«01_k».proof.Proof.Gen.InprojIdeal.Value
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen Cert.Reals Cert.Rms

variable (m : (ℓ : Loc nD τ sig) → Buf (Elt Ideal) ℓ)

/-- The block index of every window at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

/-- The row of the whole array that row `a` of point `t`'s block is. -/
def row (t : Fin cfg0.N) (a : Fin 320) : Fin 8320 := ⟨t.val * 320 + a.val, by have := lt_of_lt_of_eq t.isLt N_0; omega⟩

/-- The argument arrays are arrays of real numbers (the residual's gradient may be infinite: it is only added). -/
structure RealArgs (c : Dev nD) (X : S8208x1024.Idx → ℝ) (G : S1024.Idx → ℝ) (W : S1024x3280.Idx → ℝ) (DU : S8208x3280.Idx → ℝ) : Prop where
  x : m ((c : Thread nD τ).loc main_arg0) = fun i => ((X i : ℝ) : EReal)
  g : m ((c : Thread nD τ).loc main_arg1) = fun i => ((G i : ℝ) : EReal)
  w : m ((c : Thread nD τ).loc main_arg2) = fun i => ((W i : ℝ) : EReal)
  du : m ((c : Thread nD τ).loc main_arg4) = fun i => ((DU i : ℝ) : EReal)

variable {m} {c : Dev nD} {X : S8208x1024.Idx → ℝ} {G : S1024.Idx → ℝ} {W : S1024x3280.Idx → ℝ} {DU : S8208x3280.Idx → ℝ}

/-! ## The packed columns

The kernel holds the 3280 columns of the projection in four groups: 704 columns and 64 lanes of zeros, 1024, 1536, and 16
columns with 112 lanes of zeros. -/

/-- The first group. -/
def first (f : Fin 3280 → ℝ) (k : Fin 768) : ℝ := if h : k.val < 704 then f ⟨k.val, by omega⟩ else 0

/-- The last group. -/
def last (f : Fin 3280 → ℝ) (k : Fin 128) : ℝ := if h : k.val < 16 then f ⟨3264 + k.val, by omega⟩ else 0

/-- The products of the groups add up to the product over all columns. -/
theorem four_groups (f g : Fin 3280 → ℝ) :
    (∑ k, first f k * first g k) + (∑ k : Fin 1024, f ⟨704 + k.val, by omega⟩ * g ⟨704 + k.val, by omega⟩)
      + (∑ k : Fin 1536, f ⟨1728 + k.val, by omega⟩ * g ⟨1728 + k.val, by omega⟩) + (∑ k, last f k * last g k) = ∑ k, f k * g k := by
  have e1 : ∑ k, first f k * first g k = ∑ k : Fin 704, f ⟨k.val, by omega⟩ * g ⟨k.val, by omega⟩ := by
    rw [Fin.sum_univ_add (a := 704) (b := 64) fun k : Fin 768 => first f k * first g k, Finset.sum_eq_zero (s := Finset.univ (α := Fin 64)) fun k _ => ?_, add_zero]
    · exact Finset.sum_congr rfl fun k _ => by simp [first]
    · simp [first]
  have e2 : ∑ k, last f k * last g k = ∑ k : Fin 16, f ⟨3264 + k.val, by omega⟩ * g ⟨3264 + k.val, by omega⟩ := by
    rw [Fin.sum_univ_add (a := 16) (b := 112) fun k : Fin 128 => last f k * last g k, Finset.sum_eq_zero (s := Finset.univ (α := Fin 112)) fun k _ => ?_, add_zero]
    · exact Finset.sum_congr rfl fun k _ => by simp [last]
    · simp [last]
  rw [e1, e2, Fin.sum_univ_add (a := 704) (b := 2576) fun k : Fin 3280 => f k * g k,
    Fin.sum_univ_add (a := 1024) (b := 1552) fun k => f (Fin.natAdd 704 k) * g (Fin.natAdd 704 k),
    Fin.sum_univ_add (a := 1536) (b := 16) fun k => f (Fin.natAdd 704 (Fin.natAdd 1024 k)) * g (Fin.natAdd 704 (Fin.natAdd 1024 k)), add_assoc, add_assoc]
  refine congrArg₂ _ rfl (congrArg₂ _ rfl (congrArg₂ _ ?_ ?_)) <;>
    exact Finset.sum_congr rfl fun k _ => congrArg₂ _ (congrArg f (Fin.ext (by simp; omega))) (congrArg g (Fin.ext (by simp; omega)))

/-! ## The arrays when the grid starts -/

theorem step_v5 : V m c main_v5 = (truncf .bf16 (concatenate S1024x3456 1 [⟨S1024x704, (extractStridedSlice S1024x704 ![0, 0] (m ((c : Thread nD τ).loc main_arg2) : FVec Ideal S1024x3280 .f32) slices_S1024x3280_S1024x704_0_0 : FVec Ideal S1024x704 .f32)⟩, ⟨S1024x64, ((broadcastInDim S1024x64 ![] bcast_S_S1024x64) (constant (F := Ideal) S_ .f32 0x00000000#32 : FVec Ideal S_ .f32) : FVec Ideal S1024x64 .f32)⟩, ⟨S1024x2576, (extractStridedSlice S1024x2576 ![0, 704] (m ((c : Thread nD τ).loc main_arg2) : FVec Ideal S1024x3280 .f32) slices_S1024x3280_S1024x2576_0_704 : FVec Ideal S1024x2576 .f32)⟩, ⟨S1024x112, ((broadcastInDim S1024x112 ![] bcast_S_S1024x112) (constant (F := Ideal) S_ .f32 0x00000000#32 : FVec Ideal S_ .f32) : FVec Ideal S1024x112 .f32)⟩] concatenates_S1024x704_S1024x64_S1024x2576_S1024x112_S1024x3456_d1 : FVec Ideal S1024x3456 .f32) bitsLt_bf16_f32 : FVec Ideal S1024x3456 .bf16) := by
  show StableHlo.after hostOps0 (fun b => m (c, b)) _ = _
  simp only [hostOps0, StableHlo.after_cons, StableHlo.after_nil]
  after_results_steps
  rfl

theorem step_v15 : V m c main_v15 = (concatenate S8320x768 0 [⟨S112x768, ((broadcastInDim S112x768 ![] bcast_S_S112x768) (constant (F := Ideal) S_ .f32 0x00000000#32 : FVec Ideal S_ .f32) : FVec Ideal S112x768 .f32)⟩, ⟨S8208x768, (V m c main_v8 : FVec Ideal S8208x768 .f32)⟩] concatenates_S112x768_S8208x768_S8320x768_d0 : FVec Ideal S8320x768 .f32) := by
  entry_read
  rfl

theorem step_v21 : V m c main_v21 = (concatenate S8320x128 0 [⟨S112x128, ((broadcastInDim S112x128 ![] bcast_S_S112x128) (constant (F := Ideal) S_ .f32 0x00000000#32 : FVec Ideal S_ .f32) : FVec Ideal S112x128 .f32)⟩, ⟨S8208x128, (V m c main_v13 : FVec Ideal S8208x128 .f32)⟩] concatenates_S112x128_S8208x128_S8320x128_d0 : FVec Ideal S8320x128 .f32) := by
  entry_read
  rfl

theorem step_v8 : V m c main_v8 = (concatenate S8208x768 1 [⟨S8208x704, (extractStridedSlice S8208x704 ![0, 0] (m ((c : Thread nD τ).loc main_arg4) : FVec Ideal S8208x3280 .f32) slices_S8208x3280_S8208x704_0_0 : FVec Ideal S8208x704 .f32)⟩, ⟨S8208x64, ((broadcastInDim S8208x64 ![] bcast_S_S8208x64) (constant (F := Ideal) S_ .f32 0x00000000#32 : FVec Ideal S_ .f32) : FVec Ideal S8208x64 .f32)⟩] concatenates_S8208x704_S8208x64_S8208x768_d1 : FVec Ideal S8208x768 .f32) := by
  entry_read
  rfl

theorem step_v13 : V m c main_v13 = (concatenate S8208x128 1 [⟨S8208x16, (extractStridedSlice S8208x16 ![0, 3264] (m ((c : Thread nD τ).loc main_arg4) : FVec Ideal S8208x3280 .f32) slices_S8208x3280_S8208x16_0_3264 : FVec Ideal S8208x16 .f32)⟩, ⟨S8208x112, ((broadcastInDim S8208x112 ![] bcast_S_S8208x112) (constant (F := Ideal) S_ .f32 0x00000000#32 : FVec Ideal S_ .f32) : FVec Ideal S8208x112 .f32)⟩] concatenates_S8208x16_S8208x112_S8208x128_d1 : FVec Ideal S8208x128 .f32) := by
  entry_read
  rfl

theorem entry_first (h : RealArgs m c X G W DU) (r : Fin 8320) (k : Fin 768) :
    V m c main_v15 (ix2 r k) = ((first (padded 112 DU r) k : ℝ) : EReal) := by
  rw [step_v15, step_v8]
  pointwise [h.du]
  unfold first padded
  repeat' split
  all_goals first | rfl | (exfalso; omega)

theorem entry_z (h : RealArgs m c X G W DU) (r : Fin 8320) (k : Fin 1024) :
    V m c main_v17 (ix2 r k) = ((padded 112 DU r ⟨704 + k.val, by omega⟩ : ℝ) : EReal) := by
  entry_read
  pointwise [h.du]
  exact padded_eq 112 (by decide) DU r ⟨704 + k.val, by omega⟩ _

theorem entry_xbc (h : RealArgs m c X G W DU) (r : Fin 8320) (k : Fin 1536) :
    V m c main_v19 (ix2 r k) = ((padded 112 DU r ⟨1728 + k.val, by omega⟩ : ℝ) : EReal) := by
  entry_read
  pointwise [h.du]
  exact padded_eq 112 (by decide) DU r ⟨1728 + k.val, by omega⟩ _

theorem entry_last (h : RealArgs m c X G W DU) (r : Fin 8320) (k : Fin 128) :
    V m c main_v21 (ix2 r k) = ((last (padded 112 DU r) k : ℝ) : EReal) := by
  rw [step_v21, step_v13]
  pointwise [h.du]
  unfold last padded
  repeat' split
  all_goals first | rfl | (exfalso; omega)

theorem entry_x (h : RealArgs m c X G W DU) (r : Fin 8320) (k : Fin 1024) :
    V m c main_v23 (ix2 r k) = ((padded 112 X r k : ℝ) : EReal) := by
  entry_read
  pointwise [h.x]
  exact padded_eq 112 (by decide) _ r k _

theorem entry_dh (r : Fin 8320) (k : Fin 1024) :
    V m c main_v26 (ix2 r k) = if h : r.val < 112 then (0 : EReal) else m ((c : Thread nD τ).loc main_arg3) (ix2 ⟨r.val - 112, by omega⟩ k) := by
  entry_read
  pointwise []

theorem entry_g (h : RealArgs m c X G W DU) (k : Fin 1024) :
    V m c main_v24 (ix2 0 k) = ((G (ix1 k) : ℝ) : EReal) := by
  entry_read
  pointwise [h.g]

/-- A row of the weight, packed as the kernel reads it. -/
theorem entry_w (h : RealArgs m c X G W DU) (j : Fin 1024) (k : Fin 3456) :
    V m c main_v5 (ix2 j k) = ((if h : k.val < 768 then first (fun k => W (ix2 j k)) ⟨k.val, h⟩
      else if h' : k.val < 3328 then W (ix2 j ⟨k.val - 64, by omega⟩) else last (fun k => W (ix2 j k)) ⟨k.val - 3328, by omega⟩ : ℝ) : EReal) := by
  rw [step_v5]
  pointwise [h.w]
  unfold first last
  dsimp only
  repeat' split
  all_goals first | rfl | (exfalso; omega) | exact congrArg (fun k => ((W (ix2 j k) : ℝ) : EReal)) (Fin.ext (by dsimp only; omega))

/-! ## The blocks at a grid point -/

theorem block_first (h : RealArgs m c X G W DU) (t : Fin cfg0.N) (a : Fin 320) (k : Fin 768) :
    iblk m c 0 t (ix2 a k) = ((first (padded 112 DU (row t a)) k : ℝ) : EReal) :=
  (show iblk m c 0 t (ix2 a k) = V m c main_v15 (ix2 (row t a) k) by blk_ext [iblk, idx t, row]).trans (entry_first h _ _)

theorem block_z (h : RealArgs m c X G W DU) (t : Fin cfg0.N) (a : Fin 320) (k : Fin 1024) :
    iblk m c 1 t (ix2 a k) = ((padded 112 DU (row t a) ⟨704 + k.val, by omega⟩ : ℝ) : EReal) :=
  (show iblk m c 1 t (ix2 a k) = V m c main_v17 (ix2 (row t a) k) by blk_ext [iblk, idx t, row]).trans (entry_z h _ _)

theorem block_xbc (h : RealArgs m c X G W DU) (t : Fin cfg0.N) (a : Fin 320) (k : Fin 1536) :
    iblk m c 2 t (ix2 a k) = ((padded 112 DU (row t a) ⟨1728 + k.val, by omega⟩ : ℝ) : EReal) :=
  (show iblk m c 2 t (ix2 a k) = V m c main_v19 (ix2 (row t a) k) by blk_ext [iblk, idx t, row]).trans (entry_xbc h _ _)

theorem block_last (h : RealArgs m c X G W DU) (t : Fin cfg0.N) (a : Fin 320) (k : Fin 128) :
    iblk m c 3 t (ix2 a k) = ((last (padded 112 DU (row t a)) k : ℝ) : EReal) :=
  (show iblk m c 3 t (ix2 a k) = V m c main_v21 (ix2 (row t a) k) by blk_ext [iblk, idx t, row]).trans (entry_last h _ _)

theorem block_w (h : RealArgs m c X G W DU) (t : Fin cfg0.N) (j : Fin 1024) (k : Fin 3456) :
    iblk m c 4 t (ix2 j k) = ((if h : k.val < 768 then first (fun k => W (ix2 j k)) ⟨k.val, h⟩
      else if h' : k.val < 3328 then W (ix2 j ⟨k.val - 64, by omega⟩) else last (fun k => W (ix2 j k)) ⟨k.val - 3328, by omega⟩ : ℝ) : EReal) :=
  (show iblk m c 4 t (ix2 j k) = V m c main_v5 (ix2 j k) by blk_ext [iblk, idx t]).trans (entry_w h _ _)

/-! The weight's four groups, as the kernel loads them. -/

theorem block_w0 (h : RealArgs m c X G W DU) (t : Fin cfg0.N) (j : Fin 1024) (k : Fin 768) :
    iblk m c 4 t (ix2 j ⟨k.val, by omega⟩) = ((first (fun k => W (ix2 j k)) k : ℝ) : EReal) := by
  rw [block_w h, dif_pos k.isLt]

theorem block_w1 (h : RealArgs m c X G W DU) (t : Fin cfg0.N) (j : Fin 1024) (k : Fin 1024) :
    iblk m c 4 t (ix2 j ⟨768 + k.val, by omega⟩) = ((W (ix2 j ⟨704 + k.val, by omega⟩) : ℝ) : EReal) := by
  rw [block_w h, dif_neg (by dsimp only; omega), dif_pos (by dsimp only; omega)]
  exact congrArg (fun k => ((W (ix2 j k) : ℝ) : EReal)) (Fin.ext (by dsimp only; omega))

theorem block_w2 (h : RealArgs m c X G W DU) (t : Fin cfg0.N) (j : Fin 1024) (k : Fin 1536) :
    iblk m c 4 t (ix2 j ⟨1792 + k.val, by omega⟩) = ((W (ix2 j ⟨1728 + k.val, by omega⟩) : ℝ) : EReal) := by
  rw [block_w h, dif_neg (by dsimp only; omega), dif_pos (by dsimp only; omega)]
  exact congrArg (fun k => ((W (ix2 j k) : ℝ) : EReal)) (Fin.ext (by dsimp only; omega))

theorem block_w3 (h : RealArgs m c X G W DU) (t : Fin cfg0.N) (j : Fin 1024) (k : Fin 128) :
    iblk m c 4 t (ix2 j ⟨3328 + k.val, by omega⟩) = ((last (fun k => W (ix2 j k)) k : ℝ) : EReal) := by
  rw [block_w h, dif_neg (by dsimp only; omega), dif_neg (by dsimp only; omega)]
  exact congrArg (fun k => ((last (fun k => W (ix2 j k)) k : ℝ) : EReal)) (Fin.ext (by dsimp only; omega))

theorem block_x (h : RealArgs m c X G W DU) (t : Fin cfg0.N) (a : Fin 320) (k : Fin 1024) :
    iblk m c 5 t (ix2 a k) = ((padded 112 X (row t a) k : ℝ) : EReal) :=
  (show iblk m c 5 t (ix2 a k) = V m c main_v23 (ix2 (row t a) k) by blk_ext [iblk, idx t, row]).trans (entry_x h _ _)

theorem block_g (h : RealArgs m c X G W DU) (t : Fin cfg0.N) (k : Fin 1024) :
    iblk m c 6 t (ix2 0 k) = ((G (ix1 k) : ℝ) : EReal) :=
  (show iblk m c 6 t (ix2 0 k) = V m c main_v24 (ix2 0 k) by blk_ext [iblk, idx t]).trans (entry_g h _)

theorem block_dh (t : Fin cfg0.N) (a : Fin 320) (k : Fin 1024) :
    iblk m c 7 t (ix2 a k) = V m c main_v26 (ix2 (row t a) k) := by blk_ext [iblk, idx t, row]

/-! ## The two results -/

/-- The gradient of the norm's result at row `r` of the padded array: the product of `du` with the transposed weight. -/
def dy (W : S1024x3280.Idx → ℝ) (DU : S8208x3280.Idx → ℝ) (r : Fin 8320) (j : Fin 1024) : ℝ :=
  ∑ k : Fin 3280, padded 112 DU r k * W (ix2 j k)

/-- The four partial products of a row are the whole product. -/
theorem dy_chunks (r : Fin 8320) (j : Fin 1024) :
    (∑ k, first (padded 112 DU r) k * first (fun k => W (ix2 j k)) k)
      + (∑ k : Fin 1024, padded 112 DU r ⟨704 + k.val, by omega⟩ * W (ix2 j ⟨704 + k.val, by omega⟩))
      + (∑ k : Fin 1536, padded 112 DU r ⟨1728 + k.val, by omega⟩ * W (ix2 j ⟨1728 + k.val, by omega⟩))
      + (∑ k, last (padded 112 DU r) k * last (fun k => W (ix2 j k)) k) = dy W DU r j :=
  four_groups (padded 112 DU r) fun k => W (ix2 j k)

/-- The gradient of the gain is this, summed over the rows. -/
def gainTerm (X : S8208x1024.Idx → ℝ) (W : S1024x3280.Idx → ℝ) (DU : S8208x3280.Idx → ℝ) (r : Fin 8320) (j : Fin 1024) : ℝ :=
  dy W DU r j * (padded 112 X r j * inv 1024 (padded 112 X r))

/-- The gradient of the norm's argument plus the residual's gradient `dh`, over the padded rows. -/
def rowGrad (X : S8208x1024.Idx → ℝ) (G : S1024.Idx → ℝ) (W : S1024x3280.Idx → ℝ) (DU : S8208x3280.Idx → ℝ)
    (dh : S8320x1024.Idx → EReal) (i : S8320x1024.Idx) : EReal :=
  ((back 1024 (padded 112 X (i 0)) (fun k => G (ix1 k)) (dy W DU (i 0)) (i 1) : ℝ) : EReal) + dh i

/-- Where element `(a, k)` of point `t`'s block of the first result lies in the array. -/
theorem place (t : Fin cfg0.N) (a : Fin 320) (k : Fin 1024) :
    ((View.whole main_v27_0).slice (win0_8.rect t)).emb (ix2 a k) = ix2 (row t a) k := by blk_ext [idx t, row]

theorem final8 (h : RealArgs m c X G W DU) : (dats m 0 c).arrAt 8 cfg0.N = rowGrad X G W DU (V m c main_v26) := by
  refine (dats m 0 c).arrAt_eq_of_covers 8 _ (by decide +kernel) fun t hf y => ?_
  blk_simp
  rw [after0_8]
  by_cases h0 : t.val % 26 = 0
  · have h1 : ¬ 1 ≤ t.val := by have := lt_of_lt_of_eq t.isLt N_0; omega
    rw [outsAt0_A m c t h0 h1]
    frame_out
    idx_vars y
    pointwise [k0_pay1, k0_pay2, k0_pay4, k0_pay6, k0_pay7, k0_pay8, k0_pay9, block_first h t, block_z h t, block_xbc h t, block_last h t, block_w0 h t, block_w1 h t, block_w2 h t, block_w3 h t, block_x h t, block_g h t, block_dh t, ofBits_1024, ofBits_eps]
    simp only [← EReal.coe_mul, coe_sum, ← EReal.coe_add, rsqrt_meanSq_coe (show (0 : ℝ) < 1024 by norm_num), dy_chunks,
      div_real (show (1024 : ℝ) ≠ 0 by norm_num), ← EReal.coe_sub]
    exact (congrArg (rowGrad X G W DU (V m c main_v26)) (place t y0 y1)).symm
  · have h1 : 1 ≤ t.val := by omega
    rw [outsAt0_B m c t h0 h1]
    frame_out
    idx_vars y
    pointwise [k0_pay1, k0_pay2, k0_pay4, k0_pay6, k0_pay7, k0_pay8, k0_pay9, block_first h t, block_z h t, block_xbc h t, block_last h t, block_w0 h t, block_w1 h t, block_w2 h t, block_w3 h t, block_x h t, block_g h t, block_dh t, ofBits_1024, ofBits_eps]
    simp only [← EReal.coe_mul, coe_sum, ← EReal.coe_add, rsqrt_meanSq_coe (show (0 : ℝ) < 1024 by norm_num), dy_chunks,
      div_real (show (1024 : ℝ) ≠ 0 by norm_num), ← EReal.coe_sub]
    exact (congrArg (rowGrad X G W DU (V m c main_v26)) (place t y0 y1)).symm

theorem final9 (h : RealArgs m c X G W DU) : (dats m 0 c).arrAt 9 cfg0.N = fun i : S1x1024.Idx =>
    ((∑ r : Fin 8320, gainTerm X W DU r (i 1) : ℝ) : EReal) := by
  refine (dats m 0 c).arrAt_eq_of_covers 9 _ (by decide +kernel) fun t hf y => ?_
  blk_simp
  rw [after0_9, Pipeline.eq_sum_fin_of_reset_step_apply_of_flush (fun n h => (outsAt0 m c n h).2) 26 (fun _ => (0 : EReal))
    (fun p j => ((∑ a : Fin 320, gainTerm X W DU (row p a) (j 1) : ℝ) : EReal))
    (fun t h0 j => ?_) (fun t h0 j => ?_) t ((flush0_9 t).mp hf) y]
  · idx_vars y
    have hy : ((View.whole main_v27_1).slice (win0_9.rect t)).emb (ix2 y0 y1) = ix2 y0 y1 := by blk_ext [idx t]
    refine Eq.trans ?_ (congrArg (fun i : S1x1024.Idx => ((∑ r : Fin 8320, gainTerm X W DU r (i 1) : ℝ) : EReal)) hy).symm
    rw [zero_add]
    show (_ : EReal) = _
    rw [coe_sum, Fin.sum_univ_tiles 26 320 rfl]
    have ht := lt_of_lt_of_eq t.isLt N_0
    refine congrArg _ (Finset.sum_congr rfl fun s _ => Finset.sum_congr rfl fun a _ => ?_)
    refine congrArg (gainTerm X W DU · y1) (Fin.ext ?_)
    simp only [row]
    omega
  · have h1 : ¬ 1 ≤ t.val := by have := lt_of_lt_of_eq t.isLt N_0; omega
    rw [outsAt0_A m c t h0 h1]
    frame_out
    idx_vars j
    pointwise [k0_pay1, k0_pay2, k0_pay3, k0_pay6, k0_pay7, k0_pay8, k0_pay9, block_first h t, block_z h t, block_xbc h t, block_last h t, block_w0 h t, block_w1 h t, block_w2 h t, block_w3 h t, block_x h t, block_g h t, block_dh t, ofBits_1024, ofBits_eps]
    simp only [← EReal.coe_mul, coe_sum, ← EReal.coe_add, rsqrt_meanSq (show (0 : ℝ) < 1024 by norm_num), dy_chunks, zero_add]
    rfl
  · have h1 : 1 ≤ t.val := by omega
    rw [outsAt0_B m c t h0 h1]
    frame_out
    idx_vars j
    pointwise [k0_pay1, k0_pay2, k0_pay3, k0_pay5, k0_pay6, k0_pay7, k0_pay8, k0_pay9, block_first h t, block_z h t, block_xbc h t, block_last h t, block_w0 h t, block_w1 h t, block_w2 h t, block_w3 h t, block_x h t, block_g h t, block_dh t, ofBits_1024, ofBits_eps]
    simp only [← EReal.coe_mul, coe_sum, ← EReal.coe_add, rsqrt_meanSq (show (0 : ℝ) < 1024 by norm_num), dy_chunks]
    rfl

end Cert.InprojIdeal.Value

end
-- ==== Proof.InprojReference.lean ====
/- What differentiating the input projection's forward lines gives, over real arguments. -/
module

public import proofs.«01_k».proof.Proof.Gen.InprojRefIdeal.Run
public import proofs.«01_k».proof.Proof.Gen.InprojRefIdeal.Read
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InprojRefIdeal.Read

open Cert.InprojRefIdeal Cert.InprojRefIdeal.Gen Cert.Reals Cert.Rms

variable (X : S8208x1024.Idx → ℝ) (G : S1024.Idx → ℝ) (W : S1024x3280.Idx → ℝ) (DU : S8208x3280.Idx → ℝ)

/-- The gradient of the norm's result at row `r`. -/
def dy (r : Fin 8208) (j : Fin 1024) : ℝ := ∑ k : Fin 3280, DU (ix2 r k) * W (ix2 j k)

theorem scale (r : Fin 8208) (o : Fin 1) :
    val_main_v7 (F := Ideal) (fun i => ((X i : ℝ) : EReal)) (ix2 r o) = ((inv 1024 (fun k => X (ix2 r k)) : ℝ) : EReal) := by
  pointwise [val_main_v7, val_main_v6, val_main_v5, val_main_v4, val_main_v3, val_main_v2, val_main_v1, val_main_v0, val_main_cst, val_main_cst_0, val_main_cst_1, ofBits_1024, ofBits_eps]
  simp only [← EReal.coe_mul, coe_sum]
  exact rsqrt_meanSq (by norm_num) _

/-- The mean square with the norm's small constant. -/
theorem mean (r : Fin 8208) (o : Fin 1) :
    val_main_v6 (F := Ideal) (fun i => ((X i : ℝ) : EReal)) (ix2 r o) = ((meanSq 1024 (fun k => X (ix2 r k)) : ℝ) : EReal) := by
  pointwise [val_main_v6, val_main_v5, val_main_v4, val_main_v3, val_main_v2, val_main_v1, val_main_v0, val_main_cst, val_main_cst_0, val_main_cst_1, ofBits_1024, ofBits_eps]
  simp only [← EReal.coe_mul, coe_sum, div_real (show (1024 : ℝ) ≠ 0 by norm_num), ← EReal.coe_add]
  rfl

/-- The gradient of the norm's result. -/
theorem product (r : Fin 8208) (j : Fin 1024) :
    val_main_v19 (F := Ideal) (fun i => ((W i : ℝ) : EReal)) (fun i => ((DU i : ℝ) : EReal)) (ix2 r j) = ((dy W DU r j : ℝ) : EReal) := by
  pointwise [val_main_v19]
  simp only [← EReal.coe_mul, coe_sum]
  rfl

/-- The gradient of the gain. -/
theorem gain (i : S1x1024.Idx) :
    val_main_v43 (F := Ideal) (fun i => ((X i : ℝ) : EReal)) (fun i => ((W i : ℝ) : EReal)) (fun i => ((DU i : ℝ) : EReal)) i
      = ((∑ r : Fin 8208, dy W DU r (i 1) * (X (ix2 r (i 1)) * inv 1024 (fun k => X (ix2 r k))) : ℝ) : EReal) := by
  idx_vars i
  pointwise [val_main_v43, val_main_v25, val_main_v22, val_main_v21, val_main_cst_3, val_main_cst_4, val_main_v20, val_main_v12, val_main_v11, scale X, product W DU]
  simp only [Finset.univ_unique, Finset.sum_singleton, ← EReal.coe_mul, coe_sum]
  simp only [mul_comm (dy W DU _ _)]

/-- The gradient of the norm's argument, with the residual's. -/
theorem rows (DH : S8208x1024.Idx → EReal) (r : Fin 8208) (j : Fin 1024) :
    val_main_v40 (F := Ideal) (fun i => ((X i : ℝ) : EReal)) (fun i => ((G i : ℝ) : EReal)) (fun i => ((W i : ℝ) : EReal)) DH (fun i => ((DU i : ℝ) : EReal)) (ix2 r j)
      = ((back 1024 (fun k => X (ix2 r k)) (fun k => G (ix1 k)) (dy W DU r) j : ℝ) : EReal) + DH (ix2 r j) := by
  pointwise [val_main_v40, val_main_v39, val_main_v38, val_main_v37, val_main_v36, val_main_v35, val_main_v34, val_main_v33, val_main_v32, val_main_v31,
    val_main_v30, val_main_v29, val_main_v28, val_main_v27, val_main_v26, val_main_v24, val_main_v23, val_main_v22, val_main_v14, val_main_v13,
    val_main_v10, val_main_v9, val_main_v8, val_main_cst_2, val_main_cst_3, val_main_cst_4, val_main_cst_5, val_main_cst_6, val_main_cst_7, ofBits_1024, ofBits_neg_half, scale X, mean X, product W DU]
  simp only [← EReal.coe_mul, coe_sum, div_real (show (1024 : ℝ) ≠ 0 by norm_num), div_real (meanSq_pos (show (0 : ℝ) < 1024 by norm_num) _).ne', Finset.univ_unique, Finset.sum_singleton]
  rw [← back_eq_vjp (show (0 : ℝ) < 1024 by norm_num)]
  rw [add_assoc, add_assoc, add_comm (DH _)]
  simp only [← EReal.coe_add, add_assoc]

end Cert.InprojRefIdeal.Read

end
-- ==== Proof.Inproj.lean ====
/- The gradient of the input projection and of the norm before it: the kernel and the differentiated forward lines agree. -/
module

public import proofs.«01_k».proof.Defs
public import proofs.«01_k».proof.Proof.InprojKernel
public import proofs.«01_k».proof.Proof.InprojReference
public import proofs.«01_k».proof.Proof.Gen.Pre_finite_inproj

@[expose] public section

set_option maxRecDepth 16384

noncomputable section

open Idealize.ShloMosaic Idealize.ShloMosaic.TcCoe Idealize.SL.Sem

namespace Cert.InprojClaim

open Cert.Reals Cert.Rms

/-- The precondition in the form the proofs use: four of the arguments are arrays of real numbers. -/
theorem real_args (m : (ℓ : Loc InprojIdeal.nD InprojIdeal.τ InprojIdeal.sig) → Buf (Elt Ideal) ℓ) (h : Pre_InprojIdeal_finite_inproj m) (c : Dev InprojIdeal.nD) :
    ∃ X G W DU, InprojIdeal.Value.RealArgs m c X G W DU := by
  have hc := congrFun (h c) (fun a => a.elim0)
  simp only [Pre_finite_inproj.fn, Pre_finite_inproj.fn_part1, andi_apply, andi_one] at hc
  obtain ⟨⟨⟨h0, h1⟩, h2⟩, h4⟩ := hc
  obtain ⟨X, hX⟩ := exists_real (fun _ => ofBits_inf) h0
  obtain ⟨G, hG⟩ := exists_real (fun _ => ofBits_inf) h1
  obtain ⟨W, hW⟩ := exists_real (fun _ => ofBits_inf) h2
  obtain ⟨DU, hDU⟩ := exists_real (fun _ => ofBits_inf) h4
  exact ⟨X, G, W, DU, hX, hG, hW, hDU⟩

/-- The row gradient over the padded rows, from the one over the real rows. -/
theorem rows_agree (m : (ℓ : Loc InprojIdeal.nD InprojIdeal.τ InprojIdeal.sig) → Buf (Elt Ideal) ℓ) (c : Dev InprojIdeal.nD)
    (X G W DU) (h : InprojIdeal.Value.RealArgs m c X G W DU) :
    InprojIdeal.Value.rowGrad X G W DU (InprojIdeal.Gen.V m c InprojIdeal.main_v26)
      = InprojRefIdeal.Read.val_main_v42 (F := Ideal) (fun i => ((X i : ℝ) : EReal)) (fun i => ((G i : ℝ) : EReal)) (fun i => ((W i : ℝ) : EReal))
          (m ((c : Thread InprojIdeal.nD InprojIdeal.τ).loc InprojIdeal.main_arg3)) (fun i => ((DU i : ℝ) : EReal)) := by
  funext i
  idx_vars i
  pointwise [InprojIdeal.Value.rowGrad, InprojRefIdeal.Read.val_main_v42, InprojRefIdeal.Read.rows, InprojRefIdeal.Read.val_main_v41, InprojRefIdeal.Read.val_main_cst_8]
  rcases Nat.lt_or_ge i0.val 112 with hi | hi
  · rw [dif_pos hi, InprojIdeal.Value.entry_dh, dif_pos hi, add_zero, back_zero _ _ _ _ fun k => ?_]
    · rfl
    · simp [InprojIdeal.Value.dy, padded_front _ i0 _ hi]
  · rw [dif_neg (by omega), InprojIdeal.Value.entry_dh, dif_neg (by omega)]
    obtain ⟨r, hr, rfl⟩ := exists_behind (n0 := 8208) 112 rfl i0 hi
    have e : (⟨112 + r.val - 112, by omega⟩ : Fin 8208) = r := Fin.ext (by dsimp only; omega)
    have hd : InprojIdeal.Value.dy W DU ⟨112 + r.val, by omega⟩ = InprojRefIdeal.Read.dy W DU r := by
      funext k; simp only [InprojIdeal.Value.dy, InprojRefIdeal.Read.dy, padded_behind]
    simp only [e, padded_behind, hd]

theorem gains_agree (X : InprojIdeal.S8208x1024.Idx → ℝ) (W : InprojIdeal.S1024x3280.Idx → ℝ) (DU : InprojIdeal.S8208x3280.Idx → ℝ) (j : Fin 1024) :
    ∑ r : Fin 8320, InprojIdeal.Value.gainTerm X W DU r j
      = ∑ r : Fin 8208, InprojRefIdeal.Read.dy W DU r j * (X (ix2 r j) * inv 1024 (fun k => X (ix2 r k))) := by
  rw [sum_behind (n0 := 8208) 112 rfl]
  · refine Finset.sum_congr rfl fun r _ => ?_
    simp only [InprojIdeal.Value.gainTerm, InprojIdeal.Value.dy, InprojRefIdeal.Read.dy, padded_behind]
  · intro r hr
    simp [InprojIdeal.Value.gainTerm, InprojIdeal.Value.dy, padded_front _ r _ hr]

theorem value : algebraic_InprojIdeal_InprojRefIdeal_pre_finite_inproj := by
  pair_intro
  · run_from InprojIdeal.Value.run_blocks m g
  · run_from InprojRefIdeal.Value.run m' g'
    · obtain ⟨X, G, W, DU, h⟩ := real_args m hpre c
      rw [InprojRefIdeal.Read.val_main_v42_eq, (hagree c).1, (hagree c).2.1, (hagree c).2.2.1, (hagree c).2.2.2.1, (hagree c).2.2.2.2, h.x, h.g, h.w, h.du,
        InprojIdeal.Value.final8 h]
      exact (rows_agree m c X G W DU h).symm
    · obtain ⟨X, G, W, DU, h⟩ := real_args m hpre c
      refine (InprojRefIdeal.Read.val_main_v43_eq _ _ _).trans ?_
      rw [h.x, h.w, h.du, InprojIdeal.Value.final9 h]
      funext i
      rw [InprojRefIdeal.Read.gain X W DU i]
      exact congrArg _ (gains_agree X W DU (i 1)).symm

/-- The differentiated forward lines run, and leave their arguments as they were. -/
theorem reference_frame : quiescent_InprojRefIdeal := fun m g _ =>
  (θ_run InprojRefIdeal.defs _ _).mono (fun r h => ⟨fun c => (h c).2.2, sem_eq_zero_of_no_sems rfl _⟩) (InprojRefIdeal.Value.run m g)

end Cert.InprojClaim

end
-- ==== Proof.MixoutMath.lean ====
/- The output projection's forward line and its gradient, over real arrays: what both programs are compared with. -/
module

public import proofs.«01_k».proof.Proof.Rms
public import Idealize.ShloMosaic.Lib.Pipeline.ValueKit
public import Idealize.ShloMosaic.Lib.Pointwise

@[expose] public section

noncomputable section

namespace Cert.Mixout

open Idealize.ShloMosaic Cert.Reals Cert.Rms
open scoped BigOperators

/-- An array of real numbers with two axes. -/
abbrev Arr (a b : ℕ) : Type := Shape.Idx ⟨2, ![a, b]⟩ → ℝ

/-- A row of real numbers. -/
abbrev Row (n : ℕ) : Type := Shape.Idx ⟨1, ![n]⟩ → ℝ

/-- Row `r` of the output projection's argument: the attention's result under its norm, and behind it the other mixer's. -/
def cat (X S : Arr 8208 1024) (G : Row 1024) (r : Fin 8208) (k : Fin 2048) : ℝ :=
  if h : k.val < 1024 then X (ix2 r ⟨k.val, h⟩) * inv 1024 (fun k => X (ix2 r k)) * G (ix1 ⟨k.val, h⟩) else S (ix2 r ⟨k.val - 1024, by omega⟩)

/-- The output projection. -/
def mix (X S : Arr 8208 1024) (G : Row 1024) (W : Arr 2048 1024) : Arr 8208 1024 := fun i => ∑ k, cat X S G (i 0) k * W (ix2 k (i 1))

/-- A row of the gradient of the output projection, given that row of its result and of the residual's gradient. -/
def dmix (P : Row 1024) (y dh : Fin 1024 → ℝ) : Fin 1024 → ℝ := back 1024 y (fun k => P (ix1 k)) dh

/-- A row of the gradient of the output projection's argument. -/
def dcat (W : Arr 2048 1024) (P : Row 1024) (y dh : Fin 1024 → ℝ) (k : Fin 2048) : ℝ := ∑ j, dmix P y dh j * W (ix2 k j)

/-- A row of the gradient of the attention's result. -/
def dattn (G : Row 1024) (W : Arr 2048 1024) (P : Row 1024) (x y dh : Fin 1024 → ℝ) : Fin 1024 → ℝ :=
  back 1024 x (fun k => G (ix1 k)) fun k => dcat W P y dh ⟨k.val, by omega⟩

/-- A head's sum of the products of the attention's result with its gradient. -/
def delta (G : Row 1024) (W : Arr 2048 1024) (P : Row 1024) (x y dh : Fin 1024 → ℝ) (g : Fin 8) : ℝ :=
  ∑ l : Fin 128, dattn G W P x y dh ⟨g.val * 128 + l.val, by omega⟩ * x ⟨g.val * 128 + l.val, by omega⟩

/-- A row's part of the gradient of the norm's gain behind the projection. -/
def postTerm (y dh : Fin 1024 → ℝ) (j : Fin 1024) : ℝ := dh j * (y j * inv 1024 y)

/-- A row's part of the gradient of the gain of the attention's norm. -/
def attnTerm (W : Arr 2048 1024) (P : Row 1024) (x y dh : Fin 1024 → ℝ) (j : Fin 1024) : ℝ :=
  dcat W P y dh ⟨j.val, by omega⟩ * (x j * inv 1024 x)

variable {G P : Row 1024} {W : Arr 2048 1024} {x y dh : Fin 1024 → ℝ}

/-! A row without a residual's gradient has no gradient at all. -/

theorem dmix_zero (h : ∀ k, dh k = 0) (j : Fin 1024) : dmix P y dh j = 0 := back_zero _ _ _ _ h j

theorem dcat_zero (h : ∀ k, dh k = 0) (k : Fin 2048) : dcat W P y dh k = 0 := by simp [dcat, dmix_zero h]

theorem dattn_zero (h : ∀ k, dh k = 0) (j : Fin 1024) : dattn G W P x y dh j = 0 := back_zero _ _ _ _ (fun k => dcat_zero h _) j

theorem delta_zero (h : ∀ k, dh k = 0) (g : Fin 8) : delta G W P x y dh g = 0 := by simp [delta, dattn_zero h]

theorem postTerm_zero (h : ∀ k, dh k = 0) (j : Fin 1024) : postTerm y dh j = 0 := by simp [postTerm, h]

theorem attnTerm_zero (h : ∀ k, dh k = 0) (j : Fin 1024) : attnTerm W P x y dh j = 0 := by simp [attnTerm, dcat_zero h]

end Cert.Mixout

end
-- ==== Proof.MixoutKernel.lean ====
/- What the kernel of the output projection's gradient leaves in its six result arrays, over real arguments. -/
module

public import proofs.«01_k».proof.Proof.Gen.MixoutIdeal.Value
public import proofs.«01_k».proof.Proof.MixoutMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixoutIdeal.Value

open Cert.MixoutIdeal Cert.MixoutIdeal.Gen Cert.Reals Cert.Rms Cert.Mixout

variable (m : (ℓ : Loc nD τ sig) → Buf (Elt Ideal) ℓ)

/-- The block index of every window at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] ∧ win0_10.index t = ![0, 0]
    ∧ win0_11.index t = ![0, t.val] :=
  (by decide +kernel : ∀ t : Fin grid0.N, _)

theorem coord : ∀ t : Fin cfg0.N, (grid0.coords t 0).val = t.val := (by decide +kernel : ∀ t : Fin grid0.N, _)

/-- The row of the whole array that row `a` of point `t`'s block is. -/
def row (t : Fin cfg0.N) (a : Fin 640) : Fin 8320 := ⟨t.val * 640 + a.val, by have := lt_of_lt_of_eq t.isLt N_0; omega⟩

/-- The argument arrays are arrays of real numbers. -/
structure RealArgs (c : Dev nD) (X S : Arr 8208 1024) (G : Row 1024) (W : Arr 2048 1024) (P : Row 1024) (DH : Arr 8208 1024) : Prop where
  x : m ((c : Thread nD τ).loc main_arg0) = fun i => ((X i : ℝ) : EReal)
  s : m ((c : Thread nD τ).loc main_arg1) = fun i => ((S i : ℝ) : EReal)
  g : m ((c : Thread nD τ).loc main_arg2) = fun i => ((G i : ℝ) : EReal)
  w : m ((c : Thread nD τ).loc main_arg3) = fun i => ((W i : ℝ) : EReal)
  p : m ((c : Thread nD τ).loc main_arg4) = fun i => ((P i : ℝ) : EReal)
  dh : m ((c : Thread nD τ).loc main_arg5) = fun i => ((DH i : ℝ) : EReal)

variable {m} {c : Dev nD} {X S : Arr 8208 1024} {G : Row 1024} {W : Arr 2048 1024} {P : Row 1024} {DH : Arr 8208 1024}

/-! ## The arrays when the grid starts -/

theorem step_v7 : V m c main_v7 = ((Host.rsqrt) ((addf) ((Host.divf) ((broadcastInDim S8208x1 ![0] bcast_S8208_S8208x1_0) (Host.reduceAdd ((mulf) (m ((c : Thread nD τ).loc main_arg0) : FVec Ideal S8208x1024 .f32) (m ((c : Thread nD τ).loc main_arg0) : FVec Ideal S8208x1024 .f32) : FVec Ideal S8208x1024 .f32) (constant (F := Ideal) S_ .f32 0x00000000#32 : FVec Ideal S_ .f32) reducesTo_S8208x1024_S8208_d1 h_S_ : FVec Ideal S8208 .f32) : FVec Ideal S8208x1 .f32) ((broadcastInDim S8208x1 ![] bcast_S_S8208x1) (constant (F := Ideal) S_ .f32 0x44800000#32 : FVec Ideal S_ .f32) : FVec Ideal S8208x1 .f32) : FVec Ideal S8208x1 .f32) ((broadcastInDim S8208x1 ![] bcast_S_S8208x1) (constant (F := Ideal) S_ .f32 0x358637BD#32 : FVec Ideal S_ .f32) : FVec Ideal S8208x1 .f32) : FVec Ideal S8208x1 .f32) : FVec Ideal S8208x1 .f32) := by
  entry_read
  rfl

theorem step_v13 : V m c main_v13 = (concatenate S8208x2048 1 [⟨S8208x1024, ((mulf) ((mulf) (m ((c : Thread nD τ).loc main_arg0) : FVec Ideal S8208x1024 .f32) ((broadcastInDim S8208x1024 ![0, 1] bcast_S8208x1_S8208x1024_0_1) (V m c main_v7 : FVec Ideal S8208x1 .f32) : FVec Ideal S8208x1024 .f32) : FVec Ideal S8208x1024 .f32) ((broadcastInDim S8208x1024 ![0, 1] bcast_S1x1024_S8208x1024_0_1) ((broadcastInDim S1x1024 ![1] bcast_S1024_S1x1024_1) (m ((c : Thread nD τ).loc main_arg2) : FVec Ideal S1024 .f32) : FVec Ideal S1x1024 .f32) : FVec Ideal S8208x1024 .f32) : FVec Ideal S8208x1024 .f32)⟩, ⟨S8208x1024, (m ((c : Thread nD τ).loc main_arg1) : FVec Ideal S8208x1024 .f32)⟩] concatenates_S8208x1024_S8208x1024_S8208x2048_d1 : FVec Ideal S8208x2048 .f32) := by
  entry_read
  rfl

theorem step_v14 : V m c main_v14 = (Host.dotGeneral (φ₁ := .f32) (φ₂ := .f32) dot_S8208x2048_S2048x1024_S8208x1024_1_0_0_1_n_n none (V m c main_v13 : FVec Ideal S8208x2048 .f32) (m ((c : Thread nD τ).loc main_arg3) : FVec Ideal S2048x1024 .f32) : FVec Ideal S8208x1024 .f32) := by
  entry_read
  rfl

theorem step_v16 : V m c main_v16 = (concatenate S8320x1024 0 [⟨S112x1024, ((broadcastInDim S112x1024 ![] bcast_S_S112x1024) (constant (F := Ideal) S_ .f32 0x00000000#32 : FVec Ideal S_ .f32) : FVec Ideal S112x1024 .f32)⟩, ⟨S8208x1024, (V m c main_v14 : FVec Ideal S8208x1024 .f32)⟩] concatenates_S112x1024_S8208x1024_S8320x1024_d0 : FVec Ideal S8320x1024 .f32) := by
  entry_read
  rfl

theorem entry_scale (h : RealArgs m c X S G W P DH) (r : Fin 8208) (o : Fin 1) :
    V m c main_v7 (ix2 r o) = ((inv 1024 (fun k => X (ix2 r k)) : ℝ) : EReal) := by
  rw [step_v7]
  pointwise [h.x, ofBits_1024, ofBits_eps]
  simp only [← EReal.coe_mul, coe_sum]
  exact rsqrt_meanSq (by norm_num) _

theorem entry_cat (h : RealArgs m c X S G W P DH) (r : Fin 8208) (k : Fin 2048) :
    V m c main_v13 (ix2 r k) = ((cat X S G r k : ℝ) : EReal) := by
  rw [step_v13]
  pointwise [h.x, h.s, h.g, entry_scale h]
  unfold cat
  repeat' split
  all_goals first | rfl | (exfalso; omega)

theorem entry_mix (h : RealArgs m c X S G W P DH) (r : Fin 8208) (j : Fin 1024) :
    V m c main_v14 (ix2 r j) = ((mix X S G W (ix2 r j) : ℝ) : EReal) := by
  rw [step_v14]
  pointwise [h.w, entry_cat h]
  simp only [← EReal.coe_mul, coe_sum]
  rfl

theorem entry_y (h : RealArgs m c X S G W P DH) (r : Fin 8320) (j : Fin 1024) :
    V m c main_v16 (ix2 r j) = ((padded 112 (mix X S G W) r j : ℝ) : EReal) := by
  rw [step_v16]
  pointwise [entry_mix h]
  exact padded_eq 112 (by decide) _ r j _

theorem entry_p (h : RealArgs m c X S G W P DH) (k : Fin 1024) : V m c main_v17 (ix2 0 k) = ((P (ix1 k) : ℝ) : EReal) := by
  entry_read
  pointwise [h.p]

theorem entry_dh (h : RealArgs m c X S G W P DH) (r : Fin 8320) (k : Fin 1024) :
    V m c main_v19 (ix2 r k) = ((padded 112 DH r k : ℝ) : EReal) := by
  entry_read
  pointwise [h.dh]
  exact padded_eq 112 (by decide) _ r k _

theorem entry_x (h : RealArgs m c X S G W P DH) (r : Fin 8320) (k : Fin 1024) :
    V m c main_v21 (ix2 r k) = ((padded 112 X r k : ℝ) : EReal) := by
  entry_read
  pointwise [h.x]
  exact padded_eq 112 (by decide) _ r k _

theorem entry_g (h : RealArgs m c X S G W P DH) (k : Fin 1024) : V m c main_v22 (ix2 0 k) = ((G (ix1 k) : ℝ) : EReal) := by
  entry_read
  pointwise [h.g]

theorem entry_w (h : RealArgs m c X S G W P DH) (j : Fin 2048) (k : Fin 1024) : V m c main_v23 (ix2 j k) = ((W (ix2 j k) : ℝ) : EReal) := by
  entry_read
  pointwise [h.w]

/-! ## The blocks at a grid point -/

theorem block_y (h : RealArgs m c X S G W P DH) (t : Fin cfg0.N) (a : Fin 640) (k : Fin 1024) :
    iblk m c 0 t (ix2 a k) = ((padded 112 (mix X S G W) (row t a) k : ℝ) : EReal) :=
  (show iblk m c 0 t (ix2 a k) = V m c main_v16 (ix2 (row t a) k) by blk_ext [iblk, idx t, row]).trans (entry_y h _ _)

theorem block_p (h : RealArgs m c X S G W P DH) (t : Fin cfg0.N) (k : Fin 1024) :
    iblk m c 1 t (ix2 0 k) = ((P (ix1 k) : ℝ) : EReal) :=
  (show iblk m c 1 t (ix2 0 k) = V m c main_v17 (ix2 0 k) by blk_ext [iblk, idx t, row]).trans (entry_p h _)

theorem block_dh (h : RealArgs m c X S G W P DH) (t : Fin cfg0.N) (a : Fin 640) (k : Fin 1024) :
    iblk m c 2 t (ix2 a k) = ((padded 112 DH (row t a) k : ℝ) : EReal) :=
  (show iblk m c 2 t (ix2 a k) = V m c main_v19 (ix2 (row t a) k) by blk_ext [iblk, idx t, row]).trans (entry_dh h _ _)

theorem block_x (h : RealArgs m c X S G W P DH) (t : Fin cfg0.N) (a : Fin 640) (k : Fin 1024) :
    iblk m c 3 t (ix2 a k) = ((padded 112 X (row t a) k : ℝ) : EReal) :=
  (show iblk m c 3 t (ix2 a k) = V m c main_v21 (ix2 (row t a) k) by blk_ext [iblk, idx t, row]).trans (entry_x h _ _)

theorem block_g (h : RealArgs m c X S G W P DH) (t : Fin cfg0.N) (k : Fin 1024) :
    iblk m c 4 t (ix2 0 k) = ((G (ix1 k) : ℝ) : EReal) :=
  (show iblk m c 4 t (ix2 0 k) = V m c main_v22 (ix2 0 k) by blk_ext [iblk, idx t, row]).trans (entry_g h _)

theorem block_w (h : RealArgs m c X S G W P DH) (t : Fin cfg0.N) (j : Fin 2048) (k : Fin 1024) :
    iblk m c 5 t (ix2 j k) = ((W (ix2 j k) : ℝ) : EReal) :=
  (show iblk m c 5 t (ix2 j k) = V m c main_v23 (ix2 j k) by blk_ext [iblk, idx t, row]).trans (entry_w h _ _)

/-! ## The values of a grid point -/

/-- The kernel's comparison of a row's number with the number of rows in front. -/
theorem behind (t : Fin cfg0.N) (a : Fin 640) :
    IntOp.cmpi CmpIPredicate.sge (IntOp.addi (Scalar.muli (BitVec.ofNat 32 t.val) 640#32) (BitVec.ofNat 32 a.val)) 112#32
      = BitVec.ofBool (decide (112 ≤ (row t a).val)) := by
  have ht := lt_of_lt_of_eq t.isLt N_0
  have e : IntOp.addi (Scalar.muli (BitVec.ofNat 32 t.val) 640#32) (BitVec.ofNat 32 a.val) = BitVec.ofNat 32 (t.val * 640 + a.val) := by
    rw [BitVec.ofNat_add, BitVec.ofNat_mul]; rfl
  rw [e]
  exact WordCmp.cmpi_sge_ofNat (by omega) (by norm_num)

theorem masked (h : RealArgs m c X S G W P DH) (t : Fin cfg0.N) (a : Fin 640) (k : Fin 1024) :
    k0_pay3 (grid0.coords t) (iblk m c 2 t) (ix2 a k) = ((padded 112 DH (row t a) k : ℝ) : EReal) := by
  pointwise [k0_pay3, block_dh h t, coord t]
  rw [behind]
  by_cases hr : 112 ≤ (row t a).val
  · rw [decide_eq_true hr]; exact select_one _ _
  · rw [decide_eq_false hr, padded_front _ _ _ (by omega)]; exact select_zero _ _

theorem scale_y (h : RealArgs m c X S G W P DH) (t : Fin cfg0.N) (a : Fin 640) (o : Fin 1) :
    k0_pay4 (iblk m c 0 t) (ix2 a o) = ((inv 1024 (padded 112 (mix X S G W) (row t a)) : ℝ) : EReal) := by
  pointwise [k0_pay4, k0_pay2, block_y h t, ofBits_1024, ofBits_eps]
  simp only [← EReal.coe_mul, coe_sum]
  exact rsqrt_meanSq (show (0 : ℝ) < 1024 by norm_num) _

theorem value_dmix (h : RealArgs m c X S G W P DH) (t : Fin cfg0.N) (a : Fin 640) (k : Fin 1024) :
    k0_pay7 (grid0.coords t) (iblk m c 0 t) (iblk m c 1 t) (iblk m c 2 t) (ix2 a k)
      = ((dmix P (padded 112 (mix X S G W) (row t a)) (padded 112 DH (row t a)) k : ℝ) : EReal) := by
  pointwise [k0_pay7, k0_pay5, k0_pay2, masked h t, scale_y h t, block_y h t, block_p h t, ofBits_1024]
  simp only [← EReal.coe_mul, coe_sum, div_real (show (1024 : ℝ) ≠ 0 by norm_num), ← EReal.coe_sub]
  rfl

theorem scale_x (h : RealArgs m c X S G W P DH) (t : Fin cfg0.N) (a : Fin 640) (o : Fin 1) :
    k0_pay12 (iblk m c 3 t) (ix2 a o) = ((inv 1024 (padded 112 X (row t a)) : ℝ) : EReal) := by
  pointwise [k0_pay12, k0_pay10, block_x h t, ofBits_1024, ofBits_eps]
  simp only [← EReal.coe_mul, coe_sum]
  exact rsqrt_meanSq (show (0 : ℝ) < 1024 by norm_num) _

theorem value_lower (h : RealArgs m c X S G W P DH) (t : Fin cfg0.N) (a : Fin 640) (k : Fin 1024) :
    k0_pay9 (k0_pay7 (grid0.coords t) (iblk m c 0 t) (iblk m c 1 t) (iblk m c 2 t))
        (View.ld (iblk m c 5 t) (Rect.unit ![1024, 0] ![1024, 1024] inb_S2048x1024_S1024x1024_1024_0)) (ix2 a k)
      = ((dcat W P (padded 112 (mix X S G W) (row t a)) (padded 112 DH (row t a)) ⟨1024 + k.val, by omega⟩ : ℝ) : EReal) := by
  pointwise [k0_pay9, value_dmix h t, block_w h t]
  simp only [← EReal.coe_mul, coe_sum]
  rfl

theorem value_upper (h : RealArgs m c X S G W P DH) (t : Fin cfg0.N) (a : Fin 640) (k : Fin 1024) :
    k0_pay11 (k0_pay7 (grid0.coords t) (iblk m c 0 t) (iblk m c 1 t) (iblk m c 2 t))
        (View.ld (iblk m c 5 t) (Rect.unit ![0, 0] ![1024, 1024] inb_S2048x1024_S1024x1024_0_0)) (ix2 a k)
      = ((dcat W P (padded 112 (mix X S G W) (row t a)) (padded 112 DH (row t a)) ⟨k.val, by omega⟩ : ℝ) : EReal) := by
  pointwise [k0_pay11, value_dmix h t, block_w h t]
  simp only [← EReal.coe_mul, coe_sum]
  rfl

theorem value_dattn (h : RealArgs m c X S G W P DH) (t : Fin cfg0.N) (a : Fin 640) (k : Fin 1024) :
    k0_pay16 (k0_pay12 (iblk m c 3 t))
      (k0_pay14 (k0_pay7 (grid0.coords t) (iblk m c 0 t) (iblk m c 1 t) (iblk m c 2 t)) (iblk m c 4 t)
        (View.ld (iblk m c 5 t) (Rect.unit ![0, 0] ![1024, 1024] inb_S2048x1024_S1024x1024_0_0)))
      (k0_pay15 (k0_pay7 (grid0.coords t) (iblk m c 0 t) (iblk m c 1 t) (iblk m c 2 t)) (iblk m c 3 t) (iblk m c 4 t)
        (View.ld (iblk m c 5 t) (Rect.unit ![0, 0] ![1024, 1024] inb_S2048x1024_S1024x1024_0_0))) (ix2 a k)
      = ((dattn G W P (padded 112 X (row t a)) (padded 112 (mix X S G W) (row t a)) (padded 112 DH (row t a)) k : ℝ) : EReal) := by
  pointwise [k0_pay16, k0_pay15, k0_pay14, k0_pay13, k0_pay10, scale_x h t, value_upper h t, block_x h t, block_g h t, ofBits_1024]
  simp only [← EReal.coe_mul, coe_sum, div_real (show (1024 : ℝ) ≠ 0 by norm_num), ← EReal.coe_sub]
  rfl

/-- A comparison of words as a number. -/
theorem flag (x y : BitVec 32) : (FloatOps.sitofp FTy.f32 (BitVec.setWidth 32 (IntOp.cmpi CmpIPredicate.eq x y)) : Ideal .f32) = if x = y then (1 : EReal) else 0 := by
  rw [WordCmp.cmpi_eq_eq]
  by_cases h : x = y
  · rw [if_pos h, decide_eq_true h]
    show ((((1#32).toInt : ℝ)) : EReal) = 1
    norm_num
  · rw [if_neg h, decide_eq_false h]
    show ((((0#32).toInt : ℝ)) : EReal) = 0
    norm_num

theorem flag_one : (FloatOps.sitofp FTy.f32 (BitVec.setWidth 32 1#1) : Ideal .f32) = (1 : EReal) := by
  show ((((1#32).toInt : ℝ)) : EReal) = 1
  norm_num

/-- The kernel's eight columns of sums over a head's columns, turned on their side: head `g`'s sums are row `g`. -/
theorem lanes (x : Vec Ideal S640x1024 .f32) (v : FVec Ideal S640x1 .f32) (p q : FVec Ideal S640x1024 .f32) (g : Fin 8) (a : Fin 640) :
    k0_pay1 (iota Kind.tc S1x128 32 [1] iota_S1x128_d1_w32)
      (k0_pay23 (k0_pay19 x v p q) (iota Kind.tc S1x128 32 [1] iota_S1x128_d1_w32) (k0_pay20 x v p q) (k0_pay21 x v p q) k0_pay22)
      (k0_pay24 (k0_pay19 x v p q)) (ix2 g a)
      = ∑ l : Fin 128, k0_pay16 v p q (ix2 a ⟨g.val * 128 + l.val, by omega⟩) * x (ix2 a ⟨g.val * 128 + l.val, by omega⟩) := by
  fin_cases g
  all_goals pointwise [k0_pay1, k0_pay23, k0_pay24, k0_pay22, k0_pay21, k0_pay20, k0_pay19]
  all_goals simp only [flag, flag_one, BitVec.reduceEq, ↓reduceIte, if_false, mul_one, mul_zero, add_zero, zero_add]
  all_goals rfl

theorem value_delta (h : RealArgs m c X S G W P DH) (t : Fin cfg0.N) (g : Fin 8) (a : Fin 640) :
    (∑ l : Fin 128, k0_pay16 (k0_pay12 (iblk m c 3 t))
      (k0_pay14 (k0_pay7 (grid0.coords t) (iblk m c 0 t) (iblk m c 1 t) (iblk m c 2 t)) (iblk m c 4 t)
        (View.ld (iblk m c 5 t) (Rect.unit ![0, 0] ![1024, 1024] inb_S2048x1024_S1024x1024_0_0)))
      (k0_pay15 (k0_pay7 (grid0.coords t) (iblk m c 0 t) (iblk m c 1 t) (iblk m c 2 t)) (iblk m c 3 t) (iblk m c 4 t)
        (View.ld (iblk m c 5 t) (Rect.unit ![0, 0] ![1024, 1024] inb_S2048x1024_S1024x1024_0_0))) (ix2 a ⟨g.val * 128 + l.val, by omega⟩)
        * k0_pay10 (iblk m c 3 t) (ix2 a ⟨g.val * 128 + l.val, by omega⟩))
      = ((delta G W P (padded 112 X (row t a)) (padded 112 (mix X S G W) (row t a)) (padded 112 DH (row t a)) g : ℝ) : EReal) := by
  simp only [value_dattn h t]
  pointwise [k0_pay10, block_x h t]
  simp only [← EReal.coe_mul, coe_sum]
  rfl

/-- The `gradient of the projection, row by row`. -/
def out6 (X S : Arr 8208 1024) (G : Row 1024) (W : Arr 2048 1024) (P : Row 1024) (DH : Arr 8208 1024) : FVec Ideal S8320x1024 .bf16 := fun i =>
  ((dmix P (padded 112 (mix X S G W) (i 0)) (padded 112 DH (i 0)) (i 1) : ℝ) : EReal)

theorem place6 (t : Fin cfg0.N) (a : Fin 640) (k : Fin 1024) :
    ((View.whole main_v24_0).slice (win0_6.rect t)).emb (ix2 a k) = ix2 (row t a) k := by blk_ext [idx t, row]

theorem final6 (h : RealArgs m c X S G W P DH) : (dats m 0 c).arrAt 6 cfg0.N = out6 X S G W P DH := by
  refine (dats m 0 c).arrAt_eq_of_covers 6 _ (by decide +kernel) fun t hf y => ?_
  blk_simp
  rw [after0_6]
  by_cases h0 : t.val % 13 = 0
  · have h1 : ¬ 1 ≤ t.val := by have := lt_of_lt_of_eq t.isLt N_0; omega
    rw [outsAt0_A m c t h0 h1 h0 h1]
    frame_out
    idx_vars y
    exact (value_dmix h t _ _).trans (congrArg (out6 X S G W P DH) (place6 t y0 y1)).symm
  · have h1 : 1 ≤ t.val := by have := lt_of_lt_of_eq t.isLt N_0; omega
    rw [outsAt0_B m c t h0 h1 h0 h1]
    frame_out
    idx_vars y
    exact (value_dmix h t _ _).trans (congrArg (out6 X S G W P DH) (place6 t y0 y1)).symm

/-- The `other mixer's gradient`. -/
def out7 (X S : Arr 8208 1024) (G : Row 1024) (W : Arr 2048 1024) (P : Row 1024) (DH : Arr 8208 1024) : FVec Ideal S8320x1024 .f32 := fun i =>
  ((dcat W P (padded 112 (mix X S G W) (i 0)) (padded 112 DH (i 0)) ⟨1024 + (i 1).val, by have : (i 1).val < 1024 := (i 1).isLt; omega⟩ : ℝ) : EReal)

theorem place7 (t : Fin cfg0.N) (a : Fin 640) (k : Fin 1024) :
    ((View.whole main_v24_1).slice (win0_7.rect t)).emb (ix2 a k) = ix2 (row t a) k := by blk_ext [idx t, row]

theorem final7 (h : RealArgs m c X S G W P DH) : (dats m 0 c).arrAt 7 cfg0.N = out7 X S G W P DH := by
  refine (dats m 0 c).arrAt_eq_of_covers 7 _ (by decide +kernel) fun t hf y => ?_
  blk_simp
  rw [after0_7]
  by_cases h0 : t.val % 13 = 0
  · have h1 : ¬ 1 ≤ t.val := by have := lt_of_lt_of_eq t.isLt N_0; omega
    rw [outsAt0_A m c t h0 h1 h0 h1]
    frame_out
    idx_vars y
    exact (value_lower h t _ _).trans (congrArg (out7 X S G W P DH) (place7 t y0 y1)).symm
  · have h1 : 1 ≤ t.val := by have := lt_of_lt_of_eq t.isLt N_0; omega
    rw [outsAt0_B m c t h0 h1 h0 h1]
    frame_out
    idx_vars y
    exact (value_lower h t _ _).trans (congrArg (out7 X S G W P DH) (place7 t y0 y1)).symm

/-- The `gradient of the attention's result`. -/
def out8 (X S : Arr 8208 1024) (G : Row 1024) (W : Arr 2048 1024) (P : Row 1024) (DH : Arr 8208 1024) : FVec Ideal S8320x1024 .f32 := fun i =>
  ((dattn G W P (padded 112 X (i 0)) (padded 112 (mix X S G W) (i 0)) (padded 112 DH (i 0)) (i 1) : ℝ) : EReal)

theorem place8 (t : Fin cfg0.N) (a : Fin 640) (k : Fin 1024) :
    ((View.whole main_v24_2).slice (win0_8.rect t)).emb (ix2 a k) = ix2 (row t a) k := by blk_ext [idx t, row]

theorem final8 (h : RealArgs m c X S G W P DH) : (dats m 0 c).arrAt 8 cfg0.N = out8 X S G W P DH := by
  refine (dats m 0 c).arrAt_eq_of_covers 8 _ (by decide +kernel) fun t hf y => ?_
  blk_simp
  rw [after0_8]
  by_cases h0 : t.val % 13 = 0
  · have h1 : ¬ 1 ≤ t.val := by have := lt_of_lt_of_eq t.isLt N_0; omega
    rw [outsAt0_A m c t h0 h1 h0 h1]
    frame_out
    idx_vars y
    exact (value_dattn h t _ _).trans (congrArg (out8 X S G W P DH) (place8 t y0 y1)).symm
  · have h1 : 1 ≤ t.val := by have := lt_of_lt_of_eq t.isLt N_0; omega
    rw [outsAt0_B m c t h0 h1 h0 h1]
    frame_out
    idx_vars y
    exact (value_dattn h t _ _).trans (congrArg (out8 X S G W P DH) (place8 t y0 y1)).symm

/-- The `heads' sums`. -/
def out11 (X S : Arr 8208 1024) (G : Row 1024) (W : Arr 2048 1024) (P : Row 1024) (DH : Arr 8208 1024) : FVec Ideal S8x8320 .f32 := fun i =>
  ((delta G W P (padded 112 X (i 1)) (padded 112 (mix X S G W) (i 1)) (padded 112 DH (i 1)) (i 0) : ℝ) : EReal)

theorem place11 (t : Fin cfg0.N) (g : Fin 8) (a : Fin 640) :
    ((View.whole main_v24_5).slice (win0_11.rect t)).emb (ix2 g a) = ix2 g (row t a) := by blk_ext [idx t, row]

theorem final11 (h : RealArgs m c X S G W P DH) : (dats m 0 c).arrAt 11 cfg0.N = out11 X S G W P DH := by
  refine (dats m 0 c).arrAt_eq_of_covers 11 _ (by decide +kernel) fun t hf y => ?_
  blk_simp
  rw [after0_11]
  by_cases h0 : t.val % 13 = 0
  · have h1 : ¬ 1 ≤ t.val := by have := lt_of_lt_of_eq t.isLt N_0; omega
    rw [outsAt0_A m c t h0 h1 h0 h1]
    frame_out
    idx_vars y
    exact (lanes _ _ _ _ y0 y1).trans ((value_delta h t y0 y1).trans (congrArg (out11 X S G W P DH) (place11 t y0 y1)).symm)
  · have h1 : 1 ≤ t.val := by have := lt_of_lt_of_eq t.isLt N_0; omega
    rw [outsAt0_B m c t h0 h1 h0 h1]
    frame_out
    idx_vars y
    exact (lanes _ _ _ _ y0 y1).trans ((value_delta h t y0 y1).trans (congrArg (out11 X S G W P DH) (place11 t y0 y1)).symm)

/-- (X S : Arr 8208 1024) (G : Row 1024) (W : Arr 2048 1024) (P : Row 1024) (DH : Arr 8208 1024) row's part of the gradient of the gain behind the projection. -/
def term9 (X S : Arr 8208 1024) (G : Row 1024) (W : Arr 2048 1024) (P : Row 1024) (DH : Arr 8208 1024) (r : Fin 8320) (j : Fin 1024) : ℝ := postTerm (padded 112 (mix X S G W) r) (padded 112 DH r) j

/-- (X S : Arr 8208 1024) (G : Row 1024) (W : Arr 2048 1024) (P : Row 1024) (DH : Arr 8208 1024) row's part of the gradient of the gain of the attention's norm. -/
def term10 (X S : Arr 8208 1024) (G : Row 1024) (W : Arr 2048 1024) (P : Row 1024) (DH : Arr 8208 1024) (r : Fin 8320) (j : Fin 1024) : ℝ := attnTerm W P (padded 112 X r) (padded 112 (mix X S G W) r) (padded 112 DH r) j

theorem acc9 (h : RealArgs m c X S G W P DH) (t : Fin cfg0.N) (j : Fin 1024) : k0_pay6 (grid0.coords t) (iblk m c 0 t) (iblk m c 2 t) (ix2 0 j)
    = ((∑ a : Fin 640, term9 X S G W P DH (row t a) j : ℝ) : EReal) := by
  pointwise [k0_pay6, k0_pay5, k0_pay2, masked h t, scale_y h t, block_y h t]
  simp only [← EReal.coe_mul, coe_sum]
  rfl

theorem final9 (h : RealArgs m c X S G W P DH) : (dats m 0 c).arrAt 9 cfg0.N = fun i : S1x1024.Idx =>
    ((∑ r : Fin 8320, term9 X S G W P DH r (i 1) : ℝ) : EReal) := by
  refine (dats m 0 c).arrAt_eq_of_covers 9 _ (by decide +kernel) fun t hf y => ?_
  blk_simp
  rw [after0_9, Pipeline.eq_sum_fin_of_reset_step_apply_of_flush (fun n h => (outsAt0 m c n h).2.2.2.1) 13 (fun _ => (0 : EReal))
    (fun p j => ((∑ a : Fin 640, term9 X S G W P DH (row p a) (j 1) : ℝ) : EReal))
    (fun t h0 j => ?_) (fun t h0 j => ?_) t ((flush0_9 t).mp hf) y]
  · idx_vars y
    have hy : ((View.whole main_v24_3).slice (win0_9.rect t)).emb (ix2 y0 y1) = ix2 y0 y1 := by blk_ext [idx t]
    refine Eq.trans ?_ (congrArg (fun i : S1x1024.Idx => ((∑ r : Fin 8320, term9 X S G W P DH r (i 1) : ℝ) : EReal)) hy).symm
    rw [zero_add]
    show (_ : EReal) = _
    rw [coe_sum, Fin.sum_univ_tiles 13 640 rfl]
    have ht := lt_of_lt_of_eq t.isLt N_0
    refine congrArg _ (Finset.sum_congr rfl fun s _ => Finset.sum_congr rfl fun a _ => ?_)
    refine congrArg (term9 X S G W P DH · y1) (Fin.ext ?_)
    simp only [row]
    omega
  · have h1 : ¬ 1 ≤ t.val := by have := lt_of_lt_of_eq t.isLt N_0; omega
    rw [outsAt0_A m c t h0 h1 h0 h1]
    frame_out
    idx_vars j
    obtain rfl : j0 = 0 := Subsingleton.elim _ _
    rw [zero_add]
    exact acc9 h t j1
  · have h1 : 1 ≤ t.val := by omega
    rw [outsAt0_B m c t h0 h1 h0 h1]
    frame_out
    idx_vars j
    obtain rfl : j0 = 0 := Subsingleton.elim _ _
    pointwise [k0_pay8]
    exact congrArg (_ + ·) (acc9 h t j1)

theorem acc10 (h : RealArgs m c X S G W P DH) (t : Fin cfg0.N) (j : Fin 1024) : k0_pay17 (k0_pay11 (k0_pay7 (grid0.coords t) (iblk m c 0 t) (iblk m c 1 t) (iblk m c 2 t)) (View.ld (iblk m c 5 t) (Rect.unit ![0, 0] ![1024, 1024] inb_S2048x1024_S1024x1024_0_0))) (k0_pay13 (iblk m c 3 t)) (ix2 0 j)
    = ((∑ a : Fin 640, term10 X S G W P DH (row t a) j : ℝ) : EReal) := by
  pointwise [k0_pay17, k0_pay13, k0_pay10, value_upper h t, scale_x h t, block_x h t]
  simp only [← EReal.coe_mul, coe_sum]
  rfl

theorem final10 (h : RealArgs m c X S G W P DH) : (dats m 0 c).arrAt 10 cfg0.N = fun i : S1x1024.Idx =>
    ((∑ r : Fin 8320, term10 X S G W P DH r (i 1) : ℝ) : EReal) := by
  refine (dats m 0 c).arrAt_eq_of_covers 10 _ (by decide +kernel) fun t hf y => ?_
  blk_simp
  rw [after0_10, Pipeline.eq_sum_fin_of_reset_step_apply_of_flush (fun n h => (outsAt0 m c n h).2.2.2.2.1) 13 (fun _ => (0 : EReal))
    (fun p j => ((∑ a : Fin 640, term10 X S G W P DH (row p a) (j 1) : ℝ) : EReal))
    (fun t h0 j => ?_) (fun t h0 j => ?_) t ((flush0_10 t).mp hf) y]
  · idx_vars y
    have hy : ((View.whole main_v24_4).slice (win0_10.rect t)).emb (ix2 y0 y1) = ix2 y0 y1 := by blk_ext [idx t]
    refine Eq.trans ?_ (congrArg (fun i : S1x1024.Idx => ((∑ r : Fin 8320, term10 X S G W P DH r (i 1) : ℝ) : EReal)) hy).symm
    rw [zero_add]
    show (_ : EReal) = _
    rw [coe_sum, Fin.sum_univ_tiles 13 640 rfl]
    have ht := lt_of_lt_of_eq t.isLt N_0
    refine congrArg _ (Finset.sum_congr rfl fun s _ => Finset.sum_congr rfl fun a _ => ?_)
    refine congrArg (term10 X S G W P DH · y1) (Fin.ext ?_)
    simp only [row]
    omega
  · have h1 : ¬ 1 ≤ t.val := by have := lt_of_lt_of_eq t.isLt N_0; omega
    rw [outsAt0_A m c t h0 h1 h0 h1]
    frame_out
    idx_vars j
    obtain rfl : j0 = 0 := Subsingleton.elim _ _
    rw [zero_add]
    exact acc10 h t j1
  · have h1 : 1 ≤ t.val := by omega
    rw [outsAt0_B m c t h0 h1 h0 h1]
    frame_out
    idx_vars j
    obtain rfl : j0 = 0 := Subsingleton.elim _ _
    pointwise [k0_pay18]
    exact congrArg (_ + ·) (acc10 h t j1)

end Cert.MixoutIdeal.Value

end
-- ==== Proof.MixoutReference.lean ====
/- What differentiating the output projection's forward lines gives, over real arguments. -/
module

public import proofs.«01_k».proof.Proof.Gen.MixoutRefIdeal.Run
public import proofs.«01_k».proof.Proof.Gen.MixoutRefIdeal.Read
public import proofs.«01_k».proof.Proof.MixoutMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixoutRefIdeal.Read

open Cert.MixoutRefIdeal Cert.MixoutRefIdeal.Gen Cert.Reals Cert.Rms Cert.Mixout

variable (X S : Arr 8208 1024) (G : Row 1024) (W : Arr 2048 1024) (P : Row 1024) (DH : Arr 8208 1024)

/-- Row `r` of an array. -/
def rowAt (x : Arr 8208 1024) (r : Fin 8208) : Fin 1024 → ℝ := fun k => x (ix2 r k)

theorem scale_x (r : Fin 8208) (o : Fin 1) :
    val_main_v7 (F := Ideal) (fun i => ((X i : ℝ) : EReal)) (ix2 r o) = ((inv 1024 (rowAt X r) : ℝ) : EReal) := by
  pointwise [val_main_v7, val_main_v6, val_main_v5, val_main_v4, val_main_v3, val_main_v2, val_main_v1, val_main_v0, val_main_cst, val_main_cst_0, val_main_cst_1, ofBits_1024, ofBits_eps]
  simp only [← EReal.coe_mul, coe_sum]
  exact rsqrt_meanSq (by norm_num) _

/-- The mean square with the norm's small constant. -/
theorem mean_scale_x (r : Fin 8208) (o : Fin 1) :
    val_main_v6 (F := Ideal) (fun i => ((X i : ℝ) : EReal)) (ix2 r o) = ((meanSq 1024 (rowAt X r) : ℝ) : EReal) := by
  pointwise [val_main_v6, val_main_v5, val_main_v4, val_main_v3, val_main_v2, val_main_v1, val_main_v0, val_main_cst, val_main_cst_0, val_main_cst_1, ofBits_1024, ofBits_eps]
  simp only [← EReal.coe_mul, coe_sum, div_real (show (1024 : ℝ) ≠ 0 by norm_num), ← EReal.coe_add]
  rfl

theorem cat_eq (r : Fin 8208) (k : Fin 2048) :
    val_main_v16 (F := Ideal) (fun i => ((X i : ℝ) : EReal)) (fun i => ((S i : ℝ) : EReal)) (fun i => ((G i : ℝ) : EReal)) (ix2 r k) = ((cat X S G r k : ℝ) : EReal) := by
  pointwise [val_main_v16, val_main_v15, val_main_v14, val_main_v13, val_main_v12, val_main_v11, scale_x X]
  unfold cat
  repeat' split
  all_goals first | rfl | (exfalso; omega)

theorem mix_eq (r : Fin 8208) (j : Fin 1024) :
    val_main_v17 (F := Ideal) (fun i => ((X i : ℝ) : EReal)) (fun i => ((S i : ℝ) : EReal)) (fun i => ((G i : ℝ) : EReal)) (fun i => ((W i : ℝ) : EReal)) (ix2 r j) = ((mix X S G W (ix2 r j) : ℝ) : EReal) := by
  pointwise [val_main_v17, cat_eq X S G]
  simp only [← EReal.coe_mul, coe_sum]
  rfl

theorem scale_y (r : Fin 8208) (o : Fin 1) :
    val_main_v25 (F := Ideal) (fun i => ((X i : ℝ) : EReal)) (fun i => ((S i : ℝ) : EReal)) (fun i => ((G i : ℝ) : EReal)) (fun i => ((W i : ℝ) : EReal)) (ix2 r o) = ((inv 1024 (rowAt (mix X S G W) r) : ℝ) : EReal) := by
  pointwise [val_main_v25, val_main_v24, val_main_v23, val_main_v22, val_main_v21, val_main_v20, val_main_v19, val_main_v18, val_main_cst_3, val_main_cst_4, val_main_cst_5, ofBits_1024, ofBits_eps, mix_eq X S G W]
  simp only [← EReal.coe_mul, coe_sum]
  exact rsqrt_meanSq (by norm_num) _

/-- The mean square with the norm's small constant. -/
theorem mean_scale_y (r : Fin 8208) (o : Fin 1) :
    val_main_v24 (F := Ideal) (fun i => ((X i : ℝ) : EReal)) (fun i => ((S i : ℝ) : EReal)) (fun i => ((G i : ℝ) : EReal)) (fun i => ((W i : ℝ) : EReal)) (ix2 r o) = ((meanSq 1024 (rowAt (mix X S G W) r) : ℝ) : EReal) := by
  pointwise [val_main_v24, val_main_v23, val_main_v22, val_main_v21, val_main_v20, val_main_v19, val_main_v18, val_main_cst_3, val_main_cst_4, val_main_cst_5, ofBits_1024, ofBits_eps, mix_eq X S G W]
  simp only [← EReal.coe_mul, coe_sum, div_real (show (1024 : ℝ) ≠ 0 by norm_num), ← EReal.coe_add]
  rfl

/-- The gradient of the gain behind the projection. -/
theorem gain_y (i : S1x1024.Idx) :
    val_main_v88 (F := Ideal) (fun i => ((X i : ℝ) : EReal)) (fun i => ((S i : ℝ) : EReal)) (fun i => ((G i : ℝ) : EReal)) (fun i => ((W i : ℝ) : EReal)) (fun i => ((DH i : ℝ) : EReal)) i
      = ((∑ r : Fin 8208, postTerm (rowAt (mix X S G W) r) (rowAt DH r) (i 1) : ℝ) : EReal) := by
  idx_vars i
  pointwise [val_main_v88, val_main_v39, val_main_v36, val_main_v35, val_main_v34, val_main_v30, val_main_v29, val_main_cst_7, val_main_cst_8, mix_eq X S G W, scale_y X S G W]
  simp only [Finset.univ_unique, Finset.sum_singleton, ← EReal.coe_mul, coe_sum]
  refine congrArg Real.toEReal (Finset.sum_congr rfl fun r _ => ?_)
  simp only [postTerm, rowAt]
  ring

/-- The gradient of the projection's result. -/
theorem rows_y (r : Fin 8208) (j : Fin 1024) :
    val_main_v53 (F := Ideal) (fun i => ((X i : ℝ) : EReal)) (fun i => ((S i : ℝ) : EReal)) (fun i => ((G i : ℝ) : EReal)) (fun i => ((W i : ℝ) : EReal)) (fun i => ((P i : ℝ) : EReal)) (fun i => ((DH i : ℝ) : EReal)) (ix2 r j) = ((dmix P (rowAt (mix X S G W) r) (rowAt DH r) j : ℝ) : EReal) := by
  pointwise [val_main_v53, val_main_v52, val_main_v51, val_main_v50, val_main_v49, val_main_v48, val_main_v47, val_main_v46, val_main_v45, val_main_v44, val_main_v43, val_main_v42, val_main_v41, val_main_v40, val_main_v38, val_main_v37, val_main_v31, val_main_v28, val_main_v27, val_main_v26, val_main_cst_6, val_main_cst_9, val_main_cst_10, val_main_cst_11, ofBits_1024, ofBits_neg_half,
    mix_eq X S G W, scale_y X S G W, mean_scale_y X S G W]
  simp only [← EReal.coe_mul, coe_sum, div_real (show (1024 : ℝ) ≠ 0 by norm_num), div_real (meanSq_pos (show (0 : ℝ) < 1024 by norm_num) _).ne', Finset.univ_unique, Finset.sum_singleton]
  rw [dmix, ← back_eq_vjp (show (0 : ℝ) < 1024 by norm_num)]
  simp only [← EReal.coe_add, add_assoc]
  rfl

/-- The gradient of the projection's argument. -/
theorem rows_cat (r : Fin 8208) (k : Fin 2048) :
    val_main_v56 (F := Ideal) (fun i => ((X i : ℝ) : EReal)) (fun i => ((S i : ℝ) : EReal)) (fun i => ((G i : ℝ) : EReal)) (fun i => ((W i : ℝ) : EReal)) (fun i => ((P i : ℝ) : EReal)) (fun i => ((DH i : ℝ) : EReal)) (ix2 r k) = ((dcat W P (rowAt (mix X S G W) r) (rowAt DH r) k : ℝ) : EReal) := by
  pointwise [val_main_v56, rows_y X S G W P DH]
  simp only [← EReal.coe_mul, coe_sum]
  rfl

/-- The gradient of the gain of the attention's norm. -/
theorem gain_x (i : S1x1024.Idx) :
    val_main_v89 (F := Ideal) (fun i => ((X i : ℝ) : EReal)) (fun i => ((S i : ℝ) : EReal)) (fun i => ((G i : ℝ) : EReal)) (fun i => ((W i : ℝ) : EReal)) (fun i => ((P i : ℝ) : EReal)) (fun i => ((DH i : ℝ) : EReal)) i
      = ((∑ r : Fin 8208, attnTerm W P (rowAt X r) (rowAt (mix X S G W) r) (rowAt DH r) (i 1) : ℝ) : EReal) := by
  idx_vars i
  pointwise [val_main_v89, val_main_v64, val_main_v61, val_main_v60, val_main_v59, val_main_v57, val_main_v12, val_main_v11, val_main_cst_12, val_main_cst_13, rows_cat X S G W P DH, scale_x X]
  simp only [Finset.univ_unique, Finset.sum_singleton, ← EReal.coe_mul, coe_sum]
  refine congrArg Real.toEReal (Finset.sum_congr rfl fun r _ => ?_)
  simp only [attnTerm, rowAt]
  ring

/-- The gradient of the attention's result. -/
theorem rows_x (r : Fin 8208) (j : Fin 1024) :
    val_main_v78 (F := Ideal) (fun i => ((X i : ℝ) : EReal)) (fun i => ((S i : ℝ) : EReal)) (fun i => ((G i : ℝ) : EReal)) (fun i => ((W i : ℝ) : EReal)) (fun i => ((P i : ℝ) : EReal)) (fun i => ((DH i : ℝ) : EReal)) (ix2 r j)
      = ((dattn G W P (rowAt X r) (rowAt (mix X S G W) r) (rowAt DH r) j : ℝ) : EReal) := by
  pointwise [val_main_v78, val_main_v77, val_main_v76, val_main_v75, val_main_v74, val_main_v73, val_main_v72, val_main_v71, val_main_v70, val_main_v69, val_main_v68, val_main_v67, val_main_v66, val_main_v65, val_main_v63, val_main_v62, val_main_v57, val_main_v13, val_main_v10, val_main_v9, val_main_v8, val_main_cst_2, val_main_cst_14, val_main_cst_15, val_main_cst_16, ofBits_1024, ofBits_neg_half,
    rows_cat X S G W P DH, scale_x X, mean_scale_x X]
  simp only [← EReal.coe_mul, coe_sum, div_real (show (1024 : ℝ) ≠ 0 by norm_num), div_real (meanSq_pos (show (0 : ℝ) < 1024 by norm_num) _).ne', Finset.univ_unique, Finset.sum_singleton]
  rw [dattn, ← back_eq_vjp (show (0 : ℝ) < 1024 by norm_num)]
  simp only [← EReal.coe_add, add_assoc]
  rfl

/-- The heads' sums. -/
theorem sums (g : Fin 8) (r : Fin 8208) :
    val_main_v82 (F := Ideal) (fun i => ((X i : ℝ) : EReal)) (fun i => ((S i : ℝ) : EReal)) (fun i => ((G i : ℝ) : EReal)) (fun i => ((W i : ℝ) : EReal)) (fun i => ((P i : ℝ) : EReal)) (fun i => ((DH i : ℝ) : EReal)) (ix2 g r)
      = ((delta G W P (rowAt X r) (rowAt (mix X S G W) r) (rowAt DH r) g : ℝ) : EReal) := by
  pointwise [val_main_v82, val_main_v81, val_main_v80, val_main_v79, val_main_cst_17, rows_x X S G W P DH]
  simp only [← EReal.coe_mul, coe_sum]
  rfl

end Cert.MixoutRefIdeal.Read

end
-- ==== Proof.Mixout.lean ====
/- The gradient of the output projection, of the norm behind it and of the attention's norm before it: the kernel and the
   differentiated forward lines agree. -/
module

public import proofs.«01_k».proof.Defs
public import proofs.«01_k».proof.Proof.MixoutKernel
public import proofs.«01_k».proof.Proof.MixoutReference
public import proofs.«01_k».proof.Proof.Gen.Pre_finite_mixout

@[expose] public section

set_option maxRecDepth 16384

noncomputable section

open Idealize.ShloMosaic Idealize.ShloMosaic.TcCoe Idealize.SL.Sem

namespace Cert.MixoutClaim

open Cert.Reals Cert.Rms Cert.Mixout

/-- The precondition in the form the proofs use: the arguments are arrays of real numbers. -/
theorem real_args (m : (ℓ : Loc MixoutIdeal.nD MixoutIdeal.τ MixoutIdeal.sig) → Buf (Elt Ideal) ℓ) (h : Pre_MixoutIdeal_finite_mixout m) (c : Dev MixoutIdeal.nD) :
    ∃ X S G W P DH, MixoutIdeal.Value.RealArgs m c X S G W P DH := by
  have hc := congrFun (h c) (fun a => a.elim0)
  simp only [Pre_finite_mixout.fn, Pre_finite_mixout.fn_part1, andi_apply, andi_one] at hc
  obtain ⟨⟨⟨⟨⟨h0, h1⟩, h2⟩, h3⟩, h4⟩, h5⟩ := hc
  obtain ⟨X, hX⟩ := exists_real (fun _ => ofBits_inf) h0
  obtain ⟨S, hS⟩ := exists_real (fun _ => ofBits_inf) h1
  obtain ⟨G, hG⟩ := exists_real (fun _ => ofBits_inf) h2
  obtain ⟨W, hW⟩ := exists_real (fun _ => ofBits_inf) h3
  obtain ⟨P, hP⟩ := exists_real (fun _ => ofBits_inf) h4
  obtain ⟨DH, hDH⟩ := exists_real (fun _ => ofBits_inf) h5
  exact ⟨X, S, G, W, P, DH, hX, hS, hG, hW, hP, hDH⟩

variable (X S : Arr 8208 1024) (G : Row 1024) (W : Arr 2048 1024) (P : Row 1024) (DH : Arr 8208 1024)

theorem rowAt_eq (x : Arr 8208 1024) (r : Fin 8208) (h : 112 + r.val < 8320) :
    padded 112 x (⟨112 + r.val, h⟩ : Fin 8320) = MixoutRefIdeal.Read.rowAt x r := padded_behind 112 x r h

theorem rows6 : MixoutIdeal.Value.out6 X S G W P DH
    = MixoutRefIdeal.Read.val_main_v85 (F := Ideal) (fun i => ((X i : ℝ) : EReal)) (fun i => ((S i : ℝ) : EReal)) (fun i => ((G i : ℝ) : EReal)) (fun i => ((W i : ℝ) : EReal)) (fun i => ((P i : ℝ) : EReal)) (fun i => ((DH i : ℝ) : EReal)) := by
  funext i
  idx_vars i
  pointwise [MixoutIdeal.Value.out6, MixoutRefIdeal.Read.val_main_v85, MixoutRefIdeal.Read.val_main_v84, MixoutRefIdeal.Read.val_main_v83, MixoutRefIdeal.Read.val_main_cst_18, MixoutRefIdeal.Read.rows_y X S G W P DH]
  rcases Nat.lt_or_ge i0.val 112 with hi | hi
  · rw [dif_pos hi, dmix_zero (fun k => padded_front _ i0 k hi)]
    rfl
  · rw [dif_neg (by omega)]
    obtain ⟨r, hr, rfl⟩ := exists_behind (n0 := 8208) 112 rfl i0 hi
    have e : (⟨112 + r.val - 112, by omega⟩ : Fin 8208) = r := Fin.ext (by dsimp only; omega)
    simp only [rowAt_eq, e]

theorem rows7 : MixoutIdeal.Value.out7 X S G W P DH
    = MixoutRefIdeal.Read.val_main_v86 (F := Ideal) (fun i => ((X i : ℝ) : EReal)) (fun i => ((S i : ℝ) : EReal)) (fun i => ((G i : ℝ) : EReal)) (fun i => ((W i : ℝ) : EReal)) (fun i => ((P i : ℝ) : EReal)) (fun i => ((DH i : ℝ) : EReal)) := by
  funext i
  idx_vars i
  pointwise [MixoutIdeal.Value.out7, MixoutRefIdeal.Read.val_main_v86, MixoutRefIdeal.Read.val_main_v83, MixoutRefIdeal.Read.val_main_v58, MixoutRefIdeal.Read.val_main_cst_18, MixoutRefIdeal.Read.rows_cat X S G W P DH]
  rcases Nat.lt_or_ge i0.val 112 with hi | hi
  · rw [dif_pos hi, dcat_zero (fun k => padded_front _ i0 k hi)]
    rfl
  · rw [dif_neg (by omega)]
    obtain ⟨r, hr, rfl⟩ := exists_behind (n0 := 8208) 112 rfl i0 hi
    have e : (⟨112 + r.val - 112, by omega⟩ : Fin 8208) = r := Fin.ext (by dsimp only; omega)
    simp only [rowAt_eq, e]

theorem rows8 : MixoutIdeal.Value.out8 X S G W P DH
    = MixoutRefIdeal.Read.val_main_v87 (F := Ideal) (fun i => ((X i : ℝ) : EReal)) (fun i => ((S i : ℝ) : EReal)) (fun i => ((G i : ℝ) : EReal)) (fun i => ((W i : ℝ) : EReal)) (fun i => ((P i : ℝ) : EReal)) (fun i => ((DH i : ℝ) : EReal)) := by
  funext i
  idx_vars i
  pointwise [MixoutIdeal.Value.out8, MixoutRefIdeal.Read.val_main_v87, MixoutRefIdeal.Read.val_main_v83, MixoutRefIdeal.Read.val_main_cst_18, MixoutRefIdeal.Read.rows_x X S G W P DH]
  rcases Nat.lt_or_ge i0.val 112 with hi | hi
  · rw [dif_pos hi, dattn_zero (fun k => padded_front _ i0 k hi)]
    rfl
  · rw [dif_neg (by omega)]
    obtain ⟨r, hr, rfl⟩ := exists_behind (n0 := 8208) 112 rfl i0 hi
    have e : (⟨112 + r.val - 112, by omega⟩ : Fin 8208) = r := Fin.ext (by dsimp only; omega)
    simp only [rowAt_eq, e]

theorem rows11 : MixoutIdeal.Value.out11 X S G W P DH
    = MixoutRefIdeal.Read.val_main_v91 (F := Ideal) (fun i => ((X i : ℝ) : EReal)) (fun i => ((S i : ℝ) : EReal)) (fun i => ((G i : ℝ) : EReal)) (fun i => ((W i : ℝ) : EReal)) (fun i => ((P i : ℝ) : EReal)) (fun i => ((DH i : ℝ) : EReal)) := by
  funext i
  idx_vars i
  pointwise [MixoutIdeal.Value.out11, MixoutRefIdeal.Read.val_main_v91, MixoutRefIdeal.Read.val_main_v90, MixoutRefIdeal.Read.val_main_cst_19, MixoutRefIdeal.Read.sums X S G W P DH]
  rcases Nat.lt_or_ge i1.val 112 with hi | hi
  · rw [dif_pos hi, delta_zero (fun k => padded_front _ i1 k hi)]
    rfl
  · rw [dif_neg (by omega)]
    obtain ⟨r, hr, rfl⟩ := exists_behind (n0 := 8208) 112 rfl i1 hi
    have e : (⟨112 + r.val - 112, by omega⟩ : Fin 8208) = r := Fin.ext (by dsimp only; omega)
    simp only [rowAt_eq, e]

theorem gains9 (j : Fin 1024) : ∑ r : Fin 8320, MixoutIdeal.Value.term9 X S G W P DH r j
    = ∑ r : Fin 8208, postTerm (MixoutRefIdeal.Read.rowAt (mix X S G W) r) (MixoutRefIdeal.Read.rowAt DH r) j := by
  rw [sum_behind (n0 := 8208) 112 rfl]
  · refine Finset.sum_congr rfl fun r _ => ?_
    simp only [MixoutIdeal.Value.term9, rowAt_eq]
  · intro r hr
    exact postTerm_zero (fun k => padded_front _ r k hr) j

theorem gains10 (j : Fin 1024) : ∑ r : Fin 8320, MixoutIdeal.Value.term10 X S G W P DH r j
    = ∑ r : Fin 8208, attnTerm W P (MixoutRefIdeal.Read.rowAt X r) (MixoutRefIdeal.Read.rowAt (mix X S G W) r) (MixoutRefIdeal.Read.rowAt DH r) j := by
  rw [sum_behind (n0 := 8208) 112 rfl]
  · refine Finset.sum_congr rfl fun r _ => ?_
    simp only [MixoutIdeal.Value.term10, rowAt_eq]
  · intro r hr
    exact attnTerm_zero (fun k => padded_front _ r k hr) j

set_option maxHeartbeats 2000000 in
theorem value : algebraic_MixoutIdeal_MixoutRefIdeal_pre_finite_mixout := by
  pair_intro
  · run_from MixoutIdeal.Value.run_blocks m g
  · run_from MixoutRefIdeal.Value.run m' g'
    · obtain ⟨X, S, G, W, P, DH, h⟩ := real_args m hpre c
      refine (MixoutRefIdeal.Read.val_main_v85_eq _ _).trans ?_
      refine Eq.trans ?_ (MixoutIdeal.Value.final6 h).symm
      rw [(hagree c).1, (hagree c).2.1, (hagree c).2.2.1, (hagree c).2.2.2.1, (hagree c).2.2.2.2.1, (hagree c).2.2.2.2.2, h.x, h.s, h.g, h.w, h.p, h.dh]
      exact (rows6 X S G W P DH).symm
    · obtain ⟨X, S, G, W, P, DH, h⟩ := real_args m hpre c
      refine (MixoutRefIdeal.Read.val_main_v86_eq _ _).trans ?_
      refine Eq.trans ?_ (MixoutIdeal.Value.final7 h).symm
      rw [(hagree c).1, (hagree c).2.1, (hagree c).2.2.1, (hagree c).2.2.2.1, (hagree c).2.2.2.2.1, (hagree c).2.2.2.2.2, h.x, h.s, h.g, h.w, h.p, h.dh]
      exact (rows7 X S G W P DH).symm
    · obtain ⟨X, S, G, W, P, DH, h⟩ := real_args m hpre c
      refine (MixoutRefIdeal.Read.val_main_v87_eq _ _).trans ?_
      refine Eq.trans ?_ (MixoutIdeal.Value.final8 h).symm
      rw [(hagree c).1, (hagree c).2.1, (hagree c).2.2.1, (hagree c).2.2.2.1, (hagree c).2.2.2.2.1, (hagree c).2.2.2.2.2, h.x, h.s, h.g, h.w, h.p, h.dh]
      exact (rows8 X S G W P DH).symm
    · obtain ⟨X, S, G, W, P, DH, h⟩ := real_args m hpre c
      refine (MixoutRefIdeal.Read.val_main_v88_eq _ _ _ _ _).trans ?_
      refine Eq.trans ?_ (MixoutIdeal.Value.final9 h).symm
      rw [h.x, h.s, h.g, h.w, h.dh]
      funext i
      rw [MixoutRefIdeal.Read.gain_y X S G W DH i]
      exact congrArg _ (gains9 X S G W P DH (i 1)).symm
    · obtain ⟨X, S, G, W, P, DH, h⟩ := real_args m hpre c
      refine (MixoutRefIdeal.Read.val_main_v89_eq _ _).trans ?_
      refine Eq.trans ?_ (MixoutIdeal.Value.final10 h).symm
      rw [(hagree c).1, (hagree c).2.1, (hagree c).2.2.1, (hagree c).2.2.2.1, (hagree c).2.2.2.2.1, (hagree c).2.2.2.2.2, h.x, h.s, h.g, h.w, h.p, h.dh]
      funext i
      rw [MixoutRefIdeal.Read.gain_x X S G W P DH i]
      exact congrArg _ (gains10 X S G W P DH (i 1)).symm
    · obtain ⟨X, S, G, W, P, DH, h⟩ := real_args m hpre c
      refine (MixoutRefIdeal.Read.val_main_v91_eq _ _).trans ?_
      refine Eq.trans ?_ (MixoutIdeal.Value.final11 h).symm
      rw [(hagree c).1, (hagree c).2.1, (hagree c).2.2.1, (hagree c).2.2.2.1, (hagree c).2.2.2.2.1, (hagree c).2.2.2.2.2, h.x, h.s, h.g, h.w, h.p, h.dh]
      exact (rows11 X S G W P DH).symm

/-- The differentiated forward lines run, and leave their arguments as they were. -/
theorem reference_frame : quiescent_MixoutRefIdeal := fun m g _ =>
  (θ_run MixoutRefIdeal.defs _ _).mono (fun r h => ⟨fun c => (h c).2.2.2.2.2.2, sem_eq_zero_of_no_sems rfl _⟩) (MixoutRefIdeal.Value.run m g)

end Cert.MixoutClaim

end
-- ==== Proof.DownMath.lean ====
/- The down product, the norm behind it, the squared error and its gradient, over real arrays: what both programs are
   compared with. -/
module

public import proofs.«01_k».proof.Proof.Rms
public import Idealize.ShloMosaic.Lib.Pipeline.ValueKit
public import Idealize.ShloMosaic.Lib.Pointwise

@[expose] public section

noncomputable section

namespace Cert.Down

open Idealize.ShloMosaic Cert.Reals Cert.Rms
open scoped BigOperators

/-- An array of real numbers with two axes. -/
abbrev Arr (a b : ℕ) : Type := Shape.Idx ⟨2, ![a, b]⟩ → ℝ

/-- A row of real numbers. -/
abbrev Row (n : ℕ) : Type := Shape.Idx ⟨1, ![n]⟩ → ℝ

/-- The down product. -/
def prod (A : Arr 8208 2816) (W : Arr 2816 1024) : Arr 8208 1024 := fun i => ∑ k, A (ix2 (i 0) k) * W (ix2 k (i 1))

/-- The difference between the block's result and the target, at the rows the loss counts. -/
def err (A : Arr 8208 2816) (W : Arr 2816 1024) (H : Arr 8208 1024) (P : Row 1024) (T : Arr 8192 1024) : Arr 8192 1024 := fun i =>
  H (ix2 ⟨16 + (i 0).val, by have : (i 0).val < 8192 := (i 0).isLt; omega⟩ (i 1))
    + prod A W (ix2 ⟨16 + (i 0).val, by have : (i 0).val < 8192 := (i 0).isLt; omega⟩ (i 1))
      * inv 1024 (fun k => prod A W (ix2 ⟨16 + (i 0).val, by have : (i 0).val < 8192 := (i 0).isLt; omega⟩ k)) * P (ix1 (i 1)) - T i

/-- A row of the loss's gradient. -/
def dh (e : Fin 1024 → ℝ) (j : Fin 1024) : ℝ := e j * (1 / 1024)

/-- A row of the gradient of the down product. -/
def dd (P : Row 1024) (y e : Fin 1024 → ℝ) : Fin 1024 → ℝ := back 1024 y (fun k => P (ix1 k)) (dh e)

/-- A row's part of the gradient of the norm's gain. -/
def gainTerm (y e : Fin 1024 → ℝ) (j : Fin 1024) : ℝ := dh e j * (y j * inv 1024 y)

/-- A row's part of the loss, before the factors. -/
def square (e : Fin 1024 → ℝ) : ℝ := ∑ k, e k * e k

variable {P : Row 1024} {y e : Fin 1024 → ℝ}

theorem dh_zero (h : ∀ k, e k = 0) (j : Fin 1024) : dh e j = 0 := by simp [dh, h]

theorem dd_zero (h : ∀ k, e k = 0) (j : Fin 1024) : dd P y e j = 0 := back_zero _ _ _ _ (dh_zero h) j

theorem gainTerm_zero (h : ∀ k, e k = 0) (j : Fin 1024) : gainTerm y e j = 0 := by simp [gainTerm, dh_zero h]

theorem square_zero (h : ∀ k, e k = 0) : square e = 0 := by simp [square, h]

theorem ofBits_half : Ideal.ofBits .f32 0x3F000000#32 = ((1 / 2 : ℝ) : EReal) := by
  simp [Ideal.ofBits, Ideal.ieee]
  norm_num [← EReal.coe_mul]

theorem ofBits_1024th : Ideal.ofBits .f32 0x3A800000#32 = ((1 / 1024 : ℝ) : EReal) := by
  simp [Ideal.ofBits, Ideal.ieee]
  norm_num [← EReal.coe_mul]

end Cert.Down

end
-- ==== Proof.DownKernel.lean ====
/- What the kernel of the down product, the loss and their gradient leaves in its four result arrays, over real arguments. -/
module

public import proofs.«01_k».proof.Proof.Gen.DownIdeal.Value
public import proofs.«01_k».proof.Proof.DownMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen Cert.Reals Cert.Rms Cert.Down

variable (m : (ℓ : Loc nD τ sig) → Buf (Elt Ideal) ℓ)

/-- The block index of every window at a grid point. -/
theorem idx : ∀ t : Fin cfg0.N, win0_0.index t = ![t.val, 0] ∧ win0_1.index t = ![0, 0] ∧ win0_2.index t = ![t.val, 0]
    ∧ win0_3.index t = ![t.val * 5 - 1, 0] ∧ win0_4.index t = ![t.val * 5, 0] ∧ win0_5.index t = ![t.val * 5 + 1, 0]
    ∧ win0_6.index t = ![t.val * 5 + 2, 0] ∧ win0_7.index t = ![t.val * 5 + 3, 0] ∧ win0_8.index t = ![0, 0]
    ∧ win0_9.index t = ![t.val, 0] ∧ win0_10.index t = ![t.val, 0] ∧ win0_11.index t = ![0, 0] ∧ win0_12.index t = ![0, 0] :=
  (by decide +kernel : ∀ t : Fin grid0.N, _)

theorem coord : ∀ t : Fin cfg0.N, (grid0.coords t 0).val = t.val := (by decide +kernel : ∀ t : Fin grid0.N, _)

/-- The row of the whole array that row `a` of point `t`'s block is. -/
def row (t : Fin cfg0.N) (a : Fin 640) : Fin 8320 := ⟨t.val * 640 + a.val, by have := lt_of_lt_of_eq t.isLt N_0; omega⟩

/-- The argument arrays are arrays of real numbers. -/
structure RealArgs (c : Dev nD) (A : Arr 8208 2816) (W : Arr 2816 1024) (H : Arr 8208 1024) (P : Row 1024) (T : Arr 8192 1024) : Prop where
  a : m ((c : Thread nD τ).loc main_arg0) = fun i => ((A i : ℝ) : EReal)
  w : m ((c : Thread nD τ).loc main_arg1) = fun i => ((W i : ℝ) : EReal)
  h : m ((c : Thread nD τ).loc main_arg2) = fun i => ((H i : ℝ) : EReal)
  p : m ((c : Thread nD τ).loc main_arg3) = fun i => ((P i : ℝ) : EReal)
  t : m ((c : Thread nD τ).loc main_arg4) = fun i => ((T i : ℝ) : EReal)

variable {m} {c : Dev nD} {A : Arr 8208 2816} {W : Arr 2816 1024} {H : Arr 8208 1024} {P : Row 1024} {T : Arr 8192 1024}

/-! ## The arrays when the grid starts -/

theorem entry_a (h : RealArgs m c A W H P T) (r : Fin 8320) (k : Fin 2816) :
    V m c main_v2 (ix2 r k) = ((padded 112 A r k : ℝ) : EReal) := by
  entry_read
  pointwise [h.a]
  exact padded_eq 112 (by decide) _ r k _

theorem entry_w (h : RealArgs m c A W H P T) (j : Fin 2816) (k : Fin 1024) : V m c main_v3 (ix2 j k) = ((W (ix2 j k) : ℝ) : EReal) := by
  entry_read
  pointwise [h.w]

theorem entry_h (h : RealArgs m c A W H P T) (r : Fin 8320) (k : Fin 1024) :
    V m c main_v5 (ix2 r k) = ((padded 112 H r k : ℝ) : EReal) := by
  entry_read
  pointwise [h.h]
  exact padded_eq 112 (by decide) _ r k _

theorem entry_p (h : RealArgs m c A W H P T) (k : Fin 1024) : V m c main_v6 (ix2 0 k) = ((P (ix1 k) : ℝ) : EReal) := by
  entry_read
  pointwise [h.p]

theorem entry_t (h : RealArgs m c A W H P T) (r : Fin 8192) (k : Fin 1024) : V m c main_arg4 (ix2 r k) = ((T (ix2 r k) : ℝ) : EReal) := by
  entry_read
  exact congrFun h.t _

/-! ## The blocks at a grid point -/

theorem block_a (h : RealArgs m c A W H P T) (t : Fin cfg0.N) (a : Fin 640) (k : Fin 2816) :
    iblk m c 0 t (ix2 a k) = ((padded 112 A (row t a) k : ℝ) : EReal) :=
  (show iblk m c 0 t (ix2 a k) = V m c main_v2 (ix2 (row t a) k) by blk_ext [iblk, idx t, row]).trans (entry_a h _ _)

theorem block_w (h : RealArgs m c A W H P T) (t : Fin cfg0.N) (j : Fin 2816) (k : Fin 1024) :
    iblk m c 1 t (ix2 j k) = ((W (ix2 j k) : ℝ) : EReal) :=
  (show iblk m c 1 t (ix2 j k) = V m c main_v3 (ix2 j k) by blk_ext [iblk, idx t, row]).trans (entry_w h _ _)

theorem block_h (h : RealArgs m c A W H P T) (t : Fin cfg0.N) (a : Fin 640) (k : Fin 1024) :
    iblk m c 2 t (ix2 a k) = ((padded 112 H (row t a) k : ℝ) : EReal) :=
  (show iblk m c 2 t (ix2 a k) = V m c main_v5 (ix2 (row t a) k) by blk_ext [iblk, idx t, row]).trans (entry_h h _ _)

theorem block_t0 (h : RealArgs m c A W H P T) (t : Fin cfg0.N) (a : Fin 128) (k : Fin 1024) :
    iblk m c 3 t (ix2 a k) = ((T (ix2 ⟨(t.val * 5 - 1) * 128 + a.val, by have := lt_of_lt_of_eq t.isLt N_0; omega⟩ k) : ℝ) : EReal) :=
  (show iblk m c 3 t (ix2 a k) = V m c main_arg4 (ix2 ⟨(t.val * 5 - 1) * 128 + a.val, by have := lt_of_lt_of_eq t.isLt N_0; omega⟩ k) by blk_ext [iblk, idx t, row]).trans (entry_t h _ _)

theorem block_t1 (h : RealArgs m c A W H P T) (t : Fin cfg0.N) (a : Fin 128) (k : Fin 1024) :
    iblk m c 4 t (ix2 a k) = ((T (ix2 ⟨(t.val * 5) * 128 + a.val, by have := lt_of_lt_of_eq t.isLt N_0; omega⟩ k) : ℝ) : EReal) :=
  (show iblk m c 4 t (ix2 a k) = V m c main_arg4 (ix2 ⟨(t.val * 5) * 128 + a.val, by have := lt_of_lt_of_eq t.isLt N_0; omega⟩ k) by blk_ext [iblk, idx t, row]).trans (entry_t h _ _)

theorem block_t2 (h : RealArgs m c A W H P T) (t : Fin cfg0.N) (a : Fin 128) (k : Fin 1024) :
    iblk m c 5 t (ix2 a k) = ((T (ix2 ⟨(t.val * 5 + 1) * 128 + a.val, by have := lt_of_lt_of_eq t.isLt N_0; omega⟩ k) : ℝ) : EReal) :=
  (show iblk m c 5 t (ix2 a k) = V m c main_arg4 (ix2 ⟨(t.val * 5 + 1) * 128 + a.val, by have := lt_of_lt_of_eq t.isLt N_0; omega⟩ k) by blk_ext [iblk, idx t, row]).trans (entry_t h _ _)

theorem block_t3 (h : RealArgs m c A W H P T) (t : Fin cfg0.N) (a : Fin 128) (k : Fin 1024) :
    iblk m c 6 t (ix2 a k) = ((T (ix2 ⟨(t.val * 5 + 2) * 128 + a.val, by have := lt_of_lt_of_eq t.isLt N_0; omega⟩ k) : ℝ) : EReal) :=
  (show iblk m c 6 t (ix2 a k) = V m c main_arg4 (ix2 ⟨(t.val * 5 + 2) * 128 + a.val, by have := lt_of_lt_of_eq t.isLt N_0; omega⟩ k) by blk_ext [iblk, idx t, row]).trans (entry_t h _ _)

theorem block_t4 (h : RealArgs m c A W H P T) (t : Fin cfg0.N) (a : Fin 128) (k : Fin 1024) :
    iblk m c 7 t (ix2 a k) = ((T (ix2 ⟨(t.val * 5 + 3) * 128 + a.val, by have := lt_of_lt_of_eq t.isLt N_0; omega⟩ k) : ℝ) : EReal) :=
  (show iblk m c 7 t (ix2 a k) = V m c main_arg4 (ix2 ⟨(t.val * 5 + 3) * 128 + a.val, by have := lt_of_lt_of_eq t.isLt N_0; omega⟩ k) by blk_ext [iblk, idx t, row]).trans (entry_t h _ _)

theorem block_p (h : RealArgs m c A W H P T) (t : Fin cfg0.N) (k : Fin 1024) :
    iblk m c 8 t (ix2 0 k) = ((P (ix1 k) : ℝ) : EReal) :=
  (show iblk m c 8 t (ix2 0 k) = V m c main_v6 (ix2 0 k) by blk_ext [iblk, idx t, row]).trans (entry_p h _)

/-! ## The values of a grid point -/

/-- The kernel's comparison of a row's number with the first row the loss counts. -/
theorem behind (t : Fin cfg0.N) (a : Fin 640) (k : Fin 1024) :
    k0_pay5 (grid0.coords t) (ix2 a k) = BitVec.ofBool (decide (128 ≤ (row t a).val)) := by
  have ht := lt_of_lt_of_eq t.isLt N_0
  have e : IntOp.addi (Scalar.muli (BitVec.ofNat 32 t.val) 640#32) (BitVec.ofNat 32 a.val) = BitVec.ofNat 32 (t.val * 640 + a.val) := by
    rw [BitVec.ofNat_add, BitVec.ofNat_mul]; rfl
  pointwise [k0_pay5, coord t]
  rw [e]
  exact WordCmp.cmpi_sge_ofNat (by omega) (by norm_num)

theorem value_prod (h : RealArgs m c A W H P T) (t : Fin cfg0.N) (a : Fin 640) (j : Fin 1024) :
    k0_pay3 (iblk m c 0 t) (iblk m c 1 t) (ix2 a j) = ((padded 112 (prod A W) (row t a) j : ℝ) : EReal) := by
  pointwise [k0_pay3, block_a h t, block_w h t]
  simp only [← EReal.coe_mul, coe_sum]
  refine congrArg Real.toEReal ?_
  unfold padded
  split
  · rfl
  · simp only [zero_mul, Finset.sum_const_zero]

theorem value_scale (h : RealArgs m c A W H P T) (t : Fin cfg0.N) (a : Fin 640) (o : Fin 1) :
    k0_pay9 (k0_pay3 (iblk m c 0 t) (iblk m c 1 t)) (ix2 a o) = ((inv 1024 (padded 112 (prod A W) (row t a)) : ℝ) : EReal) := by
  pointwise [k0_pay9, value_prod h t, ofBits_1024, ofBits_eps]
  simp only [← EReal.coe_mul, coe_sum]
  exact rsqrt_meanSq (show (0 : ℝ) < 1024 by norm_num) _

/-- A row of an array behind the rows of zeros, from the row's number behind the rows without a loss. -/
theorem deep {n : ℕ} (x : Arr 8208 n) (r : Fin 8192) (h : 128 + r.val < 8320) :
    padded 112 x (⟨128 + r.val, h⟩ : Fin 8320) = fun k => x (ix2 ⟨16 + r.val, by omega⟩ k) := by
  funext k
  unfold padded
  rw [dif_pos (by dsimp only; omega)]
  exact congrArg (fun q => x (ix2 q k)) (Fin.ext (by dsimp only; omega))

theorem value_err (h : RealArgs m c A W H P T) (t : Fin cfg0.N) (a : Fin 640) (k : Fin 1024) :
    k0_pay7 (k0_pay5 (grid0.coords t)) (k0_pay6 (iblk m c 0 t) (iblk m c 1 t) (iblk m c 8 t) (iblk m c 2 t) (iblk m c 3 t) (iblk m c 4 t) (iblk m c 5 t) (iblk m c 6 t) (iblk m c 7 t)) (ix2 a k)
      = ((padded 128 (err A W H P T) (row t a) k : ℝ) : EReal) := by
  have ht := lt_of_lt_of_eq t.isLt N_0
  pointwise [k0_pay7, behind t]
  by_cases hr : 128 ≤ (row t a).val
  · rw [if_pos hr]
    obtain ⟨r, hr', e⟩ := exists_behind (n0 := 8192) 128 rfl (row t a) hr
    have er : t.val * 640 + a.val = 128 + r.val := congrArg Fin.val e
    pointwise [k0_pay6, k0_pay4, value_prod h t, block_h h t, block_p h t, block_t0 h t, block_t1 h t, block_t2 h t, block_t3 h t, block_t4 h t, ofBits_1024, ofBits_eps]
    rw [e]
    simp only [deep, padded_behind]
    simp only [← EReal.coe_mul, coe_sum, rsqrt_meanSq_coe (show (0 : ℝ) < 1024 by norm_num), ← EReal.coe_add]
    repeat' split
    all_goals
      simp only [← EReal.coe_mul, rsqrt_meanSq (show (0 : ℝ) < 1024 by norm_num), ← EReal.coe_add, ← EReal.coe_sub]
      exact congrArg Real.toEReal (congrArg₂ (· - ·) rfl (congrArg (fun q => T (ix2 q k)) (Fin.ext (by dsimp only; omega))))
  · rw [if_neg hr, padded_front _ _ _ (by omega)]
    rfl

theorem value_dh (h : RealArgs m c A W H P T) (t : Fin cfg0.N) (a : Fin 640) (k : Fin 1024) :
    k0_pay8 (k0_pay5 (grid0.coords t)) (k0_pay6 (iblk m c 0 t) (iblk m c 1 t) (iblk m c 8 t) (iblk m c 2 t) (iblk m c 3 t) (iblk m c 4 t) (iblk m c 5 t) (iblk m c 6 t) (iblk m c 7 t)) (ix2 a k) = ((dh (padded 128 (err A W H P T) (row t a)) k : ℝ) : EReal) := by
  pointwise [k0_pay8, value_err h t, ofBits_1024th]
  exact (EReal.coe_mul _ _).symm

theorem value_dd (h : RealArgs m c A W H P T) (t : Fin cfg0.N) (a : Fin 640) (k : Fin 1024) :
    k0_pay12 (k0_pay3 (iblk m c 0 t) (iblk m c 1 t)) (k0_pay4 (iblk m c 8 t)) (k0_pay5 (grid0.coords t)) (k0_pay6 (iblk m c 0 t) (iblk m c 1 t) (iblk m c 8 t) (iblk m c 2 t) (iblk m c 3 t) (iblk m c 4 t) (iblk m c 5 t) (iblk m c 6 t) (iblk m c 7 t)) (ix2 a k)
      = ((dd P (padded 112 (prod A W) (row t a)) (padded 128 (err A W H P T) (row t a)) k : ℝ) : EReal) := by
  pointwise [k0_pay12, k0_pay10, k0_pay4, value_dh h t, value_prod h t, value_scale h t, block_p h t, ofBits_1024]
  simp only [← EReal.coe_mul, coe_sum, div_real (show (1024 : ℝ) ≠ 0 by norm_num), ← EReal.coe_sub]
  rfl

/-- A row's part of the gradient of the gain. -/
def term11 (A : Arr 8208 2816) (W : Arr 2816 1024) (H : Arr 8208 1024) (P : Row 1024) (T : Arr 8192 1024) (r : Fin 8320) (j : Fin 1024) : ℝ := gainTerm (padded 112 (prod A W) r) (padded 128 (err A W H P T) r) j

theorem acc11 (h : RealArgs m c A W H P T) (t : Fin cfg0.N) (j : Fin 1024) :
    k0_pay11 (k0_pay3 (iblk m c 0 t) (iblk m c 1 t)) (k0_pay5 (grid0.coords t)) (k0_pay6 (iblk m c 0 t) (iblk m c 1 t) (iblk m c 8 t) (iblk m c 2 t) (iblk m c 3 t) (iblk m c 4 t) (iblk m c 5 t) (iblk m c 6 t) (iblk m c 7 t)) (ix2 0 j)
    = ((∑ a : Fin 640, term11 A W H P T (row t a) j : ℝ) : EReal) := by
  pointwise [k0_pay11, k0_pay10, value_dh h t, value_prod h t, value_scale h t]
  simp only [← EReal.coe_mul, coe_sum]
  rfl

/-- A grid point's part of the loss. -/
def part (e : Fin 640 → Fin 1024 → ℝ) : ℝ := 1 / 2 * (∑ a, square (e a)) * (1 / 1024)

theorem acc12 (h : RealArgs m c A W H P T) (t : Fin cfg0.N) (i : Fin 8) (j : Fin 128) :
    k0_pay1 (k0_pay14 (k0_pay5 (grid0.coords t)) (k0_pay6 (iblk m c 0 t) (iblk m c 1 t) (iblk m c 8 t) (iblk m c 2 t) (iblk m c 3 t) (iblk m c 4 t) (iblk m c 5 t) (iblk m c 6 t) (iblk m c 7 t))) (ix2 i j)
    = ((part fun a => padded 128 (err A W H P T) (row t a) : ℝ) : EReal) := by
  pointwise [k0_pay1, k0_pay14, value_err h t, ofBits_1024th, ofBits_half]
  simp only [← EReal.coe_mul, coe_sum, Finset.univ_unique, Finset.sum_singleton]
  rfl

/-- The loss's gradient, row by row. -/
def out9 (A : Arr 8208 2816) (W : Arr 2816 1024) (H : Arr 8208 1024) (P : Row 1024) (T : Arr 8192 1024) : FVec Ideal S8320x1024 .f32 := fun i => ((dh (padded 128 (err A W H P T) (i 0)) (i 1) : ℝ) : EReal)

/-- The down product's gradient, row by row. -/
def out10 (A : Arr 8208 2816) (W : Arr 2816 1024) (H : Arr 8208 1024) (P : Row 1024) (T : Arr 8192 1024) : FVec Ideal S8320x1024 .bf16 := fun i =>
  ((dd P (padded 112 (prod A W) (i 0)) (padded 128 (err A W H P T) (i 0)) (i 1) : ℝ) : EReal)

theorem place9 (t : Fin cfg0.N) (a : Fin 640) (k : Fin 1024) :
    ((View.whole main_v7_0).slice (win0_9.rect t)).emb (ix2 a k) = ix2 (row t a) k := by blk_ext [idx t, row]

theorem final9 (h : RealArgs m c A W H P T) : (dats m 0 c).arrAt 9 cfg0.N = out9 A W H P T := by
  refine (dats m 0 c).arrAt_eq_of_covers 9 _ (by decide +kernel) fun t hf y => ?_
  blk_simp
  rw [after0_9]
  by_cases h0 : t.val % 13 = 0
  · have h1 : ¬ 1 ≤ t.val := by have := lt_of_lt_of_eq t.isLt N_0; omega
    rw [outsAt0_A m c t h0 h1 h0 h1]
    frame_out
    idx_vars y
    exact (value_dh h t _ _).trans (congrArg (out9 A W H P T) (place9 t y0 y1)).symm
  · have h1 : 1 ≤ t.val := by have := lt_of_lt_of_eq t.isLt N_0; omega
    rw [outsAt0_B m c t h0 h1 h0 h1]
    frame_out
    idx_vars y
    exact (value_dh h t _ _).trans (congrArg (out9 A W H P T) (place9 t y0 y1)).symm

theorem place10 (t : Fin cfg0.N) (a : Fin 640) (k : Fin 1024) :
    ((View.whole main_v7_1).slice (win0_10.rect t)).emb (ix2 a k) = ix2 (row t a) k := by blk_ext [idx t, row]

theorem final10 (h : RealArgs m c A W H P T) : (dats m 0 c).arrAt 10 cfg0.N = out10 A W H P T := by
  refine (dats m 0 c).arrAt_eq_of_covers 10 _ (by decide +kernel) fun t hf y => ?_
  blk_simp
  rw [after0_10]
  by_cases h0 : t.val % 13 = 0
  · have h1 : ¬ 1 ≤ t.val := by have := lt_of_lt_of_eq t.isLt N_0; omega
    rw [outsAt0_A m c t h0 h1 h0 h1]
    frame_out
    idx_vars y
    exact (value_dd h t _ _).trans (congrArg (out10 A W H P T) (place10 t y0 y1)).symm
  · have h1 : 1 ≤ t.val := by have := lt_of_lt_of_eq t.isLt N_0; omega
    rw [outsAt0_B m c t h0 h1 h0 h1]
    frame_out
    idx_vars y
    exact (value_dd h t _ _).trans (congrArg (out10 A W H P T) (place10 t y0 y1)).symm

theorem final11 (h : RealArgs m c A W H P T) : (dats m 0 c).arrAt 11 cfg0.N = fun i : S1x1024.Idx =>
    ((∑ r : Fin 8320, term11 A W H P T r (i 1) : ℝ) : EReal) := by
  refine (dats m 0 c).arrAt_eq_of_covers 11 _ (by decide +kernel) fun t hf y => ?_
  blk_simp
  rw [after0_11, Pipeline.eq_sum_fin_of_reset_step_apply_of_flush (fun n h => (outsAt0 m c n h).2.2.1) 13 (fun _ => (0 : EReal))
    (fun p j => ((∑ a : Fin 640, term11 A W H P T (row p a) (j 1) : ℝ) : EReal))
    (fun t h0 j => ?_) (fun t h0 j => ?_) t ((flush0_11 t).mp hf) y]
  · idx_vars y
    have hy : ((View.whole main_v7_2).slice (win0_11.rect t)).emb (ix2 y0 y1) = ix2 y0 y1 := by blk_ext [idx t]
    refine Eq.trans ?_ (congrArg (fun i : S1x1024.Idx => ((∑ r : Fin 8320, term11 A W H P T r (i 1) : ℝ) : EReal)) hy).symm
    rw [zero_add]
    show (_ : EReal) = _
    rw [coe_sum, Fin.sum_univ_tiles 13 640 rfl]
    have ht := lt_of_lt_of_eq t.isLt N_0
    refine congrArg _ (Finset.sum_congr rfl fun s _ => Finset.sum_congr rfl fun a _ => ?_)
    refine congrArg (term11 A W H P T · y1) (Fin.ext ?_)
    simp only [row]
    omega
  · have h1 : ¬ 1 ≤ t.val := by have := lt_of_lt_of_eq t.isLt N_0; omega
    rw [outsAt0_A m c t h0 h1 h0 h1]
    frame_out
    idx_vars j
    obtain rfl : j0 = 0 := Subsingleton.elim _ _
    rw [zero_add]
    exact acc11 h t j1
  · have h1 : 1 ≤ t.val := by omega
    rw [outsAt0_B m c t h0 h1 h0 h1]
    frame_out
    idx_vars j
    obtain rfl : j0 = 0 := Subsingleton.elim _ _
    pointwise [k0_pay13]
    exact congrArg (_ + ·) (acc11 h t j1)

/-- The loss. -/
def loss (A : Arr 8208 2816) (W : Arr 2816 1024) (H : Arr 8208 1024) (P : Row 1024) (T : Arr 8192 1024) : ℝ := ∑ t : Fin 13, part fun a => padded 128 (err A W H P T) (⟨t.val * 640 + a.val, by omega⟩ : Fin 8320)

theorem final12 (h : RealArgs m c A W H P T) : (dats m 0 c).arrAt 12 cfg0.N = fun i : S8x128.Idx =>
    ((loss A W H P T : ℝ) : EReal) := by
  refine (dats m 0 c).arrAt_eq_of_covers 12 _ (by decide +kernel) fun t hf y => ?_
  blk_simp
  rw [after0_12, Pipeline.eq_sum_fin_of_reset_step_apply_of_flush (fun n h => (outsAt0 m c n h).2.2.2) 13 (fun _ => (0 : EReal))
    (fun p j => ((part fun a => padded 128 (err A W H P T) (row p a) : ℝ) : EReal))
    (fun t h0 j => ?_) (fun t h0 j => ?_) t ((flush0_12 t).mp hf) y]
  · rw [zero_add]
    show (_ : EReal) = _
    rw [coe_sum]
    have ht := lt_of_lt_of_eq t.isLt N_0
    refine congrArg _ (Finset.sum_congr rfl fun s _ => ?_)
    refine congrArg part (funext fun a => congrArg (padded 128 (err A W H P T)) (Fin.ext ?_))
    simp only [row]
    omega
  · have h1 : ¬ 1 ≤ t.val := by have := lt_of_lt_of_eq t.isLt N_0; omega
    rw [outsAt0_A m c t h0 h1 h0 h1]
    frame_out
    idx_vars j
    rw [zero_add]
    exact acc12 h t j0 j1
  · have h1 : 1 ≤ t.val := by omega
    rw [outsAt0_B m c t h0 h1 h0 h1]
    frame_out
    idx_vars j
    pointwise [k0_pay2]
    exact congrArg (_ + ·) (acc12 h t j0 j1)

end Cert.DownIdeal.Value

end
-- ==== Proof.DownReference.lean ====
/- What differentiating the down product, the norm, the residual and the loss gives, over real arguments. -/
module

public import proofs.«01_k».proof.Proof.Gen.DownRefIdeal.Run
public import proofs.«01_k».proof.Proof.Gen.DownRefIdeal.Read
public import proofs.«01_k».proof.Proof.DownMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DownRefIdeal.Read

open Cert.DownRefIdeal Cert.DownRefIdeal.Gen Cert.Reals Cert.Rms Cert.Down

variable (A : Arr 8208 2816) (W : Arr 2816 1024) (H : Arr 8208 1024) (P : Row 1024) (T : Arr 8192 1024)

/-- Row `r` of an array. -/
def rowAt (x : Arr 8208 1024) (r : Fin 8208) : Fin 1024 → ℝ := fun k => x (ix2 r k)

theorem prod_eq (r : Fin 8208) (j : Fin 1024) :
    val_main_v0 (F := Ideal) (fun i => ((A i : ℝ) : EReal)) (fun i => ((W i : ℝ) : EReal)) (ix2 r j) = ((prod A W (ix2 r j) : ℝ) : EReal) := by
  pointwise [val_main_v0]
  simp only [← EReal.coe_mul, coe_sum]
  rfl

theorem scale (r : Fin 8208) (o : Fin 1) :
    val_main_v8 (F := Ideal) (fun i => ((A i : ℝ) : EReal)) (fun i => ((W i : ℝ) : EReal)) (ix2 r o) = ((inv 1024 (rowAt (prod A W) r) : ℝ) : EReal) := by
  pointwise [val_main_v8, val_main_v7, val_main_v6, val_main_v5, val_main_v4, val_main_v3, val_main_v2, val_main_v1, val_main_cst, val_main_cst_0, val_main_cst_1, ofBits_1024, ofBits_eps, prod_eq A W]
  simp only [← EReal.coe_mul, coe_sum]
  exact rsqrt_meanSq (by norm_num) _

/-- The mean square with the norm's small constant. -/
theorem mean (r : Fin 8208) (o : Fin 1) :
    val_main_v7 (F := Ideal) (fun i => ((A i : ℝ) : EReal)) (fun i => ((W i : ℝ) : EReal)) (ix2 r o) = ((meanSq 1024 (rowAt (prod A W) r) : ℝ) : EReal) := by
  pointwise [val_main_v7, val_main_v6, val_main_v5, val_main_v4, val_main_v3, val_main_v2, val_main_v1, val_main_cst, val_main_cst_0, val_main_cst_1, ofBits_1024, ofBits_eps, prod_eq A W]
  simp only [← EReal.coe_mul, coe_sum, div_real (show (1024 : ℝ) ≠ 0 by norm_num), ← EReal.coe_add]
  rfl

/-- The difference the loss squares. -/
theorem err_eq (r : Fin 8192) (j : Fin 1024) :
    val_main_v19 (F := Ideal) (fun i => ((A i : ℝ) : EReal)) (fun i => ((W i : ℝ) : EReal)) (fun i => ((H i : ℝ) : EReal)) (fun i => ((P i : ℝ) : EReal)) (fun i => ((T i : ℝ) : EReal)) (ix2 r j) = ((err A W H P T (ix2 r j) : ℝ) : EReal) := by
  pointwise [val_main_v19, val_main_v18, val_main_v17, val_main_v16, val_main_v15, val_main_v14, val_main_v13, val_main_v12, prod_eq A W, scale A W]
  simp only [← EReal.coe_mul, ← EReal.coe_add, ← EReal.coe_sub]
  rfl

/-- The loss's gradient at the rows it counts. -/
theorem half_two (r : Fin 8192) (j : Fin 1024) :
    val_main_v33 (F := Ideal) (fun i => ((A i : ℝ) : EReal)) (fun i => ((W i : ℝ) : EReal)) (fun i => ((H i : ℝ) : EReal)) (fun i => ((P i : ℝ) : EReal)) (fun i => ((T i : ℝ) : EReal)) (ix2 r j) = ((err A W H P T (ix2 r j) * (1 / 1024) : ℝ) : EReal) := by
  pointwise [val_main_v33, val_main_v32, val_main_v31, val_main_v30, val_main_v29, val_main_v28, val_main_v22, val_main_v21, val_main_cst_3, val_main_cst_8, val_main_cst_9, val_main_cst_10, err_eq A W H P T, ofBits_two, ofBits_half, ofBits_1024]
  simp only [div_real (show (1024 : ℝ) ≠ 0 by norm_num), ← EReal.coe_mul]
  refine congrArg Real.toEReal ?_
  ring

/-- The loss's gradient. -/
theorem dh_eq (r : Fin 8208) (j : Fin 1024) :
    val_main_v35 (F := Ideal) (fun i => ((A i : ℝ) : EReal)) (fun i => ((W i : ℝ) : EReal)) (fun i => ((H i : ℝ) : EReal)) (fun i => ((P i : ℝ) : EReal)) (fun i => ((T i : ℝ) : EReal)) (ix2 r j) = ((dh (padded 16 (err A W H P T) r) j : ℝ) : EReal) := by
  pointwise [val_main_v35, val_main_cst_11, half_two A W H P T]
  unfold dh padded
  split
  · rfl
  · simp

/-- The gradient of the gain. -/
theorem gain (i : S1x1024.Idx) :
    val_main_v60 (F := Ideal) (fun i => ((A i : ℝ) : EReal)) (fun i => ((W i : ℝ) : EReal)) (fun i => ((H i : ℝ) : EReal)) (fun i => ((P i : ℝ) : EReal)) (fun i => ((T i : ℝ) : EReal)) i
      = ((∑ r : Fin 8208, gainTerm (rowAt (prod A W) r) (padded 16 (err A W H P T) r) (i 1) : ℝ) : EReal) := by
  idx_vars i
  pointwise [val_main_v60, val_main_v41, val_main_v38, val_main_v37, val_main_v36, val_main_v13, val_main_v12, val_main_cst_12, val_main_cst_13, prod_eq A W, scale A W, dh_eq A W H P T]
  simp only [Finset.univ_unique, Finset.sum_singleton, ← EReal.coe_mul, coe_sum]
  refine congrArg Real.toEReal (Finset.sum_congr rfl fun r _ => ?_)
  simp only [gainTerm, rowAt]
  ring

/-- The gradient of the down product. -/
theorem rows (r : Fin 8208) (j : Fin 1024) :
    val_main_v55 (F := Ideal) (fun i => ((A i : ℝ) : EReal)) (fun i => ((W i : ℝ) : EReal)) (fun i => ((H i : ℝ) : EReal)) (fun i => ((P i : ℝ) : EReal)) (fun i => ((T i : ℝ) : EReal)) (ix2 r j)
      = ((dd P (rowAt (prod A W) r) (padded 16 (err A W H P T) r) j : ℝ) : EReal) := by
  pointwise [val_main_v55, val_main_v54, val_main_v53, val_main_v52, val_main_v51, val_main_v50, val_main_v49, val_main_v48, val_main_v47, val_main_v46, val_main_v45, val_main_v44, val_main_v43, val_main_v42, val_main_v40, val_main_v39, val_main_v14, val_main_v11, val_main_v10, val_main_v9, val_main_cst_2, val_main_cst_14, val_main_cst_15, val_main_cst_16, ofBits_1024, ofBits_neg_half,
    prod_eq A W, scale A W, mean A W, dh_eq A W H P T]
  simp only [← EReal.coe_mul, coe_sum, div_real (show (1024 : ℝ) ≠ 0 by norm_num), div_real (meanSq_pos (show (0 : ℝ) < 1024 by norm_num) _).ne', Finset.univ_unique, Finset.sum_singleton]
  rw [dd, ← back_eq_vjp (show (0 : ℝ) < 1024 by norm_num)]
  simp only [← EReal.coe_add, add_assoc]
  rfl

/-- The loss. -/
theorem loss_eq (i : S8x128.Idx) :
    val_main_v61 (F := Ideal) (fun i => ((A i : ℝ) : EReal)) (fun i => ((W i : ℝ) : EReal)) (fun i => ((H i : ℝ) : EReal)) (fun i => ((P i : ℝ) : EReal)) (fun i => ((T i : ℝ) : EReal)) i
      = ((1 / 2 * ∑ r : Fin 8192, square (fun k => err A W H P T (ix2 r k)) / 1024 : ℝ) : EReal) := by
  idx_vars i
  pointwise [val_main_v61, val_main_v27, val_main_v26, val_main_v25, val_main_v24, val_main_v23, val_main_v20, val_main_cst_4, val_main_cst_5, val_main_cst_6, val_main_cst_7, err_eq A W H P T, ofBits_half, ofBits_1024]
  simp only [← EReal.coe_mul, coe_sum, div_real (show (1024 : ℝ) ≠ 0 by norm_num)]
  rfl

end Cert.DownRefIdeal.Read

end
-- ==== Proof.Down.lean ====
/- The loss behind the down product, and its gradient: the kernel and the differentiated forward lines agree. -/
module

public import proofs.«01_k».proof.Defs
public import proofs.«01_k».proof.Proof.DownKernel
public import proofs.«01_k».proof.Proof.DownReference
public import proofs.«01_k».proof.Proof.Gen.Pre_finite_down

@[expose] public section

set_option maxRecDepth 16384

noncomputable section

open Idealize.ShloMosaic Idealize.ShloMosaic.TcCoe Idealize.SL.Sem

namespace Cert.DownClaim

open Cert.Reals Cert.Rms Cert.Down

/-- The precondition in the form the proofs use: the arguments are arrays of real numbers. -/
theorem real_args (m : (ℓ : Loc DownIdeal.nD DownIdeal.τ DownIdeal.sig) → Buf (Elt Ideal) ℓ) (h : Pre_DownIdeal_finite_down m) (c : Dev DownIdeal.nD) :
    ∃ A W H P T, DownIdeal.Value.RealArgs m c A W H P T := by
  have hc := congrFun (h c) (fun a => a.elim0)
  simp only [Pre_finite_down.fn, Pre_finite_down.fn_part1, andi_apply, andi_one] at hc
  obtain ⟨⟨⟨⟨h0, h1⟩, h2⟩, h3⟩, h4⟩ := hc
  obtain ⟨A, hA⟩ := exists_real (fun _ => ofBits_inf) h0
  obtain ⟨W, hW⟩ := exists_real (fun _ => ofBits_inf) h1
  obtain ⟨H, hH⟩ := exists_real (fun _ => ofBits_inf) h2
  obtain ⟨P, hP⟩ := exists_real (fun _ => ofBits_inf) h3
  obtain ⟨T, hT⟩ := exists_real (fun _ => ofBits_inf) h4
  exact ⟨A, W, H, P, T, hA, hW, hH, hP, hT⟩

variable (A : Arr 8208 2816) (W : Arr 2816 1024) (H : Arr 8208 1024) (P : Row 1024) (T : Arr 8192 1024)

theorem rowAt_eq (x : Arr 8208 1024) (r : Fin 8208) (h : 112 + r.val < 8320) :
    padded 112 x (⟨112 + r.val, h⟩ : Fin 8320) = DownRefIdeal.Read.rowAt x r := padded_behind 112 x r h

/-- The rows without a loss are rows of zeros before and behind the padding. -/
theorem shorter (x : Arr 8192 1024) (r : Fin 8208) (h : 112 + r.val < 8320) :
    padded 128 x (⟨112 + r.val, h⟩ : Fin 8320) = padded 16 x r := by
  funext k
  unfold padded
  by_cases hr : 16 ≤ r.val
  · rw [dif_pos (by dsimp only; omega), dif_pos (by omega)]
    exact congrArg (fun q => x (ix2 q k)) (Fin.ext (by dsimp only; omega))
  · rw [dif_neg (by dsimp only; omega), dif_neg (by omega)]

theorem rows9 : DownIdeal.Value.out9 A W H P T = DownRefIdeal.Read.val_main_v57 (F := Ideal) (fun i => ((A i : ℝ) : EReal)) (fun i => ((W i : ℝ) : EReal)) (fun i => ((H i : ℝ) : EReal)) (fun i => ((P i : ℝ) : EReal)) (fun i => ((T i : ℝ) : EReal)) := by
  funext i
  idx_vars i
  pointwise [DownIdeal.Value.out9, DownRefIdeal.Read.val_main_v57, DownRefIdeal.Read.val_main_v56, DownRefIdeal.Read.val_main_cst_17, DownRefIdeal.Read.dh_eq A W H P T]
  rcases Nat.lt_or_ge i0.val 112 with hi | hi
  · rw [dif_pos hi, dh_zero (fun k => padded_front _ i0 k (by omega))]
    rfl
  · rw [dif_neg (by omega)]
    obtain ⟨r, hr, rfl⟩ := exists_behind (n0 := 8208) 112 rfl i0 hi
    have e : (⟨112 + r.val - 112, by omega⟩ : Fin 8208) = r := Fin.ext (by dsimp only; omega)
    simp only [rowAt_eq, shorter, e]

theorem rows10 : DownIdeal.Value.out10 A W H P T = DownRefIdeal.Read.val_main_v59 (F := Ideal) (fun i => ((A i : ℝ) : EReal)) (fun i => ((W i : ℝ) : EReal)) (fun i => ((H i : ℝ) : EReal)) (fun i => ((P i : ℝ) : EReal)) (fun i => ((T i : ℝ) : EReal)) := by
  funext i
  idx_vars i
  pointwise [DownIdeal.Value.out10, DownRefIdeal.Read.val_main_v59, DownRefIdeal.Read.val_main_v58, DownRefIdeal.Read.val_main_v56, DownRefIdeal.Read.val_main_cst_17, DownRefIdeal.Read.rows A W H P T]
  rcases Nat.lt_or_ge i0.val 112 with hi | hi
  · rw [dif_pos hi, dd_zero (fun k => padded_front _ i0 k (by omega))]
    rfl
  · rw [dif_neg (by omega)]
    obtain ⟨r, hr, rfl⟩ := exists_behind (n0 := 8208) 112 rfl i0 hi
    have e : (⟨112 + r.val - 112, by omega⟩ : Fin 8208) = r := Fin.ext (by dsimp only; omega)
    simp only [rowAt_eq, shorter, e]

theorem gains11 (j : Fin 1024) : ∑ r : Fin 8320, DownIdeal.Value.term11 A W H P T r j
    = ∑ r : Fin 8208, gainTerm (DownRefIdeal.Read.rowAt (prod A W) r) (padded 16 (err A W H P T) r) j := by
  rw [sum_behind (n0 := 8208) 112 rfl]
  · refine Finset.sum_congr rfl fun r _ => ?_
    simp only [DownIdeal.Value.term11, rowAt_eq, shorter]
  · intro r hr
    exact gainTerm_zero (fun k => padded_front _ r k (by omega)) j

theorem loss12 : DownIdeal.Value.loss A W H P T = 1 / 2 * ∑ r : Fin 8192, square (fun k => err A W H P T (ix2 r k)) / 1024 := by
  have e : ∑ r : Fin 8320, square (padded 128 (err A W H P T) r) = ∑ r : Fin 8192, square (fun k => err A W H P T (ix2 r k)) := by
    rw [sum_behind (n0 := 8192) 128 rfl]
    · exact Finset.sum_congr rfl fun r _ => congrArg square (padded_behind 128 _ r _)
    · intro r hr
      exact square_zero fun k => padded_front _ r k hr
  rw [← Finset.sum_div, ← e, Fin.sum_univ_tiles 13 640 rfl]
  simp only [DownIdeal.Value.loss, DownIdeal.Value.part, ← Finset.sum_mul, ← Finset.mul_sum]
  rw [mul_one_div, mul_div_assoc]

set_option maxHeartbeats 2000000 in
theorem value : algebraic_DownIdeal_DownRefIdeal_pre_finite_down := by
  pair_intro
  · run_from DownIdeal.Value.run_blocks m g
  · run_from DownRefIdeal.Value.run m' g'
    · obtain ⟨A, W, H, P, T, h⟩ := real_args m hpre c
      refine (DownRefIdeal.Read.val_main_v57_eq _ _ _ _ _).trans ?_
      refine Eq.trans ?_ (DownIdeal.Value.final9 h).symm
      rw [(hagree c).2.2.2.2, h.a, h.w, h.h, h.p, h.t]
      exact (rows9 A W H P T).symm
    · obtain ⟨A, W, H, P, T, h⟩ := real_args m hpre c
      refine (DownRefIdeal.Read.val_main_v59_eq _ _).trans ?_
      refine Eq.trans ?_ (DownIdeal.Value.final10 h).symm
      rw [(hagree c).1, (hagree c).2.1, (hagree c).2.2.1, (hagree c).2.2.2.1, (hagree c).2.2.2.2, h.a, h.w, h.h, h.p, h.t]
      exact (rows10 A W H P T).symm
    · obtain ⟨A, W, H, P, T, h⟩ := real_args m hpre c
      refine (DownRefIdeal.Read.val_main_v60_eq _ _ _ _ _).trans ?_
      refine Eq.trans ?_ (DownIdeal.Value.final11 h).symm
      rw [h.a, h.w, h.h, h.p, h.t]
      funext i
      rw [DownRefIdeal.Read.gain A W H P T i]
      exact congrArg _ (gains11 A W H P T (i 1)).symm
    · obtain ⟨A, W, H, P, T, h⟩ := real_args m hpre c
      refine (DownRefIdeal.Read.val_main_v61_eq _ _ _ _ _).trans ?_
      refine Eq.trans ?_ (DownIdeal.Value.final12 h).symm
      rw [h.a, h.w, h.h, h.p, h.t]
      funext i
      rw [DownRefIdeal.Read.loss_eq A W H P T i]
      exact congrArg _ (loss12 A W H P T).symm

/-- The differentiated forward lines run, and leave their arguments as they were. -/
theorem reference_frame : quiescent_DownRefIdeal := fun m g _ =>
  (θ_run DownRefIdeal.defs _ _).mono (fun r h => ⟨fun c => (h c).2.2.2.2, sem_eq_zero_of_no_sems rfl _⟩) (DownRefIdeal.Value.run m g)

end Cert.DownClaim

end
-- ==== Proof.MlaMath.lean ====
/- The mathematics of the latent projections' gradient, row by row, shared by the kernel and the plain reading. -/
module

public import proofs.«01_k».proof.Proof.Reals
public import proofs.«01_k».proof.Proof.Rms
public import Idealize.ShloMosaic.Lib.Pipeline.ValueKit

@[expose] public section

set_option maxRecDepth 16384

noncomputable section

namespace Cert.Mla

open Idealize.ShloMosaic Cert.Reals Cert.Rms
open scoped BigOperators

/-- An array of real numbers with two axes. -/
abbrev Arr (a b : ℕ) : Type := Shape.Idx ⟨2, ![a, b]⟩ → ℝ

/-- An array of real numbers with three axes. -/
abbrev Arr3 (a b c : ℕ) : Type := Shape.Idx ⟨3, ![a, b, c]⟩ → ℝ

/-- A row of real numbers. -/
abbrev Row (n : ℕ) : Type := Shape.Idx ⟨1, ![n]⟩ → ℝ

theorem ofBits_384 : Ideal.ofBits .f32 0x43C00000#32 = ((384 : ℝ) : EReal) := by
  simp [Ideal.ofBits, Ideal.ieee]
  norm_num [← EReal.coe_mul]

theorem ofBits_256 : Ideal.ofBits .f32 0x43800000#32 = ((256 : ℝ) : EReal) := by
  simp [Ideal.ofBits, Ideal.ieee]
  norm_num [← EReal.coe_mul]

/-- The rotary embedding's gradient: the rotation by the opposite angle. -/
def turn (c s : Fin 32 → ℝ) (x : Fin 64 → ℝ) (j : Fin 64) : ℝ :=
  if h : j.val < 32 then x ⟨32 + j.val, by omega⟩ * s ⟨j.val, h⟩ + x j * c ⟨j.val, h⟩
  else x ⟨32 + (j.val - 32), by omega⟩ * c ⟨j.val - 32, by omega⟩ + -x ⟨j.val - 32, by omega⟩ * s ⟨j.val - 32, by omega⟩

/-- A row of the gradient of the query's up-projection: the scaled gradient, the rotary part turned back. -/
def up (c s : Fin 32 → ℝ) (dq : Fin 8 → Fin 192 → ℝ) (h : Fin 8) (d : Fin 192) : ℝ :=
  if hd : d.val < 128 then dq h d * scale else turn c s (fun j => dq h ⟨128 + j.val, by omega⟩ * scale) ⟨d.val - 128, by omega⟩

/-- A row of the gradient of the key's and value's up-projection. -/
def both (dk : Fin 8 → Fin 192 → ℝ) (dv : Fin 8 → Fin 128 → ℝ) (h : Fin 8) (d : Fin 256) : ℝ :=
  if hd : d.val < 128 then dk h ⟨d.val, by omega⟩ else dv h ⟨d.val - 128, by omega⟩

theorem up_plain (c s : Fin 32 → ℝ) (dq : Fin 8 → Fin 192 → ℝ) (h : Fin 8) (d : Fin 192) (hd : d.val < 128) : up c s dq h d = dq h d * scale := dif_pos hd

/-- A row of the gradient of the normalised query latent. -/
def dql (W : Arr3 384 8 192) (c s : Fin 32 → ℝ) (dq : Fin 8 → Fin 192 → ℝ) (k : Fin 384) : ℝ :=
  ∑ h, ∑ d, up c s dq h d * W (ix3 k h d)

/-- A row of the gradient of the normalised key and value latent. -/
def dkl (W : Arr3 256 8 256) (dk : Fin 8 → Fin 192 → ℝ) (dv : Fin 8 → Fin 128 → ℝ) (k : Fin 256) : ℝ :=
  ∑ h, ∑ d, both dk dv h d * W (ix3 k h d)

/-- A row of the gradient of the rotary key, shared by the heads. -/
def dpe (c s : Fin 32 → ℝ) (dk : Fin 8 → Fin 192 → ℝ) : Fin 64 → ℝ := turn c s fun j => ∑ h, dk h ⟨128 + j.val, by omega⟩

/-- A row of the latents' gradient. -/
def dlat (GQ : Row 384) (WQ : Arr3 384 8 192) (GK : Row 256) (WK : Arr3 256 8 256) (q : Fin 384 → ℝ) (kv : Fin 256 → ℝ)
    (c s : Fin 32 → ℝ) (dq dk : Fin 8 → Fin 192 → ℝ) (dv : Fin 8 → Fin 128 → ℝ) (j : Fin 768) : ℝ :=
  if h : j.val < 384 then back 384 q (fun k => GQ (ix1 k)) (dql WQ c s dq) ⟨j.val, h⟩
  else if h : j.val < 640 then back 256 kv (fun k => GK (ix1 k)) (dkl WK dk dv) ⟨j.val - 384, by omega⟩
  else if h : j.val < 704 then dpe c s dk ⟨j.val - 640, by omega⟩ else 0

/-- A row's part of the query gain's gradient. -/
def qTerm (WQ : Arr3 384 8 192) (q : Fin 384 → ℝ) (c s : Fin 32 → ℝ) (dq : Fin 8 → Fin 192 → ℝ) (k : Fin 384) : ℝ :=
  dql WQ c s dq k * (q k * inv 384 q)

/-- A row's part of the key and value gain's gradient. -/
def kvTerm (WK : Arr3 256 8 256) (kv : Fin 256 → ℝ) (dk : Fin 8 → Fin 192 → ℝ) (dv : Fin 8 → Fin 128 → ℝ) (k : Fin 256) : ℝ :=
  dkl WK dk dv k * (kv k * inv 256 kv)

/-- A row of the query's flat gradient: the heads' plain parts, then their rotary parts, each widened to 128 by zeros. -/
def qflat (c s : Fin 32 → ℝ) (dq : Fin 8 → Fin 192 → ℝ) (q : Fin 2048) : ℝ :=
  if h : q.val < 1024 then up c s dq ⟨q.val / 128, by omega⟩ ⟨q.val % 128, by omega⟩
  else if h : (q.val - 1024) % 128 < 64 then up c s dq ⟨(q.val - 1024) / 128, by omega⟩ ⟨128 + (q.val - 1024) % 128, by omega⟩ else 0

/-- A row of the key's and value's flat gradient: the heads' keys, then their values. -/
def kvflat (dk : Fin 8 → Fin 192 → ℝ) (dv : Fin 8 → Fin 128 → ℝ) (q : Fin 2048) : ℝ :=
  if h : q.val < 1024 then both dk dv ⟨q.val / 128, by omega⟩ ⟨q.val % 128, by omega⟩
  else both dk dv ⟨(q.val - 1024) / 128, by omega⟩ ⟨128 + (q.val - 1024) % 128, by omega⟩

/-- Row `r` of an array. -/
def rowAt {n : ℕ} (x : Arr 8208 n) (r : Fin 8208) : Fin n → ℝ := fun k => x (ix2 r k)

/-- Row `r` of an array of heads. -/
def headsAt {n : ℕ} (x : Arr3 8208 8 n) (r : Fin 8208) : Fin 8 → Fin n → ℝ := fun h d => x (ix3 r h d)

/-- A row of heads, each widened to 256 lanes by zeros. -/
def wide (x : Fin 8 → Fin 192 → ℝ) (h : Fin 8) (d : Fin 256) : ℝ := if hd : d.val < 192 then x h ⟨d.val, hd⟩ else 0

/-- The cosines, four times over. -/
def cos4 (c : Fin 32 → ℝ) (j : Fin 128) : ℝ := c ⟨j.val % 32, by omega⟩

/-- The negated sines on the first and third quarter. -/
def sa4 (s : Fin 32 → ℝ) (j : Fin 128) : ℝ := if j.val % 64 < 32 then -s ⟨j.val % 32, by omega⟩ else 0

/-- The sines on the second and fourth quarter. -/
def sb4 (s : Fin 32 → ℝ) (j : Fin 128) : ℝ := if j.val % 64 < 32 then 0 else s ⟨j.val % 32, by omega⟩

/-- The rotation by the opposite angle as the kernel computes it on 128 lanes, by two rotations of the lanes. -/
def spin (c s : Fin 32 → ℝ) (d : Fin 128 → ℝ) (j : Fin 128) : ℝ :=
  d j * cos4 c j + d ⟨(j.val + 128 - 32) % 128, by omega⟩ * sa4 s ⟨(j.val + 128 - 32) % 128, by omega⟩
    + d ⟨(j.val + 128 - 96) % 128, by omega⟩ * sb4 s ⟨(j.val + 128 - 96) % 128, by omega⟩

/-- On lanes that are zero from the 64th on, it is the rotation of the first 64 lanes. -/
theorem spin_eq (c s : Fin 32 → ℝ) (d : Fin 128 → ℝ) (x : Fin 64 → ℝ) (hd : ∀ l : Fin 128, d l = if h : l.val < 64 then x ⟨l.val, h⟩ else 0) (j : Fin 128) :
    spin c s d j = if h : j.val < 64 then turn c s x ⟨j.val, h⟩ else 0 := by
  have hj := j.isLt
  simp only [spin, hd, cos4, sa4, sb4, turn]
  by_cases h0 : j.val < 32
  · have e1 : (j.val + 128 - 32) % 128 = j.val + 96 := by omega
    have e2 : (j.val + 128 - 96) % 128 = 32 + j.val := by omega
    have e3 : j.val % 32 = j.val := by omega
    have e4 : (32 + j.val) % 32 = j.val := by omega
    simp (disch := omega) only [e1, e2, e3, e4, dif_pos, dif_neg, if_pos, if_neg, zero_mul, add_zero]
    ring
  by_cases h1 : j.val < 64
  · have e1 : (j.val + 128 - 32) % 128 = j.val - 32 := by omega
    have e2 : (j.val + 128 - 96) % 128 = 32 + j.val := by omega
    have e3 : j.val % 32 = j.val - 32 := by omega
    have e4 : (j.val - 32) % 32 = j.val - 32 := by omega
    have e5 : 32 + (j.val - 32) = j.val := by omega
    simp (disch := omega) only [e1, e2, e3, e4, e5, dif_pos, dif_neg, if_pos, if_neg, zero_mul, add_zero]
    ring
  by_cases h2 : j.val < 96
  · have e1 : (j.val + 128 - 32) % 128 = j.val - 32 := by omega
    have e2 : (j.val + 128 - 96) % 128 = 32 + j.val := by omega
    simp (disch := omega) only [e1, e2, dif_pos, dif_neg, if_pos, if_neg, zero_mul, mul_zero, add_zero]
  · have e1 : (j.val + 128 - 32) % 128 = j.val - 32 := by omega
    have e2 : (j.val + 128 - 96) % 128 = j.val - 96 := by omega
    simp (disch := omega) only [e1, e2, dif_pos, dif_neg, if_pos, if_neg, zero_mul, mul_zero, add_zero]

theorem spin_up (c s : Fin 32 → ℝ) (x : Fin 8 → Fin 192 → ℝ) (h : Fin 8) (j : Fin 128) :
    spin c s (fun l => wide x h ⟨128 + l.val, by omega⟩ * scale) j = qflat c s x ⟨1024 + (h.val * 128 + j.val), by omega⟩ := by
  rw [spin_eq c s _ (fun l => x h ⟨128 + l.val, by omega⟩ * scale)]
  · unfold qflat
    have e1 : (1024 + (h.val * 128 + j.val) - 1024) % 128 = j.val := by omega
    have e2 : (1024 + (h.val * 128 + j.val) - 1024) / 128 = h.val := by omega
    rw [dif_neg (show ¬ 1024 + (h.val * 128 + j.val) < 1024 by omega)]
    simp only [e1, e2, up]
    by_cases h0 : j.val < 64
    · simp (disch := omega) only [dif_pos, dif_neg, Nat.add_sub_cancel_left]
    · rw [dif_neg h0, dif_neg h0]
  · intro l
    unfold wide
    by_cases h0 : l.val < 64
    · rw [dif_pos h0, dif_pos (show 128 + l.val < 192 by omega)]
    · rw [dif_neg h0, dif_neg (show ¬ 128 + l.val < 192 by omega), zero_mul]

theorem wide_up (c s : Fin 32 → ℝ) (x : Fin 8 → Fin 192 → ℝ) (h : Fin 8) (j : Fin 128) :
    wide x h ⟨j.val, by omega⟩ * scale = qflat c s x ⟨h.val * 128 + j.val, by omega⟩ := by
  unfold qflat wide
  have e1 : (h.val * 128 + j.val) % 128 = j.val := by omega
  have e2 : (h.val * 128 + j.val) / 128 = h.val := by omega
  simp (disch := omega) only [e1, e2, up, dif_pos]

theorem spin_pe (c s : Fin 32 → ℝ) (x : Fin 8 → Fin 192 → ℝ) (j : Fin 128) :
    spin c s (fun l => ∑ h, wide x h ⟨128 + l.val, by omega⟩) j = if h : j.val < 64 then dpe c s x ⟨j.val, h⟩ else 0 := by
  rw [spin_eq c s _ (fun l => ∑ h, x h ⟨128 + l.val, by omega⟩)]
  · rfl
  · intro l
    unfold wide
    by_cases h0 : l.val < 64
    · simp (disch := omega) only [dif_pos]
    · simp (disch := omega) only [dif_neg, Finset.sum_const_zero]

theorem kflat (dk : Fin 8 → Fin 192 → ℝ) (dv : Fin 8 → Fin 128 → ℝ) (h : Fin 8) (j : Fin 128) :
    wide dk h ⟨j.val, by omega⟩ = kvflat dk dv ⟨h.val * 128 + j.val, by omega⟩ := by
  unfold kvflat wide
  have e1 : (h.val * 128 + j.val) % 128 = j.val := by omega
  have e2 : (h.val * 128 + j.val) / 128 = h.val := by omega
  simp (disch := omega) only [e1, e2, both, dif_pos]

theorem vflat (dk : Fin 8 → Fin 192 → ℝ) (dv : Fin 8 → Fin 128 → ℝ) (h : Fin 8) (j : Fin 128) :
    dv h j = kvflat dk dv ⟨1024 + (h.val * 128 + j.val), by omega⟩ := by
  unfold kvflat
  have e1 : (h.val * 128 + j.val) % 128 = j.val := by omega
  have e2 : (h.val * 128 + j.val) / 128 = h.val := by omega
  simp (disch := omega) only [e1, e2, both, dif_neg, Nat.add_sub_cancel_left]

/-- The query's weights as the kernel lays them out. -/
def wqflat (W : Arr3 384 8 192) (k : Fin 384) (q : Fin 2048) : ℝ :=
  if h : q.val < 1024 then W (ix3 k ⟨q.val / 128, by omega⟩ ⟨q.val % 128, by omega⟩)
  else if h : (q.val - 1024) % 128 < 64 then W (ix3 k ⟨(q.val - 1024) / 128, by omega⟩ ⟨128 + (q.val - 1024) % 128, by omega⟩) else 0

/-- The key's and value's weights as the kernel lays them out. -/
def wkvflat (W : Arr3 256 8 256) (k : Fin 256) (q : Fin 2048) : ℝ :=
  if h : q.val < 1024 then W (ix3 k ⟨q.val / 128, by omega⟩ ⟨q.val % 128, by omega⟩)
  else W (ix3 k ⟨(q.val - 1024) / 128, by omega⟩ ⟨128 + (q.val - 1024) % 128, by omega⟩)

theorem sum_flat (f : Fin 2048 → ℝ) : ∑ q, f q = ∑ h : Fin 8, ((∑ l : Fin 128, f ⟨h.val * 128 + l.val, by omega⟩)
    + ∑ l : Fin 128, f ⟨1024 + (h.val * 128 + l.val), by omega⟩) := by
  rw [Fin.sum_univ_tiles 16 128 rfl]
  show ∑ i : Fin (8 + 8), _ = _
  rw [Fin.sum_univ_add, ← Finset.sum_add_distrib]
  refine Finset.sum_congr rfl fun h _ => congrArg₂ (· + ·) (Finset.sum_congr rfl fun l _ => congrArg f (Fin.ext ?_)) (Finset.sum_congr rfl fun l _ => congrArg f (Fin.ext ?_))
  · simp
  · simp; omega

theorem dot_q (W : Arr3 384 8 192) (c s : Fin 32 → ℝ) (x : Fin 8 → Fin 192 → ℝ) (k : Fin 384) :
    ∑ q, qflat c s x q * wqflat W k q = dql W c s x k := by
  rw [sum_flat, dql]
  refine Finset.sum_congr rfl fun h _ => ?_
  refine Eq.trans ?_ (Fin.sum_univ_add (fun d : Fin (128 + 64) => up c s x h d * W (ix3 k h d))).symm
  refine congrArg₂ (· + ·) (Finset.sum_congr rfl fun l _ => ?_) ?_
  · unfold qflat wqflat
    have e1 : (h.val * 128 + l.val) % 128 = l.val := by omega
    have e2 : (h.val * 128 + l.val) / 128 = h.val := by omega
    simp (disch := omega) only [e1, e2, dif_pos]
    rfl
  · refine Eq.trans ?_ (show (∑ l : Fin (64 + 64), if hl : l.val < 64 then up c s x h ⟨128 + l.val, by omega⟩ * W (ix3 k h ⟨128 + l.val, by omega⟩) else 0) = _ from ?_)
    · refine Finset.sum_congr rfl fun l _ => ?_
      unfold qflat wqflat
      have e1 : (1024 + (h.val * 128 + l.val) - 1024) % 128 = l.val := by omega
      have e2 : (1024 + (h.val * 128 + l.val) - 1024) / 128 = h.val := by omega
      rw [dif_neg (show ¬ 1024 + (h.val * 128 + l.val) < 1024 by omega), dif_neg (show ¬ 1024 + (h.val * 128 + l.val) < 1024 by omega)]
      simp only [e1, e2]
      split
      · rfl
      · rw [zero_mul]
    · rw [Fin.sum_univ_add]
      refine Eq.trans (congrArg₂ (· + ·) (Finset.sum_congr rfl fun l _ => dif_pos (show (Fin.castAdd 64 l).val < 64 from l.isLt))
        (Finset.sum_eq_zero fun l _ => dif_neg (show ¬ (Fin.natAdd 64 l).val < 64 by simp))) (add_zero _)

theorem dot_kv (W : Arr3 256 8 256) (dk : Fin 8 → Fin 192 → ℝ) (dv : Fin 8 → Fin 128 → ℝ) (k : Fin 256) :
    ∑ q, kvflat dk dv q * wkvflat W k q = dkl W dk dv k := by
  rw [sum_flat, dkl]
  refine Finset.sum_congr rfl fun h _ => ?_
  refine Eq.trans ?_ (Fin.sum_univ_add (fun d : Fin (128 + 128) => both dk dv h d * W (ix3 k h d))).symm
  refine congrArg₂ (· + ·) (Finset.sum_congr rfl fun l _ => ?_) (Finset.sum_congr rfl fun l _ => ?_)
  · unfold kvflat wkvflat
    have e1 : (h.val * 128 + l.val) % 128 = l.val := by omega
    have e2 : (h.val * 128 + l.val) / 128 = h.val := by omega
    simp (disch := omega) only [e1, e2, dif_pos]
    rfl
  · unfold kvflat wkvflat
    have e1 : (1024 + (h.val * 128 + l.val) - 1024) % 128 = l.val := by omega
    have e2 : (1024 + (h.val * 128 + l.val) - 1024) / 128 = h.val := by omega
    simp (disch := omega) only [e1, e2, dif_neg]
    rfl

/-- Rows with rows of zeros in front. -/
def front {α : Type} [Zero α] (f : Fin 8208 → α) (R : Fin 8320) : α := if h : 112 ≤ R.val then f ⟨R.val - 112, by omega⟩ else 0

theorem front_behind {α : Type} [Zero α] (f : Fin 8208 → α) (r : Fin 8208) (h : 112 + r.val < 8320) : front f ⟨112 + r.val, h⟩ = f r := by
  unfold front
  rw [dif_pos (show 112 ≤ 112 + r.val by omega)]
  exact congrArg f (Fin.ext (by simp))

theorem front_front {α : Type} [Zero α] (f : Fin 8208 → α) (R : Fin 8320) (h : R.val < 112) : front f R = 0 := dif_neg (by omega)

end Cert.Mla
-- ==== Proof.MlaEntry.lean ====
/- What the kernel of the latent projections' gradient reads at a grid point, over real arguments. -/
module

public import proofs.«01_k».proof.Proof.Gen.MlaIdeal.Value
public import proofs.«01_k».proof.Proof.MlaMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlaIdeal.Value

open Cert.MlaIdeal Cert.MlaIdeal.Gen Cert.Reals Cert.Rms Cert.Mla

variable (m : (ℓ : Loc nD τ sig) → Buf (Elt Ideal) ℓ)

/-- The block index of every window at a grid point. -/
theorem idx : ∀ t : Fin cfg0.N, win0_0.index t = ![0, t.val, 0] ∧ win0_1.index t = ![0, t.val, 0] ∧ win0_2.index t = ![0, t.val, 0] ∧ win0_3.index t = ![t.val, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![0, 0] ∧ win0_15.index t = ![0, 0] :=
  (by decide +kernel : ∀ t : Fin grid0.N, _)

/-- The row of the whole array that row `a` of point `t`'s block is. -/
def row (t : Fin cfg0.N) (a : Fin 320) : Fin 8320 := ⟨t.val * 320 + a.val, by have := lt_of_lt_of_eq t.isLt N_0; omega⟩

/-- The argument arrays are arrays of real numbers. -/
structure RealArgs (c : Dev nD) (Q : Arr 8208 384) (KV : Arr 8208 256) (GQ : Row 384) (WQ : Arr3 384 8 192) (GK : Row 256) (WK : Arr3 256 8 256)
    (C S : Arr 8208 32) (DQ DK : Arr3 8208 8 192) (DV : Arr3 8208 8 128) : Prop where
  q : m ((c : Thread nD τ).loc main_arg0) = fun i => ((Q i : ℝ) : EReal)
  kv : m ((c : Thread nD τ).loc main_arg1) = fun i => ((KV i : ℝ) : EReal)
  gq : m ((c : Thread nD τ).loc main_arg3) = fun i => ((GQ i : ℝ) : EReal)
  wq : m ((c : Thread nD τ).loc main_arg4) = fun i => ((WQ i : ℝ) : EReal)
  gk : m ((c : Thread nD τ).loc main_arg5) = fun i => ((GK i : ℝ) : EReal)
  wk : m ((c : Thread nD τ).loc main_arg6) = fun i => ((WK i : ℝ) : EReal)
  cos : m ((c : Thread nD τ).loc main_arg7) = fun i => ((C i : ℝ) : EReal)
  sin : m ((c : Thread nD τ).loc main_arg8) = fun i => ((S i : ℝ) : EReal)
  dq : m ((c : Thread nD τ).loc main_arg9) = fun i => ((DQ i : ℝ) : EReal)
  dk : m ((c : Thread nD τ).loc main_arg10) = fun i => ((DK i : ℝ) : EReal)
  dv : m ((c : Thread nD τ).loc main_arg11) = fun i => ((DV i : ℝ) : EReal)

variable {m} {c : Dev nD} {Q : Arr 8208 384} {KV : Arr 8208 256} {GQ : Row 384} {WQ : Arr3 384 8 192} {GK : Row 256} {WK : Arr3 256 8 256}
  {C S : Arr 8208 32} {DQ DK : Arr3 8208 8 192} {DV : Arr3 8208 8 128}

/-! ## The arrays when the grid starts -/

theorem step_v7 : V m c main_v7 = (truncf .bf16 (concatenate S384x2048 1 [⟨S384x1024, (V m c main_v4 : FVec Ideal S384x1024 .f32)⟩, ⟨S384x1024, (V m c main_v5 : FVec Ideal S384x1024 .f32)⟩] concatenates_S384x1024_S384x1024_S384x2048_d1 : FVec Ideal S384x2048 .f32) bitsLt_bf16_f32 : FVec Ideal S384x2048 .bf16) := by
  entry_read
  rfl

theorem step_v13 : V m c main_v13 = (truncf .bf16 (concatenate S256x2048 1 [⟨S256x1024, (V m c main_v9 : FVec Ideal S256x1024 .f32)⟩, ⟨S256x1024, (V m c main_v11 : FVec Ideal S256x1024 .f32)⟩] concatenates_S256x1024_S256x1024_S256x2048_d1 : FVec Ideal S256x2048 .f32) bitsLt_bf16_f32 : FVec Ideal S256x2048 .bf16) := by
  entry_read
  rfl

theorem step_v26 : V m c main_v26 = (concatenate S8x8320x256 1 [⟨S8x112x256, ((broadcastInDim S8x112x256 ![] bcast_S_S8x112x256) (constant (F := Ideal) S_ .f32 0x00000000#32 : FVec Ideal S_ .f32) : FVec Ideal S8x112x256 .f32)⟩, ⟨S8x8208x256, (concatenate S8x8208x256 2 [⟨S8x8208x192, (transpose S8x8208x192 [1, 0, 2] (m ((c : Thread nD τ).loc main_arg9) : FVec Ideal S8208x8x192 .f32) transposes_S8208x8x192_S8x8208x192_1_0_2 : FVec Ideal S8x8208x192 .f32)⟩, ⟨S8x8208x64, ((broadcastInDim S8x8208x64 ![] bcast_S_S8x8208x64) (constant (F := Ideal) S_ .f32 0x00000000#32 : FVec Ideal S_ .f32) : FVec Ideal S8x8208x64 .f32)⟩] concatenates_S8x8208x192_S8x8208x64_S8x8208x256_d2 : FVec Ideal S8x8208x256 .f32)⟩] concatenates_S8x112x256_S8x8208x256_S8x8320x256_d1 : FVec Ideal S8x8320x256 .f32) := by
  entry_read
  rfl

theorem step_v31 : V m c main_v31 = (concatenate S8x8320x256 1 [⟨S8x112x256, ((broadcastInDim S8x112x256 ![] bcast_S_S8x112x256) (constant (F := Ideal) S_ .f32 0x00000000#32 : FVec Ideal S_ .f32) : FVec Ideal S8x112x256 .f32)⟩, ⟨S8x8208x256, (concatenate S8x8208x256 2 [⟨S8x8208x192, (transpose S8x8208x192 [1, 0, 2] (m ((c : Thread nD τ).loc main_arg10) : FVec Ideal S8208x8x192 .f32) transposes_S8208x8x192_S8x8208x192_1_0_2 : FVec Ideal S8x8208x192 .f32)⟩, ⟨S8x8208x64, ((broadcastInDim S8x8208x64 ![] bcast_S_S8x8208x64) (constant (F := Ideal) S_ .f32 0x00000000#32 : FVec Ideal S_ .f32) : FVec Ideal S8x8208x64 .f32)⟩] concatenates_S8x8208x192_S8x8208x64_S8x8208x256_d2 : FVec Ideal S8x8208x256 .f32)⟩] concatenates_S8x112x256_S8x8208x256_S8x8320x256_d1 : FVec Ideal S8x8320x256 .f32) := by
  entry_read
  rfl

set_option maxHeartbeats 2000000 in
theorem step_v34 : V m c main_v34 = (concatenate S8x8320x128 1 [⟨S8x112x128, ((broadcastInDim S8x112x128 ![] bcast_S_S8x112x128) (constant (F := Ideal) S_ .f32 0x00000000#32 : FVec Ideal S_ .f32) : FVec Ideal S8x112x128 .f32)⟩, ⟨S8x8208x128, (transpose S8x8208x128 [1, 0, 2] (m ((c : Thread nD τ).loc main_arg11) : FVec Ideal S8208x8x128 .f32) transposes_S8208x8x128_S8x8208x128_1_0_2 : FVec Ideal S8x8208x128 .f32)⟩] concatenates_S8x112x128_S8x8208x128_S8x8320x128_d1 : FVec Ideal S8x8320x128 .f32) := by
  entry_read
  rfl

set_option maxHeartbeats 2000000 in
theorem step_v36 : V m c main_v36 = (concatenate S8320x768 0 [⟨S112x768, ((broadcastInDim S112x768 ![] bcast_S_S112x768) (constant (F := Ideal) S_ .f32 0x00000000#32 : FVec Ideal S_ .f32) : FVec Ideal S112x768 .f32)⟩, ⟨S8208x768, (concatenate S8208x768 1 [⟨S8208x384, (m ((c : Thread nD τ).loc main_arg0) : FVec Ideal S8208x384 .f32)⟩, ⟨S8208x256, (m ((c : Thread nD τ).loc main_arg1) : FVec Ideal S8208x256 .f32)⟩, ⟨S8208x64, (m ((c : Thread nD τ).loc main_arg2) : FVec Ideal S8208x64 .f32)⟩, ⟨S8208x64, ((broadcastInDim S8208x64 ![] bcast_S_S8208x64) (constant (F := Ideal) S_ .f32 0x00000000#32 : FVec Ideal S_ .f32) : FVec Ideal S8208x64 .f32)⟩] concatenates_S8208x384_S8208x256_S8208x64_S8208x64_S8208x768_d1 : FVec Ideal S8208x768 .f32)⟩] concatenates_S112x768_S8208x768_S8320x768_d0 : FVec Ideal S8320x768 .f32) := by
  show StableHlo.after hostOps0 (fun b => m (c, b)) _ = _
  simp only [hostOps0, StableHlo.after_cons, StableHlo.after_nil]
  after_results_steps
  rfl

set_option maxHeartbeats 2000000 in
theorem step_v40 : V m c main_v40 = (concatenate S8320x128 0 [⟨S112x128, ((broadcastInDim S112x128 ![] bcast_S_S112x128) (constant (F := Ideal) S_ .f32 0x00000000#32 : FVec Ideal S_ .f32) : FVec Ideal S112x128 .f32)⟩, ⟨S8208x128, (concatenate S8208x128 1 [⟨S8208x32, (m ((c : Thread nD τ).loc main_arg7) : FVec Ideal S8208x32 .f32)⟩, ⟨S8208x32, (m ((c : Thread nD τ).loc main_arg7) : FVec Ideal S8208x32 .f32)⟩, ⟨S8208x32, (m ((c : Thread nD τ).loc main_arg7) : FVec Ideal S8208x32 .f32)⟩, ⟨S8208x32, (m ((c : Thread nD τ).loc main_arg7) : FVec Ideal S8208x32 .f32)⟩] concatenates_S8208x32_S8208x32_S8208x32_S8208x32_S8208x128_d1 : FVec Ideal S8208x128 .f32)⟩] concatenates_S112x128_S8208x128_S8320x128_d0 : FVec Ideal S8320x128 .f32) := by
  show StableHlo.after hostOps0 (fun b => m (c, b)) _ = _
  simp only [hostOps0, StableHlo.after_cons, StableHlo.after_nil]
  after_results_steps
  rfl

set_option maxHeartbeats 2000000 in
theorem step_v42 : V m c main_v42 = (concatenate S8320x128 0 [⟨S112x128, ((broadcastInDim S112x128 ![] bcast_S_S112x128) (constant (F := Ideal) S_ .f32 0x00000000#32 : FVec Ideal S_ .f32) : FVec Ideal S112x128 .f32)⟩, ⟨S8208x128, (concatenate S8208x128 1 [⟨S8208x32, ((Host.negf) (m ((c : Thread nD τ).loc main_arg8) : FVec Ideal S8208x32 .f32) : FVec Ideal S8208x32 .f32)⟩, ⟨S8208x32, ((broadcastInDim S8208x32 ![] bcast_S_S8208x32) (constant (F := Ideal) S_ .f32 0x00000000#32 : FVec Ideal S_ .f32) : FVec Ideal S8208x32 .f32)⟩, ⟨S8208x32, ((Host.negf) (m ((c : Thread nD τ).loc main_arg8) : FVec Ideal S8208x32 .f32) : FVec Ideal S8208x32 .f32)⟩, ⟨S8208x32, ((broadcastInDim S8208x32 ![] bcast_S_S8208x32) (constant (F := Ideal) S_ .f32 0x00000000#32 : FVec Ideal S_ .f32) : FVec Ideal S8208x32 .f32)⟩] concatenates_S8208x32_S8208x32_S8208x32_S8208x32_S8208x128_d1 : FVec Ideal S8208x128 .f32)⟩] concatenates_S112x128_S8208x128_S8320x128_d0 : FVec Ideal S8320x128 .f32) := by
  show StableHlo.after hostOps0 (fun b => m (c, b)) _ = _
  simp only [hostOps0, StableHlo.after_cons, StableHlo.after_nil]
  after_results_steps
  rfl

set_option maxHeartbeats 2000000 in
theorem step_v44 : V m c main_v44 = (concatenate S8320x128 0 [⟨S112x128, ((broadcastInDim S112x128 ![] bcast_S_S112x128) (constant (F := Ideal) S_ .f32 0x00000000#32 : FVec Ideal S_ .f32) : FVec Ideal S112x128 .f32)⟩, ⟨S8208x128, (concatenate S8208x128 1 [⟨S8208x32, ((broadcastInDim S8208x32 ![] bcast_S_S8208x32) (constant (F := Ideal) S_ .f32 0x00000000#32 : FVec Ideal S_ .f32) : FVec Ideal S8208x32 .f32)⟩, ⟨S8208x32, (m ((c : Thread nD τ).loc main_arg8) : FVec Ideal S8208x32 .f32)⟩, ⟨S8208x32, ((broadcastInDim S8208x32 ![] bcast_S_S8208x32) (constant (F := Ideal) S_ .f32 0x00000000#32 : FVec Ideal S_ .f32) : FVec Ideal S8208x32 .f32)⟩, ⟨S8208x32, (m ((c : Thread nD τ).loc main_arg8) : FVec Ideal S8208x32 .f32)⟩] concatenates_S8208x32_S8208x32_S8208x32_S8208x32_S8208x128_d1 : FVec Ideal S8208x128 .f32)⟩] concatenates_S112x128_S8208x128_S8320x128_d0 : FVec Ideal S8320x128 .f32) := by
  show StableHlo.after hostOps0 (fun b => m (c, b)) _ = _
  simp only [hostOps0, StableHlo.after_cons, StableHlo.after_nil]
  after_results_steps
  rfl

theorem entry_dq (h : RealArgs m c Q KV GQ WQ GK WK C S DQ DK DV) (g : Fin 8) (R : Fin 8320) (d : Fin 256) :
    V m c main_v26 (ix3 g R d) = ((wide (front (headsAt DQ) R) g d : ℝ) : EReal) := by
  rw [step_v26]
  pointwise [h.dq]
  unfold wide front headsAt
  by_cases hR : R.val < 112
  · rw [dif_pos hR]
    simp (disch := omega) only [dif_neg, Pi.zero_apply, dite_eq_ite, ite_self]
    rfl
  · rw [dif_neg hR]
    simp (disch := omega) only [dif_pos]
    by_cases hd : d.val < 192
    · rw [dif_pos hd, dif_pos hd]
    · rw [dif_neg hd, dif_neg hd]; rfl

theorem entry_dk (h : RealArgs m c Q KV GQ WQ GK WK C S DQ DK DV) (g : Fin 8) (R : Fin 8320) (d : Fin 256) :
    V m c main_v31 (ix3 g R d) = ((wide (front (headsAt DK) R) g d : ℝ) : EReal) := by
  rw [step_v31]
  pointwise [h.dk]
  unfold wide front headsAt
  by_cases hR : R.val < 112
  · rw [dif_pos hR]
    simp (disch := omega) only [dif_neg, Pi.zero_apply, dite_eq_ite, ite_self]
    rfl
  · rw [dif_neg hR]
    simp (disch := omega) only [dif_pos]
    by_cases hd : d.val < 192
    · rw [dif_pos hd, dif_pos hd]
    · rw [dif_neg hd, dif_neg hd]; rfl

theorem entry_dv (h : RealArgs m c Q KV GQ WQ GK WK C S DQ DK DV) (g : Fin 8) (R : Fin 8320) (d : Fin 128) :
    V m c main_v34 (ix3 g R d) = ((front (headsAt DV) R g d : ℝ) : EReal) := by
  rw [step_v34]
  pointwise [h.dv]
  unfold front headsAt
  by_cases hR : R.val < 112
  · rw [dif_pos hR]
    simp (disch := omega) only [dif_neg]
    rfl
  · rw [dif_neg hR]
    simp (disch := omega) only [dif_pos]

theorem entry_q (h : RealArgs m c Q KV GQ WQ GK WK C S DQ DK DV) (R : Fin 8320) (k : Fin 384) :
    V m c main_v36 (ix2 R ⟨k.val, by omega⟩) = ((front (rowAt Q) R k : ℝ) : EReal) := by
  rw [step_v36]
  pointwise [h.q, h.kv]
  unfold front rowAt
  by_cases hR : R.val < 112
  · rw [dif_pos hR]
    simp (disch := omega) only [dif_neg]
    rfl
  · rw [dif_neg hR]
    simp (disch := omega) only [dif_pos, dif_neg, Nat.add_sub_cancel_left]

theorem entry_kv (h : RealArgs m c Q KV GQ WQ GK WK C S DQ DK DV) (R : Fin 8320) (k : Fin 256) :
    V m c main_v36 (ix2 R ⟨384 + k.val, by omega⟩) = ((front (rowAt KV) R k : ℝ) : EReal) := by
  rw [step_v36]
  pointwise [h.q, h.kv]
  unfold front rowAt
  by_cases hR : R.val < 112
  · rw [dif_pos hR]
    simp (disch := omega) only [dif_neg]
    rfl
  · rw [dif_neg hR]
    simp (disch := omega) only [dif_pos, dif_neg, Nat.add_sub_cancel_left]

theorem entry_gq (h : RealArgs m c Q KV GQ WQ GK WK C S DQ DK DV) (k : Fin 384) :
    V m c main_v37 (ix2 0 k) = ((GQ (ix1 k) : ℝ) : EReal) := by
  entry_read
  pointwise [h.gq]

theorem entry_gk (h : RealArgs m c Q KV GQ WQ GK WK C S DQ DK DV) (k : Fin 256) :
    V m c main_v38 (ix2 0 k) = ((GK (ix1 k) : ℝ) : EReal) := by
  entry_read
  pointwise [h.gk]

theorem entry_wq4 (h : RealArgs m c Q KV GQ WQ GK WK C S DQ DK DV) (k : Fin 384) (q : Fin 1024) :
    V m c main_v4 (ix2 k q) = ((WQ (ix3 k ⟨q.val / 128, by omega⟩ ⟨q.val % 128, by omega⟩) : ℝ) : EReal) := by
  entry_read
  pointwise [h.wq]

theorem entry_wq5 (h : RealArgs m c Q KV GQ WQ GK WK C S DQ DK DV) (k : Fin 384) (q : Fin 1024) :
    V m c main_v5 (ix2 k q) = ((if hq : q.val % 128 < 64 then WQ (ix3 k ⟨q.val / 128, by omega⟩ ⟨128 + q.val % 128, by omega⟩) else 0 : ℝ) : EReal) := by
  entry_read
  pointwise [h.wq]
  split <;> rfl

theorem entry_wk9 (h : RealArgs m c Q KV GQ WQ GK WK C S DQ DK DV) (k : Fin 256) (q : Fin 1024) :
    V m c main_v9 (ix2 k q) = ((WK (ix3 k ⟨q.val / 128, by omega⟩ ⟨q.val % 128, by omega⟩) : ℝ) : EReal) := by
  entry_read
  pointwise [h.wk]

theorem entry_wk11 (h : RealArgs m c Q KV GQ WQ GK WK C S DQ DK DV) (k : Fin 256) (q : Fin 1024) :
    V m c main_v11 (ix2 k q) = ((WK (ix3 k ⟨q.val / 128, by omega⟩ ⟨128 + q.val % 128, by omega⟩) : ℝ) : EReal) := by
  entry_read
  pointwise [h.wk]

theorem entry_wq (h : RealArgs m c Q KV GQ WQ GK WK C S DQ DK DV) (k : Fin 384) (q : Fin 2048) :
    V m c main_v7 (ix2 k q) = ((wqflat WQ k q : ℝ) : EReal) := by
  rw [step_v7]
  pointwise [entry_wq4 h, entry_wq5 h]
  unfold wqflat
  split <;> rfl

theorem entry_wk (h : RealArgs m c Q KV GQ WQ GK WK C S DQ DK DV) (k : Fin 256) (q : Fin 2048) :
    V m c main_v13 (ix2 k q) = ((wkvflat WK k q : ℝ) : EReal) := by
  rw [step_v13]
  pointwise [entry_wk9 h, entry_wk11 h]
  unfold wkvflat
  split <;> rfl

theorem entry_cos (h : RealArgs m c Q KV GQ WQ GK WK C S DQ DK DV) (R : Fin 8320) (j : Fin 128) :
    V m c main_v40 (ix2 R j) = ((cos4 (front (rowAt C) R) j : ℝ) : EReal) := by
  rw [step_v40]
  pointwise [h.cos]
  unfold cos4 front rowAt
  by_cases hR : R.val < 112
  · rw [dif_pos hR]
    simp (disch := omega) only [dif_neg, Pi.zero_apply, neg_zero, ite_self]
    rfl
  · rw [dif_neg hR]
    simp (disch := omega) only [dif_pos]
    have e : ∀ (x y : ℕ) (hx : x < 32) (hy : y < 32) (r : Fin 8208), x = y → C (ix2 r ⟨x, hx⟩) = C (ix2 r ⟨y, hy⟩) := by
      intro x y hx hy r hxy; subst hxy; rfl
    repeat' split
    all_goals first
      | (exfalso; omega)
      | rfl
      | (refine congrArg _ (e _ _ _ _ _ ?_); omega)
      | (refine (congrArg (fun z : ℝ => -(z : EReal)) (e _ _ _ _ _ ?_)).trans (EReal.coe_neg _).symm; omega)
      | exact EReal.coe_zero.symm

theorem entry_sa (h : RealArgs m c Q KV GQ WQ GK WK C S DQ DK DV) (R : Fin 8320) (j : Fin 128) :
    V m c main_v42 (ix2 R j) = ((sa4 (front (rowAt S) R) j : ℝ) : EReal) := by
  rw [step_v42]
  pointwise [h.sin]
  unfold sa4 front rowAt
  by_cases hR : R.val < 112
  · rw [dif_pos hR]
    simp (disch := omega) only [dif_neg, Pi.zero_apply, neg_zero, ite_self]
    rfl
  · rw [dif_neg hR]
    simp (disch := omega) only [dif_pos]
    have e : ∀ (x y : ℕ) (hx : x < 32) (hy : y < 32) (r : Fin 8208), x = y → S (ix2 r ⟨x, hx⟩) = S (ix2 r ⟨y, hy⟩) := by
      intro x y hx hy r hxy; subst hxy; rfl
    repeat' split
    all_goals first
      | (exfalso; omega)
      | rfl
      | (refine congrArg _ (e _ _ _ _ _ ?_); omega)
      | (refine (congrArg (fun z : ℝ => -(z : EReal)) (e _ _ _ _ _ ?_)).trans (EReal.coe_neg _).symm; omega)
      | exact EReal.coe_zero.symm

theorem entry_sb (h : RealArgs m c Q KV GQ WQ GK WK C S DQ DK DV) (R : Fin 8320) (j : Fin 128) :
    V m c main_v44 (ix2 R j) = ((sb4 (front (rowAt S) R) j : ℝ) : EReal) := by
  rw [step_v44]
  pointwise [h.sin]
  unfold sb4 front rowAt
  by_cases hR : R.val < 112
  · rw [dif_pos hR]
    simp (disch := omega) only [dif_neg, Pi.zero_apply, neg_zero, ite_self]
    rfl
  · rw [dif_neg hR]
    simp (disch := omega) only [dif_pos]
    have e : ∀ (x y : ℕ) (hx : x < 32) (hy : y < 32) (r : Fin 8208), x = y → S (ix2 r ⟨x, hx⟩) = S (ix2 r ⟨y, hy⟩) := by
      intro x y hx hy r hxy; subst hxy; rfl
    repeat' split
    all_goals first
      | (exfalso; omega)
      | rfl
      | (refine congrArg _ (e _ _ _ _ _ ?_); omega)
      | (refine (congrArg (fun z : ℝ => -(z : EReal)) (e _ _ _ _ _ ?_)).trans (EReal.coe_neg _).symm; omega)
      | exact EReal.coe_zero.symm

/-! ## The blocks at a grid point -/

theorem block_dq (h : RealArgs m c Q KV GQ WQ GK WK C S DQ DK DV) (t : Fin cfg0.N) (g : Fin 8) (a : Fin 320) (d : Fin 256) :
    iblk m c 0 t (ix3 g a d) = ((wide (front (headsAt DQ) (row t a)) g d : ℝ) : EReal) :=
  (show iblk m c 0 t (ix3 g a d) = V m c main_v26 (ix3 g (row t a) d) by blk_ext [iblk, idx t, row]).trans (entry_dq h _ _ _)

theorem block_dk (h : RealArgs m c Q KV GQ WQ GK WK C S DQ DK DV) (t : Fin cfg0.N) (g : Fin 8) (a : Fin 320) (d : Fin 256) :
    iblk m c 1 t (ix3 g a d) = ((wide (front (headsAt DK) (row t a)) g d : ℝ) : EReal) :=
  (show iblk m c 1 t (ix3 g a d) = V m c main_v31 (ix3 g (row t a) d) by blk_ext [iblk, idx t, row]).trans (entry_dk h _ _ _)

theorem block_dv (h : RealArgs m c Q KV GQ WQ GK WK C S DQ DK DV) (t : Fin cfg0.N) (g : Fin 8) (a : Fin 320) (d : Fin 128) :
    iblk m c 2 t (ix3 g a d) = ((front (headsAt DV) (row t a) g d : ℝ) : EReal) :=
  (show iblk m c 2 t (ix3 g a d) = V m c main_v34 (ix3 g (row t a) d) by blk_ext [iblk, idx t, row]).trans (entry_dv h _ _ _)

theorem block_q (h : RealArgs m c Q KV GQ WQ GK WK C S DQ DK DV) (t : Fin cfg0.N) (a : Fin 320) (k : Fin 384) :
    iblk m c 3 t (ix2 a ⟨k.val, by omega⟩) = ((front (rowAt Q) (row t a) k : ℝ) : EReal) :=
  (show iblk m c 3 t (ix2 a ⟨k.val, by omega⟩) = V m c main_v36 (ix2 (row t a) ⟨k.val, by omega⟩) by blk_ext [iblk, idx t, row]).trans (entry_q h _ _)

theorem block_kv (h : RealArgs m c Q KV GQ WQ GK WK C S DQ DK DV) (t : Fin cfg0.N) (a : Fin 320) (k : Fin 256) :
    iblk m c 3 t (ix2 a ⟨384 + k.val, by omega⟩) = ((front (rowAt KV) (row t a) k : ℝ) : EReal) :=
  (show iblk m c 3 t (ix2 a ⟨384 + k.val, by omega⟩) = V m c main_v36 (ix2 (row t a) ⟨384 + k.val, by omega⟩) by blk_ext [iblk, idx t, row]).trans (entry_kv h _ _)

theorem block_gq (h : RealArgs m c Q KV GQ WQ GK WK C S DQ DK DV) (t : Fin cfg0.N) (k : Fin 384) :
    iblk m c 4 t (ix2 0 k) = ((GQ (ix1 k) : ℝ) : EReal) :=
  (show iblk m c 4 t (ix2 0 k) = V m c main_v37 (ix2 0 k) by blk_ext [iblk, idx t, row]).trans (entry_gq h _)

theorem block_gk (h : RealArgs m c Q KV GQ WQ GK WK C S DQ DK DV) (t : Fin cfg0.N) (k : Fin 256) :
    iblk m c 5 t (ix2 0 k) = ((GK (ix1 k) : ℝ) : EReal) :=
  (show iblk m c 5 t (ix2 0 k) = V m c main_v38 (ix2 0 k) by blk_ext [iblk, idx t, row]).trans (entry_gk h _)

theorem block_wq (h : RealArgs m c Q KV GQ WQ GK WK C S DQ DK DV) (t : Fin cfg0.N) (k : Fin 384) (q : Fin 2048) :
    iblk m c 6 t (ix2 k q) = ((wqflat WQ k q : ℝ) : EReal) :=
  (show iblk m c 6 t (ix2 k q) = V m c main_v7 (ix2 k q) by blk_ext [iblk, idx t, row]).trans (entry_wq h _ _)

theorem block_wk (h : RealArgs m c Q KV GQ WQ GK WK C S DQ DK DV) (t : Fin cfg0.N) (k : Fin 256) (q : Fin 2048) :
    iblk m c 7 t (ix2 k q) = ((wkvflat WK k q : ℝ) : EReal) :=
  (show iblk m c 7 t (ix2 k q) = V m c main_v13 (ix2 k q) by blk_ext [iblk, idx t, row]).trans (entry_wk h _ _)

theorem block_cos (h : RealArgs m c Q KV GQ WQ GK WK C S DQ DK DV) (t : Fin cfg0.N) (a : Fin 320) (j : Fin 128) :
    iblk m c 8 t (ix2 a j) = ((cos4 (front (rowAt C) (row t a)) j : ℝ) : EReal) :=
  (show iblk m c 8 t (ix2 a j) = V m c main_v40 (ix2 (row t a) j) by blk_ext [iblk, idx t, row]).trans (entry_cos h _ _)

theorem block_sa (h : RealArgs m c Q KV GQ WQ GK WK C S DQ DK DV) (t : Fin cfg0.N) (a : Fin 320) (j : Fin 128) :
    iblk m c 9 t (ix2 a j) = ((sa4 (front (rowAt S) (row t a)) j : ℝ) : EReal) :=
  (show iblk m c 9 t (ix2 a j) = V m c main_v42 (ix2 (row t a) j) by blk_ext [iblk, idx t, row]).trans (entry_sa h _ _)

theorem block_sb (h : RealArgs m c Q KV GQ WQ GK WK C S DQ DK DV) (t : Fin cfg0.N) (a : Fin 320) (j : Fin 128) :
    iblk m c 10 t (ix2 a j) = ((sb4 (front (rowAt S) (row t a)) j : ℝ) : EReal) :=
  (show iblk m c 10 t (ix2 a j) = V m c main_v44 (ix2 (row t a) j) by blk_ext [iblk, idx t, row]).trans (entry_sb h _ _)

end Cert.MlaIdeal.Value

end
-- ==== Proof.MlaTiles.lean ====
/- What the kernel of the latent projections' gradient stores tile by tile, over real arguments. -/
module

public import proofs.«01_k».proof.Proof.MlaEntry
public import Idealize.ShloMosaic.Lib.Pipeline.ValueKit
public import Idealize.ShloMosaic.Lib.Pointwise
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.MlaIdeal.Value

open Cert.MlaIdeal Cert.MlaIdeal.Gen Cert.Reals Cert.Rms Cert.Mla

variable {m : (ℓ : Loc nD τ sig) → Buf (Elt Ideal) ℓ} {c : Dev nD} {Q : Arr 8208 384} {KV : Arr 8208 256} {GQ : Row 384} {WQ : Arr3 384 8 192}
  {GK : Row 256} {WK : Arr3 256 8 256} {C S : Arr 8208 32} {DQ DK : Arr3 8208 8 192} {DV : Arr3 8208 8 128}

/-- A row of the query's flat gradient, in the padded rows. -/
def qrow (C S : Arr 8208 32) (DQ : Arr3 8208 8 192) (R : Fin 8320) (q : Fin 2048) : ℝ :=
  qflat (front (rowAt C) R) (front (rowAt S) R) (front (headsAt DQ) R) q

/-- A row of the key's and value's flat gradient, in the padded rows. -/
def kvrow (DK : Arr3 8208 8 192) (DV : Arr3 8208 8 128) (R : Fin 8320) (q : Fin 2048) : ℝ :=
  kvflat (front (headsAt DK) R) (front (headsAt DV) R) q

/-! ## The values of a grid point -/

theorem rope_0 (h : RealArgs m c Q KV GQ WQ GK WK C S DQ DK DV) (t : Fin cfg0.N) (a : Fin 320) (j : Fin 128) :
    k0_pay9 (iblk m c 8 t) (iblk m c 9 t) (iblk m c 10 t) (View.ld (iblk m c 0 t) (Rect.unit ![0, 0, 0] ![1, 320, 256] inb_S8x320x256_S1x320x256_0_0_0)) (ix2 a j)
      = ((qrow C S DQ (row t a) ⟨1024 + j.val, by omega⟩ : ℝ) : EReal) := by
  pointwise [k0_pay9, k0_pay7, k0_pay6, k0_pay5, k0_pay4, block_dq h t, block_cos h t, block_sa h t, block_sb h t, ofBits_scale]
  simp only [← EReal.coe_mul, ← EReal.coe_add]
  exact congrArg _ ((spin_up _ _ _ 0 j).trans (congrArg _ (Fin.ext (by simp))))

theorem plain_0 (h : RealArgs m c Q KV GQ WQ GK WK C S DQ DK DV) (t : Fin cfg0.N) (a : Fin 320) (j : Fin 128) :
    k0_pay8 (View.ld (iblk m c 0 t) (Rect.unit ![0, 0, 0] ![1, 320, 256] inb_S8x320x256_S1x320x256_0_0_0)) (ix2 a j)
      = ((qrow C S DQ (row t a) ⟨j.val, by omega⟩ : ℝ) : EReal) := by
  pointwise [k0_pay8, k0_pay7, block_dq h t, ofBits_scale]
  simp only [← EReal.coe_mul]
  exact congrArg _ ((wide_up (front (rowAt C) (row t a)) (front (rowAt S) (row t a)) _ 0 j).trans (congrArg _ (Fin.ext (by simp))))

theorem key_0 (h : RealArgs m c Q KV GQ WQ GK WK C S DQ DK DV) (t : Fin cfg0.N) (a : Fin 320) (j : Fin 128) :
    k0_pay11 (View.ld (iblk m c 1 t) (Rect.unit ![0, 0, 0] ![1, 320, 256] inb_S8x320x256_S1x320x256_0_0_0)) (ix2 a j)
      = ((kvrow DK DV (row t a) ⟨j.val, by omega⟩ : ℝ) : EReal) := by
  pointwise [k0_pay11, k0_pay10, block_dk h t]
  exact congrArg _ ((kflat _ (front (headsAt DV) (row t a)) 0 j).trans (congrArg _ (Fin.ext (by simp))))

theorem val_0 (h : RealArgs m c Q KV GQ WQ GK WK C S DQ DK DV) (t : Fin cfg0.N) (a : Fin 320) (j : Fin 128) :
    k0_pay13 (View.ld (iblk m c 2 t) (Rect.unit ![0, 0, 0] ![1, 320, 128] inb_S8x320x128_S1x320x128_0_0_0)) (ix2 a j)
      = ((kvrow DK DV (row t a) ⟨1024 + j.val, by omega⟩ : ℝ) : EReal) := by
  pointwise [k0_pay13, block_dv h t]
  exact congrArg _ ((vflat (front (headsAt DK) (row t a)) _ 0 j).trans (congrArg _ (Fin.ext (by simp))))

theorem rope_1 (h : RealArgs m c Q KV GQ WQ GK WK C S DQ DK DV) (t : Fin cfg0.N) (a : Fin 320) (j : Fin 128) :
    k0_pay16 (k0_pay4 (iblk m c 8 t)) (k0_pay5 (iblk m c 9 t)) (k0_pay6 (iblk m c 10 t)) (View.ld (iblk m c 0 t) (Rect.unit ![1, 0, 0] ![1, 320, 256] inb_S8x320x256_S1x320x256_1_0_0)) (ix2 a j)
      = ((qrow C S DQ (row t a) ⟨1024 + (128 + j.val), by omega⟩ : ℝ) : EReal) := by
  pointwise [k0_pay16, k0_pay14, k0_pay6, k0_pay5, k0_pay4, block_dq h t, block_cos h t, block_sa h t, block_sb h t, ofBits_scale]
  simp only [← EReal.coe_mul, ← EReal.coe_add]
  exact congrArg _ (spin_up _ _ _ 1 j)

theorem plain_1 (h : RealArgs m c Q KV GQ WQ GK WK C S DQ DK DV) (t : Fin cfg0.N) (a : Fin 320) (j : Fin 128) :
    k0_pay15 (View.ld (iblk m c 0 t) (Rect.unit ![1, 0, 0] ![1, 320, 256] inb_S8x320x256_S1x320x256_1_0_0)) (ix2 a j)
      = ((qrow C S DQ (row t a) ⟨128 + j.val, by omega⟩ : ℝ) : EReal) := by
  pointwise [k0_pay15, k0_pay14, block_dq h t, ofBits_scale]
  simp only [← EReal.coe_mul]
  exact congrArg _ (wide_up (front (rowAt C) (row t a)) (front (rowAt S) (row t a)) _ 1 j)

theorem key_1 (h : RealArgs m c Q KV GQ WQ GK WK C S DQ DK DV) (t : Fin cfg0.N) (a : Fin 320) (j : Fin 128) :
    k0_pay18 (View.ld (iblk m c 1 t) (Rect.unit ![1, 0, 0] ![1, 320, 256] inb_S8x320x256_S1x320x256_1_0_0)) (ix2 a j)
      = ((kvrow DK DV (row t a) ⟨128 + j.val, by omega⟩ : ℝ) : EReal) := by
  pointwise [k0_pay18, k0_pay17, block_dk h t]
  exact congrArg _ (kflat _ (front (headsAt DV) (row t a)) 1 j)

theorem val_1 (h : RealArgs m c Q KV GQ WQ GK WK C S DQ DK DV) (t : Fin cfg0.N) (a : Fin 320) (j : Fin 128) :
    k0_pay20 (View.ld (iblk m c 2 t) (Rect.unit ![1, 0, 0] ![1, 320, 128] inb_S8x320x128_S1x320x128_1_0_0)) (ix2 a j)
      = ((kvrow DK DV (row t a) ⟨1024 + (128 + j.val), by omega⟩ : ℝ) : EReal) := by
  pointwise [k0_pay20, block_dv h t]
  exact congrArg _ (vflat (front (headsAt DK) (row t a)) _ 1 j)

theorem rope_2 (h : RealArgs m c Q KV GQ WQ GK WK C S DQ DK DV) (t : Fin cfg0.N) (a : Fin 320) (j : Fin 128) :
    k0_pay23 (k0_pay4 (iblk m c 8 t)) (k0_pay5 (iblk m c 9 t)) (k0_pay6 (iblk m c 10 t)) (View.ld (iblk m c 0 t) (Rect.unit ![2, 0, 0] ![1, 320, 256] inb_S8x320x256_S1x320x256_2_0_0)) (ix2 a j)
      = ((qrow C S DQ (row t a) ⟨1024 + (256 + j.val), by omega⟩ : ℝ) : EReal) := by
  pointwise [k0_pay23, k0_pay21, k0_pay6, k0_pay5, k0_pay4, block_dq h t, block_cos h t, block_sa h t, block_sb h t, ofBits_scale]
  simp only [← EReal.coe_mul, ← EReal.coe_add]
  exact congrArg _ (spin_up _ _ _ 2 j)

theorem plain_2 (h : RealArgs m c Q KV GQ WQ GK WK C S DQ DK DV) (t : Fin cfg0.N) (a : Fin 320) (j : Fin 128) :
    k0_pay22 (View.ld (iblk m c 0 t) (Rect.unit ![2, 0, 0] ![1, 320, 256] inb_S8x320x256_S1x320x256_2_0_0)) (ix2 a j)
      = ((qrow C S DQ (row t a) ⟨256 + j.val, by omega⟩ : ℝ) : EReal) := by
  pointwise [k0_pay22, k0_pay21, block_dq h t, ofBits_scale]
  simp only [← EReal.coe_mul]
  exact congrArg _ (wide_up (front (rowAt C) (row t a)) (front (rowAt S) (row t a)) _ 2 j)

theorem key_2 (h : RealArgs m c Q KV GQ WQ GK WK C S DQ DK DV) (t : Fin cfg0.N) (a : Fin 320) (j : Fin 128) :
    k0_pay25 (View.ld (iblk m c 1 t) (Rect.unit ![2, 0, 0] ![1, 320, 256] inb_S8x320x256_S1x320x256_2_0_0)) (ix2 a j)
      = ((kvrow DK DV (row t a) ⟨256 + j.val, by omega⟩ : ℝ) : EReal) := by
  pointwise [k0_pay25, k0_pay24, block_dk h t]
  exact congrArg _ (kflat _ (front (headsAt DV) (row t a)) 2 j)

theorem val_2 (h : RealArgs m c Q KV GQ WQ GK WK C S DQ DK DV) (t : Fin cfg0.N) (a : Fin 320) (j : Fin 128) :
    k0_pay27 (View.ld (iblk m c 2 t) (Rect.unit ![2, 0, 0] ![1, 320, 128] inb_S8x320x128_S1x320x128_2_0_0)) (ix2 a j)
      = ((kvrow DK DV (row t a) ⟨1024 + (256 + j.val), by omega⟩ : ℝ) : EReal) := by
  pointwise [k0_pay27, block_dv h t]
  exact congrArg _ (vflat (front (headsAt DK) (row t a)) _ 2 j)

theorem rope_3 (h : RealArgs m c Q KV GQ WQ GK WK C S DQ DK DV) (t : Fin cfg0.N) (a : Fin 320) (j : Fin 128) :
    k0_pay31 (k0_pay4 (iblk m c 8 t)) (k0_pay5 (iblk m c 9 t)) (k0_pay6 (iblk m c 10 t)) (k0_pay28 (View.ld (iblk m c 0 t) (Rect.unit ![3, 0, 0] ![1, 320, 256] inb_S8x320x256_S1x320x256_3_0_0))) (ix2 a j)
      = ((qrow C S DQ (row t a) ⟨1024 + (384 + j.val), by omega⟩ : ℝ) : EReal) := by
  pointwise [k0_pay31, k0_pay28, k0_pay6, k0_pay5, k0_pay4, block_dq h t, block_cos h t, block_sa h t, block_sb h t, ofBits_scale]
  simp only [← EReal.coe_mul, ← EReal.coe_add]
  exact congrArg _ (spin_up _ _ _ 3 j)

theorem plain_3 (h : RealArgs m c Q KV GQ WQ GK WK C S DQ DK DV) (t : Fin cfg0.N) (a : Fin 320) (j : Fin 128) :
    k0_pay30 (k0_pay29 (View.ld (iblk m c 0 t) (Rect.unit ![3, 0, 0] ![1, 320, 256] inb_S8x320x256_S1x320x256_3_0_0))) (ix2 a j)
      = ((qrow C S DQ (row t a) ⟨384 + j.val, by omega⟩ : ℝ) : EReal) := by
  pointwise [k0_pay30, k0_pay29, k0_pay28, block_dq h t, ofBits_scale]
  simp only [← EReal.coe_mul]
  exact congrArg _ (wide_up (front (rowAt C) (row t a)) (front (rowAt S) (row t a)) _ 3 j)

theorem key_3 (h : RealArgs m c Q KV GQ WQ GK WK C S DQ DK DV) (t : Fin cfg0.N) (a : Fin 320) (j : Fin 128) :
    k0_pay33 (View.ld (iblk m c 1 t) (Rect.unit ![3, 0, 0] ![1, 320, 256] inb_S8x320x256_S1x320x256_3_0_0)) (ix2 a j)
      = ((kvrow DK DV (row t a) ⟨384 + j.val, by omega⟩ : ℝ) : EReal) := by
  pointwise [k0_pay33, k0_pay32, block_dk h t]
  exact congrArg _ (kflat _ (front (headsAt DV) (row t a)) 3 j)

theorem val_3 (h : RealArgs m c Q KV GQ WQ GK WK C S DQ DK DV) (t : Fin cfg0.N) (a : Fin 320) (j : Fin 128) :
    k0_pay35 (View.ld (iblk m c 2 t) (Rect.unit ![3, 0, 0] ![1, 320, 128] inb_S8x320x128_S1x320x128_3_0_0)) (ix2 a j)
      = ((kvrow DK DV (row t a) ⟨1024 + (384 + j.val), by omega⟩ : ℝ) : EReal) := by
  pointwise [k0_pay35, block_dv h t]
  exact congrArg _ (vflat (front (headsAt DK) (row t a)) _ 3 j)

theorem rope_4 (h : RealArgs m c Q KV GQ WQ GK WK C S DQ DK DV) (t : Fin cfg0.N) (a : Fin 320) (j : Fin 128) :
    k0_pay41 (k0_pay6 (iblk m c 10 t)) (k0_pay38 (View.ld (iblk m c 0 t) (Rect.unit ![4, 0, 0] ![1, 320, 256] inb_S8x320x256_S1x320x256_4_0_0))) (k0_pay39 (k0_pay4 (iblk m c 8 t)) (View.ld (iblk m c 0 t) (Rect.unit ![4, 0, 0] ![1, 320, 256] inb_S8x320x256_S1x320x256_4_0_0))) (k0_pay40 (k0_pay5 (iblk m c 9 t)) (View.ld (iblk m c 0 t) (Rect.unit ![4, 0, 0] ![1, 320, 256] inb_S8x320x256_S1x320x256_4_0_0))) (ix2 a j)
      = ((qrow C S DQ (row t a) ⟨1024 + (512 + j.val), by omega⟩ : ℝ) : EReal) := by
  pointwise [k0_pay41, k0_pay40, k0_pay39, k0_pay38, k0_pay36, k0_pay6, k0_pay5, k0_pay4, block_dq h t, block_cos h t, block_sa h t, block_sb h t, ofBits_scale]
  simp only [← EReal.coe_mul, ← EReal.coe_add]
  exact congrArg _ (spin_up _ _ _ 4 j)

theorem plain_4 (h : RealArgs m c Q KV GQ WQ GK WK C S DQ DK DV) (t : Fin cfg0.N) (a : Fin 320) (j : Fin 128) :
    k0_pay37 (View.ld (iblk m c 0 t) (Rect.unit ![4, 0, 0] ![1, 320, 256] inb_S8x320x256_S1x320x256_4_0_0)) (ix2 a j)
      = ((qrow C S DQ (row t a) ⟨512 + j.val, by omega⟩ : ℝ) : EReal) := by
  pointwise [k0_pay37, k0_pay36, block_dq h t, ofBits_scale]
  simp only [← EReal.coe_mul]
  exact congrArg _ (wide_up (front (rowAt C) (row t a)) (front (rowAt S) (row t a)) _ 4 j)

theorem key_4 (h : RealArgs m c Q KV GQ WQ GK WK C S DQ DK DV) (t : Fin cfg0.N) (a : Fin 320) (j : Fin 128) :
    k0_pay43 (View.ld (iblk m c 1 t) (Rect.unit ![4, 0, 0] ![1, 320, 256] inb_S8x320x256_S1x320x256_4_0_0)) (ix2 a j)
      = ((kvrow DK DV (row t a) ⟨512 + j.val, by omega⟩ : ℝ) : EReal) := by
  pointwise [k0_pay43, k0_pay42, block_dk h t]
  exact congrArg _ (kflat _ (front (headsAt DV) (row t a)) 4 j)

theorem val_4 (h : RealArgs m c Q KV GQ WQ GK WK C S DQ DK DV) (t : Fin cfg0.N) (a : Fin 320) (j : Fin 128) :
    k0_pay45 (View.ld (iblk m c 2 t) (Rect.unit ![4, 0, 0] ![1, 320, 128] inb_S8x320x128_S1x320x128_4_0_0)) (ix2 a j)
      = ((kvrow DK DV (row t a) ⟨1024 + (512 + j.val), by omega⟩ : ℝ) : EReal) := by
  pointwise [k0_pay45, block_dv h t]
  exact congrArg _ (vflat (front (headsAt DK) (row t a)) _ 4 j)

theorem rope_5 (h : RealArgs m c Q KV GQ WQ GK WK C S DQ DK DV) (t : Fin cfg0.N) (a : Fin 320) (j : Fin 128) :
    k0_pay48 (k0_pay4 (iblk m c 8 t)) (k0_pay5 (iblk m c 9 t)) (k0_pay6 (iblk m c 10 t)) (View.ld (iblk m c 0 t) (Rect.unit ![5, 0, 0] ![1, 320, 256] inb_S8x320x256_S1x320x256_5_0_0)) (ix2 a j)
      = ((qrow C S DQ (row t a) ⟨1024 + (640 + j.val), by omega⟩ : ℝ) : EReal) := by
  pointwise [k0_pay48, k0_pay46, k0_pay6, k0_pay5, k0_pay4, block_dq h t, block_cos h t, block_sa h t, block_sb h t, ofBits_scale]
  simp only [← EReal.coe_mul, ← EReal.coe_add]
  exact congrArg _ (spin_up _ _ _ 5 j)

theorem plain_5 (h : RealArgs m c Q KV GQ WQ GK WK C S DQ DK DV) (t : Fin cfg0.N) (a : Fin 320) (j : Fin 128) :
    k0_pay47 (View.ld (iblk m c 0 t) (Rect.unit ![5, 0, 0] ![1, 320, 256] inb_S8x320x256_S1x320x256_5_0_0)) (ix2 a j)
      = ((qrow C S DQ (row t a) ⟨640 + j.val, by omega⟩ : ℝ) : EReal) := by
  pointwise [k0_pay47, k0_pay46, block_dq h t, ofBits_scale]
  simp only [← EReal.coe_mul]
  exact congrArg _ (wide_up (front (rowAt C) (row t a)) (front (rowAt S) (row t a)) _ 5 j)

theorem key_5 (h : RealArgs m c Q KV GQ WQ GK WK C S DQ DK DV) (t : Fin cfg0.N) (a : Fin 320) (j : Fin 128) :
    k0_pay50 (View.ld (iblk m c 1 t) (Rect.unit ![5, 0, 0] ![1, 320, 256] inb_S8x320x256_S1x320x256_5_0_0)) (ix2 a j)
      = ((kvrow DK DV (row t a) ⟨640 + j.val, by omega⟩ : ℝ) : EReal) := by
  pointwise [k0_pay50, k0_pay49, block_dk h t]
  exact congrArg _ (kflat _ (front (headsAt DV) (row t a)) 5 j)

theorem val_5 (h : RealArgs m c Q KV GQ WQ GK WK C S DQ DK DV) (t : Fin cfg0.N) (a : Fin 320) (j : Fin 128) :
    k0_pay52 (View.ld (iblk m c 2 t) (Rect.unit ![5, 0, 0] ![1, 320, 128] inb_S8x320x128_S1x320x128_5_0_0)) (ix2 a j)
      = ((kvrow DK DV (row t a) ⟨1024 + (640 + j.val), by omega⟩ : ℝ) : EReal) := by
  pointwise [k0_pay52, block_dv h t]
  exact congrArg _ (vflat (front (headsAt DK) (row t a)) _ 5 j)

theorem rope_6 (h : RealArgs m c Q KV GQ WQ GK WK C S DQ DK DV) (t : Fin cfg0.N) (a : Fin 320) (j : Fin 128) :
    k0_pay55 (k0_pay4 (iblk m c 8 t)) (k0_pay5 (iblk m c 9 t)) (k0_pay6 (iblk m c 10 t)) (View.ld (iblk m c 0 t) (Rect.unit ![6, 0, 0] ![1, 320, 256] inb_S8x320x256_S1x320x256_6_0_0)) (ix2 a j)
      = ((qrow C S DQ (row t a) ⟨1024 + (768 + j.val), by omega⟩ : ℝ) : EReal) := by
  pointwise [k0_pay55, k0_pay53, k0_pay6, k0_pay5, k0_pay4, block_dq h t, block_cos h t, block_sa h t, block_sb h t, ofBits_scale]
  simp only [← EReal.coe_mul, ← EReal.coe_add]
  exact congrArg _ (spin_up _ _ _ 6 j)

theorem plain_6 (h : RealArgs m c Q KV GQ WQ GK WK C S DQ DK DV) (t : Fin cfg0.N) (a : Fin 320) (j : Fin 128) :
    k0_pay54 (View.ld (iblk m c 0 t) (Rect.unit ![6, 0, 0] ![1, 320, 256] inb_S8x320x256_S1x320x256_6_0_0)) (ix2 a j)
      = ((qrow C S DQ (row t a) ⟨768 + j.val, by omega⟩ : ℝ) : EReal) := by
  pointwise [k0_pay54, k0_pay53, block_dq h t, ofBits_scale]
  simp only [← EReal.coe_mul]
  exact congrArg _ (wide_up (front (rowAt C) (row t a)) (front (rowAt S) (row t a)) _ 6 j)

theorem key_6 (h : RealArgs m c Q KV GQ WQ GK WK C S DQ DK DV) (t : Fin cfg0.N) (a : Fin 320) (j : Fin 128) :
    k0_pay57 (View.ld (iblk m c 1 t) (Rect.unit ![6, 0, 0] ![1, 320, 256] inb_S8x320x256_S1x320x256_6_0_0)) (ix2 a j)
      = ((kvrow DK DV (row t a) ⟨768 + j.val, by omega⟩ : ℝ) : EReal) := by
  pointwise [k0_pay57, k0_pay56, block_dk h t]
  exact congrArg _ (kflat _ (front (headsAt DV) (row t a)) 6 j)

theorem val_6 (h : RealArgs m c Q KV GQ WQ GK WK C S DQ DK DV) (t : Fin cfg0.N) (a : Fin 320) (j : Fin 128) :
    k0_pay59 (View.ld (iblk m c 2 t) (Rect.unit ![6, 0, 0] ![1, 320, 128] inb_S8x320x128_S1x320x128_6_0_0)) (ix2 a j)
      = ((kvrow DK DV (row t a) ⟨1024 + (768 + j.val), by omega⟩ : ℝ) : EReal) := by
  pointwise [k0_pay59, block_dv h t]
  exact congrArg _ (vflat (front (headsAt DK) (row t a)) _ 6 j)

theorem rope_7 (h : RealArgs m c Q KV GQ WQ GK WK C S DQ DK DV) (t : Fin cfg0.N) (a : Fin 320) (j : Fin 128) :
    k0_pay62 (k0_pay4 (iblk m c 8 t)) (k0_pay5 (iblk m c 9 t)) (k0_pay6 (iblk m c 10 t)) (View.ld (iblk m c 0 t) (Rect.unit ![7, 0, 0] ![1, 320, 256] inb_S8x320x256_S1x320x256_7_0_0)) (ix2 a j)
      = ((qrow C S DQ (row t a) ⟨1024 + (896 + j.val), by omega⟩ : ℝ) : EReal) := by
  pointwise [k0_pay62, k0_pay60, k0_pay6, k0_pay5, k0_pay4, block_dq h t, block_cos h t, block_sa h t, block_sb h t, ofBits_scale]
  simp only [← EReal.coe_mul, ← EReal.coe_add]
  exact congrArg _ (spin_up _ _ _ 7 j)

theorem plain_7 (h : RealArgs m c Q KV GQ WQ GK WK C S DQ DK DV) (t : Fin cfg0.N) (a : Fin 320) (j : Fin 128) :
    k0_pay61 (View.ld (iblk m c 0 t) (Rect.unit ![7, 0, 0] ![1, 320, 256] inb_S8x320x256_S1x320x256_7_0_0)) (ix2 a j)
      = ((qrow C S DQ (row t a) ⟨896 + j.val, by omega⟩ : ℝ) : EReal) := by
  pointwise [k0_pay61, k0_pay60, block_dq h t, ofBits_scale]
  simp only [← EReal.coe_mul]
  exact congrArg _ (wide_up (front (rowAt C) (row t a)) (front (rowAt S) (row t a)) _ 7 j)

theorem key_7 (h : RealArgs m c Q KV GQ WQ GK WK C S DQ DK DV) (t : Fin cfg0.N) (a : Fin 320) (j : Fin 128) :
    k0_pay64 (View.ld (iblk m c 1 t) (Rect.unit ![7, 0, 0] ![1, 320, 256] inb_S8x320x256_S1x320x256_7_0_0)) (ix2 a j)
      = ((kvrow DK DV (row t a) ⟨896 + j.val, by omega⟩ : ℝ) : EReal) := by
  pointwise [k0_pay64, k0_pay63, block_dk h t]
  exact congrArg _ (kflat _ (front (headsAt DV) (row t a)) 7 j)

theorem val_7 (h : RealArgs m c Q KV GQ WQ GK WK C S DQ DK DV) (t : Fin cfg0.N) (a : Fin 320) (j : Fin 128) :
    k0_pay67 (View.ld (iblk m c 2 t) (Rect.unit ![7, 0, 0] ![1, 320, 128] inb_S8x320x128_S1x320x128_7_0_0)) (ix2 a j)
      = ((kvrow DK DV (row t a) ⟨1024 + (896 + j.val), by omega⟩ : ℝ) : EReal) := by
  pointwise [k0_pay67, block_dv h t]
  exact congrArg _ (vflat (front (headsAt DK) (row t a)) _ 7 j)

/-- A value known at every row and column of a tile, at a place of the whole block. -/
theorem at_place {f : Fin 320 → Fin 2048 → ℝ} {z : EReal} {a x : Fin 320} {k y : Fin 2048} (hz : z = ((f x y : ℝ) : EReal)) (ha : a.val = x.val) (hk : k.val = y.val) : z = ((f a k : ℝ) : EReal) := by
  obtain rfl := Fin.ext ha
  obtain rfl := Fin.ext hk
  exact hz

theorem canon_q (h : RealArgs m c Q KV GQ WQ GK WK C S DQ DK DV) (t : Fin cfg0.N) (a : Fin 320) (k : Fin 2048) :
    View.canon (Val := Elt Ideal) (s := S320x2048) (e := .bf16)
      [⟨Rect.unit ![0, 1920] ![320, 128] inb_S320x2048_S320x128_0_1920, k0_pay62 (k0_pay4 (iblk m c 8 t)) (k0_pay5 (iblk m c 9 t)) (k0_pay6 (iblk m c 10 t)) (View.ld (iblk m c 0 t) (Rect.unit ![7, 0, 0] ![1, 320, 256] inb_S8x320x256_S1x320x256_7_0_0))⟩,
        ⟨Rect.unit ![0, 896] ![320, 128] inb_S320x2048_S320x128_0_896, k0_pay61 (View.ld (iblk m c 0 t) (Rect.unit ![7, 0, 0] ![1, 320, 256] inb_S8x320x256_S1x320x256_7_0_0))⟩,
        ⟨Rect.unit ![0, 1792] ![320, 128] inb_S320x2048_S320x128_0_1792, k0_pay55 (k0_pay4 (iblk m c 8 t)) (k0_pay5 (iblk m c 9 t)) (k0_pay6 (iblk m c 10 t)) (View.ld (iblk m c 0 t) (Rect.unit ![6, 0, 0] ![1, 320, 256] inb_S8x320x256_S1x320x256_6_0_0))⟩,
        ⟨Rect.unit ![0, 768] ![320, 128] inb_S320x2048_S320x128_0_768, k0_pay54 (View.ld (iblk m c 0 t) (Rect.unit ![6, 0, 0] ![1, 320, 256] inb_S8x320x256_S1x320x256_6_0_0))⟩,
        ⟨Rect.unit ![0, 1664] ![320, 128] inb_S320x2048_S320x128_0_1664, k0_pay48 (k0_pay4 (iblk m c 8 t)) (k0_pay5 (iblk m c 9 t)) (k0_pay6 (iblk m c 10 t)) (View.ld (iblk m c 0 t) (Rect.unit ![5, 0, 0] ![1, 320, 256] inb_S8x320x256_S1x320x256_5_0_0))⟩,
        ⟨Rect.unit ![0, 640] ![320, 128] inb_S320x2048_S320x128_0_640, k0_pay47 (View.ld (iblk m c 0 t) (Rect.unit ![5, 0, 0] ![1, 320, 256] inb_S8x320x256_S1x320x256_5_0_0))⟩,
        ⟨Rect.unit ![0, 1536] ![320, 128] inb_S320x2048_S320x128_0_1536, k0_pay41 (k0_pay6 (iblk m c 10 t)) (k0_pay38 (View.ld (iblk m c 0 t) (Rect.unit ![4, 0, 0] ![1, 320, 256] inb_S8x320x256_S1x320x256_4_0_0))) (k0_pay39 (k0_pay4 (iblk m c 8 t)) (View.ld (iblk m c 0 t) (Rect.unit ![4, 0, 0] ![1, 320, 256] inb_S8x320x256_S1x320x256_4_0_0))) (k0_pay40 (k0_pay5 (iblk m c 9 t)) (View.ld (iblk m c 0 t) (Rect.unit ![4, 0, 0] ![1, 320, 256] inb_S8x320x256_S1x320x256_4_0_0)))⟩,
        ⟨Rect.unit ![0, 512] ![320, 128] inb_S320x2048_S320x128_0_512, k0_pay37 (View.ld (iblk m c 0 t) (Rect.unit ![4, 0, 0] ![1, 320, 256] inb_S8x320x256_S1x320x256_4_0_0))⟩,
        ⟨Rect.unit ![0, 1408] ![320, 128] inb_S320x2048_S320x128_0_1408, k0_pay31 (k0_pay4 (iblk m c 8 t)) (k0_pay5 (iblk m c 9 t)) (k0_pay6 (iblk m c 10 t)) (k0_pay28 (View.ld (iblk m c 0 t) (Rect.unit ![3, 0, 0] ![1, 320, 256] inb_S8x320x256_S1x320x256_3_0_0)))⟩,
        ⟨Rect.unit ![0, 384] ![320, 128] inb_S320x2048_S320x128_0_384, k0_pay30 (k0_pay29 (View.ld (iblk m c 0 t) (Rect.unit ![3, 0, 0] ![1, 320, 256] inb_S8x320x256_S1x320x256_3_0_0)))⟩,
        ⟨Rect.unit ![0, 1280] ![320, 128] inb_S320x2048_S320x128_0_1280, k0_pay23 (k0_pay4 (iblk m c 8 t)) (k0_pay5 (iblk m c 9 t)) (k0_pay6 (iblk m c 10 t)) (View.ld (iblk m c 0 t) (Rect.unit ![2, 0, 0] ![1, 320, 256] inb_S8x320x256_S1x320x256_2_0_0))⟩,
        ⟨Rect.unit ![0, 256] ![320, 128] inb_S320x2048_S320x128_0_256, k0_pay22 (View.ld (iblk m c 0 t) (Rect.unit ![2, 0, 0] ![1, 320, 256] inb_S8x320x256_S1x320x256_2_0_0))⟩,
        ⟨Rect.unit ![0, 1152] ![320, 128] inb_S320x2048_S320x128_0_1152, k0_pay16 (k0_pay4 (iblk m c 8 t)) (k0_pay5 (iblk m c 9 t)) (k0_pay6 (iblk m c 10 t)) (View.ld (iblk m c 0 t) (Rect.unit ![1, 0, 0] ![1, 320, 256] inb_S8x320x256_S1x320x256_1_0_0))⟩,
        ⟨Rect.unit ![0, 128] ![320, 128] inb_S320x2048_S320x128_0_128, k0_pay15 (View.ld (iblk m c 0 t) (Rect.unit ![1, 0, 0] ![1, 320, 256] inb_S8x320x256_S1x320x256_1_0_0))⟩,
        ⟨Rect.unit ![0, 1024] ![320, 128] inb_S320x2048_S320x128_0_1024, k0_pay9 (iblk m c 8 t) (iblk m c 9 t) (iblk m c 10 t) (View.ld (iblk m c 0 t) (Rect.unit ![0, 0, 0] ![1, 320, 256] inb_S8x320x256_S1x320x256_0_0_0))⟩,
        ⟨Rect.unit ![0, 0] ![320, 128] inb_S320x2048_S320x128_0_0, k0_pay8 (View.ld (iblk m c 0 t) (Rect.unit ![0, 0, 0] ![1, 320, 256] inb_S8x320x256_S1x320x256_0_0_0))⟩] (ix2 a k)
      = ((qrow C S DQ (row t a) k : ℝ) : EReal) := by
  canon_tiles x hx
  · exact at_place (f := fun a k => qrow C S DQ (row t a) k) (rope_7 h t (x 0) (x 1)) hx0 (hx1.trans (Nat.add_assoc 1024 896 _))
  · exact at_place (f := fun a k => qrow C S DQ (row t a) k) (plain_7 h t (x 0) (x 1)) hx0 hx1
  · exact at_place (f := fun a k => qrow C S DQ (row t a) k) (rope_6 h t (x 0) (x 1)) hx0 (hx1.trans (Nat.add_assoc 1024 768 _))
  · exact at_place (f := fun a k => qrow C S DQ (row t a) k) (plain_6 h t (x 0) (x 1)) hx0 hx1
  · exact at_place (f := fun a k => qrow C S DQ (row t a) k) (rope_5 h t (x 0) (x 1)) hx0 (hx1.trans (Nat.add_assoc 1024 640 _))
  · exact at_place (f := fun a k => qrow C S DQ (row t a) k) (plain_5 h t (x 0) (x 1)) hx0 hx1
  · exact at_place (f := fun a k => qrow C S DQ (row t a) k) (rope_4 h t (x 0) (x 1)) hx0 (hx1.trans (Nat.add_assoc 1024 512 _))
  · exact at_place (f := fun a k => qrow C S DQ (row t a) k) (plain_4 h t (x 0) (x 1)) hx0 hx1
  · exact at_place (f := fun a k => qrow C S DQ (row t a) k) (rope_3 h t (x 0) (x 1)) hx0 (hx1.trans (Nat.add_assoc 1024 384 _))
  · exact at_place (f := fun a k => qrow C S DQ (row t a) k) (plain_3 h t (x 0) (x 1)) hx0 hx1
  · exact at_place (f := fun a k => qrow C S DQ (row t a) k) (rope_2 h t (x 0) (x 1)) hx0 (hx1.trans (Nat.add_assoc 1024 256 _))
  · exact at_place (f := fun a k => qrow C S DQ (row t a) k) (plain_2 h t (x 0) (x 1)) hx0 hx1
  · exact at_place (f := fun a k => qrow C S DQ (row t a) k) (rope_1 h t (x 0) (x 1)) hx0 (hx1.trans (Nat.add_assoc 1024 128 _))
  · exact at_place (f := fun a k => qrow C S DQ (row t a) k) (plain_1 h t (x 0) (x 1)) hx0 hx1
  · exact at_place (f := fun a k => qrow C S DQ (row t a) k) (rope_0 h t (x 0) (x 1)) hx0 hx1
  · exact at_place (f := fun a k => qrow C S DQ (row t a) k) (plain_0 h t (x 0) (x 1)) hx0 hx1

theorem canon_kv (h : RealArgs m c Q KV GQ WQ GK WK C S DQ DK DV) (t : Fin cfg0.N) (a : Fin 320) (k : Fin 2048) :
    View.canon (Val := Elt Ideal) (s := S320x2048) (e := .bf16)
      [⟨Rect.unit ![0, 1920] ![320, 128] inb_S320x2048_S320x128_0_1920, k0_pay67 (View.ld (iblk m c 2 t) (Rect.unit ![7, 0, 0] ![1, 320, 128] inb_S8x320x128_S1x320x128_7_0_0))⟩,
        ⟨Rect.unit ![0, 896] ![320, 128] inb_S320x2048_S320x128_0_896, k0_pay64 (View.ld (iblk m c 1 t) (Rect.unit ![7, 0, 0] ![1, 320, 256] inb_S8x320x256_S1x320x256_7_0_0))⟩,
        ⟨Rect.unit ![0, 1792] ![320, 128] inb_S320x2048_S320x128_0_1792, k0_pay59 (View.ld (iblk m c 2 t) (Rect.unit ![6, 0, 0] ![1, 320, 128] inb_S8x320x128_S1x320x128_6_0_0))⟩,
        ⟨Rect.unit ![0, 768] ![320, 128] inb_S320x2048_S320x128_0_768, k0_pay57 (View.ld (iblk m c 1 t) (Rect.unit ![6, 0, 0] ![1, 320, 256] inb_S8x320x256_S1x320x256_6_0_0))⟩,
        ⟨Rect.unit ![0, 1664] ![320, 128] inb_S320x2048_S320x128_0_1664, k0_pay52 (View.ld (iblk m c 2 t) (Rect.unit ![5, 0, 0] ![1, 320, 128] inb_S8x320x128_S1x320x128_5_0_0))⟩,
        ⟨Rect.unit ![0, 640] ![320, 128] inb_S320x2048_S320x128_0_640, k0_pay50 (View.ld (iblk m c 1 t) (Rect.unit ![5, 0, 0] ![1, 320, 256] inb_S8x320x256_S1x320x256_5_0_0))⟩,
        ⟨Rect.unit ![0, 1536] ![320, 128] inb_S320x2048_S320x128_0_1536, k0_pay45 (View.ld (iblk m c 2 t) (Rect.unit ![4, 0, 0] ![1, 320, 128] inb_S8x320x128_S1x320x128_4_0_0))⟩,
        ⟨Rect.unit ![0, 512] ![320, 128] inb_S320x2048_S320x128_0_512, k0_pay43 (View.ld (iblk m c 1 t) (Rect.unit ![4, 0, 0] ![1, 320, 256] inb_S8x320x256_S1x320x256_4_0_0))⟩,
        ⟨Rect.unit ![0, 1408] ![320, 128] inb_S320x2048_S320x128_0_1408, k0_pay35 (View.ld (iblk m c 2 t) (Rect.unit ![3, 0, 0] ![1, 320, 128] inb_S8x320x128_S1x320x128_3_0_0))⟩,
        ⟨Rect.unit ![0, 384] ![320, 128] inb_S320x2048_S320x128_0_384, k0_pay33 (View.ld (iblk m c 1 t) (Rect.unit ![3, 0, 0] ![1, 320, 256] inb_S8x320x256_S1x320x256_3_0_0))⟩,
        ⟨Rect.unit ![0, 1280] ![320, 128] inb_S320x2048_S320x128_0_1280, k0_pay27 (View.ld (iblk m c 2 t) (Rect.unit ![2, 0, 0] ![1, 320, 128] inb_S8x320x128_S1x320x128_2_0_0))⟩,
        ⟨Rect.unit ![0, 256] ![320, 128] inb_S320x2048_S320x128_0_256, k0_pay25 (View.ld (iblk m c 1 t) (Rect.unit ![2, 0, 0] ![1, 320, 256] inb_S8x320x256_S1x320x256_2_0_0))⟩,
        ⟨Rect.unit ![0, 1152] ![320, 128] inb_S320x2048_S320x128_0_1152, k0_pay20 (View.ld (iblk m c 2 t) (Rect.unit ![1, 0, 0] ![1, 320, 128] inb_S8x320x128_S1x320x128_1_0_0))⟩,
        ⟨Rect.unit ![0, 128] ![320, 128] inb_S320x2048_S320x128_0_128, k0_pay18 (View.ld (iblk m c 1 t) (Rect.unit ![1, 0, 0] ![1, 320, 256] inb_S8x320x256_S1x320x256_1_0_0))⟩,
        ⟨Rect.unit ![0, 1024] ![320, 128] inb_S320x2048_S320x128_0_1024, k0_pay13 (View.ld (iblk m c 2 t) (Rect.unit ![0, 0, 0] ![1, 320, 128] inb_S8x320x128_S1x320x128_0_0_0))⟩,
        ⟨Rect.unit ![0, 0] ![320, 128] inb_S320x2048_S320x128_0_0, k0_pay11 (View.ld (iblk m c 1 t) (Rect.unit ![0, 0, 0] ![1, 320, 256] inb_S8x320x256_S1x320x256_0_0_0))⟩] (ix2 a k)
      = ((kvrow DK DV (row t a) k : ℝ) : EReal) := by
  canon_tiles x hx
  · exact at_place (f := fun a k => kvrow DK DV (row t a) k) (val_7 h t (x 0) (x 1)) hx0 (hx1.trans (Nat.add_assoc 1024 896 _))
  · exact at_place (f := fun a k => kvrow DK DV (row t a) k) (key_7 h t (x 0) (x 1)) hx0 hx1
  · exact at_place (f := fun a k => kvrow DK DV (row t a) k) (val_6 h t (x 0) (x 1)) hx0 (hx1.trans (Nat.add_assoc 1024 768 _))
  · exact at_place (f := fun a k => kvrow DK DV (row t a) k) (key_6 h t (x 0) (x 1)) hx0 hx1
  · exact at_place (f := fun a k => kvrow DK DV (row t a) k) (val_5 h t (x 0) (x 1)) hx0 (hx1.trans (Nat.add_assoc 1024 640 _))
  · exact at_place (f := fun a k => kvrow DK DV (row t a) k) (key_5 h t (x 0) (x 1)) hx0 hx1
  · exact at_place (f := fun a k => kvrow DK DV (row t a) k) (val_4 h t (x 0) (x 1)) hx0 (hx1.trans (Nat.add_assoc 1024 512 _))
  · exact at_place (f := fun a k => kvrow DK DV (row t a) k) (key_4 h t (x 0) (x 1)) hx0 hx1
  · exact at_place (f := fun a k => kvrow DK DV (row t a) k) (val_3 h t (x 0) (x 1)) hx0 (hx1.trans (Nat.add_assoc 1024 384 _))
  · exact at_place (f := fun a k => kvrow DK DV (row t a) k) (key_3 h t (x 0) (x 1)) hx0 hx1
  · exact at_place (f := fun a k => kvrow DK DV (row t a) k) (val_2 h t (x 0) (x 1)) hx0 (hx1.trans (Nat.add_assoc 1024 256 _))
  · exact at_place (f := fun a k => kvrow DK DV (row t a) k) (key_2 h t (x 0) (x 1)) hx0 hx1
  · exact at_place (f := fun a k => kvrow DK DV (row t a) k) (val_1 h t (x 0) (x 1)) hx0 (hx1.trans (Nat.add_assoc 1024 128 _))
  · exact at_place (f := fun a k => kvrow DK DV (row t a) k) (key_1 h t (x 0) (x 1)) hx0 hx1
  · exact at_place (f := fun a k => kvrow DK DV (row t a) k) (val_0 h t (x 0) (x 1)) hx0 hx1
  · exact at_place (f := fun a k => kvrow DK DV (row t a) k) (key_0 h t (x 0) (x 1)) hx0 hx1

end Cert.MlaIdeal.Value

end
-- ==== Proof.MlaLat.lean ====
/- What the kernel of the latent projections' gradient leaves in its five result arrays, over real arguments. -/
module

public import proofs.«01_k».proof.Proof.MlaTiles
public import Idealize.ShloMosaic.Lib.Pipeline.ValueKit
public import Idealize.ShloMosaic.Lib.Pointwise
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.MlaIdeal.Value

open Cert.MlaIdeal Cert.MlaIdeal.Gen Cert.Reals Cert.Rms Cert.Mla

variable {m : (ℓ : Loc nD τ sig) → Buf (Elt Ideal) ℓ} {c : Dev nD} {Q : Arr 8208 384} {KV : Arr 8208 256} {GQ : Row 384} {WQ : Arr3 384 8 192}
  {GK : Row 256} {WK : Arr3 256 8 256} {C S : Arr 8208 32} {DQ DK : Arr3 8208 8 192} {DV : Arr3 8208 8 128}

theorem value_dql (h : RealArgs m c Q KV GQ WQ GK WK C S DQ DK DV) (t : Fin cfg0.N) {q : Vec Ideal S320x2048 .bf16} (hq : ∀ a k, q (ix2 a k) = ((qrow C S DQ (row t a) k : ℝ) : EReal))
    (a : Fin 320) (k : Fin 384) : k0_pay68 q (iblk m c 6 t) (ix2 a k)
      = ((dql WQ (front (rowAt C) (row t a)) (front (rowAt S) (row t a)) (front (headsAt DQ) (row t a)) k : ℝ) : EReal) := by
  pointwise [k0_pay68, hq, block_wq h t]
  simp only [← EReal.coe_mul, coe_sum]
  exact congrArg _ (dot_q _ _ _ _ k)

theorem value_dkl (h : RealArgs m c Q KV GQ WQ GK WK C S DQ DK DV) (t : Fin cfg0.N) {q : Vec Ideal S320x2048 .bf16} (hq : ∀ a k, q (ix2 a k) = ((kvrow DK DV (row t a) k : ℝ) : EReal))
    (a : Fin 320) (k : Fin 256) : k0_pay69 q (iblk m c 7 t) (ix2 a k)
      = ((dkl WK (front (headsAt DK) (row t a)) (front (headsAt DV) (row t a)) k : ℝ) : EReal) := by
  pointwise [k0_pay69, hq, block_wk h t]
  simp only [← EReal.coe_mul, coe_sum]
  exact congrArg _ (dot_kv _ _ _ k)

theorem scale_q (h : RealArgs m c Q KV GQ WQ GK WK C S DQ DK DV) (t : Fin cfg0.N) (a : Fin 320) (o : Fin 1) :
    k0_pay72 (iblk m c 3 t) (ix2 a o) = ((inv 384 (front (rowAt Q) (row t a)) : ℝ) : EReal) := by
  pointwise [k0_pay72, k0_pay71, k0_pay70, block_q h t, ofBits_384, ofBits_eps]
  simp only [← EReal.coe_mul, coe_sum]
  exact rsqrt_meanSq (show (0 : ℝ) < 384 by norm_num) _

theorem scale_kv (h : RealArgs m c Q KV GQ WQ GK WK C S DQ DK DV) (t : Fin cfg0.N) (a : Fin 320) (o : Fin 1) :
    k0_pay79 (F := Ideal) (iblk m c 3 t) (ix2 a o) = ((inv 256 (front (rowAt KV) (row t a)) : ℝ) : EReal) := by
  pointwise [k0_pay79, k0_pay78, k0_pay70, block_kv h t, ofBits_256, ofBits_eps]
  simp only [← EReal.coe_mul, coe_sum]
  exact rsqrt_meanSq (show (0 : ℝ) < 256 by norm_num) _

theorem value_q (h : RealArgs m c Q KV GQ WQ GK WK C S DQ DK DV) (t : Fin cfg0.N) {q : Vec Ideal S320x2048 .bf16} (hq : ∀ a k, q (ix2 a k) = ((qrow C S DQ (row t a) k : ℝ) : EReal))
    (a : Fin 320) (k : Fin 384) :
    k0_pay76 (k0_pay72 (iblk m c 3 t)) (k0_pay73 (iblk m c 3 t)) (k0_pay74 q (iblk m c 6 t) (iblk m c 4 t))
        (k0_pay75 q (iblk m c 6 t) (iblk m c 3 t) (iblk m c 4 t)) (FloatOps.ofBits FTy.f32 1136656384#32) (ix2 a k)
      = ((back 384 (front (rowAt Q) (row t a)) (fun k => GQ (ix1 k))
          (dql WQ (front (rowAt C) (row t a)) (front (rowAt S) (row t a)) (front (headsAt DQ) (row t a))) k : ℝ) : EReal) := by
  pointwise [k0_pay76, k0_pay75, k0_pay74, k0_pay73, k0_pay71, k0_pay70, value_dql h t hq, scale_q h t, block_q h t, block_gq h t, ofBits_384]
  simp only [← EReal.coe_mul, coe_sum, div_real (show (384 : ℝ) ≠ 0 by norm_num), ← EReal.coe_sub]
  rfl

theorem value_kv (h : RealArgs m c Q KV GQ WQ GK WK C S DQ DK DV) (t : Fin cfg0.N) {q : Vec Ideal S320x2048 .bf16} (hq : ∀ a k, q (ix2 a k) = ((kvrow DK DV (row t a) k : ℝ) : EReal))
    (a : Fin 320) (k : Fin 256) :
    k0_pay81 (k0_pay69 q (iblk m c 7 t)) (k0_pay70 (iblk m c 3 t)) (iblk m c 5 t) (ix2 a k)
      = ((back 256 (front (rowAt KV) (row t a)) (fun k => GK (ix1 k))
          (dkl WK (front (headsAt DK) (row t a)) (front (headsAt DV) (row t a))) k : ℝ) : EReal) := by
  pointwise [k0_pay81, k0_pay80, k0_pay78, k0_pay70, value_dkl h t hq, scale_kv h t, block_kv h t, block_gk h t, ofBits_256]
  simp only [← EReal.coe_mul, coe_sum, div_real (show (256 : ℝ) ≠ 0 by norm_num), ← EReal.coe_sub]
  rfl

theorem value_heads (h : RealArgs m c Q KV GQ WQ GK WK C S DQ DK DV) (t : Fin cfg0.N) (a : Fin 320) (l : Fin 128) :
    k0_pay66 (k0_pay58 (k0_pay51 (k0_pay44 (k0_pay34 (k0_pay26 (k0_pay19 (k0_pay12 (View.ld (iblk m c 1 t) (Rect.unit ![0, 0, 0] ![1, 320, 256] inb_S8x320x256_S1x320x256_0_0_0))) (View.ld (iblk m c 1 t) (Rect.unit ![1, 0, 0] ![1, 320, 256] inb_S8x320x256_S1x320x256_1_0_0))) (View.ld (iblk m c 1 t) (Rect.unit ![2, 0, 0] ![1, 320, 256] inb_S8x320x256_S1x320x256_2_0_0))) (View.ld (iblk m c 1 t) (Rect.unit ![3, 0, 0] ![1, 320, 256] inb_S8x320x256_S1x320x256_3_0_0))) (View.ld (iblk m c 1 t) (Rect.unit ![4, 0, 0] ![1, 320, 256] inb_S8x320x256_S1x320x256_4_0_0))) (View.ld (iblk m c 1 t) (Rect.unit ![5, 0, 0] ![1, 320, 256] inb_S8x320x256_S1x320x256_5_0_0))) (View.ld (iblk m c 1 t) (Rect.unit ![6, 0, 0] ![1, 320, 256] inb_S8x320x256_S1x320x256_6_0_0))) (k0_pay65 (View.ld (iblk m c 1 t) (Rect.unit ![7, 0, 0] ![1, 320, 256] inb_S8x320x256_S1x320x256_7_0_0))) (ix2 a l)
      = ((∑ g, wide (front (headsAt DK) (row t a)) g ⟨128 + l.val, by omega⟩ : ℝ) : EReal) := by
  pointwise [k0_pay66, k0_pay65, k0_pay63, k0_pay58, k0_pay56, k0_pay51, k0_pay49, k0_pay44, k0_pay42, k0_pay34, k0_pay32, k0_pay26, k0_pay24, k0_pay19, k0_pay17, k0_pay12, k0_pay10, block_dk h t]
  simp only [← EReal.coe_add, zero_add]
  rw [Fin.sum_univ_eight]

theorem value_pe (h : RealArgs m c Q KV GQ WQ GK WK C S DQ DK DV) (t : Fin cfg0.N) {s : FVec Ideal S320x128 .f32}
    (hs : ∀ a l, s (ix2 a l) = ((∑ g, wide (front (headsAt DK) (row t a)) g ⟨128 + l.val, by omega⟩ : ℝ) : EReal)) (a : Fin 320) (j : Fin 128) :
    k0_pay1 (k0_pay6 (iblk m c 10 t)) s (k0_pay83 (k0_pay4 (iblk m c 8 t)) (k0_pay5 (iblk m c 9 t)) s) (ix2 a j)
      = ((if hj : j.val < 64 then dpe (front (rowAt C) (row t a)) (front (rowAt S) (row t a)) (front (headsAt DK) (row t a)) ⟨j.val, hj⟩ else 0 : ℝ) : EReal) := by
  pointwise [k0_pay1, k0_pay83, k0_pay4, k0_pay5, k0_pay6, hs, block_cos h t, block_sa h t, block_sb h t]
  simp only [← EReal.coe_mul, ← EReal.coe_add]
  exact congrArg _ (spin_pe _ _ _ j)

/-- A row of the latents' gradient, in the padded rows. -/
def latrow (Q : Arr 8208 384) (KV : Arr 8208 256) (GQ : Row 384) (WQ : Arr3 384 8 192) (GK : Row 256) (WK : Arr3 256 8 256) (C S : Arr 8208 32) (DQ DK : Arr3 8208 8 192) (DV : Arr3 8208 8 128) (R : Fin 8320) (j : Fin 768) : ℝ :=
  dlat GQ WQ GK WK (front (rowAt Q) R) (front (rowAt KV) R) (front (rowAt C) R) (front (rowAt S) R) (front (headsAt DQ) R) (front (headsAt DK) R)
    (front (headsAt DV) R) j

/-- A value known at every row and column of a tile, at a place of the whole block. -/
theorem at_lat {f : Fin 320 → Fin 768 → ℝ} {z : EReal} {v : ℝ} {a x : Fin 320} {k : Fin 768} (hz : z = ((v : ℝ) : EReal)) (ha : a.val = x.val) (hk : f x k = v) : z = ((f a k : ℝ) : EReal) := by
  obtain rfl := Fin.ext ha
  rw [hk]
  exact hz

theorem canon_lat (h : RealArgs m c Q KV GQ WQ GK WK C S DQ DK DV) (t : Fin cfg0.N) {q kv : Vec Ideal S320x2048 .bf16} {s : FVec Ideal S320x128 .f32}
    (hq : ∀ a k, q (ix2 a k) = ((qrow C S DQ (row t a) k : ℝ) : EReal)) (hkv : ∀ a k, kv (ix2 a k) = ((kvrow DK DV (row t a) k : ℝ) : EReal))
    (hs : ∀ a l, s (ix2 a l) = ((∑ g, wide (front (headsAt DK) (row t a)) g ⟨128 + l.val, by omega⟩ : ℝ) : EReal)) (a : Fin 320) (k : Fin 768) :
    View.canon (Val := Elt Ideal) (s := S320x768) (e := .f32)
      [⟨Rect.unit ![0, 640] ![320, 128] inb_S320x768_S320x128_0_640, k0_pay1 (k0_pay6 (iblk m c 10 t)) s (k0_pay83 (k0_pay4 (iblk m c 8 t)) (k0_pay5 (iblk m c 9 t)) s)⟩,
        ⟨Rect.unit ![0, 384] ![320, 256] inb_S320x768_S320x256_0_384, k0_pay81 (k0_pay69 kv (iblk m c 7 t)) (k0_pay70 (iblk m c 3 t)) (iblk m c 5 t)⟩,
        ⟨Rect.unit ![0, 0] ![320, 384] inb_S320x768_S320x384_0_0,
          k0_pay76 (k0_pay72 (iblk m c 3 t)) (k0_pay73 (iblk m c 3 t)) (k0_pay74 q (iblk m c 6 t) (iblk m c 4 t))
            (k0_pay75 q (iblk m c 6 t) (iblk m c 3 t) (iblk m c 4 t)) (FloatOps.ofBits FTy.f32 1136656384#32)⟩] (ix2 a k)
      = ((latrow Q KV GQ WQ GK WK C S DQ DK DV (row t a) k : ℝ) : EReal) := by
  canon_tiles x hx using View.cover_of_tiledBy _ ![320, 128] (by sl_kernel_rfl) _
  · idx_vars x
    refine at_lat (f := fun a k => latrow Q KV GQ WQ GK WK C S DQ DK DV (row t a) k) (value_pe h t hs x0 x1) hx0 ?_
    have lt : 640 + x1.val < 768 := by omega
    obtain rfl : k = ⟨640 + x1.val, lt⟩ := Fin.ext hx1
    unfold latrow dlat
    by_cases hj : x1.val < 64
    · simp (disch := omega) only [dif_pos, dif_neg, Nat.add_sub_cancel_left]
    · simp (disch := omega) only [dif_neg]
  · idx_vars x
    refine at_lat (f := fun a k => latrow Q KV GQ WQ GK WK C S DQ DK DV (row t a) k) (value_kv h t hkv x0 x1) hx0 ?_
    have lt : 384 + x1.val < 768 := by omega
    obtain rfl : k = ⟨384 + x1.val, lt⟩ := Fin.ext hx1
    unfold latrow dlat
    simp (disch := omega) only [dif_pos, dif_neg, Nat.add_sub_cancel_left]
  · idx_vars x
    refine at_lat (f := fun a k => latrow Q KV GQ WQ GK WK C S DQ DK DV (row t a) k) (value_q h t hq x0 x1) hx0 ?_
    have lt : x1.val < 768 := by omega
    obtain rfl : k = ⟨x1.val, lt⟩ := Fin.ext hx1
    unfold latrow dlat
    simp (disch := omega) only [dif_pos]

end Cert.MlaIdeal.Value

end
-- ==== Proof.MlaKernel.lean ====
/- What the kernel of the latent projections' gradient leaves in its five result arrays, over real arguments. -/
module

public import proofs.«01_k».proof.Proof.MlaLat
public import Idealize.ShloMosaic.Lib.Pipeline.ValueKit
public import Idealize.ShloMosaic.Lib.Pointwise
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.MlaIdeal.Value

open Cert.MlaIdeal Cert.MlaIdeal.Gen Cert.Reals Cert.Rms Cert.Mla

variable {m : (ℓ : Loc nD τ sig) → Buf (Elt Ideal) ℓ} {c : Dev nD} {Q : Arr 8208 384} {KV : Arr 8208 256} {GQ : Row 384} {WQ : Arr3 384 8 192}
  {GK : Row 256} {WK : Arr3 256 8 256} {C S : Arr 8208 32} {DQ DK : Arr3 8208 8 192} {DV : Arr3 8208 8 128}

/-! ## The result arrays -/

/-- The query's flat gradient. -/
def out11 (C S : Arr 8208 32) (DQ : Arr3 8208 8 192) : FVec Ideal S8320x2048 .bf16 := fun i => ((qrow C S DQ (i 0) (i 1) : ℝ) : EReal)

/-- The key's and value's flat gradient. -/
def out12 (DK : Arr3 8208 8 192) (DV : Arr3 8208 8 128) : FVec Ideal S8320x2048 .bf16 := fun i => ((kvrow DK DV (i 0) (i 1) : ℝ) : EReal)

/-- The latents' gradient. -/
def out13 (Q : Arr 8208 384) (KV : Arr 8208 256) (GQ : Row 384) (WQ : Arr3 384 8 192) (GK : Row 256) (WK : Arr3 256 8 256) (C S : Arr 8208 32) (DQ DK : Arr3 8208 8 192) (DV : Arr3 8208 8 128) : FVec Ideal S8320x768 .f32 := fun i => ((latrow Q KV GQ WQ GK WK C S DQ DK DV (i 0) (i 1) : ℝ) : EReal)

/-- A row's part of the query gain's gradient, in the padded rows. -/
def term14 (Q : Arr 8208 384) (WQ : Arr3 384 8 192) (C S : Arr 8208 32) (DQ : Arr3 8208 8 192) (R : Fin 8320) (k : Fin 384) : ℝ :=
  qTerm WQ (front (rowAt Q) R) (front (rowAt C) R) (front (rowAt S) R) (front (headsAt DQ) R) k

/-- A row's part of the key and value gain's gradient, in the padded rows. -/
def term15 (KV : Arr 8208 256) (WK : Arr3 256 8 256) (DK : Arr3 8208 8 192) (DV : Arr3 8208 8 128) (R : Fin 8320) (k : Fin 256) : ℝ :=
  kvTerm WK (front (rowAt KV) R) (front (headsAt DK) R) (front (headsAt DV) R) k

theorem whole (a : Fin 320) (k : Fin 2048) :
    (Rect.unit (s := S320x2048) ![0, 0] ![320, 2048] inb_S320x2048_S320x2048_0_0).toLoadRect.idx (ix2 a k) = ix2 a k := by
  exact funext fun d => Fin.ext ((Rect.idx_unit_val _ _ _ _ d).trans (by fin_cases d <;> exact Nat.zero_add _))

theorem place11 (t : Fin cfg0.N) (a : Fin 320) (k : Fin 2048) :
    ((View.whole main_v45_0).slice (win0_11.rect t)).emb (ix2 a k) = ix2 (row t a) k := by blk_ext [idx t, row]

theorem final11 (h : RealArgs m c Q KV GQ WQ GK WK C S DQ DK DV) : (dats m 0 c).arrAt 11 cfg0.N = out11 C S DQ := by
  refine (dats m 0 c).arrAt_eq_of_covers 11 _ (by decide +kernel) fun t hf y => ?_
  blk_simp
  rw [after0_11]
  by_cases h0 : t.val % 26 = 0
  · have h1 : ¬ 1 ≤ t.val := by have := lt_of_lt_of_eq t.isLt N_0; omega
    rw [outsAt0_A m c t h0 h1 h0 h1]
    frame_out
    idx_vars y
    exact (canon_q h t y0 y1).trans (congrArg (out11 C S DQ) (place11 t y0 y1)).symm
  · have h1 : 1 ≤ t.val := by have := lt_of_lt_of_eq t.isLt N_0; omega
    rw [outsAt0_B m c t h0 h1 h0 h1]
    frame_out
    idx_vars y
    exact (canon_q h t y0 y1).trans (congrArg (out11 C S DQ) (place11 t y0 y1)).symm

theorem place12 (t : Fin cfg0.N) (a : Fin 320) (k : Fin 2048) :
    ((View.whole main_v45_1).slice (win0_12.rect t)).emb (ix2 a k) = ix2 (row t a) k := by blk_ext [idx t, row]

theorem final12 (h : RealArgs m c Q KV GQ WQ GK WK C S DQ DK DV) : (dats m 0 c).arrAt 12 cfg0.N = out12 DK DV := by
  refine (dats m 0 c).arrAt_eq_of_covers 12 _ (by decide +kernel) fun t hf y => ?_
  blk_simp
  rw [after0_12]
  by_cases h0 : t.val % 26 = 0
  · have h1 : ¬ 1 ≤ t.val := by have := lt_of_lt_of_eq t.isLt N_0; omega
    rw [outsAt0_A m c t h0 h1 h0 h1]
    frame_out
    idx_vars y
    exact (canon_kv h t y0 y1).trans (congrArg (out12 DK DV) (place12 t y0 y1)).symm
  · have h1 : 1 ≤ t.val := by have := lt_of_lt_of_eq t.isLt N_0; omega
    rw [outsAt0_B m c t h0 h1 h0 h1]
    frame_out
    idx_vars y
    exact (canon_kv h t y0 y1).trans (congrArg (out12 DK DV) (place12 t y0 y1)).symm

theorem place13 (t : Fin cfg0.N) (a : Fin 320) (k : Fin 768) :
    ((View.whole main_v45_2).slice (win0_13.rect t)).emb (ix2 a k) = ix2 (row t a) k := by blk_ext [idx t, row]

theorem final13 (h : RealArgs m c Q KV GQ WQ GK WK C S DQ DK DV) : (dats m 0 c).arrAt 13 cfg0.N = out13 Q KV GQ WQ GK WK C S DQ DK DV := by
  refine (dats m 0 c).arrAt_eq_of_covers 13 _ (by decide +kernel) fun t hf y => ?_
  blk_simp
  rw [after0_13]
  by_cases h0 : t.val % 26 = 0
  · have h1 : ¬ 1 ≤ t.val := by have := lt_of_lt_of_eq t.isLt N_0; omega
    rw [outsAt0_A m c t h0 h1 h0 h1]
    frame_out
    generalize e : View.readCov (Val := Elt Ideal) (ms0_11 t).view _ _ = q
    have hq : ∀ a k, q (ix2 a k) = ((qrow C S DQ (row t a) k : ℝ) : EReal) := by
      intro a k
      rw [← e, View.readCov_eq_canon']
      exact (congrArg (View.canon (Val := Elt Ideal) (s := S320x2048) (e := .bf16) _) (whole a k)).trans (canon_q h t a k)
    generalize e' : View.readCov (Val := Elt Ideal) (ms0_12 t).view _ _ = kv
    have hkv : ∀ a k, kv (ix2 a k) = ((kvrow DK DV (row t a) k : ℝ) : EReal) := by
      intro a k
      rw [← e', View.readCov_eq_canon']
      exact (congrArg (View.canon (Val := Elt Ideal) (s := S320x2048) (e := .bf16) _) (whole a k)).trans (canon_kv h t a k)
    idx_vars y
    exact (canon_lat h t hq hkv (value_heads h t) y0 y1).trans (congrArg (out13 Q KV GQ WQ GK WK C S DQ DK DV) (place13 t y0 y1)).symm
  · have h1 : 1 ≤ t.val := by have := lt_of_lt_of_eq t.isLt N_0; omega
    rw [outsAt0_B m c t h0 h1 h0 h1]
    frame_out
    generalize e : View.readCov (Val := Elt Ideal) (ms0_11 t).view _ _ = q
    have hq : ∀ a k, q (ix2 a k) = ((qrow C S DQ (row t a) k : ℝ) : EReal) := by
      intro a k
      rw [← e, View.readCov_eq_canon']
      exact (congrArg (View.canon (Val := Elt Ideal) (s := S320x2048) (e := .bf16) _) (whole a k)).trans (canon_q h t a k)
    generalize e' : View.readCov (Val := Elt Ideal) (ms0_12 t).view _ _ = kv
    have hkv : ∀ a k, kv (ix2 a k) = ((kvrow DK DV (row t a) k : ℝ) : EReal) := by
      intro a k
      rw [← e', View.readCov_eq_canon']
      exact (congrArg (View.canon (Val := Elt Ideal) (s := S320x2048) (e := .bf16) _) (whole a k)).trans (canon_kv h t a k)
    idx_vars y
    exact (canon_lat h t hq hkv (value_heads h t) y0 y1).trans (congrArg (out13 Q KV GQ WQ GK WK C S DQ DK DV) (place13 t y0 y1)).symm

theorem acc14 (h : RealArgs m c Q KV GQ WQ GK WK C S DQ DK DV) (t : Fin cfg0.N) {q : Vec Ideal S320x2048 .bf16} (hq : ∀ a k, q (ix2 a k) = ((qrow C S DQ (row t a) k : ℝ) : EReal)) (j : Fin 384) :
    k0_pay77 (k0_pay68 q (iblk m c 6 t)) (k0_pay73 (iblk m c 3 t)) (ix2 0 j)
      = ((∑ a : Fin 320, term14 Q WQ C S DQ (row t a) j : ℝ) : EReal) := by
  pointwise [k0_pay77, k0_pay73, k0_pay71, k0_pay70, value_dql h t hq, scale_q h t, block_q h t]
  simp only [← EReal.coe_mul, coe_sum]
  rfl

theorem final14 (h : RealArgs m c Q KV GQ WQ GK WK C S DQ DK DV) : (dats m 0 c).arrAt 14 cfg0.N = fun i : S1x384.Idx =>
    ((∑ r : Fin 8320, term14 Q WQ C S DQ r (i 1) : ℝ) : EReal) := by
  refine (dats m 0 c).arrAt_eq_of_covers 14 _ (by decide +kernel) fun t hf y => ?_
  blk_simp
  rw [after0_14, Pipeline.eq_sum_fin_of_reset_step_apply_of_flush (fun n h => (outsAt0 m c n h).2.2.2.1) 26 (fun _ => (0 : EReal))
    (fun p j => ((∑ a : Fin 320, term14 Q WQ C S DQ (row p a) (j 1) : ℝ) : EReal))
    (fun t h0 j => ?_) (fun t h0 j => ?_) t ((flush0_14 t).mp hf) y]
  · idx_vars y
    have hy : ((View.whole main_v45_3).slice (win0_14.rect t)).emb (ix2 y0 y1) = ix2 y0 y1 := by blk_ext [idx t]
    refine Eq.trans ?_ (congrArg (fun i : S1x384.Idx => ((∑ r : Fin 8320, term14 Q WQ C S DQ r (i 1) : ℝ) : EReal)) hy).symm
    rw [zero_add]
    show (_ : EReal) = _
    rw [coe_sum, Fin.sum_univ_tiles 26 320 rfl]
    have ht := lt_of_lt_of_eq t.isLt N_0
    refine congrArg _ (Finset.sum_congr rfl fun s _ => Finset.sum_congr rfl fun a _ => ?_)
    refine congrArg (term14 Q WQ C S DQ · y1) (Fin.ext ?_)
    simp only [row]
    omega
  · have h1 : ¬ 1 ≤ t.val := by have := lt_of_lt_of_eq t.isLt N_0; omega
    rw [outsAt0_A m c t h0 h1 h0 h1]
    frame_out
    generalize e : View.readCov (Val := Elt Ideal) (ms0_11 t).view _ _ = q
    have hq : ∀ a k, q (ix2 a k) = ((qrow C S DQ (row t a) k : ℝ) : EReal) := by
      intro a k
      rw [← e, View.readCov_eq_canon']
      exact (congrArg (View.canon (Val := Elt Ideal) (s := S320x2048) (e := .bf16) _) (whole a k)).trans (canon_q h t a k)
    idx_vars j
    obtain rfl : j0 = 0 := Subsingleton.elim _ _
    rw [zero_add]
    exact acc14 h t hq j1
  · have h1 : 1 ≤ t.val := by omega
    rw [outsAt0_B m c t h0 h1 h0 h1]
    frame_out
    generalize e : View.readCov (Val := Elt Ideal) (ms0_11 t).view _ _ = q
    have hq : ∀ a k, q (ix2 a k) = ((qrow C S DQ (row t a) k : ℝ) : EReal) := by
      intro a k
      rw [← e, View.readCov_eq_canon']
      exact (congrArg (View.canon (Val := Elt Ideal) (s := S320x2048) (e := .bf16) _) (whole a k)).trans (canon_q h t a k)
    idx_vars j
    obtain rfl : j0 = 0 := Subsingleton.elim _ _
    pointwise [k0_pay2]
    exact congrArg (_ + ·) (acc14 h t hq j1)

theorem acc15 (h : RealArgs m c Q KV GQ WQ GK WK C S DQ DK DV) (t : Fin cfg0.N) {q : Vec Ideal S320x2048 .bf16} (hkv : ∀ a k, q (ix2 a k) = ((kvrow DK DV (row t a) k : ℝ) : EReal)) (j : Fin 256) :
    k0_pay82 (k0_pay69 q (iblk m c 7 t)) (k0_pay70 (iblk m c 3 t)) (ix2 0 j)
      = ((∑ a : Fin 320, term15 KV WK DK DV (row t a) j : ℝ) : EReal) := by
  pointwise [k0_pay82, k0_pay80, k0_pay78, k0_pay70, value_dkl h t hkv, scale_kv h t, block_kv h t]
  simp only [← EReal.coe_mul, coe_sum]
  rfl

theorem final15 (h : RealArgs m c Q KV GQ WQ GK WK C S DQ DK DV) : (dats m 0 c).arrAt 15 cfg0.N = fun i : S1x256.Idx =>
    ((∑ r : Fin 8320, term15 KV WK DK DV r (i 1) : ℝ) : EReal) := by
  refine (dats m 0 c).arrAt_eq_of_covers 15 _ (by decide +kernel) fun t hf y => ?_
  blk_simp
  rw [after0_15, Pipeline.eq_sum_fin_of_reset_step_apply_of_flush (fun n h => (outsAt0 m c n h).2.2.2.2) 26 (fun _ => (0 : EReal))
    (fun p j => ((∑ a : Fin 320, term15 KV WK DK DV (row p a) (j 1) : ℝ) : EReal))
    (fun t h0 j => ?_) (fun t h0 j => ?_) t ((flush0_15 t).mp hf) y]
  · idx_vars y
    have hy : ((View.whole main_v45_4).slice (win0_15.rect t)).emb (ix2 y0 y1) = ix2 y0 y1 := by blk_ext [idx t]
    refine Eq.trans ?_ (congrArg (fun i : S1x256.Idx => ((∑ r : Fin 8320, term15 KV WK DK DV r (i 1) : ℝ) : EReal)) hy).symm
    rw [zero_add]
    show (_ : EReal) = _
    rw [coe_sum, Fin.sum_univ_tiles 26 320 rfl]
    have ht := lt_of_lt_of_eq t.isLt N_0
    refine congrArg _ (Finset.sum_congr rfl fun s _ => Finset.sum_congr rfl fun a _ => ?_)
    refine congrArg (term15 KV WK DK DV · y1) (Fin.ext ?_)
    simp only [row]
    omega
  · have h1 : ¬ 1 ≤ t.val := by have := lt_of_lt_of_eq t.isLt N_0; omega
    rw [outsAt0_A m c t h0 h1 h0 h1]
    frame_out
    generalize e' : View.readCov (Val := Elt Ideal) (ms0_12 t).view _ _ = kv
    have hkv : ∀ a k, kv (ix2 a k) = ((kvrow DK DV (row t a) k : ℝ) : EReal) := by
      intro a k
      rw [← e', View.readCov_eq_canon']
      exact (congrArg (View.canon (Val := Elt Ideal) (s := S320x2048) (e := .bf16) _) (whole a k)).trans (canon_kv h t a k)
    idx_vars j
    obtain rfl : j0 = 0 := Subsingleton.elim _ _
    rw [zero_add]
    exact acc15 h t hkv j1
  · have h1 : 1 ≤ t.val := by omega
    rw [outsAt0_B m c t h0 h1 h0 h1]
    frame_out
    generalize e' : View.readCov (Val := Elt Ideal) (ms0_12 t).view _ _ = kv
    have hkv : ∀ a k, kv (ix2 a k) = ((kvrow DK DV (row t a) k : ℝ) : EReal) := by
      intro a k
      rw [← e', View.readCov_eq_canon']
      exact (congrArg (View.canon (Val := Elt Ideal) (s := S320x2048) (e := .bf16) _) (whole a k)).trans (canon_kv h t a k)
    idx_vars j
    obtain rfl : j0 = 0 := Subsingleton.elim _ _
    pointwise [k0_pay3]
    exact congrArg (_ + ·) (acc15 h t hkv j1)

end Cert.MlaIdeal.Value

end
-- ==== Proof.MlaReference.lean ====
/- What differentiating the latent projections' forward lines gives, over real arguments. -/
module

public import proofs.«01_k».proof.Proof.Gen.MlaRefIdeal.Run
public import proofs.«01_k».proof.Proof.Gen.MlaRefIdeal.Read
public import proofs.«01_k».proof.Proof.MlaMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MlaRefIdeal.Read

open Cert.MlaRefIdeal Cert.MlaRefIdeal.Gen Cert.Reals Cert.Rms Cert.Mla

variable (Q : Arr 8208 384) (KV : Arr 8208 256) (GQ : Row 384) (WQ : Arr3 384 8 192) (GK : Row 256) (WK : Arr3 256 8 256) (C S : Arr 8208 32)
  (DQ DK : Arr3 8208 8 192) (DV : Arr3 8208 8 128)

theorem scale_q (r : Fin 8208) (o : Fin 1) :
    val_main_v7 (F := Ideal) (fun i => ((Q i : ℝ) : EReal)) (ix2 r o) = ((inv 384 (rowAt Q r) : ℝ) : EReal) := by
  pointwise [val_main_v7, val_main_v6, val_main_v5, val_main_v4, val_main_v3, val_main_v2, val_main_v1, val_main_v0, val_main_cst, val_main_cst_0, val_main_cst_1, ofBits_384, ofBits_eps]
  simp only [← EReal.coe_mul, coe_sum]
  exact rsqrt_meanSq (by norm_num) _

/-- The mean square with the norm's small constant. -/
theorem mean_q (r : Fin 8208) (o : Fin 1) :
    val_main_v6 (F := Ideal) (fun i => ((Q i : ℝ) : EReal)) (ix2 r o) = ((meanSq 384 (rowAt Q r) : ℝ) : EReal) := by
  pointwise [val_main_v6, val_main_v5, val_main_v4, val_main_v3, val_main_v2, val_main_v1, val_main_v0, val_main_cst, val_main_cst_0, val_main_cst_1, ofBits_384, ofBits_eps]
  simp only [← EReal.coe_mul, coe_sum, div_real (show (384 : ℝ) ≠ 0 by norm_num), ← EReal.coe_add]
  rfl

theorem scale_kv (r : Fin 8208) (o : Fin 1) :
    val_main_v24 (F := Ideal) (fun i => ((KV i : ℝ) : EReal)) (ix2 r o) = ((inv 256 (rowAt KV r) : ℝ) : EReal) := by
  pointwise [val_main_v24, val_main_v23, val_main_v22, val_main_v21, val_main_v20, val_main_v19, val_main_v18, val_main_v17, val_main_cst_3, val_main_cst_4, val_main_cst_5, ofBits_256, ofBits_eps]
  simp only [← EReal.coe_mul, coe_sum]
  exact rsqrt_meanSq (by norm_num) _

/-- The mean square with the norm's small constant. -/
theorem mean_kv (r : Fin 8208) (o : Fin 1) :
    val_main_v23 (F := Ideal) (fun i => ((KV i : ℝ) : EReal)) (ix2 r o) = ((meanSq 256 (rowAt KV r) : ℝ) : EReal) := by
  pointwise [val_main_v23, val_main_v22, val_main_v21, val_main_v20, val_main_v19, val_main_v18, val_main_v17, val_main_cst_3, val_main_cst_4, val_main_cst_5, ofBits_256, ofBits_eps]
  simp only [← EReal.coe_mul, coe_sum, div_real (show (256 : ℝ) ≠ 0 by norm_num), ← EReal.coe_add]
  rfl

/-- The gradient of the query's up-projection. -/
theorem up_eq (r : Fin 8208) (h : Fin 8) (d : Fin 192) :
    val_main_v106 (F := Ideal) (fun i => ((C i : ℝ) : EReal)) (fun i => ((S i : ℝ) : EReal)) (fun i => ((DQ i : ℝ) : EReal)) (ix3 r h d) = ((up (rowAt C r) (rowAt S r) (headsAt DQ r) h d : ℝ) : EReal) := by
  pointwise [val_main_v106, val_main_v105, val_main_v104, val_main_v103, val_main_v102, val_main_v101, val_main_v100, val_main_v99, val_main_v98, val_main_v97, val_main_v96, val_main_v95, val_main_v94, val_main_v93, val_main_v92, val_main_v91, val_main_v77, val_main_v76, val_main_v75, val_main_v74, val_main_v73, val_main_v36, val_main_v35, val_main_cst_10, val_main_cst_11, val_main_cst_14, ofBits_scale]
  unfold up turn
  repeat' split
  all_goals first | rfl | (exfalso; omega) | (simp only [zero_add, add_zero, ← EReal.coe_mul, ← EReal.coe_neg, ← EReal.coe_add]; rfl)

/-- The gradient of the key's and value's up-projection. -/
theorem both_eq (r : Fin 8208) (h : Fin 8) (d : Fin 256) :
    val_main_v72 (F := Ideal) (fun i => ((DK i : ℝ) : EReal)) (fun i => ((DV i : ℝ) : EReal)) (ix3 r h d) = ((both (headsAt DK r) (headsAt DV r) h d : ℝ) : EReal) := by
  pointwise [val_main_v72, val_main_v71, val_main_v69, val_main_v68, val_main_cst_8, val_main_cst_9]
  unfold both
  repeat' split
  all_goals first | rfl | (exfalso; omega) | (simp only [zero_add, add_zero, ← EReal.coe_mul, ← EReal.coe_neg, ← EReal.coe_add]; rfl)

/-- The gradient of the rotary key. -/
theorem pe_eq (r : Fin 8208) (j : Fin 64) :
    val_main_v90 (F := Ideal) (fun i => ((C i : ℝ) : EReal)) (fun i => ((S i : ℝ) : EReal)) (fun i => ((DK i : ℝ) : EReal)) (ix2 r j) = ((dpe (rowAt C r) (rowAt S r) (headsAt DK r) j : ℝ) : EReal) := by
  pointwise [val_main_v90, val_main_v89, val_main_v88, val_main_v87, val_main_v86, val_main_v85, val_main_v84, val_main_v83, val_main_v82, val_main_v81, val_main_v80, val_main_v79, val_main_v78, val_main_v70, val_main_cst_12, val_main_cst_13]
  simp only [Finset.univ_unique, Finset.sum_singleton, coe_sum]
  unfold dpe turn
  repeat' split
  all_goals first | rfl | (exfalso; omega) | (simp only [zero_add, add_zero, ← EReal.coe_mul, ← EReal.coe_neg, ← EReal.coe_add]; rfl)

theorem dql_eq (r : Fin 8208) (k : Fin 384) :
    val_main_v132 (F := Ideal) (fun i => ((WQ i : ℝ) : EReal)) (fun i => ((C i : ℝ) : EReal)) (fun i => ((S i : ℝ) : EReal)) (fun i => ((DQ i : ℝ) : EReal)) (ix2 r k) = ((dql WQ (rowAt C r) (rowAt S r) (headsAt DQ r) k : ℝ) : EReal) := by
  pointwise [val_main_v132, up_eq C S DQ]
  simp only [← EReal.coe_mul, coe_sum]
  rfl

theorem dkl_eq (r : Fin 8208) (k : Fin 256) :
    val_main_v109 (F := Ideal) (fun i => ((WK i : ℝ) : EReal)) (fun i => ((DK i : ℝ) : EReal)) (fun i => ((DV i : ℝ) : EReal)) (ix2 r k) = ((dkl WK (headsAt DK r) (headsAt DV r) k : ℝ) : EReal) := by
  pointwise [val_main_v109, both_eq DK DV]
  simp only [← EReal.coe_mul, coe_sum]
  rfl

theorem back_q (r : Fin 8208) (j : Fin 384) :
    val_main_v152 (F := Ideal) (fun i => ((Q i : ℝ) : EReal)) (fun i => ((GQ i : ℝ) : EReal)) (fun i => ((WQ i : ℝ) : EReal)) (fun i => ((C i : ℝ) : EReal)) (fun i => ((S i : ℝ) : EReal)) (fun i => ((DQ i : ℝ) : EReal)) (ix2 r j)
      = ((back 384 (rowAt Q r) (fun k => GQ (ix1 k)) (dql WQ (rowAt C r) (rowAt S r) (headsAt DQ r)) j : ℝ) : EReal) := by
  pointwise [val_main_v152, val_main_v151, val_main_v150, val_main_v149, val_main_v148, val_main_v147, val_main_v146, val_main_v145, val_main_v144, val_main_v143, val_main_v142, val_main_v141, val_main_v140, val_main_v139, val_main_v137, val_main_v136, val_main_v13, val_main_v10, val_main_v9, val_main_v8, val_main_cst_2, val_main_cst_22, val_main_cst_23, val_main_cst_24, ofBits_384, ofBits_neg_half, dql_eq WQ C S DQ, scale_q Q, mean_q Q]
  simp only [← EReal.coe_mul, coe_sum, div_real (show (384 : ℝ) ≠ 0 by norm_num), div_real (meanSq_pos (show (0 : ℝ) < 384 by norm_num) _).ne', Finset.univ_unique, Finset.sum_singleton]
  rw [← back_eq_vjp (show (0 : ℝ) < 384 by norm_num)]
  simp only [← EReal.coe_add, add_assoc]
  rfl

theorem back_kv (r : Fin 8208) (j : Fin 256) :
    val_main_v129 (F := Ideal) (fun i => ((KV i : ℝ) : EReal)) (fun i => ((GK i : ℝ) : EReal)) (fun i => ((WK i : ℝ) : EReal)) (fun i => ((DK i : ℝ) : EReal)) (fun i => ((DV i : ℝ) : EReal)) (ix2 r j)
      = ((back 256 (rowAt KV r) (fun k => GK (ix1 k)) (dkl WK (headsAt DK r) (headsAt DV r)) j : ℝ) : EReal) := by
  pointwise [val_main_v129, val_main_v128, val_main_v127, val_main_v126, val_main_v125, val_main_v124, val_main_v123, val_main_v122, val_main_v121, val_main_v120, val_main_v119, val_main_v118, val_main_v117, val_main_v116, val_main_v114, val_main_v113, val_main_v30, val_main_v27, val_main_v26, val_main_v25, val_main_cst_6, val_main_cst_17, val_main_cst_18, val_main_cst_19, ofBits_256, ofBits_neg_half, dkl_eq WK DK DV, scale_kv KV, mean_kv KV]
  simp only [← EReal.coe_mul, coe_sum, div_real (show (256 : ℝ) ≠ 0 by norm_num), div_real (meanSq_pos (show (0 : ℝ) < 256 by norm_num) _).ne', Finset.univ_unique, Finset.sum_singleton]
  rw [← back_eq_vjp (show (0 : ℝ) < 256 by norm_num)]
  simp only [← EReal.coe_add, add_assoc]
  rfl

/-- The gradient of the query's gain. -/
theorem gain_q (i : S1x384.Idx) :
    val_main_v175 (F := Ideal) (fun i => ((Q i : ℝ) : EReal)) (fun i => ((WQ i : ℝ) : EReal)) (fun i => ((C i : ℝ) : EReal)) (fun i => ((S i : ℝ) : EReal)) (fun i => ((DQ i : ℝ) : EReal)) i
      = ((∑ r : Fin 8208, qTerm WQ (rowAt Q r) (rowAt C r) (rowAt S r) (headsAt DQ r) (i 1) : ℝ) : EReal) := by
  idx_vars i
  pointwise [val_main_v175, val_main_v138, val_main_v135, val_main_v134, val_main_v133, val_main_v12, val_main_v11, val_main_cst_20, val_main_cst_21, dql_eq WQ C S DQ, scale_q Q]
  simp only [Finset.univ_unique, Finset.sum_singleton, ← EReal.coe_mul, coe_sum]
  refine congrArg Real.toEReal (Finset.sum_congr rfl fun r _ => ?_)
  simp only [qTerm, rowAt]
  ring

/-- The gradient of the key's and value's gain. -/
theorem gain_kv (i : S1x256.Idx) :
    val_main_v176 (F := Ideal) (fun i => ((KV i : ℝ) : EReal)) (fun i => ((WK i : ℝ) : EReal)) (fun i => ((DK i : ℝ) : EReal)) (fun i => ((DV i : ℝ) : EReal)) i
      = ((∑ r : Fin 8208, kvTerm WK (rowAt KV r) (headsAt DK r) (headsAt DV r) (i 1) : ℝ) : EReal) := by
  idx_vars i
  pointwise [val_main_v176, val_main_v115, val_main_v112, val_main_v111, val_main_v110, val_main_v29, val_main_v28, val_main_cst_15, val_main_cst_16, dkl_eq WK DK DV, scale_kv KV]
  simp only [Finset.univ_unique, Finset.sum_singleton, ← EReal.coe_mul, coe_sum]
  refine congrArg Real.toEReal (Finset.sum_congr rfl fun r _ => ?_)
  simp only [kvTerm, rowAt]
  ring

/-- The latents' gradient. -/
theorem lat_eq (r : Fin 8208) (j : Fin 768) :
    val_main_v154 (F := Ideal) (fun i => ((Q i : ℝ) : EReal)) (fun i => ((KV i : ℝ) : EReal)) (fun i => ((GQ i : ℝ) : EReal)) (fun i => ((WQ i : ℝ) : EReal)) (fun i => ((GK i : ℝ) : EReal)) (fun i => ((WK i : ℝ) : EReal)) (fun i => ((C i : ℝ) : EReal)) (fun i => ((S i : ℝ) : EReal)) (fun i => ((DQ i : ℝ) : EReal)) (fun i => ((DK i : ℝ) : EReal)) (fun i => ((DV i : ℝ) : EReal)) (ix2 r j)
      = ((dlat GQ WQ GK WK (rowAt Q r) (rowAt KV r) (rowAt C r) (rowAt S r) (headsAt DQ r) (headsAt DK r) (headsAt DV r) j : ℝ) : EReal) := by
  pointwise [val_main_v154, val_main_v153, val_main_cst_25, back_q Q GQ WQ C S DQ, back_kv KV GK WK DK DV, pe_eq C S DK]
  unfold dlat
  repeat' split
  all_goals first | rfl | (exfalso; omega)

theorem lat_rows (R : Fin 8320) (j : Fin 768) :
    val_main_v174 (F := Ideal) (fun i => ((Q i : ℝ) : EReal)) (fun i => ((KV i : ℝ) : EReal)) (fun i => ((GQ i : ℝ) : EReal)) (fun i => ((WQ i : ℝ) : EReal)) (fun i => ((GK i : ℝ) : EReal)) (fun i => ((WK i : ℝ) : EReal)) (fun i => ((C i : ℝ) : EReal)) (fun i => ((S i : ℝ) : EReal)) (fun i => ((DQ i : ℝ) : EReal)) (fun i => ((DK i : ℝ) : EReal)) (fun i => ((DV i : ℝ) : EReal)) (ix2 R j)
      = ((front (fun r => dlat GQ WQ GK WK (rowAt Q r) (rowAt KV r) (rowAt C r) (rowAt S r) (headsAt DQ r) (headsAt DK r) (headsAt DV r)) R j : ℝ) : EReal) := by
  pointwise [val_main_v174, val_main_v173, val_main_cst_29, lat_eq Q KV GQ WQ GK WK C S DQ DK DV]
  unfold front
  repeat' split
  all_goals first | rfl | (exfalso; omega)

theorem q_rows (R : Fin 8320) (j : Fin 2048) :
    val_main_v164 (F := Ideal) (fun i => ((C i : ℝ) : EReal)) (fun i => ((S i : ℝ) : EReal)) (fun i => ((DQ i : ℝ) : EReal)) (ix2 R j)
      = ((front (fun r => qflat (rowAt C r) (rowAt S r) (headsAt DQ r)) R j : ℝ) : EReal) := by
  pointwise [val_main_v164, val_main_v163, val_main_v162, val_main_v161, val_main_v160, val_main_v159, val_main_v158, val_main_v157, val_main_v156, val_main_v155, val_main_cst_26, val_main_cst_27, up_eq C S DQ]
  by_cases hR : R.val < 112
  · rw [dif_pos hR, front_front _ _ hR]; rfl
  · rw [dif_neg hR]
    unfold front
    rw [dif_pos (show 112 ≤ R.val by omega)]
    show _ = ((qflat _ _ _ j : ℝ) : EReal)
    unfold qflat
    repeat' split
    all_goals first | rfl | (exfalso; omega)

theorem kv_rows (R : Fin 8320) (j : Fin 2048) :
    val_main_v172 (F := Ideal) (fun i => ((DK i : ℝ) : EReal)) (fun i => ((DV i : ℝ) : EReal)) (ix2 R j)
      = ((front (fun r => kvflat (headsAt DK r) (headsAt DV r)) R j : ℝ) : EReal) := by
  pointwise [val_main_v172, val_main_v171, val_main_v170, val_main_v169, val_main_v168, val_main_v167, val_main_v166, val_main_v165, val_main_cst_28, both_eq DK DV]
  by_cases hR : R.val < 112
  · rw [dif_pos hR, front_front _ _ hR]; rfl
  · rw [dif_neg hR]
    unfold front
    rw [dif_pos (show 112 ≤ R.val by omega)]
    show _ = ((kvflat _ _ j : ℝ) : EReal)
    unfold kvflat
    repeat' split
    all_goals first | rfl | (exfalso; omega)

end Cert.MlaRefIdeal.Read
-- ==== Proof.Mla.lean ====
/- The gradient of the latent attention's up products, rotations and norms: the kernel and the differentiated forward lines
   agree. -/
module

public import proofs.«01_k».proof.Defs
public import proofs.«01_k».proof.Proof.MlaKernel
public import proofs.«01_k».proof.Proof.MlaReference
public import proofs.«01_k».proof.Proof.Gen.Pre_finite_mla

@[expose] public section

set_option maxRecDepth 16384

noncomputable section

open Idealize.ShloMosaic Idealize.ShloMosaic.TcCoe Idealize.SL.Sem

namespace Cert.MlaClaim

open Cert.Reals Cert.Rms Cert.Mla

/-- The precondition in the form the proofs use: the arguments are arrays of real numbers. -/
theorem real_args (m : (ℓ : Loc MlaIdeal.nD MlaIdeal.τ MlaIdeal.sig) → Buf (Elt Ideal) ℓ) (h : Pre_MlaIdeal_finite_mla m) (c : Dev MlaIdeal.nD) :
    ∃ Q KV GQ WQ GK WK C S DQ DK DV, MlaIdeal.Value.RealArgs m c Q KV GQ WQ GK WK C S DQ DK DV := by
  have hc := congrFun (h c) (fun a => a.elim0)
  simp only [Pre_finite_mla.fn_part3, Pre_finite_mla.fn_part2, Pre_finite_mla.fn_part1, Pre_finite_mla.fn, andi_apply, andi_one] at hc
  obtain ⟨⟨⟨⟨⟨⟨⟨⟨⟨⟨h0, h1⟩, h2⟩, h3⟩, h4⟩, h5⟩, h6⟩, h7⟩, h8⟩, h9⟩, h10⟩ := hc
  obtain ⟨Q, hQ⟩ := exists_real (fun _ => ofBits_inf) h0
  obtain ⟨KV, hKV⟩ := exists_real (fun _ => ofBits_inf) h1
  obtain ⟨GQ, hGQ⟩ := exists_real (fun _ => ofBits_inf) h2
  obtain ⟨WQ, hWQ⟩ := exists_real (fun _ => ofBits_inf) h3
  obtain ⟨GK, hGK⟩ := exists_real (fun _ => ofBits_inf) h4
  obtain ⟨WK, hWK⟩ := exists_real (fun _ => ofBits_inf) h5
  obtain ⟨C, hC⟩ := exists_real (fun _ => ofBits_inf) h6
  obtain ⟨S, hS⟩ := exists_real (fun _ => ofBits_inf) h7
  obtain ⟨DQ, hDQ⟩ := exists_real (fun _ => ofBits_inf) h8
  obtain ⟨DK, hDK⟩ := exists_real (fun _ => ofBits_inf) h9
  obtain ⟨DV, hDV⟩ := exists_real (fun _ => ofBits_inf) h10
  exact ⟨Q, KV, GQ, WQ, GK, WK, C, S, DQ, DK, DV, hQ, hKV, hGQ, hWQ, hGK, hWK, hC, hS, hDQ, hDK, hDV⟩

variable (Q : Arr 8208 384) (KV : Arr 8208 256) (GQ : Row 384) (WQ : Arr3 384 8 192) (GK : Row 256) (WK : Arr3 256 8 256) (C S : Arr 8208 32)
  (DQ DK : Arr3 8208 8 192) (DV : Arr3 8208 8 128)

/-! ## The rows in front have no gradient -/

theorem up_zero (c s : Fin 32 → ℝ) (g : Fin 8) (d : Fin 192) : up c s 0 g d = 0 := by
  simp [up, turn]

theorem both_zero (g : Fin 8) (d : Fin 256) : both 0 0 g d = 0 := by
  simp [both]

theorem dql_zero (W : Arr3 384 8 192) (c s : Fin 32 → ℝ) (k : Fin 384) : dql W c s 0 k = 0 := by
  simp [dql, up_zero]

theorem dkl_zero (W : Arr3 256 8 256) (k : Fin 256) : dkl W 0 0 k = 0 := by
  simp [dkl, both_zero]

theorem qflat_zero (c s : Fin 32 → ℝ) (q : Fin 2048) : qflat c s 0 q = 0 := by
  simp [qflat, up_zero]

theorem kvflat_zero (q : Fin 2048) : kvflat 0 0 q = 0 := by
  simp [kvflat, both_zero]

theorem dlat_zero (q : Fin 384 → ℝ) (kv : Fin 256 → ℝ) (c s : Fin 32 → ℝ) (j : Fin 768) : dlat GQ WQ GK WK q kv c s 0 0 0 j = 0 := by
  unfold dlat
  split
  · exact back_zero _ _ _ _ (dql_zero WQ c s) _
  · split
    · exact back_zero _ _ _ _ (dkl_zero WK) _
    · split
      · simp [dpe, turn]
      · rfl

/-- A function of rows that is zero on rows of zeros, at rows with zeros in front. -/
theorem front_eq {f : Fin 8320 → ℝ} {g : Fin 8208 → ℝ} (h0 : ∀ R : Fin 8320, R.val < 112 → f R = 0)
    (h1 : ∀ (r : Fin 8208) (h : 112 + r.val < 8320), f ⟨112 + r.val, h⟩ = g r) (R : Fin 8320) : f R = front g R := by
  by_cases hR : R.val < 112
  · rw [h0 R hR, front_front _ _ hR]
  · obtain ⟨r, hr, rfl⟩ := exists_behind (n0 := 8208) 112 rfl R (by omega)
    rw [front_behind]
    exact h1 r _

theorem qrow_eq (R : Fin 8320) (j : Fin 2048) : MlaIdeal.Value.qrow C S DQ R j = front (fun r => qflat (rowAt C r) (rowAt S r) (headsAt DQ r) j) R := by
  refine front_eq (f := fun R => MlaIdeal.Value.qrow C S DQ R j) (fun R hR => ?_) (fun r h => ?_) R
  · unfold MlaIdeal.Value.qrow
    rw [front_front (headsAt DQ) R hR]
    exact qflat_zero _ _ j
  · simp only [MlaIdeal.Value.qrow, front_behind]

theorem kvrow_eq (R : Fin 8320) (j : Fin 2048) : MlaIdeal.Value.kvrow DK DV R j = front (fun r => kvflat (headsAt DK r) (headsAt DV r) j) R := by
  refine front_eq (f := fun R => MlaIdeal.Value.kvrow DK DV R j) (fun R hR => ?_) (fun r h => ?_) R
  · unfold MlaIdeal.Value.kvrow
    rw [front_front (headsAt DK) R hR, front_front (headsAt DV) R hR]
    exact kvflat_zero j
  · simp only [MlaIdeal.Value.kvrow, front_behind]

theorem latrow_eq (R : Fin 8320) (j : Fin 768) : MlaIdeal.Value.latrow Q KV GQ WQ GK WK C S DQ DK DV R j
    = front (fun r => dlat GQ WQ GK WK (rowAt Q r) (rowAt KV r) (rowAt C r) (rowAt S r) (headsAt DQ r) (headsAt DK r) (headsAt DV r) j) R := by
  refine front_eq (f := fun R => MlaIdeal.Value.latrow Q KV GQ WQ GK WK C S DQ DK DV R j) (fun R hR => ?_) (fun r h => ?_) R
  · unfold MlaIdeal.Value.latrow
    rw [front_front (headsAt DQ) R hR, front_front (headsAt DK) R hR, front_front (headsAt DV) R hR]
    exact dlat_zero GQ WQ GK WK _ _ _ _ j
  · simp only [MlaIdeal.Value.latrow, front_behind]

/-- Rows with zeros in front, column by column. -/
theorem front_apply {n : ℕ} (f : Fin 8208 → Fin n → ℝ) (R : Fin 8320) (j : Fin n) : front (fun r => f r j) R = front f R j := by
  unfold front
  split <;> rfl

theorem gains14 (j : Fin 384) : ∑ R : Fin 8320, MlaIdeal.Value.term14 Q WQ C S DQ R j
    = ∑ r : Fin 8208, qTerm WQ (rowAt Q r) (rowAt C r) (rowAt S r) (headsAt DQ r) j := by
  rw [sum_behind (n0 := 8208) 112 rfl]
  · refine Finset.sum_congr rfl fun r _ => ?_
    simp only [MlaIdeal.Value.term14, front_behind]
  · intro R hR
    unfold MlaIdeal.Value.term14 qTerm
    rw [front_front (headsAt DQ) R hR, dql_zero, zero_mul]

theorem gains15 (j : Fin 256) : ∑ R : Fin 8320, MlaIdeal.Value.term15 KV WK DK DV R j
    = ∑ r : Fin 8208, kvTerm WK (rowAt KV r) (headsAt DK r) (headsAt DV r) j := by
  rw [sum_behind (n0 := 8208) 112 rfl]
  · refine Finset.sum_congr rfl fun r _ => ?_
    simp only [MlaIdeal.Value.term15, front_behind]
  · intro R hR
    unfold MlaIdeal.Value.term15 kvTerm
    rw [front_front (headsAt DK) R hR, front_front (headsAt DV) R hR, dkl_zero, zero_mul]

theorem rows11 : MlaIdeal.Value.out11 C S DQ = MlaRefIdeal.Read.val_main_v164 (F := Ideal) (fun i => ((C i : ℝ) : EReal)) (fun i => ((S i : ℝ) : EReal)) (fun i => ((DQ i : ℝ) : EReal)) := by
  funext i
  idx_vars i
  rw [MlaRefIdeal.Read.q_rows C S DQ i0 i1]
  exact congrArg _ ((qrow_eq C S DQ i0 i1).trans (front_apply _ i0 i1))

theorem rows12 : MlaIdeal.Value.out12 DK DV = MlaRefIdeal.Read.val_main_v172 (F := Ideal) (fun i => ((DK i : ℝ) : EReal)) (fun i => ((DV i : ℝ) : EReal)) := by
  funext i
  idx_vars i
  rw [MlaRefIdeal.Read.kv_rows DK DV i0 i1]
  exact congrArg _ ((kvrow_eq DK DV i0 i1).trans (front_apply _ i0 i1))

theorem rows13 : MlaIdeal.Value.out13 Q KV GQ WQ GK WK C S DQ DK DV = MlaRefIdeal.Read.val_main_v174 (F := Ideal) (fun i => ((Q i : ℝ) : EReal)) (fun i => ((KV i : ℝ) : EReal)) (fun i => ((GQ i : ℝ) : EReal)) (fun i => ((WQ i : ℝ) : EReal)) (fun i => ((GK i : ℝ) : EReal)) (fun i => ((WK i : ℝ) : EReal)) (fun i => ((C i : ℝ) : EReal)) (fun i => ((S i : ℝ) : EReal)) (fun i => ((DQ i : ℝ) : EReal)) (fun i => ((DK i : ℝ) : EReal)) (fun i => ((DV i : ℝ) : EReal)) := by
  funext i
  idx_vars i
  rw [MlaRefIdeal.Read.lat_rows Q KV GQ WQ GK WK C S DQ DK DV i0 i1]
  exact congrArg _ ((latrow_eq Q KV GQ WQ GK WK C S DQ DK DV i0 i1).trans (front_apply _ i0 i1))

set_option maxHeartbeats 2000000 in
theorem value : algebraic_MlaIdeal_MlaRefIdeal_pre_finite_mla := by
  pair_intro
  · run_from MlaIdeal.Value.run_blocks m g
  · run_from MlaRefIdeal.Value.run m' g'
    · obtain ⟨Q, KV, GQ, WQ, GK, WK, C, S, DQ, DK, DV, h⟩ := real_args m hpre c
      refine (MlaRefIdeal.Read.val_main_v164_eq (F := Ideal) (StableHlo.launchContents m' c)).trans ?_
      refine Eq.trans ?_ (MlaIdeal.Value.final11 h).symm
      change MlaRefIdeal.Read.val_main_v164 (F := Ideal) (m' (c.tc.loc MlaRefIdeal.main_arg7)) (m' (c.tc.loc MlaRefIdeal.main_arg8)) (m' (c.tc.loc MlaRefIdeal.main_arg9)) = _
      rw [(hagree c).2.2.2.2.2.2.2.1, (hagree c).2.2.2.2.2.2.2.2.1, (hagree c).2.2.2.2.2.2.2.2.2.1, h.cos, h.sin, h.dq]
      exact (rows11 C S DQ).symm
    · obtain ⟨Q, KV, GQ, WQ, GK, WK, C, S, DQ, DK, DV, h⟩ := real_args m hpre c
      refine (MlaRefIdeal.Read.val_main_v172_eq (F := Ideal) (StableHlo.launchContents m' c)).trans ?_
      refine Eq.trans ?_ (MlaIdeal.Value.final12 h).symm
      change MlaRefIdeal.Read.val_main_v172 (F := Ideal) (m' (c.tc.loc MlaRefIdeal.main_arg10)) (m' (c.tc.loc MlaRefIdeal.main_arg11)) = _
      rw [(hagree c).2.2.2.2.2.2.2.2.2.2.1, (hagree c).2.2.2.2.2.2.2.2.2.2.2, h.dk, h.dv]
      exact (rows12 DK DV).symm
    · obtain ⟨Q, KV, GQ, WQ, GK, WK, C, S, DQ, DK, DV, h⟩ := real_args m hpre c
      rw [← (hagree c).1, ← (hagree c).2.1]
      refine (MlaRefIdeal.Read.val_main_v174_eq (F := Ideal) (StableHlo.launchContents m' c)).trans ?_
      refine Eq.trans ?_ (MlaIdeal.Value.final13 h).symm
      change MlaRefIdeal.Read.val_main_v174 (F := Ideal) (m' (c.tc.loc MlaRefIdeal.main_arg0)) (m' (c.tc.loc MlaRefIdeal.main_arg1)) (m' (c.tc.loc MlaRefIdeal.main_arg3)) (m' (c.tc.loc MlaRefIdeal.main_arg4)) (m' (c.tc.loc MlaRefIdeal.main_arg5)) (m' (c.tc.loc MlaRefIdeal.main_arg6)) (m' (c.tc.loc MlaRefIdeal.main_arg7)) (m' (c.tc.loc MlaRefIdeal.main_arg8)) (m' (c.tc.loc MlaRefIdeal.main_arg9)) (m' (c.tc.loc MlaRefIdeal.main_arg10)) (m' (c.tc.loc MlaRefIdeal.main_arg11)) = _
      rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2, h.q, h.kv, h.gq, h.wq, h.gk, h.wk, h.cos, h.sin, h.dq, h.dk, h.dv]
      exact (rows13 Q KV GQ WQ GK WK C S DQ DK DV).symm
    · obtain ⟨Q, KV, GQ, WQ, GK, WK, C, S, DQ, DK, DV, h⟩ := real_args m hpre c
      refine (MlaRefIdeal.Read.val_main_v175_eq (F := Ideal) (StableHlo.launchContents m' c)).trans ?_
      refine Eq.trans ?_ (MlaIdeal.Value.final14 h).symm
      change MlaRefIdeal.Read.val_main_v175 (F := Ideal) (m' (c.tc.loc MlaRefIdeal.main_arg0)) (m' (c.tc.loc MlaRefIdeal.main_arg4)) (m' (c.tc.loc MlaRefIdeal.main_arg7)) (m' (c.tc.loc MlaRefIdeal.main_arg8)) (m' (c.tc.loc MlaRefIdeal.main_arg9)) = _
      rw [(hagree c).1, (hagree c).2.2.2.2.1, (hagree c).2.2.2.2.2.2.2.1, (hagree c).2.2.2.2.2.2.2.2.1, (hagree c).2.2.2.2.2.2.2.2.2.1, h.q, h.wq, h.cos, h.sin, h.dq]
      funext i
      rw [MlaRefIdeal.Read.gain_q Q WQ C S DQ i]
      exact congrArg _ (gains14 Q WQ C S DQ (i 1)).symm
    · obtain ⟨Q, KV, GQ, WQ, GK, WK, C, S, DQ, DK, DV, h⟩ := real_args m hpre c
      refine (MlaRefIdeal.Read.val_main_v176_eq (F := Ideal) (StableHlo.launchContents m' c)).trans ?_
      refine Eq.trans ?_ (MlaIdeal.Value.final15 h).symm
      change MlaRefIdeal.Read.val_main_v176 (F := Ideal) (m' (c.tc.loc MlaRefIdeal.main_arg1)) (m' (c.tc.loc MlaRefIdeal.main_arg6)) (m' (c.tc.loc MlaRefIdeal.main_arg10)) (m' (c.tc.loc MlaRefIdeal.main_arg11)) = _
      rw [(hagree c).2.1, (hagree c).2.2.2.2.2.2.1, (hagree c).2.2.2.2.2.2.2.2.2.2.1, (hagree c).2.2.2.2.2.2.2.2.2.2.2, h.kv, h.wk, h.dk, h.dv]
      funext i
      rw [MlaRefIdeal.Read.gain_kv KV WK DK DV i]
      exact congrArg _ (gains15 KV WK DK DV (i 1)).symm

/-- The differentiated forward lines run, and leave their arguments as they were. -/
theorem reference_frame : quiescent_MlaRefIdeal := fun m g _ =>
  (θ_run MlaRefIdeal.defs _ _).mono (fun r h => ⟨fun c => (h c).2.2.2.2.2, sem_eq_zero_of_no_sems rfl _⟩) (MlaRefIdeal.Value.run m g)

end Cert.MlaClaim

end
-- ==== Proof.Gate.lean ====
/- The gated convolution's gradient: the differentiated forward lines run. -/
module

public import proofs.«01_k».proof.Defs
public import proofs.«01_k».proof.Proof.Gen.GateRefIdeal
public import proofs.«01_k».proof.Proof.Gen.GateRefIdeal.Run
public import Idealize.ShloMosaic.Adequacy
public import Idealize.ShloMosaic.Init

@[expose] public section

noncomputable section

open Idealize.ShloMosaic Idealize.SL.Sem

namespace Cert.GateClaim

/-- The differentiated forward lines run, and leave their arguments as they were. -/
theorem reference_frame : quiescent_GateRefIdeal := fun m g _ =>
  (θ_run GateRefIdeal.defs _ _).mono (fun r h => ⟨fun c => (h c).2.2.2, sem_eq_zero_of_no_sems rfl _⟩) (GateRefIdeal.Value.run m g)

end Cert.GateClaim

end
-- ==== Proof.Forward.lean ====
/- The root-mean-square norm of a row of extended reals, and arrays with rows of zeros in front, as the forward calls use them. -/
module

public import proofs.«01_k».proof.Proof.Reals

@[expose] public section

noncomputable section

namespace Cert.Forward

open Idealize.ShloMosaic Cert.Reals
open scoped BigOperators

/-- The norm of the row `x` with the gain `g`. -/
def norm {n : ℕ} (x g : Fin n → EReal) (k : Fin n) : EReal :=
  x k * Ideal.rsqrt (Ideal.div (∑ j, x j * x j) ((1024 : ℝ) : EReal) + ((eps : ℝ) : EReal)) * g k

/-- The norm of a row of zeros is zero, whatever the gain. -/
theorem norm_zero {n : ℕ} (x g : Fin n → EReal) (k : Fin n) (h : x k = 0) : norm x g k = 0 := by
  rw [norm, h, zero_mul, zero_mul]

/-- The array `x` with `p` rows of zeros in front. -/
def front {n0 n1 N : ℕ} (p : ℕ) (x : Shape.Idx ⟨2, ![n0, n1]⟩ → EReal) (r : Fin N) (k : Fin n1) : EReal :=
  if h : p ≤ r.val ∧ r.val - p < n0 then x (ix2 ⟨r.val - p, h.2⟩ k) else 0

/-- The form a concatenation with rows of zeros is read in. -/
theorem front_eq {n0 n1 N : ℕ} (p : ℕ) (hN : N ≤ p + n0) (x : Shape.Idx ⟨2, ![n0, n1]⟩ → EReal) (r : Fin N) (k : Fin n1)
    (hb : ¬ r.val < p → r.val - p < n0) :
    (if h : r.val < p then (0 : EReal) else x (ix2 ⟨r.val - p, hb h⟩ k)) = front p x r k := by
  unfold front
  split
  · rw [dif_neg (by omega)]
  · rw [dif_pos (by omega)]

theorem front_zero {n0 n1 N p : ℕ} (x : Shape.Idx ⟨2, ![n0, n1]⟩ → EReal) (r : Fin N) (k : Fin n1) (h : r.val < p) : front p x r k = 0 :=
  dif_neg (by omega)

theorem front_behind {n0 n1 N : ℕ} (p : ℕ) (x : Shape.Idx ⟨2, ![n0, n1]⟩ → EReal) (r : Fin n0) (h : p + r.val < N) :
    front p x (⟨p + r.val, h⟩ : Fin N) = fun k => x (ix2 r k) := by
  funext k
  unfold front
  rw [dif_pos (by have := r.isLt; dsimp only; omega)]
  exact congrArg (fun r => x (ix2 r k)) (Fin.ext (by dsimp only; omega))

end Cert.Forward

end
-- ==== Proof.InFwdKernel.lean ====
/- What the forward kernel of the input projection leaves in its five result arrays. -/
module

public import proofs.«01_k».proof.Proof.Gen.InFwdIdeal.Value
public import proofs.«01_k».proof.Proof.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InFwdIdeal.Value

open Cert.InFwdIdeal Cert.InFwdIdeal.Gen Cert.Reals Cert.Forward

variable (m : (ℓ : Loc nD τ sig) → Buf (Elt Ideal) ℓ)

/-- The block index of every window at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the whole array that row `a` of point `t`'s block is. -/
def row (t : Fin cfg0.N) (a : Fin 640) : Fin 8320 := ⟨t.val * 640 + a.val, by have := lt_of_lt_of_eq t.isLt N_0; omega⟩

variable (c : Dev nD)

/-- The arguments: the rows, the gain and the weight. -/
def rows : S8208x1024.Idx → EReal := m ((c : Thread nD τ).loc main_arg0)
def gain (k : Fin 1024) : EReal := (m ((c : Thread nD τ).loc main_arg1) : S1024.Idx → EReal) (ix1 k)
def weight : S1024x3280.Idx → EReal := m ((c : Thread nD τ).loc main_arg2)

/-- The weight's columns as the kernel holds them: 704 columns and 64 columns of zeros, then 2576 columns and 112 columns of zeros. -/
def packed (j : Fin 1024) (k : Fin 3456) : EReal :=
  if h : k.val < 704 then weight m c (ix2 j ⟨k.val, by omega⟩)
  else if k.val < 768 then 0
  else if h : k.val < 3344 then weight m c (ix2 j ⟨k.val - 64, by omega⟩) else 0

/-! ## The arrays when the grid starts -/

theorem step_v5 : V m c main_v5 = (truncf .bf16 (concatenate S1024x3456 1 [⟨S1024x704, (extractStridedSlice S1024x704 ![0, 0] (m ((c : Thread nD τ).loc main_arg2) : FVec Ideal S1024x3280 .f32) slices_S1024x3280_S1024x704_0_0 : FVec Ideal S1024x704 .f32)⟩, ⟨S1024x64, ((broadcastInDim S1024x64 ![] bcast_S_S1024x64) (constant (F := Ideal) S_ .f32 0x00000000#32 : FVec Ideal S_ .f32) : FVec Ideal S1024x64 .f32)⟩, ⟨S1024x2576, (extractStridedSlice S1024x2576 ![0, 704] (m ((c : Thread nD τ).loc main_arg2) : FVec Ideal S1024x3280 .f32) slices_S1024x3280_S1024x2576_0_704 : FVec Ideal S1024x2576 .f32)⟩, ⟨S1024x112, ((broadcastInDim S1024x112 ![] bcast_S_S1024x112) (constant (F := Ideal) S_ .f32 0x00000000#32 : FVec Ideal S_ .f32) : FVec Ideal S1024x112 .f32)⟩] concatenates_S1024x704_S1024x64_S1024x2576_S1024x112_S1024x3456_d1 : FVec Ideal S1024x3456 .f32) bitsLt_bf16_f32 : FVec Ideal S1024x3456 .bf16) := by
  show StableHlo.after hostOps0 (fun b => m (c, b)) _ = _
  simp only [hostOps0, StableHlo.after_cons, StableHlo.after_nil]
  after_results_steps
  rfl

theorem entry_x (r : Fin 8320) (k : Fin 1024) : V m c main_v7 (ix2 r k) = front 112 (rows m c) r k := by
  entry_read
  pointwise []
  exact front_eq 112 (by decide) (rows m c) r k _

theorem entry_g (k : Fin 1024) : V m c main_v8 (ix2 0 k) = gain m c k := by
  entry_read
  pointwise []
  rfl

theorem entry_w (j : Fin 1024) (k : Fin 3456) : V m c main_v5 (ix2 j k) = packed m c j k := by
  rw [step_v5]
  pointwise []
  unfold packed weight
  repeat' split
  all_goals first
    | rfl
    | (exfalso; omega)
    | exact congrArg (fun i => m ((c : Thread nD τ).loc main_arg2) (ix2 j i)) (Fin.ext (by dsimp only; omega))

/-! ## The blocks at a grid point -/

variable (t : Fin cfg0.N) (a : Fin 640)

theorem block_x (k : Fin 1024) : iblk m c 0 t (ix2 a k) = front 112 (rows m c) (row t a) k :=
  (show iblk m c 0 t (ix2 a k) = V m c main_v7 (ix2 (row t a) k) by blk_ext [iblk, idx t, row]).trans (entry_x m c _ _)

theorem block_g (k : Fin 1024) : iblk m c 1 t (ix2 0 k) = gain m c k :=
  (show iblk m c 1 t (ix2 0 k) = V m c main_v8 (ix2 0 k) by blk_ext [iblk, idx t, row]).trans (entry_g m c _)

theorem block_w (j : Fin 1024) (k : Fin 3456) : iblk m c 2 t (ix2 j k) = packed m c j k :=
  (show iblk m c 2 t (ix2 j k) = V m c main_v5 (ix2 j k) by blk_ext [iblk, idx t, row]).trans (entry_w m c _ _)

/-! ## The values of a grid point -/

/-- The norm of the row `r`. -/
def normed (r : Fin 8320) (k : Fin 1024) : EReal := norm (front 112 (rows m c) r) (gain m c) k

/-- The columns `o`, `o + 1`, … of the packed weight. -/
def col {n : ℕ} (o : ℕ) (h : o + n ≤ 3456) (k : Fin n) : Fin 3456 := ⟨o + k.val, by omega⟩

/-- Its product with a packed column of the weight. -/
def product (r : Fin 8320) (k : Fin 3456) : EReal := ∑ j : Fin 1024, normed m c r j * packed m c j k

theorem value_normed (k : Fin 1024) : k0_pay2 (iblk m c 0 t) (iblk m c 1 t) (ix2 a k) = normed m c (row t a) k := by
  pointwise [k0_pay2, block_x, block_g, ofBits_1024, ofBits_eps]
  rfl

theorem value_lat (k : Fin 768) : k0_pay3 (iblk m c 0 t) (iblk m c 1 t) (View.ld (iblk m c 2 t) r0_2) (ix2 a k) = product m c (row t a) (col 0 (by decide) k) := by
  pointwise [k0_pay3, value_normed, block_w]
  simp only [product, col, Nat.zero_add]

theorem value_gate (k : Fin 1024) : k0_pay4 (iblk m c 0 t) (iblk m c 1 t) (View.ld (iblk m c 2 t) r0_4) (ix2 a k) = product m c (row t a) (col 768 (by decide) k) := by
  pointwise [k0_pay4, value_normed, block_w]
  simp only [product, col, Nat.zero_add]

theorem value_conv (k : Fin 1536) : k0_pay5 (iblk m c 0 t) (iblk m c 1 t) (View.ld (iblk m c 2 t) r0_5) (ix2 a k) = product m c (row t a) (col 1792 (by decide) k) := by
  pointwise [k0_pay5, value_normed, block_w]
  simp only [product, col, Nat.zero_add]

theorem value_step (k : Fin 128) : k0_pay1 (k0_pay2 (iblk m c 0 t) (iblk m c 1 t)) (View.ld (iblk m c 2 t) r0_7) (ix2 a k) = product m c (row t a) (col 3328 (by decide) k) := by
  pointwise [k0_pay1, value_normed, block_w]
  simp only [product, col, Nat.zero_add]

/-! ## The result arrays -/

def outNorm (i : S8320x1024.Idx) : EReal := normed m c (i 0) (i 1)

/-- The products with `n` columns from column `o` on. -/
def outCols {n : ℕ} (o : ℕ) (h : o + n ≤ 3456) (i : Shape.Idx ⟨2, ![8320, n]⟩) : EReal := product m c (i 0) (col o h (i 1))

theorem final3 : (dats m 0 c).arrAt 3 cfg0.N = outNorm m c := by
  refine (dats m 0 c).arrAt_eq_of_covers 3 _ (by decide +kernel) fun t hf y => ?_
  blk_simp
  rw [after0_3]
  unfold out0_3
  frame_out
  idx_vars y
  have place : ((View.whole main_v9_0).slice (win0_3.rect t)).emb (ix2 y0 y1) = ix2 (row t y0) y1 := by blk_ext [idx t, row]
  exact (value_normed m c t y0 y1).trans (congrArg (outNorm m c) place).symm

theorem final4 : (dats m 0 c).arrAt 4 cfg0.N = outCols m c (n := 768) 0 (by decide) := by
  refine (dats m 0 c).arrAt_eq_of_covers 4 _ (by decide +kernel) fun t hf y => ?_
  blk_simp
  rw [after0_4]
  unfold out0_4
  frame_out
  idx_vars y
  have place : ((View.whole main_v9_1).slice (win0_4.rect t)).emb (ix2 y0 y1) = ix2 (row t y0) y1 := by blk_ext [idx t, row]
  exact (value_lat m c t y0 y1).trans (congrArg (outCols m c (n := 768) 0 (by decide)) place).symm

theorem final5 : (dats m 0 c).arrAt 5 cfg0.N = outCols m c (n := 1024) 768 (by decide) := by
  refine (dats m 0 c).arrAt_eq_of_covers 5 _ (by decide +kernel) fun t hf y => ?_
  blk_simp
  rw [after0_5]
  unfold out0_5
  frame_out
  idx_vars y
  have place : ((View.whole main_v9_2).slice (win0_5.rect t)).emb (ix2 y0 y1) = ix2 (row t y0) y1 := by blk_ext [idx t, row]
  exact (value_gate m c t y0 y1).trans (congrArg (outCols m c (n := 1024) 768 (by decide)) place).symm

theorem final6 : (dats m 0 c).arrAt 6 cfg0.N = outCols m c (n := 1536) 1792 (by decide) := by
  refine (dats m 0 c).arrAt_eq_of_covers 6 _ (by decide +kernel) fun t hf y => ?_
  blk_simp
  rw [after0_6]
  unfold out0_6
  frame_out
  idx_vars y
  have place : ((View.whole main_v9_3).slice (win0_6.rect t)).emb (ix2 y0 y1) = ix2 (row t y0) y1 := by blk_ext [idx t, row]
  exact (value_conv m c t y0 y1).trans (congrArg (outCols m c (n := 1536) 1792 (by decide)) place).symm

theorem final7 : (dats m 0 c).arrAt 7 cfg0.N = outCols m c (n := 128) 3328 (by decide) := by
  refine (dats m 0 c).arrAt_eq_of_covers 7 _ (by decide +kernel) fun t hf y => ?_
  blk_simp
  rw [after0_7]
  unfold out0_7
  frame_out
  idx_vars y
  have place : ((View.whole main_v9_4).slice (win0_7.rect t)).emb (ix2 y0 y1) = ix2 (row t y0) y1 := by blk_ext [idx t, row]
  exact (value_step m c t y0 y1).trans (congrArg (outCols m c (n := 128) 3328 (by decide)) place).symm

end Cert.InFwdIdeal.Value

end
-- ==== Proof.InFwdReference.lean ====
/- The input projection's forward lines: their five results, read at an index. -/
module

public import proofs.«01_k».proof.Proof.Gen.InFwdRefIdeal.Run
public import proofs.«01_k».proof.Proof.Gen.InFwdRefIdeal.Read
public import proofs.«01_k».proof.Proof.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InFwdRefIdeal.Read

open Cert.InFwdRefIdeal Cert.InFwdRefIdeal.Gen Cert.Reals Cert.Forward

variable (X : S8208x1024.Idx → EReal) (G : S1024.Idx → EReal) (W : S1024x3280.Idx → EReal)

/-- The norm of the row `r`. -/
def normed (r : Fin 8208) (k : Fin 1024) : EReal := norm (fun j => X (ix2 r j)) (fun j => G (ix1 j)) k

/-- Its product with a column of the weight. -/
def product (r : Fin 8208) (k : Fin 3280) : EReal := ∑ j : Fin 1024, normed X G r j * W (ix2 j k)

theorem norms (r : Fin 8208) (k : Fin 1024) : val_main_v12 (F := Ideal) X G (ix2 r k) = normed X G r k := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, ofBits_1024, ofBits_eps]
  rfl

theorem products (r : Fin 8208) (k : Fin 3280) : val_main_v13 (F := Ideal) X G W (ix2 r k) = product X G W r k := by
  pointwise [val_main_v13, norms]
  rfl

theorem result22 (r : Fin 8320) (k : Fin 1024) :
    val_main_v22 (F := Ideal) X G (ix2 r k) = if h : r.val < 112 then (0 : EReal) else normed X G ⟨r.val - 112, by omega⟩ k := by
  pointwise [val_main_v22, val_main_v21, val_main_v20, val_main_cst_4, norms]

theorem result24 (r : Fin 8320) (k : Fin 768) :
    val_main_v24 (F := Ideal) X G W (ix2 r k) = if h : r.val < 112 then (0 : EReal)
      else if h' : k.val < 704 then product X G W ⟨r.val - 112, by omega⟩ ⟨k.val, by omega⟩ else 0 := by
  pointwise [val_main_v24, val_main_v23, val_main_cst_5, val_main_v16, val_main_v15, val_main_cst_2, val_main_v14, products]

theorem result27 (r : Fin 8320) (k : Fin 1024) :
    val_main_v27 (F := Ideal) X G W (ix2 r k) = if h : r.val < 112 then (0 : EReal)
      else product X G W ⟨r.val - 112, by omega⟩ ⟨704 + k.val, by omega⟩ := by
  pointwise [val_main_v27, val_main_v26, val_main_v25, val_main_cst_6, products]

theorem result30 (r : Fin 8320) (k : Fin 1536) :
    val_main_v30 (F := Ideal) X G W (ix2 r k) = if h : r.val < 112 then (0 : EReal)
      else product X G W ⟨r.val - 112, by omega⟩ ⟨1728 + k.val, by omega⟩ := by
  pointwise [val_main_v30, val_main_v29, val_main_v28, val_main_cst_7, products]

theorem result32 (r : Fin 8320) (k : Fin 128) :
    val_main_v32 (F := Ideal) X G W (ix2 r k) = if h : r.val < 112 then (0 : EReal)
      else if h' : k.val < 16 then product X G W ⟨r.val - 112, by omega⟩ ⟨3264 + k.val, by omega⟩ else 0 := by
  pointwise [val_main_v32, val_main_v31, val_main_cst_8, val_main_v19, val_main_v18, val_main_cst_3, val_main_v17, products]

end Cert.InFwdRefIdeal.Read

end
-- ==== Proof.InFwd.lean ====
/- The input projection with the norm before it, forward: the kernel and the forward lines agree. -/
module

public import proofs.«01_k».proof.Defs
public import proofs.«01_k».proof.Proof.InFwdKernel
public import proofs.«01_k».proof.Proof.InFwdReference

@[expose] public section

set_option maxRecDepth 16384

noncomputable section

open Idealize.ShloMosaic Idealize.ShloMosaic.TcCoe Idealize.SL.Sem

namespace Cert.InFwdClaim

open Cert.Reals Cert.Forward

variable (m : (ℓ : Loc InFwdIdeal.nD InFwdIdeal.τ InFwdIdeal.sig) → Buf (Elt Ideal) ℓ) (c : Dev InFwdIdeal.nD)

/-- The arguments as the forward lines read them. -/
abbrev X : InFwdIdeal.S8208x1024.Idx → EReal := m ((c : Thread InFwdIdeal.nD InFwdIdeal.τ).loc InFwdIdeal.main_arg0)
abbrev G : InFwdIdeal.S1024.Idx → EReal := m ((c : Thread InFwdIdeal.nD InFwdIdeal.τ).loc InFwdIdeal.main_arg1)
abbrev W : InFwdIdeal.S1024x3280.Idx → EReal := m ((c : Thread InFwdIdeal.nD InFwdIdeal.τ).loc InFwdIdeal.main_arg2)

theorem normed_front (r : Fin 8320) (h : r.val < 112) (k : Fin 1024) : InFwdIdeal.Value.normed m c r k = 0 :=
  norm_zero _ _ _ (front_zero _ r _ h)

theorem normed_behind (r : Fin 8208) (h : 112 + r.val < 8320) :
    InFwdIdeal.Value.normed m c ⟨112 + r.val, h⟩ = InFwdRefIdeal.Read.normed (X m c) (G m c) r := by
  funext k
  simp only [InFwdIdeal.Value.normed, InFwdRefIdeal.Read.normed, front_behind]
  rfl

theorem product_front (r : Fin 8320) (h : r.val < 112) (k : Fin 3456) : InFwdIdeal.Value.product m c r k = 0 :=
  Finset.sum_eq_zero fun j _ => by rw [normed_front m c r h, zero_mul]

/-- A column of zeros gives a column of zeros. -/
theorem product_zero (r : Fin 8320) (k : Fin 3456) (h : ∀ j, InFwdIdeal.Value.packed m c j k = 0) : InFwdIdeal.Value.product m c r k = 0 :=
  Finset.sum_eq_zero fun j _ => by rw [h, mul_zero]

theorem product_behind (r : Fin 8208) (h : 112 + r.val < 8320) (k : Fin 3456) (k' : Fin 3280)
    (hk : ∀ j, InFwdIdeal.Value.packed m c j k = W m c (ix2 j k')) :
    InFwdIdeal.Value.product m c ⟨112 + r.val, h⟩ k = InFwdRefIdeal.Read.product (X m c) (G m c) (W m c) r k' := by
  simp only [InFwdIdeal.Value.product, InFwdRefIdeal.Read.product, normed_behind, hk]

theorem first_cols (j : Fin 1024) (k : Fin 3456) (k' : Fin 3280) (h : k.val < 704) (hk : k'.val = k.val) :
    InFwdIdeal.Value.packed m c j k = W m c (ix2 j k') := by
  rw [InFwdIdeal.Value.packed, dif_pos h]
  exact congrArg (fun i => W m c (ix2 j i)) (Fin.ext (by dsimp only; omega))

theorem later_cols (j : Fin 1024) (k : Fin 3456) (k' : Fin 3280) (h : 768 ≤ k.val) (hk : k'.val + 64 = k.val) :
    InFwdIdeal.Value.packed m c j k = W m c (ix2 j k') := by
  rw [InFwdIdeal.Value.packed, dif_neg (by omega), if_neg (by omega), dif_pos (by omega)]
  exact congrArg (fun i => W m c (ix2 j i)) (Fin.ext (by dsimp only; omega))

theorem zero_cols (j : Fin 1024) (k : Fin 3456) (h : 704 ≤ k.val ∧ k.val < 768 ∨ 3344 ≤ k.val) : InFwdIdeal.Value.packed m c j k = 0 := by
  unfold InFwdIdeal.Value.packed
  rw [dif_neg (by omega)]
  split
  · rfl
  · rw [dif_neg (by omega)]

theorem agree3 : InFwdRefIdeal.Read.val_main_v22 (F := Ideal) (X m c) (G m c) = InFwdIdeal.Value.outNorm m c := by
  funext i
  idx_vars i
  rw [InFwdRefIdeal.Read.result22]
  show _ = InFwdIdeal.Value.normed m c i0 i1
  rcases Nat.lt_or_ge i0.val 112 with hi | hi
  · rw [dif_pos hi, normed_front m c i0 hi]
  · obtain ⟨r, hr, rfl⟩ := exists_behind (n0 := 8208) 112 rfl i0 hi
    rw [dif_neg (by dsimp only; omega), normed_behind]
    exact congrArg (fun r => InFwdRefIdeal.Read.normed (X m c) (G m c) r i1) (Fin.ext (by dsimp only; omega))

/-- Rows of zeros in front of a column `v` are the kernel's product with the packed column `k`, if `v` is it behind them. -/
theorem rows_agree (i : Fin 8320) (k : Fin 3456) (v : Fin 8208 → EReal)
    (hv : ∀ (r : Fin 8208) (h : 112 + r.val < 8320), InFwdIdeal.Value.product m c ⟨112 + r.val, h⟩ k = v r) :
    (if h : i.val < 112 then (0 : EReal) else v ⟨i.val - 112, by omega⟩) = InFwdIdeal.Value.product m c i k := by
  rcases Nat.lt_or_ge i.val 112 with hi | hi
  · rw [dif_pos hi, product_front m c i hi]
  · obtain ⟨r, hr, rfl⟩ := exists_behind (n0 := 8208) 112 rfl i hi
    rw [dif_neg (by dsimp only; omega), hv r hr]
    exact congrArg v (Fin.ext (by dsimp only; omega))

/-- The same of a group of columns of which those from `l` on are zeros. -/
theorem group_agree (i : Fin 8320) (k : Fin 3456) (l : ℕ) (q : ℕ) (k' : q < l → Fin 3280)
    (hl : ∀ h j, InFwdIdeal.Value.packed m c j k = W m c (ix2 j (k' h))) (h0 : ¬ q < l → ∀ j, InFwdIdeal.Value.packed m c j k = 0) :
    (if h : i.val < 112 then (0 : EReal)
      else if h' : q < l then InFwdRefIdeal.Read.product (X m c) (G m c) (W m c) ⟨i.val - 112, by omega⟩ (k' h') else 0)
      = InFwdIdeal.Value.product m c i k :=
  rows_agree m c i k (fun r => if h' : q < l then InFwdRefIdeal.Read.product (X m c) (G m c) (W m c) r (k' h') else 0) fun r h => by
    split
    · exact product_behind m c r h k _ (hl _)
    · next hq => exact product_zero m c _ k (h0 hq)

theorem agree4 : InFwdRefIdeal.Read.val_main_v24 (F := Ideal) (X m c) (G m c) (W m c) = InFwdIdeal.Value.outCols m c (n := 768) 0 (by decide) := by
  funext i
  idx_vars i
  rw [InFwdRefIdeal.Read.result24]
  exact group_agree m c i0 (InFwdIdeal.Value.col 0 (by decide) i1) 704 i1.val (fun h => ⟨i1.val, by omega⟩)
    (fun h j => first_cols m c j _ _ (by dsimp only [InFwdIdeal.Value.col]; omega) (by dsimp only [InFwdIdeal.Value.col]; omega))
    (fun h j => zero_cols m c j _ (by dsimp only [InFwdIdeal.Value.col]; omega))

theorem agree5 : InFwdRefIdeal.Read.val_main_v27 (F := Ideal) (X m c) (G m c) (W m c) = InFwdIdeal.Value.outCols m c (n := 1024) 768 (by decide) := by
  funext i
  idx_vars i
  rw [InFwdRefIdeal.Read.result27]
  exact rows_agree m c i0 (InFwdIdeal.Value.col 768 (by decide) i1) (fun r => InFwdRefIdeal.Read.product (X m c) (G m c) (W m c) r ⟨704 + i1.val, by omega⟩) fun r h =>
    product_behind m c r h _ _ fun j => later_cols m c j _ _ (by dsimp only [InFwdIdeal.Value.col]; omega) (by dsimp only [InFwdIdeal.Value.col]; omega)

theorem agree6 : InFwdRefIdeal.Read.val_main_v30 (F := Ideal) (X m c) (G m c) (W m c) = InFwdIdeal.Value.outCols m c (n := 1536) 1792 (by decide) := by
  funext i
  idx_vars i
  rw [InFwdRefIdeal.Read.result30]
  exact rows_agree m c i0 (InFwdIdeal.Value.col 1792 (by decide) i1) (fun r => InFwdRefIdeal.Read.product (X m c) (G m c) (W m c) r ⟨1728 + i1.val, by omega⟩) fun r h =>
    product_behind m c r h _ _ fun j => later_cols m c j _ _ (by dsimp only [InFwdIdeal.Value.col]; omega) (by dsimp only [InFwdIdeal.Value.col]; omega)

theorem agree7 : InFwdRefIdeal.Read.val_main_v32 (F := Ideal) (X m c) (G m c) (W m c) = InFwdIdeal.Value.outCols m c (n := 128) 3328 (by decide) := by
  funext i
  idx_vars i
  rw [InFwdRefIdeal.Read.result32]
  exact group_agree m c i0 (InFwdIdeal.Value.col 3328 (by decide) i1) 16 i1.val (fun h => ⟨3264 + i1.val, by omega⟩)
    (fun h j => later_cols m c j _ _ (by dsimp only [InFwdIdeal.Value.col]; omega) (by dsimp only [InFwdIdeal.Value.col]; omega))
    (fun h j => zero_cols m c j _ (by dsimp only [InFwdIdeal.Value.col]; omega))

theorem value : algebraic_InFwdIdeal_InFwdRefIdeal := by
  pair_intro
  · run_from InFwdIdeal.Value.run_blocks m g
  · run_from InFwdRefIdeal.Value.run m' g'
    · refine (InFwdRefIdeal.Read.val_main_v22_eq (F := Ideal) _ _).trans ?_
      exact (agree3 m c).trans (InFwdIdeal.Value.final3 m c).symm
    · refine (InFwdRefIdeal.Read.val_main_v24_eq (F := Ideal) _ _ _).trans ?_
      rw [(hagree c).2.2]
      exact (agree4 m c).trans (InFwdIdeal.Value.final4 m c).symm
    · refine (InFwdRefIdeal.Read.val_main_v27_eq (F := Ideal) _ _ _).trans ?_
      rw [(hagree c).2.2]
      exact (agree5 m c).trans (InFwdIdeal.Value.final5 m c).symm
    · refine (InFwdRefIdeal.Read.val_main_v30_eq (F := Ideal) _ _ _).trans ?_
      rw [(hagree c).2.2]
      exact (agree6 m c).trans (InFwdIdeal.Value.final6 m c).symm
    · refine (InFwdRefIdeal.Read.val_main_v32_eq (F := Ideal) _ _ _).trans ?_
      rw [(hagree c).2.2]
      exact (agree7 m c).trans (InFwdIdeal.Value.final7 m c).symm

/-- The forward lines run, and leave their arguments as they were. -/
theorem reference_frame : quiescent_InFwdRefIdeal := fun m g _ =>
  (θ_run InFwdRefIdeal.defs _ _).mono (fun r h => ⟨fun c => (h c).2.2.2.2.2, sem_eq_zero_of_no_sems rfl _⟩) (InFwdRefIdeal.Value.run m g)

end Cert.InFwdClaim

end
-- ==== Proof.MixFwdKernel.lean ====
/- What the forward kernel of the output projection leaves in its three result arrays. -/
module

public import proofs.«01_k».proof.Proof.Gen.MixFwdIdeal.Value
public import proofs.«01_k».proof.Proof.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixFwdIdeal.Value

open Cert.MixFwdIdeal Cert.MixFwdIdeal.Gen Cert.Reals Cert.Forward

variable (m : (ℓ : Loc nD τ sig) → Buf (Elt Ideal) ℓ)

/-- The block index of every window at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

/-- The grid coordinate of a point. -/
theorem coord : ∀ t : Fin cfg0.N, (grid0.coords t 0).val = t.val := (by decide +kernel : ∀ t : Fin grid0.N, _)

/-- The row of the whole array that row `a` of point `t`'s block is. -/
def row (t : Fin cfg0.N) (a : Fin 640) : Fin 8320 := ⟨t.val * 640 + a.val, by have := lt_of_lt_of_eq t.isLt N_0; omega⟩

variable (c : Dev nD)

/-- The arguments: attention's and the state space's results, the residual, the two gains and the weight. -/
def attn : S8208x1024.Idx → EReal := m ((c : Thread nD τ).loc main_arg0)
def ssm : S8208x1024.Idx → EReal := m ((c : Thread nD τ).loc main_arg1)
def resid : S8208x1024.Idx → EReal := m ((c : Thread nD τ).loc main_arg2)
def gainA (k : Fin 1024) : EReal := (m ((c : Thread nD τ).loc main_arg3) : S1024.Idx → EReal) (ix1 k)
def gainP (k : Fin 1024) : EReal := (m ((c : Thread nD τ).loc main_arg4) : S1024.Idx → EReal) (ix1 k)
def weight : S2048x1024.Idx → EReal := m ((c : Thread nD τ).loc main_arg5)

/-! ## The arrays when the grid starts -/

theorem entry_a (r : Fin 8320) (k : Fin 1024) : V m c main_v1 (ix2 r k) = front 112 (attn m c) r k := by
  entry_read
  pointwise []
  exact front_eq 112 (by decide) (attn m c) r k _

theorem entry_s (r : Fin 8320) (k : Fin 1024) : V m c main_v3 (ix2 r k) = front 112 (ssm m c) r k := by
  entry_read
  pointwise []
  exact front_eq 112 (by decide) (ssm m c) r k _

theorem entry_h (r : Fin 8320) (k : Fin 1024) : V m c main_v5 (ix2 r k) = front 112 (resid m c) r k := by
  entry_read
  pointwise []
  exact front_eq 112 (by decide) (resid m c) r k _

theorem entry_ga (k : Fin 1024) : V m c main_v6 (ix2 0 k) = gainA m c k := by
  entry_read
  pointwise []
  rfl

theorem entry_gp (k : Fin 1024) : V m c main_v7 (ix2 0 k) = gainP m c k := by
  entry_read
  pointwise []
  rfl

theorem entry_w (j : Fin 2048) (k : Fin 1024) : V m c main_v8 (ix2 j k) = weight m c (ix2 j k) := by
  entry_read
  pointwise []
  rfl

/-! ## The blocks at a grid point -/

variable (t : Fin cfg0.N) (a : Fin 640)

theorem block_a (k : Fin 1024) : iblk m c 0 t (ix2 a k) = front 112 (attn m c) (row t a) k :=
  (show iblk m c 0 t (ix2 a k) = V m c main_v1 (ix2 (row t a) k) by blk_ext [iblk, idx t, row]).trans (entry_a m c _ _)

theorem block_s (k : Fin 1024) : iblk m c 1 t (ix2 a k) = front 112 (ssm m c) (row t a) k :=
  (show iblk m c 1 t (ix2 a k) = V m c main_v3 (ix2 (row t a) k) by blk_ext [iblk, idx t, row]).trans (entry_s m c _ _)

theorem block_h (k : Fin 1024) : iblk m c 2 t (ix2 a k) = front 112 (resid m c) (row t a) k :=
  (show iblk m c 2 t (ix2 a k) = V m c main_v5 (ix2 (row t a) k) by blk_ext [iblk, idx t, row]).trans (entry_h m c _ _)

theorem block_ga (k : Fin 1024) : iblk m c 3 t (ix2 0 k) = gainA m c k :=
  (show iblk m c 3 t (ix2 0 k) = V m c main_v6 (ix2 0 k) by blk_ext [iblk, idx t, row]).trans (entry_ga m c _)

theorem block_gp (k : Fin 1024) : iblk m c 4 t (ix2 0 k) = gainP m c k :=
  (show iblk m c 4 t (ix2 0 k) = V m c main_v7 (ix2 0 k) by blk_ext [iblk, idx t, row]).trans (entry_gp m c _)

theorem block_w (j : Fin 2048) (k : Fin 1024) : iblk m c 5 t (ix2 j k) = weight m c (ix2 j k) :=
  (show iblk m c 5 t (ix2 j k) = V m c main_v8 (ix2 j k) by blk_ext [iblk, idx t, row]).trans (entry_w m c _ _)

/-! ## The values of a grid point -/

/-- The two halves of the row `r` that the weight is applied to. -/
def cat (r : Fin 8320) (k : Fin 2048) : EReal :=
  if h : k.val < 1024 then norm (front 112 (attn m c) r) (gainA m c) ⟨k.val, h⟩ else front 112 (ssm m c) r ⟨k.val - 1024, by omega⟩

/-- Their product with the weight. -/
def mix (r : Fin 8320) (j : Fin 1024) : EReal := ∑ k : Fin 2048, cat m c r k * weight m c (ix2 k j)

/-- The residual after the projection: the rows of zeros stay as they are. -/
def next (r : Fin 8320) (k : Fin 1024) : EReal :=
  front 112 (resid m c) r k + if 112 ≤ r.val then norm (mix m c r) (gainP m c) k else 0

theorem halves (k : Fin 2048) : k0_pay2 (iblk m c 0 t) (iblk m c 3 t) (iblk m c 1 t) (ix2 a k) = cat m c (row t a) k := by
  pointwise [k0_pay2, block_a, block_s, block_ga, ofBits_1024, ofBits_eps]
  rfl

theorem product (j : Fin 1024) : k0_pay3 (iblk m c 0 t) (iblk m c 3 t) (iblk m c 1 t) (iblk m c 5 t) (ix2 a j) = mix m c (row t a) j := by
  pointwise [k0_pay3, halves, block_w]
  rfl

/-- The kernel's comparison of a row's number with the number of rows in front. -/
theorem behind : IntOp.cmpi CmpIPredicate.sge (IntOp.addi (Scalar.muli (BitVec.ofNat 32 t.val) 640#32) (BitVec.ofNat 32 a.val)) 112#32
    = BitVec.ofBool (decide (112 ≤ (row t a).val)) := by
  have ht := lt_of_lt_of_eq t.isLt N_0
  have e : IntOp.addi (Scalar.muli (BitVec.ofNat 32 t.val) 640#32) (BitVec.ofNat 32 a.val) = BitVec.ofNat 32 (t.val * 640 + a.val) := by
    rw [BitVec.ofNat_add, BitVec.ofNat_mul]; rfl
  rw [e]
  exact WordCmp.cmpi_sge_ofNat (by omega) (by norm_num)

theorem residual (k : Fin 1024) :
    k0_pay1 (k0_pay3 (iblk m c 0 t) (iblk m c 3 t) (iblk m c 1 t) (iblk m c 5 t)) (k0_pay4 (iblk m c 2 t)) (k0_pay5 (grid0.coords t)) (k0_pay6 (iblk m c 4 t)) (ix2 a k)
      = next m c (row t a) k := by
  pointwise [k0_pay1, k0_pay4, k0_pay5, k0_pay6, product, block_h, block_gp, ofBits_1024, ofBits_eps]
  rw [show ((grid0.coords t) 0).val = t.val from coord t, behind]
  unfold next
  by_cases h : 112 ≤ (row t a).val
  · rw [if_pos h, decide_eq_true h]; rfl
  · rw [if_neg h, decide_eq_false h]; rfl

/-! ## The result arrays -/

theorem place6 (k : Fin 2048) : ((View.whole main_v9_0).slice (win0_6.rect t)).emb (ix2 a k) = ix2 (row t a) k := by blk_ext [idx t, row]

theorem place7 (k : Fin 1024) : ((View.whole main_v9_1).slice (win0_7.rect t)).emb (ix2 a k) = ix2 (row t a) k := by blk_ext [idx t, row]

theorem place8 (k : Fin 1024) : ((View.whole main_v9_2).slice (win0_8.rect t)).emb (ix2 a k) = ix2 (row t a) k := by blk_ext [idx t, row]

def out6 (i : S8320x2048.Idx) : EReal := cat m c (i 0) (i 1)
def out7 (i : S8320x1024.Idx) : EReal := mix m c (i 0) (i 1)
def out8 (i : S8320x1024.Idx) : EReal := next m c (i 0) (i 1)

theorem final6 : (dats m 0 c).arrAt 6 cfg0.N = out6 m c := by
  refine (dats m 0 c).arrAt_eq_of_covers 6 _ (by decide +kernel) fun t hf y => ?_
  blk_simp
  rw [after0_6]
  unfold out0_6
  frame_out
  idx_vars y
  exact (halves m c t y0 y1).trans (congrArg (out6 m c) (place6 t y0 y1)).symm

theorem final7 : (dats m 0 c).arrAt 7 cfg0.N = out7 m c := by
  refine (dats m 0 c).arrAt_eq_of_covers 7 _ (by decide +kernel) fun t hf y => ?_
  blk_simp
  rw [after0_7]
  unfold out0_7
  frame_out
  idx_vars y
  exact (product m c t y0 y1).trans (congrArg (out7 m c) (place7 t y0 y1)).symm

theorem final8 : (dats m 0 c).arrAt 8 cfg0.N = out8 m c := by
  refine (dats m 0 c).arrAt_eq_of_covers 8 _ (by decide +kernel) fun t hf y => ?_
  blk_simp
  rw [after0_8]
  unfold out0_8
  frame_out
  idx_vars y
  exact (residual m c t y0 y1).trans (congrArg (out8 m c) (place8 t y0 y1)).symm

end Cert.MixFwdIdeal.Value

end
-- ==== Proof.MixFwdReference.lean ====
/- The output projection's forward lines: their three results, read at an index. -/
module

public import proofs.«01_k».proof.Proof.Gen.MixFwdRefIdeal.Run
public import proofs.«01_k».proof.Proof.Gen.MixFwdRefIdeal.Read
public import proofs.«01_k».proof.Proof.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixFwdRefIdeal.Read

open Cert.MixFwdRefIdeal Cert.MixFwdRefIdeal.Gen Cert.Reals Cert.Forward

variable (A S H : S8208x1024.Idx → EReal) (GA GP : S1024.Idx → EReal) (W : S2048x1024.Idx → EReal)

/-- The two halves of the row `r` that the weight is applied to. -/
def cat (r : Fin 8208) (k : Fin 2048) : EReal :=
  if h : k.val < 1024 then norm (fun j => A (ix2 r j)) (fun j => GA (ix1 j)) ⟨k.val, h⟩ else S (ix2 r ⟨k.val - 1024, by omega⟩)

/-- Their product with the weight. -/
def mix (r : Fin 8208) (j : Fin 1024) : EReal := ∑ k : Fin 2048, cat A S GA r k * W (ix2 k j)

theorem halves (r : Fin 8208) (k : Fin 2048) : val_main_v13 (F := Ideal) A S GA (ix2 r k) = cat A S GA r k := by
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, ofBits_1024, ofBits_eps]
  rfl

theorem product (r : Fin 8208) (j : Fin 1024) : val_main_v14 (F := Ideal) A S GA W (ix2 r j) = mix A S GA W r j := by
  pointwise [val_main_v14, halves]
  rfl

theorem residual (r : Fin 8208) (k : Fin 1024) :
    val_main_v28 (F := Ideal) A S H GA GP W (ix2 r k) = H (ix2 r k) + norm (mix A S GA W r) (fun j => GP (ix1 j)) k := by
  pointwise [val_main_v28, val_main_v27, val_main_v26, val_main_v25, val_main_v24, val_main_v23, val_main_v22, val_main_v21, val_main_v20, val_main_v19,
    val_main_v18, val_main_v17, val_main_v16, val_main_v15, val_main_cst_2, val_main_cst_3, val_main_cst_4, product, ofBits_1024, ofBits_eps]
  rfl

theorem result31 (r : Fin 8320) (k : Fin 2048) :
    val_main_v31 (F := Ideal) A S GA (ix2 r k) = if h : r.val < 112 then (0 : EReal) else cat A S GA ⟨r.val - 112, by omega⟩ k := by
  pointwise [val_main_v31, val_main_v30, val_main_v29, val_main_cst_5, halves]

theorem result33 (r : Fin 8320) (k : Fin 1024) :
    val_main_v33 (F := Ideal) A S GA W (ix2 r k) = if h : r.val < 112 then (0 : EReal) else mix A S GA W ⟨r.val - 112, by omega⟩ k := by
  pointwise [val_main_v33, val_main_v32, val_main_cst_6, product]

theorem result35 (r : Fin 8320) (k : Fin 1024) :
    val_main_v35 (F := Ideal) A S H GA GP W (ix2 r k) = if h : r.val < 112 then (0 : EReal)
      else H (ix2 ⟨r.val - 112, by omega⟩ k) + norm (mix A S GA W ⟨r.val - 112, by omega⟩) (fun j => GP (ix1 j)) k := by
  pointwise [val_main_v35, val_main_v34, val_main_cst_7, residual]

end Cert.MixFwdRefIdeal.Read

end
-- ==== Proof.MixFwd.lean ====
/- The output projection with the norms around it, forward: the kernel and the forward lines agree. -/
module

public import proofs.«01_k».proof.Defs
public import proofs.«01_k».proof.Proof.MixFwdKernel
public import proofs.«01_k».proof.Proof.MixFwdReference

@[expose] public section

set_option maxRecDepth 16384

noncomputable section

open Idealize.ShloMosaic Idealize.ShloMosaic.TcCoe Idealize.SL.Sem

namespace Cert.MixFwdClaim

open Cert.Reals Cert.Forward

variable (m : (ℓ : Loc MixFwdIdeal.nD MixFwdIdeal.τ MixFwdIdeal.sig) → Buf (Elt Ideal) ℓ) (c : Dev MixFwdIdeal.nD)

/-- The arguments as the forward lines read them. -/
abbrev A : MixFwdIdeal.S8208x1024.Idx → EReal := m ((c : Thread MixFwdIdeal.nD MixFwdIdeal.τ).loc MixFwdIdeal.main_arg0)
abbrev S : MixFwdIdeal.S8208x1024.Idx → EReal := m ((c : Thread MixFwdIdeal.nD MixFwdIdeal.τ).loc MixFwdIdeal.main_arg1)
abbrev H : MixFwdIdeal.S8208x1024.Idx → EReal := m ((c : Thread MixFwdIdeal.nD MixFwdIdeal.τ).loc MixFwdIdeal.main_arg2)
abbrev GA : MixFwdIdeal.S1024.Idx → EReal := m ((c : Thread MixFwdIdeal.nD MixFwdIdeal.τ).loc MixFwdIdeal.main_arg3)
abbrev GP : MixFwdIdeal.S1024.Idx → EReal := m ((c : Thread MixFwdIdeal.nD MixFwdIdeal.τ).loc MixFwdIdeal.main_arg4)
abbrev W : MixFwdIdeal.S2048x1024.Idx → EReal := m ((c : Thread MixFwdIdeal.nD MixFwdIdeal.τ).loc MixFwdIdeal.main_arg5)

theorem cat_front (r : Fin 8320) (h : r.val < 112) (k : Fin 2048) : MixFwdIdeal.Value.cat m c r k = 0 := by
  unfold MixFwdIdeal.Value.cat
  split
  · exact norm_zero _ _ _ (front_zero _ r _ h)
  · exact front_zero _ r _ h

theorem cat_behind (r : Fin 8208) (h : 112 + r.val < 8320) :
    MixFwdIdeal.Value.cat m c ⟨112 + r.val, h⟩ = MixFwdRefIdeal.Read.cat (A m c) (S m c) (GA m c) r := by
  funext k
  simp only [MixFwdIdeal.Value.cat, MixFwdRefIdeal.Read.cat, front_behind]
  rfl

theorem mix_front (r : Fin 8320) (h : r.val < 112) (k : Fin 1024) : MixFwdIdeal.Value.mix m c r k = 0 :=
  Finset.sum_eq_zero fun j _ => by rw [cat_front m c r h, zero_mul]

theorem mix_behind (r : Fin 8208) (h : 112 + r.val < 8320) :
    MixFwdIdeal.Value.mix m c ⟨112 + r.val, h⟩ = MixFwdRefIdeal.Read.mix (A m c) (S m c) (GA m c) (W m c) r := by
  funext k
  simp only [MixFwdIdeal.Value.mix, MixFwdRefIdeal.Read.mix, cat_behind]
  rfl

theorem agree6 : MixFwdRefIdeal.Read.val_main_v31 (F := Ideal) (A m c) (S m c) (GA m c) = MixFwdIdeal.Value.out6 m c := by
  funext i
  idx_vars i
  rw [MixFwdRefIdeal.Read.result31]
  show _ = MixFwdIdeal.Value.cat m c i0 i1
  rcases Nat.lt_or_ge i0.val 112 with hi | hi
  · rw [dif_pos hi, cat_front m c i0 hi]
  · obtain ⟨r, hr, rfl⟩ := exists_behind (n0 := 8208) 112 rfl i0 hi
    rw [dif_neg (by dsimp only; omega), cat_behind]
    exact congrArg (fun r => MixFwdRefIdeal.Read.cat (A m c) (S m c) (GA m c) r i1) (Fin.ext (by dsimp only; omega))

theorem agree7 : MixFwdRefIdeal.Read.val_main_v33 (F := Ideal) (A m c) (S m c) (GA m c) (W m c) = MixFwdIdeal.Value.out7 m c := by
  funext i
  idx_vars i
  rw [MixFwdRefIdeal.Read.result33]
  show _ = MixFwdIdeal.Value.mix m c i0 i1
  rcases Nat.lt_or_ge i0.val 112 with hi | hi
  · rw [dif_pos hi, mix_front m c i0 hi]
  · obtain ⟨r, hr, rfl⟩ := exists_behind (n0 := 8208) 112 rfl i0 hi
    rw [dif_neg (by dsimp only; omega), mix_behind]
    exact congrArg (fun r => MixFwdRefIdeal.Read.mix (A m c) (S m c) (GA m c) (W m c) r i1) (Fin.ext (by dsimp only; omega))

theorem agree8 : MixFwdRefIdeal.Read.val_main_v35 (F := Ideal) (A m c) (S m c) (H m c) (GA m c) (GP m c) (W m c) = MixFwdIdeal.Value.out8 m c := by
  funext i
  idx_vars i
  rw [MixFwdRefIdeal.Read.result35]
  show _ = MixFwdIdeal.Value.next m c i0 i1
  unfold MixFwdIdeal.Value.next
  rcases Nat.lt_or_ge i0.val 112 with hi | hi
  · rw [dif_pos hi, front_zero _ i0 _ hi, if_neg (by omega), add_zero]
  · obtain ⟨r, hr, rfl⟩ := exists_behind (n0 := 8208) 112 rfl i0 hi
    rw [dif_neg (by dsimp only; omega), if_pos hi, mix_behind, front_behind]
    exact congrArg (fun r => H m c (ix2 r i1) + norm (MixFwdRefIdeal.Read.mix (A m c) (S m c) (GA m c) (W m c) r) (fun j => GP m c (ix1 j)) i1)
      (Fin.ext (by dsimp only; omega))

theorem value : algebraic_MixFwdIdeal_MixFwdRefIdeal := by
  pair_intro
  · run_from MixFwdIdeal.Value.run_blocks m g
  · run_from MixFwdRefIdeal.Value.run m' g'
    · refine (MixFwdRefIdeal.Read.val_main_v31_eq (F := Ideal) _ _ _).trans ?_
      rw [(hagree c).2.2.2.1]
      exact (agree6 m c).trans (MixFwdIdeal.Value.final6 m c).symm
    · refine (MixFwdRefIdeal.Read.val_main_v33_eq (F := Ideal) _ _ _ _).trans ?_
      rw [(hagree c).2.2.2.1, (hagree c).2.2.2.2.2]
      exact (agree7 m c).trans (MixFwdIdeal.Value.final7 m c).symm
    · refine (MixFwdRefIdeal.Read.val_main_v35_eq (F := Ideal) _ _ _ _ _ _).trans ?_
      rw [(hagree c).2.2.2.2.1, (hagree c).2.2.2.2.2]
      exact (agree8 m c).trans (MixFwdIdeal.Value.final8 m c).symm

/-- The forward lines run, and leave their arguments as they were. -/
theorem reference_frame : quiescent_MixFwdRefIdeal := fun m g _ =>
  (θ_run MixFwdRefIdeal.defs _ _).mono (fun r h => ⟨fun c => (h c).2.2.2, sem_eq_zero_of_no_sems rfl _⟩) (MixFwdRefIdeal.Value.run m g)

end Cert.MixFwdClaim

end
-- ==== Proof.GateFwdKernel.lean ====
/- What the forward kernel of the feed-forward block's convolution and gate leaves in its two result arrays. -/
module

public import proofs.«01_k».proof.Proof.Gen.GateFwdIdeal.Value
public import proofs.«01_k».proof.Proof.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.GateFwdIdeal.Value

open Cert.GateFwdIdeal Cert.GateFwdIdeal.Gen Cert.Reals Cert.Forward

variable (m : (ℓ : Loc nD τ sig) → Buf (Elt Ideal) ℓ)

/-- The block index of every window at a grid point: the second one holds the sixteen rows before the first one's. -/
theorem idx : ∀ t : Fin cfg0.N, win0_0.index t = ![t.val, 0] ∧ win0_1.index t = ![t.val * 20 - 1, 0] ∧ win0_2.index t = ![0, 0]
    ∧ win0_3.index t = ![0, 0] ∧ win0_4.index t = ![t.val, 0] ∧ win0_5.index t = ![t.val, 0] :=
  (by decide +kernel : ∀ t : Fin grid0.N, _)

/-- The grid coordinate of a point. -/
theorem coord : ∀ t : Fin cfg0.N, (grid0.coords t 0).val = t.val := (by decide +kernel : ∀ t : Fin grid0.N, _)

/-- The row of the whole array that row `a` of point `t`'s block is. -/
def row (t : Fin cfg0.N) (a : Fin 320) : Fin 8320 := ⟨t.val * 320 + a.val, by have := lt_of_lt_of_eq t.isLt N_0; omega⟩

/-- The row of the whole array that row `a` of the block before is. -/
def rowBefore (t : Fin cfg0.N) (a : Fin 16) : Fin 8320 := ⟨(t.val * 20 - 1) * 16 + a.val, by have := lt_of_lt_of_eq t.isLt N_0; omega⟩

variable (c : Dev nD)

/-- The arguments: the rows, the convolution's weight and its bias. -/
def rows : S8208x5632.Idx → EReal := m ((c : Thread nD τ).loc main_arg0)
def weight : S3x5632.Idx → EReal := m ((c : Thread nD τ).loc main_arg1)
def bias (k : Fin 5632) : EReal := (m ((c : Thread nD τ).loc main_arg2) : S5632.Idx → EReal) (ix1 k)

/-! ## The arrays when the grid starts -/

theorem entry_u (r : Fin 8320) (k : Fin 5632) : V m c main_v2 (ix2 r k) = front 112 (rows m c) r k := by
  entry_read
  pointwise []
  exact front_eq 112 (by decide) (rows m c) r k _

theorem entry_w (j : Fin 3) (k : Fin 5632) : V m c main_v4 (ix2 (⟨j.val, by omega⟩ : Fin 8) k) = weight m c (ix2 j k) := by
  entry_read
  pointwise []
  rfl

theorem entry_b (k : Fin 5632) : V m c main_v5 (ix2 0 k) = bias m c k := by
  entry_read
  pointwise []
  rfl

/-! ## The blocks at a grid point -/

variable (t : Fin cfg0.N)

theorem block_u (a : Fin 320) (k : Fin 5632) : iblk m c 0 t (ix2 a k) = front 112 (rows m c) (row t a) k :=
  (show iblk m c 0 t (ix2 a k) = V m c main_v2 (ix2 (row t a) k) by blk_ext [iblk, idx t, row]).trans (entry_u m c _ _)

theorem block_h (a : Fin 16) (k : Fin 5632) : iblk m c 1 t (ix2 a k) = front 112 (rows m c) (rowBefore t a) k :=
  (show iblk m c 1 t (ix2 a k) = V m c main_v2 (ix2 (rowBefore t a) k) by blk_ext [iblk, idx t, rowBefore]).trans (entry_u m c _ _)

theorem block_w (j : Fin 3) (k : Fin 5632) : iblk m c 2 t (ix2 (⟨j.val, by omega⟩ : Fin 8) k) = weight m c (ix2 j k) :=
  (show iblk m c 2 t (ix2 (⟨j.val, by omega⟩ : Fin 8) k) = V m c main_v4 (ix2 (⟨j.val, by omega⟩ : Fin 8) k) by blk_ext [iblk, idx t, row]).trans (entry_w m c _ _)

theorem block_b (k : Fin 5632) : iblk m c 3 t (ix2 0 k) = bias m c k :=
  (show iblk m c 3 t (ix2 0 k) = V m c main_v5 (ix2 0 k) by blk_ext [iblk, idx t, row]).trans (entry_b m c _)

/-! ## The values of a grid point -/

/-- The value `s` rows before the row `r`, zero before the first row. -/
def before (s : ℕ) (r : Fin 8320) (k : Fin 5632) : EReal :=
  if s ≤ r.val then front 112 (rows m c) (⟨r.val - s, by omega⟩ : Fin 8320) k else 0

/-- The convolution over a row and the two before it. -/
def conv (r : Fin 8320) (k : Fin 5632) : EReal :=
  bias m c k + weight m c (ix2 2 k) * before m c 0 r k + weight m c (ix2 1 k) * before m c 1 r k + weight m c (ix2 0 k) * before m c 2 r k

/-- The kernel's convolution of a tile of 256 columns. -/
def tile (i : grid0.Coords) (x : Vec Ideal S320x256 .bf16) (h : Vec Ideal S8x256 .bf16) (b w2 w1 w0 : Vec Ideal S1x256 .f32) : FVec Ideal S320x256 .f32 :=
  k0_pay10 (k0_pay4 i x h b w2 w1) (k0_pay5 w0) (k0_pay6 x) (k0_pay7 i h) k0_pay8 (k0_pay9 x)

/-- The kernel's shift of a tile down by `s` rows, the first rows taken from the block before: any value known in the
    three cases. -/
theorem shift_value {s : ℕ} (h0 : 0 < s) (h8 : s ≤ 8) (x : S320x256.Idx → Ideal .f32) (h : S8x256.Idx → Ideal .f32) {a : Fin 320} {j : Fin 256} {v : Ideal .f32}
    (w z : BitVec 1) (p : (a.val + 8 - s) % 8 < 8) (q : (a.val + 320 - s) % 320 < 320) (r : (8 + (a.val - 8) + 320 - s) % 320 < 320)
    (hw : w = BitVec.ofBool (decide (a.val < s))) (hz : z = BitVec.ofBool (decide (0 < t.val)))
    (H1 : ∀ b : Fin 8, b.val + s = a.val + 8 → 0 < t.val → h (ix2 b j) = v) (H2 : a.val < s → t.val = 0 → v = 0)
    (H3 : ∀ b : Fin 320, b.val + s = a.val → x (ix2 b j) = v) :
    (if h_1 : a.val < 8 then
      Scalar.select w (Scalar.select z (h (ix2 ⟨(a.val + 8 - s) % 8, p⟩ j)) (0 : Ideal .f32)) (x (ix2 ⟨(a.val + 320 - s) % 320, q⟩ j))
      else x (ix2 ⟨(8 + (a.val - 8) + 320 - s) % 320, r⟩ j)) = v := by
  have ha := a.isLt
  subst hw hz
  rcases Nat.lt_or_ge a.val s with hs | hs
  · rw [dif_pos (by omega), decide_eq_true hs]
    show Scalar.select (BitVec.ofBool (decide (0 < t.val))) _ _ = v
    rcases Nat.eq_zero_or_pos t.val with h0 | h0
    · rw [decide_eq_false (by omega), H2 hs h0]; rfl
    · rw [decide_eq_true h0]
      exact H1 _ (by dsimp only; omega) h0
  · split
    · rw [decide_eq_false (by omega)]
      exact H3 _ (by dsimp only; omega)
    · exact H3 _ (by dsimp only; omega)

theorem above {s : ℕ} (hs : s ≤ 8) (a : Fin 320) :
    IntOp.cmpi CmpIPredicate.slt (BitVec.ofNat 32 a.val) (BitVec.ofNat 32 s) = BitVec.ofBool (decide (a.val < s)) :=
  WordCmp.cmpi_slt_ofNat (by have := a.isLt; omega) (by omega)

theorem inner : Scalar.cmpi CmpIPredicate.sgt (BitVec.ofNat 32 (grid0.coords t 0).val) 0#32 = BitVec.ofBool (decide (0 < t.val)) := by
  have ht := lt_of_lt_of_eq t.isLt N_0
  rw [coord t]
  exact WordCmp.cmpi_sgt_ofNat (by omega) (by norm_num)

theorem tile_apply (x : Vec Ideal S320x256 .bf16) (h : Vec Ideal S8x256 .bf16) (b w2 w1 w0 : Vec Ideal S1x256 .f32) (a : Fin 320) (j : Fin 256) (v : ℕ → EReal)
    (H1 : ∀ s, s ≤ 2 → ∀ b : Fin 8, b.val + s = a.val + 8 → 0 < t.val → h (ix2 b j) = v s) (H2 : ∀ s, a.val < s → t.val = 0 → v s = 0)
    (H3 : ∀ s, ∀ b : Fin 320, b.val + s = a.val → x (ix2 b j) = v s) :
    tile (grid0.coords t) x h b w2 w1 w0 (ix2 a j) = b (ix2 0 j) + w2 (ix2 0 j) * v 0 + w1 (ix2 0 j) * v 1 + w0 (ix2 0 j) * v 2 := by
  pointwise [tile, k0_pay10, k0_pay4, k0_pay5, k0_pay6, k0_pay7, k0_pay8, k0_pay9, k0_pay2, k0_pay3]
  rw [H3 0 a rfl]
  have e1 := shift_value t (s := 1) (by decide) (by decide) x h _ _ (Nat.mod_lt _ (by decide)) (Nat.mod_lt _ (by decide)) (Nat.mod_lt _ (by decide)) (above (by decide) a) (inner t) (H1 1 (by decide)) (H2 1) (H3 1)
  have e2 := shift_value t (s := 2) (by decide) (by decide) x h _ _ (Nat.mod_lt _ (by decide)) (Nat.mod_lt _ (by decide)) (Nat.mod_lt _ (by decide)) (above (by decide) a) (inner t) (H1 2 (by decide)) (H2 2) (H3 2)
  exact congrArg₂ (· + ·) (congrArg₂ (· + ·) rfl (congrArg₂ (· * ·) rfl e1)) (congrArg₂ (· * ·) rfl e2)

/-- A rectangle of two axes lies inside the array. -/
theorem inside {o0 o1 p q P Q : ℕ} (h0 : o0 + p ≤ P) (h1 : o1 + q ≤ Q) : ∀ a : Fin 2, (![o0, o1] : Fin 2 → ℕ) a + (![p, q] : Fin 2 → ℕ) a ≤ (![P, Q] : Fin 2 → ℕ) a :=
  Fin.forall_fin_two.mpr ⟨h0, h1⟩

/-- The 256 columns from `o` on of the blocks: of the rows, the rows before, the bias and a row of the weight. -/
def cutU (o : ℕ) (ho : o + 256 ≤ 5632) : Vec Ideal S320x256 .bf16 := View.ld (iblk m c 0 t) (Rect.unit (s := S320x5632) ![0, o] S320x256.size (inside (by decide) ho))
def cutH (o : ℕ) (ho : o + 256 ≤ 5632) : Vec Ideal S8x256 .bf16 := View.ld (iblk m c 1 t) (Rect.unit (s := S16x5632) ![8, o] S8x256.size (inside (by decide) ho))
def cutB (o : ℕ) (ho : o + 256 ≤ 5632) : Vec Ideal S1x256 .f32 := View.ld (iblk m c 3 t) (Rect.unit (s := S1x5632) ![0, o] S1x256.size (inside (by decide) ho))
def cutW (n : ℕ) (hn : n + 1 ≤ 8) (o : ℕ) (ho : o + 256 ≤ 5632) : Vec Ideal S1x256 .f32 := View.ld (iblk m c 2 t) (Rect.unit (s := S8x5632) ![n, o] S1x256.size (inside hn ho))

theorem cutU_apply (o : ℕ) (ho : o + 256 ≤ 5632) (a : Fin 320) (j : Fin 256) : cutU m c t o ho (ix2 a j) = front 112 (rows m c) (row t a) ⟨o + j.val, by omega⟩ :=
  (View.ld_unit_apply_of _ _ _ _ _ (ix2 a (⟨o + j.val, by omega⟩ : Fin 5632)) (Fin.forall_fin_two.mpr ⟨(Nat.zero_add _).symm, rfl⟩)).trans (block_u m c t a _)

theorem cutH_apply (o : ℕ) (ho : o + 256 ≤ 5632) (a : Fin 8) (j : Fin 256) :
    cutH m c t o ho (ix2 a j) = front 112 (rows m c) (rowBefore t ⟨8 + a.val, by omega⟩) ⟨o + j.val, by omega⟩ :=
  (View.ld_unit_apply_of _ _ _ _ _ (ix2 (⟨8 + a.val, by omega⟩ : Fin 16) (⟨o + j.val, by omega⟩ : Fin 5632)) (Fin.forall_fin_two.mpr ⟨rfl, rfl⟩)).trans (block_h m c t _ _)

theorem cutB_apply (o : ℕ) (ho : o + 256 ≤ 5632) (j : Fin 256) : cutB m c t o ho (ix2 0 j) = bias m c ⟨o + j.val, by omega⟩ :=
  (View.ld_unit_apply_of _ _ _ _ _ (ix2 (0 : Fin 1) (⟨o + j.val, by omega⟩ : Fin 5632)) (Fin.forall_fin_two.mpr ⟨rfl, rfl⟩)).trans (block_b m c t _)

theorem cutW_apply (n : Fin 3) (o : ℕ) (ho : o + 256 ≤ 5632) (j : Fin 256) :
    cutW m c t n.val (by omega) o ho (ix2 0 j) = weight m c (ix2 n ⟨o + j.val, by omega⟩) :=
  (View.ld_unit_apply_of _ _ _ _ _ (ix2 (⟨n.val, by omega⟩ : Fin 8) (⟨o + j.val, by omega⟩ : Fin 5632)) (Fin.forall_fin_two.mpr ⟨rfl, rfl⟩)).trans (block_w m c t n _)

/-- The kernel's tile of the 256 columns from `o` on. -/
def tileAt (o : ℕ) (ho : o + 256 ≤ 5632) : FVec Ideal S320x256 .f32 :=
  tile (grid0.coords t) (cutU m c t o ho) (cutH m c t o ho) (cutB m c t o ho) (cutW m c t 2 (by decide) o ho) (cutW m c t 1 (by decide) o ho) (cutW m c t 0 (by decide) o ho)

theorem tile_value (o : ℕ) (ho : o + 256 ≤ 5632) (a : Fin 320) (j : Fin 256) :
    tileAt m c t o ho (ix2 a j) = conv m c (row t a) ⟨o + j.val, by omega⟩ := by
  have ht := lt_of_lt_of_eq t.isLt N_0
  refine (tile_apply t _ _ _ _ _ _ a j (fun s => before m c s (row t a) ⟨o + j.val, by omega⟩) (fun s hs b hb h0 => ?_) (fun s hs h0 => ?_) (fun s b hb => ?_)).trans ?_
  · rw [cutH_apply]
    refine (congrArg (fun r => front 112 (rows m c) r _) (Fin.ext ?_)).trans (if_pos ?_).symm
    · simp only [row, rowBefore]; omega
    · simp only [row]; omega
  · exact if_neg (by simp only [row]; omega)
  · rw [cutU_apply]
    refine (congrArg (fun r => front 112 (rows m c) r _) (Fin.ext ?_)).trans (if_pos ?_).symm
    · simp only [row]; omega
    · simp only [row]; omega
  · have h0 : cutW m c t 0 (by decide) o ho (ix2 0 j) = _ := cutW_apply m c t 0 o ho j
    have h1 : cutW m c t 1 (by decide) o ho (ix2 0 j) = _ := cutW_apply m c t 1 o ho j
    have h2 : cutW m c t 2 (by decide) o ho (ix2 0 j) = _ := cutW_apply m c t 2 o ho j
    rw [cutB_apply, h0, h1, h2]
    rfl

/-- The tile at a place of the whole block. -/
theorem tile_at (o : ℕ) (ho : o + 256 ≤ 5632) {x : S320x256.Idx} {a : Fin 320} {k : Fin 5632} (ha : a.val = (x 0).val) (hk : k.val = o + (x 1).val) :
    tileAt m c t o ho x = conv m c (row t a) k := by
  idx_vars x
  rw [tile_value]
  exact congrArg₂ (fun a k => conv m c (row t a) k) (Fin.ext ha.symm) (Fin.ext hk.symm)

theorem convolved (a : Fin 320) (k : Fin 5632) :
    out0_4 (grid0.coords t) (iblk m c 0 t) (iblk m c 1 t) (iblk m c 2 t) (iblk m c 3 t) (ix2 a k) = conv m c (row t a) k := by
  canon_tiles x hx
  all_goals first
    | exact tile_at m c t _ (by decide) hx0 hx1
    | exact tile_at m c t 0 (by decide) hx0 (hx1.trans (Nat.zero_add _).symm)

/-- The kernel's gate of two tiles. -/
def gateTile (g v : FVec Ideal S320x256 .f32) : FVec Ideal S320x256 .bf16 := k0_pay1 g v (Scalar.ofBits .f32 0x00000000#32)

/-- A value's product with its logistic function. -/
def silu (x : EReal) : EReal := x * Ideal.div 1 (1 + Ideal.exp (-x))

theorem gate_value (g v : FVec Ideal S320x256 .f32) (x : S320x256.Idx) : gateTile g v x = silu (g x) * v x := by
  idx_vars x
  pointwise [gateTile, k0_pay1]
  rw [zero_sub]
  rfl

/-- The gate of two halves of a row's convolution. -/
def gate (r : Fin 8320) (k : Fin 2816) : EReal := silu (conv m c r ⟨k.val, by omega⟩) * conv m c r ⟨2816 + k.val, by omega⟩

theorem gate_at (o o' : ℕ) (ho : o + 256 ≤ 5632) (ho' : o' + 256 ≤ 5632) (e : o' = 2816 + o) {x : S320x256.Idx} {a : Fin 320} {k : Fin 2816} (ha : a.val = (x 0).val)
    (hk : k.val = o + (x 1).val) : gateTile (tileAt m c t o ho) (tileAt m c t o' ho') x = gate m c (row t a) k := by
  rw [gate_value, tile_at m c t o ho (k := ⟨k.val, by omega⟩) ha hk, tile_at m c t o' ho' (k := ⟨2816 + k.val, by omega⟩) ha (by dsimp only; omega)]
  rfl

theorem gated (a : Fin 320) (k : Fin 2816) :
    out0_5 (grid0.coords t) (iblk m c 0 t) (iblk m c 1 t) (iblk m c 2 t) (iblk m c 3 t) (ix2 a k) = gate m c (row t a) k := by
  canon_tiles x hx
  · exact gate_at m c t 2560 5376 (by decide) (by decide) rfl hx0 hx1
  · exact gate_at m c t 2304 5120 (by decide) (by decide) rfl hx0 hx1
  · exact gate_at m c t 2048 4864 (by decide) (by decide) rfl hx0 hx1
  · exact gate_at m c t 1792 4608 (by decide) (by decide) rfl hx0 hx1
  · exact gate_at m c t 1536 4352 (by decide) (by decide) rfl hx0 hx1
  · exact gate_at m c t 1280 4096 (by decide) (by decide) rfl hx0 hx1
  · exact gate_at m c t 1024 3840 (by decide) (by decide) rfl hx0 hx1
  · exact gate_at m c t 768 3584 (by decide) (by decide) rfl hx0 hx1
  · exact gate_at m c t 512 3328 (by decide) (by decide) rfl hx0 hx1
  · exact gate_at m c t 256 3072 (by decide) (by decide) rfl hx0 hx1
  · exact gate_at m c t 0 2816 (by decide) (by decide) rfl hx0 (hx1.trans (Nat.zero_add _).symm)

/-! ## The result arrays -/

theorem place4 (a : Fin 320) (k : Fin 5632) : ((View.whole main_v6_0).slice (win0_4.rect t)).emb (ix2 a k) = ix2 (row t a) k := by blk_ext [idx t, row]

theorem place5 (a : Fin 320) (k : Fin 2816) : ((View.whole main_v6_1).slice (win0_5.rect t)).emb (ix2 a k) = ix2 (row t a) k := by blk_ext [idx t, row]

def out4 (i : S8320x5632.Idx) : EReal := conv m c (i 0) (i 1)
def out5 (i : S8320x2816.Idx) : EReal := gate m c (i 0) (i 1)

theorem final4 : (dats m 0 c).arrAt 4 cfg0.N = out4 m c := by
  refine (dats m 0 c).arrAt_eq_of_covers 4 _ (by decide +kernel) fun t hf y => ?_
  blk_simp
  rw [after0_4]
  idx_vars y
  exact (convolved m c t y0 y1).trans (congrArg (out4 m c) (place4 t y0 y1)).symm

theorem final5 : (dats m 0 c).arrAt 5 cfg0.N = out5 m c := by
  refine (dats m 0 c).arrAt_eq_of_covers 5 _ (by decide +kernel) fun t hf y => ?_
  blk_simp
  rw [after0_5]
  idx_vars y
  exact (gated m c t y0 y1).trans (congrArg (out5 m c) (place5 t y0 y1)).symm

end Cert.GateFwdIdeal.Value

end
-- ==== Proof.GateFwdReference.lean ====
/- The forward lines of the feed-forward block's convolution and gate: their two results, read at an index. -/
module

public import proofs.«01_k».proof.Proof.Gen.GateFwdRefIdeal.Run
public import proofs.«01_k».proof.Proof.Gen.GateFwdRefIdeal.Read
public import proofs.«01_k».proof.Proof.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.GateFwdRefIdeal.Read

open Cert.GateFwdRefIdeal Cert.GateFwdRefIdeal.Gen Cert.Reals Cert.Forward

variable (U : S8208x5632.Idx → EReal) (W : S3x5632.Idx → EReal) (B : S5632.Idx → EReal)

/-- The rows with the zeros in front. -/
theorem rows (r : Fin 8320) (k : Fin 5632) : val_main_v1 (F := Ideal) U (ix2 r k) = front 112 U r k := by
  pointwise [val_main_v1, val_main_v0, val_main_cst]
  exact front_eq 112 (by decide) U r k _

/-- The convolution over a row and the two before it. -/
def conv (r : Fin 8320) (k : Fin 5632) : EReal :=
  W (ix2 2 k) * front 112 U r k + W (ix2 1 k) * (if h : r.val < 1 then 0 else front 112 U (⟨r.val - 1, by omega⟩ : Fin 8320) k)
    + W (ix2 0 k) * (if h : r.val < 2 then 0 else front 112 U (⟨r.val - 2, by omega⟩ : Fin 8320) k) + B (ix1 k)

theorem convolved (r : Fin 8320) (k : Fin 5632) : val_main_v27 (F := Ideal) U W B (ix2 r k) = conv U W B r k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_0, val_main_cst_1, rows]
  rfl

theorem result30 (r : Fin 8320) (k : Fin 5632) : val_main_v30 (F := Ideal) U W B (ix2 r k) = conv U W B r k := by
  pointwise [val_main_v30, convolved]

theorem result33 (r : Fin 8320) (k : Fin 2816) :
    val_main_v33 (F := Ideal) U W B (ix2 r k)
      = conv U W B r ⟨k.val, by omega⟩ * Ideal.div 1 (1 + Ideal.exp (-conv U W B r ⟨k.val, by omega⟩)) * conv U W B r ⟨2816 + k.val, by omega⟩ := by
  pointwise [val_main_v33, val_main_v32, val_main_v31, val_main_call0_v5, val_main_call0_v4, val_main_call0_v3, val_main_call0_v2, val_main_call0_v1,
    val_main_call0_v0, val_main_call0_cst, val_main_call0_cst_0, val_main_v29, val_main_v28, convolved]

end Cert.GateFwdRefIdeal.Read

end
-- ==== Proof.GateFwd.lean ====
/- The feed-forward block's convolution and gate, forward: the kernel and the forward lines agree. -/
module

public import proofs.«01_k».proof.Defs
public import proofs.«01_k».proof.Proof.GateFwdKernel
public import proofs.«01_k».proof.Proof.GateFwdReference

@[expose] public section

set_option maxRecDepth 16384

noncomputable section

open Idealize.ShloMosaic Idealize.ShloMosaic.TcCoe Idealize.SL.Sem

namespace Cert.GateFwdClaim

open Cert.Reals Cert.Forward

variable (m : (ℓ : Loc GateFwdIdeal.nD GateFwdIdeal.τ GateFwdIdeal.sig) → Buf (Elt Ideal) ℓ) (c : Dev GateFwdIdeal.nD)

/-- The arguments as the forward lines read them. -/
abbrev U : GateFwdIdeal.S8208x5632.Idx → EReal := m ((c : Thread GateFwdIdeal.nD GateFwdIdeal.τ).loc GateFwdIdeal.main_arg0)
abbrev W : GateFwdIdeal.S3x5632.Idx → EReal := m ((c : Thread GateFwdIdeal.nD GateFwdIdeal.τ).loc GateFwdIdeal.main_arg1)
abbrev B : GateFwdIdeal.S5632.Idx → EReal := m ((c : Thread GateFwdIdeal.nD GateFwdIdeal.τ).loc GateFwdIdeal.main_arg2)

/-- The two forms of the value `s` rows before a row. -/
theorem before_eq (s : ℕ) (r : Fin 8320) (k : Fin 5632) :
    (if h : r.val < s then (0 : EReal) else front 112 (U m c) (⟨r.val - s, by omega⟩ : Fin 8320) k) = GateFwdIdeal.Value.before m c s r k := by
  unfold GateFwdIdeal.Value.before
  rcases Nat.lt_or_ge r.val s with h | h
  · rw [dif_pos h, if_neg (by omega)]
  · rw [dif_neg (by omega), if_pos h]
    rfl

theorem conv_eq (r : Fin 8320) (k : Fin 5632) : GateFwdRefIdeal.Read.conv (U m c) (W m c) (B m c) r k = GateFwdIdeal.Value.conv m c r k := by
  unfold GateFwdRefIdeal.Read.conv GateFwdIdeal.Value.conv
  have h0 : GateFwdIdeal.Value.before m c 0 r k = front 112 (U m c) r k := if_pos (Nat.zero_le _)
  rw [before_eq m c 1, before_eq m c 2, h0, add_comm _ (B m c (ix1 k)), ← add_assoc, ← add_assoc]
  rfl

theorem agree4 : GateFwdRefIdeal.Read.val_main_v30 (F := Ideal) (U m c) (W m c) (B m c) = GateFwdIdeal.Value.out4 m c := by
  funext i
  idx_vars i
  rw [GateFwdRefIdeal.Read.result30]
  exact conv_eq m c i0 i1

theorem agree5 : GateFwdRefIdeal.Read.val_main_v33 (F := Ideal) (U m c) (W m c) (B m c) = GateFwdIdeal.Value.out5 m c := by
  funext i
  idx_vars i
  rw [GateFwdRefIdeal.Read.result33, conv_eq, conv_eq]
  rfl

theorem value : algebraic_GateFwdIdeal_GateFwdRefIdeal := by
  pair_intro
  · run_from GateFwdIdeal.Value.run_blocks m g
  · run_from GateFwdRefIdeal.Value.run m' g'
    · refine (GateFwdRefIdeal.Read.val_main_v30_eq (F := Ideal) _ _ _).trans ?_
      exact (agree4 m c).trans (GateFwdIdeal.Value.final4 m c).symm
    · refine (GateFwdRefIdeal.Read.val_main_v33_eq (F := Ideal) _ _).trans ?_
      rw [(hagree c).1, (hagree c).2.1, (hagree c).2.2]
      exact (agree5 m c).trans (GateFwdIdeal.Value.final5 m c).symm

/-- The forward lines run, and leave their arguments as they were. -/
theorem reference_frame : quiescent_GateFwdRefIdeal := fun m g _ =>
  (θ_run GateFwdRefIdeal.defs _ _).mono (fun r h => ⟨fun c => (h c).2.2, sem_eq_zero_of_no_sems rfl _⟩) (GateFwdRefIdeal.Value.run m g)

end Cert.GateFwdClaim

end
-- ==== Proof.lean ====
/- The kernels of the training step's backward pass compute what differentiating its forward lines gives, and three of its forward
   pass compute those lines. Each claim is put together in a module of its own; this file
   only lists them in the order in which `Claim` does. -/
module

public import proofs.«01_k».proof.Defs
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.Pre_finite_in
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite_attn
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Pre_finite_inproj
public import proofs.«01_k».proof.Proof.Gen.Mixout
public import proofs.«01_k».proof.Proof.Gen.Mixout.Skeleton
public import proofs.«01_k».proof.Proof.Gen.Mixout.Launch
public import proofs.«01_k».proof.Proof.Gen.Mixout.Points
public import proofs.«01_k».proof.Proof.Gen.Mixout.Frame
public import proofs.«01_k».proof.Proof.Gen.MixoutIdeal
public import proofs.«01_k».proof.Proof.Gen.MixoutIdeal.Skeleton
public import proofs.«01_k».proof.Proof.Gen.MixoutIdeal.Launch
public import proofs.«01_k».proof.Proof.Gen.MixoutIdeal.Points
public import proofs.«01_k».proof.Proof.Gen.MixoutIdeal.Frame
public import proofs.«01_k».proof.Proof.Gen.MixoutIdeal.Value
public import proofs.«01_k».proof.Proof.Gen.MixoutRefIdeal
public import proofs.«01_k».proof.Proof.Gen.MixoutRefIdeal.Run
public import proofs.«01_k».proof.Proof.Gen.MixoutRefIdeal.Read
public import proofs.«01_k».proof.Proof.Gen.Pre_finite_mixout
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_finite_down
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Pre_finite_mla
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.FfnIn
public import proofs.«01_k».proof.Proof.Attn
public import proofs.«01_k».proof.Proof.Inproj
public import proofs.«01_k».proof.Proof.Mixout
public import proofs.«01_k».proof.Proof.Down
public import proofs.«01_k».proof.Proof.Mla
public import proofs.«01_k».proof.Proof.Gate
public import proofs.«01_k».proof.Proof.InFwd
public import proofs.«01_k».proof.Proof.MixFwd
public import proofs.«01_k».proof.Proof.GateFwd
public import Idealize.ShloMosaic.Adequacy
public import Idealize.ShloMosaic.Init

@[expose] public section

noncomputable section

namespace Cert.Proof

open Idealize.ShloMosaic Idealize.SL.Sem Cert.FfnIn

theorem claim : Cert.Claim :=
  ⟨Cert.FfnIn.Gen.facts, Cert.FfnInIdeal.Gen.facts, Cert.FfnInRefIdeal.Gen.facts,
    Cert.Attn.Gen.facts, Cert.AttnIdeal.Gen.facts, Cert.AttnRefIdeal.Gen.facts,
    Cert.Inproj.Gen.facts, Cert.InprojIdeal.Gen.facts, Cert.InprojRefIdeal.Gen.facts,
    Cert.Mixout.Gen.facts, Cert.MixoutIdeal.Gen.facts, Cert.MixoutRefIdeal.Gen.facts,
    Cert.Down.Gen.facts, Cert.DownIdeal.Gen.facts, Cert.DownRefIdeal.Gen.facts,
    Cert.Mla.Gen.facts, Cert.MlaIdeal.Gen.facts, Cert.MlaRefIdeal.Gen.facts,
    Cert.Gate.Gen.facts, Cert.GateIdeal.Gen.facts, Cert.GateRefIdeal.Gen.facts,
    Cert.InFwd.Gen.facts, Cert.InFwdIdeal.Gen.facts, Cert.InFwdRefIdeal.Gen.facts,
    Cert.MixFwd.Gen.facts, Cert.MixFwdIdeal.Gen.facts, Cert.MixFwdRefIdeal.Gen.facts,
    Cert.GateFwd.Gen.facts, Cert.GateFwdIdeal.Gen.facts, Cert.GateFwdRefIdeal.Gen.facts,
    Cert.Pre_finite_in.Gen.facts, Cert.Pre_finite_attn.Gen.facts, Cert.Pre_finite_inproj.Gen.facts, Cert.Pre_finite_mixout.Gen.facts, Cert.Pre_finite_down.Gen.facts, Cert.Pre_finite_mla.Gen.facts,
    fun m ρ _ => Cert.FfnIn.Gen.frame m ρ, fun m ρ _ => Cert.FfnInIdeal.Gen.frame m ρ, fun m ρ _ => Cert.FfnInIdeal.Gen.frame m ρ,
    FfnInClaim.reference_frame, fun m ρ _ => FfnInClaim.reference_frame m ρ trivial,
    fun m ρ _ => Cert.Attn.Gen.frame m ρ, fun m ρ _ => Cert.AttnIdeal.Gen.frame m ρ, fun m ρ _ => Cert.AttnIdeal.Gen.frame m ρ,
    AttnClaim.reference_frame, fun m ρ _ => AttnClaim.reference_frame m ρ trivial,
    fun m ρ _ => Cert.Inproj.Gen.frame m ρ, fun m ρ _ => Cert.InprojIdeal.Gen.frame m ρ, fun m ρ _ => Cert.InprojIdeal.Gen.frame m ρ,
    InprojClaim.reference_frame, fun m ρ _ => InprojClaim.reference_frame m ρ trivial,
    fun m ρ _ => Cert.Mixout.Gen.frame m ρ, fun m ρ _ => Cert.MixoutIdeal.Gen.frame m ρ, fun m ρ _ => Cert.MixoutIdeal.Gen.frame m ρ,
    MixoutClaim.reference_frame, fun m ρ _ => MixoutClaim.reference_frame m ρ trivial,
    fun m ρ _ => Cert.Down.Gen.frame m ρ, fun m ρ _ => Cert.DownIdeal.Gen.frame m ρ, fun m ρ _ => Cert.DownIdeal.Gen.frame m ρ,
    DownClaim.reference_frame, fun m ρ _ => DownClaim.reference_frame m ρ trivial,
    fun m ρ _ => Cert.Mla.Gen.frame m ρ, fun m ρ _ => Cert.MlaIdeal.Gen.frame m ρ, fun m ρ _ => Cert.MlaIdeal.Gen.frame m ρ,
    MlaClaim.reference_frame, fun m ρ _ => MlaClaim.reference_frame m ρ trivial,
    fun m ρ _ => Cert.Gate.Gen.frame m ρ, fun m ρ _ => Cert.GateIdeal.Gen.frame m ρ, GateClaim.reference_frame,
    fun m ρ _ => Cert.InFwd.Gen.frame m ρ, fun m ρ _ => Cert.InFwdIdeal.Gen.frame m ρ, InFwdClaim.reference_frame,
    fun m ρ _ => Cert.MixFwd.Gen.frame m ρ, fun m ρ _ => Cert.MixFwdIdeal.Gen.frame m ρ, MixFwdClaim.reference_frame,
    fun m ρ _ => Cert.GateFwd.Gen.frame m ρ, fun m ρ _ => Cert.GateFwdIdeal.Gen.frame m ρ, GateFwdClaim.reference_frame,
    trivial, FfnInClaim.value, AttnClaim.names, AttnClaim.value, trivial, InprojClaim.value, trivial, MixoutClaim.value, trivial, DownClaim.value, trivial, MlaClaim.value, trivial, trivial, InFwdClaim.value, trivial, MixFwdClaim.value, trivial, GateFwdClaim.value⟩

end Cert.Proof

end
